-- ==== Defs.lean ====
def Pre_Lut (m : (ℓ : Loc Cert.Lut.nD Cert.Lut.τ Cert.Lut.sig) → Buf (Elt Bits) ℓ) : Prop :=
  True

def Pre_LutIdeal (m : (ℓ : Loc Cert.LutIdeal.nD Cert.LutIdeal.τ Cert.LutIdeal.sig) → Buf (Elt Ideal) ℓ) : Prop :=
  True

def Pre_LutRefIdeal (m : (ℓ : Loc Cert.LutRefIdeal.nD Cert.LutRefIdeal.τ Cert.LutRefIdeal.sig) → Buf (Elt Ideal) ℓ) : Prop :=
  True

def Pre_Coarse (m : (ℓ : Loc Cert.Coarse.nD Cert.Coarse.τ Cert.Coarse.sig) → Buf (Elt Bits) ℓ) : Prop :=
  True

def Pre_CoarseIdeal (m : (ℓ : Loc Cert.CoarseIdeal.nD Cert.CoarseIdeal.τ Cert.CoarseIdeal.sig) → Buf (Elt Ideal) ℓ) : Prop :=
  True

def Pre_CoarseRefIdeal (m : (ℓ : Loc Cert.CoarseRefIdeal.nD Cert.CoarseRefIdeal.τ Cert.CoarseRefIdeal.sig) → Buf (Elt Ideal) ℓ) : Prop :=
  True

def Pre_Sc [hPre_work_list : Cert.Pre_work_list.Facts] (m : (ℓ : Loc Cert.Sc.nD Cert.Sc.τ Cert.Sc.sig) → Buf (Elt Bits) ℓ) : Prop :=
  ∀ c : Dev Cert.Sc.nD,
    (Cert.Pre_work_list.fn (F := Bits) (m ((c.tc : Thread Cert.Sc.nD Cert.Sc.τ).loc Cert.Sc.main_arg0)) (m ((c.tc : Thread Cert.Sc.nD Cert.Sc.τ).loc Cert.Sc.main_arg1)) (m ((c.tc : Thread Cert.Sc.nD Cert.Sc.τ).loc Cert.Sc.main_arg2)) (m ((c.tc : Thread Cert.Sc.nD Cert.Sc.τ).loc Cert.Sc.main_arg3)) (m ((c.tc : Thread Cert.Sc.nD Cert.Sc.τ).loc Cert.Sc.main_arg4)) (m ((c.tc : Thread Cert.Sc.nD Cert.Sc.τ).loc Cert.Sc.main_arg5)) (m ((c.tc : Thread Cert.Sc.nD Cert.Sc.τ).loc Cert.Sc.main_arg6))).1 = (fun _ => 1#1)
    ∧ (Cert.Pre_work_list.fn (F := Bits) (m ((c.tc : Thread Cert.Sc.nD Cert.Sc.τ).loc Cert.Sc.main_arg0)) (m ((c.tc : Thread Cert.Sc.nD Cert.Sc.τ).loc Cert.Sc.main_arg1)) (m ((c.tc : Thread Cert.Sc.nD Cert.Sc.τ).loc Cert.Sc.main_arg2)) (m ((c.tc : Thread Cert.Sc.nD Cert.Sc.τ).loc Cert.Sc.main_arg3)) (m ((c.tc : Thread Cert.Sc.nD Cert.Sc.τ).loc Cert.Sc.main_arg4)) (m ((c.tc : Thread Cert.Sc.nD Cert.Sc.τ).loc Cert.Sc.main_arg5)) (m ((c.tc : Thread Cert.Sc.nD Cert.Sc.τ).loc Cert.Sc.main_arg6))).2.1 = (fun _ => 1#1)
    ∧ (Cert.Pre_work_list.fn (F := Bits) (m ((c.tc : Thread Cert.Sc.nD Cert.Sc.τ).loc Cert.Sc.main_arg0)) (m ((c.tc : Thread Cert.Sc.nD Cert.Sc.τ).loc Cert.Sc.main_arg1)) (m ((c.tc : Thread Cert.Sc.nD Cert.Sc.τ).loc Cert.Sc.main_arg2)) (m ((c.tc : Thread Cert.Sc.nD Cert.Sc.τ).loc Cert.Sc.main_arg3)) (m ((c.tc : Thread Cert.Sc.nD Cert.Sc.τ).loc Cert.Sc.main_arg4)) (m ((c.tc : Thread Cert.Sc.nD Cert.Sc.τ).loc Cert.Sc.main_arg5)) (m ((c.tc : Thread Cert.Sc.nD Cert.Sc.τ).loc Cert.Sc.main_arg6))).2.2.1 = (fun _ => 1#1)
    ∧ (Cert.Pre_work_list.fn (F := Bits) (m ((c.tc : Thread Cert.Sc.nD Cert.Sc.τ).loc Cert.Sc.main_arg0)) (m ((c.tc : Thread Cert.Sc.nD Cert.Sc.τ).loc Cert.Sc.main_arg1)) (m ((c.tc : Thread Cert.Sc.nD Cert.Sc.τ).loc Cert.Sc.main_arg2)) (m ((c.tc : Thread Cert.Sc.nD Cert.Sc.τ).loc Cert.Sc.main_arg3)) (m ((c.tc : Thread Cert.Sc.nD Cert.Sc.τ).loc Cert.Sc.main_arg4)) (m ((c.tc : Thread Cert.Sc.nD Cert.Sc.τ).loc Cert.Sc.main_arg5)) (m ((c.tc : Thread Cert.Sc.nD Cert.Sc.τ).loc Cert.Sc.main_arg6))).2.2.2.1 = (fun _ => 1#1)
    ∧ (Cert.Pre_work_list.fn (F := Bits) (m ((c.tc : Thread Cert.Sc.nD Cert.Sc.τ).loc Cert.Sc.main_arg0)) (m ((c.tc : Thread Cert.Sc.nD Cert.Sc.τ).loc Cert.Sc.main_arg1)) (m ((c.tc : Thread Cert.Sc.nD Cert.Sc.τ).loc Cert.Sc.main_arg2)) (m ((c.tc : Thread Cert.Sc.nD Cert.Sc.τ).loc Cert.Sc.main_arg3)) (m ((c.tc : Thread Cert.Sc.nD Cert.Sc.τ).loc Cert.Sc.main_arg4)) (m ((c.tc : Thread Cert.Sc.nD Cert.Sc.τ).loc Cert.Sc.main_arg5)) (m ((c.tc : Thread Cert.Sc.nD Cert.Sc.τ).loc Cert.Sc.main_arg6))).2.2.2.2.1 = (fun _ => 1#1)
    ∧ (Cert.Pre_work_list.fn (F := Bits) (m ((c.tc : Thread Cert.Sc.nD Cert.Sc.τ).loc Cert.Sc.main_arg0)) (m ((c.tc : Thread Cert.Sc.nD Cert.Sc.τ).loc Cert.Sc.main_arg1)) (m ((c.tc : Thread Cert.Sc.nD Cert.Sc.τ).loc Cert.Sc.main_arg2)) (m ((c.tc : Thread Cert.Sc.nD Cert.Sc.τ).loc Cert.Sc.main_arg3)) (m ((c.tc : Thread Cert.Sc.nD Cert.Sc.τ).loc Cert.Sc.main_arg4)) (m ((c.tc : Thread Cert.Sc.nD Cert.Sc.τ).loc Cert.Sc.main_arg5)) (m ((c.tc : Thread Cert.Sc.nD Cert.Sc.τ).loc Cert.Sc.main_arg6))).2.2.2.2.2 = (fun _ => 1#1)

def Pre_ScIdeal [hPre_work_list : Cert.Pre_work_list.Facts] (m : (ℓ : Loc Cert.ScIdeal.nD Cert.ScIdeal.τ Cert.ScIdeal.sig) → Buf (Elt Ideal) ℓ) : Prop :=
  ∀ c : Dev Cert.ScIdeal.nD,
    (Cert.Pre_work_list.fn (F := Ideal) (m ((c.tc : Thread Cert.ScIdeal.nD Cert.ScIdeal.τ).loc Cert.ScIdeal.main_arg0)) (m ((c.tc : Thread Cert.ScIdeal.nD Cert.ScIdeal.τ).loc Cert.ScIdeal.main_arg1)) (m ((c.tc : Thread Cert.ScIdeal.nD Cert.ScIdeal.τ).loc Cert.ScIdeal.main_arg2)) (m ((c.tc : Thread Cert.ScIdeal.nD Cert.ScIdeal.τ).loc Cert.ScIdeal.main_arg3)) (m ((c.tc : Thread Cert.ScIdeal.nD Cert.ScIdeal.τ).loc Cert.ScIdeal.main_arg4)) (m ((c.tc : Thread Cert.ScIdeal.nD Cert.ScIdeal.τ).loc Cert.ScIdeal.main_arg5)) (m ((c.tc : Thread Cert.ScIdeal.nD Cert.ScIdeal.τ).loc Cert.ScIdeal.main_arg6))).1 = (fun _ => 1#1)
    ∧ (Cert.Pre_work_list.fn (F := Ideal) (m ((c.tc : Thread Cert.ScIdeal.nD Cert.ScIdeal.τ).loc Cert.ScIdeal.main_arg0)) (m ((c.tc : Thread Cert.ScIdeal.nD Cert.ScIdeal.τ).loc Cert.ScIdeal.main_arg1)) (m ((c.tc : Thread Cert.ScIdeal.nD Cert.ScIdeal.τ).loc Cert.ScIdeal.main_arg2)) (m ((c.tc : Thread Cert.ScIdeal.nD Cert.ScIdeal.τ).loc Cert.ScIdeal.main_arg3)) (m ((c.tc : Thread Cert.ScIdeal.nD Cert.ScIdeal.τ).loc Cert.ScIdeal.main_arg4)) (m ((c.tc : Thread Cert.ScIdeal.nD Cert.ScIdeal.τ).loc Cert.ScIdeal.main_arg5)) (m ((c.tc : Thread Cert.ScIdeal.nD Cert.ScIdeal.τ).loc Cert.ScIdeal.main_arg6))).2.1 = (fun _ => 1#1)
    ∧ (Cert.Pre_work_list.fn (F := Ideal) (m ((c.tc : Thread Cert.ScIdeal.nD Cert.ScIdeal.τ).loc Cert.ScIdeal.main_arg0)) (m ((c.tc : Thread Cert.ScIdeal.nD Cert.ScIdeal.τ).loc Cert.ScIdeal.main_arg1)) (m ((c.tc : Thread Cert.ScIdeal.nD Cert.ScIdeal.τ).loc Cert.ScIdeal.main_arg2)) (m ((c.tc : Thread Cert.ScIdeal.nD Cert.ScIdeal.τ).loc Cert.ScIdeal.main_arg3)) (m ((c.tc : Thread Cert.ScIdeal.nD Cert.ScIdeal.τ).loc Cert.ScIdeal.main_arg4)) (m ((c.tc : Thread Cert.ScIdeal.nD Cert.ScIdeal.τ).loc Cert.ScIdeal.main_arg5)) (m ((c.tc : Thread Cert.ScIdeal.nD Cert.ScIdeal.τ).loc Cert.ScIdeal.main_arg6))).2.2.1 = (fun _ => 1#1)
    ∧ (Cert.Pre_work_list.fn (F := Ideal) (m ((c.tc : Thread Cert.ScIdeal.nD Cert.ScIdeal.τ).loc Cert.ScIdeal.main_arg0)) (m ((c.tc : Thread Cert.ScIdeal.nD Cert.ScIdeal.τ).loc Cert.ScIdeal.main_arg1)) (m ((c.tc : Thread Cert.ScIdeal.nD Cert.ScIdeal.τ).loc Cert.ScIdeal.main_arg2)) (m ((c.tc : Thread Cert.ScIdeal.nD Cert.ScIdeal.τ).loc Cert.ScIdeal.main_arg3)) (m ((c.tc : Thread Cert.ScIdeal.nD Cert.ScIdeal.τ).loc Cert.ScIdeal.main_arg4)) (m ((c.tc : Thread Cert.ScIdeal.nD Cert.ScIdeal.τ).loc Cert.ScIdeal.main_arg5)) (m ((c.tc : Thread Cert.ScIdeal.nD Cert.ScIdeal.τ).loc Cert.ScIdeal.main_arg6))).2.2.2.1 = (fun _ => 1#1)
    ∧ (Cert.Pre_work_list.fn (F := Ideal) (m ((c.tc : Thread Cert.ScIdeal.nD Cert.ScIdeal.τ).loc Cert.ScIdeal.main_arg0)) (m ((c.tc : Thread Cert.ScIdeal.nD Cert.ScIdeal.τ).loc Cert.ScIdeal.main_arg1)) (m ((c.tc : Thread Cert.ScIdeal.nD Cert.ScIdeal.τ).loc Cert.ScIdeal.main_arg2)) (m ((c.tc : Thread Cert.ScIdeal.nD Cert.ScIdeal.τ).loc Cert.ScIdeal.main_arg3)) (m ((c.tc : Thread Cert.ScIdeal.nD Cert.ScIdeal.τ).loc Cert.ScIdeal.main_arg4)) (m ((c.tc : Thread Cert.ScIdeal.nD Cert.ScIdeal.τ).loc Cert.ScIdeal.main_arg5)) (m ((c.tc : Thread Cert.ScIdeal.nD Cert.ScIdeal.τ).loc Cert.ScIdeal.main_arg6))).2.2.2.2.1 = (fun _ => 1#1)
    ∧ (Cert.Pre_work_list.fn (F := Ideal) (m ((c.tc : Thread Cert.ScIdeal.nD Cert.ScIdeal.τ).loc Cert.ScIdeal.main_arg0)) (m ((c.tc : Thread Cert.ScIdeal.nD Cert.ScIdeal.τ).loc Cert.ScIdeal.main_arg1)) (m ((c.tc : Thread Cert.ScIdeal.nD Cert.ScIdeal.τ).loc Cert.ScIdeal.main_arg2)) (m ((c.tc : Thread Cert.ScIdeal.nD Cert.ScIdeal.τ).loc Cert.ScIdeal.main_arg3)) (m ((c.tc : Thread Cert.ScIdeal.nD Cert.ScIdeal.τ).loc Cert.ScIdeal.main_arg4)) (m ((c.tc : Thread Cert.ScIdeal.nD Cert.ScIdeal.τ).loc Cert.ScIdeal.main_arg5)) (m ((c.tc : Thread Cert.ScIdeal.nD Cert.ScIdeal.τ).loc Cert.ScIdeal.main_arg6))).2.2.2.2.2 = (fun _ => 1#1)

def Pre_ScRIdeal [hPre_work_list : Cert.Pre_work_list.Facts] (m : (ℓ : Loc Cert.ScRIdeal.nD Cert.ScRIdeal.τ Cert.ScRIdeal.sig) → Buf (Elt Ideal) ℓ) : Prop :=
  ∀ c : Dev Cert.ScRIdeal.nD,
    (Cert.Pre_work_list.fn (F := Ideal) (m ((c.tc : Thread Cert.ScRIdeal.nD Cert.ScRIdeal.τ).loc Cert.ScRIdeal.main_arg0)) (m ((c.tc : Thread Cert.ScRIdeal.nD Cert.ScRIdeal.τ).loc Cert.ScRIdeal.main_arg1)) (m ((c.tc : Thread Cert.ScRIdeal.nD Cert.ScRIdeal.τ).loc Cert.ScRIdeal.main_arg2)) (m ((c.tc : Thread Cert.ScRIdeal.nD Cert.ScRIdeal.τ).loc Cert.ScRIdeal.main_arg3)) (m ((c.tc : Thread Cert.ScRIdeal.nD Cert.ScRIdeal.τ).loc Cert.ScRIdeal.main_arg4)) (m ((c.tc : Thread Cert.ScRIdeal.nD Cert.ScRIdeal.τ).loc Cert.ScRIdeal.main_arg5)) (m ((c.tc : Thread Cert.ScRIdeal.nD Cert.ScRIdeal.τ).loc Cert.ScRIdeal.main_arg6))).1 = (fun _ => 1#1)
    ∧ (Cert.Pre_work_list.fn (F := Ideal) (m ((c.tc : Thread Cert.ScRIdeal.nD Cert.ScRIdeal.τ).loc Cert.ScRIdeal.main_arg0)) (m ((c.tc : Thread Cert.ScRIdeal.nD Cert.ScRIdeal.τ).loc Cert.ScRIdeal.main_arg1)) (m ((c.tc : Thread Cert.ScRIdeal.nD Cert.ScRIdeal.τ).loc Cert.ScRIdeal.main_arg2)) (m ((c.tc : Thread Cert.ScRIdeal.nD Cert.ScRIdeal.τ).loc Cert.ScRIdeal.main_arg3)) (m ((c.tc : Thread Cert.ScRIdeal.nD Cert.ScRIdeal.τ).loc Cert.ScRIdeal.main_arg4)) (m ((c.tc : Thread Cert.ScRIdeal.nD Cert.ScRIdeal.τ).loc Cert.ScRIdeal.main_arg5)) (m ((c.tc : Thread Cert.ScRIdeal.nD Cert.ScRIdeal.τ).loc Cert.ScRIdeal.main_arg6))).2.1 = (fun _ => 1#1)
    ∧ (Cert.Pre_work_list.fn (F := Ideal) (m ((c.tc : Thread Cert.ScRIdeal.nD Cert.ScRIdeal.τ).loc Cert.ScRIdeal.main_arg0)) (m ((c.tc : Thread Cert.ScRIdeal.nD Cert.ScRIdeal.τ).loc Cert.ScRIdeal.main_arg1)) (m ((c.tc : Thread Cert.ScRIdeal.nD Cert.ScRIdeal.τ).loc Cert.ScRIdeal.main_arg2)) (m ((c.tc : Thread Cert.ScRIdeal.nD Cert.ScRIdeal.τ).loc Cert.ScRIdeal.main_arg3)) (m ((c.tc : Thread Cert.ScRIdeal.nD Cert.ScRIdeal.τ).loc Cert.ScRIdeal.main_arg4)) (m ((c.tc : Thread Cert.ScRIdeal.nD Cert.ScRIdeal.τ).loc Cert.ScRIdeal.main_arg5)) (m ((c.tc : Thread Cert.ScRIdeal.nD Cert.ScRIdeal.τ).loc Cert.ScRIdeal.main_arg6))).2.2.1 = (fun _ => 1#1)
    ∧ (Cert.Pre_work_list.fn (F := Ideal) (m ((c.tc : Thread Cert.ScRIdeal.nD Cert.ScRIdeal.τ).loc Cert.ScRIdeal.main_arg0)) (m ((c.tc : Thread Cert.ScRIdeal.nD Cert.ScRIdeal.τ).loc Cert.ScRIdeal.main_arg1)) (m ((c.tc : Thread Cert.ScRIdeal.nD Cert.ScRIdeal.τ).loc Cert.ScRIdeal.main_arg2)) (m ((c.tc : Thread Cert.ScRIdeal.nD Cert.ScRIdeal.τ).loc Cert.ScRIdeal.main_arg3)) (m ((c.tc : Thread Cert.ScRIdeal.nD Cert.ScRIdeal.τ).loc Cert.ScRIdeal.main_arg4)) (m ((c.tc : Thread Cert.ScRIdeal.nD Cert.ScRIdeal.τ).loc Cert.ScRIdeal.main_arg5)) (m ((c.tc : Thread Cert.ScRIdeal.nD Cert.ScRIdeal.τ).loc Cert.ScRIdeal.main_arg6))).2.2.2.1 = (fun _ => 1#1)
    ∧ (Cert.Pre_work_list.fn (F := Ideal) (m ((c.tc : Thread Cert.ScRIdeal.nD Cert.ScRIdeal.τ).loc Cert.ScRIdeal.main_arg0)) (m ((c.tc : Thread Cert.ScRIdeal.nD Cert.ScRIdeal.τ).loc Cert.ScRIdeal.main_arg1)) (m ((c.tc : Thread Cert.ScRIdeal.nD Cert.ScRIdeal.τ).loc Cert.ScRIdeal.main_arg2)) (m ((c.tc : Thread Cert.ScRIdeal.nD Cert.ScRIdeal.τ).loc Cert.ScRIdeal.main_arg3)) (m ((c.tc : Thread Cert.ScRIdeal.nD Cert.ScRIdeal.τ).loc Cert.ScRIdeal.main_arg4)) (m ((c.tc : Thread Cert.ScRIdeal.nD Cert.ScRIdeal.τ).loc Cert.ScRIdeal.main_arg5)) (m ((c.tc : Thread Cert.ScRIdeal.nD Cert.ScRIdeal.τ).loc Cert.ScRIdeal.main_arg6))).2.2.2.2.1 = (fun _ => 1#1)
    ∧ (Cert.Pre_work_list.fn (F := Ideal) (m ((c.tc : Thread Cert.ScRIdeal.nD Cert.ScRIdeal.τ).loc Cert.ScRIdeal.main_arg0)) (m ((c.tc : Thread Cert.ScRIdeal.nD Cert.ScRIdeal.τ).loc Cert.ScRIdeal.main_arg1)) (m ((c.tc : Thread Cert.ScRIdeal.nD Cert.ScRIdeal.τ).loc Cert.ScRIdeal.main_arg2)) (m ((c.tc : Thread Cert.ScRIdeal.nD Cert.ScRIdeal.τ).loc Cert.ScRIdeal.main_arg3)) (m ((c.tc : Thread Cert.ScRIdeal.nD Cert.ScRIdeal.τ).loc Cert.ScRIdeal.main_arg4)) (m ((c.tc : Thread Cert.ScRIdeal.nD Cert.ScRIdeal.τ).loc Cert.ScRIdeal.main_arg5)) (m ((c.tc : Thread Cert.ScRIdeal.nD Cert.ScRIdeal.τ).loc Cert.ScRIdeal.main_arg6))).2.2.2.2.2 = (fun _ => 1#1)

def quiescent_Lut [hLut : Cert.Lut.Facts] : Prop :=
  ∀ (m : (ℓ : Loc Cert.Lut.nD Cert.Lut.τ Cert.Lut.sig) → Buf (Elt Bits) ℓ) (g : Dev Cert.Lut.nD → PrngReg), Pre_Lut m →
    θ_run (Cert.Lut.defs (F := Bits)) (onTc (τ := Cert.Lut.τ) (Cert.Lut.main (F := Bits))) ⟨m, fun _ => 0, g⟩ (fun r => (∀ c : Dev Cert.Lut.nD,
      r.2.mem ((c.tc : Thread Cert.Lut.nD Cert.Lut.τ).loc Cert.Lut.main_arg0) = m ((c.tc : Thread Cert.Lut.nD Cert.Lut.τ).loc Cert.Lut.main_arg0)
      ∧ r.2.mem ((c.tc : Thread Cert.Lut.nD Cert.Lut.τ).loc Cert.Lut.main_arg1) = m ((c.tc : Thread Cert.Lut.nD Cert.Lut.τ).loc Cert.Lut.main_arg1))
      ∧ r.2.sem = fun _ => 0)

def quiescent_LutIdeal [hLutIdeal : Cert.LutIdeal.Facts] : Prop :=
  ∀ (m : (ℓ : Loc Cert.LutIdeal.nD Cert.LutIdeal.τ Cert.LutIdeal.sig) → Buf (Elt Ideal) ℓ) (g : Dev Cert.LutIdeal.nD → PrngReg), Pre_LutIdeal m →
    θ_run (Cert.LutIdeal.defs (F := Ideal)) (onTc (τ := Cert.LutIdeal.τ) (Cert.LutIdeal.main (F := Ideal))) ⟨m, fun _ => 0, g⟩ (fun r => (∀ c : Dev Cert.LutIdeal.nD,
      r.2.mem ((c.tc : Thread Cert.LutIdeal.nD Cert.LutIdeal.τ).loc Cert.LutIdeal.main_arg0) = m ((c.tc : Thread Cert.LutIdeal.nD Cert.LutIdeal.τ).loc Cert.LutIdeal.main_arg0)
      ∧ r.2.mem ((c.tc : Thread Cert.LutIdeal.nD Cert.LutIdeal.τ).loc Cert.LutIdeal.main_arg1) = m ((c.tc : Thread Cert.LutIdeal.nD Cert.LutIdeal.τ).loc Cert.LutIdeal.main_arg1))
      ∧ r.2.sem = fun _ => 0)

def quiescent_LutRefIdeal [hLutRefIdeal : Cert.LutRefIdeal.Facts] : Prop :=
  ∀ (m : (ℓ : Loc Cert.LutRefIdeal.nD Cert.LutRefIdeal.τ Cert.LutRefIdeal.sig) → Buf (Elt Ideal) ℓ) (g : Dev Cert.LutRefIdeal.nD → PrngReg), Pre_LutRefIdeal m →
    θ_run (Cert.LutRefIdeal.defs (F := Ideal)) (onTc (τ := Cert.LutRefIdeal.τ) (Cert.LutRefIdeal.main (F := Ideal))) ⟨m, fun _ => 0, g⟩ (fun r => (∀ c : Dev Cert.LutRefIdeal.nD,
      r.2.mem ((c.tc : Thread Cert.LutRefIdeal.nD Cert.LutRefIdeal.τ).loc Cert.LutRefIdeal.main_arg0) = m ((c.tc : Thread Cert.LutRefIdeal.nD Cert.LutRefIdeal.τ).loc Cert.LutRefIdeal.main_arg0)
      ∧ r.2.mem ((c.tc : Thread Cert.LutRefIdeal.nD Cert.LutRefIdeal.τ).loc Cert.LutRefIdeal.main_arg1) = m ((c.tc : Thread Cert.LutRefIdeal.nD Cert.LutRefIdeal.τ).loc Cert.LutRefIdeal.main_arg1))
      ∧ r.2.sem = fun _ => 0)

def quiescent_Coarse [hCoarse : Cert.Coarse.Facts] : Prop :=
  ∀ (m : (ℓ : Loc Cert.Coarse.nD Cert.Coarse.τ Cert.Coarse.sig) → Buf (Elt Bits) ℓ) (g : Dev Cert.Coarse.nD → PrngReg), Pre_Coarse m →
    θ_run (Cert.Coarse.defs (F := Bits)) (onTc (τ := Cert.Coarse.τ) (Cert.Coarse.main (F := Bits))) ⟨m, fun _ => 0, g⟩ (fun r => (∀ c : Dev Cert.Coarse.nD,
      r.2.mem ((c.tc : Thread Cert.Coarse.nD Cert.Coarse.τ).loc Cert.Coarse.main_arg0) = m ((c.tc : Thread Cert.Coarse.nD Cert.Coarse.τ).loc Cert.Coarse.main_arg0)
      ∧ r.2.mem ((c.tc : Thread Cert.Coarse.nD Cert.Coarse.τ).loc Cert.Coarse.main_arg1) = m ((c.tc : Thread Cert.Coarse.nD Cert.Coarse.τ).loc Cert.Coarse.main_arg1)
      ∧ r.2.mem ((c.tc : Thread Cert.Coarse.nD Cert.Coarse.τ).loc Cert.Coarse.main_arg2) = m ((c.tc : Thread Cert.Coarse.nD Cert.Coarse.τ).loc Cert.Coarse.main_arg2))
      ∧ r.2.sem = fun _ => 0)

def quiescent_CoarseIdeal [hCoarseIdeal : Cert.CoarseIdeal.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2))
      ∧ r.2.sem = fun _ => 0)

def quiescent_CoarseRefIdeal [hCoarseRefIdeal : Cert.CoarseRefIdeal.Facts] : Prop :=
  ∀ (m : (ℓ : Loc Cert.CoarseRefIdeal.nD Cert.CoarseRefIdeal.τ Cert.CoarseRefIdeal.sig) → Buf (Elt Ideal) ℓ) (g : Dev Cert.CoarseRefIdeal.nD → PrngReg), Pre_CoarseRefIdeal m →
    θ_run (Cert.CoarseRefIdeal.defs (F := Ideal)) (onTc (τ := Cert.CoarseRefIdeal.τ) (Cert.CoarseRefIdeal.main (F := Ideal))) ⟨m, fun _ => 0, g⟩ (fun r => (∀ c : Dev Cert.CoarseRefIdeal.nD,
      r.2.mem ((c.tc : Thread Cert.CoarseRefIdeal.nD Cert.CoarseRefIdeal.τ).loc Cert.CoarseRefIdeal.main_arg0) = m ((c.tc : Thread Cert.CoarseRefIdeal.nD Cert.CoarseRefIdeal.τ).loc Cert.CoarseRefIdeal.main_arg0)
      ∧ r.2.mem ((c.tc : Thread Cert.CoarseRefIdeal.nD Cert.CoarseRefIdeal.τ).loc Cert.CoarseRefIdeal.main_arg1) = m ((c.tc : Thread Cert.CoarseRefIdeal.nD Cert.CoarseRefIdeal.τ).loc Cert.CoarseRefIdeal.main_arg1)
      ∧ r.2.mem ((c.tc : Thread Cert.CoarseRefIdeal.nD Cert.CoarseRefIdeal.τ).loc Cert.CoarseRefIdeal.main_arg2) = m ((c.tc : Thread Cert.CoarseRefIdeal.nD Cert.CoarseRefIdeal.τ).loc Cert.CoarseRefIdeal.main_arg2))
      ∧ r.2.sem = fun _ => 0)

def quiescent_Sc [hSc : Cert.Sc.Facts] [hPre_work_list : Cert.Pre_work_list.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (Cert.Sc.threads (F := Bits)) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1)
      ∧ r.2.mem ((c.tc : Thread Cert.Sc.nD Cert.Sc.τ).loc Cert.Sc.main_arg2) = m ((c.tc : Thread Cert.Sc.nD Cert.Sc.τ).loc Cert.Sc.main_arg2)
      ∧ r.2.mem ((c.tc : Thread Cert.Sc.nD Cert.Sc.τ).loc Cert.Sc.main_arg3) = m ((c.tc : Thread Cert.Sc.nD Cert.Sc.τ).loc Cert.Sc.main_arg3)
      ∧ r.2.mem ((c.tc : Thread Cert.Sc.nD Cert.Sc.τ).loc Cert.Sc.main_arg4) = m ((c.tc : Thread Cert.Sc.nD Cert.Sc.τ).loc Cert.Sc.main_arg4)
      ∧ r.2.mem ((c.tc : Thread Cert.Sc.nD Cert.Sc.τ).loc Cert.Sc.main_arg5) = m ((c.tc : Thread Cert.Sc.nD Cert.Sc.τ).loc Cert.Sc.main_arg5)
      ∧ r.2.mem ((c.tc : Thread Cert.Sc.nD Cert.Sc.τ).loc Cert.Sc.main_arg6) = m ((c.tc : Thread Cert.Sc.nD Cert.Sc.τ).loc Cert.Sc.main_arg6))
      ∧ r.2.sem = fun _ => 0)

def quiescent_ScIdeal [hScIdeal : Cert.ScIdeal.Facts] [hPre_work_list : Cert.Pre_work_list.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (Cert.ScIdeal.threads (F := Ideal)) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
      ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
      ∧ r.2.mem ((c.tc : Thread Cert.ScIdeal.nD Cert.ScIdeal.τ).loc Cert.ScIdeal.main_arg3) = m ((c.tc : Thread Cert.ScIdeal.nD Cert.ScIdeal.τ).loc Cert.ScIdeal.main_arg3)
      ∧ r.2.mem ((c.tc : Thread Cert.ScIdeal.nD Cert.ScIdeal.τ).loc Cert.ScIdeal.main_arg4) = m ((c.tc : Thread Cert.ScIdeal.nD Cert.ScIdeal.τ).loc Cert.ScIdeal.main_arg4)
      ∧ r.2.mem ((c.tc : Thread Cert.ScIdeal.nD Cert.ScIdeal.τ).loc Cert.ScIdeal.main_arg5) = m ((c.tc : Thread Cert.ScIdeal.nD Cert.ScIdeal.τ).loc Cert.ScIdeal.main_arg5)
      ∧ r.2.mem ((c.tc : Thread Cert.ScIdeal.nD Cert.ScIdeal.τ).loc Cert.ScIdeal.main_arg6) = m ((c.tc : Thread Cert.ScIdeal.nD Cert.ScIdeal.τ).loc Cert.ScIdeal.main_arg6))
      ∧ r.2.sem = fun _ => 0)

def quiescent_ScRIdeal [hScRIdeal : Cert.ScRIdeal.Facts] [hPre_work_list : Cert.Pre_work_list.Facts] : Prop :=
  ∀ (m : (ℓ : Loc Cert.ScRIdeal.nD Cert.ScRIdeal.τ Cert.ScRIdeal.sig) → Buf (Elt Ideal) ℓ) (g : Dev Cert.ScRIdeal.nD → PrngReg), Pre_ScRIdeal m →
    θ_run (Cert.ScRIdeal.defs (F := Ideal)) (onTc (τ := Cert.ScRIdeal.τ) (Cert.ScRIdeal.main (F := Ideal))) ⟨m, fun _ => 0, g⟩ (fun r => (∀ c : Dev Cert.ScRIdeal.nD,
      r.2.mem ((c.tc : Thread Cert.ScRIdeal.nD Cert.ScRIdeal.τ).loc Cert.ScRIdeal.main_arg0) = m ((c.tc : Thread Cert.ScRIdeal.nD Cert.ScRIdeal.τ).loc Cert.ScRIdeal.main_arg0)
      ∧ r.2.mem ((c.tc : Thread Cert.ScRIdeal.nD Cert.ScRIdeal.τ).loc Cert.ScRIdeal.main_arg1) = m ((c.tc : Thread Cert.ScRIdeal.nD Cert.ScRIdeal.τ).loc Cert.ScRIdeal.main_arg1)
      ∧ r.2.mem ((c.tc : Thread Cert.ScRIdeal.nD Cert.ScRIdeal.τ).loc Cert.ScRIdeal.main_arg2) = m ((c.tc : Thread Cert.ScRIdeal.nD Cert.ScRIdeal.τ).loc Cert.ScRIdeal.main_arg2)
      ∧ r.2.mem ((c.tc : Thread Cert.ScRIdeal.nD Cert.ScRIdeal.τ).loc Cert.ScRIdeal.main_arg3) = m ((c.tc : Thread Cert.ScRIdeal.nD Cert.ScRIdeal.τ).loc Cert.ScRIdeal.main_arg3)
      ∧ r.2.mem ((c.tc : Thread Cert.ScRIdeal.nD Cert.ScRIdeal.τ).loc Cert.ScRIdeal.main_arg4) = m ((c.tc : Thread Cert.ScRIdeal.nD Cert.ScRIdeal.τ).loc Cert.ScRIdeal.main_arg4)
      ∧ r.2.mem ((c.tc : Thread Cert.ScRIdeal.nD Cert.ScRIdeal.τ).loc Cert.ScRIdeal.main_arg5) = m ((c.tc : Thread Cert.ScRIdeal.nD Cert.ScRIdeal.τ).loc Cert.ScRIdeal.main_arg5)
      ∧ r.2.mem ((c.tc : Thread Cert.ScRIdeal.nD Cert.ScRIdeal.τ).loc Cert.ScRIdeal.main_arg6) = m ((c.tc : Thread Cert.ScRIdeal.nD Cert.ScRIdeal.τ).loc Cert.ScRIdeal.main_arg6))
      ∧ r.2.sem = fun _ => 0)

def preserves_Lut_LutIdeal : Prop :=
  True

def algebraic_LutIdeal_LutRefIdeal [hLutIdeal : Cert.LutIdeal.Facts] [hLutRefIdeal : Cert.LutRefIdeal.Facts] : Prop :=
  ∀ (m : (ℓ : Loc Cert.LutIdeal.nD Cert.LutIdeal.τ Cert.LutIdeal.sig) → Buf (Elt Ideal) ℓ) (g : Dev Cert.LutIdeal.nD → PrngReg)
    (m' : (ℓ : Loc Cert.LutRefIdeal.nD Cert.LutRefIdeal.τ Cert.LutRefIdeal.sig) → Buf (Elt Ideal) ℓ) (g' : Dev Cert.LutRefIdeal.nD → PrngReg), Pre_LutIdeal m →
    (∀ c : Dev Cert.LutIdeal.nD,
      m' ((c.tc : Thread Cert.LutRefIdeal.nD Cert.LutRefIdeal.τ).loc Cert.LutRefIdeal.main_arg0) = m ((c.tc : Thread Cert.LutIdeal.nD Cert.LutIdeal.τ).loc Cert.LutIdeal.main_arg0)
      ∧ m' ((c.tc : Thread Cert.LutRefIdeal.nD Cert.LutRefIdeal.τ).loc Cert.LutRefIdeal.main_arg1) = m ((c.tc : Thread Cert.LutIdeal.nD Cert.LutIdeal.τ).loc Cert.LutIdeal.main_arg1)) →
    ∃ (v0 : (c : Dev Cert.LutIdeal.nD) → Buf (Elt Ideal) ((c.tc : Thread Cert.LutIdeal.nD Cert.LutIdeal.τ).loc Cert.LutIdeal.main_v2)),
      θ_run (Cert.LutIdeal.defs (F := Ideal)) (onTc (τ := Cert.LutIdeal.τ) (Cert.LutIdeal.main (F := Ideal))) ⟨m, fun _ => 0, g⟩ (fun r => ∀ c : Dev Cert.LutIdeal.nD,
          r.2.mem ((c.tc : Thread Cert.LutIdeal.nD Cert.LutIdeal.τ).loc Cert.LutIdeal.main_v2) = v0 c
          ∧ r.2.mem ((c.tc : Thread Cert.LutIdeal.nD Cert.LutIdeal.τ).loc Cert.LutIdeal.main_arg0) = m ((c.tc : Thread Cert.LutIdeal.nD Cert.LutIdeal.τ).loc Cert.LutIdeal.main_arg0)
          ∧ r.2.mem ((c.tc : Thread Cert.LutIdeal.nD Cert.LutIdeal.τ).loc Cert.LutIdeal.main_arg1) = m ((c.tc : Thread Cert.LutIdeal.nD Cert.LutIdeal.τ).loc Cert.LutIdeal.main_arg1))
      ∧ θ_run (Cert.LutRefIdeal.defs (F := Ideal)) (onTc (τ := Cert.LutRefIdeal.τ) (Cert.LutRefIdeal.main (F := Ideal))) ⟨m', fun _ => 0, g'⟩ (fun r => ∀ c : Dev Cert.LutRefIdeal.nD,
          r.2.mem ((c.tc : Thread Cert.LutRefIdeal.nD Cert.LutRefIdeal.τ).loc Cert.LutRefIdeal.main_v4) = v0 c
          ∧ r.2.mem ((c.tc : Thread Cert.LutRefIdeal.nD Cert.LutRefIdeal.τ).loc Cert.LutRefIdeal.main_arg0) = m' ((c.tc : Thread Cert.LutRefIdeal.nD Cert.LutRefIdeal.τ).loc Cert.LutRefIdeal.main_arg0)
          ∧ r.2.mem ((c.tc : Thread Cert.LutRefIdeal.nD Cert.LutRefIdeal.τ).loc Cert.LutRefIdeal.main_arg1) = m' ((c.tc : Thread Cert.LutRefIdeal.nD Cert.LutRefIdeal.τ).loc Cert.LutRefIdeal.main_arg1))

def preserves_Coarse_CoarseIdeal : Prop :=
  True

def algebraic_CoarseIdeal_CoarseRefIdeal [hCoarseIdeal : Cert.CoarseIdeal.Facts] [hCoarseRefIdeal : Cert.CoarseRefIdeal.Facts] : Prop :=
  ∀ (m : (ℓ : Loc Cert.CoarseIdeal.nD Cert.CoarseIdeal.τ Cert.CoarseIdeal.sig) → Buf (Elt Ideal) ℓ) (g : Dev Cert.CoarseIdeal.nD → PrngReg)
    (m' : (ℓ : Loc Cert.CoarseRefIdeal.nD Cert.CoarseRefIdeal.τ Cert.CoarseRefIdeal.sig) → Buf (Elt Ideal) ℓ) (g' : Dev Cert.CoarseRefIdeal.nD → PrngReg), Pre_CoarseIdeal m →
    (∀ c : Dev Cert.CoarseIdeal.nD,
      m' ((c.tc : Thread Cert.CoarseRefIdeal.nD Cert.CoarseRefIdeal.τ).loc Cert.CoarseRefIdeal.main_arg0) = m ((c.tc : Thread Cert.CoarseIdeal.nD Cert.CoarseIdeal.τ).loc Cert.CoarseIdeal.main_arg0)
      ∧ m' ((c.tc : Thread Cert.CoarseRefIdeal.nD Cert.CoarseRefIdeal.τ).loc Cert.CoarseRefIdeal.main_arg1) = m ((c.tc : Thread Cert.CoarseIdeal.nD Cert.CoarseIdeal.τ).loc Cert.CoarseIdeal.main_arg1)
      ∧ m' ((c.tc : Thread Cert.CoarseRefIdeal.nD Cert.CoarseRefIdeal.τ).loc Cert.CoarseRefIdeal.main_arg2) = m ((c.tc : Thread Cert.CoarseIdeal.nD Cert.CoarseIdeal.τ).loc Cert.CoarseIdeal.main_arg2)) →
    ∃ (v0 : (c : Dev Cert.CoarseIdeal.nD) → Buf (Elt Ideal) ((c.tc : Thread Cert.CoarseIdeal.nD Cert.CoarseIdeal.τ).loc Cert.CoarseIdeal.main_v7)),
      θ_run (Cert.CoarseIdeal.defs (F := Ideal)) (onTc (τ := Cert.CoarseIdeal.τ) (Cert.CoarseIdeal.main (F := Ideal))) ⟨m, fun _ => 0, g⟩ (fun r => ∀ c : Dev Cert.CoarseIdeal.nD,
          r.2.mem ((c.tc : Thread Cert.CoarseIdeal.nD Cert.CoarseIdeal.τ).loc Cert.CoarseIdeal.main_v7) = v0 c
          ∧ r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
          ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
          ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2))
      ∧ θ_run (Cert.CoarseRefIdeal.defs (F := Ideal)) (onTc (τ := Cert.CoarseRefIdeal.τ) (Cert.CoarseRefIdeal.main (F := Ideal))) ⟨m', fun _ => 0, g'⟩ (fun r => ∀ c : Dev Cert.CoarseRefIdeal.nD,
          r.2.mem ((c.tc : Thread Cert.CoarseRefIdeal.nD Cert.CoarseRefIdeal.τ).loc Cert.CoarseRefIdeal.main_v12) = v0 c
          ∧ r.2.mem ((c.tc : Thread Cert.CoarseRefIdeal.nD Cert.CoarseRefIdeal.τ).loc Cert.CoarseRefIdeal.main_arg0) = m' ((c.tc : Thread Cert.CoarseRefIdeal.nD Cert.CoarseRefIdeal.τ).loc Cert.CoarseRefIdeal.main_arg0)
          ∧ r.2.mem ((c.tc : Thread Cert.CoarseRefIdeal.nD Cert.CoarseRefIdeal.τ).loc Cert.CoarseRefIdeal.main_arg1) = m' ((c.tc : Thread Cert.CoarseRefIdeal.nD Cert.CoarseRefIdeal.τ).loc Cert.CoarseRefIdeal.main_arg1)
          ∧ r.2.mem ((c.tc : Thread Cert.CoarseRefIdeal.nD Cert.CoarseRefIdeal.τ).loc Cert.CoarseRefIdeal.main_arg2) = m' ((c.tc : Thread Cert.CoarseRefIdeal.nD Cert.CoarseRefIdeal.τ).loc Cert.CoarseRefIdeal.main_arg2))

def preserves_Sc_ScIdeal : Prop :=
  True

def algebraic_ScIdeal_ScRIdeal [hScIdeal : Cert.ScIdeal.Facts] [hScRIdeal : Cert.ScRIdeal.Facts] [hPre_work_list : Cert.Pre_work_list.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRIdeal.nD Cert.ScRIdeal.τ Cert.ScRIdeal.sig) → Buf (Elt Ideal) ℓ) (g' : Dev Cert.ScRIdeal.nD → PrngReg), Pre_ScIdeal m →
    (∀ c : Dev Cert.ScIdeal.nD,
      m' ((c.tc : Thread Cert.ScRIdeal.nD Cert.ScRIdeal.τ).loc Cert.ScRIdeal.main_arg0) = m ((c.tc : Thread Cert.ScIdeal.nD Cert.ScIdeal.τ).loc Cert.ScIdeal.main_arg0)
      ∧ m' ((c.tc : Thread Cert.ScRIdeal.nD Cert.ScRIdeal.τ).loc Cert.ScRIdeal.main_arg1) = m ((c.tc : Thread Cert.ScIdeal.nD Cert.ScIdeal.τ).loc Cert.ScIdeal.main_arg1)
      ∧ m' ((c.tc : Thread Cert.ScRIdeal.nD Cert.ScRIdeal.τ).loc Cert.ScRIdeal.main_arg2) = m ((c.tc : Thread Cert.ScIdeal.nD Cert.ScIdeal.τ).loc Cert.ScIdeal.main_arg2)
      ∧ m' ((c.tc : Thread Cert.ScRIdeal.nD Cert.ScRIdeal.τ).loc Cert.ScRIdeal.main_arg3) = m ((c.tc : Thread Cert.ScIdeal.nD Cert.ScIdeal.τ).loc Cert.ScIdeal.main_arg3)
      ∧ m' ((c.tc : Thread Cert.ScRIdeal.nD Cert.ScRIdeal.τ).loc Cert.ScRIdeal.main_arg4) = m ((c.tc : Thread Cert.ScIdeal.nD Cert.ScIdeal.τ).loc Cert.ScIdeal.main_arg4)
      ∧ m' ((c.tc : Thread Cert.ScRIdeal.nD Cert.ScRIdeal.τ).loc Cert.ScRIdeal.main_arg5) = m ((c.tc : Thread Cert.ScIdeal.nD Cert.ScIdeal.τ).loc Cert.ScIdeal.main_arg5)
      ∧ m' ((c.tc : Thread Cert.ScRIdeal.nD Cert.ScRIdeal.τ).loc Cert.ScRIdeal.main_arg6) = m ((c.tc : Thread Cert.ScIdeal.nD Cert.ScIdeal.τ).loc Cert.ScIdeal.main_arg6)) →
    ∃ (v0 : (c : Dev Cert.ScIdeal.nD) → Buf (Elt Ideal) ((c.tc : Thread Cert.ScIdeal.nD Cert.ScIdeal.τ).loc Cert.ScIdeal.main_v1)),
      θ_run (Cert.ScIdeal.defs (F := Ideal)) (Cert.ScIdeal.threads (F := Ideal)) ⟨m, fun _ => 0, g⟩ (fun r => ∀ c : Dev Cert.ScIdeal.nD,
          r.2.mem ((c.tc : Thread Cert.ScIdeal.nD Cert.ScIdeal.τ).loc Cert.ScIdeal.main_v1) = v0 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
          ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
          ∧ r.2.mem ((c.tc : Thread Cert.ScIdeal.nD Cert.ScIdeal.τ).loc Cert.ScIdeal.main_arg3) = m ((c.tc : Thread Cert.ScIdeal.nD Cert.ScIdeal.τ).loc Cert.ScIdeal.main_arg3)
          ∧ r.2.mem ((c.tc : Thread Cert.ScIdeal.nD Cert.ScIdeal.τ).loc Cert.ScIdeal.main_arg4) = m ((c.tc : Thread Cert.ScIdeal.nD Cert.ScIdeal.τ).loc Cert.ScIdeal.main_arg4)
          ∧ r.2.mem ((c.tc : Thread Cert.ScIdeal.nD Cert.ScIdeal.τ).loc Cert.ScIdeal.main_arg5) = m ((c.tc : Thread Cert.ScIdeal.nD Cert.ScIdeal.τ).loc Cert.ScIdeal.main_arg5)
          ∧ r.2.mem ((c.tc : Thread Cert.ScIdeal.nD Cert.ScIdeal.τ).loc Cert.ScIdeal.main_arg6) = m ((c.tc : Thread Cert.ScIdeal.nD Cert.ScIdeal.τ).loc Cert.ScIdeal.main_arg6))
      ∧ θ_run (Cert.ScRIdeal.defs (F := Ideal)) (onTc (τ := Cert.ScRIdeal.τ) (Cert.ScRIdeal.main (F := Ideal))) ⟨m', fun _ => 0, g'⟩ (fun r => ∀ c : Dev Cert.ScRIdeal.nD,
          r.2.mem ((c.tc : Thread Cert.ScRIdeal.nD Cert.ScRIdeal.τ).loc Cert.ScRIdeal.main_v59) = v0 c
          ∧ r.2.mem ((c.tc : Thread Cert.ScRIdeal.nD Cert.ScRIdeal.τ).loc Cert.ScRIdeal.main_arg0) = m' ((c.tc : Thread Cert.ScRIdeal.nD Cert.ScRIdeal.τ).loc Cert.ScRIdeal.main_arg0)
          ∧ r.2.mem ((c.tc : Thread Cert.ScRIdeal.nD Cert.ScRIdeal.τ).loc Cert.ScRIdeal.main_arg1) = m' ((c.tc : Thread Cert.ScRIdeal.nD Cert.ScRIdeal.τ).loc Cert.ScRIdeal.main_arg1)
          ∧ r.2.mem ((c.tc : Thread Cert.ScRIdeal.nD Cert.ScRIdeal.τ).loc Cert.ScRIdeal.main_arg2) = m' ((c.tc : Thread Cert.ScRIdeal.nD Cert.ScRIdeal.τ).loc Cert.ScRIdeal.main_arg2)
          ∧ r.2.mem ((c.tc : Thread Cert.ScRIdeal.nD Cert.ScRIdeal.τ).loc Cert.ScRIdeal.main_arg3) = m' ((c.tc : Thread Cert.ScRIdeal.nD Cert.ScRIdeal.τ).loc Cert.ScRIdeal.main_arg3)
          ∧ r.2.mem ((c.tc : Thread Cert.ScRIdeal.nD Cert.ScRIdeal.τ).loc Cert.ScRIdeal.main_arg4) = m' ((c.tc : Thread Cert.ScRIdeal.nD Cert.ScRIdeal.τ).loc Cert.ScRIdeal.main_arg4)
          ∧ r.2.mem ((c.tc : Thread Cert.ScRIdeal.nD Cert.ScRIdeal.τ).loc Cert.ScRIdeal.main_arg5) = m' ((c.tc : Thread Cert.ScRIdeal.nD Cert.ScRIdeal.τ).loc Cert.ScRIdeal.main_arg5)
          ∧ r.2.mem ((c.tc : Thread Cert.ScRIdeal.nD Cert.ScRIdeal.τ).loc Cert.ScRIdeal.main_arg6) = m' ((c.tc : Thread Cert.ScRIdeal.nD Cert.ScRIdeal.τ).loc Cert.ScRIdeal.main_arg6))

def Claim : Prop :=
  ∃ (hLut : Cert.Lut.Facts) (hLutIdeal : Cert.LutIdeal.Facts) (hLutRefIdeal : Cert.LutRefIdeal.Facts) (hCoarse : Cert.Coarse.Facts) (hCoarseIdeal : Cert.CoarseIdeal.Facts) (hCoarseRefIdeal : Cert.CoarseRefIdeal.Facts) (hSc : Cert.Sc.Facts) (hScIdeal : Cert.ScIdeal.Facts) (hScRIdeal : Cert.ScRIdeal.Facts) (hPre_work_list : Cert.Pre_work_list.Facts),
    quiescent_Lut (hLut := hLut)
    ∧ quiescent_LutIdeal (hLutIdeal := hLutIdeal)
    ∧ quiescent_LutRefIdeal (hLutRefIdeal := hLutRefIdeal)
    ∧ quiescent_Coarse (hCoarse := hCoarse)
    ∧ quiescent_CoarseIdeal (hCoarseIdeal := hCoarseIdeal)
    ∧ quiescent_CoarseRefIdeal (hCoarseRefIdeal := hCoarseRefIdeal)
    ∧ quiescent_Sc (hSc := hSc) (hPre_work_list := hPre_work_list)
    ∧ quiescent_ScIdeal (hScIdeal := hScIdeal) (hPre_work_list := hPre_work_list)
    ∧ quiescent_ScRIdeal (hScRIdeal := hScRIdeal) (hPre_work_list := hPre_work_list)
    ∧ preserves_Lut_LutIdeal
    ∧ algebraic_LutIdeal_LutRefIdeal (hLutIdeal := hLutIdeal) (hLutRefIdeal := hLutRefIdeal)
    ∧ preserves_Coarse_CoarseIdeal
    ∧ algebraic_CoarseIdeal_CoarseRefIdeal (hCoarseIdeal := hCoarseIdeal) (hCoarseRefIdeal := hCoarseRefIdeal)
    ∧ preserves_Sc_ScIdeal
    ∧ algebraic_ScIdeal_ScRIdeal (hScIdeal := hScIdeal) (hScRIdeal := hScRIdeal) (hPre_work_list := hPre_work_list)
-- ==== Pre_work_list.lean ====
abbrev S2000x24x1536 : Shape := ⟨3, ![2000, 24, 1536]⟩
abbrev S2000x48x256 : Shape := ⟨3, ![2000, 48, 256]⟩
abbrev S200x96x256 : Shape := ⟨3, ![200, 96, 256]⟩
abbrev S3600x16 : Shape := ⟨2, ![3600, 16]⟩
abbrev S32x16 : Shape := ⟨2, ![32, 16]⟩
abbrev S200x18 : Shape := ⟨2, ![200, 18]⟩
abbrev S2000 : Shape := ⟨1, ![2000]⟩
abbrev S3600x1 : Shape := ⟨2, ![3600, 1]⟩
abbrev S3600 : Shape := ⟨1, ![3600]⟩
abbrev S_ : Shape := ⟨0, ![]⟩
abbrev S3600x1x1 : Shape := ⟨3, ![3600, 1, 1]⟩
abbrev S200 : Shape := ⟨1, ![200]⟩
abbrev S1x200x1 : Shape := ⟨3, ![1, 200, 1]⟩
abbrev S3600x200x1 : Shape := ⟨3, ![3600, 200, 1]⟩
abbrev S18 : Shape := ⟨1, ![18]⟩
abbrev S1x1x18 : Shape := ⟨3, ![1, 1, 18]⟩
abbrev S3600x1x18 : Shape := ⟨3, ![3600, 1, 18]⟩
abbrev S3600x200x18 : Shape := ⟨3, ![3600, 200, 18]⟩
abbrev S1x200x18 : Shape := ⟨3, ![1, 200, 18]⟩
abbrev S1x2000 : Shape := ⟨2, ![1, 2000]⟩
abbrev S3600x2000 : Shape := ⟨2, ![3600, 2000]⟩
abbrev S1x3600 : Shape := ⟨2, ![1, 3600]⟩
abbrev S3600x3600 : Shape := ⟨2, ![3600, 3600]⟩
abbrev S32x1 : Shape := ⟨2, ![32, 1]⟩
abbrev S32 : Shape := ⟨1, ![32]⟩
abbrev S1x32 : Shape := ⟨2, ![1, 32]⟩
abbrev S32x32 : Shape := ⟨2, ![32, 32]⟩

class Facts : Prop where
  slices_S3600x16_S3600x1_0_0 : S3600x16.Slices ![0, 0] S3600x1
  shapeCasts_S3600x1_S3600 : S3600x1.ShapeCasts S3600
  slices_S3600x16_S3600x1_0_1 : S3600x16.Slices ![0, 1] S3600x1
  slices_S3600x16_S3600x1_0_2 : S3600x16.Slices ![0, 2] S3600x1
  slices_S3600x16_S3600x1_0_3 : S3600x16.Slices ![0, 3] S3600x1
  bcast_S_S3600 : S_.BroadcastsInDim S3600 (![] : Fin 0 → Fin S3600.rank)
  bcast_S3600_S3600x1x1_0 : S3600.BroadcastsInDim S3600x1x1 (![0] : Fin 1 → Fin S3600x1x1.rank)
  bcast_S200_S1x200x1_1 : S200.BroadcastsInDim S1x200x1 (![1] : Fin 1 → Fin S1x200x1.rank)
  bcast_S3600x1x1_S3600x200x1_0_1_2 : S3600x1x1.BroadcastsInDim S3600x200x1 (![0, 1, 2] : Fin 3 → Fin S3600x200x1.rank)
  bcast_S1x200x1_S3600x200x1_0_1_2 : S1x200x1.BroadcastsInDim S3600x200x1 (![0, 1, 2] : Fin 3 → Fin S3600x200x1.rank)
  bcast_S18_S1x1x18_2 : S18.BroadcastsInDim S1x1x18 (![2] : Fin 1 → Fin S1x1x18.rank)
  bcast_S3600x1x1_S3600x1x18_0_1_2 : S3600x1x1.BroadcastsInDim S3600x1x18 (![0, 1, 2] : Fin 3 → Fin S3600x1x18.rank)
  bcast_S1x1x18_S3600x1x18_0_1_2 : S1x1x18.BroadcastsInDim S3600x1x18 (![0, 1, 2] : Fin 3 → Fin S3600x1x18.rank)
  bcast_S3600x200x1_S3600x200x18_0_1_2 : S3600x200x1.BroadcastsInDim S3600x200x18 (![0, 1, 2] : Fin 3 → Fin S3600x200x18.rank)
  bcast_S3600x1x18_S3600x200x18_0_1_2 : S3600x1x18.BroadcastsInDim S3600x200x18 (![0, 1, 2] : Fin 3 → Fin S3600x200x18.rank)
  bcast_S200x18_S1x200x18_1_2 : S200x18.BroadcastsInDim S1x200x18 (![1, 2] : Fin 2 → Fin S1x200x18.rank)
  bcast_S3600x1x1_S3600x200x18_0_1_2 : S3600x1x1.BroadcastsInDim S3600x200x18 (![0, 1, 2] : Fin 3 → Fin S3600x200x18.rank)
  bcast_S1x200x18_S3600x200x18_0_1_2 : S1x200x18.BroadcastsInDim S3600x200x18 (![0, 1, 2] : Fin 3 → Fin S3600x200x18.rank)
  bcast_S3600_S3600x1_0 : S3600.BroadcastsInDim S3600x1 (![0] : Fin 1 → Fin S3600x1.rank)
  bcast_S2000_S1x2000_1 : S2000.BroadcastsInDim S1x2000 (![1] : Fin 1 → Fin S1x2000.rank)
  bcast_S3600x1_S3600x2000_0_1 : S3600x1.BroadcastsInDim S3600x2000 (![0, 1] : Fin 2 → Fin S3600x2000.rank)
  bcast_S1x2000_S3600x2000_0_1 : S1x2000.BroadcastsInDim S3600x2000 (![0, 1] : Fin 2 → Fin S3600x2000.rank)
  bcast_S3600_S1x3600_1 : S3600.BroadcastsInDim S1x3600 (![1] : Fin 1 → Fin S1x3600.rank)
  bcast_S3600x1_S3600x3600_0_1 : S3600x1.BroadcastsInDim S3600x3600 (![0, 1] : Fin 2 → Fin S3600x3600.rank)
  bcast_S1x3600_S3600x3600_0_1 : S1x3600.BroadcastsInDim S3600x3600 (![0, 1] : Fin 2 → Fin S3600x3600.rank)
  slices_S32x16_S32x1_0_0 : S32x16.Slices ![0, 0] S32x1
  shapeCasts_S32x1_S32 : S32x1.ShapeCasts S32
  slices_S32x16_S32x1_0_1 : S32x16.Slices ![0, 1] S32x1
  bcast_S32_S32x1_0 : S32.BroadcastsInDim S32x1 (![0] : Fin 1 → Fin S32x1.rank)
  bcast_S_S32x1 : S_.BroadcastsInDim S32x1 (![] : Fin 0 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32 : S_.BroadcastsInDim S32 (![] : Fin 0 → Fin S32.rank)

variable [Facts]

def fn_part5 {F : FTy → Type} [FloatOps F] (main_v30 : IVec S3600 1) (main_v52 : IVec S3600x200x18 1) (main_v64 : IVec S3600x2000 1) (main_v79 : IVec S3600x3600 1) (main_v81 : IVec S32 32) (main_v83 : IVec S32 32) (main_v97 : IVec S32x32 1) (main_v102 : IVec S32 1) (main_v104 : IVec S32 1) (main_v105 : IVec S32 32) : IVec S3600 1 × IVec S3600x200x18 1 × IVec S3600x2000 1 × IVec S3600x3600 1 × IVec S32x32 1 × IVec S32 1 :=
  let main_v106 : IVec S32 1 := cmpi .eq main_v83 main_v105
  let main_v107 : IVec S32 1 := ori main_v104 main_v106
  let main_v108 : IVec S32 1 := andi main_v102 main_v107
  let main_v109 : IVec S32 1 := cmpi .sle main_v81 main_v83
  let main_v110 : IVec S32 1 := andi main_v108 main_v109
  (main_v30, main_v52, main_v64, main_v79, main_v97, main_v110)

def fn_part4 {F : FTy → Type} [FloatOps F] (main_v30 : IVec S3600 1) (main_v52 : IVec S3600x200x18 1) (main_v64 : IVec S3600x2000 1) (main_v79 : IVec S3600x3600 1) (main_v81 : IVec S32 32) (main_v83 : IVec S32 32) (main_v84 : IVec S32 32) (main_v85 : IVec S32x1 32) (main_c_8 : IVec S_ 32) : IVec S3600 1 × IVec S3600x200x18 1 × IVec S3600x2000 1 × IVec S3600x3600 1 × IVec S32x32 1 × IVec S32 1 :=
  let main_v86 : IVec S32x1 32 := broadcastInDim S32x1 ![] bcast_S_S32x1 main_c_8
  let main_v87 : IVec S32x1 32 := addi main_v85 main_v86
  let main_v88 : IVec S1x32 32 := broadcastInDim S1x32 ![1] bcast_S32_S1x32_1 main_v84
  let main_v89 : IVec S32x32 32 := broadcastInDim S32x32 ![0, 1] bcast_S32x1_S32x32_0_1 main_v87
  let main_v90 : IVec S32x32 32 := broadcastInDim S32x32 ![0, 1] bcast_S1x32_S32x32_0_1 main_v88
  let main_v91 : IVec S32x32 1 := cmpi .ne main_v89 main_v90
  let main_v92 : IVec S32x1 32 := broadcastInDim S32x1 ![0] bcast_S32_S32x1_0 main_v83
  let main_v93 : IVec S1x32 32 := broadcastInDim S1x32 ![1] bcast_S32_S1x32_1 main_v81
  let main_v94 : IVec S32x32 32 := broadcastInDim S32x32 ![0, 1] bcast_S32x1_S32x32_0_1 main_v92
  let main_v95 : IVec S32x32 32 := broadcastInDim S32x32 ![0, 1] bcast_S1x32_S32x32_0_1 main_v93
  let main_v96 : IVec S32x32 1 := cmpi .eq main_v94 main_v95
  let main_v97 : IVec S32x32 1 := ori main_v91 main_v96
  let main_c_9 : IVec S_ 32 := constantI S_ 32 0#32
  let main_v98 : IVec S32 32 := broadcastInDim S32 ![] bcast_S_S32 main_c_9
  let main_v99 : IVec S32 1 := cmpi .ne main_v84 main_v98
  let main_c_10 : IVec S_ 32 := constantI S_ 32 0#32
  let main_v100 : IVec S32 32 := broadcastInDim S32 ![] bcast_S_S32 main_c_10
  let main_v101 : IVec S32 1 := cmpi .eq main_v81 main_v100
  let main_v102 : IVec S32 1 := ori main_v99 main_v101
  let main_c_11 : IVec S_ 32 := constantI S_ 32 31#32
  let main_v103 : IVec S32 32 := broadcastInDim S32 ![] bcast_S_S32 main_c_11
  let main_v104 : IVec S32 1 := cmpi .ne main_v84 main_v103
  let main_c_12 : IVec S_ 32 := constantI S_ 32 3600#32
  let main_v105 : IVec S32 32 := broadcastInDim S32 ![] bcast_S_S32 main_c_12
  fn_part5 (F := F) main_v30 main_v52 main_v64 main_v79 main_v81 main_v83 main_v97 main_v102 main_v104 main_v105

def fn_part3 {F : FTy → Type} [FloatOps F] (main_arg4 : IVec S32x16 32) (main_v3 : IVec S3600 32) (main_v5 : IVec S3600 32) (main_v30 : IVec S3600 1) (main_v52 : IVec S3600x200x18 1) (main_v58 : IVec S3600x2000 1) (main_v63 : IVec S3600x2000 1) : IVec S3600 1 × IVec S3600x200x18 1 × IVec S3600x2000 1 × IVec S3600x3600 1 × IVec S32x32 1 × IVec S32 1 :=
  let main_v64 : IVec S3600x2000 1 := ori main_v58 main_v63
  let main_c_7 : IVec S_ 32 := constantI S_ 32 18#32
  let main_v65 : IVec S3600 32 := broadcastInDim S3600 ![] bcast_S_S3600 main_c_7
  let main_v66 : IVec S3600 32 := muli main_v3 main_v65
  let main_v67 : IVec S3600 32 := addi main_v66 main_v5
  let main_v68 : IVec S3600 32 := iotaInDim S3600 32 0
  let main_v69 : IVec S3600x1 32 := broadcastInDim S3600x1 ![0] bcast_S3600_S3600x1_0 main_v67
  let main_v70 : IVec S1x3600 32 := broadcastInDim S1x3600 ![1] bcast_S3600_S1x3600_1 main_v67
  let main_v71 : IVec S3600x3600 32 := broadcastInDim S3600x3600 ![0, 1] bcast_S3600x1_S3600x3600_0_1 main_v69
  let main_v72 : IVec S3600x3600 32 := broadcastInDim S3600x3600 ![0, 1] bcast_S1x3600_S3600x3600_0_1 main_v70
  let main_v73 : IVec S3600x3600 1 := cmpi .ne main_v71 main_v72
  let main_v74 : IVec S3600x1 32 := broadcastInDim S3600x1 ![0] bcast_S3600_S3600x1_0 main_v68
  let main_v75 : IVec S1x3600 32 := broadcastInDim S1x3600 ![1] bcast_S3600_S1x3600_1 main_v68
  let main_v76 : IVec S3600x3600 32 := broadcastInDim S3600x3600 ![0, 1] bcast_S3600x1_S3600x3600_0_1 main_v74
  let main_v77 : IVec S3600x3600 32 := broadcastInDim S3600x3600 ![0, 1] bcast_S1x3600_S3600x3600_0_1 main_v75
  let main_v78 : IVec S3600x3600 1 := cmpi .eq main_v76 main_v77
  let main_v79 : IVec S3600x3600 1 := ori main_v73 main_v78
  let main_v80 : IVec S32x1 32 := (extractStridedSlice S32x1 ![0, 0] · slices_S32x16_S32x1_0_0) main_arg4
  let main_v81 : IVec S32 32 := shapeCast S32 main_v80 shapeCasts_S32x1_S32
  let main_v82 : IVec S32x1 32 := (extractStridedSlice S32x1 ![0, 1] · slices_S32x16_S32x1_0_1) main_arg4
  let main_v83 : IVec S32 32 := shapeCast S32 main_v82 shapeCasts_S32x1_S32
  let main_v84 : IVec S32 32 := iotaInDim S32 32 0
  let main_v85 : IVec S32x1 32 := broadcastInDim S32x1 ![0] bcast_S32_S32x1_0 main_v84
  let main_c_8 : IVec S_ 32 := constantI S_ 32 1#32
  fn_part4 (F := F) main_v30 main_v52 main_v64 main_v79 main_v81 main_v83 main_v84 main_v85 main_c_8

def fn_part2 {F : FTy → Type} [FloatOps F] (main_arg4 : IVec S32x16 32) (main_arg5 : IVec S200x18 32) (main_arg6 : IVec S2000 32) (main_v1 : IVec S3600 32) (main_v3 : IVec S3600 32) (main_v5 : IVec S3600 32) (main_v7 : IVec S3600 32) (main_v30 : IVec S3600 1) (main_v36 : IVec S3600x200x1 1) (main_v37 : IVec S3600x1x1 32) (main_v39 : IVec S1x1x18 32) : IVec S3600 1 × IVec S3600x200x18 1 × IVec S3600x2000 1 × IVec S3600x3600 1 × IVec S32x32 1 × IVec S32 1 :=
  let main_v40 : IVec S3600x1x18 32 := broadcastInDim S3600x1x18 ![0, 1, 2] bcast_S3600x1x1_S3600x1x18_0_1_2 main_v37
  let main_v41 : IVec S3600x1x18 32 := broadcastInDim S3600x1x18 ![0, 1, 2] bcast_S1x1x18_S3600x1x18_0_1_2 main_v39
  let main_v42 : IVec S3600x1x18 1 := cmpi .eq main_v40 main_v41
  let main_v43 : IVec S3600x200x18 1 := broadcastInDim S3600x200x18 ![0, 1, 2] bcast_S3600x200x1_S3600x200x18_0_1_2 main_v36
  let main_v44 : IVec S3600x200x18 1 := broadcastInDim S3600x200x18 ![0, 1, 2] bcast_S3600x1x18_S3600x200x18_0_1_2 main_v42
  let main_v45 : IVec S3600x200x18 1 := andi main_v43 main_v44
  let main_v46 : IVec S3600x200x18 1 := noti main_v45
  let main_v47 : IVec S3600x1x1 32 := broadcastInDim S3600x1x1 ![0] bcast_S3600_S3600x1x1_0 main_v1
  let main_v48 : IVec S1x200x18 32 := broadcastInDim S1x200x18 ![1, 2] bcast_S200x18_S1x200x18_1_2 main_arg5
  let main_v49 : IVec S3600x200x18 32 := broadcastInDim S3600x200x18 ![0, 1, 2] bcast_S3600x1x1_S3600x200x18_0_1_2 main_v47
  let main_v50 : IVec S3600x200x18 32 := broadcastInDim S3600x200x18 ![0, 1, 2] bcast_S1x200x18_S3600x200x18_0_1_2 main_v48
  let main_v51 : IVec S3600x200x18 1 := cmpi .eq main_v49 main_v50
  let main_v52 : IVec S3600x200x18 1 := ori main_v46 main_v51
  let main_v53 : IVec S3600x1 32 := broadcastInDim S3600x1 ![0] bcast_S3600_S3600x1_0 main_v1
  let main_v54 : IVec S2000 32 := iotaInDim S2000 32 0
  let main_v55 : IVec S1x2000 32 := broadcastInDim S1x2000 ![1] bcast_S2000_S1x2000_1 main_v54
  let main_v56 : IVec S3600x2000 32 := broadcastInDim S3600x2000 ![0, 1] bcast_S3600x1_S3600x2000_0_1 main_v53
  let main_v57 : IVec S3600x2000 32 := broadcastInDim S3600x2000 ![0, 1] bcast_S1x2000_S3600x2000_0_1 main_v55
  let main_v58 : IVec S3600x2000 1 := cmpi .ne main_v56 main_v57
  let main_v59 : IVec S3600x1 32 := broadcastInDim S3600x1 ![0] bcast_S3600_S3600x1_0 main_v7
  let main_v60 : IVec S1x2000 32 := broadcastInDim S1x2000 ![1] bcast_S2000_S1x2000_1 main_arg6
  let main_v61 : IVec S3600x2000 32 := broadcastInDim S3600x2000 ![0, 1] bcast_S3600x1_S3600x2000_0_1 main_v59
  let main_v62 : IVec S3600x2000 32 := broadcastInDim S3600x2000 ![0, 1] bcast_S1x2000_S3600x2000_0_1 main_v60
  let main_v63 : IVec S3600x2000 1 := cmpi .eq main_v61 main_v62
  fn_part3 (F := F) main_arg4 main_v3 main_v5 main_v30 main_v52 main_v58 main_v63

def fn_part1 {F : FTy → Type} [FloatOps F] (main_arg4 : IVec S32x16 32) (main_arg5 : IVec S200x18 32) (main_arg6 : IVec S2000 32) (main_v1 : IVec S3600 32) (main_v3 : IVec S3600 32) (main_v5 : IVec S3600 32) (main_v7 : IVec S3600 32) (main_v18 : IVec S3600 1) (main_c_3 : IVec S_ 32) : IVec S3600 1 × IVec S3600x200x18 1 × IVec S3600x2000 1 × IVec S3600x3600 1 × IVec S32x32 1 × IVec S32 1 :=
  let main_v19 : IVec S3600 32 := broadcastInDim S3600 ![] bcast_S_S3600 main_c_3
  let main_v20 : IVec S3600 1 := cmpi .sge main_v5 main_v19
  let main_v21 : IVec S3600 1 := andi main_v18 main_v20
  let main_c_4 : IVec S_ 32 := constantI S_ 32 18#32
  let main_v22 : IVec S3600 32 := broadcastInDim S3600 ![] bcast_S_S3600 main_c_4
  let main_v23 : IVec S3600 1 := cmpi .slt main_v5 main_v22
  let main_v24 : IVec S3600 1 := andi main_v21 main_v23
  let main_c_5 : IVec S_ 32 := constantI S_ 32 0#32
  let main_v25 : IVec S3600 32 := broadcastInDim S3600 ![] bcast_S_S3600 main_c_5
  let main_v26 : IVec S3600 1 := cmpi .sge main_v7 main_v25
  let main_v27 : IVec S3600 1 := andi main_v24 main_v26
  let main_c_6 : IVec S_ 32 := constantI S_ 32 1536#32
  let main_v28 : IVec S3600 32 := broadcastInDim S3600 ![] bcast_S_S3600 main_c_6
  let main_v29 : IVec S3600 1 := cmpi .sle main_v7 main_v28
  let main_v30 : IVec S3600 1 := andi main_v27 main_v29
  let main_v31 : IVec S3600x1x1 32 := broadcastInDim S3600x1x1 ![0] bcast_S3600_S3600x1x1_0 main_v3
  let main_v32 : IVec S200 32 := iotaInDim S200 32 0
  let main_v33 : IVec S1x200x1 32 := broadcastInDim S1x200x1 ![1] bcast_S200_S1x200x1_1 main_v32
  let main_v34 : IVec S3600x200x1 32 := broadcastInDim S3600x200x1 ![0, 1, 2] bcast_S3600x1x1_S3600x200x1_0_1_2 main_v31
  let main_v35 : IVec S3600x200x1 32 := broadcastInDim S3600x200x1 ![0, 1, 2] bcast_S1x200x1_S3600x200x1_0_1_2 main_v33
  let main_v36 : IVec S3600x200x1 1 := cmpi .eq main_v34 main_v35
  let main_v37 : IVec S3600x1x1 32 := broadcastInDim S3600x1x1 ![0] bcast_S3600_S3600x1x1_0 main_v5
  let main_v38 : IVec S18 32 := iotaInDim S18 32 0
  let main_v39 : IVec S1x1x18 32 := broadcastInDim S1x1x18 ![2] bcast_S18_S1x1x18_2 main_v38
  fn_part2 (F := F) main_arg4 main_arg5 main_arg6 main_v1 main_v3 main_v5 main_v7 main_v30 main_v36 main_v37 main_v39

def fn {F : FTy → Type} [FloatOps F] (main_arg0 : IVec S2000x24x1536 32) (main_arg1 : IVec S2000x48x256 32) (main_arg2 : FVec F S200x96x256 .f32) (main_arg3 : IVec S3600x16 32) (main_arg4 : IVec S32x16 32) (main_arg5 : IVec S200x18 32) (main_arg6 : IVec S2000 32) : IVec S3600 1 × IVec S3600x200x18 1 × IVec S3600x2000 1 × IVec S3600x3600 1 × IVec S32x32 1 × IVec S32 1 :=
  let main_v0 : IVec S3600x1 32 := (extractStridedSlice S3600x1 ![0, 0] · slices_S3600x16_S3600x1_0_0) main_arg3
  let main_v1 : IVec S3600 32 := shapeCast S3600 main_v0 shapeCasts_S3600x1_S3600
  let main_v2 : IVec S3600x1 32 := (extractStridedSlice S3600x1 ![0, 1] · slices_S3600x16_S3600x1_0_1) main_arg3
  let main_v3 : IVec S3600 32 := shapeCast S3600 main_v2 shapeCasts_S3600x1_S3600
  let main_v4 : IVec S3600x1 32 := (extractStridedSlice S3600x1 ![0, 2] · slices_S3600x16_S3600x1_0_2) main_arg3
  let main_v5 : IVec S3600 32 := shapeCast S3600 main_v4 shapeCasts_S3600x1_S3600
  let main_v6 : IVec S3600x1 32 := (extractStridedSlice S3600x1 ![0, 3] · slices_S3600x16_S3600x1_0_3) main_arg3
  let main_v7 : IVec S3600 32 := shapeCast S3600 main_v6 shapeCasts_S3600x1_S3600
  let main_c : IVec S_ 32 := constantI S_ 32 0#32
  let main_v8 : IVec S3600 32 := broadcastInDim S3600 ![] bcast_S_S3600 main_c
  let main_v9 : IVec S3600 1 := cmpi .sge main_v1 main_v8
  let main_c_0 : IVec S_ 32 := constantI S_ 32 2000#32
  let main_v10 : IVec S3600 32 := broadcastInDim S3600 ![] bcast_S_S3600 main_c_0
  let main_v11 : IVec S3600 1 := cmpi .slt main_v1 main_v10
  let main_v12 : IVec S3600 1 := andi main_v9 main_v11
  let main_c_1 : IVec S_ 32 := constantI S_ 32 0#32
  let main_v13 : IVec S3600 32 := broadcastInDim S3600 ![] bcast_S_S3600 main_c_1
  let main_v14 : IVec S3600 1 := cmpi .sge main_v3 main_v13
  let main_v15 : IVec S3600 1 := andi main_v12 main_v14
  let main_c_2 : IVec S_ 32 := constantI S_ 32 200#32
  let main_v16 : IVec S3600 32 := broadcastInDim S3600 ![] bcast_S_S3600 main_c_2
  let main_v17 : IVec S3600 1 := cmpi .slt main_v3 main_v16
  let main_v18 : IVec S3600 1 := andi main_v15 main_v17
  let main_c_3 : IVec S_ 32 := constantI S_ 32 0#32
  fn_part1 (F := F) main_arg4 main_arg5 main_arg6 main_v1 main_v3 main_v5 main_v7 main_v18 main_c_3
-- ==== Lut.lean ====
abbrev S200x768 : Shape := ⟨2, ![200, 768]⟩
abbrev S96x256x8 : Shape := ⟨3, ![96, 256, 8]⟩
abbrev S96x8x256 : Shape := ⟨3, ![96, 8, 256]⟩
abbrev S768x256 : Shape := ⟨2, ![768, 256]⟩
abbrev S200x96x256 : Shape := ⟨3, ![200, 96, 256]⟩
abbrev S8x768 : Shape := ⟨2, ![8, 768]⟩
abbrev S8x96x256 : Shape := ⟨3, ![8, 96, 256]⟩
abbrev S32x256 : Shape := ⟨2, ![32, 256]⟩
abbrev S256x256 : Shape := ⟨2, ![256, 256]⟩
abbrev S1x256 : Shape := ⟨2, ![1, 256]⟩
abbrev S1x32x256 : Shape := ⟨3, ![1, 32, 256]⟩

abbrev nBuf : Space → Nat
  | .hbm => 5
  | .vmem => 5
  | .smem => 0
  | _ => 0

abbrev bufTy : (tb : Table) → Fin (tcTables nBuf tb) → BufTy
  | .hbm, ⟨0, _⟩ => ⟨S200x768, .bf16⟩
  | .hbm, ⟨1, _⟩ => ⟨S96x256x8, .bf16⟩
  | .hbm, ⟨2, _⟩ => ⟨S96x8x256, .bf16⟩
  | .hbm, ⟨3, _⟩ => ⟨S768x256, .bf16⟩
  | .hbm, ⟨4, _⟩ => ⟨S200x96x256, .f32⟩
  | .local _ .vmem, ⟨0, _⟩ => ⟨S8x768, .bf16⟩
  | .local _ .vmem, ⟨1, _⟩ => ⟨S8x768, .bf16⟩
  | .local _ .vmem, ⟨2, _⟩ => ⟨S768x256, .bf16⟩
  | .local _ .vmem, ⟨3, _⟩ => ⟨S8x96x256, .f32⟩
  | .local _ .vmem, ⟨4, _⟩ => ⟨S8x96x256, .f32⟩
  | _, _ => ⟨S200x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x96x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LutRefIdeal.lean ====
abbrev S200x768 : Shape := ⟨2, ![200, 768]⟩
abbrev S96x256x8 : Shape := ⟨3, ![96, 256, 8]⟩
abbrev S200x96x8 : Shape := ⟨3, ![200, 96, 8]⟩
abbrev S96x256x200 : Shape := ⟨3, ![96, 256, 200]⟩
abbrev S200x96x256 : Shape := ⟨3, ![200, 96, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S200x768, .bf16⟩
  | .hbm, ⟨1, _⟩ => ⟨S96x256x8, .bf16⟩
  | .hbm, ⟨2, _⟩ => ⟨S200x96x8, .bf16⟩
  | .hbm, ⟨3, _⟩ => ⟨S96x256x200, .f32⟩
  | .hbm, ⟨4, _⟩ => ⟨S200x96x256, .f32⟩
  | .hbm, ⟨5, _⟩ => ⟨S_, .f32⟩
  | .hbm, ⟨6, _⟩ => ⟨S200x96x256, .f32⟩
  | .hbm, ⟨7, _⟩ => ⟨S200x96x256, .f32⟩
  | _, _ => ⟨S200x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Coarse.lean ====
abbrev S200x768 : Shape := ⟨2, ![200, 768]⟩
abbrev S2000x768 : Shape := ⟨2, ![2000, 768]⟩
abbrev S200x18 : Shape := ⟨2, ![200, 18]⟩
abbrev S_ : Shape := ⟨0, ![]⟩
abbrev S200x18x1 : Shape := ⟨3, ![200, 18, 1]⟩
abbrev S200x18x768 : Shape := ⟨3, ![200, 18, 768]⟩
abbrev S8x768 : Shape := ⟨2, ![8, 768]⟩
abbrev S8x18x768 : Shape := ⟨3, ![8, 18, 768]⟩
abbrev S8x18 : Shape := ⟨2, ![8, 18]⟩
abbrev S8x1x768 : Shape := ⟨3, ![8, 1, 768]⟩

abbrev nBuf : Space → Nat
  | .hbm => 13
  | .vmem => 6
  | .smem => 0
  | _ => 0

abbrev bufTy : (tb : Table) → Fin (tcTables nBuf tb) → BufTy
  | .hbm, ⟨0, _⟩ => ⟨S200x768, .bf16⟩
  | .hbm, ⟨1, _⟩ => ⟨S2000x768, .f32⟩
  | .hbm, ⟨2, _⟩ => ⟨S200x18, .i32⟩
  | .hbm, ⟨3, _⟩ => ⟨S_, .i32⟩
  | .hbm, ⟨4, _⟩ => ⟨S200x18, .i32⟩
  | .hbm, ⟨5, _⟩ => ⟨S200x18, .i1⟩
  | .hbm, ⟨6, _⟩ => ⟨S_, .i32⟩
  | .hbm, ⟨7, _⟩ => ⟨S200x18, .i32⟩
  | .hbm, ⟨8, _⟩ => ⟨S200x18, .i32⟩
  | .hbm, ⟨9, _⟩ => ⟨S200x18, .i32⟩
  | .hbm, ⟨10, _⟩ => ⟨S200x18x1, .i32⟩
  | .hbm, ⟨11, _⟩ => ⟨S200x18x768, .f32⟩
  | .hbm, ⟨12, _⟩ => ⟨S200x18, .f32⟩
  | .local _ .vmem, ⟨0, _⟩ => ⟨S8x768, .bf16⟩
  | .local _ .vmem, ⟨1, _⟩ => ⟨S8x768, .bf16⟩
  | .local _ .vmem, ⟨2, _⟩ => ⟨S8x18x768, .f32⟩
  | .local _ .vmem, ⟨3, _⟩ => ⟨S8x18x768, .f32⟩
  | .local _ .vmem, ⟨4, _⟩ => ⟨S8x18, .f32⟩
  | .local _ .vmem, ⟨5, _⟩ => ⟨S8x18, .f32⟩
  | _, _ => ⟨S200x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x18x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x18 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CoarseRefIdeal.lean ====
abbrev S200x768 : Shape := ⟨2, ![200, 768]⟩
abbrev S2000x768 : Shape := ⟨2, ![2000, 768]⟩
abbrev S200x18 : Shape := ⟨2, ![200, 18]⟩
abbrev S_ : Shape := ⟨0, ![]⟩
abbrev S200x18x1 : Shape := ⟨3, ![200, 18, 1]⟩
abbrev S200x18x768 : Shape := ⟨3, ![200, 18, 768]⟩
abbrev S200x1x768 : Shape := ⟨3, ![200, 1, 768]⟩

abbrev nBuf : Space → Nat
  | .hbm => 19
  | .vmem => 0
  | .smem => 0
  | _ => 0

abbrev bufTy : (tb : Table) → Fin (tcTables nBuf tb) → BufTy
  | .hbm, ⟨0, _⟩ => ⟨S200x768, .bf16⟩
  | .hbm, ⟨1, _⟩ => ⟨S2000x768, .f32⟩
  | .hbm, ⟨2, _⟩ => ⟨S200x18, .i32⟩
  | .hbm, ⟨3, _⟩ => ⟨S_, .i32⟩
  | .hbm, ⟨4, _⟩ => ⟨S200x18, .i32⟩
  | .hbm, ⟨5, _⟩ => ⟨S200x18, .i1⟩
  | .hbm, ⟨6, _⟩ => ⟨S_, .i32⟩
  | .hbm, ⟨7, _⟩ => ⟨S200x18, .i32⟩
  | .hbm, ⟨8, _⟩ => ⟨S200x18, .i32⟩
  | .hbm, ⟨9, _⟩ => ⟨S200x18, .i32⟩
  | .hbm, ⟨10, _⟩ => ⟨S200x18x1, .i32⟩
  | .hbm, ⟨11, _⟩ => ⟨S200x18x768, .f32⟩
  | .hbm, ⟨12, _⟩ => ⟨S200x768, .f32⟩
  | .hbm, ⟨13, _⟩ => ⟨S200x1x768, .f32⟩
  | .hbm, ⟨14, _⟩ => ⟨S200x18x768, .f32⟩
  | .hbm, ⟨15, _⟩ => ⟨S200x18x768, .f32⟩
  | .hbm, ⟨16, _⟩ => ⟨S200x18x768, .f32⟩
  | .hbm, ⟨17, _⟩ => ⟨S_, .f32⟩
  | .hbm, ⟨18, _⟩ => ⟨S200x18, .f32⟩
  | _, _ => ⟨S200x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Sc.lean ====
abbrev S2000x24x1536 : Shape := ⟨3, ![2000, 24, 1536]⟩
abbrev S2000x48x256 : Shape := ⟨3, ![2000, 48, 256]⟩
abbrev S200x96x256 : Shape := ⟨3, ![200, 96, 256]⟩
abbrev S3600x16 : Shape := ⟨2, ![3600, 16]⟩
abbrev S32x16 : Shape := ⟨2, ![32, 16]⟩
abbrev S200x18 : Shape := ⟨2, ![200, 18]⟩
abbrev S2000 : Shape := ⟨1, ![2000]⟩
abbrev S18x200x1536 : Shape := ⟨3, ![18, 200, 1536]⟩
abbrev S24x1536 : Shape := ⟨2, ![24, 1536]⟩
abbrev S96x2x128 : Shape := ⟨3, ![96, 2, 128]⟩
abbrev S48x256 : Shape := ⟨2, ![48, 256]⟩
abbrev S1536 : Shape := ⟨1, ![1536]⟩
abbrev S16 : Shape := ⟨1, ![16]⟩
abbrev S_ : Shape := ⟨0, ![]⟩
abbrev S1x16 : Shape := ⟨2, ![1, 16]⟩
abbrev S1 : Shape := ⟨1, ![1]⟩
abbrev S1x24x1536 : Shape := ⟨3, ![1, 24, 1536]⟩
abbrev S1x48x256 : Shape := ⟨3, ![1, 48, 256]⟩
abbrev S96x1x128 : Shape := ⟨3, ![96, 1, 128]⟩
abbrev S96x128 : Shape := ⟨2, ![96, 128]⟩
abbrev S1x96x128 : Shape := ⟨3, ![1, 96, 128]⟩
abbrev S1x1x16 : Shape := ⟨3, ![1, 1, 16]⟩
abbrev S1x1x1536 : Shape := ⟨3, ![1, 1, 1536]⟩
abbrev S200x18x1536 : Shape := ⟨3, ![200, 18, 1536]⟩

abbrev nBuf : Table → Nat
  | .hbm => 9
  | .local .scVector .vmem => 6
  | _ => 0

abbrev bufTy : (tb : Table) → Fin (nBuf tb) → BufTy
  | .hbm, ⟨0, _⟩ => ⟨S2000x24x1536, .i32⟩
  | .hbm, ⟨1, _⟩ => ⟨S2000x48x256, .i32⟩
  | .hbm, ⟨2, _⟩ => ⟨S200x96x256, .f32⟩
  | .hbm, ⟨3, _⟩ => ⟨S3600x16, .i32⟩
  | .hbm, ⟨4, _⟩ => ⟨S32x16, .i32⟩
  | .hbm, ⟨5, _⟩ => ⟨S200x18, .i32⟩
  | .hbm, ⟨6, _⟩ => ⟨S2000, .i32⟩
  | .hbm, ⟨7, _⟩ => ⟨S18x200x1536, .f32⟩
  | .hbm, ⟨8, _⟩ => ⟨S200x18x1536, .f32⟩
  | .local .scVector .vmem, ⟨0, _⟩ => ⟨S24x1536, .i32⟩
  | .local .scVector .vmem, ⟨1, _⟩ => ⟨S96x2x128, .f32⟩
  | .local .scVector .vmem, ⟨2, _⟩ => ⟨S48x256, .i32⟩
  | .local .scVector .vmem, ⟨3, _⟩ => ⟨S1536, .f32⟩
  | .local .scVector .vmem, ⟨4, _⟩ => ⟨S16, .i32⟩
  | .local .scVector .vmem, ⟨5, _⟩ => ⟨S16, .i32⟩
  | _, _ => ⟨S2000x24x1536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  ![v1.toNat, 0]
@[reducible] def k0_t1_loop (v5 : BitVec 32) (v7 : BitVec 32) : Scf.Loop 32 :=
  let v8 : BitVec 32 := Scalar.subi v7 v5
  let c1_i32 : BitVec 32 := 1#32
  let v10 : BitVec 32 := Scalar.divsi v8 c1_i32
  let v11 : BitVec 32 := Scalar.muli v10 c1_i32
  let v12 : BitVec 32 := Scalar.addi v5 v11
  let c1_i32_0 : BitVec 32 := 1#32
  ⟨v5, v12, c1_i32_0⟩

def k0_off2 (v5 : BitVec 32) (v7 : BitVec 32) (k0_t1 : Fin (k0_t1_loop v5 v7).trips) : Fin 2 → Nat :=
  let c1_i32_0 : BitVec 32 := 1#32
  let arg14 : BitVec 32 := Scf.iv v5 c1_i32_0 k0_t1
  let c0_i32_22_r1 : BitVec 32 := 0#32
  ![arg14.toNat, 0]
def k0_off3 (v17 : BitVec 32) : Fin 3 → Nat :=
  let c0_i32_22_r2 : BitVec 32 := 0#32
  let c0_i32_23_r2 : BitVec 32 := 0#32
  ![v17.toNat, 0, 0]

def k0_off4 (v17 : BitVec 32) : Fin 3 → Nat :=
  let c0_i32_22_r3 : BitVec 32 := 0#32
  let c0_i32_23_r3 : BitVec 32 := 0#32
  ![v17.toNat, 0, 0]

def k0_chk2 (v17 : BitVec 32) : Prop :=
  (∀ a, (k0_off3 v17) a + S1x24x1536.size a ≤ S2000x24x1536.size a) ∧
  (∀ a, (k0_off4 v17) a + S1x48x256.size a ≤ S2000x48x256.size a)
theorem k0_off3_inb : ∀ (v17 : BitVec 32) (k0_hw2 : k0_chk2 v17), ∀ a, (k0_off3 v17) a + S1x24x1536.size a ≤ S2000x24x1536.size a := fun v17 k0_hw2 => k0_hw2.1
theorem k0_off4_inb : ∀ (v17 : BitVec 32) (k0_hw2 : k0_chk2 v17), ∀ a, (k0_off4 v17) a + S1x48x256.size a ≤ S2000x48x256.size a := fun v17 k0_hw2 => k0_hw2.2

def k0_off5 (v19 : BitVec 32) : Fin 3 → Nat :=
  let c0_i32_24_r4 : BitVec 32 := 0#32
  let c0_i32_25_r4 : BitVec 32 := 0#32
  ![v19.toNat, 0, 0]

def k0_off6 (v19 : BitVec 32) : Fin 3 → Nat :=
  let c0_i32_24_r5 : BitVec 32 := 0#32
  let c128_i32_r5 : BitVec 32 := 128#32
  ![v19.toNat, 0, 128]

def k0_chk3 (v19 : BitVec 32) : Prop :=
  (∀ a, (k0_off5 v19) a + S1x96x128.size a ≤ S200x96x256.size a) ∧
  (∀ a, (k0_off6 v19) a + S1x96x128.size a ≤ S200x96x256.size a)
theorem k0_off5_inb : ∀ (v19 : BitVec 32) (k0_hw3 : k0_chk3 v19), ∀ a, (k0_off5 v19) a + S1x96x128.size a ≤ S200x96x256.size a := fun v19 k0_hw3 => k0_hw3.1
theorem k0_off6_inb : ∀ (v19 : BitVec 32) (k0_hw3 : k0_chk3 v19), ∀ a, (k0_off6 v19) a + S1x96x128.size a ≤ S200x96x256.size a := fun v19 k0_hw3 => k0_hw3.2

@[reducible] def k0_t2_loop : Scf.Loop 32 :=
  let c0_i32_5 : BitVec 32 := 0#32
  let c48_i32 : BitVec 32 := 48#32
  let v24 : BitVec 32 := Scalar.addi c0_i32_5 c48_i32
  let c1_i32_6 : BitVec 32 := 1#32
  ⟨c0_i32_5, v24, c1_i32_6⟩
def k0_off7 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v40 : Index := Scalar.indexCast v39
  let c0_24 : Index := 0#32
  ![v40.toNat, 0]
def k0_off8 (k0_t2 : Fin k0_t2_loop.trips) : Fin 3 → Nat :=
  let c2_i32_25 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v48 : BitVec 32 := Scalar.muli c2_i32_25 v39
  let v49 : Index := Scalar.indexCast v48
  let c0_i32_26 : BitVec 32 := 0#32
  let v50 : Index := Scalar.indexCast c0_i32_26
  let c0_27 : Index := 0#32
  ![v49.toNat, 0, 0]
def k0_off9 (k0_t2 : Fin k0_t2_loop.trips) : Fin 3 → Nat :=
  let c2_i32_31 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v57 : BitVec 32 := Scalar.muli c2_i32_31 v39
  let c1_i32_32 : BitVec 32 := 1#32
  let v58 : BitVec 32 := Scalar.addi v57 c1_i32_32
  let v59 : Index := Scalar.indexCast v58
  let c0_i32_33 : BitVec 32 := 0#32
  let v60 : Index := Scalar.indexCast c0_i32_33
  let c0_34 : Index := 0#32
  ![v59.toNat, 0, 0]
def k0_off10 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v68 : Index := Scalar.indexCast v39
  let c16 : Index := 16#32
  ![v68.toNat, 16]
def k0_off11 (k0_t2 : Fin k0_t2_loop.trips) : Fin 3 → Nat :=
  let c2_i32_41 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v76 : BitVec 32 := Scalar.muli c2_i32_41 v39
  let v77 : Index := Scalar.indexCast v76
  let c0_i32_42 : BitVec 32 := 0#32
  let v78 : Index := Scalar.indexCast c0_i32_42
  let c16_43 : Index := 16#32
  ![v77.toNat, 0, 16]
def k0_off12 (k0_t2 : Fin k0_t2_loop.trips) : Fin 3 → Nat :=
  let c2_i32_47 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v85 : BitVec 32 := Scalar.muli c2_i32_47 v39
  let c1_i32_48 : BitVec 32 := 1#32
  let v86 : BitVec 32 := Scalar.addi v85 c1_i32_48
  let v87 : Index := Scalar.indexCast v86
  let c0_i32_49 : BitVec 32 := 0#32
  let v88 : Index := Scalar.indexCast c0_i32_49
  let c16_50 : Index := 16#32
  ![v87.toNat, 0, 16]
def k0_off13 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v96 : Index := Scalar.indexCast v39
  let c32 : Index := 32#32
  ![v96.toNat, 32]
def k0_off14 (k0_t2 : Fin k0_t2_loop.trips) : Fin 3 → Nat :=
  let c2_i32_57 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v104 : BitVec 32 := Scalar.muli c2_i32_57 v39
  let v105 : Index := Scalar.indexCast v104
  let c0_i32_58 : BitVec 32 := 0#32
  let v106 : Index := Scalar.indexCast c0_i32_58
  let c32_59 : Index := 32#32
  ![v105.toNat, 0, 32]
def k0_off15 (k0_t2 : Fin k0_t2_loop.trips) : Fin 3 → Nat :=
  let c2_i32_63 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v113 : BitVec 32 := Scalar.muli c2_i32_63 v39
  let c1_i32_64 : BitVec 32 := 1#32
  let v114 : BitVec 32 := Scalar.addi v113 c1_i32_64
  let v115 : Index := Scalar.indexCast v114
  let c0_i32_65 : BitVec 32 := 0#32
  let v116 : Index := Scalar.indexCast c0_i32_65
  let c32_66 : Index := 32#32
  ![v115.toNat, 0, 32]
def k0_off16 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v124 : Index := Scalar.indexCast v39
  let c48 : Index := 48#32
  ![v124.toNat, 48]
def k0_off17 (k0_t2 : Fin k0_t2_loop.trips) : Fin 3 → Nat :=
  let c2_i32_73 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v132 : BitVec 32 := Scalar.muli c2_i32_73 v39
  let v133 : Index := Scalar.indexCast v132
  let c0_i32_74 : BitVec 32 := 0#32
  let v134 : Index := Scalar.indexCast c0_i32_74
  let c48_75 : Index := 48#32
  ![v133.toNat, 0, 48]
def k0_off18 (k0_t2 : Fin k0_t2_loop.trips) : Fin 3 → Nat :=
  let c2_i32_79 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v141 : BitVec 32 := Scalar.muli c2_i32_79 v39
  let c1_i32_80 : BitVec 32 := 1#32
  let v142 : BitVec 32 := Scalar.addi v141 c1_i32_80
  let v143 : Index := Scalar.indexCast v142
  let c0_i32_81 : BitVec 32 := 0#32
  let v144 : Index := Scalar.indexCast c0_i32_81
  let c48_82 : Index := 48#32
  ![v143.toNat, 0, 48]
def k0_off19 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v152 : Index := Scalar.indexCast v39
  let c64 : Index := 64#32
  ![v152.toNat, 64]
def k0_off20 (k0_t2 : Fin k0_t2_loop.trips) : Fin 3 → Nat :=
  let c2_i32_89 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v160 : BitVec 32 := Scalar.muli c2_i32_89 v39
  let v161 : Index := Scalar.indexCast v160
  let c0_i32_90 : BitVec 32 := 0#32
  let v162 : Index := Scalar.indexCast c0_i32_90
  let c64_91 : Index := 64#32
  ![v161.toNat, 0, 64]
def k0_off21 (k0_t2 : Fin k0_t2_loop.trips) : Fin 3 → Nat :=
  let c2_i32_95 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v169 : BitVec 32 := Scalar.muli c2_i32_95 v39
  let c1_i32_96 : BitVec 32 := 1#32
  let v170 : BitVec 32 := Scalar.addi v169 c1_i32_96
  let v171 : Index := Scalar.indexCast v170
  let c0_i32_97 : BitVec 32 := 0#32
  let v172 : Index := Scalar.indexCast c0_i32_97
  let c64_98 : Index := 64#32
  ![v171.toNat, 0, 64]
def k0_off22 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v180 : Index := Scalar.indexCast v39
  let c80 : Index := 80#32
  ![v180.toNat, 80]
def k0_off23 (k0_t2 : Fin k0_t2_loop.trips) : Fin 3 → Nat :=
  let c2_i32_105 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v188 : BitVec 32 := Scalar.muli c2_i32_105 v39
  let v189 : Index := Scalar.indexCast v188
  let c0_i32_106 : BitVec 32 := 0#32
  let v190 : Index := Scalar.indexCast c0_i32_106
  let c80_107 : Index := 80#32
  ![v189.toNat, 0, 80]
def k0_off24 (k0_t2 : Fin k0_t2_loop.trips) : Fin 3 → Nat :=
  let c2_i32_111 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v197 : BitVec 32 := Scalar.muli c2_i32_111 v39
  let c1_i32_112 : BitVec 32 := 1#32
  let v198 : BitVec 32 := Scalar.addi v197 c1_i32_112
  let v199 : Index := Scalar.indexCast v198
  let c0_i32_113 : BitVec 32 := 0#32
  let v200 : Index := Scalar.indexCast c0_i32_113
  let c80_114 : Index := 80#32
  ![v199.toNat, 0, 80]
def k0_off25 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v208 : Index := Scalar.indexCast v39
  let c96 : Index := 96#32
  ![v208.toNat, 96]
def k0_off26 (k0_t2 : Fin k0_t2_loop.trips) : Fin 3 → Nat :=
  let c2_i32_121 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v216 : BitVec 32 := Scalar.muli c2_i32_121 v39
  let v217 : Index := Scalar.indexCast v216
  let c0_i32_122 : BitVec 32 := 0#32
  let v218 : Index := Scalar.indexCast c0_i32_122
  let c96_123 : Index := 96#32
  ![v217.toNat, 0, 96]
def k0_off27 (k0_t2 : Fin k0_t2_loop.trips) : Fin 3 → Nat :=
  let c2_i32_127 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v225 : BitVec 32 := Scalar.muli c2_i32_127 v39
  let c1_i32_128 : BitVec 32 := 1#32
  let v226 : BitVec 32 := Scalar.addi v225 c1_i32_128
  let v227 : Index := Scalar.indexCast v226
  let c0_i32_129 : BitVec 32 := 0#32
  let v228 : Index := Scalar.indexCast c0_i32_129
  let c96_130 : Index := 96#32
  ![v227.toNat, 0, 96]
def k0_off28 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v236 : Index := Scalar.indexCast v39
  let c112 : Index := 112#32
  ![v236.toNat, 112]
def k0_off29 (k0_t2 : Fin k0_t2_loop.trips) : Fin 3 → Nat :=
  let c2_i32_137 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v244 : BitVec 32 := Scalar.muli c2_i32_137 v39
  let v245 : Index := Scalar.indexCast v244
  let c0_i32_138 : BitVec 32 := 0#32
  let v246 : Index := Scalar.indexCast c0_i32_138
  let c112_139 : Index := 112#32
  ![v245.toNat, 0, 112]
def k0_off30 (k0_t2 : Fin k0_t2_loop.trips) : Fin 3 → Nat :=
  let c2_i32_143 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v253 : BitVec 32 := Scalar.muli c2_i32_143 v39
  let c1_i32_144 : BitVec 32 := 1#32
  let v254 : BitVec 32 := Scalar.addi v253 c1_i32_144
  let v255 : Index := Scalar.indexCast v254
  let c0_i32_145 : BitVec 32 := 0#32
  let v256 : Index := Scalar.indexCast c0_i32_145
  let c112_146 : Index := 112#32
  ![v255.toNat, 0, 112]
def k0_off31 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v264 : Index := Scalar.indexCast v39
  let c128 : Index := 128#32
  ![v264.toNat, 128]
def k0_off32 (k0_t2 : Fin k0_t2_loop.trips) : Fin 3 → Nat :=
  let c2_i32_153 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v272 : BitVec 32 := Scalar.muli c2_i32_153 v39
  let v273 : Index := Scalar.indexCast v272
  let c1_i32_154 : BitVec 32 := 1#32
  let v274 : Index := Scalar.indexCast c1_i32_154
  let c0_155 : Index := 0#32
  ![v273.toNat, 1, 0]
def k0_off33 (k0_t2 : Fin k0_t2_loop.trips) : Fin 3 → Nat :=
  let c2_i32_159 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v281 : BitVec 32 := Scalar.muli c2_i32_159 v39
  let c1_i32_160 : BitVec 32 := 1#32
  let v282 : BitVec 32 := Scalar.addi v281 c1_i32_160
  let v283 : Index := Scalar.indexCast v282
  let c1_i32_161 : BitVec 32 := 1#32
  let v284 : Index := Scalar.indexCast c1_i32_161
  let c0_162 : Index := 0#32
  ![v283.toNat, 1, 0]
def k0_off34 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v292 : Index := Scalar.indexCast v39
  let c144 : Index := 144#32
  ![v292.toNat, 144]
def k0_off35 (k0_t2 : Fin k0_t2_loop.trips) : Fin 3 → Nat :=
  let c2_i32_169 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v300 : BitVec 32 := Scalar.muli c2_i32_169 v39
  let v301 : Index := Scalar.indexCast v300
  let c1_i32_170 : BitVec 32 := 1#32
  let v302 : Index := Scalar.indexCast c1_i32_170
  let c16_171 : Index := 16#32
  ![v301.toNat, 1, 16]
def k0_off36 (k0_t2 : Fin k0_t2_loop.trips) : Fin 3 → Nat :=
  let c2_i32_175 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v309 : BitVec 32 := Scalar.muli c2_i32_175 v39
  let c1_i32_176 : BitVec 32 := 1#32
  let v310 : BitVec 32 := Scalar.addi v309 c1_i32_176
  let v311 : Index := Scalar.indexCast v310
  let c1_i32_177 : BitVec 32 := 1#32
  let v312 : Index := Scalar.indexCast c1_i32_177
  let c16_178 : Index := 16#32
  ![v311.toNat, 1, 16]
def k0_off37 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v320 : Index := Scalar.indexCast v39
  let c160 : Index := 160#32
  ![v320.toNat, 160]
def k0_off38 (k0_t2 : Fin k0_t2_loop.trips) : Fin 3 → Nat :=
  let c2_i32_185 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v328 : BitVec 32 := Scalar.muli c2_i32_185 v39
  let v329 : Index := Scalar.indexCast v328
  let c1_i32_186 : BitVec 32 := 1#32
  let v330 : Index := Scalar.indexCast c1_i32_186
  let c32_187 : Index := 32#32
  ![v329.toNat, 1, 32]
def k0_off39 (k0_t2 : Fin k0_t2_loop.trips) : Fin 3 → Nat :=
  let c2_i32_191 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v337 : BitVec 32 := Scalar.muli c2_i32_191 v39
  let c1_i32_192 : BitVec 32 := 1#32
  let v338 : BitVec 32 := Scalar.addi v337 c1_i32_192
  let v339 : Index := Scalar.indexCast v338
  let c1_i32_193 : BitVec 32 := 1#32
  let v340 : Index := Scalar.indexCast c1_i32_193
  let c32_194 : Index := 32#32
  ![v339.toNat, 1, 32]
def k0_off40 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v348 : Index := Scalar.indexCast v39
  let c176 : Index := 176#32
  ![v348.toNat, 176]
def k0_off41 (k0_t2 : Fin k0_t2_loop.trips) : Fin 3 → Nat :=
  let c2_i32_201 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v356 : BitVec 32 := Scalar.muli c2_i32_201 v39
  let v357 : Index := Scalar.indexCast v356
  let c1_i32_202 : BitVec 32 := 1#32
  let v358 : Index := Scalar.indexCast c1_i32_202
  let c48_203 : Index := 48#32
  ![v357.toNat, 1, 48]
def k0_off42 (k0_t2 : Fin k0_t2_loop.trips) : Fin 3 → Nat :=
  let c2_i32_207 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v365 : BitVec 32 := Scalar.muli c2_i32_207 v39
  let c1_i32_208 : BitVec 32 := 1#32
  let v366 : BitVec 32 := Scalar.addi v365 c1_i32_208
  let v367 : Index := Scalar.indexCast v366
  let c1_i32_209 : BitVec 32 := 1#32
  let v368 : Index := Scalar.indexCast c1_i32_209
  let c48_210 : Index := 48#32
  ![v367.toNat, 1, 48]
def k0_off43 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v376 : Index := Scalar.indexCast v39
  let c192 : Index := 192#32
  ![v376.toNat, 192]
def k0_off44 (k0_t2 : Fin k0_t2_loop.trips) : Fin 3 → Nat :=
  let c2_i32_217 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v384 : BitVec 32 := Scalar.muli c2_i32_217 v39
  let v385 : Index := Scalar.indexCast v384
  let c1_i32_218 : BitVec 32 := 1#32
  let v386 : Index := Scalar.indexCast c1_i32_218
  let c64_219 : Index := 64#32
  ![v385.toNat, 1, 64]
def k0_off45 (k0_t2 : Fin k0_t2_loop.trips) : Fin 3 → Nat :=
  let c2_i32_223 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v393 : BitVec 32 := Scalar.muli c2_i32_223 v39
  let c1_i32_224 : BitVec 32 := 1#32
  let v394 : BitVec 32 := Scalar.addi v393 c1_i32_224
  let v395 : Index := Scalar.indexCast v394
  let c1_i32_225 : BitVec 32 := 1#32
  let v396 : Index := Scalar.indexCast c1_i32_225
  let c64_226 : Index := 64#32
  ![v395.toNat, 1, 64]
def k0_off46 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v404 : Index := Scalar.indexCast v39
  let c208 : Index := 208#32
  ![v404.toNat, 208]
def k0_off47 (k0_t2 : Fin k0_t2_loop.trips) : Fin 3 → Nat :=
  let c2_i32_233 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v412 : BitVec 32 := Scalar.muli c2_i32_233 v39
  let v413 : Index := Scalar.indexCast v412
  let c1_i32_234 : BitVec 32 := 1#32
  let v414 : Index := Scalar.indexCast c1_i32_234
  let c80_235 : Index := 80#32
  ![v413.toNat, 1, 80]
def k0_off48 (k0_t2 : Fin k0_t2_loop.trips) : Fin 3 → Nat :=
  let c2_i32_239 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v421 : BitVec 32 := Scalar.muli c2_i32_239 v39
  let c1_i32_240 : BitVec 32 := 1#32
  let v422 : BitVec 32 := Scalar.addi v421 c1_i32_240
  let v423 : Index := Scalar.indexCast v422
  let c1_i32_241 : BitVec 32 := 1#32
  let v424 : Index := Scalar.indexCast c1_i32_241
  let c80_242 : Index := 80#32
  ![v423.toNat, 1, 80]
def k0_off49 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v432 : Index := Scalar.indexCast v39
  let c224 : Index := 224#32
  ![v432.toNat, 224]
def k0_off50 (k0_t2 : Fin k0_t2_loop.trips) : Fin 3 → Nat :=
  let c2_i32_249 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v440 : BitVec 32 := Scalar.muli c2_i32_249 v39
  let v441 : Index := Scalar.indexCast v440
  let c1_i32_250 : BitVec 32 := 1#32
  let v442 : Index := Scalar.indexCast c1_i32_250
  let c96_251 : Index := 96#32
  ![v441.toNat, 1, 96]
def k0_off51 (k0_t2 : Fin k0_t2_loop.trips) : Fin 3 → Nat :=
  let c2_i32_255 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v449 : BitVec 32 := Scalar.muli c2_i32_255 v39
  let c1_i32_256 : BitVec 32 := 1#32
  let v450 : BitVec 32 := Scalar.addi v449 c1_i32_256
  let v451 : Index := Scalar.indexCast v450
  let c1_i32_257 : BitVec 32 := 1#32
  let v452 : Index := Scalar.indexCast c1_i32_257
  let c96_258 : Index := 96#32
  ![v451.toNat, 1, 96]
def k0_off52 (k0_t2 : Fin k0_t2_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v460 : Index := Scalar.indexCast v39
  let c240 : Index := 240#32
  ![v460.toNat, 240]
def k0_off53 (k0_t2 : Fin k0_t2_loop.trips) : Fin 3 → Nat :=
  let c2_i32_265 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v468 : BitVec 32 := Scalar.muli c2_i32_265 v39
  let v469 : Index := Scalar.indexCast v468
  let c1_i32_266 : BitVec 32 := 1#32
  let v470 : Index := Scalar.indexCast c1_i32_266
  let c112_267 : Index := 112#32
  ![v469.toNat, 1, 112]
def k0_off54 (k0_t2 : Fin k0_t2_loop.trips) : Fin 3 → Nat :=
  let c2_i32_271 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t2
  let c1_i32_22 : BitVec 32 := 1#32
  let v38 : BitVec 32 := Scalar.muli arg16 c1_i32_22
  let v39 : BitVec 32 := Scalar.addi c0_i32_23 v38
  let v477 : BitVec 32 := Scalar.muli c2_i32_271 v39
  let c1_i32_272 : BitVec 32 := 1#32
  let v478 : BitVec 32 := Scalar.addi v477 c1_i32_272
  let v479 : Index := Scalar.indexCast v478
  let c1_i32_273 : BitVec 32 := 1#32
  let v480 : Index := Scalar.indexCast c1_i32_273
  let c112_274 : Index := 112#32
  ![v479.toNat, 1, 112]
@[reducible] def k0_t3_loop : Scf.Loop 32 :=
  let c0_i32_8 : BitVec 32 := 0#32
  let c96_i32 : BitVec 32 := 96#32
  let v26 : BitVec 32 := Scalar.addi c0_i32_8 c96_i32
  let c1_i32_9 : BitVec 32 := 1#32
  ⟨c0_i32_8, v26, c1_i32_9⟩
def k0_off55 (k0_t3 : Fin k0_t3_loop.trips) : Fin 1 → Nat :=
  let c0_i32_23 : BitVec 32 := 0#32
  let c0_i32_8 : BitVec 32 := 0#32
  let c1_i32_9 : BitVec 32 := 1#32
  let arg16 : BitVec 32 := Scf.iv c0_i32_8 c1_i32_9 k0_t3
  let c1_i32_22 : BitVec 32 := 1#32
  let v38 : BitVec 32 := Scalar.muli arg16 c1_i32_22
  let v39 : BitVec 32 := Scalar.addi c0_i32_23 v38
  let c16_i32 : BitVec 32 := 16#32
  let v40 : BitVec 32 := Scalar.muli v39 c16_i32
  let v41 : Index := Scalar.indexCast v40
  ![v41.toNat]
@[reducible] def k0_t4_loop (v23 : BitVec 32) : Scf.Loop 32 :=
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_19 : BitVec 32 := 1#32
  ⟨c0_i32_17, v37, c1_i32_19⟩

def k0_off56 (v23 : BitVec 32) (k0_t4 : Fin (k0_t4_loop v23).trips) : Fin 2 → Nat :=
  let c0_i32_22 : BitVec 32 := 0#32
  let v41 : Index := Scalar.indexCast c0_i32_22
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32 : BitVec 32 := 16#32
  let v40 : BitVec 32 := Scalar.muli v39 c16_i32
  let v42 : Index := Scalar.indexCast v40
  ![0, v42.toNat]

def k0_chk5 (v48 : IVec S16 32) (v50 : IVec S16 32) (v52 : IVec S16 32) : Prop :=
  (∀ a x, ((![v48, v50, v52] : Fin 3 → IVec S16 32) a x).toNat < S96x2x128.size a)
theorem k0_idx1_inb : ∀ (v48 : IVec S16 32) (v50 : IVec S16 32) (v52 : IVec S16 32) (k0_hw5 : k0_chk5 v48 v50 v52), ∀ a x, ((![v48, v50, v52] : Fin 3 → IVec S16 32) a x).toNat < S96x2x128.size a := fun v48 v50 v52 k0_hw5 => k0_hw5

def k0_chk6 (v58 : IVec S16 32) (v60 : IVec S16 32) (v62 : IVec S16 32) : Prop :=
  (∀ a x, ((![v58, v60, v62] : Fin 3 → IVec S16 32) a x).toNat < S96x2x128.size a)
theorem k0_idx2_inb : ∀ (v58 : IVec S16 32) (v60 : IVec S16 32) (v62 : IVec S16 32) (k0_hw6 : k0_chk6 v58 v60 v62), ∀ a x, ((![v58, v60, v62] : Fin 3 → IVec S16 32) a x).toNat < S96x2x128.size a := fun v58 v60 v62 k0_hw6 => k0_hw6

def k0_chk7 (v68 : IVec S16 32) (v70 : IVec S16 32) (v72 : IVec S16 32) : Prop :=
  (∀ a x, ((![v68, v70, v72] : Fin 3 → IVec S16 32) a x).toNat < S96x2x128.size a)
theorem k0_idx3_inb : ∀ (v68 : IVec S16 32) (v70 : IVec S16 32) (v72 : IVec S16 32) (k0_hw7 : k0_chk7 v68 v70 v72), ∀ a x, ((![v68, v70, v72] : Fin 3 → IVec S16 32) a x).toNat < S96x2x128.size a := fun v68 v70 v72 k0_hw7 => k0_hw7

def k0_chk8 (v78 : IVec S16 32) (v80 : IVec S16 32) (v82 : IVec S16 32) : Prop :=
  (∀ a x, ((![v78, v80, v82] : Fin 3 → IVec S16 32) a x).toNat < S96x2x128.size a)
theorem k0_idx4_inb : ∀ (v78 : IVec S16 32) (v80 : IVec S16 32) (v82 : IVec S16 32) (k0_hw8 : k0_chk8 v78 v80 v82), ∀ a x, ((![v78, v80, v82] : Fin 3 → IVec S16 32) a x).toNat < S96x2x128.size a := fun v78 v80 v82 k0_hw8 => k0_hw8
def k0_off57 (v23 : BitVec 32) (k0_t4 : Fin (k0_t4_loop v23).trips) : Fin 2 → Nat :=
  let c1_i32_38 : BitVec 32 := 1#32
  let v85 : Index := Scalar.indexCast c1_i32_38
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_37 : BitVec 32 := 16#32
  let v84 : BitVec 32 := Scalar.muli v39 c16_i32_37
  let v86 : Index := Scalar.indexCast v84
  ![1, v86.toNat]

def k0_chk9 (v92 : IVec S16 32) (v94 : IVec S16 32) (v96 : IVec S16 32) : Prop :=
  (∀ a x, ((![v92, v94, v96] : Fin 3 → IVec S16 32) a x).toNat < S96x2x128.size a)
theorem k0_idx5_inb : ∀ (v92 : IVec S16 32) (v94 : IVec S16 32) (v96 : IVec S16 32) (k0_hw9 : k0_chk9 v92 v94 v96), ∀ a x, ((![v92, v94, v96] : Fin 3 → IVec S16 32) a x).toNat < S96x2x128.size a := fun v92 v94 v96 k0_hw9 => k0_hw9

def k0_chk10 (v103 : IVec S16 32) (v105 : IVec S16 32) (v107 : IVec S16 32) : Prop :=
  (∀ a x, ((![v103, v105, v107] : Fin 3 → IVec S16 32) a x).toNat < S96x2x128.size a)
theorem k0_idx6_inb : ∀ (v103 : IVec S16 32) (v105 : IVec S16 32) (v107 : IVec S16 32) (k0_hw10 : k0_chk10 v103 v105 v107), ∀ a x, ((![v103, v105, v107] : Fin 3 → IVec S16 32) a x).toNat < S96x2x128.size a := fun v103 v105 v107 k0_hw10 => k0_hw10

def k0_chk11 (v114 : IVec S16 32) (v116 : IVec S16 32) (v118 : IVec S16 32) : Prop :=
  (∀ a x, ((![v114, v116, v118] : Fin 3 → IVec S16 32) a x).toNat < S96x2x128.size a)
theorem k0_idx7_inb : ∀ (v114 : IVec S16 32) (v116 : IVec S16 32) (v118 : IVec S16 32) (k0_hw11 : k0_chk11 v114 v116 v118), ∀ a x, ((![v114, v116, v118] : Fin 3 → IVec S16 32) a x).toNat < S96x2x128.size a := fun v114 v116 v118 k0_hw11 => k0_hw11

def k0_chk12 (v125 : IVec S16 32) (v127 : IVec S16 32) (v129 : IVec S16 32) : Prop :=
  (∀ a x, ((![v125, v127, v129] : Fin 3 → IVec S16 32) a x).toNat < S96x2x128.size a)
theorem k0_idx8_inb : ∀ (v125 : IVec S16 32) (v127 : IVec S16 32) (v129 : IVec S16 32) (k0_hw12 : k0_chk12 v125 v127 v129), ∀ a x, ((![v125, v127, v129] : Fin 3 → IVec S16 32) a x).toNat < S96x2x128.size a := fun v125 v127 v129 k0_hw12 => k0_hw12
def k0_off58 (v23 : BitVec 32) (k0_t4 : Fin (k0_t4_loop v23).trips) : Fin 2 → Nat :=
  let c2_i32_58 : BitVec 32 := 2#32
  let v133 : Index := Scalar.indexCast c2_i32_58
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_57 : BitVec 32 := 16#32
  let v132 : BitVec 32 := Scalar.muli v39 c16_i32_57
  let v134 : Index := Scalar.indexCast v132
  ![2, v134.toNat]

def k0_chk13 (v140 : IVec S16 32) (v142 : IVec S16 32) (v144 : IVec S16 32) : Prop :=
  (∀ a x, ((![v140, v142, v144] : Fin 3 → IVec S16 32) a x).toNat < S96x2x128.size a)
theorem k0_idx9_inb : ∀ (v140 : IVec S16 32) (v142 : IVec S16 32) (v144 : IVec S16 32) (k0_hw13 : k0_chk13 v140 v142 v144), ∀ a x, ((![v140, v142, v144] : Fin 3 → IVec S16 32) a x).toNat < S96x2x128.size a := fun v140 v142 v144 k0_hw13 => k0_hw13

def k0_chk14 (v151 : IVec S16 32) (v153 : IVec S16 32) (v155 : IVec S16 32) : Prop :=
  (∀ a x, ((![v151, v153, v155] : Fin 3 → IVec S16 32) a x).toNat < S96x2x128.size a)
theorem k0_idx10_inb : ∀ (v151 : IVec S16 32) (v153 : IVec S16 32) (v155 : IVec S16 32) (k0_hw14 : k0_chk14 v151 v153 v155), ∀ a x, ((![v151, v153, v155] : Fin 3 → IVec S16 32) a x).toNat < S96x2x128.size a := fun v151 v153 v155 k0_hw14 => k0_hw14

def k0_chk15 (v162 : IVec S16 32) (v164 : IVec S16 32) (v166 : IVec S16 32) : Prop :=
  (∀ a x, ((![v162, v164, v166] : Fin 3 → IVec S16 32) a x).toNat < S96x2x128.size a)
theorem k0_idx11_inb : ∀ (v162 : IVec S16 32) (v164 : IVec S16 32) (v166 : IVec S16 32) (k0_hw15 : k0_chk15 v162 v164 v166), ∀ a x, ((![v162, v164, v166] : Fin 3 → IVec S16 32) a x).toNat < S96x2x128.size a := fun v162 v164 v166 k0_hw15 => k0_hw15

def k0_chk16 (v173 : IVec S16 32) (v175 : IVec S16 32) (v177 : IVec S16 32) : Prop :=
  (∀ a x, ((![v173, v175, v177] : Fin 3 → IVec S16 32) a x).toNat < S96x2x128.size a)
theorem k0_idx12_inb : ∀ (v173 : IVec S16 32) (v175 : IVec S16 32) (v177 : IVec S16 32) (k0_hw16 : k0_chk16 v173 v175 v177), ∀ a x, ((![v173, v175, v177] : Fin 3 → IVec S16 32) a x).toNat < S96x2x128.size a := fun v173 v175 v177 k0_hw16 => k0_hw16
def k0_off59 (v23 : BitVec 32) (k0_t4 : Fin (k0_t4_loop v23).trips) : Fin 2 → Nat :=
  let c3_i32_77 : BitVec 32 := 3#32
  let v181 : Index := Scalar.indexCast c3_i32_77
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_76 : BitVec 32 := 16#32
  let v180 : BitVec 32 := Scalar.muli v39 c16_i32_76
  let v182 : Index := Scalar.indexCast v180
  ![3, v182.toNat]

def k0_chk17 (v188 : IVec S16 32) (v190 : IVec S16 32) (v192 : IVec S16 32) : Prop :=
  (∀ a x, ((![v188, v190, v192] : Fin 3 → IVec S16 32) a x).toNat < S96x2x128.size a)
theorem k0_idx13_inb : ∀ (v188 : IVec S16 32) (v190 : IVec S16 32) (v192 : IVec S16 32) (k0_hw17 : k0_chk17 v188 v190 v192), ∀ a x, ((![v188, v190, v192] : Fin 3 → IVec S16 32) a x).toNat < S96x2x128.size a := fun v188 v190 v192 k0_hw17 => k0_hw17

def k0_chk18 (v199 : IVec S16 32) (v201 : IVec S16 32) (v203 : IVec S16 32) : Prop :=
  (∀ a x, ((![v199, v201, v203] : Fin 3 → IVec S16 32) a x).toNat < S96x2x128.size a)
theorem k0_idx14_inb : ∀ (v199 : IVec S16 32) (v201 : IVec S16 32) (v203 : IVec S16 32) (k0_hw18 : k0_chk18 v199 v201 v203), ∀ a x, ((![v199, v201, v203] : Fin 3 → IVec S16 32) a x).toNat < S96x2x128.size a := fun v199 v201 v203 k0_hw18 => k0_hw18

def k0_chk19 (v210 : IVec S16 32) (v212 : IVec S16 32) (v214 : IVec S16 32) : Prop :=
  (∀ a x, ((![v210, v212, v214] : Fin 3 → IVec S16 32) a x).toNat < S96x2x128.size a)
theorem k0_idx15_inb : ∀ (v210 : IVec S16 32) (v212 : IVec S16 32) (v214 : IVec S16 32) (k0_hw19 : k0_chk19 v210 v212 v214), ∀ a x, ((![v210, v212, v214] : Fin 3 → IVec S16 32) a x).toNat < S96x2x128.size a := fun v210 v212 v214 k0_hw19 => k0_hw19

def k0_chk20 (v221 : IVec S16 32) (v223 : IVec S16 32) (v225 : IVec S16 32) : Prop :=
  (∀ a x, ((![v221, v223, v225] : Fin 3 → IVec S16 32) a x).toNat < S96x2x128.size a)
theorem k0_idx16_inb : ∀ (v221 : IVec S16 32) (v223 : IVec S16 32) (v225 : IVec S16 32) (k0_hw20 : k0_chk20 v221 v223 v225), ∀ a x, ((![v221, v223, v225] : Fin 3 → IVec S16 32) a x).toNat < S96x2x128.size a := fun v221 v223 v225 k0_hw20 => k0_hw20
def k0_off60 (v23 : BitVec 32) (k0_t4 : Fin (k0_t4_loop v23).trips) : Fin 2 → Nat :=
  let c4_i32_96 : BitVec 32 := 4#32
  let v229 : Index := Scalar.indexCast c4_i32_96
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_95 : BitVec 32 := 16#32
  let v228 : BitVec 32 := Scalar.muli v39 c16_i32_95
  let v230 : Index := Scalar.indexCast v228
  ![4, v230.toNat]

def k0_chk21 (v236 : IVec S16 32) (v238 : IVec S16 32) (v240 : IVec S16 32) : Prop :=
  (∀ a x, ((![v236, v238, v240] : Fin 3 → IVec S16 32) a x).toNat < S96x2x128.size a)
theorem k0_idx17_inb : ∀ (v236 : IVec S16 32) (v238 : IVec S16 32) (v240 : IVec S16 32) (k0_hw21 : k0_chk21 v236 v238 v240), ∀ a x, ((![v236, v238, v240] : Fin 3 → IVec S16 32) a x).toNat < S96x2x128.size a := fun v236 v238 v240 k0_hw21 => k0_hw21

def k0_chk22 (v247 : IVec S16 32) (v249 : IVec S16 32) (v251 : IVec S16 32) : Prop :=
  (∀ a x, ((![v247, v249, v251] : Fin 3 → IVec S16 32) a x).toNat < S96x2x128.size a)
theorem k0_idx18_inb : ∀ (v247 : IVec S16 32) (v249 : IVec S16 32) (v251 : IVec S16 32) (k0_hw22 : k0_chk22 v247 v249 v251), ∀ a x, ((![v247, v249, v251] : Fin 3 → IVec S16 32) a x).toNat < S96x2x128.size a := fun v247 v249 v251 k0_hw22 => k0_hw22

def k0_chk23 (v258 : IVec S16 32) (v260 : IVec S16 32) (v262 : IVec S16 32) : Prop :=
  (∀ a x, ((![v258, v260, v262] : Fin 3 → IVec S16 32) a x).toNat < S96x2x128.size a)
theorem k0_idx19_inb : ∀ (v258 : IVec S16 32) (v260 : IVec S16 32) (v262 : IVec S16 32) (k0_hw23 : k0_chk23 v258 v260 v262), ∀ a x, ((![v258, v260, v262] : Fin 3 → IVec S16 32) a x).toNat < S96x2x128.size a := fun v258 v260 v262 k0_hw23 => k0_hw23

def k0_chk24 (v269 : IVec S16 32) (v271 : IVec S16 32) (v273 : IVec S16 32) : Prop :=
  (∀ a x, ((![v269, v271, v273] : Fin 3 → IVec S16 32) a x).toNat < S96x2x128.size a)
theorem k0_idx20_inb : ∀ (v269 : IVec S16 32) (v271 : IVec S16 32) (v273 : IVec S16 32) (k0_hw24 : k0_chk24 v269 v271 v273), ∀ a x, ((![v269, v271, v273] : Fin 3 → IVec S16 32) a x).toNat < S96x2x128.size a := fun v269 v271 v273 k0_hw24 => k0_hw24
def k0_off61 (v23 : BitVec 32) (k0_t4 : Fin (k0_t4_loop v23).trips) : Fin 2 → Nat :=
  let c5_i32_115 : BitVec 32 := 5#32
  let v277 : Index := Scalar.indexCast c5_i32_115
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_114 : BitVec 32 := 16#32
  let v276 : BitVec 32 := Scalar.muli v39 c16_i32_114
  let v278 : Index := Scalar.indexCast v276
  ![5, v278.toNat]

def k0_chk25 (v284 : IVec S16 32) (v286 : IVec S16 32) (v288 : IVec S16 32) : Prop :=
  (∀ a x, ((![v284, v286, v288] : Fin 3 → IVec S16 32) a x).toNat < S96x2x128.size a)
theorem k0_idx21_inb : ∀ (v284 : IVec S16 32) (v286 : IVec S16 32) (v288 : IVec S16 32) (k0_hw25 : k0_chk25 v284 v286 v288), ∀ a x, ((![v284, v286, v288] : Fin 3 → IVec S16 32) a x).toNat < S96x2x128.size a := fun v284 v286 v288 k0_hw25 => k0_hw25

def k0_chk26 (v295 : IVec S16 32) (v297 : IVec S16 32) (v299 : IVec S16 32) : Prop :=
  (∀ a x, ((![v295, v297, v299] : Fin 3 → IVec S16 32) a x).toNat < S96x2x128.size a)
theorem k0_idx22_inb : ∀ (v295 : IVec S16 32) (v297 : IVec S16 32) (v299 : IVec S16 32) (k0_hw26 : k0_chk26 v295 v297 v299), ∀ a x, ((![v295, v297, v299] : Fin 3 → IVec S16 32) a x).toNat < S96x2x128.size a := fun v295 v297 v299 k0_hw26 => k0_hw26

def k0_chk27 (v306 : IVec S16 32) (v308 : IVec S16 32) (v310 : IVec S16 32) : Prop :=
  (∀ a x, ((![v306, v308, v310] : Fin 3 → IVec S16 32) a x).toNat < S96x2x128.size a)
theorem k0_idx23_inb : ∀ (v306 : IVec S16 32) (v308 : IVec S16 32) (v310 : IVec S16 32) (k0_hw27 : k0_chk27 v306 v308 v310), ∀ a x, ((![v306, v308, v310] : Fin 3 → IVec S16 32) a x).toNat < S96x2x128.size a := fun v306 v308 v310 k0_hw27 => k0_hw27

def k0_chk28 (v317 : IVec S16 32) (v319 : IVec S16 32) (v321 : IVec S16 32) : Prop :=
  (∀ a x, ((![v317, v319, v321] : Fin 3 → IVec S16 32) a x).toNat < S96x2x128.size a)
theorem k0_idx24_inb : ∀ (v317 : IVec S16 32) (v319 : IVec S16 32) (v321 : IVec S16 32) (k0_hw28 : k0_chk28 v317 v319 v321), ∀ a x, ((![v317, v319, v321] : Fin 3 → IVec S16 32) a x).toNat < S96x2x128.size a := fun v317 v319 v321 k0_hw28 => k0_hw28
def k0_off62 (v23 : BitVec 32) (k0_t4 : Fin (k0_t4_loop v23).trips) : Fin 2 → Nat :=
  let c6_i32_133 : BitVec 32 := 6#32
  let v325 : Index := Scalar.indexCast c6_i32_133
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_132 : BitVec 32 := 16#32
  let v324 : BitVec 32 := Scalar.muli v39 c16_i32_132
  let v326 : Index := Scalar.indexCast v324
  ![6, v326.toNat]

def k0_chk29 (v332 : IVec S16 32) (v334 : IVec S16 32) (v336 : IVec S16 32) : Prop :=
  (∀ a x, ((![v332, v334, v336] : Fin 3 → IVec S16 32) a x).toNat < S96x2x128.size a)
theorem k0_idx25_inb : ∀ (v332 : IVec S16 32) (v334 : IVec S16 32) (v336 : IVec S16 32) (k0_hw29 : k0_chk29 v332 v334 v336), ∀ a x, ((![v332, v334, v336] : Fin 3 → IVec S16 32) a x).toNat < S96x2x128.size a := fun v332 v334 v336 k0_hw29 => k0_hw29

def k0_chk30 (v343 : IVec S16 32) (v345 : IVec S16 32) (v347 : IVec S16 32) : Prop :=
  (∀ a x, ((![v343, v345, v347] : Fin 3 → IVec S16 32) a x).toNat < S96x2x128.size a)
theorem k0_idx26_inb : ∀ (v343 : IVec S16 32) (v345 : IVec S16 32) (v347 : IVec S16 32) (k0_hw30 : k0_chk30 v343 v345 v347), ∀ a x, ((![v343, v345, v347] : Fin 3 → IVec S16 32) a x).toNat < S96x2x128.size a := fun v343 v345 v347 k0_hw30 => k0_hw30

def k0_chk31 (v354 : IVec S16 32) (v356 : IVec S16 32) (v358 : IVec S16 32) : Prop :=
  (∀ a x, ((![v354, v356, v358] : Fin 3 → IVec S16 32) a x).toNat < S96x2x128.size a)
theorem k0_idx27_inb : ∀ (v354 : IVec S16 32) (v356 : IVec S16 32) (v358 : IVec S16 32) (k0_hw31 : k0_chk31 v354 v356 v358), ∀ a x, ((![v354, v356, v358] : Fin 3 → IVec S16 32) a x).toNat < S96x2x128.size a := fun v354 v356 v358 k0_hw31 => k0_hw31

def k0_chk32 (v365 : IVec S16 32) (v367 : IVec S16 32) (v369 : IVec S16 32) : Prop :=
  (∀ a x, ((![v365, v367, v369] : Fin 3 → IVec S16 32) a x).toNat < S96x2x128.size a)
theorem k0_idx28_inb : ∀ (v365 : IVec S16 32) (v367 : IVec S16 32) (v369 : IVec S16 32) (k0_hw32 : k0_chk32 v365 v367 v369), ∀ a x, ((![v365, v367, v369] : Fin 3 → IVec S16 32) a x).toNat < S96x2x128.size a := fun v365 v367 v369 k0_hw32 => k0_hw32
def k0_off63 (v23 : BitVec 32) (k0_t4 : Fin (k0_t4_loop v23).trips) : Fin 2 → Nat :=
  let c7_i32_152 : BitVec 32 := 7#32
  let v373 : Index := Scalar.indexCast c7_i32_152
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_151 : BitVec 32 := 16#32
  let v372 : BitVec 32 := Scalar.muli v39 c16_i32_151
  let v374 : Index := Scalar.indexCast v372
  ![7, v374.toNat]

def k0_chk33 (v380 : IVec S16 32) (v382 : IVec S16 32) (v384 : IVec S16 32) : Prop :=
  (∀ a x, ((![v380, v382, v384] : Fin 3 → IVec S16 32) a x).toNat < S96x2x128.size a)
theorem k0_idx29_inb : ∀ (v380 : IVec S16 32) (v382 : IVec S16 32) (v384 : IVec S16 32) (k0_hw33 : k0_chk33 v380 v382 v384), ∀ a x, ((![v380, v382, v384] : Fin 3 → IVec S16 32) a x).toNat < S96x2x128.size a := fun v380 v382 v384 k0_hw33 => k0_hw33

def k0_chk34 (v391 : IVec S16 32) (v393 : IVec S16 32) (v395 : IVec S16 32) : Prop :=
  (∀ a x, ((![v391, v393, v395] : Fin 3 → IVec S16 32) a x).toNat < S96x2x128.size a)
theorem k0_idx30_inb : ∀ (v391 : IVec S16 32) (v393 : IVec S16 32) (v395 : IVec S16 32) (k0_hw34 : k0_chk34 v391 v393 v395), ∀ a x, ((![v391, v393, v395] : Fin 3 → IVec S16 32) a x).toNat < S96x2x128.size a := fun v391 v393 v395 k0_hw34 => k0_hw34

def k0_chk35 (v402 : IVec S16 32) (v404 : IVec S16 32) (v406 : IVec S16 32) : Prop :=
  (∀ a x, ((![v402, v404, v406] : Fin 3 → IVec S16 32) a x).toNat < S96x2x128.size a)
theorem k0_idx31_inb : ∀ (v402 : IVec S16 32) (v404 : IVec S16 32) (v406 : IVec S16 32) (k0_hw35 : k0_chk35 v402 v404 v406), ∀ a x, ((![v402, v404, v406] : Fin 3 → IVec S16 32) a x).toNat < S96x2x128.size a := fun v402 v404 v406 k0_hw35 => k0_hw35

def k0_chk36 (v413 : IVec S16 32) (v415 : IVec S16 32) (v417 : IVec S16 32) : Prop :=
  (∀ a x, ((![v413, v415, v417] : Fin 3 → IVec S16 32) a x).toNat < S96x2x128.size a)
theorem k0_idx32_inb : ∀ (v413 : IVec S16 32) (v415 : IVec S16 32) (v417 : IVec S16 32) (k0_hw36 : k0_chk36 v413 v415 v417), ∀ a x, ((![v413, v415, v417] : Fin 3 → IVec S16 32) a x).toNat < S96x2x128.size a := fun v413 v415 v417 k0_hw36 => k0_hw36
def k0_off64 (v23 : BitVec 32) (k0_t4 : Fin (k0_t4_loop v23).trips) : Fin 2 → Nat :=
  let c8_i32_170 : BitVec 32 := 8#32
  let v421 : Index := Scalar.indexCast c8_i32_170
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_169 : BitVec 32 := 16#32
  let v420 : BitVec 32 := Scalar.muli v39 c16_i32_169
  let v422 : Index := Scalar.indexCast v420
  ![8, v422.toNat]

def k0_chk37 (v428 : IVec S16 32) (v430 : IVec S16 32) (v432 : IVec S16 32) : Prop :=
  (∀ a x, ((![v428, v430, v432] : Fin 3 → IVec S16 32) a x).toNat < S96x2x128.size a)
theorem k0_idx33_inb : ∀ (v428 : IVec S16 32) (v430 : IVec S16 32) (v432 : IVec S16 32) (k0_hw37 : k0_chk37 v428 v430 v432), ∀ a x, ((![v428, v430, v432] : Fin 3 → IVec S16 32) a x).toNat < S96x2x128.size a := fun v428 v430 v432 k0_hw37 => k0_hw37

def k0_chk38 (v439 : IVec S16 32) (v441 : IVec S16 32) (v443 : IVec S16 32) : Prop :=
  (∀ a x, ((![v439, v441, v443] : Fin 3 → IVec S16 32) a x).toNat < S96x2x128.size a)
theorem k0_idx34_inb : ∀ (v439 : IVec S16 32) (v441 : IVec S16 32) (v443 : IVec S16 32) (k0_hw38 : k0_chk38 v439 v441 v443), ∀ a x, ((![v439, v441, v443] : Fin 3 → IVec S16 32) a x).toNat < S96x2x128.size a := fun v439 v441 v443 k0_hw38 => k0_hw38

def k0_chk39 (v450 : IVec S16 32) (v452 : IVec S16 32) (v454 : IVec S16 32) : Prop :=
  (∀ a x, ((![v450, v452, v454] : Fin 3 → IVec S16 32) a x).toNat < S96x2x128.size a)
theorem k0_idx35_inb : ∀ (v450 : IVec S16 32) (v452 : IVec S16 32) (v454 : IVec S16 32) (k0_hw39 : k0_chk39 v450 v452 v454), ∀ a x, ((![v450, v452, v454] : Fin 3 → IVec S16 32) a x).toNat < S96x2x128.size a := fun v450 v452 v454 k0_hw39 => k0_hw39

def k0_chk40 (v461 : IVec S16 32) (v463 : IVec S16 32) (v465 : IVec S16 32) : Prop :=
  (∀ a x, ((![v461, v463, v465] : Fin 3 → IVec S16 32) a x).toNat < S96x2x128.size a)
theorem k0_idx36_inb : ∀ (v461 : IVec S16 32) (v463 : IVec S16 32) (v465 : IVec S16 32) (k0_hw40 : k0_chk40 v461 v463 v465), ∀ a x, ((![v461, v463, v465] : Fin 3 → IVec S16 32) a x).toNat < S96x2x128.size a := fun v461 v463 v465 k0_hw40 => k0_hw40
def k0_off65 (v23 : BitVec 32) (k0_t4 : Fin (k0_t4_loop v23).trips) : Fin 2 → Nat :=
  let c9_i32_188 : BitVec 32 := 9#32
  let v469 : Index := Scalar.indexCast c9_i32_188
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_187 : BitVec 32 := 16#32
  let v468 : BitVec 32 := Scalar.muli v39 c16_i32_187
  let v470 : Index := Scalar.indexCast v468
  ![9, v470.toNat]

def k0_chk41 (v476 : IVec S16 32) (v478 : IVec S16 32) (v480 : IVec S16 32) : Prop :=
  (∀ a x, ((![v476, v478, v480] : Fin 3 → IVec S16 32) a x).toNat < S96x2x128.size a)
theorem k0_idx37_inb : ∀ (v476 : IVec S16 32) (v478 : IVec S16 32) (v480 : IVec S16 32) (k0_hw41 : k0_chk41 v476 v478 v480), ∀ a x, ((![v476, v478, v480] : Fin 3 → IVec S16 32) a x).toNat < S96x2x128.size a := fun v476 v478 v480 k0_hw41 => k0_hw41

def k0_chk42 (v487 : IVec S16 32) (v489 : IVec S16 32) (v491 : IVec S16 32) : Prop :=
  (∀ a x, ((![v487, v489, v491] : Fin 3 → IVec S16 32) a x).toNat < S96x2x128.size a)
theorem k0_idx38_inb : ∀ (v487 : IVec S16 32) (v489 : IVec S16 32) (v491 : IVec S16 32) (k0_hw42 : k0_chk42 v487 v489 v491), ∀ a x, ((![v487, v489, v491] : Fin 3 → IVec S16 32) a x).toNat < S96x2x128.size a := fun v487 v489 v491 k0_hw42 => k0_hw42

def k0_chk43 (v498 : IVec S16 32) (v500 : IVec S16 32) (v502 : IVec S16 32) : Prop :=
  (∀ a x, ((![v498, v500, v502] : Fin 3 → IVec S16 32) a x).toNat < S96x2x128.size a)
theorem k0_idx39_inb : ∀ (v498 : IVec S16 32) (v500 : IVec S16 32) (v502 : IVec S16 32) (k0_hw43 : k0_chk43 v498 v500 v502), ∀ a x, ((![v498, v500, v502] : Fin 3 → IVec S16 32) a x).toNat < S96x2x128.size a := fun v498 v500 v502 k0_hw43 => k0_hw43

def k0_chk44 (v509 : IVec S16 32) (v511 : IVec S16 32) (v513 : IVec S16 32) : Prop :=
  (∀ a x, ((![v509, v511, v513] : Fin 3 → IVec S16 32) a x).toNat < S96x2x128.size a)
theorem k0_idx40_inb : ∀ (v509 : IVec S16 32) (v511 : IVec S16 32) (v513 : IVec S16 32) (k0_hw44 : k0_chk44 v509 v511 v513), ∀ a x, ((![v509, v511, v513] : Fin 3 → IVec S16 32) a x).toNat < S96x2x128.size a := fun v509 v511 v513 k0_hw44 => k0_hw44
def k0_off66 (v23 : BitVec 32) (k0_t4 : Fin (k0_t4_loop v23).trips) : Fin 2 → Nat :=
  let c10_i32_206 : BitVec 32 := 10#32
  let v517 : Index := Scalar.indexCast c10_i32_206
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_205 : BitVec 32 := 16#32
  let v516 : BitVec 32 := Scalar.muli v39 c16_i32_205
  let v518 : Index := Scalar.indexCast v516
  ![10, v518.toNat]

def k0_chk45 (v524 : IVec S16 32) (v526 : IVec S16 32) (v528 : IVec S16 32) : Prop :=
  (∀ a x, ((![v524, v526, v528] : Fin 3 → IVec S16 32) a x).toNat < S96x2x128.size a)
theorem k0_idx41_inb : ∀ (v524 : IVec S16 32) (v526 : IVec S16 32) (v528 : IVec S16 32) (k0_hw45 : k0_chk45 v524 v526 v528), ∀ a x, ((![v524, v526, v528] : Fin 3 → IVec S16 32) a x).toNat < S96x2x128.size a := fun v524 v526 v528 k0_hw45 => k0_hw45

def k0_chk46 (v535 : IVec S16 32) (v537 : IVec S16 32) (v539 : IVec S16 32) : Prop :=
  (∀ a x, ((![v535, v537, v539] : Fin 3 → IVec S16 32) a x).toNat < S96x2x128.size a)
theorem k0_idx42_inb : ∀ (v535 : IVec S16 32) (v537 : IVec S16 32) (v539 : IVec S16 32) (k0_hw46 : k0_chk46 v535 v537 v539), ∀ a x, ((![v535, v537, v539] : Fin 3 → IVec S16 32) a x).toNat < S96x2x128.size a := fun v535 v537 v539 k0_hw46 => k0_hw46

def k0_chk47 (v546 : IVec S16 32) (v548 : IVec S16 32) (v550 : IVec S16 32) : Prop :=
  (∀ a x, ((![v546, v548, v550] : Fin 3 → IVec S16 32) a x).toNat < S96x2x128.size a)
theorem k0_idx43_inb : ∀ (v546 : IVec S16 32) (v548 : IVec S16 32) (v550 : IVec S16 32) (k0_hw47 : k0_chk47 v546 v548 v550), ∀ a x, ((![v546, v548, v550] : Fin 3 → IVec S16 32) a x).toNat < S96x2x128.size a := fun v546 v548 v550 k0_hw47 => k0_hw47

def k0_chk48 (v557 : IVec S16 32) (v559 : IVec S16 32) (v561 : IVec S16 32) : Prop :=
  (∀ a x, ((![v557, v559, v561] : Fin 3 → IVec S16 32) a x).toNat < S96x2x128.size a)
theorem k0_idx44_inb : ∀ (v557 : IVec S16 32) (v559 : IVec S16 32) (v561 : IVec S16 32) (k0_hw48 : k0_chk48 v557 v559 v561), ∀ a x, ((![v557, v559, v561] : Fin 3 → IVec S16 32) a x).toNat < S96x2x128.size a := fun v557 v559 v561 k0_hw48 => k0_hw48
def k0_off67 (v23 : BitVec 32) (k0_t4 : Fin (k0_t4_loop v23).trips) : Fin 2 → Nat :=
  let c11_i32_224 : BitVec 32 := 11#32
  let v565 : Index := Scalar.indexCast c11_i32_224
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_223 : BitVec 32 := 16#32
  let v564 : BitVec 32 := Scalar.muli v39 c16_i32_223
  let v566 : Index := Scalar.indexCast v564
  ![11, v566.toNat]

def k0_chk49 (v572 : IVec S16 32) (v574 : IVec S16 32) (v576 : IVec S16 32) : Prop :=
  (∀ a x, ((![v572, v574, v576] : Fin 3 → IVec S16 32) a x).toNat < S96x2x128.size a)
theorem k0_idx45_inb : ∀ (v572 : IVec S16 32) (v574 : IVec S16 32) (v576 : IVec S16 32) (k0_hw49 : k0_chk49 v572 v574 v576), ∀ a x, ((![v572, v574, v576] : Fin 3 → IVec S16 32) a x).toNat < S96x2x128.size a := fun v572 v574 v576 k0_hw49 => k0_hw49

def k0_chk50 (v583 : IVec S16 32) (v585 : IVec S16 32) (v587 : IVec S16 32) : Prop :=
  (∀ a x, ((![v583, v585, v587] : Fin 3 → IVec S16 32) a x).toNat < S96x2x128.size a)
theorem k0_idx46_inb : ∀ (v583 : IVec S16 32) (v585 : IVec S16 32) (v587 : IVec S16 32) (k0_hw50 : k0_chk50 v583 v585 v587), ∀ a x, ((![v583, v585, v587] : Fin 3 → IVec S16 32) a x).toNat < S96x2x128.size a := fun v583 v585 v587 k0_hw50 => k0_hw50

def k0_chk51 (v594 : IVec S16 32) (v596 : IVec S16 32) (v598 : IVec S16 32) : Prop :=
  (∀ a x, ((![v594, v596, v598] : Fin 3 → IVec S16 32) a x).toNat < S96x2x128.size a)
theorem k0_idx47_inb : ∀ (v594 : IVec S16 32) (v596 : IVec S16 32) (v598 : IVec S16 32) (k0_hw51 : k0_chk51 v594 v596 v598), ∀ a x, ((![v594, v596, v598] : Fin 3 → IVec S16 32) a x).toNat < S96x2x128.size a := fun v594 v596 v598 k0_hw51 => k0_hw51

def k0_chk52 (v605 : IVec S16 32) (v607 : IVec S16 32) (v609 : IVec S16 32) : Prop :=
  (∀ a x, ((![v605, v607, v609] : Fin 3 → IVec S16 32) a x).toNat < S96x2x128.size a)
theorem k0_idx48_inb : ∀ (v605 : IVec S16 32) (v607 : IVec S16 32) (v609 : IVec S16 32) (k0_hw52 : k0_chk52 v605 v607 v609), ∀ a x, ((![v605, v607, v609] : Fin 3 → IVec S16 32) a x).toNat < S96x2x128.size a := fun v605 v607 v609 k0_hw52 => k0_hw52
def k0_off68 (v23 : BitVec 32) (k0_t4 : Fin (k0_t4_loop v23).trips) : Fin 2 → Nat :=
  let c12_i32_242 : BitVec 32 := 12#32
  let v613 : Index := Scalar.indexCast c12_i32_242
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_241 : BitVec 32 := 16#32
  let v612 : BitVec 32 := Scalar.muli v39 c16_i32_241
  let v614 : Index := Scalar.indexCast v612
  ![12, v614.toNat]

def k0_chk53 (v620 : IVec S16 32) (v622 : IVec S16 32) (v624 : IVec S16 32) : Prop :=
  (∀ a x, ((![v620, v622, v624] : Fin 3 → IVec S16 32) a x).toNat < S96x2x128.size a)
theorem k0_idx49_inb : ∀ (v620 : IVec S16 32) (v622 : IVec S16 32) (v624 : IVec S16 32) (k0_hw53 : k0_chk53 v620 v622 v624), ∀ a x, ((![v620, v622, v624] : Fin 3 → IVec S16 32) a x).toNat < S96x2x128.size a := fun v620 v622 v624 k0_hw53 => k0_hw53

def k0_chk54 (v631 : IVec S16 32) (v633 : IVec S16 32) (v635 : IVec S16 32) : Prop :=
  (∀ a x, ((![v631, v633, v635] : Fin 3 → IVec S16 32) a x).toNat < S96x2x128.size a)
theorem k0_idx50_inb : ∀ (v631 : IVec S16 32) (v633 : IVec S16 32) (v635 : IVec S16 32) (k0_hw54 : k0_chk54 v631 v633 v635), ∀ a x, ((![v631, v633, v635] : Fin 3 → IVec S16 32) a x).toNat < S96x2x128.size a := fun v631 v633 v635 k0_hw54 => k0_hw54

def k0_chk55 (v642 : IVec S16 32) (v644 : IVec S16 32) (v646 : IVec S16 32) : Prop :=
  (∀ a x, ((![v642, v644, v646] : Fin 3 → IVec S16 32) a x).toNat < S96x2x128.size a)
theorem k0_idx51_inb : ∀ (v642 : IVec S16 32) (v644 : IVec S16 32) (v646 : IVec S16 32) (k0_hw55 : k0_chk55 v642 v644 v646), ∀ a x, ((![v642, v644, v646] : Fin 3 → IVec S16 32) a x).toNat < S96x2x128.size a := fun v642 v644 v646 k0_hw55 => k0_hw55

def k0_chk56 (v653 : IVec S16 32) (v655 : IVec S16 32) (v657 : IVec S16 32) : Prop :=
  (∀ a x, ((![v653, v655, v657] : Fin 3 → IVec S16 32) a x).toNat < S96x2x128.size a)
theorem k0_idx52_inb : ∀ (v653 : IVec S16 32) (v655 : IVec S16 32) (v657 : IVec S16 32) (k0_hw56 : k0_chk56 v653 v655 v657), ∀ a x, ((![v653, v655, v657] : Fin 3 → IVec S16 32) a x).toNat < S96x2x128.size a := fun v653 v655 v657 k0_hw56 => k0_hw56
def k0_off69 (v23 : BitVec 32) (k0_t4 : Fin (k0_t4_loop v23).trips) : Fin 2 → Nat :=
  let c13_i32_261 : BitVec 32 := 13#32
  let v661 : Index := Scalar.indexCast c13_i32_261
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_260 : BitVec 32 := 16#32
  let v660 : BitVec 32 := Scalar.muli v39 c16_i32_260
  let v662 : Index := Scalar.indexCast v660
  ![13, v662.toNat]

def k0_chk57 (v668 : IVec S16 32) (v670 : IVec S16 32) (v672 : IVec S16 32) : Prop :=
  (∀ a x, ((![v668, v670, v672] : Fin 3 → IVec S16 32) a x).toNat < S96x2x128.size a)
theorem k0_idx53_inb : ∀ (v668 : IVec S16 32) (v670 : IVec S16 32) (v672 : IVec S16 32) (k0_hw57 : k0_chk57 v668 v670 v672), ∀ a x, ((![v668, v670, v672] : Fin 3 → IVec S16 32) a x).toNat < S96x2x128.size a := fun v668 v670 v672 k0_hw57 => k0_hw57

def k0_chk58 (v679 : IVec S16 32) (v681 : IVec S16 32) (v683 : IVec S16 32) : Prop :=
  (∀ a x, ((![v679, v681, v683] : Fin 3 → IVec S16 32) a x).toNat < S96x2x128.size a)
theorem k0_idx54_inb : ∀ (v679 : IVec S16 32) (v681 : IVec S16 32) (v683 : IVec S16 32) (k0_hw58 : k0_chk58 v679 v681 v683), ∀ a x, ((![v679, v681, v683] : Fin 3 → IVec S16 32) a x).toNat < S96x2x128.size a := fun v679 v681 v683 k0_hw58 => k0_hw58

def k0_chk59 (v690 : IVec S16 32) (v692 : IVec S16 32) (v694 : IVec S16 32) : Prop :=
  (∀ a x, ((![v690, v692, v694] : Fin 3 → IVec S16 32) a x).toNat < S96x2x128.size a)
theorem k0_idx55_inb : ∀ (v690 : IVec S16 32) (v692 : IVec S16 32) (v694 : IVec S16 32) (k0_hw59 : k0_chk59 v690 v692 v694), ∀ a x, ((![v690, v692, v694] : Fin 3 → IVec S16 32) a x).toNat < S96x2x128.size a := fun v690 v692 v694 k0_hw59 => k0_hw59

def k0_chk60 (v701 : IVec S16 32) (v703 : IVec S16 32) (v705 : IVec S16 32) : Prop :=
  (∀ a x, ((![v701, v703, v705] : Fin 3 → IVec S16 32) a x).toNat < S96x2x128.size a)
theorem k0_idx56_inb : ∀ (v701 : IVec S16 32) (v703 : IVec S16 32) (v705 : IVec S16 32) (k0_hw60 : k0_chk60 v701 v703 v705), ∀ a x, ((![v701, v703, v705] : Fin 3 → IVec S16 32) a x).toNat < S96x2x128.size a := fun v701 v703 v705 k0_hw60 => k0_hw60
def k0_off70 (v23 : BitVec 32) (k0_t4 : Fin (k0_t4_loop v23).trips) : Fin 2 → Nat :=
  let c14_i32_279 : BitVec 32 := 14#32
  let v709 : Index := Scalar.indexCast c14_i32_279
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_278 : BitVec 32 := 16#32
  let v708 : BitVec 32 := Scalar.muli v39 c16_i32_278
  let v710 : Index := Scalar.indexCast v708
  ![14, v710.toNat]

def k0_chk61 (v716 : IVec S16 32) (v718 : IVec S16 32) (v720 : IVec S16 32) : Prop :=
  (∀ a x, ((![v716, v718, v720] : Fin 3 → IVec S16 32) a x).toNat < S96x2x128.size a)
theorem k0_idx57_inb : ∀ (v716 : IVec S16 32) (v718 : IVec S16 32) (v720 : IVec S16 32) (k0_hw61 : k0_chk61 v716 v718 v720), ∀ a x, ((![v716, v718, v720] : Fin 3 → IVec S16 32) a x).toNat < S96x2x128.size a := fun v716 v718 v720 k0_hw61 => k0_hw61

def k0_chk62 (v727 : IVec S16 32) (v729 : IVec S16 32) (v731 : IVec S16 32) : Prop :=
  (∀ a x, ((![v727, v729, v731] : Fin 3 → IVec S16 32) a x).toNat < S96x2x128.size a)
theorem k0_idx58_inb : ∀ (v727 : IVec S16 32) (v729 : IVec S16 32) (v731 : IVec S16 32) (k0_hw62 : k0_chk62 v727 v729 v731), ∀ a x, ((![v727, v729, v731] : Fin 3 → IVec S16 32) a x).toNat < S96x2x128.size a := fun v727 v729 v731 k0_hw62 => k0_hw62

def k0_chk63 (v738 : IVec S16 32) (v740 : IVec S16 32) (v742 : IVec S16 32) : Prop :=
  (∀ a x, ((![v738, v740, v742] : Fin 3 → IVec S16 32) a x).toNat < S96x2x128.size a)
theorem k0_idx59_inb : ∀ (v738 : IVec S16 32) (v740 : IVec S16 32) (v742 : IVec S16 32) (k0_hw63 : k0_chk63 v738 v740 v742), ∀ a x, ((![v738, v740, v742] : Fin 3 → IVec S16 32) a x).toNat < S96x2x128.size a := fun v738 v740 v742 k0_hw63 => k0_hw63

def k0_chk64 (v749 : IVec S16 32) (v751 : IVec S16 32) (v753 : IVec S16 32) : Prop :=
  (∀ a x, ((![v749, v751, v753] : Fin 3 → IVec S16 32) a x).toNat < S96x2x128.size a)
theorem k0_idx60_inb : ∀ (v749 : IVec S16 32) (v751 : IVec S16 32) (v753 : IVec S16 32) (k0_hw64 : k0_chk64 v749 v751 v753), ∀ a x, ((![v749, v751, v753] : Fin 3 → IVec S16 32) a x).toNat < S96x2x128.size a := fun v749 v751 v753 k0_hw64 => k0_hw64
def k0_off71 (v23 : BitVec 32) (k0_t4 : Fin (k0_t4_loop v23).trips) : Fin 2 → Nat :=
  let c15_i32_297 : BitVec 32 := 15#32
  let v757 : Index := Scalar.indexCast c15_i32_297
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_296 : BitVec 32 := 16#32
  let v756 : BitVec 32 := Scalar.muli v39 c16_i32_296
  let v758 : Index := Scalar.indexCast v756
  ![15, v758.toNat]

def k0_chk65 (v764 : IVec S16 32) (v766 : IVec S16 32) (v768 : IVec S16 32) : Prop :=
  (∀ a x, ((![v764, v766, v768] : Fin 3 → IVec S16 32) a x).toNat < S96x2x128.size a)
theorem k0_idx61_inb : ∀ (v764 : IVec S16 32) (v766 : IVec S16 32) (v768 : IVec S16 32) (k0_hw65 : k0_chk65 v764 v766 v768), ∀ a x, ((![v764, v766, v768] : Fin 3 → IVec S16 32) a x).toNat < S96x2x128.size a := fun v764 v766 v768 k0_hw65 => k0_hw65

def k0_chk66 (v775 : IVec S16 32) (v777 : IVec S16 32) (v779 : IVec S16 32) : Prop :=
  (∀ a x, ((![v775, v777, v779] : Fin 3 → IVec S16 32) a x).toNat < S96x2x128.size a)
theorem k0_idx62_inb : ∀ (v775 : IVec S16 32) (v777 : IVec S16 32) (v779 : IVec S16 32) (k0_hw66 : k0_chk66 v775 v777 v779), ∀ a x, ((![v775, v777, v779] : Fin 3 → IVec S16 32) a x).toNat < S96x2x128.size a := fun v775 v777 v779 k0_hw66 => k0_hw66

def k0_chk67 (v786 : IVec S16 32) (v788 : IVec S16 32) (v790 : IVec S16 32) : Prop :=
  (∀ a x, ((![v786, v788, v790] : Fin 3 → IVec S16 32) a x).toNat < S96x2x128.size a)
theorem k0_idx63_inb : ∀ (v786 : IVec S16 32) (v788 : IVec S16 32) (v790 : IVec S16 32) (k0_hw67 : k0_chk67 v786 v788 v790), ∀ a x, ((![v786, v788, v790] : Fin 3 → IVec S16 32) a x).toNat < S96x2x128.size a := fun v786 v788 v790 k0_hw67 => k0_hw67

def k0_chk68 (v797 : IVec S16 32) (v799 : IVec S16 32) (v801 : IVec S16 32) : Prop :=
  (∀ a x, ((![v797, v799, v801] : Fin 3 → IVec S16 32) a x).toNat < S96x2x128.size a)
theorem k0_idx64_inb : ∀ (v797 : IVec S16 32) (v799 : IVec S16 32) (v801 : IVec S16 32) (k0_hw68 : k0_chk68 v797 v799 v801), ∀ a x, ((![v797, v799, v801] : Fin 3 → IVec S16 32) a x).toNat < S96x2x128.size a := fun v797 v799 v801 k0_hw68 => k0_hw68
def k0_off72 (v23 : BitVec 32) (k0_t4 : Fin (k0_t4_loop v23).trips) : Fin 2 → Nat :=
  let c16_i32_315 : BitVec 32 := 16#32
  let v805 : Index := Scalar.indexCast c16_i32_315
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_314 : BitVec 32 := 16#32
  let v804 : BitVec 32 := Scalar.muli v39 c16_i32_314
  let v806 : Index := Scalar.indexCast v804
  ![16, v806.toNat]

def k0_chk69 (v812 : IVec S16 32) (v814 : IVec S16 32) (v816 : IVec S16 32) : Prop :=
  (∀ a x, ((![v812, v814, v816] : Fin 3 → IVec S16 32) a x).toNat < S96x2x128.size a)
theorem k0_idx65_inb : ∀ (v812 : IVec S16 32) (v814 : IVec S16 32) (v816 : IVec S16 32) (k0_hw69 : k0_chk69 v812 v814 v816), ∀ a x, ((![v812, v814, v816] : Fin 3 → IVec S16 32) a x).toNat < S96x2x128.size a := fun v812 v814 v816 k0_hw69 => k0_hw69

def k0_chk70 (v823 : IVec S16 32) (v825 : IVec S16 32) (v827 : IVec S16 32) : Prop :=
  (∀ a x, ((![v823, v825, v827] : Fin 3 → IVec S16 32) a x).toNat < S96x2x128.size a)
theorem k0_idx66_inb : ∀ (v823 : IVec S16 32) (v825 : IVec S16 32) (v827 : IVec S16 32) (k0_hw70 : k0_chk70 v823 v825 v827), ∀ a x, ((![v823, v825, v827] : Fin 3 → IVec S16 32) a x).toNat < S96x2x128.size a := fun v823 v825 v827 k0_hw70 => k0_hw70

def k0_chk71 (v834 : IVec S16 32) (v836 : IVec S16 32) (v838 : IVec S16 32) : Prop :=
  (∀ a x, ((![v834, v836, v838] : Fin 3 → IVec S16 32) a x).toNat < S96x2x128.size a)
theorem k0_idx67_inb : ∀ (v834 : IVec S16 32) (v836 : IVec S16 32) (v838 : IVec S16 32) (k0_hw71 : k0_chk71 v834 v836 v838), ∀ a x, ((![v834, v836, v838] : Fin 3 → IVec S16 32) a x).toNat < S96x2x128.size a := fun v834 v836 v838 k0_hw71 => k0_hw71

def k0_chk72 (v845 : IVec S16 32) (v847 : IVec S16 32) (v849 : IVec S16 32) : Prop :=
  (∀ a x, ((![v845, v847, v849] : Fin 3 → IVec S16 32) a x).toNat < S96x2x128.size a)
theorem k0_idx68_inb : ∀ (v845 : IVec S16 32) (v847 : IVec S16 32) (v849 : IVec S16 32) (k0_hw72 : k0_chk72 v845 v847 v849), ∀ a x, ((![v845, v847, v849] : Fin 3 → IVec S16 32) a x).toNat < S96x2x128.size a := fun v845 v847 v849 k0_hw72 => k0_hw72
def k0_off73 (v23 : BitVec 32) (k0_t4 : Fin (k0_t4_loop v23).trips) : Fin 2 → Nat :=
  let c17_i32_333 : BitVec 32 := 17#32
  let v853 : Index := Scalar.indexCast c17_i32_333
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_332 : BitVec 32 := 16#32
  let v852 : BitVec 32 := Scalar.muli v39 c16_i32_332
  let v854 : Index := Scalar.indexCast v852
  ![17, v854.toNat]

def k0_chk73 (v860 : IVec S16 32) (v862 : IVec S16 32) (v864 : IVec S16 32) : Prop :=
  (∀ a x, ((![v860, v862, v864] : Fin 3 → IVec S16 32) a x).toNat < S96x2x128.size a)
theorem k0_idx69_inb : ∀ (v860 : IVec S16 32) (v862 : IVec S16 32) (v864 : IVec S16 32) (k0_hw73 : k0_chk73 v860 v862 v864), ∀ a x, ((![v860, v862, v864] : Fin 3 → IVec S16 32) a x).toNat < S96x2x128.size a := fun v860 v862 v864 k0_hw73 => k0_hw73

def k0_chk74 (v871 : IVec S16 32) (v873 : IVec S16 32) (v875 : IVec S16 32) : Prop :=
  (∀ a x, ((![v871, v873, v875] : Fin 3 → IVec S16 32) a x).toNat < S96x2x128.size a)
theorem k0_idx70_inb : ∀ (v871 : IVec S16 32) (v873 : IVec S16 32) (v875 : IVec S16 32) (k0_hw74 : k0_chk74 v871 v873 v875), ∀ a x, ((![v871, v873, v875] : Fin 3 → IVec S16 32) a x).toNat < S96x2x128.size a := fun v871 v873 v875 k0_hw74 => k0_hw74

def k0_chk75 (v882 : IVec S16 32) (v884 : IVec S16 32) (v886 : IVec S16 32) : Prop :=
  (∀ a x, ((![v882, v884, v886] : Fin 3 → IVec S16 32) a x).toNat < S96x2x128.size a)
theorem k0_idx71_inb : ∀ (v882 : IVec S16 32) (v884 : IVec S16 32) (v886 : IVec S16 32) (k0_hw75 : k0_chk75 v882 v884 v886), ∀ a x, ((![v882, v884, v886] : Fin 3 → IVec S16 32) a x).toNat < S96x2x128.size a := fun v882 v884 v886 k0_hw75 => k0_hw75

def k0_chk76 (v893 : IVec S16 32) (v895 : IVec S16 32) (v897 : IVec S16 32) : Prop :=
  (∀ a x, ((![v893, v895, v897] : Fin 3 → IVec S16 32) a x).toNat < S96x2x128.size a)
theorem k0_idx72_inb : ∀ (v893 : IVec S16 32) (v895 : IVec S16 32) (v897 : IVec S16 32) (k0_hw76 : k0_chk76 v893 v895 v897), ∀ a x, ((![v893, v895, v897] : Fin 3 → IVec S16 32) a x).toNat < S96x2x128.size a := fun v893 v895 v897 k0_hw76 => k0_hw76
def k0_off74 (v23 : BitVec 32) (k0_t4 : Fin (k0_t4_loop v23).trips) : Fin 2 → Nat :=
  let c18_i32_351 : BitVec 32 := 18#32
  let v901 : Index := Scalar.indexCast c18_i32_351
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_350 : BitVec 32 := 16#32
  let v900 : BitVec 32 := Scalar.muli v39 c16_i32_350
  let v902 : Index := Scalar.indexCast v900
  ![18, v902.toNat]

def k0_chk77 (v908 : IVec S16 32) (v910 : IVec S16 32) (v912 : IVec S16 32) : Prop :=
  (∀ a x, ((![v908, v910, v912] : Fin 3 → IVec S16 32) a x).toNat < S96x2x128.size a)
theorem k0_idx73_inb : ∀ (v908 : IVec S16 32) (v910 : IVec S16 32) (v912 : IVec S16 32) (k0_hw77 : k0_chk77 v908 v910 v912), ∀ a x, ((![v908, v910, v912] : Fin 3 → IVec S16 32) a x).toNat < S96x2x128.size a := fun v908 v910 v912 k0_hw77 => k0_hw77

def k0_chk78 (v919 : IVec S16 32) (v921 : IVec S16 32) (v923 : IVec S16 32) : Prop :=
  (∀ a x, ((![v919, v921, v923] : Fin 3 → IVec S16 32) a x).toNat < S96x2x128.size a)
theorem k0_idx74_inb : ∀ (v919 : IVec S16 32) (v921 : IVec S16 32) (v923 : IVec S16 32) (k0_hw78 : k0_chk78 v919 v921 v923), ∀ a x, ((![v919, v921, v923] : Fin 3 → IVec S16 32) a x).toNat < S96x2x128.size a := fun v919 v921 v923 k0_hw78 => k0_hw78

def k0_chk79 (v930 : IVec S16 32) (v932 : IVec S16 32) (v934 : IVec S16 32) : Prop :=
  (∀ a x, ((![v930, v932, v934] : Fin 3 → IVec S16 32) a x).toNat < S96x2x128.size a)
theorem k0_idx75_inb : ∀ (v930 : IVec S16 32) (v932 : IVec S16 32) (v934 : IVec S16 32) (k0_hw79 : k0_chk79 v930 v932 v934), ∀ a x, ((![v930, v932, v934] : Fin 3 → IVec S16 32) a x).toNat < S96x2x128.size a := fun v930 v932 v934 k0_hw79 => k0_hw79

def k0_chk80 (v941 : IVec S16 32) (v943 : IVec S16 32) (v945 : IVec S16 32) : Prop :=
  (∀ a x, ((![v941, v943, v945] : Fin 3 → IVec S16 32) a x).toNat < S96x2x128.size a)
theorem k0_idx76_inb : ∀ (v941 : IVec S16 32) (v943 : IVec S16 32) (v945 : IVec S16 32) (k0_hw80 : k0_chk80 v941 v943 v945), ∀ a x, ((![v941, v943, v945] : Fin 3 → IVec S16 32) a x).toNat < S96x2x128.size a := fun v941 v943 v945 k0_hw80 => k0_hw80
def k0_off75 (v23 : BitVec 32) (k0_t4 : Fin (k0_t4_loop v23).trips) : Fin 2 → Nat :=
  let c19_i32_369 : BitVec 32 := 19#32
  let v949 : Index := Scalar.indexCast c19_i32_369
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_368 : BitVec 32 := 16#32
  let v948 : BitVec 32 := Scalar.muli v39 c16_i32_368
  let v950 : Index := Scalar.indexCast v948
  ![19, v950.toNat]

def k0_chk81 (v956 : IVec S16 32) (v958 : IVec S16 32) (v960 : IVec S16 32) : Prop :=
  (∀ a x, ((![v956, v958, v960] : Fin 3 → IVec S16 32) a x).toNat < S96x2x128.size a)
theorem k0_idx77_inb : ∀ (v956 : IVec S16 32) (v958 : IVec S16 32) (v960 : IVec S16 32) (k0_hw81 : k0_chk81 v956 v958 v960), ∀ a x, ((![v956, v958, v960] : Fin 3 → IVec S16 32) a x).toNat < S96x2x128.size a := fun v956 v958 v960 k0_hw81 => k0_hw81

def k0_chk82 (v967 : IVec S16 32) (v969 : IVec S16 32) (v971 : IVec S16 32) : Prop :=
  (∀ a x, ((![v967, v969, v971] : Fin 3 → IVec S16 32) a x).toNat < S96x2x128.size a)
theorem k0_idx78_inb : ∀ (v967 : IVec S16 32) (v969 : IVec S16 32) (v971 : IVec S16 32) (k0_hw82 : k0_chk82 v967 v969 v971), ∀ a x, ((![v967, v969, v971] : Fin 3 → IVec S16 32) a x).toNat < S96x2x128.size a := fun v967 v969 v971 k0_hw82 => k0_hw82

def k0_chk83 (v978 : IVec S16 32) (v980 : IVec S16 32) (v982 : IVec S16 32) : Prop :=
  (∀ a x, ((![v978, v980, v982] : Fin 3 → IVec S16 32) a x).toNat < S96x2x128.size a)
theorem k0_idx79_inb : ∀ (v978 : IVec S16 32) (v980 : IVec S16 32) (v982 : IVec S16 32) (k0_hw83 : k0_chk83 v978 v980 v982), ∀ a x, ((![v978, v980, v982] : Fin 3 → IVec S16 32) a x).toNat < S96x2x128.size a := fun v978 v980 v982 k0_hw83 => k0_hw83

def k0_chk84 (v989 : IVec S16 32) (v991 : IVec S16 32) (v993 : IVec S16 32) : Prop :=
  (∀ a x, ((![v989, v991, v993] : Fin 3 → IVec S16 32) a x).toNat < S96x2x128.size a)
theorem k0_idx80_inb : ∀ (v989 : IVec S16 32) (v991 : IVec S16 32) (v993 : IVec S16 32) (k0_hw84 : k0_chk84 v989 v991 v993), ∀ a x, ((![v989, v991, v993] : Fin 3 → IVec S16 32) a x).toNat < S96x2x128.size a := fun v989 v991 v993 k0_hw84 => k0_hw84
def k0_off76 (v23 : BitVec 32) (k0_t4 : Fin (k0_t4_loop v23).trips) : Fin 2 → Nat :=
  let c20_i32_387 : BitVec 32 := 20#32
  let v997 : Index := Scalar.indexCast c20_i32_387
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_386 : BitVec 32 := 16#32
  let v996 : BitVec 32 := Scalar.muli v39 c16_i32_386
  let v998 : Index := Scalar.indexCast v996
  ![20, v998.toNat]

def k0_chk85 (v1004 : IVec S16 32) (v1006 : IVec S16 32) (v1008 : IVec S16 32) : Prop :=
  (∀ a x, ((![v1004, v1006, v1008] : Fin 3 → IVec S16 32) a x).toNat < S96x2x128.size a)
theorem k0_idx81_inb : ∀ (v1004 : IVec S16 32) (v1006 : IVec S16 32) (v1008 : IVec S16 32) (k0_hw85 : k0_chk85 v1004 v1006 v1008), ∀ a x, ((![v1004, v1006, v1008] : Fin 3 → IVec S16 32) a x).toNat < S96x2x128.size a := fun v1004 v1006 v1008 k0_hw85 => k0_hw85

def k0_chk86 (v1015 : IVec S16 32) (v1017 : IVec S16 32) (v1019 : IVec S16 32) : Prop :=
  (∀ a x, ((![v1015, v1017, v1019] : Fin 3 → IVec S16 32) a x).toNat < S96x2x128.size a)
theorem k0_idx82_inb : ∀ (v1015 : IVec S16 32) (v1017 : IVec S16 32) (v1019 : IVec S16 32) (k0_hw86 : k0_chk86 v1015 v1017 v1019), ∀ a x, ((![v1015, v1017, v1019] : Fin 3 → IVec S16 32) a x).toNat < S96x2x128.size a := fun v1015 v1017 v1019 k0_hw86 => k0_hw86

def k0_chk87 (v1026 : IVec S16 32) (v1028 : IVec S16 32) (v1030 : IVec S16 32) : Prop :=
  (∀ a x, ((![v1026, v1028, v1030] : Fin 3 → IVec S16 32) a x).toNat < S96x2x128.size a)
theorem k0_idx83_inb : ∀ (v1026 : IVec S16 32) (v1028 : IVec S16 32) (v1030 : IVec S16 32) (k0_hw87 : k0_chk87 v1026 v1028 v1030), ∀ a x, ((![v1026, v1028, v1030] : Fin 3 → IVec S16 32) a x).toNat < S96x2x128.size a := fun v1026 v1028 v1030 k0_hw87 => k0_hw87

def k0_chk88 (v1037 : IVec S16 32) (v1039 : IVec S16 32) (v1041 : IVec S16 32) : Prop :=
  (∀ a x, ((![v1037, v1039, v1041] : Fin 3 → IVec S16 32) a x).toNat < S96x2x128.size a)
theorem k0_idx84_inb : ∀ (v1037 : IVec S16 32) (v1039 : IVec S16 32) (v1041 : IVec S16 32) (k0_hw88 : k0_chk88 v1037 v1039 v1041), ∀ a x, ((![v1037, v1039, v1041] : Fin 3 → IVec S16 32) a x).toNat < S96x2x128.size a := fun v1037 v1039 v1041 k0_hw88 => k0_hw88
def k0_off77 (v23 : BitVec 32) (k0_t4 : Fin (k0_t4_loop v23).trips) : Fin 2 → Nat :=
  let c21_i32_405 : BitVec 32 := 21#32
  let v1045 : Index := Scalar.indexCast c21_i32_405
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_404 : BitVec 32 := 16#32
  let v1044 : BitVec 32 := Scalar.muli v39 c16_i32_404
  let v1046 : Index := Scalar.indexCast v1044
  ![21, v1046.toNat]

def k0_chk89 (v1052 : IVec S16 32) (v1054 : IVec S16 32) (v1056 : IVec S16 32) : Prop :=
  (∀ a x, ((![v1052, v1054, v1056] : Fin 3 → IVec S16 32) a x).toNat < S96x2x128.size a)
theorem k0_idx85_inb : ∀ (v1052 : IVec S16 32) (v1054 : IVec S16 32) (v1056 : IVec S16 32) (k0_hw89 : k0_chk89 v1052 v1054 v1056), ∀ a x, ((![v1052, v1054, v1056] : Fin 3 → IVec S16 32) a x).toNat < S96x2x128.size a := fun v1052 v1054 v1056 k0_hw89 => k0_hw89

def k0_chk90 (v1063 : IVec S16 32) (v1065 : IVec S16 32) (v1067 : IVec S16 32) : Prop :=
  (∀ a x, ((![v1063, v1065, v1067] : Fin 3 → IVec S16 32) a x).toNat < S96x2x128.size a)
theorem k0_idx86_inb : ∀ (v1063 : IVec S16 32) (v1065 : IVec S16 32) (v1067 : IVec S16 32) (k0_hw90 : k0_chk90 v1063 v1065 v1067), ∀ a x, ((![v1063, v1065, v1067] : Fin 3 → IVec S16 32) a x).toNat < S96x2x128.size a := fun v1063 v1065 v1067 k0_hw90 => k0_hw90

def k0_chk91 (v1074 : IVec S16 32) (v1076 : IVec S16 32) (v1078 : IVec S16 32) : Prop :=
  (∀ a x, ((![v1074, v1076, v1078] : Fin 3 → IVec S16 32) a x).toNat < S96x2x128.size a)
theorem k0_idx87_inb : ∀ (v1074 : IVec S16 32) (v1076 : IVec S16 32) (v1078 : IVec S16 32) (k0_hw91 : k0_chk91 v1074 v1076 v1078), ∀ a x, ((![v1074, v1076, v1078] : Fin 3 → IVec S16 32) a x).toNat < S96x2x128.size a := fun v1074 v1076 v1078 k0_hw91 => k0_hw91

def k0_chk92 (v1085 : IVec S16 32) (v1087 : IVec S16 32) (v1089 : IVec S16 32) : Prop :=
  (∀ a x, ((![v1085, v1087, v1089] : Fin 3 → IVec S16 32) a x).toNat < S96x2x128.size a)
theorem k0_idx88_inb : ∀ (v1085 : IVec S16 32) (v1087 : IVec S16 32) (v1089 : IVec S16 32) (k0_hw92 : k0_chk92 v1085 v1087 v1089), ∀ a x, ((![v1085, v1087, v1089] : Fin 3 → IVec S16 32) a x).toNat < S96x2x128.size a := fun v1085 v1087 v1089 k0_hw92 => k0_hw92
def k0_off78 (v23 : BitVec 32) (k0_t4 : Fin (k0_t4_loop v23).trips) : Fin 2 → Nat :=
  let c22_i32_423 : BitVec 32 := 22#32
  let v1093 : Index := Scalar.indexCast c22_i32_423
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_422 : BitVec 32 := 16#32
  let v1092 : BitVec 32 := Scalar.muli v39 c16_i32_422
  let v1094 : Index := Scalar.indexCast v1092
  ![22, v1094.toNat]

def k0_chk93 (v1100 : IVec S16 32) (v1102 : IVec S16 32) (v1104 : IVec S16 32) : Prop :=
  (∀ a x, ((![v1100, v1102, v1104] : Fin 3 → IVec S16 32) a x).toNat < S96x2x128.size a)
theorem k0_idx89_inb : ∀ (v1100 : IVec S16 32) (v1102 : IVec S16 32) (v1104 : IVec S16 32) (k0_hw93 : k0_chk93 v1100 v1102 v1104), ∀ a x, ((![v1100, v1102, v1104] : Fin 3 → IVec S16 32) a x).toNat < S96x2x128.size a := fun v1100 v1102 v1104 k0_hw93 => k0_hw93

def k0_chk94 (v1111 : IVec S16 32) (v1113 : IVec S16 32) (v1115 : IVec S16 32) : Prop :=
  (∀ a x, ((![v1111, v1113, v1115] : Fin 3 → IVec S16 32) a x).toNat < S96x2x128.size a)
theorem k0_idx90_inb : ∀ (v1111 : IVec S16 32) (v1113 : IVec S16 32) (v1115 : IVec S16 32) (k0_hw94 : k0_chk94 v1111 v1113 v1115), ∀ a x, ((![v1111, v1113, v1115] : Fin 3 → IVec S16 32) a x).toNat < S96x2x128.size a := fun v1111 v1113 v1115 k0_hw94 => k0_hw94

def k0_chk95 (v1122 : IVec S16 32) (v1124 : IVec S16 32) (v1126 : IVec S16 32) : Prop :=
  (∀ a x, ((![v1122, v1124, v1126] : Fin 3 → IVec S16 32) a x).toNat < S96x2x128.size a)
theorem k0_idx91_inb : ∀ (v1122 : IVec S16 32) (v1124 : IVec S16 32) (v1126 : IVec S16 32) (k0_hw95 : k0_chk95 v1122 v1124 v1126), ∀ a x, ((![v1122, v1124, v1126] : Fin 3 → IVec S16 32) a x).toNat < S96x2x128.size a := fun v1122 v1124 v1126 k0_hw95 => k0_hw95

def k0_chk96 (v1133 : IVec S16 32) (v1135 : IVec S16 32) (v1137 : IVec S16 32) : Prop :=
  (∀ a x, ((![v1133, v1135, v1137] : Fin 3 → IVec S16 32) a x).toNat < S96x2x128.size a)
theorem k0_idx92_inb : ∀ (v1133 : IVec S16 32) (v1135 : IVec S16 32) (v1137 : IVec S16 32) (k0_hw96 : k0_chk96 v1133 v1135 v1137), ∀ a x, ((![v1133, v1135, v1137] : Fin 3 → IVec S16 32) a x).toNat < S96x2x128.size a := fun v1133 v1135 v1137 k0_hw96 => k0_hw96
def k0_off79 (v23 : BitVec 32) (k0_t4 : Fin (k0_t4_loop v23).trips) : Fin 2 → Nat :=
  let c23_i32_441 : BitVec 32 := 23#32
  let v1141 : Index := Scalar.indexCast c23_i32_441
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_440 : BitVec 32 := 16#32
  let v1140 : BitVec 32 := Scalar.muli v39 c16_i32_440
  let v1142 : Index := Scalar.indexCast v1140
  ![23, v1142.toNat]

def k0_chk97 (v1148 : IVec S16 32) (v1150 : IVec S16 32) (v1152 : IVec S16 32) : Prop :=
  (∀ a x, ((![v1148, v1150, v1152] : Fin 3 → IVec S16 32) a x).toNat < S96x2x128.size a)
theorem k0_idx93_inb : ∀ (v1148 : IVec S16 32) (v1150 : IVec S16 32) (v1152 : IVec S16 32) (k0_hw97 : k0_chk97 v1148 v1150 v1152), ∀ a x, ((![v1148, v1150, v1152] : Fin 3 → IVec S16 32) a x).toNat < S96x2x128.size a := fun v1148 v1150 v1152 k0_hw97 => k0_hw97

def k0_chk98 (v1159 : IVec S16 32) (v1161 : IVec S16 32) (v1163 : IVec S16 32) : Prop :=
  (∀ a x, ((![v1159, v1161, v1163] : Fin 3 → IVec S16 32) a x).toNat < S96x2x128.size a)
theorem k0_idx94_inb : ∀ (v1159 : IVec S16 32) (v1161 : IVec S16 32) (v1163 : IVec S16 32) (k0_hw98 : k0_chk98 v1159 v1161 v1163), ∀ a x, ((![v1159, v1161, v1163] : Fin 3 → IVec S16 32) a x).toNat < S96x2x128.size a := fun v1159 v1161 v1163 k0_hw98 => k0_hw98

def k0_chk99 (v1170 : IVec S16 32) (v1172 : IVec S16 32) (v1174 : IVec S16 32) : Prop :=
  (∀ a x, ((![v1170, v1172, v1174] : Fin 3 → IVec S16 32) a x).toNat < S96x2x128.size a)
theorem k0_idx95_inb : ∀ (v1170 : IVec S16 32) (v1172 : IVec S16 32) (v1174 : IVec S16 32) (k0_hw99 : k0_chk99 v1170 v1172 v1174), ∀ a x, ((![v1170, v1172, v1174] : Fin 3 → IVec S16 32) a x).toNat < S96x2x128.size a := fun v1170 v1172 v1174 k0_hw99 => k0_hw99

def k0_chk100 (v1181 : IVec S16 32) (v1183 : IVec S16 32) (v1185 : IVec S16 32) : Prop :=
  (∀ a x, ((![v1181, v1183, v1185] : Fin 3 → IVec S16 32) a x).toNat < S96x2x128.size a)
theorem k0_idx96_inb : ∀ (v1181 : IVec S16 32) (v1183 : IVec S16 32) (v1185 : IVec S16 32) (k0_hw100 : k0_chk100 v1181 v1183 v1185), ∀ a x, ((![v1181, v1183, v1185] : Fin 3 → IVec S16 32) a x).toNat < S96x2x128.size a := fun v1181 v1183 v1185 k0_hw100 => k0_hw100
def k0_off80 (v23 : BitVec 32) (k0_t4 : Fin (k0_t4_loop v23).trips) : Fin 1 → Nat :=
  let c0_i32_16 : BitVec 32 := 0#32
  let c0_i32_17 : BitVec 32 := 0#32
  let c1_i32_19 : BitVec 32 := 1#32
  let arg16 : BitVec 32 := Scf.iv c0_i32_17 c1_i32_19 k0_t4
  let c1_i32_15 : BitVec 32 := 1#32
  let v38 : BitVec 32 := Scalar.muli arg16 c1_i32_15
  let v39 : BitVec 32 := Scalar.addi c0_i32_16 v38
  let c16_i32_460 : BitVec 32 := 16#32
  let v1198 : BitVec 32 := Scalar.muli v39 c16_i32_460
  let v1199 : Index := Scalar.indexCast v1198
  ![v1199.toNat]
@[reducible] def k0_t5_loop (v23 : BitVec 32) : Scf.Loop 32 :=
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let v34 : BitVec 32 := Scalar.addi c0_i32_17 v33
  let c1_i32_20 : BitVec 32 := 1#32
  ⟨v37, v34, c1_i32_20⟩
def k0_off81 (v23 : BitVec 32) (k0_t5 : Fin (k0_t5_loop v23).trips) : Fin 2 → Nat :=
  let c0_i32_22 : BitVec 32 := 0#32
  let v41 : Index := Scalar.indexCast c0_i32_22
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32 : BitVec 32 := 16#32
  let v40 : BitVec 32 := Scalar.muli v39 c16_i32
  let v42 : Index := Scalar.indexCast v40
  ![0, v42.toNat]

def k0_chk101 (v48 : IVec S16 32) (v50 : IVec S16 32) (v52 : IVec S16 32) : Prop :=
  (∀ a x, ((![v48, v50, v52] : Fin 3 → IVec S16 32) a x).toNat < S96x2x128.size a)
theorem k0_idx97_inb : ∀ (v48 : IVec S16 32) (v50 : IVec S16 32) (v52 : IVec S16 32) (k0_hw101 : k0_chk101 v48 v50 v52), ∀ a x, ((![v48, v50, v52] : Fin 3 → IVec S16 32) a x).toNat < S96x2x128.size a := fun v48 v50 v52 k0_hw101 => k0_hw101

def k0_chk102 (v58 : IVec S16 32) (v60 : IVec S16 32) (v62 : IVec S16 32) : Prop :=
  (∀ a x, ((![v58, v60, v62] : Fin 3 → IVec S16 32) a x).toNat < S96x2x128.size a)
theorem k0_idx98_inb : ∀ (v58 : IVec S16 32) (v60 : IVec S16 32) (v62 : IVec S16 32) (k0_hw102 : k0_chk102 v58 v60 v62), ∀ a x, ((![v58, v60, v62] : Fin 3 → IVec S16 32) a x).toNat < S96x2x128.size a := fun v58 v60 v62 k0_hw102 => k0_hw102

def k0_chk103 (v68 : IVec S16 32) (v70 : IVec S16 32) (v72 : IVec S16 32) : Prop :=
  (∀ a x, ((![v68, v70, v72] : Fin 3 → IVec S16 32) a x).toNat < S96x2x128.size a)
theorem k0_idx99_inb : ∀ (v68 : IVec S16 32) (v70 : IVec S16 32) (v72 : IVec S16 32) (k0_hw103 : k0_chk103 v68 v70 v72), ∀ a x, ((![v68, v70, v72] : Fin 3 → IVec S16 32) a x).toNat < S96x2x128.size a := fun v68 v70 v72 k0_hw103 => k0_hw103

def k0_chk104 (v78 : IVec S16 32) (v80 : IVec S16 32) (v82 : IVec S16 32) : Prop :=
  (∀ a x, ((![v78, v80, v82] : Fin 3 → IVec S16 32) a x).toNat < S96x2x128.size a)
theorem k0_idx100_inb : ∀ (v78 : IVec S16 32) (v80 : IVec S16 32) (v82 : IVec S16 32) (k0_hw104 : k0_chk104 v78 v80 v82), ∀ a x, ((![v78, v80, v82] : Fin 3 → IVec S16 32) a x).toNat < S96x2x128.size a := fun v78 v80 v82 k0_hw104 => k0_hw104
def k0_off82 (v23 : BitVec 32) (k0_t5 : Fin (k0_t5_loop v23).trips) : Fin 2 → Nat :=
  let c1_i32_38 : BitVec 32 := 1#32
  let v85 : Index := Scalar.indexCast c1_i32_38
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_37 : BitVec 32 := 16#32
  let v84 : BitVec 32 := Scalar.muli v39 c16_i32_37
  let v86 : Index := Scalar.indexCast v84
  ![1, v86.toNat]

def k0_chk105 (v92 : IVec S16 32) (v94 : IVec S16 32) (v96 : IVec S16 32) : Prop :=
  (∀ a x, ((![v92, v94, v96] : Fin 3 → IVec S16 32) a x).toNat < S96x2x128.size a)
theorem k0_idx101_inb : ∀ (v92 : IVec S16 32) (v94 : IVec S16 32) (v96 : IVec S16 32) (k0_hw105 : k0_chk105 v92 v94 v96), ∀ a x, ((![v92, v94, v96] : Fin 3 → IVec S16 32) a x).toNat < S96x2x128.size a := fun v92 v94 v96 k0_hw105 => k0_hw105

def k0_chk106 (v103 : IVec S16 32) (v105 : IVec S16 32) (v107 : IVec S16 32) : Prop :=
  (∀ a x, ((![v103, v105, v107] : Fin 3 → IVec S16 32) a x).toNat < S96x2x128.size a)
theorem k0_idx102_inb : ∀ (v103 : IVec S16 32) (v105 : IVec S16 32) (v107 : IVec S16 32) (k0_hw106 : k0_chk106 v103 v105 v107), ∀ a x, ((![v103, v105, v107] : Fin 3 → IVec S16 32) a x).toNat < S96x2x128.size a := fun v103 v105 v107 k0_hw106 => k0_hw106

def k0_chk107 (v114 : IVec S16 32) (v116 : IVec S16 32) (v118 : IVec S16 32) : Prop :=
  (∀ a x, ((![v114, v116, v118] : Fin 3 → IVec S16 32) a x).toNat < S96x2x128.size a)
theorem k0_idx103_inb : ∀ (v114 : IVec S16 32) (v116 : IVec S16 32) (v118 : IVec S16 32) (k0_hw107 : k0_chk107 v114 v116 v118), ∀ a x, ((![v114, v116, v118] : Fin 3 → IVec S16 32) a x).toNat < S96x2x128.size a := fun v114 v116 v118 k0_hw107 => k0_hw107

def k0_chk108 (v125 : IVec S16 32) (v127 : IVec S16 32) (v129 : IVec S16 32) : Prop :=
  (∀ a x, ((![v125, v127, v129] : Fin 3 → IVec S16 32) a x).toNat < S96x2x128.size a)
theorem k0_idx104_inb : ∀ (v125 : IVec S16 32) (v127 : IVec S16 32) (v129 : IVec S16 32) (k0_hw108 : k0_chk108 v125 v127 v129), ∀ a x, ((![v125, v127, v129] : Fin 3 → IVec S16 32) a x).toNat < S96x2x128.size a := fun v125 v127 v129 k0_hw108 => k0_hw108
def k0_off83 (v23 : BitVec 32) (k0_t5 : Fin (k0_t5_loop v23).trips) : Fin 2 → Nat :=
  let c2_i32_58 : BitVec 32 := 2#32
  let v133 : Index := Scalar.indexCast c2_i32_58
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_57 : BitVec 32 := 16#32
  let v132 : BitVec 32 := Scalar.muli v39 c16_i32_57
  let v134 : Index := Scalar.indexCast v132
  ![2, v134.toNat]

def k0_chk109 (v140 : IVec S16 32) (v142 : IVec S16 32) (v144 : IVec S16 32) : Prop :=
  (∀ a x, ((![v140, v142, v144] : Fin 3 → IVec S16 32) a x).toNat < S96x2x128.size a)
theorem k0_idx105_inb : ∀ (v140 : IVec S16 32) (v142 : IVec S16 32) (v144 : IVec S16 32) (k0_hw109 : k0_chk109 v140 v142 v144), ∀ a x, ((![v140, v142, v144] : Fin 3 → IVec S16 32) a x).toNat < S96x2x128.size a := fun v140 v142 v144 k0_hw109 => k0_hw109

def k0_chk110 (v151 : IVec S16 32) (v153 : IVec S16 32) (v155 : IVec S16 32) : Prop :=
  (∀ a x, ((![v151, v153, v155] : Fin 3 → IVec S16 32) a x).toNat < S96x2x128.size a)
theorem k0_idx106_inb : ∀ (v151 : IVec S16 32) (v153 : IVec S16 32) (v155 : IVec S16 32) (k0_hw110 : k0_chk110 v151 v153 v155), ∀ a x, ((![v151, v153, v155] : Fin 3 → IVec S16 32) a x).toNat < S96x2x128.size a := fun v151 v153 v155 k0_hw110 => k0_hw110

def k0_chk111 (v162 : IVec S16 32) (v164 : IVec S16 32) (v166 : IVec S16 32) : Prop :=
  (∀ a x, ((![v162, v164, v166] : Fin 3 → IVec S16 32) a x).toNat < S96x2x128.size a)
theorem k0_idx107_inb : ∀ (v162 : IVec S16 32) (v164 : IVec S16 32) (v166 : IVec S16 32) (k0_hw111 : k0_chk111 v162 v164 v166), ∀ a x, ((![v162, v164, v166] : Fin 3 → IVec S16 32) a x).toNat < S96x2x128.size a := fun v162 v164 v166 k0_hw111 => k0_hw111

def k0_chk112 (v173 : IVec S16 32) (v175 : IVec S16 32) (v177 : IVec S16 32) : Prop :=
  (∀ a x, ((![v173, v175, v177] : Fin 3 → IVec S16 32) a x).toNat < S96x2x128.size a)
theorem k0_idx108_inb : ∀ (v173 : IVec S16 32) (v175 : IVec S16 32) (v177 : IVec S16 32) (k0_hw112 : k0_chk112 v173 v175 v177), ∀ a x, ((![v173, v175, v177] : Fin 3 → IVec S16 32) a x).toNat < S96x2x128.size a := fun v173 v175 v177 k0_hw112 => k0_hw112
def k0_off84 (v23 : BitVec 32) (k0_t5 : Fin (k0_t5_loop v23).trips) : Fin 2 → Nat :=
  let c3_i32_77 : BitVec 32 := 3#32
  let v181 : Index := Scalar.indexCast c3_i32_77
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_76 : BitVec 32 := 16#32
  let v180 : BitVec 32 := Scalar.muli v39 c16_i32_76
  let v182 : Index := Scalar.indexCast v180
  ![3, v182.toNat]

def k0_chk113 (v188 : IVec S16 32) (v190 : IVec S16 32) (v192 : IVec S16 32) : Prop :=
  (∀ a x, ((![v188, v190, v192] : Fin 3 → IVec S16 32) a x).toNat < S96x2x128.size a)
theorem k0_idx109_inb : ∀ (v188 : IVec S16 32) (v190 : IVec S16 32) (v192 : IVec S16 32) (k0_hw113 : k0_chk113 v188 v190 v192), ∀ a x, ((![v188, v190, v192] : Fin 3 → IVec S16 32) a x).toNat < S96x2x128.size a := fun v188 v190 v192 k0_hw113 => k0_hw113

def k0_chk114 (v199 : IVec S16 32) (v201 : IVec S16 32) (v203 : IVec S16 32) : Prop :=
  (∀ a x, ((![v199, v201, v203] : Fin 3 → IVec S16 32) a x).toNat < S96x2x128.size a)
theorem k0_idx110_inb : ∀ (v199 : IVec S16 32) (v201 : IVec S16 32) (v203 : IVec S16 32) (k0_hw114 : k0_chk114 v199 v201 v203), ∀ a x, ((![v199, v201, v203] : Fin 3 → IVec S16 32) a x).toNat < S96x2x128.size a := fun v199 v201 v203 k0_hw114 => k0_hw114

def k0_chk115 (v210 : IVec S16 32) (v212 : IVec S16 32) (v214 : IVec S16 32) : Prop :=
  (∀ a x, ((![v210, v212, v214] : Fin 3 → IVec S16 32) a x).toNat < S96x2x128.size a)
theorem k0_idx111_inb : ∀ (v210 : IVec S16 32) (v212 : IVec S16 32) (v214 : IVec S16 32) (k0_hw115 : k0_chk115 v210 v212 v214), ∀ a x, ((![v210, v212, v214] : Fin 3 → IVec S16 32) a x).toNat < S96x2x128.size a := fun v210 v212 v214 k0_hw115 => k0_hw115

def k0_chk116 (v221 : IVec S16 32) (v223 : IVec S16 32) (v225 : IVec S16 32) : Prop :=
  (∀ a x, ((![v221, v223, v225] : Fin 3 → IVec S16 32) a x).toNat < S96x2x128.size a)
theorem k0_idx112_inb : ∀ (v221 : IVec S16 32) (v223 : IVec S16 32) (v225 : IVec S16 32) (k0_hw116 : k0_chk116 v221 v223 v225), ∀ a x, ((![v221, v223, v225] : Fin 3 → IVec S16 32) a x).toNat < S96x2x128.size a := fun v221 v223 v225 k0_hw116 => k0_hw116
def k0_off85 (v23 : BitVec 32) (k0_t5 : Fin (k0_t5_loop v23).trips) : Fin 2 → Nat :=
  let c4_i32_96 : BitVec 32 := 4#32
  let v229 : Index := Scalar.indexCast c4_i32_96
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_95 : BitVec 32 := 16#32
  let v228 : BitVec 32 := Scalar.muli v39 c16_i32_95
  let v230 : Index := Scalar.indexCast v228
  ![4, v230.toNat]

def k0_chk117 (v236 : IVec S16 32) (v238 : IVec S16 32) (v240 : IVec S16 32) : Prop :=
  (∀ a x, ((![v236, v238, v240] : Fin 3 → IVec S16 32) a x).toNat < S96x2x128.size a)
theorem k0_idx113_inb : ∀ (v236 : IVec S16 32) (v238 : IVec S16 32) (v240 : IVec S16 32) (k0_hw117 : k0_chk117 v236 v238 v240), ∀ a x, ((![v236, v238, v240] : Fin 3 → IVec S16 32) a x).toNat < S96x2x128.size a := fun v236 v238 v240 k0_hw117 => k0_hw117

def k0_chk118 (v247 : IVec S16 32) (v249 : IVec S16 32) (v251 : IVec S16 32) : Prop :=
  (∀ a x, ((![v247, v249, v251] : Fin 3 → IVec S16 32) a x).toNat < S96x2x128.size a)
theorem k0_idx114_inb : ∀ (v247 : IVec S16 32) (v249 : IVec S16 32) (v251 : IVec S16 32) (k0_hw118 : k0_chk118 v247 v249 v251), ∀ a x, ((![v247, v249, v251] : Fin 3 → IVec S16 32) a x).toNat < S96x2x128.size a := fun v247 v249 v251 k0_hw118 => k0_hw118

def k0_chk119 (v258 : IVec S16 32) (v260 : IVec S16 32) (v262 : IVec S16 32) : Prop :=
  (∀ a x, ((![v258, v260, v262] : Fin 3 → IVec S16 32) a x).toNat < S96x2x128.size a)
theorem k0_idx115_inb : ∀ (v258 : IVec S16 32) (v260 : IVec S16 32) (v262 : IVec S16 32) (k0_hw119 : k0_chk119 v258 v260 v262), ∀ a x, ((![v258, v260, v262] : Fin 3 → IVec S16 32) a x).toNat < S96x2x128.size a := fun v258 v260 v262 k0_hw119 => k0_hw119

def k0_chk120 (v269 : IVec S16 32) (v271 : IVec S16 32) (v273 : IVec S16 32) : Prop :=
  (∀ a x, ((![v269, v271, v273] : Fin 3 → IVec S16 32) a x).toNat < S96x2x128.size a)
theorem k0_idx116_inb : ∀ (v269 : IVec S16 32) (v271 : IVec S16 32) (v273 : IVec S16 32) (k0_hw120 : k0_chk120 v269 v271 v273), ∀ a x, ((![v269, v271, v273] : Fin 3 → IVec S16 32) a x).toNat < S96x2x128.size a := fun v269 v271 v273 k0_hw120 => k0_hw120
def k0_off86 (v23 : BitVec 32) (k0_t5 : Fin (k0_t5_loop v23).trips) : Fin 2 → Nat :=
  let c5_i32_115 : BitVec 32 := 5#32
  let v277 : Index := Scalar.indexCast c5_i32_115
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_114 : BitVec 32 := 16#32
  let v276 : BitVec 32 := Scalar.muli v39 c16_i32_114
  let v278 : Index := Scalar.indexCast v276
  ![5, v278.toNat]

def k0_chk121 (v284 : IVec S16 32) (v286 : IVec S16 32) (v288 : IVec S16 32) : Prop :=
  (∀ a x, ((![v284, v286, v288] : Fin 3 → IVec S16 32) a x).toNat < S96x2x128.size a)
theorem k0_idx117_inb : ∀ (v284 : IVec S16 32) (v286 : IVec S16 32) (v288 : IVec S16 32) (k0_hw121 : k0_chk121 v284 v286 v288), ∀ a x, ((![v284, v286, v288] : Fin 3 → IVec S16 32) a x).toNat < S96x2x128.size a := fun v284 v286 v288 k0_hw121 => k0_hw121

def k0_chk122 (v295 : IVec S16 32) (v297 : IVec S16 32) (v299 : IVec S16 32) : Prop :=
  (∀ a x, ((![v295, v297, v299] : Fin 3 → IVec S16 32) a x).toNat < S96x2x128.size a)
theorem k0_idx118_inb : ∀ (v295 : IVec S16 32) (v297 : IVec S16 32) (v299 : IVec S16 32) (k0_hw122 : k0_chk122 v295 v297 v299), ∀ a x, ((![v295, v297, v299] : Fin 3 → IVec S16 32) a x).toNat < S96x2x128.size a := fun v295 v297 v299 k0_hw122 => k0_hw122

def k0_chk123 (v306 : IVec S16 32) (v308 : IVec S16 32) (v310 : IVec S16 32) : Prop :=
  (∀ a x, ((![v306, v308, v310] : Fin 3 → IVec S16 32) a x).toNat < S96x2x128.size a)
theorem k0_idx119_inb : ∀ (v306 : IVec S16 32) (v308 : IVec S16 32) (v310 : IVec S16 32) (k0_hw123 : k0_chk123 v306 v308 v310), ∀ a x, ((![v306, v308, v310] : Fin 3 → IVec S16 32) a x).toNat < S96x2x128.size a := fun v306 v308 v310 k0_hw123 => k0_hw123

def k0_chk124 (v317 : IVec S16 32) (v319 : IVec S16 32) (v321 : IVec S16 32) : Prop :=
  (∀ a x, ((![v317, v319, v321] : Fin 3 → IVec S16 32) a x).toNat < S96x2x128.size a)
theorem k0_idx120_inb : ∀ (v317 : IVec S16 32) (v319 : IVec S16 32) (v321 : IVec S16 32) (k0_hw124 : k0_chk124 v317 v319 v321), ∀ a x, ((![v317, v319, v321] : Fin 3 → IVec S16 32) a x).toNat < S96x2x128.size a := fun v317 v319 v321 k0_hw124 => k0_hw124
def k0_off87 (v23 : BitVec 32) (k0_t5 : Fin (k0_t5_loop v23).trips) : Fin 2 → Nat :=
  let c6_i32_133 : BitVec 32 := 6#32
  let v325 : Index := Scalar.indexCast c6_i32_133
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_132 : BitVec 32 := 16#32
  let v324 : BitVec 32 := Scalar.muli v39 c16_i32_132
  let v326 : Index := Scalar.indexCast v324
  ![6, v326.toNat]

def k0_chk125 (v332 : IVec S16 32) (v334 : IVec S16 32) (v336 : IVec S16 32) : Prop :=
  (∀ a x, ((![v332, v334, v336] : Fin 3 → IVec S16 32) a x).toNat < S96x2x128.size a)
theorem k0_idx121_inb : ∀ (v332 : IVec S16 32) (v334 : IVec S16 32) (v336 : IVec S16 32) (k0_hw125 : k0_chk125 v332 v334 v336), ∀ a x, ((![v332, v334, v336] : Fin 3 → IVec S16 32) a x).toNat < S96x2x128.size a := fun v332 v334 v336 k0_hw125 => k0_hw125

def k0_chk126 (v343 : IVec S16 32) (v345 : IVec S16 32) (v347 : IVec S16 32) : Prop :=
  (∀ a x, ((![v343, v345, v347] : Fin 3 → IVec S16 32) a x).toNat < S96x2x128.size a)
theorem k0_idx122_inb : ∀ (v343 : IVec S16 32) (v345 : IVec S16 32) (v347 : IVec S16 32) (k0_hw126 : k0_chk126 v343 v345 v347), ∀ a x, ((![v343, v345, v347] : Fin 3 → IVec S16 32) a x).toNat < S96x2x128.size a := fun v343 v345 v347 k0_hw126 => k0_hw126

def k0_chk127 (v354 : IVec S16 32) (v356 : IVec S16 32) (v358 : IVec S16 32) : Prop :=
  (∀ a x, ((![v354, v356, v358] : Fin 3 → IVec S16 32) a x).toNat < S96x2x128.size a)
theorem k0_idx123_inb : ∀ (v354 : IVec S16 32) (v356 : IVec S16 32) (v358 : IVec S16 32) (k0_hw127 : k0_chk127 v354 v356 v358), ∀ a x, ((![v354, v356, v358] : Fin 3 → IVec S16 32) a x).toNat < S96x2x128.size a := fun v354 v356 v358 k0_hw127 => k0_hw127

def k0_chk128 (v365 : IVec S16 32) (v367 : IVec S16 32) (v369 : IVec S16 32) : Prop :=
  (∀ a x, ((![v365, v367, v369] : Fin 3 → IVec S16 32) a x).toNat < S96x2x128.size a)
theorem k0_idx124_inb : ∀ (v365 : IVec S16 32) (v367 : IVec S16 32) (v369 : IVec S16 32) (k0_hw128 : k0_chk128 v365 v367 v369), ∀ a x, ((![v365, v367, v369] : Fin 3 → IVec S16 32) a x).toNat < S96x2x128.size a := fun v365 v367 v369 k0_hw128 => k0_hw128
def k0_off88 (v23 : BitVec 32) (k0_t5 : Fin (k0_t5_loop v23).trips) : Fin 2 → Nat :=
  let c7_i32_152 : BitVec 32 := 7#32
  let v373 : Index := Scalar.indexCast c7_i32_152
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_151 : BitVec 32 := 16#32
  let v372 : BitVec 32 := Scalar.muli v39 c16_i32_151
  let v374 : Index := Scalar.indexCast v372
  ![7, v374.toNat]

def k0_chk129 (v380 : IVec S16 32) (v382 : IVec S16 32) (v384 : IVec S16 32) : Prop :=
  (∀ a x, ((![v380, v382, v384] : Fin 3 → IVec S16 32) a x).toNat < S96x2x128.size a)
theorem k0_idx125_inb : ∀ (v380 : IVec S16 32) (v382 : IVec S16 32) (v384 : IVec S16 32) (k0_hw129 : k0_chk129 v380 v382 v384), ∀ a x, ((![v380, v382, v384] : Fin 3 → IVec S16 32) a x).toNat < S96x2x128.size a := fun v380 v382 v384 k0_hw129 => k0_hw129

def k0_chk130 (v391 : IVec S16 32) (v393 : IVec S16 32) (v395 : IVec S16 32) : Prop :=
  (∀ a x, ((![v391, v393, v395] : Fin 3 → IVec S16 32) a x).toNat < S96x2x128.size a)
theorem k0_idx126_inb : ∀ (v391 : IVec S16 32) (v393 : IVec S16 32) (v395 : IVec S16 32) (k0_hw130 : k0_chk130 v391 v393 v395), ∀ a x, ((![v391, v393, v395] : Fin 3 → IVec S16 32) a x).toNat < S96x2x128.size a := fun v391 v393 v395 k0_hw130 => k0_hw130

def k0_chk131 (v402 : IVec S16 32) (v404 : IVec S16 32) (v406 : IVec S16 32) : Prop :=
  (∀ a x, ((![v402, v404, v406] : Fin 3 → IVec S16 32) a x).toNat < S96x2x128.size a)
theorem k0_idx127_inb : ∀ (v402 : IVec S16 32) (v404 : IVec S16 32) (v406 : IVec S16 32) (k0_hw131 : k0_chk131 v402 v404 v406), ∀ a x, ((![v402, v404, v406] : Fin 3 → IVec S16 32) a x).toNat < S96x2x128.size a := fun v402 v404 v406 k0_hw131 => k0_hw131

def k0_chk132 (v413 : IVec S16 32) (v415 : IVec S16 32) (v417 : IVec S16 32) : Prop :=
  (∀ a x, ((![v413, v415, v417] : Fin 3 → IVec S16 32) a x).toNat < S96x2x128.size a)
theorem k0_idx128_inb : ∀ (v413 : IVec S16 32) (v415 : IVec S16 32) (v417 : IVec S16 32) (k0_hw132 : k0_chk132 v413 v415 v417), ∀ a x, ((![v413, v415, v417] : Fin 3 → IVec S16 32) a x).toNat < S96x2x128.size a := fun v413 v415 v417 k0_hw132 => k0_hw132
def k0_off89 (v23 : BitVec 32) (k0_t5 : Fin (k0_t5_loop v23).trips) : Fin 2 → Nat :=
  let c8_i32_170 : BitVec 32 := 8#32
  let v421 : Index := Scalar.indexCast c8_i32_170
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_169 : BitVec 32 := 16#32
  let v420 : BitVec 32 := Scalar.muli v39 c16_i32_169
  let v422 : Index := Scalar.indexCast v420
  ![8, v422.toNat]

def k0_chk133 (v428 : IVec S16 32) (v430 : IVec S16 32) (v432 : IVec S16 32) : Prop :=
  (∀ a x, ((![v428, v430, v432] : Fin 3 → IVec S16 32) a x).toNat < S96x2x128.size a)
theorem k0_idx129_inb : ∀ (v428 : IVec S16 32) (v430 : IVec S16 32) (v432 : IVec S16 32) (k0_hw133 : k0_chk133 v428 v430 v432), ∀ a x, ((![v428, v430, v432] : Fin 3 → IVec S16 32) a x).toNat < S96x2x128.size a := fun v428 v430 v432 k0_hw133 => k0_hw133

def k0_chk134 (v439 : IVec S16 32) (v441 : IVec S16 32) (v443 : IVec S16 32) : Prop :=
  (∀ a x, ((![v439, v441, v443] : Fin 3 → IVec S16 32) a x).toNat < S96x2x128.size a)
theorem k0_idx130_inb : ∀ (v439 : IVec S16 32) (v441 : IVec S16 32) (v443 : IVec S16 32) (k0_hw134 : k0_chk134 v439 v441 v443), ∀ a x, ((![v439, v441, v443] : Fin 3 → IVec S16 32) a x).toNat < S96x2x128.size a := fun v439 v441 v443 k0_hw134 => k0_hw134

def k0_chk135 (v450 : IVec S16 32) (v452 : IVec S16 32) (v454 : IVec S16 32) : Prop :=
  (∀ a x, ((![v450, v452, v454] : Fin 3 → IVec S16 32) a x).toNat < S96x2x128.size a)
theorem k0_idx131_inb : ∀ (v450 : IVec S16 32) (v452 : IVec S16 32) (v454 : IVec S16 32) (k0_hw135 : k0_chk135 v450 v452 v454), ∀ a x, ((![v450, v452, v454] : Fin 3 → IVec S16 32) a x).toNat < S96x2x128.size a := fun v450 v452 v454 k0_hw135 => k0_hw135

def k0_chk136 (v461 : IVec S16 32) (v463 : IVec S16 32) (v465 : IVec S16 32) : Prop :=
  (∀ a x, ((![v461, v463, v465] : Fin 3 → IVec S16 32) a x).toNat < S96x2x128.size a)
theorem k0_idx132_inb : ∀ (v461 : IVec S16 32) (v463 : IVec S16 32) (v465 : IVec S16 32) (k0_hw136 : k0_chk136 v461 v463 v465), ∀ a x, ((![v461, v463, v465] : Fin 3 → IVec S16 32) a x).toNat < S96x2x128.size a := fun v461 v463 v465 k0_hw136 => k0_hw136
def k0_off90 (v23 : BitVec 32) (k0_t5 : Fin (k0_t5_loop v23).trips) : Fin 2 → Nat :=
  let c9_i32_188 : BitVec 32 := 9#32
  let v469 : Index := Scalar.indexCast c9_i32_188
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_187 : BitVec 32 := 16#32
  let v468 : BitVec 32 := Scalar.muli v39 c16_i32_187
  let v470 : Index := Scalar.indexCast v468
  ![9, v470.toNat]

def k0_chk137 (v476 : IVec S16 32) (v478 : IVec S16 32) (v480 : IVec S16 32) : Prop :=
  (∀ a x, ((![v476, v478, v480] : Fin 3 → IVec S16 32) a x).toNat < S96x2x128.size a)
theorem k0_idx133_inb : ∀ (v476 : IVec S16 32) (v478 : IVec S16 32) (v480 : IVec S16 32) (k0_hw137 : k0_chk137 v476 v478 v480), ∀ a x, ((![v476, v478, v480] : Fin 3 → IVec S16 32) a x).toNat < S96x2x128.size a := fun v476 v478 v480 k0_hw137 => k0_hw137

def k0_chk138 (v487 : IVec S16 32) (v489 : IVec S16 32) (v491 : IVec S16 32) : Prop :=
  (∀ a x, ((![v487, v489, v491] : Fin 3 → IVec S16 32) a x).toNat < S96x2x128.size a)
theorem k0_idx134_inb : ∀ (v487 : IVec S16 32) (v489 : IVec S16 32) (v491 : IVec S16 32) (k0_hw138 : k0_chk138 v487 v489 v491), ∀ a x, ((![v487, v489, v491] : Fin 3 → IVec S16 32) a x).toNat < S96x2x128.size a := fun v487 v489 v491 k0_hw138 => k0_hw138

def k0_chk139 (v498 : IVec S16 32) (v500 : IVec S16 32) (v502 : IVec S16 32) : Prop :=
  (∀ a x, ((![v498, v500, v502] : Fin 3 → IVec S16 32) a x).toNat < S96x2x128.size a)
theorem k0_idx135_inb : ∀ (v498 : IVec S16 32) (v500 : IVec S16 32) (v502 : IVec S16 32) (k0_hw139 : k0_chk139 v498 v500 v502), ∀ a x, ((![v498, v500, v502] : Fin 3 → IVec S16 32) a x).toNat < S96x2x128.size a := fun v498 v500 v502 k0_hw139 => k0_hw139

def k0_chk140 (v509 : IVec S16 32) (v511 : IVec S16 32) (v513 : IVec S16 32) : Prop :=
  (∀ a x, ((![v509, v511, v513] : Fin 3 → IVec S16 32) a x).toNat < S96x2x128.size a)
theorem k0_idx136_inb : ∀ (v509 : IVec S16 32) (v511 : IVec S16 32) (v513 : IVec S16 32) (k0_hw140 : k0_chk140 v509 v511 v513), ∀ a x, ((![v509, v511, v513] : Fin 3 → IVec S16 32) a x).toNat < S96x2x128.size a := fun v509 v511 v513 k0_hw140 => k0_hw140
def k0_off91 (v23 : BitVec 32) (k0_t5 : Fin (k0_t5_loop v23).trips) : Fin 2 → Nat :=
  let c10_i32_206 : BitVec 32 := 10#32
  let v517 : Index := Scalar.indexCast c10_i32_206
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_205 : BitVec 32 := 16#32
  let v516 : BitVec 32 := Scalar.muli v39 c16_i32_205
  let v518 : Index := Scalar.indexCast v516
  ![10, v518.toNat]

def k0_chk141 (v524 : IVec S16 32) (v526 : IVec S16 32) (v528 : IVec S16 32) : Prop :=
  (∀ a x, ((![v524, v526, v528] : Fin 3 → IVec S16 32) a x).toNat < S96x2x128.size a)
theorem k0_idx137_inb : ∀ (v524 : IVec S16 32) (v526 : IVec S16 32) (v528 : IVec S16 32) (k0_hw141 : k0_chk141 v524 v526 v528), ∀ a x, ((![v524, v526, v528] : Fin 3 → IVec S16 32) a x).toNat < S96x2x128.size a := fun v524 v526 v528 k0_hw141 => k0_hw141

def k0_chk142 (v535 : IVec S16 32) (v537 : IVec S16 32) (v539 : IVec S16 32) : Prop :=
  (∀ a x, ((![v535, v537, v539] : Fin 3 → IVec S16 32) a x).toNat < S96x2x128.size a)
theorem k0_idx138_inb : ∀ (v535 : IVec S16 32) (v537 : IVec S16 32) (v539 : IVec S16 32) (k0_hw142 : k0_chk142 v535 v537 v539), ∀ a x, ((![v535, v537, v539] : Fin 3 → IVec S16 32) a x).toNat < S96x2x128.size a := fun v535 v537 v539 k0_hw142 => k0_hw142

def k0_chk143 (v546 : IVec S16 32) (v548 : IVec S16 32) (v550 : IVec S16 32) : Prop :=
  (∀ a x, ((![v546, v548, v550] : Fin 3 → IVec S16 32) a x).toNat < S96x2x128.size a)
theorem k0_idx139_inb : ∀ (v546 : IVec S16 32) (v548 : IVec S16 32) (v550 : IVec S16 32) (k0_hw143 : k0_chk143 v546 v548 v550), ∀ a x, ((![v546, v548, v550] : Fin 3 → IVec S16 32) a x).toNat < S96x2x128.size a := fun v546 v548 v550 k0_hw143 => k0_hw143

def k0_chk144 (v557 : IVec S16 32) (v559 : IVec S16 32) (v561 : IVec S16 32) : Prop :=
  (∀ a x, ((![v557, v559, v561] : Fin 3 → IVec S16 32) a x).toNat < S96x2x128.size a)
theorem k0_idx140_inb : ∀ (v557 : IVec S16 32) (v559 : IVec S16 32) (v561 : IVec S16 32) (k0_hw144 : k0_chk144 v557 v559 v561), ∀ a x, ((![v557, v559, v561] : Fin 3 → IVec S16 32) a x).toNat < S96x2x128.size a := fun v557 v559 v561 k0_hw144 => k0_hw144
def k0_off92 (v23 : BitVec 32) (k0_t5 : Fin (k0_t5_loop v23).trips) : Fin 2 → Nat :=
  let c11_i32_224 : BitVec 32 := 11#32
  let v565 : Index := Scalar.indexCast c11_i32_224
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_223 : BitVec 32 := 16#32
  let v564 : BitVec 32 := Scalar.muli v39 c16_i32_223
  let v566 : Index := Scalar.indexCast v564
  ![11, v566.toNat]

def k0_chk145 (v572 : IVec S16 32) (v574 : IVec S16 32) (v576 : IVec S16 32) : Prop :=
  (∀ a x, ((![v572, v574, v576] : Fin 3 → IVec S16 32) a x).toNat < S96x2x128.size a)
theorem k0_idx141_inb : ∀ (v572 : IVec S16 32) (v574 : IVec S16 32) (v576 : IVec S16 32) (k0_hw145 : k0_chk145 v572 v574 v576), ∀ a x, ((![v572, v574, v576] : Fin 3 → IVec S16 32) a x).toNat < S96x2x128.size a := fun v572 v574 v576 k0_hw145 => k0_hw145

def k0_chk146 (v583 : IVec S16 32) (v585 : IVec S16 32) (v587 : IVec S16 32) : Prop :=
  (∀ a x, ((![v583, v585, v587] : Fin 3 → IVec S16 32) a x).toNat < S96x2x128.size a)
theorem k0_idx142_inb : ∀ (v583 : IVec S16 32) (v585 : IVec S16 32) (v587 : IVec S16 32) (k0_hw146 : k0_chk146 v583 v585 v587), ∀ a x, ((![v583, v585, v587] : Fin 3 → IVec S16 32) a x).toNat < S96x2x128.size a := fun v583 v585 v587 k0_hw146 => k0_hw146

def k0_chk147 (v594 : IVec S16 32) (v596 : IVec S16 32) (v598 : IVec S16 32) : Prop :=
  (∀ a x, ((![v594, v596, v598] : Fin 3 → IVec S16 32) a x).toNat < S96x2x128.size a)
theorem k0_idx143_inb : ∀ (v594 : IVec S16 32) (v596 : IVec S16 32) (v598 : IVec S16 32) (k0_hw147 : k0_chk147 v594 v596 v598), ∀ a x, ((![v594, v596, v598] : Fin 3 → IVec S16 32) a x).toNat < S96x2x128.size a := fun v594 v596 v598 k0_hw147 => k0_hw147

def k0_chk148 (v605 : IVec S16 32) (v607 : IVec S16 32) (v609 : IVec S16 32) : Prop :=
  (∀ a x, ((![v605, v607, v609] : Fin 3 → IVec S16 32) a x).toNat < S96x2x128.size a)
theorem k0_idx144_inb : ∀ (v605 : IVec S16 32) (v607 : IVec S16 32) (v609 : IVec S16 32) (k0_hw148 : k0_chk148 v605 v607 v609), ∀ a x, ((![v605, v607, v609] : Fin 3 → IVec S16 32) a x).toNat < S96x2x128.size a := fun v605 v607 v609 k0_hw148 => k0_hw148
def k0_off93 (v23 : BitVec 32) (k0_t5 : Fin (k0_t5_loop v23).trips) : Fin 2 → Nat :=
  let c12_i32_242 : BitVec 32 := 12#32
  let v613 : Index := Scalar.indexCast c12_i32_242
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_241 : BitVec 32 := 16#32
  let v612 : BitVec 32 := Scalar.muli v39 c16_i32_241
  let v614 : Index := Scalar.indexCast v612
  ![12, v614.toNat]

def k0_chk149 (v620 : IVec S16 32) (v622 : IVec S16 32) (v624 : IVec S16 32) : Prop :=
  (∀ a x, ((![v620, v622, v624] : Fin 3 → IVec S16 32) a x).toNat < S96x2x128.size a)
theorem k0_idx145_inb : ∀ (v620 : IVec S16 32) (v622 : IVec S16 32) (v624 : IVec S16 32) (k0_hw149 : k0_chk149 v620 v622 v624), ∀ a x, ((![v620, v622, v624] : Fin 3 → IVec S16 32) a x).toNat < S96x2x128.size a := fun v620 v622 v624 k0_hw149 => k0_hw149

def k0_chk150 (v631 : IVec S16 32) (v633 : IVec S16 32) (v635 : IVec S16 32) : Prop :=
  (∀ a x, ((![v631, v633, v635] : Fin 3 → IVec S16 32) a x).toNat < S96x2x128.size a)
theorem k0_idx146_inb : ∀ (v631 : IVec S16 32) (v633 : IVec S16 32) (v635 : IVec S16 32) (k0_hw150 : k0_chk150 v631 v633 v635), ∀ a x, ((![v631, v633, v635] : Fin 3 → IVec S16 32) a x).toNat < S96x2x128.size a := fun v631 v633 v635 k0_hw150 => k0_hw150

def k0_chk151 (v642 : IVec S16 32) (v644 : IVec S16 32) (v646 : IVec S16 32) : Prop :=
  (∀ a x, ((![v642, v644, v646] : Fin 3 → IVec S16 32) a x).toNat < S96x2x128.size a)
theorem k0_idx147_inb : ∀ (v642 : IVec S16 32) (v644 : IVec S16 32) (v646 : IVec S16 32) (k0_hw151 : k0_chk151 v642 v644 v646), ∀ a x, ((![v642, v644, v646] : Fin 3 → IVec S16 32) a x).toNat < S96x2x128.size a := fun v642 v644 v646 k0_hw151 => k0_hw151

def k0_chk152 (v653 : IVec S16 32) (v655 : IVec S16 32) (v657 : IVec S16 32) : Prop :=
  (∀ a x, ((![v653, v655, v657] : Fin 3 → IVec S16 32) a x).toNat < S96x2x128.size a)
theorem k0_idx148_inb : ∀ (v653 : IVec S16 32) (v655 : IVec S16 32) (v657 : IVec S16 32) (k0_hw152 : k0_chk152 v653 v655 v657), ∀ a x, ((![v653, v655, v657] : Fin 3 → IVec S16 32) a x).toNat < S96x2x128.size a := fun v653 v655 v657 k0_hw152 => k0_hw152
def k0_off94 (v23 : BitVec 32) (k0_t5 : Fin (k0_t5_loop v23).trips) : Fin 2 → Nat :=
  let c13_i32_261 : BitVec 32 := 13#32
  let v661 : Index := Scalar.indexCast c13_i32_261
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_260 : BitVec 32 := 16#32
  let v660 : BitVec 32 := Scalar.muli v39 c16_i32_260
  let v662 : Index := Scalar.indexCast v660
  ![13, v662.toNat]

def k0_chk153 (v668 : IVec S16 32) (v670 : IVec S16 32) (v672 : IVec S16 32) : Prop :=
  (∀ a x, ((![v668, v670, v672] : Fin 3 → IVec S16 32) a x).toNat < S96x2x128.size a)
theorem k0_idx149_inb : ∀ (v668 : IVec S16 32) (v670 : IVec S16 32) (v672 : IVec S16 32) (k0_hw153 : k0_chk153 v668 v670 v672), ∀ a x, ((![v668, v670, v672] : Fin 3 → IVec S16 32) a x).toNat < S96x2x128.size a := fun v668 v670 v672 k0_hw153 => k0_hw153

def k0_chk154 (v679 : IVec S16 32) (v681 : IVec S16 32) (v683 : IVec S16 32) : Prop :=
  (∀ a x, ((![v679, v681, v683] : Fin 3 → IVec S16 32) a x).toNat < S96x2x128.size a)
theorem k0_idx150_inb : ∀ (v679 : IVec S16 32) (v681 : IVec S16 32) (v683 : IVec S16 32) (k0_hw154 : k0_chk154 v679 v681 v683), ∀ a x, ((![v679, v681, v683] : Fin 3 → IVec S16 32) a x).toNat < S96x2x128.size a := fun v679 v681 v683 k0_hw154 => k0_hw154

def k0_chk155 (v690 : IVec S16 32) (v692 : IVec S16 32) (v694 : IVec S16 32) : Prop :=
  (∀ a x, ((![v690, v692, v694] : Fin 3 → IVec S16 32) a x).toNat < S96x2x128.size a)
theorem k0_idx151_inb : ∀ (v690 : IVec S16 32) (v692 : IVec S16 32) (v694 : IVec S16 32) (k0_hw155 : k0_chk155 v690 v692 v694), ∀ a x, ((![v690, v692, v694] : Fin 3 → IVec S16 32) a x).toNat < S96x2x128.size a := fun v690 v692 v694 k0_hw155 => k0_hw155

def k0_chk156 (v701 : IVec S16 32) (v703 : IVec S16 32) (v705 : IVec S16 32) : Prop :=
  (∀ a x, ((![v701, v703, v705] : Fin 3 → IVec S16 32) a x).toNat < S96x2x128.size a)
theorem k0_idx152_inb : ∀ (v701 : IVec S16 32) (v703 : IVec S16 32) (v705 : IVec S16 32) (k0_hw156 : k0_chk156 v701 v703 v705), ∀ a x, ((![v701, v703, v705] : Fin 3 → IVec S16 32) a x).toNat < S96x2x128.size a := fun v701 v703 v705 k0_hw156 => k0_hw156
def k0_off95 (v23 : BitVec 32) (k0_t5 : Fin (k0_t5_loop v23).trips) : Fin 2 → Nat :=
  let c14_i32_279 : BitVec 32 := 14#32
  let v709 : Index := Scalar.indexCast c14_i32_279
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_278 : BitVec 32 := 16#32
  let v708 : BitVec 32 := Scalar.muli v39 c16_i32_278
  let v710 : Index := Scalar.indexCast v708
  ![14, v710.toNat]

def k0_chk157 (v716 : IVec S16 32) (v718 : IVec S16 32) (v720 : IVec S16 32) : Prop :=
  (∀ a x, ((![v716, v718, v720] : Fin 3 → IVec S16 32) a x).toNat < S96x2x128.size a)
theorem k0_idx153_inb : ∀ (v716 : IVec S16 32) (v718 : IVec S16 32) (v720 : IVec S16 32) (k0_hw157 : k0_chk157 v716 v718 v720), ∀ a x, ((![v716, v718, v720] : Fin 3 → IVec S16 32) a x).toNat < S96x2x128.size a := fun v716 v718 v720 k0_hw157 => k0_hw157

def k0_chk158 (v727 : IVec S16 32) (v729 : IVec S16 32) (v731 : IVec S16 32) : Prop :=
  (∀ a x, ((![v727, v729, v731] : Fin 3 → IVec S16 32) a x).toNat < S96x2x128.size a)
theorem k0_idx154_inb : ∀ (v727 : IVec S16 32) (v729 : IVec S16 32) (v731 : IVec S16 32) (k0_hw158 : k0_chk158 v727 v729 v731), ∀ a x, ((![v727, v729, v731] : Fin 3 → IVec S16 32) a x).toNat < S96x2x128.size a := fun v727 v729 v731 k0_hw158 => k0_hw158

def k0_chk159 (v738 : IVec S16 32) (v740 : IVec S16 32) (v742 : IVec S16 32) : Prop :=
  (∀ a x, ((![v738, v740, v742] : Fin 3 → IVec S16 32) a x).toNat < S96x2x128.size a)
theorem k0_idx155_inb : ∀ (v738 : IVec S16 32) (v740 : IVec S16 32) (v742 : IVec S16 32) (k0_hw159 : k0_chk159 v738 v740 v742), ∀ a x, ((![v738, v740, v742] : Fin 3 → IVec S16 32) a x).toNat < S96x2x128.size a := fun v738 v740 v742 k0_hw159 => k0_hw159

def k0_chk160 (v749 : IVec S16 32) (v751 : IVec S16 32) (v753 : IVec S16 32) : Prop :=
  (∀ a x, ((![v749, v751, v753] : Fin 3 → IVec S16 32) a x).toNat < S96x2x128.size a)
theorem k0_idx156_inb : ∀ (v749 : IVec S16 32) (v751 : IVec S16 32) (v753 : IVec S16 32) (k0_hw160 : k0_chk160 v749 v751 v753), ∀ a x, ((![v749, v751, v753] : Fin 3 → IVec S16 32) a x).toNat < S96x2x128.size a := fun v749 v751 v753 k0_hw160 => k0_hw160
def k0_off96 (v23 : BitVec 32) (k0_t5 : Fin (k0_t5_loop v23).trips) : Fin 2 → Nat :=
  let c15_i32_297 : BitVec 32 := 15#32
  let v757 : Index := Scalar.indexCast c15_i32_297
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_296 : BitVec 32 := 16#32
  let v756 : BitVec 32 := Scalar.muli v39 c16_i32_296
  let v758 : Index := Scalar.indexCast v756
  ![15, v758.toNat]

def k0_chk161 (v764 : IVec S16 32) (v766 : IVec S16 32) (v768 : IVec S16 32) : Prop :=
  (∀ a x, ((![v764, v766, v768] : Fin 3 → IVec S16 32) a x).toNat < S96x2x128.size a)
theorem k0_idx157_inb : ∀ (v764 : IVec S16 32) (v766 : IVec S16 32) (v768 : IVec S16 32) (k0_hw161 : k0_chk161 v764 v766 v768), ∀ a x, ((![v764, v766, v768] : Fin 3 → IVec S16 32) a x).toNat < S96x2x128.size a := fun v764 v766 v768 k0_hw161 => k0_hw161

def k0_chk162 (v775 : IVec S16 32) (v777 : IVec S16 32) (v779 : IVec S16 32) : Prop :=
  (∀ a x, ((![v775, v777, v779] : Fin 3 → IVec S16 32) a x).toNat < S96x2x128.size a)
theorem k0_idx158_inb : ∀ (v775 : IVec S16 32) (v777 : IVec S16 32) (v779 : IVec S16 32) (k0_hw162 : k0_chk162 v775 v777 v779), ∀ a x, ((![v775, v777, v779] : Fin 3 → IVec S16 32) a x).toNat < S96x2x128.size a := fun v775 v777 v779 k0_hw162 => k0_hw162

def k0_chk163 (v786 : IVec S16 32) (v788 : IVec S16 32) (v790 : IVec S16 32) : Prop :=
  (∀ a x, ((![v786, v788, v790] : Fin 3 → IVec S16 32) a x).toNat < S96x2x128.size a)
theorem k0_idx159_inb : ∀ (v786 : IVec S16 32) (v788 : IVec S16 32) (v790 : IVec S16 32) (k0_hw163 : k0_chk163 v786 v788 v790), ∀ a x, ((![v786, v788, v790] : Fin 3 → IVec S16 32) a x).toNat < S96x2x128.size a := fun v786 v788 v790 k0_hw163 => k0_hw163

def k0_chk164 (v797 : IVec S16 32) (v799 : IVec S16 32) (v801 : IVec S16 32) : Prop :=
  (∀ a x, ((![v797, v799, v801] : Fin 3 → IVec S16 32) a x).toNat < S96x2x128.size a)
theorem k0_idx160_inb : ∀ (v797 : IVec S16 32) (v799 : IVec S16 32) (v801 : IVec S16 32) (k0_hw164 : k0_chk164 v797 v799 v801), ∀ a x, ((![v797, v799, v801] : Fin 3 → IVec S16 32) a x).toNat < S96x2x128.size a := fun v797 v799 v801 k0_hw164 => k0_hw164
def k0_off97 (v23 : BitVec 32) (k0_t5 : Fin (k0_t5_loop v23).trips) : Fin 2 → Nat :=
  let c16_i32_315 : BitVec 32 := 16#32
  let v805 : Index := Scalar.indexCast c16_i32_315
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_314 : BitVec 32 := 16#32
  let v804 : BitVec 32 := Scalar.muli v39 c16_i32_314
  let v806 : Index := Scalar.indexCast v804
  ![16, v806.toNat]

def k0_chk165 (v812 : IVec S16 32) (v814 : IVec S16 32) (v816 : IVec S16 32) : Prop :=
  (∀ a x, ((![v812, v814, v816] : Fin 3 → IVec S16 32) a x).toNat < S96x2x128.size a)
theorem k0_idx161_inb : ∀ (v812 : IVec S16 32) (v814 : IVec S16 32) (v816 : IVec S16 32) (k0_hw165 : k0_chk165 v812 v814 v816), ∀ a x, ((![v812, v814, v816] : Fin 3 → IVec S16 32) a x).toNat < S96x2x128.size a := fun v812 v814 v816 k0_hw165 => k0_hw165

def k0_chk166 (v823 : IVec S16 32) (v825 : IVec S16 32) (v827 : IVec S16 32) : Prop :=
  (∀ a x, ((![v823, v825, v827] : Fin 3 → IVec S16 32) a x).toNat < S96x2x128.size a)
theorem k0_idx162_inb : ∀ (v823 : IVec S16 32) (v825 : IVec S16 32) (v827 : IVec S16 32) (k0_hw166 : k0_chk166 v823 v825 v827), ∀ a x, ((![v823, v825, v827] : Fin 3 → IVec S16 32) a x).toNat < S96x2x128.size a := fun v823 v825 v827 k0_hw166 => k0_hw166

def k0_chk167 (v834 : IVec S16 32) (v836 : IVec S16 32) (v838 : IVec S16 32) : Prop :=
  (∀ a x, ((![v834, v836, v838] : Fin 3 → IVec S16 32) a x).toNat < S96x2x128.size a)
theorem k0_idx163_inb : ∀ (v834 : IVec S16 32) (v836 : IVec S16 32) (v838 : IVec S16 32) (k0_hw167 : k0_chk167 v834 v836 v838), ∀ a x, ((![v834, v836, v838] : Fin 3 → IVec S16 32) a x).toNat < S96x2x128.size a := fun v834 v836 v838 k0_hw167 => k0_hw167

def k0_chk168 (v845 : IVec S16 32) (v847 : IVec S16 32) (v849 : IVec S16 32) : Prop :=
  (∀ a x, ((![v845, v847, v849] : Fin 3 → IVec S16 32) a x).toNat < S96x2x128.size a)
theorem k0_idx164_inb : ∀ (v845 : IVec S16 32) (v847 : IVec S16 32) (v849 : IVec S16 32) (k0_hw168 : k0_chk168 v845 v847 v849), ∀ a x, ((![v845, v847, v849] : Fin 3 → IVec S16 32) a x).toNat < S96x2x128.size a := fun v845 v847 v849 k0_hw168 => k0_hw168
def k0_off98 (v23 : BitVec 32) (k0_t5 : Fin (k0_t5_loop v23).trips) : Fin 2 → Nat :=
  let c17_i32_333 : BitVec 32 := 17#32
  let v853 : Index := Scalar.indexCast c17_i32_333
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_332 : BitVec 32 := 16#32
  let v852 : BitVec 32 := Scalar.muli v39 c16_i32_332
  let v854 : Index := Scalar.indexCast v852
  ![17, v854.toNat]

def k0_chk169 (v860 : IVec S16 32) (v862 : IVec S16 32) (v864 : IVec S16 32) : Prop :=
  (∀ a x, ((![v860, v862, v864] : Fin 3 → IVec S16 32) a x).toNat < S96x2x128.size a)
theorem k0_idx165_inb : ∀ (v860 : IVec S16 32) (v862 : IVec S16 32) (v864 : IVec S16 32) (k0_hw169 : k0_chk169 v860 v862 v864), ∀ a x, ((![v860, v862, v864] : Fin 3 → IVec S16 32) a x).toNat < S96x2x128.size a := fun v860 v862 v864 k0_hw169 => k0_hw169

def k0_chk170 (v871 : IVec S16 32) (v873 : IVec S16 32) (v875 : IVec S16 32) : Prop :=
  (∀ a x, ((![v871, v873, v875] : Fin 3 → IVec S16 32) a x).toNat < S96x2x128.size a)
theorem k0_idx166_inb : ∀ (v871 : IVec S16 32) (v873 : IVec S16 32) (v875 : IVec S16 32) (k0_hw170 : k0_chk170 v871 v873 v875), ∀ a x, ((![v871, v873, v875] : Fin 3 → IVec S16 32) a x).toNat < S96x2x128.size a := fun v871 v873 v875 k0_hw170 => k0_hw170

def k0_chk171 (v882 : IVec S16 32) (v884 : IVec S16 32) (v886 : IVec S16 32) : Prop :=
  (∀ a x, ((![v882, v884, v886] : Fin 3 → IVec S16 32) a x).toNat < S96x2x128.size a)
theorem k0_idx167_inb : ∀ (v882 : IVec S16 32) (v884 : IVec S16 32) (v886 : IVec S16 32) (k0_hw171 : k0_chk171 v882 v884 v886), ∀ a x, ((![v882, v884, v886] : Fin 3 → IVec S16 32) a x).toNat < S96x2x128.size a := fun v882 v884 v886 k0_hw171 => k0_hw171

def k0_chk172 (v893 : IVec S16 32) (v895 : IVec S16 32) (v897 : IVec S16 32) : Prop :=
  (∀ a x, ((![v893, v895, v897] : Fin 3 → IVec S16 32) a x).toNat < S96x2x128.size a)
theorem k0_idx168_inb : ∀ (v893 : IVec S16 32) (v895 : IVec S16 32) (v897 : IVec S16 32) (k0_hw172 : k0_chk172 v893 v895 v897), ∀ a x, ((![v893, v895, v897] : Fin 3 → IVec S16 32) a x).toNat < S96x2x128.size a := fun v893 v895 v897 k0_hw172 => k0_hw172
def k0_off99 (v23 : BitVec 32) (k0_t5 : Fin (k0_t5_loop v23).trips) : Fin 2 → Nat :=
  let c18_i32_351 : BitVec 32 := 18#32
  let v901 : Index := Scalar.indexCast c18_i32_351
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_350 : BitVec 32 := 16#32
  let v900 : BitVec 32 := Scalar.muli v39 c16_i32_350
  let v902 : Index := Scalar.indexCast v900
  ![18, v902.toNat]

def k0_chk173 (v908 : IVec S16 32) (v910 : IVec S16 32) (v912 : IVec S16 32) : Prop :=
  (∀ a x, ((![v908, v910, v912] : Fin 3 → IVec S16 32) a x).toNat < S96x2x128.size a)
theorem k0_idx169_inb : ∀ (v908 : IVec S16 32) (v910 : IVec S16 32) (v912 : IVec S16 32) (k0_hw173 : k0_chk173 v908 v910 v912), ∀ a x, ((![v908, v910, v912] : Fin 3 → IVec S16 32) a x).toNat < S96x2x128.size a := fun v908 v910 v912 k0_hw173 => k0_hw173

def k0_chk174 (v919 : IVec S16 32) (v921 : IVec S16 32) (v923 : IVec S16 32) : Prop :=
  (∀ a x, ((![v919, v921, v923] : Fin 3 → IVec S16 32) a x).toNat < S96x2x128.size a)
theorem k0_idx170_inb : ∀ (v919 : IVec S16 32) (v921 : IVec S16 32) (v923 : IVec S16 32) (k0_hw174 : k0_chk174 v919 v921 v923), ∀ a x, ((![v919, v921, v923] : Fin 3 → IVec S16 32) a x).toNat < S96x2x128.size a := fun v919 v921 v923 k0_hw174 => k0_hw174

def k0_chk175 (v930 : IVec S16 32) (v932 : IVec S16 32) (v934 : IVec S16 32) : Prop :=
  (∀ a x, ((![v930, v932, v934] : Fin 3 → IVec S16 32) a x).toNat < S96x2x128.size a)
theorem k0_idx171_inb : ∀ (v930 : IVec S16 32) (v932 : IVec S16 32) (v934 : IVec S16 32) (k0_hw175 : k0_chk175 v930 v932 v934), ∀ a x, ((![v930, v932, v934] : Fin 3 → IVec S16 32) a x).toNat < S96x2x128.size a := fun v930 v932 v934 k0_hw175 => k0_hw175

def k0_chk176 (v941 : IVec S16 32) (v943 : IVec S16 32) (v945 : IVec S16 32) : Prop :=
  (∀ a x, ((![v941, v943, v945] : Fin 3 → IVec S16 32) a x).toNat < S96x2x128.size a)
theorem k0_idx172_inb : ∀ (v941 : IVec S16 32) (v943 : IVec S16 32) (v945 : IVec S16 32) (k0_hw176 : k0_chk176 v941 v943 v945), ∀ a x, ((![v941, v943, v945] : Fin 3 → IVec S16 32) a x).toNat < S96x2x128.size a := fun v941 v943 v945 k0_hw176 => k0_hw176
def k0_off100 (v23 : BitVec 32) (k0_t5 : Fin (k0_t5_loop v23).trips) : Fin 2 → Nat :=
  let c19_i32_369 : BitVec 32 := 19#32
  let v949 : Index := Scalar.indexCast c19_i32_369
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_368 : BitVec 32 := 16#32
  let v948 : BitVec 32 := Scalar.muli v39 c16_i32_368
  let v950 : Index := Scalar.indexCast v948
  ![19, v950.toNat]

def k0_chk177 (v956 : IVec S16 32) (v958 : IVec S16 32) (v960 : IVec S16 32) : Prop :=
  (∀ a x, ((![v956, v958, v960] : Fin 3 → IVec S16 32) a x).toNat < S96x2x128.size a)
theorem k0_idx173_inb : ∀ (v956 : IVec S16 32) (v958 : IVec S16 32) (v960 : IVec S16 32) (k0_hw177 : k0_chk177 v956 v958 v960), ∀ a x, ((![v956, v958, v960] : Fin 3 → IVec S16 32) a x).toNat < S96x2x128.size a := fun v956 v958 v960 k0_hw177 => k0_hw177

def k0_chk178 (v967 : IVec S16 32) (v969 : IVec S16 32) (v971 : IVec S16 32) : Prop :=
  (∀ a x, ((![v967, v969, v971] : Fin 3 → IVec S16 32) a x).toNat < S96x2x128.size a)
theorem k0_idx174_inb : ∀ (v967 : IVec S16 32) (v969 : IVec S16 32) (v971 : IVec S16 32) (k0_hw178 : k0_chk178 v967 v969 v971), ∀ a x, ((![v967, v969, v971] : Fin 3 → IVec S16 32) a x).toNat < S96x2x128.size a := fun v967 v969 v971 k0_hw178 => k0_hw178

def k0_chk179 (v978 : IVec S16 32) (v980 : IVec S16 32) (v982 : IVec S16 32) : Prop :=
  (∀ a x, ((![v978, v980, v982] : Fin 3 → IVec S16 32) a x).toNat < S96x2x128.size a)
theorem k0_idx175_inb : ∀ (v978 : IVec S16 32) (v980 : IVec S16 32) (v982 : IVec S16 32) (k0_hw179 : k0_chk179 v978 v980 v982), ∀ a x, ((![v978, v980, v982] : Fin 3 → IVec S16 32) a x).toNat < S96x2x128.size a := fun v978 v980 v982 k0_hw179 => k0_hw179

def k0_chk180 (v989 : IVec S16 32) (v991 : IVec S16 32) (v993 : IVec S16 32) : Prop :=
  (∀ a x, ((![v989, v991, v993] : Fin 3 → IVec S16 32) a x).toNat < S96x2x128.size a)
theorem k0_idx176_inb : ∀ (v989 : IVec S16 32) (v991 : IVec S16 32) (v993 : IVec S16 32) (k0_hw180 : k0_chk180 v989 v991 v993), ∀ a x, ((![v989, v991, v993] : Fin 3 → IVec S16 32) a x).toNat < S96x2x128.size a := fun v989 v991 v993 k0_hw180 => k0_hw180
def k0_off101 (v23 : BitVec 32) (k0_t5 : Fin (k0_t5_loop v23).trips) : Fin 2 → Nat :=
  let c20_i32_387 : BitVec 32 := 20#32
  let v997 : Index := Scalar.indexCast c20_i32_387
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_386 : BitVec 32 := 16#32
  let v996 : BitVec 32 := Scalar.muli v39 c16_i32_386
  let v998 : Index := Scalar.indexCast v996
  ![20, v998.toNat]

def k0_chk181 (v1004 : IVec S16 32) (v1006 : IVec S16 32) (v1008 : IVec S16 32) : Prop :=
  (∀ a x, ((![v1004, v1006, v1008] : Fin 3 → IVec S16 32) a x).toNat < S96x2x128.size a)
theorem k0_idx177_inb : ∀ (v1004 : IVec S16 32) (v1006 : IVec S16 32) (v1008 : IVec S16 32) (k0_hw181 : k0_chk181 v1004 v1006 v1008), ∀ a x, ((![v1004, v1006, v1008] : Fin 3 → IVec S16 32) a x).toNat < S96x2x128.size a := fun v1004 v1006 v1008 k0_hw181 => k0_hw181

def k0_chk182 (v1015 : IVec S16 32) (v1017 : IVec S16 32) (v1019 : IVec S16 32) : Prop :=
  (∀ a x, ((![v1015, v1017, v1019] : Fin 3 → IVec S16 32) a x).toNat < S96x2x128.size a)
theorem k0_idx178_inb : ∀ (v1015 : IVec S16 32) (v1017 : IVec S16 32) (v1019 : IVec S16 32) (k0_hw182 : k0_chk182 v1015 v1017 v1019), ∀ a x, ((![v1015, v1017, v1019] : Fin 3 → IVec S16 32) a x).toNat < S96x2x128.size a := fun v1015 v1017 v1019 k0_hw182 => k0_hw182

def k0_chk183 (v1026 : IVec S16 32) (v1028 : IVec S16 32) (v1030 : IVec S16 32) : Prop :=
  (∀ a x, ((![v1026, v1028, v1030] : Fin 3 → IVec S16 32) a x).toNat < S96x2x128.size a)
theorem k0_idx179_inb : ∀ (v1026 : IVec S16 32) (v1028 : IVec S16 32) (v1030 : IVec S16 32) (k0_hw183 : k0_chk183 v1026 v1028 v1030), ∀ a x, ((![v1026, v1028, v1030] : Fin 3 → IVec S16 32) a x).toNat < S96x2x128.size a := fun v1026 v1028 v1030 k0_hw183 => k0_hw183

def k0_chk184 (v1037 : IVec S16 32) (v1039 : IVec S16 32) (v1041 : IVec S16 32) : Prop :=
  (∀ a x, ((![v1037, v1039, v1041] : Fin 3 → IVec S16 32) a x).toNat < S96x2x128.size a)
theorem k0_idx180_inb : ∀ (v1037 : IVec S16 32) (v1039 : IVec S16 32) (v1041 : IVec S16 32) (k0_hw184 : k0_chk184 v1037 v1039 v1041), ∀ a x, ((![v1037, v1039, v1041] : Fin 3 → IVec S16 32) a x).toNat < S96x2x128.size a := fun v1037 v1039 v1041 k0_hw184 => k0_hw184
def k0_off102 (v23 : BitVec 32) (k0_t5 : Fin (k0_t5_loop v23).trips) : Fin 2 → Nat :=
  let c21_i32_405 : BitVec 32 := 21#32
  let v1045 : Index := Scalar.indexCast c21_i32_405
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_404 : BitVec 32 := 16#32
  let v1044 : BitVec 32 := Scalar.muli v39 c16_i32_404
  let v1046 : Index := Scalar.indexCast v1044
  ![21, v1046.toNat]

def k0_chk185 (v1052 : IVec S16 32) (v1054 : IVec S16 32) (v1056 : IVec S16 32) : Prop :=
  (∀ a x, ((![v1052, v1054, v1056] : Fin 3 → IVec S16 32) a x).toNat < S96x2x128.size a)
theorem k0_idx181_inb : ∀ (v1052 : IVec S16 32) (v1054 : IVec S16 32) (v1056 : IVec S16 32) (k0_hw185 : k0_chk185 v1052 v1054 v1056), ∀ a x, ((![v1052, v1054, v1056] : Fin 3 → IVec S16 32) a x).toNat < S96x2x128.size a := fun v1052 v1054 v1056 k0_hw185 => k0_hw185

def k0_chk186 (v1063 : IVec S16 32) (v1065 : IVec S16 32) (v1067 : IVec S16 32) : Prop :=
  (∀ a x, ((![v1063, v1065, v1067] : Fin 3 → IVec S16 32) a x).toNat < S96x2x128.size a)
theorem k0_idx182_inb : ∀ (v1063 : IVec S16 32) (v1065 : IVec S16 32) (v1067 : IVec S16 32) (k0_hw186 : k0_chk186 v1063 v1065 v1067), ∀ a x, ((![v1063, v1065, v1067] : Fin 3 → IVec S16 32) a x).toNat < S96x2x128.size a := fun v1063 v1065 v1067 k0_hw186 => k0_hw186

def k0_chk187 (v1074 : IVec S16 32) (v1076 : IVec S16 32) (v1078 : IVec S16 32) : Prop :=
  (∀ a x, ((![v1074, v1076, v1078] : Fin 3 → IVec S16 32) a x).toNat < S96x2x128.size a)
theorem k0_idx183_inb : ∀ (v1074 : IVec S16 32) (v1076 : IVec S16 32) (v1078 : IVec S16 32) (k0_hw187 : k0_chk187 v1074 v1076 v1078), ∀ a x, ((![v1074, v1076, v1078] : Fin 3 → IVec S16 32) a x).toNat < S96x2x128.size a := fun v1074 v1076 v1078 k0_hw187 => k0_hw187

def k0_chk188 (v1085 : IVec S16 32) (v1087 : IVec S16 32) (v1089 : IVec S16 32) : Prop :=
  (∀ a x, ((![v1085, v1087, v1089] : Fin 3 → IVec S16 32) a x).toNat < S96x2x128.size a)
theorem k0_idx184_inb : ∀ (v1085 : IVec S16 32) (v1087 : IVec S16 32) (v1089 : IVec S16 32) (k0_hw188 : k0_chk188 v1085 v1087 v1089), ∀ a x, ((![v1085, v1087, v1089] : Fin 3 → IVec S16 32) a x).toNat < S96x2x128.size a := fun v1085 v1087 v1089 k0_hw188 => k0_hw188
def k0_off103 (v23 : BitVec 32) (k0_t5 : Fin (k0_t5_loop v23).trips) : Fin 2 → Nat :=
  let c22_i32_423 : BitVec 32 := 22#32
  let v1093 : Index := Scalar.indexCast c22_i32_423
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_422 : BitVec 32 := 16#32
  let v1092 : BitVec 32 := Scalar.muli v39 c16_i32_422
  let v1094 : Index := Scalar.indexCast v1092
  ![22, v1094.toNat]

def k0_chk189 (v1100 : IVec S16 32) (v1102 : IVec S16 32) (v1104 : IVec S16 32) : Prop :=
  (∀ a x, ((![v1100, v1102, v1104] : Fin 3 → IVec S16 32) a x).toNat < S96x2x128.size a)
theorem k0_idx185_inb : ∀ (v1100 : IVec S16 32) (v1102 : IVec S16 32) (v1104 : IVec S16 32) (k0_hw189 : k0_chk189 v1100 v1102 v1104), ∀ a x, ((![v1100, v1102, v1104] : Fin 3 → IVec S16 32) a x).toNat < S96x2x128.size a := fun v1100 v1102 v1104 k0_hw189 => k0_hw189

def k0_chk190 (v1111 : IVec S16 32) (v1113 : IVec S16 32) (v1115 : IVec S16 32) : Prop :=
  (∀ a x, ((![v1111, v1113, v1115] : Fin 3 → IVec S16 32) a x).toNat < S96x2x128.size a)
theorem k0_idx186_inb : ∀ (v1111 : IVec S16 32) (v1113 : IVec S16 32) (v1115 : IVec S16 32) (k0_hw190 : k0_chk190 v1111 v1113 v1115), ∀ a x, ((![v1111, v1113, v1115] : Fin 3 → IVec S16 32) a x).toNat < S96x2x128.size a := fun v1111 v1113 v1115 k0_hw190 => k0_hw190

def k0_chk191 (v1122 : IVec S16 32) (v1124 : IVec S16 32) (v1126 : IVec S16 32) : Prop :=
  (∀ a x, ((![v1122, v1124, v1126] : Fin 3 → IVec S16 32) a x).toNat < S96x2x128.size a)
theorem k0_idx187_inb : ∀ (v1122 : IVec S16 32) (v1124 : IVec S16 32) (v1126 : IVec S16 32) (k0_hw191 : k0_chk191 v1122 v1124 v1126), ∀ a x, ((![v1122, v1124, v1126] : Fin 3 → IVec S16 32) a x).toNat < S96x2x128.size a := fun v1122 v1124 v1126 k0_hw191 => k0_hw191

def k0_chk192 (v1133 : IVec S16 32) (v1135 : IVec S16 32) (v1137 : IVec S16 32) : Prop :=
  (∀ a x, ((![v1133, v1135, v1137] : Fin 3 → IVec S16 32) a x).toNat < S96x2x128.size a)
theorem k0_idx188_inb : ∀ (v1133 : IVec S16 32) (v1135 : IVec S16 32) (v1137 : IVec S16 32) (k0_hw192 : k0_chk192 v1133 v1135 v1137), ∀ a x, ((![v1133, v1135, v1137] : Fin 3 → IVec S16 32) a x).toNat < S96x2x128.size a := fun v1133 v1135 v1137 k0_hw192 => k0_hw192
def k0_off104 (v23 : BitVec 32) (k0_t5 : Fin (k0_t5_loop v23).trips) : Fin 2 → Nat :=
  let c23_i32_441 : BitVec 32 := 23#32
  let v1141 : Index := Scalar.indexCast c23_i32_441
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_440 : BitVec 32 := 16#32
  let v1140 : BitVec 32 := Scalar.muli v39 c16_i32_440
  let v1142 : Index := Scalar.indexCast v1140
  ![23, v1142.toNat]

def k0_chk193 (v1148 : IVec S16 32) (v1150 : IVec S16 32) (v1152 : IVec S16 32) : Prop :=
  (∀ a x, ((![v1148, v1150, v1152] : Fin 3 → IVec S16 32) a x).toNat < S96x2x128.size a)
theorem k0_idx189_inb : ∀ (v1148 : IVec S16 32) (v1150 : IVec S16 32) (v1152 : IVec S16 32) (k0_hw193 : k0_chk193 v1148 v1150 v1152), ∀ a x, ((![v1148, v1150, v1152] : Fin 3 → IVec S16 32) a x).toNat < S96x2x128.size a := fun v1148 v1150 v1152 k0_hw193 => k0_hw193

def k0_chk194 (v1159 : IVec S16 32) (v1161 : IVec S16 32) (v1163 : IVec S16 32) : Prop :=
  (∀ a x, ((![v1159, v1161, v1163] : Fin 3 → IVec S16 32) a x).toNat < S96x2x128.size a)
theorem k0_idx190_inb : ∀ (v1159 : IVec S16 32) (v1161 : IVec S16 32) (v1163 : IVec S16 32) (k0_hw194 : k0_chk194 v1159 v1161 v1163), ∀ a x, ((![v1159, v1161, v1163] : Fin 3 → IVec S16 32) a x).toNat < S96x2x128.size a := fun v1159 v1161 v1163 k0_hw194 => k0_hw194

def k0_chk195 (v1170 : IVec S16 32) (v1172 : IVec S16 32) (v1174 : IVec S16 32) : Prop :=
  (∀ a x, ((![v1170, v1172, v1174] : Fin 3 → IVec S16 32) a x).toNat < S96x2x128.size a)
theorem k0_idx191_inb : ∀ (v1170 : IVec S16 32) (v1172 : IVec S16 32) (v1174 : IVec S16 32) (k0_hw195 : k0_chk195 v1170 v1172 v1174), ∀ a x, ((![v1170, v1172, v1174] : Fin 3 → IVec S16 32) a x).toNat < S96x2x128.size a := fun v1170 v1172 v1174 k0_hw195 => k0_hw195

def k0_chk196 (v1181 : IVec S16 32) (v1183 : IVec S16 32) (v1185 : IVec S16 32) : Prop :=
  (∀ a x, ((![v1181, v1183, v1185] : Fin 3 → IVec S16 32) a x).toNat < S96x2x128.size a)
theorem k0_idx192_inb : ∀ (v1181 : IVec S16 32) (v1183 : IVec S16 32) (v1185 : IVec S16 32) (k0_hw196 : k0_chk196 v1181 v1183 v1185), ∀ a x, ((![v1181, v1183, v1185] : Fin 3 → IVec S16 32) a x).toNat < S96x2x128.size a := fun v1181 v1183 v1185 k0_hw196 => k0_hw196
def k0_off105 (v23 : BitVec 32) (k0_t5 : Fin (k0_t5_loop v23).trips) : Fin 1 → Nat :=
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t5
  let c1_i32_15 : BitVec 32 := 1#32
  let v38 : BitVec 32 := Scalar.muli arg16 c1_i32_15
  let v39 : BitVec 32 := Scalar.addi c0_i32_16 v38
  let c16_i32_460 : BitVec 32 := 16#32
  let v1198 : BitVec 32 := Scalar.muli v39 c16_i32_460
  let v1199 : Index := Scalar.indexCast v1198
  ![v1199.toNat]

def k0_chk4_0 (v23 : BitVec 32) : Prop :=
  ((k0_t4_loop v23).OK) ∧
  (∀ k0_t4 : Fin (k0_t4_loop v23).trips, ∀ a, (k0_off56 v23 k0_t4) a + S1x16.size a ≤ S24x1536.size a) ∧
  (∀ k0_t4 : Fin (k0_t4_loop v23).trips, ∀ a, (k0_off57 v23 k0_t4) a + S1x16.size a ≤ S24x1536.size a) ∧
  (∀ k0_t4 : Fin (k0_t4_loop v23).trips, ∀ a, (k0_off58 v23 k0_t4) a + S1x16.size a ≤ S24x1536.size a) ∧
  (∀ k0_t4 : Fin (k0_t4_loop v23).trips, ∀ a, (k0_off59 v23 k0_t4) a + S1x16.size a ≤ S24x1536.size a) ∧
  (∀ k0_t4 : Fin (k0_t4_loop v23).trips, ∀ a, (k0_off60 v23 k0_t4) a + S1x16.size a ≤ S24x1536.size a) ∧
  (∀ k0_t4 : Fin (k0_t4_loop v23).trips, ∀ a, (k0_off61 v23 k0_t4) a + S1x16.size a ≤ S24x1536.size a) ∧
  (∀ k0_t4 : Fin (k0_t4_loop v23).trips, ∀ a, (k0_off62 v23 k0_t4) a + S1x16.size a ≤ S24x1536.size a) ∧
  (∀ k0_t4 : Fin (k0_t4_loop v23).trips, ∀ a, (k0_off63 v23 k0_t4) a + S1x16.size a ≤ S24x1536.size a) ∧
  (∀ k0_t4 : Fin (k0_t4_loop v23).trips, ∀ a, (k0_off64 v23 k0_t4) a + S1x16.size a ≤ S24x1536.size a) ∧
  (∀ k0_t4 : Fin (k0_t4_loop v23).trips, ∀ a, (k0_off65 v23 k0_t4) a + S1x16.size a ≤ S24x1536.size a) ∧
  (∀ k0_t4 : Fin (k0_t4_loop v23).trips, ∀ a, (k0_off66 v23 k0_t4) a + S1x16.size a ≤ S24x1536.size a) ∧
  (∀ k0_t4 : Fin (k0_t4_loop v23).trips, ∀ a, (k0_off67 v23 k0_t4) a + S1x16.size a ≤ S24x1536.size a) ∧
  (∀ k0_t4 : Fin (k0_t4_loop v23).trips, ∀ a, (k0_off68 v23 k0_t4) a + S1x16.size a ≤ S24x1536.size a) ∧
  (∀ k0_t4 : Fin (k0_t4_loop v23).trips, ∀ a, (k0_off69 v23 k0_t4) a + S1x16.size a ≤ S24x1536.size a) ∧
  (∀ k0_t4 : Fin (k0_t4_loop v23).trips, ∀ a, (k0_off70 v23 k0_t4) a + S1x16.size a ≤ S24x1536.size a) ∧
  (∀ k0_t4 : Fin (k0_t4_loop v23).trips, ∀ a, (k0_off71 v23 k0_t4) a + S1x16.size a ≤ S24x1536.size a) ∧
  (∀ k0_t4 : Fin (k0_t4_loop v23).trips, ∀ a, (k0_off72 v23 k0_t4) a + S1x16.size a ≤ S24x1536.size a) ∧
  (∀ k0_t4 : Fin (k0_t4_loop v23).trips, ∀ a, (k0_off73 v23 k0_t4) a + S1x16.size a ≤ S24x1536.size a) ∧
  (∀ k0_t4 : Fin (k0_t4_loop v23).trips, ∀ a, (k0_off74 v23 k0_t4) a + S1x16.size a ≤ S24x1536.size a) ∧
  (∀ k0_t4 : Fin (k0_t4_loop v23).trips, ∀ a, (k0_off75 v23 k0_t4) a + S1x16.size a ≤ S24x1536.size a) ∧
  (∀ k0_t4 : Fin (k0_t4_loop v23).trips, ∀ a, (k0_off76 v23 k0_t4) a + S1x16.size a ≤ S24x1536.size a) ∧
  (∀ k0_t4 : Fin (k0_t4_loop v23).trips, ∀ a, (k0_off77 v23 k0_t4) a + S1x16.size a ≤ S24x1536.size a) ∧
  (∀ k0_t4 : Fin (k0_t4_loop v23).trips, ∀ a, (k0_off78 v23 k0_t4) a + S1x16.size a ≤ S24x1536.size a) ∧
  (∀ k0_t4 : Fin (k0_t4_loop v23).trips, ∀ a, (k0_off79 v23 k0_t4) a + S1x16.size a ≤ S24x1536.size a) ∧
  (∀ k0_t4 : Fin (k0_t4_loop v23).trips, ∀ a, (k0_off80 v23 k0_t4) a + S16.size a ≤ S1536.size a) ∧
  ((k0_t5_loop v23).OK) ∧
  (∀ k0_t5 : Fin (k0_t5_loop v23).trips, ∀ a, (k0_off81 v23 k0_t5) a + S1x16.size a ≤ S24x1536.size a) ∧
  (∀ k0_t5 : Fin (k0_t5_loop v23).trips, ∀ a, (k0_off82 v23 k0_t5) a + S1x16.size a ≤ S24x1536.size a) ∧
  (∀ k0_t5 : Fin (k0_t5_loop v23).trips, ∀ a, (k0_off83 v23 k0_t5) a + S1x16.size a ≤ S24x1536.size a) ∧
  (∀ k0_t5 : Fin (k0_t5_loop v23).trips, ∀ a, (k0_off84 v23 k0_t5) a + S1x16.size a ≤ S24x1536.size a) ∧
  (∀ k0_t5 : Fin (k0_t5_loop v23).trips, ∀ a, (k0_off85 v23 k0_t5) a + S1x16.size a ≤ S24x1536.size a)
def k0_chk4_1 (v23 : BitVec 32) : Prop :=
  (∀ k0_t5 : Fin (k0_t5_loop v23).trips, ∀ a, (k0_off86 v23 k0_t5) a + S1x16.size a ≤ S24x1536.size a) ∧
  (∀ k0_t5 : Fin (k0_t5_loop v23).trips, ∀ a, (k0_off87 v23 k0_t5) a + S1x16.size a ≤ S24x1536.size a) ∧
  (∀ k0_t5 : Fin (k0_t5_loop v23).trips, ∀ a, (k0_off88 v23 k0_t5) a + S1x16.size a ≤ S24x1536.size a) ∧
  (∀ k0_t5 : Fin (k0_t5_loop v23).trips, ∀ a, (k0_off89 v23 k0_t5) a + S1x16.size a ≤ S24x1536.size a) ∧
  (∀ k0_t5 : Fin (k0_t5_loop v23).trips, ∀ a, (k0_off90 v23 k0_t5) a + S1x16.size a ≤ S24x1536.size a) ∧
  (∀ k0_t5 : Fin (k0_t5_loop v23).trips, ∀ a, (k0_off91 v23 k0_t5) a + S1x16.size a ≤ S24x1536.size a) ∧
  (∀ k0_t5 : Fin (k0_t5_loop v23).trips, ∀ a, (k0_off92 v23 k0_t5) a + S1x16.size a ≤ S24x1536.size a) ∧
  (∀ k0_t5 : Fin (k0_t5_loop v23).trips, ∀ a, (k0_off93 v23 k0_t5) a + S1x16.size a ≤ S24x1536.size a) ∧
  (∀ k0_t5 : Fin (k0_t5_loop v23).trips, ∀ a, (k0_off94 v23 k0_t5) a + S1x16.size a ≤ S24x1536.size a) ∧
  (∀ k0_t5 : Fin (k0_t5_loop v23).trips, ∀ a, (k0_off95 v23 k0_t5) a + S1x16.size a ≤ S24x1536.size a) ∧
  (∀ k0_t5 : Fin (k0_t5_loop v23).trips, ∀ a, (k0_off96 v23 k0_t5) a + S1x16.size a ≤ S24x1536.size a) ∧
  (∀ k0_t5 : Fin (k0_t5_loop v23).trips, ∀ a, (k0_off97 v23 k0_t5) a + S1x16.size a ≤ S24x1536.size a) ∧
  (∀ k0_t5 : Fin (k0_t5_loop v23).trips, ∀ a, (k0_off98 v23 k0_t5) a + S1x16.size a ≤ S24x1536.size a) ∧
  (∀ k0_t5 : Fin (k0_t5_loop v23).trips, ∀ a, (k0_off99 v23 k0_t5) a + S1x16.size a ≤ S24x1536.size a) ∧
  (∀ k0_t5 : Fin (k0_t5_loop v23).trips, ∀ a, (k0_off100 v23 k0_t5) a + S1x16.size a ≤ S24x1536.size a) ∧
  (∀ k0_t5 : Fin (k0_t5_loop v23).trips, ∀ a, (k0_off101 v23 k0_t5) a + S1x16.size a ≤ S24x1536.size a) ∧
  (∀ k0_t5 : Fin (k0_t5_loop v23).trips, ∀ a, (k0_off102 v23 k0_t5) a + S1x16.size a ≤ S24x1536.size a) ∧
  (∀ k0_t5 : Fin (k0_t5_loop v23).trips, ∀ a, (k0_off103 v23 k0_t5) a + S1x16.size a ≤ S24x1536.size a) ∧
  (∀ k0_t5 : Fin (k0_t5_loop v23).trips, ∀ a, (k0_off104 v23 k0_t5) a + S1x16.size a ≤ S24x1536.size a) ∧
  (∀ k0_t5 : Fin (k0_t5_loop v23).trips, ∀ a, (k0_off105 v23 k0_t5) a + S16.size a ≤ S1536.size a)
def k0_chk4 (v23 : BitVec 32) : Prop :=
  k0_chk4_0 v23 ∧
  k0_chk4_1 v23
theorem k0_t4_ok : ∀ (v23 : BitVec 32) (k0_hw4 : k0_chk4 v23), (k0_t4_loop v23).OK := fun v23 k0_hw4 => k0_hw4.1.1
theorem k0_off56_inb : ∀ (v23 : BitVec 32) (k0_hw4 : k0_chk4 v23) (k0_t4 : Fin (k0_t4_loop v23).trips), ∀ a, (k0_off56 v23 k0_t4) a + S1x16.size a ≤ S24x1536.size a := fun v23 k0_hw4 k0_t4 => k0_hw4.1.2.1 k0_t4
theorem k0_off57_inb : ∀ (v23 : BitVec 32) (k0_hw4 : k0_chk4 v23) (k0_t4 : Fin (k0_t4_loop v23).trips), ∀ a, (k0_off57 v23 k0_t4) a + S1x16.size a ≤ S24x1536.size a := fun v23 k0_hw4 k0_t4 => k0_hw4.1.2.2.1 k0_t4
theorem k0_off58_inb : ∀ (v23 : BitVec 32) (k0_hw4 : k0_chk4 v23) (k0_t4 : Fin (k0_t4_loop v23).trips), ∀ a, (k0_off58 v23 k0_t4) a + S1x16.size a ≤ S24x1536.size a := fun v23 k0_hw4 k0_t4 => k0_hw4.1.2.2.2.1 k0_t4
theorem k0_off59_inb : ∀ (v23 : BitVec 32) (k0_hw4 : k0_chk4 v23) (k0_t4 : Fin (k0_t4_loop v23).trips), ∀ a, (k0_off59 v23 k0_t4) a + S1x16.size a ≤ S24x1536.size a := fun v23 k0_hw4 k0_t4 => k0_hw4.1.2.2.2.2.1 k0_t4
theorem k0_off60_inb : ∀ (v23 : BitVec 32) (k0_hw4 : k0_chk4 v23) (k0_t4 : Fin (k0_t4_loop v23).trips), ∀ a, (k0_off60 v23 k0_t4) a + S1x16.size a ≤ S24x1536.size a := fun v23 k0_hw4 k0_t4 => k0_hw4.1.2.2.2.2.2.1 k0_t4
theorem k0_off61_inb : ∀ (v23 : BitVec 32) (k0_hw4 : k0_chk4 v23) (k0_t4 : Fin (k0_t4_loop v23).trips), ∀ a, (k0_off61 v23 k0_t4) a + S1x16.size a ≤ S24x1536.size a := fun v23 k0_hw4 k0_t4 => k0_hw4.1.2.2.2.2.2.2.1 k0_t4
theorem k0_off62_inb : ∀ (v23 : BitVec 32) (k0_hw4 : k0_chk4 v23) (k0_t4 : Fin (k0_t4_loop v23).trips), ∀ a, (k0_off62 v23 k0_t4) a + S1x16.size a ≤ S24x1536.size a := fun v23 k0_hw4 k0_t4 => k0_hw4.1.2.2.2.2.2.2.2.1 k0_t4
theorem k0_off63_inb : ∀ (v23 : BitVec 32) (k0_hw4 : k0_chk4 v23) (k0_t4 : Fin (k0_t4_loop v23).trips), ∀ a, (k0_off63 v23 k0_t4) a + S1x16.size a ≤ S24x1536.size a := fun v23 k0_hw4 k0_t4 => k0_hw4.1.2.2.2.2.2.2.2.2.1 k0_t4
theorem k0_off64_inb : ∀ (v23 : BitVec 32) (k0_hw4 : k0_chk4 v23) (k0_t4 : Fin (k0_t4_loop v23).trips), ∀ a, (k0_off64 v23 k0_t4) a + S1x16.size a ≤ S24x1536.size a := fun v23 k0_hw4 k0_t4 => k0_hw4.1.2.2.2.2.2.2.2.2.2.1 k0_t4
theorem k0_off65_inb : ∀ (v23 : BitVec 32) (k0_hw4 : k0_chk4 v23) (k0_t4 : Fin (k0_t4_loop v23).trips), ∀ a, (k0_off65 v23 k0_t4) a + S1x16.size a ≤ S24x1536.size a := fun v23 k0_hw4 k0_t4 => k0_hw4.1.2.2.2.2.2.2.2.2.2.2.1 k0_t4
theorem k0_off66_inb : ∀ (v23 : BitVec 32) (k0_hw4 : k0_chk4 v23) (k0_t4 : Fin (k0_t4_loop v23).trips), ∀ a, (k0_off66 v23 k0_t4) a + S1x16.size a ≤ S24x1536.size a := fun v23 k0_hw4 k0_t4 => k0_hw4.1.2.2.2.2.2.2.2.2.2.2.2.1 k0_t4
theorem k0_off67_inb : ∀ (v23 : BitVec 32) (k0_hw4 : k0_chk4 v23) (k0_t4 : Fin (k0_t4_loop v23).trips), ∀ a, (k0_off67 v23 k0_t4) a + S1x16.size a ≤ S24x1536.size a := fun v23 k0_hw4 k0_t4 => k0_hw4.1.2.2.2.2.2.2.2.2.2.2.2.2.1 k0_t4
theorem k0_off68_inb : ∀ (v23 : BitVec 32) (k0_hw4 : k0_chk4 v23) (k0_t4 : Fin (k0_t4_loop v23).trips), ∀ a, (k0_off68 v23 k0_t4) a + S1x16.size a ≤ S24x1536.size a := fun v23 k0_hw4 k0_t4 => k0_hw4.1.2.2.2.2.2.2.2.2.2.2.2.2.2.1 k0_t4
theorem k0_off69_inb : ∀ (v23 : BitVec 32) (k0_hw4 : k0_chk4 v23) (k0_t4 : Fin (k0_t4_loop v23).trips), ∀ a, (k0_off69 v23 k0_t4) a + S1x16.size a ≤ S24x1536.size a := fun v23 k0_hw4 k0_t4 => k0_hw4.1.2.2.2.2.2.2.2.2.2.2.2.2.2.2.1 k0_t4
theorem k0_off70_inb : ∀ (v23 : BitVec 32) (k0_hw4 : k0_chk4 v23) (k0_t4 : Fin (k0_t4_loop v23).trips), ∀ a, (k0_off70 v23 k0_t4) a + S1x16.size a ≤ S24x1536.size a := fun v23 k0_hw4 k0_t4 => k0_hw4.1.2.2.2.2.2.2.2.2.2.2.2.2.2.2.2.1 k0_t4
theorem k0_off71_inb : ∀ (v23 : BitVec 32) (k0_hw4 : k0_chk4 v23) (k0_t4 : Fin (k0_t4_loop v23).trips), ∀ a, (k0_off71 v23 k0_t4) a + S1x16.size a ≤ S24x1536.size a := fun v23 k0_hw4 k0_t4 => k0_hw4.1.2.2.2.2.2.2.2.2.2.2.2.2.2.2.2.2.1 k0_t4
theorem k0_off72_inb : ∀ (v23 : BitVec 32) (k0_hw4 : k0_chk4 v23) (k0_t4 : Fin (k0_t4_loop v23).trips), ∀ a, (k0_off72 v23 k0_t4) a + S1x16.size a ≤ S24x1536.size a := fun v23 k0_hw4 k0_t4 => k0_hw4.1.2.2.2.2.2.2.2.2.2.2.2.2.2.2.2.2.2.1 k0_t4
theorem k0_off73_inb : ∀ (v23 : BitVec 32) (k0_hw4 : k0_chk4 v23) (k0_t4 : Fin (k0_t4_loop v23).trips), ∀ a, (k0_off73 v23 k0_t4) a + S1x16.size a ≤ S24x1536.size a := fun v23 k0_hw4 k0_t4 => k0_hw4.1.2.2.2.2.2.2.2.2.2.2.2.2.2.2.2.2.2.2.1 k0_t4
theorem k0_off74_inb : ∀ (v23 : BitVec 32) (k0_hw4 : k0_chk4 v23) (k0_t4 : Fin (k0_t4_loop v23).trips), ∀ a, (k0_off74 v23 k0_t4) a + S1x16.size a ≤ S24x1536.size a := fun v23 k0_hw4 k0_t4 => k0_hw4.1.2.2.2.2.2.2.2.2.2.2.2.2.2.2.2.2.2.2.2.1 k0_t4
theorem k0_off75_inb : ∀ (v23 : BitVec 32) (k0_hw4 : k0_chk4 v23) (k0_t4 : Fin (k0_t4_loop v23).trips), ∀ a, (k0_off75 v23 k0_t4) a + S1x16.size a ≤ S24x1536.size a := fun v23 k0_hw4 k0_t4 => k0_hw4.1.2.2.2.2.2.2.2.2.2.2.2.2.2.2.2.2.2.2.2.2.1 k0_t4
theorem k0_off76_inb : ∀ (v23 : BitVec 32) (k0_hw4 : k0_chk4 v23) (k0_t4 : Fin (k0_t4_loop v23).trips), ∀ a, (k0_off76 v23 k0_t4) a + S1x16.size a ≤ S24x1536.size a := fun v23 k0_hw4 k0_t4 => k0_hw4.1.2.2.2.2.2.2.2.2.2.2.2.2.2.2.2.2.2.2.2.2.2.1 k0_t4
theorem k0_off77_inb : ∀ (v23 : BitVec 32) (k0_hw4 : k0_chk4 v23) (k0_t4 : Fin (k0_t4_loop v23).trips), ∀ a, (k0_off77 v23 k0_t4) a + S1x16.size a ≤ S24x1536.size a := fun v23 k0_hw4 k0_t4 => k0_hw4.1.2.2.2.2.2.2.2.2.2.2.2.2.2.2.2.2.2.2.2.2.2.2.1 k0_t4
theorem k0_off78_inb : ∀ (v23 : BitVec 32) (k0_hw4 : k0_chk4 v23) (k0_t4 : Fin (k0_t4_loop v23).trips), ∀ a, (k0_off78 v23 k0_t4) a + S1x16.size a ≤ S24x1536.size a := fun v23 k0_hw4 k0_t4 => k0_hw4.1.2.2.2.2.2.2.2.2.2.2.2.2.2.2.2.2.2.2.2.2.2.2.2.1 k0_t4
theorem k0_off79_inb : ∀ (v23 : BitVec 32) (k0_hw4 : k0_chk4 v23) (k0_t4 : Fin (k0_t4_loop v23).trips), ∀ a, (k0_off79 v23 k0_t4) a + S1x16.size a ≤ S24x1536.size a := fun v23 k0_hw4 k0_t4 => k0_hw4.1.2.2.2.2.2.2.2.2.2.2.2.2.2.2.2.2.2.2.2.2.2.2.2.2.1 k0_t4
theorem k0_off80_inb : ∀ (v23 : BitVec 32) (k0_hw4 : k0_chk4 v23) (k0_t4 : Fin (k0_t4_loop v23).trips), ∀ a, (k0_off80 v23 k0_t4) a + S16.size a ≤ S1536.size a := fun v23 k0_hw4 k0_t4 => k0_hw4.1.2.2.2.2.2.2.2.2.2.2.2.2.2.2.2.2.2.2.2.2.2.2.2.2.2.1 k0_t4
theorem k0_t5_ok : ∀ (v23 : BitVec 32) (k0_hw4 : k0_chk4 v23), (k0_t5_loop v23).OK := fun v23 k0_hw4 => k0_hw4.1.2.2.2.2.2.2.2.2.2.2.2.2.2.2.2.2.2.2.2.2.2.2.2.2.2.2.1
theorem k0_off81_inb : ∀ (v23 : BitVec 32) (k0_hw4 : k0_chk4 v23) (k0_t5 : Fin (k0_t5_loop v23).trips), ∀ a, (k0_off81 v23 k0_t5) a + S1x16.size a ≤ S24x1536.size a := fun v23 k0_hw4 k0_t5 => k0_hw4.1.2.2.2.2.2.2.2.2.2.2.2.2.2.2.2.2.2.2.2.2.2.2.2.2.2.2.2.1 k0_t5
theorem k0_off82_inb : ∀ (v23 : BitVec 32) (k0_hw4 : k0_chk4 v23) (k0_t5 : Fin (k0_t5_loop v23).trips), ∀ a, (k0_off82 v23 k0_t5) a + S1x16.size a ≤ S24x1536.size a := fun v23 k0_hw4 k0_t5 => k0_hw4.1.2.2.2.2.2.2.2.2.2.2.2.2.2.2.2.2.2.2.2.2.2.2.2.2.2.2.2.2.1 k0_t5
theorem k0_off83_inb : ∀ (v23 : BitVec 32) (k0_hw4 : k0_chk4 v23) (k0_t5 : Fin (k0_t5_loop v23).trips), ∀ a, (k0_off83 v23 k0_t5) a + S1x16.size a ≤ S24x1536.size a := fun v23 k0_hw4 k0_t5 => k0_hw4.1.2.2.2.2.2.2.2.2.2.2.2.2.2.2.2.2.2.2.2.2.2.2.2.2.2.2.2.2.2.1 k0_t5
theorem k0_off84_inb : ∀ (v23 : BitVec 32) (k0_hw4 : k0_chk4 v23) (k0_t5 : Fin (k0_t5_loop v23).trips), ∀ a, (k0_off84 v23 k0_t5) a + S1x16.size a ≤ S24x1536.size a := fun v23 k0_hw4 k0_t5 => k0_hw4.1.2.2.2.2.2.2.2.2.2.2.2.2.2.2.2.2.2.2.2.2.2.2.2.2.2.2.2.2.2.2.1 k0_t5
theorem k0_off85_inb : ∀ (v23 : BitVec 32) (k0_hw4 : k0_chk4 v23) (k0_t5 : Fin (k0_t5_loop v23).trips), ∀ a, (k0_off85 v23 k0_t5) a + S1x16.size a ≤ S24x1536.size a := fun v23 k0_hw4 k0_t5 => k0_hw4.1.2.2.2.2.2.2.2.2.2.2.2.2.2.2.2.2.2.2.2.2.2.2.2.2.2.2.2.2.2.2.2 k0_t5
theorem k0_off86_inb : ∀ (v23 : BitVec 32) (k0_hw4 : k0_chk4 v23) (k0_t5 : Fin (k0_t5_loop v23).trips), ∀ a, (k0_off86 v23 k0_t5) a + S1x16.size a ≤ S24x1536.size a := fun v23 k0_hw4 k0_t5 => k0_hw4.2.1 k0_t5
theorem k0_off87_inb : ∀ (v23 : BitVec 32) (k0_hw4 : k0_chk4 v23) (k0_t5 : Fin (k0_t5_loop v23).trips), ∀ a, (k0_off87 v23 k0_t5) a + S1x16.size a ≤ S24x1536.size a := fun v23 k0_hw4 k0_t5 => k0_hw4.2.2.1 k0_t5
theorem k0_off88_inb : ∀ (v23 : BitVec 32) (k0_hw4 : k0_chk4 v23) (k0_t5 : Fin (k0_t5_loop v23).trips), ∀ a, (k0_off88 v23 k0_t5) a + S1x16.size a ≤ S24x1536.size a := fun v23 k0_hw4 k0_t5 => k0_hw4.2.2.2.1 k0_t5
theorem k0_off89_inb : ∀ (v23 : BitVec 32) (k0_hw4 : k0_chk4 v23) (k0_t5 : Fin (k0_t5_loop v23).trips), ∀ a, (k0_off89 v23 k0_t5) a + S1x16.size a ≤ S24x1536.size a := fun v23 k0_hw4 k0_t5 => k0_hw4.2.2.2.2.1 k0_t5
theorem k0_off90_inb : ∀ (v23 : BitVec 32) (k0_hw4 : k0_chk4 v23) (k0_t5 : Fin (k0_t5_loop v23).trips), ∀ a, (k0_off90 v23 k0_t5) a + S1x16.size a ≤ S24x1536.size a := fun v23 k0_hw4 k0_t5 => k0_hw4.2.2.2.2.2.1 k0_t5
theorem k0_off91_inb : ∀ (v23 : BitVec 32) (k0_hw4 : k0_chk4 v23) (k0_t5 : Fin (k0_t5_loop v23).trips), ∀ a, (k0_off91 v23 k0_t5) a + S1x16.size a ≤ S24x1536.size a := fun v23 k0_hw4 k0_t5 => k0_hw4.2.2.2.2.2.2.1 k0_t5
theorem k0_off92_inb : ∀ (v23 : BitVec 32) (k0_hw4 : k0_chk4 v23) (k0_t5 : Fin (k0_t5_loop v23).trips), ∀ a, (k0_off92 v23 k0_t5) a + S1x16.size a ≤ S24x1536.size a := fun v23 k0_hw4 k0_t5 => k0_hw4.2.2.2.2.2.2.2.1 k0_t5
theorem k0_off93_inb : ∀ (v23 : BitVec 32) (k0_hw4 : k0_chk4 v23) (k0_t5 : Fin (k0_t5_loop v23).trips), ∀ a, (k0_off93 v23 k0_t5) a + S1x16.size a ≤ S24x1536.size a := fun v23 k0_hw4 k0_t5 => k0_hw4.2.2.2.2.2.2.2.2.1 k0_t5
theorem k0_off94_inb : ∀ (v23 : BitVec 32) (k0_hw4 : k0_chk4 v23) (k0_t5 : Fin (k0_t5_loop v23).trips), ∀ a, (k0_off94 v23 k0_t5) a + S1x16.size a ≤ S24x1536.size a := fun v23 k0_hw4 k0_t5 => k0_hw4.2.2.2.2.2.2.2.2.2.1 k0_t5
theorem k0_off95_inb : ∀ (v23 : BitVec 32) (k0_hw4 : k0_chk4 v23) (k0_t5 : Fin (k0_t5_loop v23).trips), ∀ a, (k0_off95 v23 k0_t5) a + S1x16.size a ≤ S24x1536.size a := fun v23 k0_hw4 k0_t5 => k0_hw4.2.2.2.2.2.2.2.2.2.2.1 k0_t5
theorem k0_off96_inb : ∀ (v23 : BitVec 32) (k0_hw4 : k0_chk4 v23) (k0_t5 : Fin (k0_t5_loop v23).trips), ∀ a, (k0_off96 v23 k0_t5) a + S1x16.size a ≤ S24x1536.size a := fun v23 k0_hw4 k0_t5 => k0_hw4.2.2.2.2.2.2.2.2.2.2.2.1 k0_t5
theorem k0_off97_inb : ∀ (v23 : BitVec 32) (k0_hw4 : k0_chk4 v23) (k0_t5 : Fin (k0_t5_loop v23).trips), ∀ a, (k0_off97 v23 k0_t5) a + S1x16.size a ≤ S24x1536.size a := fun v23 k0_hw4 k0_t5 => k0_hw4.2.2.2.2.2.2.2.2.2.2.2.2.1 k0_t5
theorem k0_off98_inb : ∀ (v23 : BitVec 32) (k0_hw4 : k0_chk4 v23) (k0_t5 : Fin (k0_t5_loop v23).trips), ∀ a, (k0_off98 v23 k0_t5) a + S1x16.size a ≤ S24x1536.size a := fun v23 k0_hw4 k0_t5 => k0_hw4.2.2.2.2.2.2.2.2.2.2.2.2.2.1 k0_t5
theorem k0_off99_inb : ∀ (v23 : BitVec 32) (k0_hw4 : k0_chk4 v23) (k0_t5 : Fin (k0_t5_loop v23).trips), ∀ a, (k0_off99 v23 k0_t5) a + S1x16.size a ≤ S24x1536.size a := fun v23 k0_hw4 k0_t5 => k0_hw4.2.2.2.2.2.2.2.2.2.2.2.2.2.2.1 k0_t5
theorem k0_off100_inb : ∀ (v23 : BitVec 32) (k0_hw4 : k0_chk4 v23) (k0_t5 : Fin (k0_t5_loop v23).trips), ∀ a, (k0_off100 v23 k0_t5) a + S1x16.size a ≤ S24x1536.size a := fun v23 k0_hw4 k0_t5 => k0_hw4.2.2.2.2.2.2.2.2.2.2.2.2.2.2.2.1 k0_t5
theorem k0_off101_inb : ∀ (v23 : BitVec 32) (k0_hw4 : k0_chk4 v23) (k0_t5 : Fin (k0_t5_loop v23).trips), ∀ a, (k0_off101 v23 k0_t5) a + S1x16.size a ≤ S24x1536.size a := fun v23 k0_hw4 k0_t5 => k0_hw4.2.2.2.2.2.2.2.2.2.2.2.2.2.2.2.2.1 k0_t5
theorem k0_off102_inb : ∀ (v23 : BitVec 32) (k0_hw4 : k0_chk4 v23) (k0_t5 : Fin (k0_t5_loop v23).trips), ∀ a, (k0_off102 v23 k0_t5) a + S1x16.size a ≤ S24x1536.size a := fun v23 k0_hw4 k0_t5 => k0_hw4.2.2.2.2.2.2.2.2.2.2.2.2.2.2.2.2.2.1 k0_t5
theorem k0_off103_inb : ∀ (v23 : BitVec 32) (k0_hw4 : k0_chk4 v23) (k0_t5 : Fin (k0_t5_loop v23).trips), ∀ a, (k0_off103 v23 k0_t5) a + S1x16.size a ≤ S24x1536.size a := fun v23 k0_hw4 k0_t5 => k0_hw4.2.2.2.2.2.2.2.2.2.2.2.2.2.2.2.2.2.2.1 k0_t5
theorem k0_off104_inb : ∀ (v23 : BitVec 32) (k0_hw4 : k0_chk4 v23) (k0_t5 : Fin (k0_t5_loop v23).trips), ∀ a, (k0_off104 v23 k0_t5) a + S1x16.size a ≤ S24x1536.size a := fun v23 k0_hw4 k0_t5 => k0_hw4.2.2.2.2.2.2.2.2.2.2.2.2.2.2.2.2.2.2.2.1 k0_t5
theorem k0_off105_inb : ∀ (v23 : BitVec 32) (k0_hw4 : k0_chk4 v23) (k0_t5 : Fin (k0_t5_loop v23).trips), ∀ a, (k0_off105 v23 k0_t5) a + S16.size a ≤ S1536.size a := fun v23 k0_hw4 k0_t5 => k0_hw4.2.2.2.2.2.2.2.2.2.2.2.2.2.2.2.2.2.2.2.2 k0_t5

def k0_off106 (v19 : BitVec 32) (v21 : BitVec 32) : Fin 3 → Nat :=
  let c0_i32_22_r6 : BitVec 32 := 0#32
  ![v21.toNat, v19.toNat, 0]

def k0_chk197 (v19 : BitVec 32) (v21 : BitVec 32) : Prop :=
  (∀ a, (k0_off106 v19 v21) a + S1x1x1536.size a ≤ S18x200x1536.size a)
theorem k0_off106_inb : ∀ (v19 : BitVec 32) (v21 : BitVec 32) (k0_hw197 : k0_chk197 v19 v21), ∀ a, (k0_off106 v19 v21) a + S1x1x1536.size a ≤ S18x200x1536.size a := fun v19 v21 k0_hw197 => k0_hw197

@[reducible] def k0_t6_loop (v5 : BitVec 32) (v7 : BitVec 32) : Scf.Loop 32 :=
  let v8 : BitVec 32 := Scalar.subi v7 v5
  let c1_i32 : BitVec 32 := 1#32
  let v10 : BitVec 32 := Scalar.divsi v8 c1_i32
  let v11 : BitVec 32 := Scalar.muli v10 c1_i32
  let v12 : BitVec 32 := Scalar.addi v5 v11
  let v9 : BitVec 32 := Scalar.addi v5 v8
  let c1_i32_1 : BitVec 32 := 1#32
  ⟨v12, v9, c1_i32_1⟩
def k0_off107 (v5 : BitVec 32) (v7 : BitVec 32) (k0_t6 : Fin (k0_t6_loop v5 v7).trips) : Fin 2 → Nat :=
  let v8 : BitVec 32 := Scalar.subi v7 v5
  let c1_i32 : BitVec 32 := 1#32
  let v10 : BitVec 32 := Scalar.divsi v8 c1_i32
  let v11 : BitVec 32 := Scalar.muli v10 c1_i32
  let v12 : BitVec 32 := Scalar.addi v5 v11
  let c1_i32_1 : BitVec 32 := 1#32
  let arg14 : BitVec 32 := Scf.iv v12 c1_i32_1 k0_t6
  let c0_i32_22_r7 : BitVec 32 := 0#32
  ![arg14.toNat, 0]

def k0_chk1 (v5 : BitVec 32) (v7 : BitVec 32) : Prop :=
  ((k0_t1_loop v5 v7).OK) ∧
  (∀ k0_t1 : Fin (k0_t1_loop v5 v7).trips, ∀ a, (k0_off2 v5 v7 k0_t1) a + S1x16.size a ≤ S3600x16.size a) ∧
  ((k0_t6_loop v5 v7).OK) ∧
  (∀ k0_t6 : Fin (k0_t6_loop v5 v7).trips, ∀ a, (k0_off107 v5 v7 k0_t6) a + S1x16.size a ≤ S3600x16.size a)
theorem k0_t1_ok : ∀ (v5 : BitVec 32) (v7 : BitVec 32) (k0_hw1 : k0_chk1 v5 v7), (k0_t1_loop v5 v7).OK := fun v5 v7 k0_hw1 => k0_hw1.1
theorem k0_off2_inb : ∀ (v5 : BitVec 32) (v7 : BitVec 32) (k0_hw1 : k0_chk1 v5 v7) (k0_t1 : Fin (k0_t1_loop v5 v7).trips), ∀ a, (k0_off2 v5 v7 k0_t1) a + S1x16.size a ≤ S3600x16.size a := fun v5 v7 k0_hw1 k0_t1 => k0_hw1.2.1 k0_t1
theorem k0_t6_ok : ∀ (v5 : BitVec 32) (v7 : BitVec 32) (k0_hw1 : k0_chk1 v5 v7), (k0_t6_loop v5 v7).OK := fun v5 v7 k0_hw1 => k0_hw1.2.2.1
theorem k0_off107_inb : ∀ (v5 : BitVec 32) (v7 : BitVec 32) (k0_hw1 : k0_chk1 v5 v7) (k0_t6 : Fin (k0_t6_loop v5 v7).trips), ∀ a, (k0_off107 v5 v7 k0_t6) a + S1x16.size a ≤ S3600x16.size a := fun v5 v7 k0_hw1 k0_t6 => k0_hw1.2.2.2 k0_t6

def k0_off108 (v17 : BitVec 32) : Fin 3 → Nat :=
  let c0_i32_22_r8 : BitVec 32 := 0#32
  let c0_i32_23_r8 : BitVec 32 := 0#32
  ![v17.toNat, 0, 0]

def k0_off109 (v17 : BitVec 32) : Fin 3 → Nat :=
  let c0_i32_22_r9 : BitVec 32 := 0#32
  let c0_i32_23_r9 : BitVec 32 := 0#32
  ![v17.toNat, 0, 0]

def k0_chk198 (v17 : BitVec 32) : Prop :=
  (∀ a, (k0_off108 v17) a + S1x24x1536.size a ≤ S2000x24x1536.size a) ∧
  (∀ a, (k0_off109 v17) a + S1x48x256.size a ≤ S2000x48x256.size a)
theorem k0_off108_inb : ∀ (v17 : BitVec 32) (k0_hw198 : k0_chk198 v17), ∀ a, (k0_off108 v17) a + S1x24x1536.size a ≤ S2000x24x1536.size a := fun v17 k0_hw198 => k0_hw198.1
theorem k0_off109_inb : ∀ (v17 : BitVec 32) (k0_hw198 : k0_chk198 v17), ∀ a, (k0_off109 v17) a + S1x48x256.size a ≤ S2000x48x256.size a := fun v17 k0_hw198 => k0_hw198.2

def k0_off110 (v19 : BitVec 32) : Fin 3 → Nat :=
  let c0_i32_24_r10 : BitVec 32 := 0#32
  let c0_i32_25_r10 : BitVec 32 := 0#32
  ![v19.toNat, 0, 0]

def k0_off111 (v19 : BitVec 32) : Fin 3 → Nat :=
  let c0_i32_24_r11 : BitVec 32 := 0#32
  let c128_i32_r11 : BitVec 32 := 128#32
  ![v19.toNat, 0, 128]

def k0_chk199 (v19 : BitVec 32) : Prop :=
  (∀ a, (k0_off110 v19) a + S1x96x128.size a ≤ S200x96x256.size a) ∧
  (∀ a, (k0_off111 v19) a + S1x96x128.size a ≤ S200x96x256.size a)
theorem k0_off110_inb : ∀ (v19 : BitVec 32) (k0_hw199 : k0_chk199 v19), ∀ a, (k0_off110 v19) a + S1x96x128.size a ≤ S200x96x256.size a := fun v19 k0_hw199 => k0_hw199.1
theorem k0_off111_inb : ∀ (v19 : BitVec 32) (k0_hw199 : k0_chk199 v19), ∀ a, (k0_off111 v19) a + S1x96x128.size a ≤ S200x96x256.size a := fun v19 k0_hw199 => k0_hw199.2

@[reducible] def k0_t7_loop : Scf.Loop 32 :=
  let c0_i32_5 : BitVec 32 := 0#32
  let c48_i32 : BitVec 32 := 48#32
  let v24 : BitVec 32 := Scalar.addi c0_i32_5 c48_i32
  let c1_i32_6 : BitVec 32 := 1#32
  ⟨c0_i32_5, v24, c1_i32_6⟩
def k0_off112 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v40 : Index := Scalar.indexCast v39
  let c0_24 : Index := 0#32
  ![v40.toNat, 0]
def k0_off113 (k0_t7 : Fin k0_t7_loop.trips) : Fin 3 → Nat :=
  let c2_i32_25 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v48 : BitVec 32 := Scalar.muli c2_i32_25 v39
  let v49 : Index := Scalar.indexCast v48
  let c0_i32_26 : BitVec 32 := 0#32
  let v50 : Index := Scalar.indexCast c0_i32_26
  let c0_27 : Index := 0#32
  ![v49.toNat, 0, 0]
def k0_off114 (k0_t7 : Fin k0_t7_loop.trips) : Fin 3 → Nat :=
  let c2_i32_31 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v57 : BitVec 32 := Scalar.muli c2_i32_31 v39
  let c1_i32_32 : BitVec 32 := 1#32
  let v58 : BitVec 32 := Scalar.addi v57 c1_i32_32
  let v59 : Index := Scalar.indexCast v58
  let c0_i32_33 : BitVec 32 := 0#32
  let v60 : Index := Scalar.indexCast c0_i32_33
  let c0_34 : Index := 0#32
  ![v59.toNat, 0, 0]
def k0_off115 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v68 : Index := Scalar.indexCast v39
  let c16 : Index := 16#32
  ![v68.toNat, 16]
def k0_off116 (k0_t7 : Fin k0_t7_loop.trips) : Fin 3 → Nat :=
  let c2_i32_41 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v76 : BitVec 32 := Scalar.muli c2_i32_41 v39
  let v77 : Index := Scalar.indexCast v76
  let c0_i32_42 : BitVec 32 := 0#32
  let v78 : Index := Scalar.indexCast c0_i32_42
  let c16_43 : Index := 16#32
  ![v77.toNat, 0, 16]
def k0_off117 (k0_t7 : Fin k0_t7_loop.trips) : Fin 3 → Nat :=
  let c2_i32_47 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v85 : BitVec 32 := Scalar.muli c2_i32_47 v39
  let c1_i32_48 : BitVec 32 := 1#32
  let v86 : BitVec 32 := Scalar.addi v85 c1_i32_48
  let v87 : Index := Scalar.indexCast v86
  let c0_i32_49 : BitVec 32 := 0#32
  let v88 : Index := Scalar.indexCast c0_i32_49
  let c16_50 : Index := 16#32
  ![v87.toNat, 0, 16]
def k0_off118 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v96 : Index := Scalar.indexCast v39
  let c32 : Index := 32#32
  ![v96.toNat, 32]
def k0_off119 (k0_t7 : Fin k0_t7_loop.trips) : Fin 3 → Nat :=
  let c2_i32_57 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v104 : BitVec 32 := Scalar.muli c2_i32_57 v39
  let v105 : Index := Scalar.indexCast v104
  let c0_i32_58 : BitVec 32 := 0#32
  let v106 : Index := Scalar.indexCast c0_i32_58
  let c32_59 : Index := 32#32
  ![v105.toNat, 0, 32]
def k0_off120 (k0_t7 : Fin k0_t7_loop.trips) : Fin 3 → Nat :=
  let c2_i32_63 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v113 : BitVec 32 := Scalar.muli c2_i32_63 v39
  let c1_i32_64 : BitVec 32 := 1#32
  let v114 : BitVec 32 := Scalar.addi v113 c1_i32_64
  let v115 : Index := Scalar.indexCast v114
  let c0_i32_65 : BitVec 32 := 0#32
  let v116 : Index := Scalar.indexCast c0_i32_65
  let c32_66 : Index := 32#32
  ![v115.toNat, 0, 32]
def k0_off121 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v124 : Index := Scalar.indexCast v39
  let c48 : Index := 48#32
  ![v124.toNat, 48]
def k0_off122 (k0_t7 : Fin k0_t7_loop.trips) : Fin 3 → Nat :=
  let c2_i32_73 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v132 : BitVec 32 := Scalar.muli c2_i32_73 v39
  let v133 : Index := Scalar.indexCast v132
  let c0_i32_74 : BitVec 32 := 0#32
  let v134 : Index := Scalar.indexCast c0_i32_74
  let c48_75 : Index := 48#32
  ![v133.toNat, 0, 48]
def k0_off123 (k0_t7 : Fin k0_t7_loop.trips) : Fin 3 → Nat :=
  let c2_i32_79 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v141 : BitVec 32 := Scalar.muli c2_i32_79 v39
  let c1_i32_80 : BitVec 32 := 1#32
  let v142 : BitVec 32 := Scalar.addi v141 c1_i32_80
  let v143 : Index := Scalar.indexCast v142
  let c0_i32_81 : BitVec 32 := 0#32
  let v144 : Index := Scalar.indexCast c0_i32_81
  let c48_82 : Index := 48#32
  ![v143.toNat, 0, 48]
def k0_off124 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v152 : Index := Scalar.indexCast v39
  let c64 : Index := 64#32
  ![v152.toNat, 64]
def k0_off125 (k0_t7 : Fin k0_t7_loop.trips) : Fin 3 → Nat :=
  let c2_i32_89 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v160 : BitVec 32 := Scalar.muli c2_i32_89 v39
  let v161 : Index := Scalar.indexCast v160
  let c0_i32_90 : BitVec 32 := 0#32
  let v162 : Index := Scalar.indexCast c0_i32_90
  let c64_91 : Index := 64#32
  ![v161.toNat, 0, 64]
def k0_off126 (k0_t7 : Fin k0_t7_loop.trips) : Fin 3 → Nat :=
  let c2_i32_95 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v169 : BitVec 32 := Scalar.muli c2_i32_95 v39
  let c1_i32_96 : BitVec 32 := 1#32
  let v170 : BitVec 32 := Scalar.addi v169 c1_i32_96
  let v171 : Index := Scalar.indexCast v170
  let c0_i32_97 : BitVec 32 := 0#32
  let v172 : Index := Scalar.indexCast c0_i32_97
  let c64_98 : Index := 64#32
  ![v171.toNat, 0, 64]
def k0_off127 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v180 : Index := Scalar.indexCast v39
  let c80 : Index := 80#32
  ![v180.toNat, 80]
def k0_off128 (k0_t7 : Fin k0_t7_loop.trips) : Fin 3 → Nat :=
  let c2_i32_105 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v188 : BitVec 32 := Scalar.muli c2_i32_105 v39
  let v189 : Index := Scalar.indexCast v188
  let c0_i32_106 : BitVec 32 := 0#32
  let v190 : Index := Scalar.indexCast c0_i32_106
  let c80_107 : Index := 80#32
  ![v189.toNat, 0, 80]
def k0_off129 (k0_t7 : Fin k0_t7_loop.trips) : Fin 3 → Nat :=
  let c2_i32_111 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v197 : BitVec 32 := Scalar.muli c2_i32_111 v39
  let c1_i32_112 : BitVec 32 := 1#32
  let v198 : BitVec 32 := Scalar.addi v197 c1_i32_112
  let v199 : Index := Scalar.indexCast v198
  let c0_i32_113 : BitVec 32 := 0#32
  let v200 : Index := Scalar.indexCast c0_i32_113
  let c80_114 : Index := 80#32
  ![v199.toNat, 0, 80]
def k0_off130 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v208 : Index := Scalar.indexCast v39
  let c96 : Index := 96#32
  ![v208.toNat, 96]
def k0_off131 (k0_t7 : Fin k0_t7_loop.trips) : Fin 3 → Nat :=
  let c2_i32_121 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v216 : BitVec 32 := Scalar.muli c2_i32_121 v39
  let v217 : Index := Scalar.indexCast v216
  let c0_i32_122 : BitVec 32 := 0#32
  let v218 : Index := Scalar.indexCast c0_i32_122
  let c96_123 : Index := 96#32
  ![v217.toNat, 0, 96]
def k0_off132 (k0_t7 : Fin k0_t7_loop.trips) : Fin 3 → Nat :=
  let c2_i32_127 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v225 : BitVec 32 := Scalar.muli c2_i32_127 v39
  let c1_i32_128 : BitVec 32 := 1#32
  let v226 : BitVec 32 := Scalar.addi v225 c1_i32_128
  let v227 : Index := Scalar.indexCast v226
  let c0_i32_129 : BitVec 32 := 0#32
  let v228 : Index := Scalar.indexCast c0_i32_129
  let c96_130 : Index := 96#32
  ![v227.toNat, 0, 96]
def k0_off133 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v236 : Index := Scalar.indexCast v39
  let c112 : Index := 112#32
  ![v236.toNat, 112]
def k0_off134 (k0_t7 : Fin k0_t7_loop.trips) : Fin 3 → Nat :=
  let c2_i32_137 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v244 : BitVec 32 := Scalar.muli c2_i32_137 v39
  let v245 : Index := Scalar.indexCast v244
  let c0_i32_138 : BitVec 32 := 0#32
  let v246 : Index := Scalar.indexCast c0_i32_138
  let c112_139 : Index := 112#32
  ![v245.toNat, 0, 112]
def k0_off135 (k0_t7 : Fin k0_t7_loop.trips) : Fin 3 → Nat :=
  let c2_i32_143 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v253 : BitVec 32 := Scalar.muli c2_i32_143 v39
  let c1_i32_144 : BitVec 32 := 1#32
  let v254 : BitVec 32 := Scalar.addi v253 c1_i32_144
  let v255 : Index := Scalar.indexCast v254
  let c0_i32_145 : BitVec 32 := 0#32
  let v256 : Index := Scalar.indexCast c0_i32_145
  let c112_146 : Index := 112#32
  ![v255.toNat, 0, 112]
def k0_off136 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v264 : Index := Scalar.indexCast v39
  let c128 : Index := 128#32
  ![v264.toNat, 128]
def k0_off137 (k0_t7 : Fin k0_t7_loop.trips) : Fin 3 → Nat :=
  let c2_i32_153 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v272 : BitVec 32 := Scalar.muli c2_i32_153 v39
  let v273 : Index := Scalar.indexCast v272
  let c1_i32_154 : BitVec 32 := 1#32
  let v274 : Index := Scalar.indexCast c1_i32_154
  let c0_155 : Index := 0#32
  ![v273.toNat, 1, 0]
def k0_off138 (k0_t7 : Fin k0_t7_loop.trips) : Fin 3 → Nat :=
  let c2_i32_159 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v281 : BitVec 32 := Scalar.muli c2_i32_159 v39
  let c1_i32_160 : BitVec 32 := 1#32
  let v282 : BitVec 32 := Scalar.addi v281 c1_i32_160
  let v283 : Index := Scalar.indexCast v282
  let c1_i32_161 : BitVec 32 := 1#32
  let v284 : Index := Scalar.indexCast c1_i32_161
  let c0_162 : Index := 0#32
  ![v283.toNat, 1, 0]
def k0_off139 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v292 : Index := Scalar.indexCast v39
  let c144 : Index := 144#32
  ![v292.toNat, 144]
def k0_off140 (k0_t7 : Fin k0_t7_loop.trips) : Fin 3 → Nat :=
  let c2_i32_169 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v300 : BitVec 32 := Scalar.muli c2_i32_169 v39
  let v301 : Index := Scalar.indexCast v300
  let c1_i32_170 : BitVec 32 := 1#32
  let v302 : Index := Scalar.indexCast c1_i32_170
  let c16_171 : Index := 16#32
  ![v301.toNat, 1, 16]
def k0_off141 (k0_t7 : Fin k0_t7_loop.trips) : Fin 3 → Nat :=
  let c2_i32_175 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v309 : BitVec 32 := Scalar.muli c2_i32_175 v39
  let c1_i32_176 : BitVec 32 := 1#32
  let v310 : BitVec 32 := Scalar.addi v309 c1_i32_176
  let v311 : Index := Scalar.indexCast v310
  let c1_i32_177 : BitVec 32 := 1#32
  let v312 : Index := Scalar.indexCast c1_i32_177
  let c16_178 : Index := 16#32
  ![v311.toNat, 1, 16]
def k0_off142 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v320 : Index := Scalar.indexCast v39
  let c160 : Index := 160#32
  ![v320.toNat, 160]
def k0_off143 (k0_t7 : Fin k0_t7_loop.trips) : Fin 3 → Nat :=
  let c2_i32_185 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v328 : BitVec 32 := Scalar.muli c2_i32_185 v39
  let v329 : Index := Scalar.indexCast v328
  let c1_i32_186 : BitVec 32 := 1#32
  let v330 : Index := Scalar.indexCast c1_i32_186
  let c32_187 : Index := 32#32
  ![v329.toNat, 1, 32]
def k0_off144 (k0_t7 : Fin k0_t7_loop.trips) : Fin 3 → Nat :=
  let c2_i32_191 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v337 : BitVec 32 := Scalar.muli c2_i32_191 v39
  let c1_i32_192 : BitVec 32 := 1#32
  let v338 : BitVec 32 := Scalar.addi v337 c1_i32_192
  let v339 : Index := Scalar.indexCast v338
  let c1_i32_193 : BitVec 32 := 1#32
  let v340 : Index := Scalar.indexCast c1_i32_193
  let c32_194 : Index := 32#32
  ![v339.toNat, 1, 32]
def k0_off145 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v348 : Index := Scalar.indexCast v39
  let c176 : Index := 176#32
  ![v348.toNat, 176]
def k0_off146 (k0_t7 : Fin k0_t7_loop.trips) : Fin 3 → Nat :=
  let c2_i32_201 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v356 : BitVec 32 := Scalar.muli c2_i32_201 v39
  let v357 : Index := Scalar.indexCast v356
  let c1_i32_202 : BitVec 32 := 1#32
  let v358 : Index := Scalar.indexCast c1_i32_202
  let c48_203 : Index := 48#32
  ![v357.toNat, 1, 48]
def k0_off147 (k0_t7 : Fin k0_t7_loop.trips) : Fin 3 → Nat :=
  let c2_i32_207 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v365 : BitVec 32 := Scalar.muli c2_i32_207 v39
  let c1_i32_208 : BitVec 32 := 1#32
  let v366 : BitVec 32 := Scalar.addi v365 c1_i32_208
  let v367 : Index := Scalar.indexCast v366
  let c1_i32_209 : BitVec 32 := 1#32
  let v368 : Index := Scalar.indexCast c1_i32_209
  let c48_210 : Index := 48#32
  ![v367.toNat, 1, 48]
def k0_off148 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v376 : Index := Scalar.indexCast v39
  let c192 : Index := 192#32
  ![v376.toNat, 192]
def k0_off149 (k0_t7 : Fin k0_t7_loop.trips) : Fin 3 → Nat :=
  let c2_i32_217 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v384 : BitVec 32 := Scalar.muli c2_i32_217 v39
  let v385 : Index := Scalar.indexCast v384
  let c1_i32_218 : BitVec 32 := 1#32
  let v386 : Index := Scalar.indexCast c1_i32_218
  let c64_219 : Index := 64#32
  ![v385.toNat, 1, 64]
def k0_off150 (k0_t7 : Fin k0_t7_loop.trips) : Fin 3 → Nat :=
  let c2_i32_223 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v393 : BitVec 32 := Scalar.muli c2_i32_223 v39
  let c1_i32_224 : BitVec 32 := 1#32
  let v394 : BitVec 32 := Scalar.addi v393 c1_i32_224
  let v395 : Index := Scalar.indexCast v394
  let c1_i32_225 : BitVec 32 := 1#32
  let v396 : Index := Scalar.indexCast c1_i32_225
  let c64_226 : Index := 64#32
  ![v395.toNat, 1, 64]
def k0_off151 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v404 : Index := Scalar.indexCast v39
  let c208 : Index := 208#32
  ![v404.toNat, 208]
def k0_off152 (k0_t7 : Fin k0_t7_loop.trips) : Fin 3 → Nat :=
  let c2_i32_233 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v412 : BitVec 32 := Scalar.muli c2_i32_233 v39
  let v413 : Index := Scalar.indexCast v412
  let c1_i32_234 : BitVec 32 := 1#32
  let v414 : Index := Scalar.indexCast c1_i32_234
  let c80_235 : Index := 80#32
  ![v413.toNat, 1, 80]
def k0_off153 (k0_t7 : Fin k0_t7_loop.trips) : Fin 3 → Nat :=
  let c2_i32_239 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v421 : BitVec 32 := Scalar.muli c2_i32_239 v39
  let c1_i32_240 : BitVec 32 := 1#32
  let v422 : BitVec 32 := Scalar.addi v421 c1_i32_240
  let v423 : Index := Scalar.indexCast v422
  let c1_i32_241 : BitVec 32 := 1#32
  let v424 : Index := Scalar.indexCast c1_i32_241
  let c80_242 : Index := 80#32
  ![v423.toNat, 1, 80]
def k0_off154 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v432 : Index := Scalar.indexCast v39
  let c224 : Index := 224#32
  ![v432.toNat, 224]
def k0_off155 (k0_t7 : Fin k0_t7_loop.trips) : Fin 3 → Nat :=
  let c2_i32_249 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v440 : BitVec 32 := Scalar.muli c2_i32_249 v39
  let v441 : Index := Scalar.indexCast v440
  let c1_i32_250 : BitVec 32 := 1#32
  let v442 : Index := Scalar.indexCast c1_i32_250
  let c96_251 : Index := 96#32
  ![v441.toNat, 1, 96]
def k0_off156 (k0_t7 : Fin k0_t7_loop.trips) : Fin 3 → Nat :=
  let c2_i32_255 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v449 : BitVec 32 := Scalar.muli c2_i32_255 v39
  let c1_i32_256 : BitVec 32 := 1#32
  let v450 : BitVec 32 := Scalar.addi v449 c1_i32_256
  let v451 : Index := Scalar.indexCast v450
  let c1_i32_257 : BitVec 32 := 1#32
  let v452 : Index := Scalar.indexCast c1_i32_257
  let c96_258 : Index := 96#32
  ![v451.toNat, 1, 96]
def k0_off157 (k0_t7 : Fin k0_t7_loop.trips) : Fin 2 → Nat :=
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v460 : Index := Scalar.indexCast v39
  let c240 : Index := 240#32
  ![v460.toNat, 240]
def k0_off158 (k0_t7 : Fin k0_t7_loop.trips) : Fin 3 → Nat :=
  let c2_i32_265 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v468 : BitVec 32 := Scalar.muli c2_i32_265 v39
  let v469 : Index := Scalar.indexCast v468
  let c1_i32_266 : BitVec 32 := 1#32
  let v470 : Index := Scalar.indexCast c1_i32_266
  let c112_267 : Index := 112#32
  ![v469.toNat, 1, 112]
def k0_off159 (k0_t7 : Fin k0_t7_loop.trips) : Fin 3 → Nat :=
  let c2_i32_271 : BitVec 32 := 2#32
  let c0_i32_23 : BitVec 32 := 0#32
  let c0_i32_5 : BitVec 32 := 0#32
  let c1_i32_6 : BitVec 32 := 1#32
  let arg16 : BitVec 32 := Scf.iv c0_i32_5 c1_i32_6 k0_t7
  let c1_i32_22 : BitVec 32 := 1#32
  let v38 : BitVec 32 := Scalar.muli arg16 c1_i32_22
  let v39 : BitVec 32 := Scalar.addi c0_i32_23 v38
  let v477 : BitVec 32 := Scalar.muli c2_i32_271 v39
  let c1_i32_272 : BitVec 32 := 1#32
  let v478 : BitVec 32 := Scalar.addi v477 c1_i32_272
  let v479 : Index := Scalar.indexCast v478
  let c1_i32_273 : BitVec 32 := 1#32
  let v480 : Index := Scalar.indexCast c1_i32_273
  let c112_274 : Index := 112#32
  ![v479.toNat, 1, 112]
@[reducible] def k0_t8_loop : Scf.Loop 32 :=
  let c0_i32_8 : BitVec 32 := 0#32
  let c96_i32 : BitVec 32 := 96#32
  let v26 : BitVec 32 := Scalar.addi c0_i32_8 c96_i32
  let c1_i32_9 : BitVec 32 := 1#32
  ⟨c0_i32_8, v26, c1_i32_9⟩
def k0_off160 (k0_t8 : Fin k0_t8_loop.trips) : Fin 1 → Nat :=
  let c0_i32_23 : BitVec 32 := 0#32
  let c0_i32_8 : BitVec 32 := 0#32
  let c1_i32_9 : BitVec 32 := 1#32
  let arg16 : BitVec 32 := Scf.iv c0_i32_8 c1_i32_9 k0_t8
  let c1_i32_22 : BitVec 32 := 1#32
  let v38 : BitVec 32 := Scalar.muli arg16 c1_i32_22
  let v39 : BitVec 32 := Scalar.addi c0_i32_23 v38
  let c16_i32 : BitVec 32 := 16#32
  let v40 : BitVec 32 := Scalar.muli v39 c16_i32
  let v41 : Index := Scalar.indexCast v40
  ![v41.toNat]
@[reducible] def k0_t9_loop (v23 : BitVec 32) : Scf.Loop 32 :=
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_19 : BitVec 32 := 1#32
  ⟨c0_i32_17, v37, c1_i32_19⟩

def k0_off161 (v23 : BitVec 32) (k0_t9 : Fin (k0_t9_loop v23).trips) : Fin 2 → Nat :=
  let c0_i32_22 : BitVec 32 := 0#32
  let v41 : Index := Scalar.indexCast c0_i32_22
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32 : BitVec 32 := 16#32
  let v40 : BitVec 32 := Scalar.muli v39 c16_i32
  let v42 : Index := Scalar.indexCast v40
  ![0, v42.toNat]

def k0_chk201 (v48 : IVec S16 32) (v50 : IVec S16 32) (v52 : IVec S16 32) : Prop :=
  (∀ a x, ((![v48, v50, v52] : Fin 3 → IVec S16 32) a x).toNat < S96x2x128.size a)
theorem k0_idx193_inb : ∀ (v48 : IVec S16 32) (v50 : IVec S16 32) (v52 : IVec S16 32) (k0_hw201 : k0_chk201 v48 v50 v52), ∀ a x, ((![v48, v50, v52] : Fin 3 → IVec S16 32) a x).toNat < S96x2x128.size a := fun v48 v50 v52 k0_hw201 => k0_hw201

def k0_chk202 (v58 : IVec S16 32) (v60 : IVec S16 32) (v62 : IVec S16 32) : Prop :=
  (∀ a x, ((![v58, v60, v62] : Fin 3 → IVec S16 32) a x).toNat < S96x2x128.size a)
theorem k0_idx194_inb : ∀ (v58 : IVec S16 32) (v60 : IVec S16 32) (v62 : IVec S16 32) (k0_hw202 : k0_chk202 v58 v60 v62), ∀ a x, ((![v58, v60, v62] : Fin 3 → IVec S16 32) a x).toNat < S96x2x128.size a := fun v58 v60 v62 k0_hw202 => k0_hw202

def k0_chk203 (v68 : IVec S16 32) (v70 : IVec S16 32) (v72 : IVec S16 32) : Prop :=
  (∀ a x, ((![v68, v70, v72] : Fin 3 → IVec S16 32) a x).toNat < S96x2x128.size a)
theorem k0_idx195_inb : ∀ (v68 : IVec S16 32) (v70 : IVec S16 32) (v72 : IVec S16 32) (k0_hw203 : k0_chk203 v68 v70 v72), ∀ a x, ((![v68, v70, v72] : Fin 3 → IVec S16 32) a x).toNat < S96x2x128.size a := fun v68 v70 v72 k0_hw203 => k0_hw203

def k0_chk204 (v78 : IVec S16 32) (v80 : IVec S16 32) (v82 : IVec S16 32) : Prop :=
  (∀ a x, ((![v78, v80, v82] : Fin 3 → IVec S16 32) a x).toNat < S96x2x128.size a)
theorem k0_idx196_inb : ∀ (v78 : IVec S16 32) (v80 : IVec S16 32) (v82 : IVec S16 32) (k0_hw204 : k0_chk204 v78 v80 v82), ∀ a x, ((![v78, v80, v82] : Fin 3 → IVec S16 32) a x).toNat < S96x2x128.size a := fun v78 v80 v82 k0_hw204 => k0_hw204
def k0_off162 (v23 : BitVec 32) (k0_t9 : Fin (k0_t9_loop v23).trips) : Fin 2 → Nat :=
  let c1_i32_38 : BitVec 32 := 1#32
  let v85 : Index := Scalar.indexCast c1_i32_38
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_37 : BitVec 32 := 16#32
  let v84 : BitVec 32 := Scalar.muli v39 c16_i32_37
  let v86 : Index := Scalar.indexCast v84
  ![1, v86.toNat]

def k0_chk205 (v92 : IVec S16 32) (v94 : IVec S16 32) (v96 : IVec S16 32) : Prop :=
  (∀ a x, ((![v92, v94, v96] : Fin 3 → IVec S16 32) a x).toNat < S96x2x128.size a)
theorem k0_idx197_inb : ∀ (v92 : IVec S16 32) (v94 : IVec S16 32) (v96 : IVec S16 32) (k0_hw205 : k0_chk205 v92 v94 v96), ∀ a x, ((![v92, v94, v96] : Fin 3 → IVec S16 32) a x).toNat < S96x2x128.size a := fun v92 v94 v96 k0_hw205 => k0_hw205

def k0_chk206 (v103 : IVec S16 32) (v105 : IVec S16 32) (v107 : IVec S16 32) : Prop :=
  (∀ a x, ((![v103, v105, v107] : Fin 3 → IVec S16 32) a x).toNat < S96x2x128.size a)
theorem k0_idx198_inb : ∀ (v103 : IVec S16 32) (v105 : IVec S16 32) (v107 : IVec S16 32) (k0_hw206 : k0_chk206 v103 v105 v107), ∀ a x, ((![v103, v105, v107] : Fin 3 → IVec S16 32) a x).toNat < S96x2x128.size a := fun v103 v105 v107 k0_hw206 => k0_hw206

def k0_chk207 (v114 : IVec S16 32) (v116 : IVec S16 32) (v118 : IVec S16 32) : Prop :=
  (∀ a x, ((![v114, v116, v118] : Fin 3 → IVec S16 32) a x).toNat < S96x2x128.size a)
theorem k0_idx199_inb : ∀ (v114 : IVec S16 32) (v116 : IVec S16 32) (v118 : IVec S16 32) (k0_hw207 : k0_chk207 v114 v116 v118), ∀ a x, ((![v114, v116, v118] : Fin 3 → IVec S16 32) a x).toNat < S96x2x128.size a := fun v114 v116 v118 k0_hw207 => k0_hw207

def k0_chk208 (v125 : IVec S16 32) (v127 : IVec S16 32) (v129 : IVec S16 32) : Prop :=
  (∀ a x, ((![v125, v127, v129] : Fin 3 → IVec S16 32) a x).toNat < S96x2x128.size a)
theorem k0_idx200_inb : ∀ (v125 : IVec S16 32) (v127 : IVec S16 32) (v129 : IVec S16 32) (k0_hw208 : k0_chk208 v125 v127 v129), ∀ a x, ((![v125, v127, v129] : Fin 3 → IVec S16 32) a x).toNat < S96x2x128.size a := fun v125 v127 v129 k0_hw208 => k0_hw208
def k0_off163 (v23 : BitVec 32) (k0_t9 : Fin (k0_t9_loop v23).trips) : Fin 2 → Nat :=
  let c2_i32_58 : BitVec 32 := 2#32
  let v133 : Index := Scalar.indexCast c2_i32_58
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_57 : BitVec 32 := 16#32
  let v132 : BitVec 32 := Scalar.muli v39 c16_i32_57
  let v134 : Index := Scalar.indexCast v132
  ![2, v134.toNat]

def k0_chk209 (v140 : IVec S16 32) (v142 : IVec S16 32) (v144 : IVec S16 32) : Prop :=
  (∀ a x, ((![v140, v142, v144] : Fin 3 → IVec S16 32) a x).toNat < S96x2x128.size a)
theorem k0_idx201_inb : ∀ (v140 : IVec S16 32) (v142 : IVec S16 32) (v144 : IVec S16 32) (k0_hw209 : k0_chk209 v140 v142 v144), ∀ a x, ((![v140, v142, v144] : Fin 3 → IVec S16 32) a x).toNat < S96x2x128.size a := fun v140 v142 v144 k0_hw209 => k0_hw209

def k0_chk210 (v151 : IVec S16 32) (v153 : IVec S16 32) (v155 : IVec S16 32) : Prop :=
  (∀ a x, ((![v151, v153, v155] : Fin 3 → IVec S16 32) a x).toNat < S96x2x128.size a)
theorem k0_idx202_inb : ∀ (v151 : IVec S16 32) (v153 : IVec S16 32) (v155 : IVec S16 32) (k0_hw210 : k0_chk210 v151 v153 v155), ∀ a x, ((![v151, v153, v155] : Fin 3 → IVec S16 32) a x).toNat < S96x2x128.size a := fun v151 v153 v155 k0_hw210 => k0_hw210

def k0_chk211 (v162 : IVec S16 32) (v164 : IVec S16 32) (v166 : IVec S16 32) : Prop :=
  (∀ a x, ((![v162, v164, v166] : Fin 3 → IVec S16 32) a x).toNat < S96x2x128.size a)
theorem k0_idx203_inb : ∀ (v162 : IVec S16 32) (v164 : IVec S16 32) (v166 : IVec S16 32) (k0_hw211 : k0_chk211 v162 v164 v166), ∀ a x, ((![v162, v164, v166] : Fin 3 → IVec S16 32) a x).toNat < S96x2x128.size a := fun v162 v164 v166 k0_hw211 => k0_hw211

def k0_chk212 (v173 : IVec S16 32) (v175 : IVec S16 32) (v177 : IVec S16 32) : Prop :=
  (∀ a x, ((![v173, v175, v177] : Fin 3 → IVec S16 32) a x).toNat < S96x2x128.size a)
theorem k0_idx204_inb : ∀ (v173 : IVec S16 32) (v175 : IVec S16 32) (v177 : IVec S16 32) (k0_hw212 : k0_chk212 v173 v175 v177), ∀ a x, ((![v173, v175, v177] : Fin 3 → IVec S16 32) a x).toNat < S96x2x128.size a := fun v173 v175 v177 k0_hw212 => k0_hw212
def k0_off164 (v23 : BitVec 32) (k0_t9 : Fin (k0_t9_loop v23).trips) : Fin 2 → Nat :=
  let c3_i32_77 : BitVec 32 := 3#32
  let v181 : Index := Scalar.indexCast c3_i32_77
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_76 : BitVec 32 := 16#32
  let v180 : BitVec 32 := Scalar.muli v39 c16_i32_76
  let v182 : Index := Scalar.indexCast v180
  ![3, v182.toNat]

def k0_chk213 (v188 : IVec S16 32) (v190 : IVec S16 32) (v192 : IVec S16 32) : Prop :=
  (∀ a x, ((![v188, v190, v192] : Fin 3 → IVec S16 32) a x).toNat < S96x2x128.size a)
theorem k0_idx205_inb : ∀ (v188 : IVec S16 32) (v190 : IVec S16 32) (v192 : IVec S16 32) (k0_hw213 : k0_chk213 v188 v190 v192), ∀ a x, ((![v188, v190, v192] : Fin 3 → IVec S16 32) a x).toNat < S96x2x128.size a := fun v188 v190 v192 k0_hw213 => k0_hw213

def k0_chk214 (v199 : IVec S16 32) (v201 : IVec S16 32) (v203 : IVec S16 32) : Prop :=
  (∀ a x, ((![v199, v201, v203] : Fin 3 → IVec S16 32) a x).toNat < S96x2x128.size a)
theorem k0_idx206_inb : ∀ (v199 : IVec S16 32) (v201 : IVec S16 32) (v203 : IVec S16 32) (k0_hw214 : k0_chk214 v199 v201 v203), ∀ a x, ((![v199, v201, v203] : Fin 3 → IVec S16 32) a x).toNat < S96x2x128.size a := fun v199 v201 v203 k0_hw214 => k0_hw214

def k0_chk215 (v210 : IVec S16 32) (v212 : IVec S16 32) (v214 : IVec S16 32) : Prop :=
  (∀ a x, ((![v210, v212, v214] : Fin 3 → IVec S16 32) a x).toNat < S96x2x128.size a)
theorem k0_idx207_inb : ∀ (v210 : IVec S16 32) (v212 : IVec S16 32) (v214 : IVec S16 32) (k0_hw215 : k0_chk215 v210 v212 v214), ∀ a x, ((![v210, v212, v214] : Fin 3 → IVec S16 32) a x).toNat < S96x2x128.size a := fun v210 v212 v214 k0_hw215 => k0_hw215

def k0_chk216 (v221 : IVec S16 32) (v223 : IVec S16 32) (v225 : IVec S16 32) : Prop :=
  (∀ a x, ((![v221, v223, v225] : Fin 3 → IVec S16 32) a x).toNat < S96x2x128.size a)
theorem k0_idx208_inb : ∀ (v221 : IVec S16 32) (v223 : IVec S16 32) (v225 : IVec S16 32) (k0_hw216 : k0_chk216 v221 v223 v225), ∀ a x, ((![v221, v223, v225] : Fin 3 → IVec S16 32) a x).toNat < S96x2x128.size a := fun v221 v223 v225 k0_hw216 => k0_hw216
def k0_off165 (v23 : BitVec 32) (k0_t9 : Fin (k0_t9_loop v23).trips) : Fin 2 → Nat :=
  let c4_i32_96 : BitVec 32 := 4#32
  let v229 : Index := Scalar.indexCast c4_i32_96
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_95 : BitVec 32 := 16#32
  let v228 : BitVec 32 := Scalar.muli v39 c16_i32_95
  let v230 : Index := Scalar.indexCast v228
  ![4, v230.toNat]

def k0_chk217 (v236 : IVec S16 32) (v238 : IVec S16 32) (v240 : IVec S16 32) : Prop :=
  (∀ a x, ((![v236, v238, v240] : Fin 3 → IVec S16 32) a x).toNat < S96x2x128.size a)
theorem k0_idx209_inb : ∀ (v236 : IVec S16 32) (v238 : IVec S16 32) (v240 : IVec S16 32) (k0_hw217 : k0_chk217 v236 v238 v240), ∀ a x, ((![v236, v238, v240] : Fin 3 → IVec S16 32) a x).toNat < S96x2x128.size a := fun v236 v238 v240 k0_hw217 => k0_hw217

def k0_chk218 (v247 : IVec S16 32) (v249 : IVec S16 32) (v251 : IVec S16 32) : Prop :=
  (∀ a x, ((![v247, v249, v251] : Fin 3 → IVec S16 32) a x).toNat < S96x2x128.size a)
theorem k0_idx210_inb : ∀ (v247 : IVec S16 32) (v249 : IVec S16 32) (v251 : IVec S16 32) (k0_hw218 : k0_chk218 v247 v249 v251), ∀ a x, ((![v247, v249, v251] : Fin 3 → IVec S16 32) a x).toNat < S96x2x128.size a := fun v247 v249 v251 k0_hw218 => k0_hw218

def k0_chk219 (v258 : IVec S16 32) (v260 : IVec S16 32) (v262 : IVec S16 32) : Prop :=
  (∀ a x, ((![v258, v260, v262] : Fin 3 → IVec S16 32) a x).toNat < S96x2x128.size a)
theorem k0_idx211_inb : ∀ (v258 : IVec S16 32) (v260 : IVec S16 32) (v262 : IVec S16 32) (k0_hw219 : k0_chk219 v258 v260 v262), ∀ a x, ((![v258, v260, v262] : Fin 3 → IVec S16 32) a x).toNat < S96x2x128.size a := fun v258 v260 v262 k0_hw219 => k0_hw219

def k0_chk220 (v269 : IVec S16 32) (v271 : IVec S16 32) (v273 : IVec S16 32) : Prop :=
  (∀ a x, ((![v269, v271, v273] : Fin 3 → IVec S16 32) a x).toNat < S96x2x128.size a)
theorem k0_idx212_inb : ∀ (v269 : IVec S16 32) (v271 : IVec S16 32) (v273 : IVec S16 32) (k0_hw220 : k0_chk220 v269 v271 v273), ∀ a x, ((![v269, v271, v273] : Fin 3 → IVec S16 32) a x).toNat < S96x2x128.size a := fun v269 v271 v273 k0_hw220 => k0_hw220
def k0_off166 (v23 : BitVec 32) (k0_t9 : Fin (k0_t9_loop v23).trips) : Fin 2 → Nat :=
  let c5_i32_115 : BitVec 32 := 5#32
  let v277 : Index := Scalar.indexCast c5_i32_115
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_114 : BitVec 32 := 16#32
  let v276 : BitVec 32 := Scalar.muli v39 c16_i32_114
  let v278 : Index := Scalar.indexCast v276
  ![5, v278.toNat]

def k0_chk221 (v284 : IVec S16 32) (v286 : IVec S16 32) (v288 : IVec S16 32) : Prop :=
  (∀ a x, ((![v284, v286, v288] : Fin 3 → IVec S16 32) a x).toNat < S96x2x128.size a)
theorem k0_idx213_inb : ∀ (v284 : IVec S16 32) (v286 : IVec S16 32) (v288 : IVec S16 32) (k0_hw221 : k0_chk221 v284 v286 v288), ∀ a x, ((![v284, v286, v288] : Fin 3 → IVec S16 32) a x).toNat < S96x2x128.size a := fun v284 v286 v288 k0_hw221 => k0_hw221

def k0_chk222 (v295 : IVec S16 32) (v297 : IVec S16 32) (v299 : IVec S16 32) : Prop :=
  (∀ a x, ((![v295, v297, v299] : Fin 3 → IVec S16 32) a x).toNat < S96x2x128.size a)
theorem k0_idx214_inb : ∀ (v295 : IVec S16 32) (v297 : IVec S16 32) (v299 : IVec S16 32) (k0_hw222 : k0_chk222 v295 v297 v299), ∀ a x, ((![v295, v297, v299] : Fin 3 → IVec S16 32) a x).toNat < S96x2x128.size a := fun v295 v297 v299 k0_hw222 => k0_hw222

def k0_chk223 (v306 : IVec S16 32) (v308 : IVec S16 32) (v310 : IVec S16 32) : Prop :=
  (∀ a x, ((![v306, v308, v310] : Fin 3 → IVec S16 32) a x).toNat < S96x2x128.size a)
theorem k0_idx215_inb : ∀ (v306 : IVec S16 32) (v308 : IVec S16 32) (v310 : IVec S16 32) (k0_hw223 : k0_chk223 v306 v308 v310), ∀ a x, ((![v306, v308, v310] : Fin 3 → IVec S16 32) a x).toNat < S96x2x128.size a := fun v306 v308 v310 k0_hw223 => k0_hw223

def k0_chk224 (v317 : IVec S16 32) (v319 : IVec S16 32) (v321 : IVec S16 32) : Prop :=
  (∀ a x, ((![v317, v319, v321] : Fin 3 → IVec S16 32) a x).toNat < S96x2x128.size a)
theorem k0_idx216_inb : ∀ (v317 : IVec S16 32) (v319 : IVec S16 32) (v321 : IVec S16 32) (k0_hw224 : k0_chk224 v317 v319 v321), ∀ a x, ((![v317, v319, v321] : Fin 3 → IVec S16 32) a x).toNat < S96x2x128.size a := fun v317 v319 v321 k0_hw224 => k0_hw224
def k0_off167 (v23 : BitVec 32) (k0_t9 : Fin (k0_t9_loop v23).trips) : Fin 2 → Nat :=
  let c6_i32_133 : BitVec 32 := 6#32
  let v325 : Index := Scalar.indexCast c6_i32_133
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_132 : BitVec 32 := 16#32
  let v324 : BitVec 32 := Scalar.muli v39 c16_i32_132
  let v326 : Index := Scalar.indexCast v324
  ![6, v326.toNat]

def k0_chk225 (v332 : IVec S16 32) (v334 : IVec S16 32) (v336 : IVec S16 32) : Prop :=
  (∀ a x, ((![v332, v334, v336] : Fin 3 → IVec S16 32) a x).toNat < S96x2x128.size a)
theorem k0_idx217_inb : ∀ (v332 : IVec S16 32) (v334 : IVec S16 32) (v336 : IVec S16 32) (k0_hw225 : k0_chk225 v332 v334 v336), ∀ a x, ((![v332, v334, v336] : Fin 3 → IVec S16 32) a x).toNat < S96x2x128.size a := fun v332 v334 v336 k0_hw225 => k0_hw225

def k0_chk226 (v343 : IVec S16 32) (v345 : IVec S16 32) (v347 : IVec S16 32) : Prop :=
  (∀ a x, ((![v343, v345, v347] : Fin 3 → IVec S16 32) a x).toNat < S96x2x128.size a)
theorem k0_idx218_inb : ∀ (v343 : IVec S16 32) (v345 : IVec S16 32) (v347 : IVec S16 32) (k0_hw226 : k0_chk226 v343 v345 v347), ∀ a x, ((![v343, v345, v347] : Fin 3 → IVec S16 32) a x).toNat < S96x2x128.size a := fun v343 v345 v347 k0_hw226 => k0_hw226

def k0_chk227 (v354 : IVec S16 32) (v356 : IVec S16 32) (v358 : IVec S16 32) : Prop :=
  (∀ a x, ((![v354, v356, v358] : Fin 3 → IVec S16 32) a x).toNat < S96x2x128.size a)
theorem k0_idx219_inb : ∀ (v354 : IVec S16 32) (v356 : IVec S16 32) (v358 : IVec S16 32) (k0_hw227 : k0_chk227 v354 v356 v358), ∀ a x, ((![v354, v356, v358] : Fin 3 → IVec S16 32) a x).toNat < S96x2x128.size a := fun v354 v356 v358 k0_hw227 => k0_hw227

def k0_chk228 (v365 : IVec S16 32) (v367 : IVec S16 32) (v369 : IVec S16 32) : Prop :=
  (∀ a x, ((![v365, v367, v369] : Fin 3 → IVec S16 32) a x).toNat < S96x2x128.size a)
theorem k0_idx220_inb : ∀ (v365 : IVec S16 32) (v367 : IVec S16 32) (v369 : IVec S16 32) (k0_hw228 : k0_chk228 v365 v367 v369), ∀ a x, ((![v365, v367, v369] : Fin 3 → IVec S16 32) a x).toNat < S96x2x128.size a := fun v365 v367 v369 k0_hw228 => k0_hw228
def k0_off168 (v23 : BitVec 32) (k0_t9 : Fin (k0_t9_loop v23).trips) : Fin 2 → Nat :=
  let c7_i32_152 : BitVec 32 := 7#32
  let v373 : Index := Scalar.indexCast c7_i32_152
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_151 : BitVec 32 := 16#32
  let v372 : BitVec 32 := Scalar.muli v39 c16_i32_151
  let v374 : Index := Scalar.indexCast v372
  ![7, v374.toNat]

def k0_chk229 (v380 : IVec S16 32) (v382 : IVec S16 32) (v384 : IVec S16 32) : Prop :=
  (∀ a x, ((![v380, v382, v384] : Fin 3 → IVec S16 32) a x).toNat < S96x2x128.size a)
theorem k0_idx221_inb : ∀ (v380 : IVec S16 32) (v382 : IVec S16 32) (v384 : IVec S16 32) (k0_hw229 : k0_chk229 v380 v382 v384), ∀ a x, ((![v380, v382, v384] : Fin 3 → IVec S16 32) a x).toNat < S96x2x128.size a := fun v380 v382 v384 k0_hw229 => k0_hw229

def k0_chk230 (v391 : IVec S16 32) (v393 : IVec S16 32) (v395 : IVec S16 32) : Prop :=
  (∀ a x, ((![v391, v393, v395] : Fin 3 → IVec S16 32) a x).toNat < S96x2x128.size a)
theorem k0_idx222_inb : ∀ (v391 : IVec S16 32) (v393 : IVec S16 32) (v395 : IVec S16 32) (k0_hw230 : k0_chk230 v391 v393 v395), ∀ a x, ((![v391, v393, v395] : Fin 3 → IVec S16 32) a x).toNat < S96x2x128.size a := fun v391 v393 v395 k0_hw230 => k0_hw230

def k0_chk231 (v402 : IVec S16 32) (v404 : IVec S16 32) (v406 : IVec S16 32) : Prop :=
  (∀ a x, ((![v402, v404, v406] : Fin 3 → IVec S16 32) a x).toNat < S96x2x128.size a)
theorem k0_idx223_inb : ∀ (v402 : IVec S16 32) (v404 : IVec S16 32) (v406 : IVec S16 32) (k0_hw231 : k0_chk231 v402 v404 v406), ∀ a x, ((![v402, v404, v406] : Fin 3 → IVec S16 32) a x).toNat < S96x2x128.size a := fun v402 v404 v406 k0_hw231 => k0_hw231

def k0_chk232 (v413 : IVec S16 32) (v415 : IVec S16 32) (v417 : IVec S16 32) : Prop :=
  (∀ a x, ((![v413, v415, v417] : Fin 3 → IVec S16 32) a x).toNat < S96x2x128.size a)
theorem k0_idx224_inb : ∀ (v413 : IVec S16 32) (v415 : IVec S16 32) (v417 : IVec S16 32) (k0_hw232 : k0_chk232 v413 v415 v417), ∀ a x, ((![v413, v415, v417] : Fin 3 → IVec S16 32) a x).toNat < S96x2x128.size a := fun v413 v415 v417 k0_hw232 => k0_hw232
def k0_off169 (v23 : BitVec 32) (k0_t9 : Fin (k0_t9_loop v23).trips) : Fin 2 → Nat :=
  let c8_i32_170 : BitVec 32 := 8#32
  let v421 : Index := Scalar.indexCast c8_i32_170
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_169 : BitVec 32 := 16#32
  let v420 : BitVec 32 := Scalar.muli v39 c16_i32_169
  let v422 : Index := Scalar.indexCast v420
  ![8, v422.toNat]

def k0_chk233 (v428 : IVec S16 32) (v430 : IVec S16 32) (v432 : IVec S16 32) : Prop :=
  (∀ a x, ((![v428, v430, v432] : Fin 3 → IVec S16 32) a x).toNat < S96x2x128.size a)
theorem k0_idx225_inb : ∀ (v428 : IVec S16 32) (v430 : IVec S16 32) (v432 : IVec S16 32) (k0_hw233 : k0_chk233 v428 v430 v432), ∀ a x, ((![v428, v430, v432] : Fin 3 → IVec S16 32) a x).toNat < S96x2x128.size a := fun v428 v430 v432 k0_hw233 => k0_hw233

def k0_chk234 (v439 : IVec S16 32) (v441 : IVec S16 32) (v443 : IVec S16 32) : Prop :=
  (∀ a x, ((![v439, v441, v443] : Fin 3 → IVec S16 32) a x).toNat < S96x2x128.size a)
theorem k0_idx226_inb : ∀ (v439 : IVec S16 32) (v441 : IVec S16 32) (v443 : IVec S16 32) (k0_hw234 : k0_chk234 v439 v441 v443), ∀ a x, ((![v439, v441, v443] : Fin 3 → IVec S16 32) a x).toNat < S96x2x128.size a := fun v439 v441 v443 k0_hw234 => k0_hw234

def k0_chk235 (v450 : IVec S16 32) (v452 : IVec S16 32) (v454 : IVec S16 32) : Prop :=
  (∀ a x, ((![v450, v452, v454] : Fin 3 → IVec S16 32) a x).toNat < S96x2x128.size a)
theorem k0_idx227_inb : ∀ (v450 : IVec S16 32) (v452 : IVec S16 32) (v454 : IVec S16 32) (k0_hw235 : k0_chk235 v450 v452 v454), ∀ a x, ((![v450, v452, v454] : Fin 3 → IVec S16 32) a x).toNat < S96x2x128.size a := fun v450 v452 v454 k0_hw235 => k0_hw235

def k0_chk236 (v461 : IVec S16 32) (v463 : IVec S16 32) (v465 : IVec S16 32) : Prop :=
  (∀ a x, ((![v461, v463, v465] : Fin 3 → IVec S16 32) a x).toNat < S96x2x128.size a)
theorem k0_idx228_inb : ∀ (v461 : IVec S16 32) (v463 : IVec S16 32) (v465 : IVec S16 32) (k0_hw236 : k0_chk236 v461 v463 v465), ∀ a x, ((![v461, v463, v465] : Fin 3 → IVec S16 32) a x).toNat < S96x2x128.size a := fun v461 v463 v465 k0_hw236 => k0_hw236
def k0_off170 (v23 : BitVec 32) (k0_t9 : Fin (k0_t9_loop v23).trips) : Fin 2 → Nat :=
  let c9_i32_188 : BitVec 32 := 9#32
  let v469 : Index := Scalar.indexCast c9_i32_188
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_187 : BitVec 32 := 16#32
  let v468 : BitVec 32 := Scalar.muli v39 c16_i32_187
  let v470 : Index := Scalar.indexCast v468
  ![9, v470.toNat]

def k0_chk237 (v476 : IVec S16 32) (v478 : IVec S16 32) (v480 : IVec S16 32) : Prop :=
  (∀ a x, ((![v476, v478, v480] : Fin 3 → IVec S16 32) a x).toNat < S96x2x128.size a)
theorem k0_idx229_inb : ∀ (v476 : IVec S16 32) (v478 : IVec S16 32) (v480 : IVec S16 32) (k0_hw237 : k0_chk237 v476 v478 v480), ∀ a x, ((![v476, v478, v480] : Fin 3 → IVec S16 32) a x).toNat < S96x2x128.size a := fun v476 v478 v480 k0_hw237 => k0_hw237

def k0_chk238 (v487 : IVec S16 32) (v489 : IVec S16 32) (v491 : IVec S16 32) : Prop :=
  (∀ a x, ((![v487, v489, v491] : Fin 3 → IVec S16 32) a x).toNat < S96x2x128.size a)
theorem k0_idx230_inb : ∀ (v487 : IVec S16 32) (v489 : IVec S16 32) (v491 : IVec S16 32) (k0_hw238 : k0_chk238 v487 v489 v491), ∀ a x, ((![v487, v489, v491] : Fin 3 → IVec S16 32) a x).toNat < S96x2x128.size a := fun v487 v489 v491 k0_hw238 => k0_hw238

def k0_chk239 (v498 : IVec S16 32) (v500 : IVec S16 32) (v502 : IVec S16 32) : Prop :=
  (∀ a x, ((![v498, v500, v502] : Fin 3 → IVec S16 32) a x).toNat < S96x2x128.size a)
theorem k0_idx231_inb : ∀ (v498 : IVec S16 32) (v500 : IVec S16 32) (v502 : IVec S16 32) (k0_hw239 : k0_chk239 v498 v500 v502), ∀ a x, ((![v498, v500, v502] : Fin 3 → IVec S16 32) a x).toNat < S96x2x128.size a := fun v498 v500 v502 k0_hw239 => k0_hw239

def k0_chk240 (v509 : IVec S16 32) (v511 : IVec S16 32) (v513 : IVec S16 32) : Prop :=
  (∀ a x, ((![v509, v511, v513] : Fin 3 → IVec S16 32) a x).toNat < S96x2x128.size a)
theorem k0_idx232_inb : ∀ (v509 : IVec S16 32) (v511 : IVec S16 32) (v513 : IVec S16 32) (k0_hw240 : k0_chk240 v509 v511 v513), ∀ a x, ((![v509, v511, v513] : Fin 3 → IVec S16 32) a x).toNat < S96x2x128.size a := fun v509 v511 v513 k0_hw240 => k0_hw240
def k0_off171 (v23 : BitVec 32) (k0_t9 : Fin (k0_t9_loop v23).trips) : Fin 2 → Nat :=
  let c10_i32_206 : BitVec 32 := 10#32
  let v517 : Index := Scalar.indexCast c10_i32_206
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_205 : BitVec 32 := 16#32
  let v516 : BitVec 32 := Scalar.muli v39 c16_i32_205
  let v518 : Index := Scalar.indexCast v516
  ![10, v518.toNat]

def k0_chk241 (v524 : IVec S16 32) (v526 : IVec S16 32) (v528 : IVec S16 32) : Prop :=
  (∀ a x, ((![v524, v526, v528] : Fin 3 → IVec S16 32) a x).toNat < S96x2x128.size a)
theorem k0_idx233_inb : ∀ (v524 : IVec S16 32) (v526 : IVec S16 32) (v528 : IVec S16 32) (k0_hw241 : k0_chk241 v524 v526 v528), ∀ a x, ((![v524, v526, v528] : Fin 3 → IVec S16 32) a x).toNat < S96x2x128.size a := fun v524 v526 v528 k0_hw241 => k0_hw241

def k0_chk242 (v535 : IVec S16 32) (v537 : IVec S16 32) (v539 : IVec S16 32) : Prop :=
  (∀ a x, ((![v535, v537, v539] : Fin 3 → IVec S16 32) a x).toNat < S96x2x128.size a)
theorem k0_idx234_inb : ∀ (v535 : IVec S16 32) (v537 : IVec S16 32) (v539 : IVec S16 32) (k0_hw242 : k0_chk242 v535 v537 v539), ∀ a x, ((![v535, v537, v539] : Fin 3 → IVec S16 32) a x).toNat < S96x2x128.size a := fun v535 v537 v539 k0_hw242 => k0_hw242

def k0_chk243 (v546 : IVec S16 32) (v548 : IVec S16 32) (v550 : IVec S16 32) : Prop :=
  (∀ a x, ((![v546, v548, v550] : Fin 3 → IVec S16 32) a x).toNat < S96x2x128.size a)
theorem k0_idx235_inb : ∀ (v546 : IVec S16 32) (v548 : IVec S16 32) (v550 : IVec S16 32) (k0_hw243 : k0_chk243 v546 v548 v550), ∀ a x, ((![v546, v548, v550] : Fin 3 → IVec S16 32) a x).toNat < S96x2x128.size a := fun v546 v548 v550 k0_hw243 => k0_hw243

def k0_chk244 (v557 : IVec S16 32) (v559 : IVec S16 32) (v561 : IVec S16 32) : Prop :=
  (∀ a x, ((![v557, v559, v561] : Fin 3 → IVec S16 32) a x).toNat < S96x2x128.size a)
theorem k0_idx236_inb : ∀ (v557 : IVec S16 32) (v559 : IVec S16 32) (v561 : IVec S16 32) (k0_hw244 : k0_chk244 v557 v559 v561), ∀ a x, ((![v557, v559, v561] : Fin 3 → IVec S16 32) a x).toNat < S96x2x128.size a := fun v557 v559 v561 k0_hw244 => k0_hw244
def k0_off172 (v23 : BitVec 32) (k0_t9 : Fin (k0_t9_loop v23).trips) : Fin 2 → Nat :=
  let c11_i32_224 : BitVec 32 := 11#32
  let v565 : Index := Scalar.indexCast c11_i32_224
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_223 : BitVec 32 := 16#32
  let v564 : BitVec 32 := Scalar.muli v39 c16_i32_223
  let v566 : Index := Scalar.indexCast v564
  ![11, v566.toNat]

def k0_chk245 (v572 : IVec S16 32) (v574 : IVec S16 32) (v576 : IVec S16 32) : Prop :=
  (∀ a x, ((![v572, v574, v576] : Fin 3 → IVec S16 32) a x).toNat < S96x2x128.size a)
theorem k0_idx237_inb : ∀ (v572 : IVec S16 32) (v574 : IVec S16 32) (v576 : IVec S16 32) (k0_hw245 : k0_chk245 v572 v574 v576), ∀ a x, ((![v572, v574, v576] : Fin 3 → IVec S16 32) a x).toNat < S96x2x128.size a := fun v572 v574 v576 k0_hw245 => k0_hw245

def k0_chk246 (v583 : IVec S16 32) (v585 : IVec S16 32) (v587 : IVec S16 32) : Prop :=
  (∀ a x, ((![v583, v585, v587] : Fin 3 → IVec S16 32) a x).toNat < S96x2x128.size a)
theorem k0_idx238_inb : ∀ (v583 : IVec S16 32) (v585 : IVec S16 32) (v587 : IVec S16 32) (k0_hw246 : k0_chk246 v583 v585 v587), ∀ a x, ((![v583, v585, v587] : Fin 3 → IVec S16 32) a x).toNat < S96x2x128.size a := fun v583 v585 v587 k0_hw246 => k0_hw246

def k0_chk247 (v594 : IVec S16 32) (v596 : IVec S16 32) (v598 : IVec S16 32) : Prop :=
  (∀ a x, ((![v594, v596, v598] : Fin 3 → IVec S16 32) a x).toNat < S96x2x128.size a)
theorem k0_idx239_inb : ∀ (v594 : IVec S16 32) (v596 : IVec S16 32) (v598 : IVec S16 32) (k0_hw247 : k0_chk247 v594 v596 v598), ∀ a x, ((![v594, v596, v598] : Fin 3 → IVec S16 32) a x).toNat < S96x2x128.size a := fun v594 v596 v598 k0_hw247 => k0_hw247

def k0_chk248 (v605 : IVec S16 32) (v607 : IVec S16 32) (v609 : IVec S16 32) : Prop :=
  (∀ a x, ((![v605, v607, v609] : Fin 3 → IVec S16 32) a x).toNat < S96x2x128.size a)
theorem k0_idx240_inb : ∀ (v605 : IVec S16 32) (v607 : IVec S16 32) (v609 : IVec S16 32) (k0_hw248 : k0_chk248 v605 v607 v609), ∀ a x, ((![v605, v607, v609] : Fin 3 → IVec S16 32) a x).toNat < S96x2x128.size a := fun v605 v607 v609 k0_hw248 => k0_hw248
def k0_off173 (v23 : BitVec 32) (k0_t9 : Fin (k0_t9_loop v23).trips) : Fin 2 → Nat :=
  let c12_i32_242 : BitVec 32 := 12#32
  let v613 : Index := Scalar.indexCast c12_i32_242
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_241 : BitVec 32 := 16#32
  let v612 : BitVec 32 := Scalar.muli v39 c16_i32_241
  let v614 : Index := Scalar.indexCast v612
  ![12, v614.toNat]

def k0_chk249 (v620 : IVec S16 32) (v622 : IVec S16 32) (v624 : IVec S16 32) : Prop :=
  (∀ a x, ((![v620, v622, v624] : Fin 3 → IVec S16 32) a x).toNat < S96x2x128.size a)
theorem k0_idx241_inb : ∀ (v620 : IVec S16 32) (v622 : IVec S16 32) (v624 : IVec S16 32) (k0_hw249 : k0_chk249 v620 v622 v624), ∀ a x, ((![v620, v622, v624] : Fin 3 → IVec S16 32) a x).toNat < S96x2x128.size a := fun v620 v622 v624 k0_hw249 => k0_hw249

def k0_chk250 (v631 : IVec S16 32) (v633 : IVec S16 32) (v635 : IVec S16 32) : Prop :=
  (∀ a x, ((![v631, v633, v635] : Fin 3 → IVec S16 32) a x).toNat < S96x2x128.size a)
theorem k0_idx242_inb : ∀ (v631 : IVec S16 32) (v633 : IVec S16 32) (v635 : IVec S16 32) (k0_hw250 : k0_chk250 v631 v633 v635), ∀ a x, ((![v631, v633, v635] : Fin 3 → IVec S16 32) a x).toNat < S96x2x128.size a := fun v631 v633 v635 k0_hw250 => k0_hw250

def k0_chk251 (v642 : IVec S16 32) (v644 : IVec S16 32) (v646 : IVec S16 32) : Prop :=
  (∀ a x, ((![v642, v644, v646] : Fin 3 → IVec S16 32) a x).toNat < S96x2x128.size a)
theorem k0_idx243_inb : ∀ (v642 : IVec S16 32) (v644 : IVec S16 32) (v646 : IVec S16 32) (k0_hw251 : k0_chk251 v642 v644 v646), ∀ a x, ((![v642, v644, v646] : Fin 3 → IVec S16 32) a x).toNat < S96x2x128.size a := fun v642 v644 v646 k0_hw251 => k0_hw251

def k0_chk252 (v653 : IVec S16 32) (v655 : IVec S16 32) (v657 : IVec S16 32) : Prop :=
  (∀ a x, ((![v653, v655, v657] : Fin 3 → IVec S16 32) a x).toNat < S96x2x128.size a)
theorem k0_idx244_inb : ∀ (v653 : IVec S16 32) (v655 : IVec S16 32) (v657 : IVec S16 32) (k0_hw252 : k0_chk252 v653 v655 v657), ∀ a x, ((![v653, v655, v657] : Fin 3 → IVec S16 32) a x).toNat < S96x2x128.size a := fun v653 v655 v657 k0_hw252 => k0_hw252
def k0_off174 (v23 : BitVec 32) (k0_t9 : Fin (k0_t9_loop v23).trips) : Fin 2 → Nat :=
  let c13_i32_261 : BitVec 32 := 13#32
  let v661 : Index := Scalar.indexCast c13_i32_261
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_260 : BitVec 32 := 16#32
  let v660 : BitVec 32 := Scalar.muli v39 c16_i32_260
  let v662 : Index := Scalar.indexCast v660
  ![13, v662.toNat]

def k0_chk253 (v668 : IVec S16 32) (v670 : IVec S16 32) (v672 : IVec S16 32) : Prop :=
  (∀ a x, ((![v668, v670, v672] : Fin 3 → IVec S16 32) a x).toNat < S96x2x128.size a)
theorem k0_idx245_inb : ∀ (v668 : IVec S16 32) (v670 : IVec S16 32) (v672 : IVec S16 32) (k0_hw253 : k0_chk253 v668 v670 v672), ∀ a x, ((![v668, v670, v672] : Fin 3 → IVec S16 32) a x).toNat < S96x2x128.size a := fun v668 v670 v672 k0_hw253 => k0_hw253

def k0_chk254 (v679 : IVec S16 32) (v681 : IVec S16 32) (v683 : IVec S16 32) : Prop :=
  (∀ a x, ((![v679, v681, v683] : Fin 3 → IVec S16 32) a x).toNat < S96x2x128.size a)
theorem k0_idx246_inb : ∀ (v679 : IVec S16 32) (v681 : IVec S16 32) (v683 : IVec S16 32) (k0_hw254 : k0_chk254 v679 v681 v683), ∀ a x, ((![v679, v681, v683] : Fin 3 → IVec S16 32) a x).toNat < S96x2x128.size a := fun v679 v681 v683 k0_hw254 => k0_hw254

def k0_chk255 (v690 : IVec S16 32) (v692 : IVec S16 32) (v694 : IVec S16 32) : Prop :=
  (∀ a x, ((![v690, v692, v694] : Fin 3 → IVec S16 32) a x).toNat < S96x2x128.size a)
theorem k0_idx247_inb : ∀ (v690 : IVec S16 32) (v692 : IVec S16 32) (v694 : IVec S16 32) (k0_hw255 : k0_chk255 v690 v692 v694), ∀ a x, ((![v690, v692, v694] : Fin 3 → IVec S16 32) a x).toNat < S96x2x128.size a := fun v690 v692 v694 k0_hw255 => k0_hw255

def k0_chk256 (v701 : IVec S16 32) (v703 : IVec S16 32) (v705 : IVec S16 32) : Prop :=
  (∀ a x, ((![v701, v703, v705] : Fin 3 → IVec S16 32) a x).toNat < S96x2x128.size a)
theorem k0_idx248_inb : ∀ (v701 : IVec S16 32) (v703 : IVec S16 32) (v705 : IVec S16 32) (k0_hw256 : k0_chk256 v701 v703 v705), ∀ a x, ((![v701, v703, v705] : Fin 3 → IVec S16 32) a x).toNat < S96x2x128.size a := fun v701 v703 v705 k0_hw256 => k0_hw256
def k0_off175 (v23 : BitVec 32) (k0_t9 : Fin (k0_t9_loop v23).trips) : Fin 2 → Nat :=
  let c14_i32_279 : BitVec 32 := 14#32
  let v709 : Index := Scalar.indexCast c14_i32_279
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_278 : BitVec 32 := 16#32
  let v708 : BitVec 32 := Scalar.muli v39 c16_i32_278
  let v710 : Index := Scalar.indexCast v708
  ![14, v710.toNat]

def k0_chk257 (v716 : IVec S16 32) (v718 : IVec S16 32) (v720 : IVec S16 32) : Prop :=
  (∀ a x, ((![v716, v718, v720] : Fin 3 → IVec S16 32) a x).toNat < S96x2x128.size a)
theorem k0_idx249_inb : ∀ (v716 : IVec S16 32) (v718 : IVec S16 32) (v720 : IVec S16 32) (k0_hw257 : k0_chk257 v716 v718 v720), ∀ a x, ((![v716, v718, v720] : Fin 3 → IVec S16 32) a x).toNat < S96x2x128.size a := fun v716 v718 v720 k0_hw257 => k0_hw257

def k0_chk258 (v727 : IVec S16 32) (v729 : IVec S16 32) (v731 : IVec S16 32) : Prop :=
  (∀ a x, ((![v727, v729, v731] : Fin 3 → IVec S16 32) a x).toNat < S96x2x128.size a)
theorem k0_idx250_inb : ∀ (v727 : IVec S16 32) (v729 : IVec S16 32) (v731 : IVec S16 32) (k0_hw258 : k0_chk258 v727 v729 v731), ∀ a x, ((![v727, v729, v731] : Fin 3 → IVec S16 32) a x).toNat < S96x2x128.size a := fun v727 v729 v731 k0_hw258 => k0_hw258

def k0_chk259 (v738 : IVec S16 32) (v740 : IVec S16 32) (v742 : IVec S16 32) : Prop :=
  (∀ a x, ((![v738, v740, v742] : Fin 3 → IVec S16 32) a x).toNat < S96x2x128.size a)
theorem k0_idx251_inb : ∀ (v738 : IVec S16 32) (v740 : IVec S16 32) (v742 : IVec S16 32) (k0_hw259 : k0_chk259 v738 v740 v742), ∀ a x, ((![v738, v740, v742] : Fin 3 → IVec S16 32) a x).toNat < S96x2x128.size a := fun v738 v740 v742 k0_hw259 => k0_hw259

def k0_chk260 (v749 : IVec S16 32) (v751 : IVec S16 32) (v753 : IVec S16 32) : Prop :=
  (∀ a x, ((![v749, v751, v753] : Fin 3 → IVec S16 32) a x).toNat < S96x2x128.size a)
theorem k0_idx252_inb : ∀ (v749 : IVec S16 32) (v751 : IVec S16 32) (v753 : IVec S16 32) (k0_hw260 : k0_chk260 v749 v751 v753), ∀ a x, ((![v749, v751, v753] : Fin 3 → IVec S16 32) a x).toNat < S96x2x128.size a := fun v749 v751 v753 k0_hw260 => k0_hw260
def k0_off176 (v23 : BitVec 32) (k0_t9 : Fin (k0_t9_loop v23).trips) : Fin 2 → Nat :=
  let c15_i32_297 : BitVec 32 := 15#32
  let v757 : Index := Scalar.indexCast c15_i32_297
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_296 : BitVec 32 := 16#32
  let v756 : BitVec 32 := Scalar.muli v39 c16_i32_296
  let v758 : Index := Scalar.indexCast v756
  ![15, v758.toNat]

def k0_chk261 (v764 : IVec S16 32) (v766 : IVec S16 32) (v768 : IVec S16 32) : Prop :=
  (∀ a x, ((![v764, v766, v768] : Fin 3 → IVec S16 32) a x).toNat < S96x2x128.size a)
theorem k0_idx253_inb : ∀ (v764 : IVec S16 32) (v766 : IVec S16 32) (v768 : IVec S16 32) (k0_hw261 : k0_chk261 v764 v766 v768), ∀ a x, ((![v764, v766, v768] : Fin 3 → IVec S16 32) a x).toNat < S96x2x128.size a := fun v764 v766 v768 k0_hw261 => k0_hw261

def k0_chk262 (v775 : IVec S16 32) (v777 : IVec S16 32) (v779 : IVec S16 32) : Prop :=
  (∀ a x, ((![v775, v777, v779] : Fin 3 → IVec S16 32) a x).toNat < S96x2x128.size a)
theorem k0_idx254_inb : ∀ (v775 : IVec S16 32) (v777 : IVec S16 32) (v779 : IVec S16 32) (k0_hw262 : k0_chk262 v775 v777 v779), ∀ a x, ((![v775, v777, v779] : Fin 3 → IVec S16 32) a x).toNat < S96x2x128.size a := fun v775 v777 v779 k0_hw262 => k0_hw262

def k0_chk263 (v786 : IVec S16 32) (v788 : IVec S16 32) (v790 : IVec S16 32) : Prop :=
  (∀ a x, ((![v786, v788, v790] : Fin 3 → IVec S16 32) a x).toNat < S96x2x128.size a)
theorem k0_idx255_inb : ∀ (v786 : IVec S16 32) (v788 : IVec S16 32) (v790 : IVec S16 32) (k0_hw263 : k0_chk263 v786 v788 v790), ∀ a x, ((![v786, v788, v790] : Fin 3 → IVec S16 32) a x).toNat < S96x2x128.size a := fun v786 v788 v790 k0_hw263 => k0_hw263

def k0_chk264 (v797 : IVec S16 32) (v799 : IVec S16 32) (v801 : IVec S16 32) : Prop :=
  (∀ a x, ((![v797, v799, v801] : Fin 3 → IVec S16 32) a x).toNat < S96x2x128.size a)
theorem k0_idx256_inb : ∀ (v797 : IVec S16 32) (v799 : IVec S16 32) (v801 : IVec S16 32) (k0_hw264 : k0_chk264 v797 v799 v801), ∀ a x, ((![v797, v799, v801] : Fin 3 → IVec S16 32) a x).toNat < S96x2x128.size a := fun v797 v799 v801 k0_hw264 => k0_hw264
def k0_off177 (v23 : BitVec 32) (k0_t9 : Fin (k0_t9_loop v23).trips) : Fin 2 → Nat :=
  let c16_i32_315 : BitVec 32 := 16#32
  let v805 : Index := Scalar.indexCast c16_i32_315
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_314 : BitVec 32 := 16#32
  let v804 : BitVec 32 := Scalar.muli v39 c16_i32_314
  let v806 : Index := Scalar.indexCast v804
  ![16, v806.toNat]

def k0_chk265 (v812 : IVec S16 32) (v814 : IVec S16 32) (v816 : IVec S16 32) : Prop :=
  (∀ a x, ((![v812, v814, v816] : Fin 3 → IVec S16 32) a x).toNat < S96x2x128.size a)
theorem k0_idx257_inb : ∀ (v812 : IVec S16 32) (v814 : IVec S16 32) (v816 : IVec S16 32) (k0_hw265 : k0_chk265 v812 v814 v816), ∀ a x, ((![v812, v814, v816] : Fin 3 → IVec S16 32) a x).toNat < S96x2x128.size a := fun v812 v814 v816 k0_hw265 => k0_hw265

def k0_chk266 (v823 : IVec S16 32) (v825 : IVec S16 32) (v827 : IVec S16 32) : Prop :=
  (∀ a x, ((![v823, v825, v827] : Fin 3 → IVec S16 32) a x).toNat < S96x2x128.size a)
theorem k0_idx258_inb : ∀ (v823 : IVec S16 32) (v825 : IVec S16 32) (v827 : IVec S16 32) (k0_hw266 : k0_chk266 v823 v825 v827), ∀ a x, ((![v823, v825, v827] : Fin 3 → IVec S16 32) a x).toNat < S96x2x128.size a := fun v823 v825 v827 k0_hw266 => k0_hw266

def k0_chk267 (v834 : IVec S16 32) (v836 : IVec S16 32) (v838 : IVec S16 32) : Prop :=
  (∀ a x, ((![v834, v836, v838] : Fin 3 → IVec S16 32) a x).toNat < S96x2x128.size a)
theorem k0_idx259_inb : ∀ (v834 : IVec S16 32) (v836 : IVec S16 32) (v838 : IVec S16 32) (k0_hw267 : k0_chk267 v834 v836 v838), ∀ a x, ((![v834, v836, v838] : Fin 3 → IVec S16 32) a x).toNat < S96x2x128.size a := fun v834 v836 v838 k0_hw267 => k0_hw267

def k0_chk268 (v845 : IVec S16 32) (v847 : IVec S16 32) (v849 : IVec S16 32) : Prop :=
  (∀ a x, ((![v845, v847, v849] : Fin 3 → IVec S16 32) a x).toNat < S96x2x128.size a)
theorem k0_idx260_inb : ∀ (v845 : IVec S16 32) (v847 : IVec S16 32) (v849 : IVec S16 32) (k0_hw268 : k0_chk268 v845 v847 v849), ∀ a x, ((![v845, v847, v849] : Fin 3 → IVec S16 32) a x).toNat < S96x2x128.size a := fun v845 v847 v849 k0_hw268 => k0_hw268
def k0_off178 (v23 : BitVec 32) (k0_t9 : Fin (k0_t9_loop v23).trips) : Fin 2 → Nat :=
  let c17_i32_333 : BitVec 32 := 17#32
  let v853 : Index := Scalar.indexCast c17_i32_333
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_332 : BitVec 32 := 16#32
  let v852 : BitVec 32 := Scalar.muli v39 c16_i32_332
  let v854 : Index := Scalar.indexCast v852
  ![17, v854.toNat]

def k0_chk269 (v860 : IVec S16 32) (v862 : IVec S16 32) (v864 : IVec S16 32) : Prop :=
  (∀ a x, ((![v860, v862, v864] : Fin 3 → IVec S16 32) a x).toNat < S96x2x128.size a)
theorem k0_idx261_inb : ∀ (v860 : IVec S16 32) (v862 : IVec S16 32) (v864 : IVec S16 32) (k0_hw269 : k0_chk269 v860 v862 v864), ∀ a x, ((![v860, v862, v864] : Fin 3 → IVec S16 32) a x).toNat < S96x2x128.size a := fun v860 v862 v864 k0_hw269 => k0_hw269

def k0_chk270 (v871 : IVec S16 32) (v873 : IVec S16 32) (v875 : IVec S16 32) : Prop :=
  (∀ a x, ((![v871, v873, v875] : Fin 3 → IVec S16 32) a x).toNat < S96x2x128.size a)
theorem k0_idx262_inb : ∀ (v871 : IVec S16 32) (v873 : IVec S16 32) (v875 : IVec S16 32) (k0_hw270 : k0_chk270 v871 v873 v875), ∀ a x, ((![v871, v873, v875] : Fin 3 → IVec S16 32) a x).toNat < S96x2x128.size a := fun v871 v873 v875 k0_hw270 => k0_hw270

def k0_chk271 (v882 : IVec S16 32) (v884 : IVec S16 32) (v886 : IVec S16 32) : Prop :=
  (∀ a x, ((![v882, v884, v886] : Fin 3 → IVec S16 32) a x).toNat < S96x2x128.size a)
theorem k0_idx263_inb : ∀ (v882 : IVec S16 32) (v884 : IVec S16 32) (v886 : IVec S16 32) (k0_hw271 : k0_chk271 v882 v884 v886), ∀ a x, ((![v882, v884, v886] : Fin 3 → IVec S16 32) a x).toNat < S96x2x128.size a := fun v882 v884 v886 k0_hw271 => k0_hw271

def k0_chk272 (v893 : IVec S16 32) (v895 : IVec S16 32) (v897 : IVec S16 32) : Prop :=
  (∀ a x, ((![v893, v895, v897] : Fin 3 → IVec S16 32) a x).toNat < S96x2x128.size a)
theorem k0_idx264_inb : ∀ (v893 : IVec S16 32) (v895 : IVec S16 32) (v897 : IVec S16 32) (k0_hw272 : k0_chk272 v893 v895 v897), ∀ a x, ((![v893, v895, v897] : Fin 3 → IVec S16 32) a x).toNat < S96x2x128.size a := fun v893 v895 v897 k0_hw272 => k0_hw272
def k0_off179 (v23 : BitVec 32) (k0_t9 : Fin (k0_t9_loop v23).trips) : Fin 2 → Nat :=
  let c18_i32_351 : BitVec 32 := 18#32
  let v901 : Index := Scalar.indexCast c18_i32_351
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_350 : BitVec 32 := 16#32
  let v900 : BitVec 32 := Scalar.muli v39 c16_i32_350
  let v902 : Index := Scalar.indexCast v900
  ![18, v902.toNat]

def k0_chk273 (v908 : IVec S16 32) (v910 : IVec S16 32) (v912 : IVec S16 32) : Prop :=
  (∀ a x, ((![v908, v910, v912] : Fin 3 → IVec S16 32) a x).toNat < S96x2x128.size a)
theorem k0_idx265_inb : ∀ (v908 : IVec S16 32) (v910 : IVec S16 32) (v912 : IVec S16 32) (k0_hw273 : k0_chk273 v908 v910 v912), ∀ a x, ((![v908, v910, v912] : Fin 3 → IVec S16 32) a x).toNat < S96x2x128.size a := fun v908 v910 v912 k0_hw273 => k0_hw273

def k0_chk274 (v919 : IVec S16 32) (v921 : IVec S16 32) (v923 : IVec S16 32) : Prop :=
  (∀ a x, ((![v919, v921, v923] : Fin 3 → IVec S16 32) a x).toNat < S96x2x128.size a)
theorem k0_idx266_inb : ∀ (v919 : IVec S16 32) (v921 : IVec S16 32) (v923 : IVec S16 32) (k0_hw274 : k0_chk274 v919 v921 v923), ∀ a x, ((![v919, v921, v923] : Fin 3 → IVec S16 32) a x).toNat < S96x2x128.size a := fun v919 v921 v923 k0_hw274 => k0_hw274

def k0_chk275 (v930 : IVec S16 32) (v932 : IVec S16 32) (v934 : IVec S16 32) : Prop :=
  (∀ a x, ((![v930, v932, v934] : Fin 3 → IVec S16 32) a x).toNat < S96x2x128.size a)
theorem k0_idx267_inb : ∀ (v930 : IVec S16 32) (v932 : IVec S16 32) (v934 : IVec S16 32) (k0_hw275 : k0_chk275 v930 v932 v934), ∀ a x, ((![v930, v932, v934] : Fin 3 → IVec S16 32) a x).toNat < S96x2x128.size a := fun v930 v932 v934 k0_hw275 => k0_hw275

def k0_chk276 (v941 : IVec S16 32) (v943 : IVec S16 32) (v945 : IVec S16 32) : Prop :=
  (∀ a x, ((![v941, v943, v945] : Fin 3 → IVec S16 32) a x).toNat < S96x2x128.size a)
theorem k0_idx268_inb : ∀ (v941 : IVec S16 32) (v943 : IVec S16 32) (v945 : IVec S16 32) (k0_hw276 : k0_chk276 v941 v943 v945), ∀ a x, ((![v941, v943, v945] : Fin 3 → IVec S16 32) a x).toNat < S96x2x128.size a := fun v941 v943 v945 k0_hw276 => k0_hw276
def k0_off180 (v23 : BitVec 32) (k0_t9 : Fin (k0_t9_loop v23).trips) : Fin 2 → Nat :=
  let c19_i32_369 : BitVec 32 := 19#32
  let v949 : Index := Scalar.indexCast c19_i32_369
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_368 : BitVec 32 := 16#32
  let v948 : BitVec 32 := Scalar.muli v39 c16_i32_368
  let v950 : Index := Scalar.indexCast v948
  ![19, v950.toNat]

def k0_chk277 (v956 : IVec S16 32) (v958 : IVec S16 32) (v960 : IVec S16 32) : Prop :=
  (∀ a x, ((![v956, v958, v960] : Fin 3 → IVec S16 32) a x).toNat < S96x2x128.size a)
theorem k0_idx269_inb : ∀ (v956 : IVec S16 32) (v958 : IVec S16 32) (v960 : IVec S16 32) (k0_hw277 : k0_chk277 v956 v958 v960), ∀ a x, ((![v956, v958, v960] : Fin 3 → IVec S16 32) a x).toNat < S96x2x128.size a := fun v956 v958 v960 k0_hw277 => k0_hw277

def k0_chk278 (v967 : IVec S16 32) (v969 : IVec S16 32) (v971 : IVec S16 32) : Prop :=
  (∀ a x, ((![v967, v969, v971] : Fin 3 → IVec S16 32) a x).toNat < S96x2x128.size a)
theorem k0_idx270_inb : ∀ (v967 : IVec S16 32) (v969 : IVec S16 32) (v971 : IVec S16 32) (k0_hw278 : k0_chk278 v967 v969 v971), ∀ a x, ((![v967, v969, v971] : Fin 3 → IVec S16 32) a x).toNat < S96x2x128.size a := fun v967 v969 v971 k0_hw278 => k0_hw278

def k0_chk279 (v978 : IVec S16 32) (v980 : IVec S16 32) (v982 : IVec S16 32) : Prop :=
  (∀ a x, ((![v978, v980, v982] : Fin 3 → IVec S16 32) a x).toNat < S96x2x128.size a)
theorem k0_idx271_inb : ∀ (v978 : IVec S16 32) (v980 : IVec S16 32) (v982 : IVec S16 32) (k0_hw279 : k0_chk279 v978 v980 v982), ∀ a x, ((![v978, v980, v982] : Fin 3 → IVec S16 32) a x).toNat < S96x2x128.size a := fun v978 v980 v982 k0_hw279 => k0_hw279

def k0_chk280 (v989 : IVec S16 32) (v991 : IVec S16 32) (v993 : IVec S16 32) : Prop :=
  (∀ a x, ((![v989, v991, v993] : Fin 3 → IVec S16 32) a x).toNat < S96x2x128.size a)
theorem k0_idx272_inb : ∀ (v989 : IVec S16 32) (v991 : IVec S16 32) (v993 : IVec S16 32) (k0_hw280 : k0_chk280 v989 v991 v993), ∀ a x, ((![v989, v991, v993] : Fin 3 → IVec S16 32) a x).toNat < S96x2x128.size a := fun v989 v991 v993 k0_hw280 => k0_hw280
def k0_off181 (v23 : BitVec 32) (k0_t9 : Fin (k0_t9_loop v23).trips) : Fin 2 → Nat :=
  let c20_i32_387 : BitVec 32 := 20#32
  let v997 : Index := Scalar.indexCast c20_i32_387
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_386 : BitVec 32 := 16#32
  let v996 : BitVec 32 := Scalar.muli v39 c16_i32_386
  let v998 : Index := Scalar.indexCast v996
  ![20, v998.toNat]

def k0_chk281 (v1004 : IVec S16 32) (v1006 : IVec S16 32) (v1008 : IVec S16 32) : Prop :=
  (∀ a x, ((![v1004, v1006, v1008] : Fin 3 → IVec S16 32) a x).toNat < S96x2x128.size a)
theorem k0_idx273_inb : ∀ (v1004 : IVec S16 32) (v1006 : IVec S16 32) (v1008 : IVec S16 32) (k0_hw281 : k0_chk281 v1004 v1006 v1008), ∀ a x, ((![v1004, v1006, v1008] : Fin 3 → IVec S16 32) a x).toNat < S96x2x128.size a := fun v1004 v1006 v1008 k0_hw281 => k0_hw281

def k0_chk282 (v1015 : IVec S16 32) (v1017 : IVec S16 32) (v1019 : IVec S16 32) : Prop :=
  (∀ a x, ((![v1015, v1017, v1019] : Fin 3 → IVec S16 32) a x).toNat < S96x2x128.size a)
theorem k0_idx274_inb : ∀ (v1015 : IVec S16 32) (v1017 : IVec S16 32) (v1019 : IVec S16 32) (k0_hw282 : k0_chk282 v1015 v1017 v1019), ∀ a x, ((![v1015, v1017, v1019] : Fin 3 → IVec S16 32) a x).toNat < S96x2x128.size a := fun v1015 v1017 v1019 k0_hw282 => k0_hw282

def k0_chk283 (v1026 : IVec S16 32) (v1028 : IVec S16 32) (v1030 : IVec S16 32) : Prop :=
  (∀ a x, ((![v1026, v1028, v1030] : Fin 3 → IVec S16 32) a x).toNat < S96x2x128.size a)
theorem k0_idx275_inb : ∀ (v1026 : IVec S16 32) (v1028 : IVec S16 32) (v1030 : IVec S16 32) (k0_hw283 : k0_chk283 v1026 v1028 v1030), ∀ a x, ((![v1026, v1028, v1030] : Fin 3 → IVec S16 32) a x).toNat < S96x2x128.size a := fun v1026 v1028 v1030 k0_hw283 => k0_hw283

def k0_chk284 (v1037 : IVec S16 32) (v1039 : IVec S16 32) (v1041 : IVec S16 32) : Prop :=
  (∀ a x, ((![v1037, v1039, v1041] : Fin 3 → IVec S16 32) a x).toNat < S96x2x128.size a)
theorem k0_idx276_inb : ∀ (v1037 : IVec S16 32) (v1039 : IVec S16 32) (v1041 : IVec S16 32) (k0_hw284 : k0_chk284 v1037 v1039 v1041), ∀ a x, ((![v1037, v1039, v1041] : Fin 3 → IVec S16 32) a x).toNat < S96x2x128.size a := fun v1037 v1039 v1041 k0_hw284 => k0_hw284
def k0_off182 (v23 : BitVec 32) (k0_t9 : Fin (k0_t9_loop v23).trips) : Fin 2 → Nat :=
  let c21_i32_405 : BitVec 32 := 21#32
  let v1045 : Index := Scalar.indexCast c21_i32_405
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_404 : BitVec 32 := 16#32
  let v1044 : BitVec 32 := Scalar.muli v39 c16_i32_404
  let v1046 : Index := Scalar.indexCast v1044
  ![21, v1046.toNat]

def k0_chk285 (v1052 : IVec S16 32) (v1054 : IVec S16 32) (v1056 : IVec S16 32) : Prop :=
  (∀ a x, ((![v1052, v1054, v1056] : Fin 3 → IVec S16 32) a x).toNat < S96x2x128.size a)
theorem k0_idx277_inb : ∀ (v1052 : IVec S16 32) (v1054 : IVec S16 32) (v1056 : IVec S16 32) (k0_hw285 : k0_chk285 v1052 v1054 v1056), ∀ a x, ((![v1052, v1054, v1056] : Fin 3 → IVec S16 32) a x).toNat < S96x2x128.size a := fun v1052 v1054 v1056 k0_hw285 => k0_hw285

def k0_chk286 (v1063 : IVec S16 32) (v1065 : IVec S16 32) (v1067 : IVec S16 32) : Prop :=
  (∀ a x, ((![v1063, v1065, v1067] : Fin 3 → IVec S16 32) a x).toNat < S96x2x128.size a)
theorem k0_idx278_inb : ∀ (v1063 : IVec S16 32) (v1065 : IVec S16 32) (v1067 : IVec S16 32) (k0_hw286 : k0_chk286 v1063 v1065 v1067), ∀ a x, ((![v1063, v1065, v1067] : Fin 3 → IVec S16 32) a x).toNat < S96x2x128.size a := fun v1063 v1065 v1067 k0_hw286 => k0_hw286

def k0_chk287 (v1074 : IVec S16 32) (v1076 : IVec S16 32) (v1078 : IVec S16 32) : Prop :=
  (∀ a x, ((![v1074, v1076, v1078] : Fin 3 → IVec S16 32) a x).toNat < S96x2x128.size a)
theorem k0_idx279_inb : ∀ (v1074 : IVec S16 32) (v1076 : IVec S16 32) (v1078 : IVec S16 32) (k0_hw287 : k0_chk287 v1074 v1076 v1078), ∀ a x, ((![v1074, v1076, v1078] : Fin 3 → IVec S16 32) a x).toNat < S96x2x128.size a := fun v1074 v1076 v1078 k0_hw287 => k0_hw287

def k0_chk288 (v1085 : IVec S16 32) (v1087 : IVec S16 32) (v1089 : IVec S16 32) : Prop :=
  (∀ a x, ((![v1085, v1087, v1089] : Fin 3 → IVec S16 32) a x).toNat < S96x2x128.size a)
theorem k0_idx280_inb : ∀ (v1085 : IVec S16 32) (v1087 : IVec S16 32) (v1089 : IVec S16 32) (k0_hw288 : k0_chk288 v1085 v1087 v1089), ∀ a x, ((![v1085, v1087, v1089] : Fin 3 → IVec S16 32) a x).toNat < S96x2x128.size a := fun v1085 v1087 v1089 k0_hw288 => k0_hw288
def k0_off183 (v23 : BitVec 32) (k0_t9 : Fin (k0_t9_loop v23).trips) : Fin 2 → Nat :=
  let c22_i32_423 : BitVec 32 := 22#32
  let v1093 : Index := Scalar.indexCast c22_i32_423
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_422 : BitVec 32 := 16#32
  let v1092 : BitVec 32 := Scalar.muli v39 c16_i32_422
  let v1094 : Index := Scalar.indexCast v1092
  ![22, v1094.toNat]

def k0_chk289 (v1100 : IVec S16 32) (v1102 : IVec S16 32) (v1104 : IVec S16 32) : Prop :=
  (∀ a x, ((![v1100, v1102, v1104] : Fin 3 → IVec S16 32) a x).toNat < S96x2x128.size a)
theorem k0_idx281_inb : ∀ (v1100 : IVec S16 32) (v1102 : IVec S16 32) (v1104 : IVec S16 32) (k0_hw289 : k0_chk289 v1100 v1102 v1104), ∀ a x, ((![v1100, v1102, v1104] : Fin 3 → IVec S16 32) a x).toNat < S96x2x128.size a := fun v1100 v1102 v1104 k0_hw289 => k0_hw289

def k0_chk290 (v1111 : IVec S16 32) (v1113 : IVec S16 32) (v1115 : IVec S16 32) : Prop :=
  (∀ a x, ((![v1111, v1113, v1115] : Fin 3 → IVec S16 32) a x).toNat < S96x2x128.size a)
theorem k0_idx282_inb : ∀ (v1111 : IVec S16 32) (v1113 : IVec S16 32) (v1115 : IVec S16 32) (k0_hw290 : k0_chk290 v1111 v1113 v1115), ∀ a x, ((![v1111, v1113, v1115] : Fin 3 → IVec S16 32) a x).toNat < S96x2x128.size a := fun v1111 v1113 v1115 k0_hw290 => k0_hw290

def k0_chk291 (v1122 : IVec S16 32) (v1124 : IVec S16 32) (v1126 : IVec S16 32) : Prop :=
  (∀ a x, ((![v1122, v1124, v1126] : Fin 3 → IVec S16 32) a x).toNat < S96x2x128.size a)
theorem k0_idx283_inb : ∀ (v1122 : IVec S16 32) (v1124 : IVec S16 32) (v1126 : IVec S16 32) (k0_hw291 : k0_chk291 v1122 v1124 v1126), ∀ a x, ((![v1122, v1124, v1126] : Fin 3 → IVec S16 32) a x).toNat < S96x2x128.size a := fun v1122 v1124 v1126 k0_hw291 => k0_hw291

def k0_chk292 (v1133 : IVec S16 32) (v1135 : IVec S16 32) (v1137 : IVec S16 32) : Prop :=
  (∀ a x, ((![v1133, v1135, v1137] : Fin 3 → IVec S16 32) a x).toNat < S96x2x128.size a)
theorem k0_idx284_inb : ∀ (v1133 : IVec S16 32) (v1135 : IVec S16 32) (v1137 : IVec S16 32) (k0_hw292 : k0_chk292 v1133 v1135 v1137), ∀ a x, ((![v1133, v1135, v1137] : Fin 3 → IVec S16 32) a x).toNat < S96x2x128.size a := fun v1133 v1135 v1137 k0_hw292 => k0_hw292
def k0_off184 (v23 : BitVec 32) (k0_t9 : Fin (k0_t9_loop v23).trips) : Fin 2 → Nat :=
  let c23_i32_441 : BitVec 32 := 23#32
  let v1141 : Index := Scalar.indexCast c23_i32_441
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_440 : BitVec 32 := 16#32
  let v1140 : BitVec 32 := Scalar.muli v39 c16_i32_440
  let v1142 : Index := Scalar.indexCast v1140
  ![23, v1142.toNat]

def k0_chk293 (v1148 : IVec S16 32) (v1150 : IVec S16 32) (v1152 : IVec S16 32) : Prop :=
  (∀ a x, ((![v1148, v1150, v1152] : Fin 3 → IVec S16 32) a x).toNat < S96x2x128.size a)
theorem k0_idx285_inb : ∀ (v1148 : IVec S16 32) (v1150 : IVec S16 32) (v1152 : IVec S16 32) (k0_hw293 : k0_chk293 v1148 v1150 v1152), ∀ a x, ((![v1148, v1150, v1152] : Fin 3 → IVec S16 32) a x).toNat < S96x2x128.size a := fun v1148 v1150 v1152 k0_hw293 => k0_hw293

def k0_chk294 (v1159 : IVec S16 32) (v1161 : IVec S16 32) (v1163 : IVec S16 32) : Prop :=
  (∀ a x, ((![v1159, v1161, v1163] : Fin 3 → IVec S16 32) a x).toNat < S96x2x128.size a)
theorem k0_idx286_inb : ∀ (v1159 : IVec S16 32) (v1161 : IVec S16 32) (v1163 : IVec S16 32) (k0_hw294 : k0_chk294 v1159 v1161 v1163), ∀ a x, ((![v1159, v1161, v1163] : Fin 3 → IVec S16 32) a x).toNat < S96x2x128.size a := fun v1159 v1161 v1163 k0_hw294 => k0_hw294

def k0_chk295 (v1170 : IVec S16 32) (v1172 : IVec S16 32) (v1174 : IVec S16 32) : Prop :=
  (∀ a x, ((![v1170, v1172, v1174] : Fin 3 → IVec S16 32) a x).toNat < S96x2x128.size a)
theorem k0_idx287_inb : ∀ (v1170 : IVec S16 32) (v1172 : IVec S16 32) (v1174 : IVec S16 32) (k0_hw295 : k0_chk295 v1170 v1172 v1174), ∀ a x, ((![v1170, v1172, v1174] : Fin 3 → IVec S16 32) a x).toNat < S96x2x128.size a := fun v1170 v1172 v1174 k0_hw295 => k0_hw295

def k0_chk296 (v1181 : IVec S16 32) (v1183 : IVec S16 32) (v1185 : IVec S16 32) : Prop :=
  (∀ a x, ((![v1181, v1183, v1185] : Fin 3 → IVec S16 32) a x).toNat < S96x2x128.size a)
theorem k0_idx288_inb : ∀ (v1181 : IVec S16 32) (v1183 : IVec S16 32) (v1185 : IVec S16 32) (k0_hw296 : k0_chk296 v1181 v1183 v1185), ∀ a x, ((![v1181, v1183, v1185] : Fin 3 → IVec S16 32) a x).toNat < S96x2x128.size a := fun v1181 v1183 v1185 k0_hw296 => k0_hw296
def k0_off185 (v23 : BitVec 32) (k0_t9 : Fin (k0_t9_loop v23).trips) : Fin 1 → Nat :=
  let c0_i32_16 : BitVec 32 := 0#32
  let c0_i32_17 : BitVec 32 := 0#32
  let c1_i32_19 : BitVec 32 := 1#32
  let arg16 : BitVec 32 := Scf.iv c0_i32_17 c1_i32_19 k0_t9
  let c1_i32_15 : BitVec 32 := 1#32
  let v38 : BitVec 32 := Scalar.muli arg16 c1_i32_15
  let v39 : BitVec 32 := Scalar.addi c0_i32_16 v38
  let c16_i32_460 : BitVec 32 := 16#32
  let v1198 : BitVec 32 := Scalar.muli v39 c16_i32_460
  let v1199 : Index := Scalar.indexCast v1198
  ![v1199.toNat]
@[reducible] def k0_t10_loop (v23 : BitVec 32) : Scf.Loop 32 :=
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let v34 : BitVec 32 := Scalar.addi c0_i32_17 v33
  let c1_i32_20 : BitVec 32 := 1#32
  ⟨v37, v34, c1_i32_20⟩
def k0_off186 (v23 : BitVec 32) (k0_t10 : Fin (k0_t10_loop v23).trips) : Fin 2 → Nat :=
  let c0_i32_22 : BitVec 32 := 0#32
  let v41 : Index := Scalar.indexCast c0_i32_22
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32 : BitVec 32 := 16#32
  let v40 : BitVec 32 := Scalar.muli v39 c16_i32
  let v42 : Index := Scalar.indexCast v40
  ![0, v42.toNat]

def k0_chk297 (v48 : IVec S16 32) (v50 : IVec S16 32) (v52 : IVec S16 32) : Prop :=
  (∀ a x, ((![v48, v50, v52] : Fin 3 → IVec S16 32) a x).toNat < S96x2x128.size a)
theorem k0_idx289_inb : ∀ (v48 : IVec S16 32) (v50 : IVec S16 32) (v52 : IVec S16 32) (k0_hw297 : k0_chk297 v48 v50 v52), ∀ a x, ((![v48, v50, v52] : Fin 3 → IVec S16 32) a x).toNat < S96x2x128.size a := fun v48 v50 v52 k0_hw297 => k0_hw297

def k0_chk298 (v58 : IVec S16 32) (v60 : IVec S16 32) (v62 : IVec S16 32) : Prop :=
  (∀ a x, ((![v58, v60, v62] : Fin 3 → IVec S16 32) a x).toNat < S96x2x128.size a)
theorem k0_idx290_inb : ∀ (v58 : IVec S16 32) (v60 : IVec S16 32) (v62 : IVec S16 32) (k0_hw298 : k0_chk298 v58 v60 v62), ∀ a x, ((![v58, v60, v62] : Fin 3 → IVec S16 32) a x).toNat < S96x2x128.size a := fun v58 v60 v62 k0_hw298 => k0_hw298

def k0_chk299 (v68 : IVec S16 32) (v70 : IVec S16 32) (v72 : IVec S16 32) : Prop :=
  (∀ a x, ((![v68, v70, v72] : Fin 3 → IVec S16 32) a x).toNat < S96x2x128.size a)
theorem k0_idx291_inb : ∀ (v68 : IVec S16 32) (v70 : IVec S16 32) (v72 : IVec S16 32) (k0_hw299 : k0_chk299 v68 v70 v72), ∀ a x, ((![v68, v70, v72] : Fin 3 → IVec S16 32) a x).toNat < S96x2x128.size a := fun v68 v70 v72 k0_hw299 => k0_hw299

def k0_chk300 (v78 : IVec S16 32) (v80 : IVec S16 32) (v82 : IVec S16 32) : Prop :=
  (∀ a x, ((![v78, v80, v82] : Fin 3 → IVec S16 32) a x).toNat < S96x2x128.size a)
theorem k0_idx292_inb : ∀ (v78 : IVec S16 32) (v80 : IVec S16 32) (v82 : IVec S16 32) (k0_hw300 : k0_chk300 v78 v80 v82), ∀ a x, ((![v78, v80, v82] : Fin 3 → IVec S16 32) a x).toNat < S96x2x128.size a := fun v78 v80 v82 k0_hw300 => k0_hw300
def k0_off187 (v23 : BitVec 32) (k0_t10 : Fin (k0_t10_loop v23).trips) : Fin 2 → Nat :=
  let c1_i32_38 : BitVec 32 := 1#32
  let v85 : Index := Scalar.indexCast c1_i32_38
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_37 : BitVec 32 := 16#32
  let v84 : BitVec 32 := Scalar.muli v39 c16_i32_37
  let v86 : Index := Scalar.indexCast v84
  ![1, v86.toNat]

def k0_chk301 (v92 : IVec S16 32) (v94 : IVec S16 32) (v96 : IVec S16 32) : Prop :=
  (∀ a x, ((![v92, v94, v96] : Fin 3 → IVec S16 32) a x).toNat < S96x2x128.size a)
theorem k0_idx293_inb : ∀ (v92 : IVec S16 32) (v94 : IVec S16 32) (v96 : IVec S16 32) (k0_hw301 : k0_chk301 v92 v94 v96), ∀ a x, ((![v92, v94, v96] : Fin 3 → IVec S16 32) a x).toNat < S96x2x128.size a := fun v92 v94 v96 k0_hw301 => k0_hw301

def k0_chk302 (v103 : IVec S16 32) (v105 : IVec S16 32) (v107 : IVec S16 32) : Prop :=
  (∀ a x, ((![v103, v105, v107] : Fin 3 → IVec S16 32) a x).toNat < S96x2x128.size a)
theorem k0_idx294_inb : ∀ (v103 : IVec S16 32) (v105 : IVec S16 32) (v107 : IVec S16 32) (k0_hw302 : k0_chk302 v103 v105 v107), ∀ a x, ((![v103, v105, v107] : Fin 3 → IVec S16 32) a x).toNat < S96x2x128.size a := fun v103 v105 v107 k0_hw302 => k0_hw302

def k0_chk303 (v114 : IVec S16 32) (v116 : IVec S16 32) (v118 : IVec S16 32) : Prop :=
  (∀ a x, ((![v114, v116, v118] : Fin 3 → IVec S16 32) a x).toNat < S96x2x128.size a)
theorem k0_idx295_inb : ∀ (v114 : IVec S16 32) (v116 : IVec S16 32) (v118 : IVec S16 32) (k0_hw303 : k0_chk303 v114 v116 v118), ∀ a x, ((![v114, v116, v118] : Fin 3 → IVec S16 32) a x).toNat < S96x2x128.size a := fun v114 v116 v118 k0_hw303 => k0_hw303

def k0_chk304 (v125 : IVec S16 32) (v127 : IVec S16 32) (v129 : IVec S16 32) : Prop :=
  (∀ a x, ((![v125, v127, v129] : Fin 3 → IVec S16 32) a x).toNat < S96x2x128.size a)
theorem k0_idx296_inb : ∀ (v125 : IVec S16 32) (v127 : IVec S16 32) (v129 : IVec S16 32) (k0_hw304 : k0_chk304 v125 v127 v129), ∀ a x, ((![v125, v127, v129] : Fin 3 → IVec S16 32) a x).toNat < S96x2x128.size a := fun v125 v127 v129 k0_hw304 => k0_hw304
def k0_off188 (v23 : BitVec 32) (k0_t10 : Fin (k0_t10_loop v23).trips) : Fin 2 → Nat :=
  let c2_i32_58 : BitVec 32 := 2#32
  let v133 : Index := Scalar.indexCast c2_i32_58
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_57 : BitVec 32 := 16#32
  let v132 : BitVec 32 := Scalar.muli v39 c16_i32_57
  let v134 : Index := Scalar.indexCast v132
  ![2, v134.toNat]

def k0_chk305 (v140 : IVec S16 32) (v142 : IVec S16 32) (v144 : IVec S16 32) : Prop :=
  (∀ a x, ((![v140, v142, v144] : Fin 3 → IVec S16 32) a x).toNat < S96x2x128.size a)
theorem k0_idx297_inb : ∀ (v140 : IVec S16 32) (v142 : IVec S16 32) (v144 : IVec S16 32) (k0_hw305 : k0_chk305 v140 v142 v144), ∀ a x, ((![v140, v142, v144] : Fin 3 → IVec S16 32) a x).toNat < S96x2x128.size a := fun v140 v142 v144 k0_hw305 => k0_hw305

def k0_chk306 (v151 : IVec S16 32) (v153 : IVec S16 32) (v155 : IVec S16 32) : Prop :=
  (∀ a x, ((![v151, v153, v155] : Fin 3 → IVec S16 32) a x).toNat < S96x2x128.size a)
theorem k0_idx298_inb : ∀ (v151 : IVec S16 32) (v153 : IVec S16 32) (v155 : IVec S16 32) (k0_hw306 : k0_chk306 v151 v153 v155), ∀ a x, ((![v151, v153, v155] : Fin 3 → IVec S16 32) a x).toNat < S96x2x128.size a := fun v151 v153 v155 k0_hw306 => k0_hw306

def k0_chk307 (v162 : IVec S16 32) (v164 : IVec S16 32) (v166 : IVec S16 32) : Prop :=
  (∀ a x, ((![v162, v164, v166] : Fin 3 → IVec S16 32) a x).toNat < S96x2x128.size a)
theorem k0_idx299_inb : ∀ (v162 : IVec S16 32) (v164 : IVec S16 32) (v166 : IVec S16 32) (k0_hw307 : k0_chk307 v162 v164 v166), ∀ a x, ((![v162, v164, v166] : Fin 3 → IVec S16 32) a x).toNat < S96x2x128.size a := fun v162 v164 v166 k0_hw307 => k0_hw307

def k0_chk308 (v173 : IVec S16 32) (v175 : IVec S16 32) (v177 : IVec S16 32) : Prop :=
  (∀ a x, ((![v173, v175, v177] : Fin 3 → IVec S16 32) a x).toNat < S96x2x128.size a)
theorem k0_idx300_inb : ∀ (v173 : IVec S16 32) (v175 : IVec S16 32) (v177 : IVec S16 32) (k0_hw308 : k0_chk308 v173 v175 v177), ∀ a x, ((![v173, v175, v177] : Fin 3 → IVec S16 32) a x).toNat < S96x2x128.size a := fun v173 v175 v177 k0_hw308 => k0_hw308
def k0_off189 (v23 : BitVec 32) (k0_t10 : Fin (k0_t10_loop v23).trips) : Fin 2 → Nat :=
  let c3_i32_77 : BitVec 32 := 3#32
  let v181 : Index := Scalar.indexCast c3_i32_77
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_76 : BitVec 32 := 16#32
  let v180 : BitVec 32 := Scalar.muli v39 c16_i32_76
  let v182 : Index := Scalar.indexCast v180
  ![3, v182.toNat]

def k0_chk309 (v188 : IVec S16 32) (v190 : IVec S16 32) (v192 : IVec S16 32) : Prop :=
  (∀ a x, ((![v188, v190, v192] : Fin 3 → IVec S16 32) a x).toNat < S96x2x128.size a)
theorem k0_idx301_inb : ∀ (v188 : IVec S16 32) (v190 : IVec S16 32) (v192 : IVec S16 32) (k0_hw309 : k0_chk309 v188 v190 v192), ∀ a x, ((![v188, v190, v192] : Fin 3 → IVec S16 32) a x).toNat < S96x2x128.size a := fun v188 v190 v192 k0_hw309 => k0_hw309

def k0_chk310 (v199 : IVec S16 32) (v201 : IVec S16 32) (v203 : IVec S16 32) : Prop :=
  (∀ a x, ((![v199, v201, v203] : Fin 3 → IVec S16 32) a x).toNat < S96x2x128.size a)
theorem k0_idx302_inb : ∀ (v199 : IVec S16 32) (v201 : IVec S16 32) (v203 : IVec S16 32) (k0_hw310 : k0_chk310 v199 v201 v203), ∀ a x, ((![v199, v201, v203] : Fin 3 → IVec S16 32) a x).toNat < S96x2x128.size a := fun v199 v201 v203 k0_hw310 => k0_hw310

def k0_chk311 (v210 : IVec S16 32) (v212 : IVec S16 32) (v214 : IVec S16 32) : Prop :=
  (∀ a x, ((![v210, v212, v214] : Fin 3 → IVec S16 32) a x).toNat < S96x2x128.size a)
theorem k0_idx303_inb : ∀ (v210 : IVec S16 32) (v212 : IVec S16 32) (v214 : IVec S16 32) (k0_hw311 : k0_chk311 v210 v212 v214), ∀ a x, ((![v210, v212, v214] : Fin 3 → IVec S16 32) a x).toNat < S96x2x128.size a := fun v210 v212 v214 k0_hw311 => k0_hw311

def k0_chk312 (v221 : IVec S16 32) (v223 : IVec S16 32) (v225 : IVec S16 32) : Prop :=
  (∀ a x, ((![v221, v223, v225] : Fin 3 → IVec S16 32) a x).toNat < S96x2x128.size a)
theorem k0_idx304_inb : ∀ (v221 : IVec S16 32) (v223 : IVec S16 32) (v225 : IVec S16 32) (k0_hw312 : k0_chk312 v221 v223 v225), ∀ a x, ((![v221, v223, v225] : Fin 3 → IVec S16 32) a x).toNat < S96x2x128.size a := fun v221 v223 v225 k0_hw312 => k0_hw312
def k0_off190 (v23 : BitVec 32) (k0_t10 : Fin (k0_t10_loop v23).trips) : Fin 2 → Nat :=
  let c4_i32_96 : BitVec 32 := 4#32
  let v229 : Index := Scalar.indexCast c4_i32_96
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_95 : BitVec 32 := 16#32
  let v228 : BitVec 32 := Scalar.muli v39 c16_i32_95
  let v230 : Index := Scalar.indexCast v228
  ![4, v230.toNat]

def k0_chk313 (v236 : IVec S16 32) (v238 : IVec S16 32) (v240 : IVec S16 32) : Prop :=
  (∀ a x, ((![v236, v238, v240] : Fin 3 → IVec S16 32) a x).toNat < S96x2x128.size a)
theorem k0_idx305_inb : ∀ (v236 : IVec S16 32) (v238 : IVec S16 32) (v240 : IVec S16 32) (k0_hw313 : k0_chk313 v236 v238 v240), ∀ a x, ((![v236, v238, v240] : Fin 3 → IVec S16 32) a x).toNat < S96x2x128.size a := fun v236 v238 v240 k0_hw313 => k0_hw313

def k0_chk314 (v247 : IVec S16 32) (v249 : IVec S16 32) (v251 : IVec S16 32) : Prop :=
  (∀ a x, ((![v247, v249, v251] : Fin 3 → IVec S16 32) a x).toNat < S96x2x128.size a)
theorem k0_idx306_inb : ∀ (v247 : IVec S16 32) (v249 : IVec S16 32) (v251 : IVec S16 32) (k0_hw314 : k0_chk314 v247 v249 v251), ∀ a x, ((![v247, v249, v251] : Fin 3 → IVec S16 32) a x).toNat < S96x2x128.size a := fun v247 v249 v251 k0_hw314 => k0_hw314

def k0_chk315 (v258 : IVec S16 32) (v260 : IVec S16 32) (v262 : IVec S16 32) : Prop :=
  (∀ a x, ((![v258, v260, v262] : Fin 3 → IVec S16 32) a x).toNat < S96x2x128.size a)
theorem k0_idx307_inb : ∀ (v258 : IVec S16 32) (v260 : IVec S16 32) (v262 : IVec S16 32) (k0_hw315 : k0_chk315 v258 v260 v262), ∀ a x, ((![v258, v260, v262] : Fin 3 → IVec S16 32) a x).toNat < S96x2x128.size a := fun v258 v260 v262 k0_hw315 => k0_hw315

def k0_chk316 (v269 : IVec S16 32) (v271 : IVec S16 32) (v273 : IVec S16 32) : Prop :=
  (∀ a x, ((![v269, v271, v273] : Fin 3 → IVec S16 32) a x).toNat < S96x2x128.size a)
theorem k0_idx308_inb : ∀ (v269 : IVec S16 32) (v271 : IVec S16 32) (v273 : IVec S16 32) (k0_hw316 : k0_chk316 v269 v271 v273), ∀ a x, ((![v269, v271, v273] : Fin 3 → IVec S16 32) a x).toNat < S96x2x128.size a := fun v269 v271 v273 k0_hw316 => k0_hw316
def k0_off191 (v23 : BitVec 32) (k0_t10 : Fin (k0_t10_loop v23).trips) : Fin 2 → Nat :=
  let c5_i32_115 : BitVec 32 := 5#32
  let v277 : Index := Scalar.indexCast c5_i32_115
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_114 : BitVec 32 := 16#32
  let v276 : BitVec 32 := Scalar.muli v39 c16_i32_114
  let v278 : Index := Scalar.indexCast v276
  ![5, v278.toNat]

def k0_chk317 (v284 : IVec S16 32) (v286 : IVec S16 32) (v288 : IVec S16 32) : Prop :=
  (∀ a x, ((![v284, v286, v288] : Fin 3 → IVec S16 32) a x).toNat < S96x2x128.size a)
theorem k0_idx309_inb : ∀ (v284 : IVec S16 32) (v286 : IVec S16 32) (v288 : IVec S16 32) (k0_hw317 : k0_chk317 v284 v286 v288), ∀ a x, ((![v284, v286, v288] : Fin 3 → IVec S16 32) a x).toNat < S96x2x128.size a := fun v284 v286 v288 k0_hw317 => k0_hw317

def k0_chk318 (v295 : IVec S16 32) (v297 : IVec S16 32) (v299 : IVec S16 32) : Prop :=
  (∀ a x, ((![v295, v297, v299] : Fin 3 → IVec S16 32) a x).toNat < S96x2x128.size a)
theorem k0_idx310_inb : ∀ (v295 : IVec S16 32) (v297 : IVec S16 32) (v299 : IVec S16 32) (k0_hw318 : k0_chk318 v295 v297 v299), ∀ a x, ((![v295, v297, v299] : Fin 3 → IVec S16 32) a x).toNat < S96x2x128.size a := fun v295 v297 v299 k0_hw318 => k0_hw318

def k0_chk319 (v306 : IVec S16 32) (v308 : IVec S16 32) (v310 : IVec S16 32) : Prop :=
  (∀ a x, ((![v306, v308, v310] : Fin 3 → IVec S16 32) a x).toNat < S96x2x128.size a)
theorem k0_idx311_inb : ∀ (v306 : IVec S16 32) (v308 : IVec S16 32) (v310 : IVec S16 32) (k0_hw319 : k0_chk319 v306 v308 v310), ∀ a x, ((![v306, v308, v310] : Fin 3 → IVec S16 32) a x).toNat < S96x2x128.size a := fun v306 v308 v310 k0_hw319 => k0_hw319

def k0_chk320 (v317 : IVec S16 32) (v319 : IVec S16 32) (v321 : IVec S16 32) : Prop :=
  (∀ a x, ((![v317, v319, v321] : Fin 3 → IVec S16 32) a x).toNat < S96x2x128.size a)
theorem k0_idx312_inb : ∀ (v317 : IVec S16 32) (v319 : IVec S16 32) (v321 : IVec S16 32) (k0_hw320 : k0_chk320 v317 v319 v321), ∀ a x, ((![v317, v319, v321] : Fin 3 → IVec S16 32) a x).toNat < S96x2x128.size a := fun v317 v319 v321 k0_hw320 => k0_hw320
def k0_off192 (v23 : BitVec 32) (k0_t10 : Fin (k0_t10_loop v23).trips) : Fin 2 → Nat :=
  let c6_i32_133 : BitVec 32 := 6#32
  let v325 : Index := Scalar.indexCast c6_i32_133
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_132 : BitVec 32 := 16#32
  let v324 : BitVec 32 := Scalar.muli v39 c16_i32_132
  let v326 : Index := Scalar.indexCast v324
  ![6, v326.toNat]

def k0_chk321 (v332 : IVec S16 32) (v334 : IVec S16 32) (v336 : IVec S16 32) : Prop :=
  (∀ a x, ((![v332, v334, v336] : Fin 3 → IVec S16 32) a x).toNat < S96x2x128.size a)
theorem k0_idx313_inb : ∀ (v332 : IVec S16 32) (v334 : IVec S16 32) (v336 : IVec S16 32) (k0_hw321 : k0_chk321 v332 v334 v336), ∀ a x, ((![v332, v334, v336] : Fin 3 → IVec S16 32) a x).toNat < S96x2x128.size a := fun v332 v334 v336 k0_hw321 => k0_hw321

def k0_chk322 (v343 : IVec S16 32) (v345 : IVec S16 32) (v347 : IVec S16 32) : Prop :=
  (∀ a x, ((![v343, v345, v347] : Fin 3 → IVec S16 32) a x).toNat < S96x2x128.size a)
theorem k0_idx314_inb : ∀ (v343 : IVec S16 32) (v345 : IVec S16 32) (v347 : IVec S16 32) (k0_hw322 : k0_chk322 v343 v345 v347), ∀ a x, ((![v343, v345, v347] : Fin 3 → IVec S16 32) a x).toNat < S96x2x128.size a := fun v343 v345 v347 k0_hw322 => k0_hw322

def k0_chk323 (v354 : IVec S16 32) (v356 : IVec S16 32) (v358 : IVec S16 32) : Prop :=
  (∀ a x, ((![v354, v356, v358] : Fin 3 → IVec S16 32) a x).toNat < S96x2x128.size a)
theorem k0_idx315_inb : ∀ (v354 : IVec S16 32) (v356 : IVec S16 32) (v358 : IVec S16 32) (k0_hw323 : k0_chk323 v354 v356 v358), ∀ a x, ((![v354, v356, v358] : Fin 3 → IVec S16 32) a x).toNat < S96x2x128.size a := fun v354 v356 v358 k0_hw323 => k0_hw323

def k0_chk324 (v365 : IVec S16 32) (v367 : IVec S16 32) (v369 : IVec S16 32) : Prop :=
  (∀ a x, ((![v365, v367, v369] : Fin 3 → IVec S16 32) a x).toNat < S96x2x128.size a)
theorem k0_idx316_inb : ∀ (v365 : IVec S16 32) (v367 : IVec S16 32) (v369 : IVec S16 32) (k0_hw324 : k0_chk324 v365 v367 v369), ∀ a x, ((![v365, v367, v369] : Fin 3 → IVec S16 32) a x).toNat < S96x2x128.size a := fun v365 v367 v369 k0_hw324 => k0_hw324
def k0_off193 (v23 : BitVec 32) (k0_t10 : Fin (k0_t10_loop v23).trips) : Fin 2 → Nat :=
  let c7_i32_152 : BitVec 32 := 7#32
  let v373 : Index := Scalar.indexCast c7_i32_152
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_151 : BitVec 32 := 16#32
  let v372 : BitVec 32 := Scalar.muli v39 c16_i32_151
  let v374 : Index := Scalar.indexCast v372
  ![7, v374.toNat]

def k0_chk325 (v380 : IVec S16 32) (v382 : IVec S16 32) (v384 : IVec S16 32) : Prop :=
  (∀ a x, ((![v380, v382, v384] : Fin 3 → IVec S16 32) a x).toNat < S96x2x128.size a)
theorem k0_idx317_inb : ∀ (v380 : IVec S16 32) (v382 : IVec S16 32) (v384 : IVec S16 32) (k0_hw325 : k0_chk325 v380 v382 v384), ∀ a x, ((![v380, v382, v384] : Fin 3 → IVec S16 32) a x).toNat < S96x2x128.size a := fun v380 v382 v384 k0_hw325 => k0_hw325

def k0_chk326 (v391 : IVec S16 32) (v393 : IVec S16 32) (v395 : IVec S16 32) : Prop :=
  (∀ a x, ((![v391, v393, v395] : Fin 3 → IVec S16 32) a x).toNat < S96x2x128.size a)
theorem k0_idx318_inb : ∀ (v391 : IVec S16 32) (v393 : IVec S16 32) (v395 : IVec S16 32) (k0_hw326 : k0_chk326 v391 v393 v395), ∀ a x, ((![v391, v393, v395] : Fin 3 → IVec S16 32) a x).toNat < S96x2x128.size a := fun v391 v393 v395 k0_hw326 => k0_hw326

def k0_chk327 (v402 : IVec S16 32) (v404 : IVec S16 32) (v406 : IVec S16 32) : Prop :=
  (∀ a x, ((![v402, v404, v406] : Fin 3 → IVec S16 32) a x).toNat < S96x2x128.size a)
theorem k0_idx319_inb : ∀ (v402 : IVec S16 32) (v404 : IVec S16 32) (v406 : IVec S16 32) (k0_hw327 : k0_chk327 v402 v404 v406), ∀ a x, ((![v402, v404, v406] : Fin 3 → IVec S16 32) a x).toNat < S96x2x128.size a := fun v402 v404 v406 k0_hw327 => k0_hw327

def k0_chk328 (v413 : IVec S16 32) (v415 : IVec S16 32) (v417 : IVec S16 32) : Prop :=
  (∀ a x, ((![v413, v415, v417] : Fin 3 → IVec S16 32) a x).toNat < S96x2x128.size a)
theorem k0_idx320_inb : ∀ (v413 : IVec S16 32) (v415 : IVec S16 32) (v417 : IVec S16 32) (k0_hw328 : k0_chk328 v413 v415 v417), ∀ a x, ((![v413, v415, v417] : Fin 3 → IVec S16 32) a x).toNat < S96x2x128.size a := fun v413 v415 v417 k0_hw328 => k0_hw328
def k0_off194 (v23 : BitVec 32) (k0_t10 : Fin (k0_t10_loop v23).trips) : Fin 2 → Nat :=
  let c8_i32_170 : BitVec 32 := 8#32
  let v421 : Index := Scalar.indexCast c8_i32_170
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_169 : BitVec 32 := 16#32
  let v420 : BitVec 32 := Scalar.muli v39 c16_i32_169
  let v422 : Index := Scalar.indexCast v420
  ![8, v422.toNat]

def k0_chk329 (v428 : IVec S16 32) (v430 : IVec S16 32) (v432 : IVec S16 32) : Prop :=
  (∀ a x, ((![v428, v430, v432] : Fin 3 → IVec S16 32) a x).toNat < S96x2x128.size a)
theorem k0_idx321_inb : ∀ (v428 : IVec S16 32) (v430 : IVec S16 32) (v432 : IVec S16 32) (k0_hw329 : k0_chk329 v428 v430 v432), ∀ a x, ((![v428, v430, v432] : Fin 3 → IVec S16 32) a x).toNat < S96x2x128.size a := fun v428 v430 v432 k0_hw329 => k0_hw329

def k0_chk330 (v439 : IVec S16 32) (v441 : IVec S16 32) (v443 : IVec S16 32) : Prop :=
  (∀ a x, ((![v439, v441, v443] : Fin 3 → IVec S16 32) a x).toNat < S96x2x128.size a)
theorem k0_idx322_inb : ∀ (v439 : IVec S16 32) (v441 : IVec S16 32) (v443 : IVec S16 32) (k0_hw330 : k0_chk330 v439 v441 v443), ∀ a x, ((![v439, v441, v443] : Fin 3 → IVec S16 32) a x).toNat < S96x2x128.size a := fun v439 v441 v443 k0_hw330 => k0_hw330

def k0_chk331 (v450 : IVec S16 32) (v452 : IVec S16 32) (v454 : IVec S16 32) : Prop :=
  (∀ a x, ((![v450, v452, v454] : Fin 3 → IVec S16 32) a x).toNat < S96x2x128.size a)
theorem k0_idx323_inb : ∀ (v450 : IVec S16 32) (v452 : IVec S16 32) (v454 : IVec S16 32) (k0_hw331 : k0_chk331 v450 v452 v454), ∀ a x, ((![v450, v452, v454] : Fin 3 → IVec S16 32) a x).toNat < S96x2x128.size a := fun v450 v452 v454 k0_hw331 => k0_hw331

def k0_chk332 (v461 : IVec S16 32) (v463 : IVec S16 32) (v465 : IVec S16 32) : Prop :=
  (∀ a x, ((![v461, v463, v465] : Fin 3 → IVec S16 32) a x).toNat < S96x2x128.size a)
theorem k0_idx324_inb : ∀ (v461 : IVec S16 32) (v463 : IVec S16 32) (v465 : IVec S16 32) (k0_hw332 : k0_chk332 v461 v463 v465), ∀ a x, ((![v461, v463, v465] : Fin 3 → IVec S16 32) a x).toNat < S96x2x128.size a := fun v461 v463 v465 k0_hw332 => k0_hw332
def k0_off195 (v23 : BitVec 32) (k0_t10 : Fin (k0_t10_loop v23).trips) : Fin 2 → Nat :=
  let c9_i32_188 : BitVec 32 := 9#32
  let v469 : Index := Scalar.indexCast c9_i32_188
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_187 : BitVec 32 := 16#32
  let v468 : BitVec 32 := Scalar.muli v39 c16_i32_187
  let v470 : Index := Scalar.indexCast v468
  ![9, v470.toNat]

def k0_chk333 (v476 : IVec S16 32) (v478 : IVec S16 32) (v480 : IVec S16 32) : Prop :=
  (∀ a x, ((![v476, v478, v480] : Fin 3 → IVec S16 32) a x).toNat < S96x2x128.size a)
theorem k0_idx325_inb : ∀ (v476 : IVec S16 32) (v478 : IVec S16 32) (v480 : IVec S16 32) (k0_hw333 : k0_chk333 v476 v478 v480), ∀ a x, ((![v476, v478, v480] : Fin 3 → IVec S16 32) a x).toNat < S96x2x128.size a := fun v476 v478 v480 k0_hw333 => k0_hw333

def k0_chk334 (v487 : IVec S16 32) (v489 : IVec S16 32) (v491 : IVec S16 32) : Prop :=
  (∀ a x, ((![v487, v489, v491] : Fin 3 → IVec S16 32) a x).toNat < S96x2x128.size a)
theorem k0_idx326_inb : ∀ (v487 : IVec S16 32) (v489 : IVec S16 32) (v491 : IVec S16 32) (k0_hw334 : k0_chk334 v487 v489 v491), ∀ a x, ((![v487, v489, v491] : Fin 3 → IVec S16 32) a x).toNat < S96x2x128.size a := fun v487 v489 v491 k0_hw334 => k0_hw334

def k0_chk335 (v498 : IVec S16 32) (v500 : IVec S16 32) (v502 : IVec S16 32) : Prop :=
  (∀ a x, ((![v498, v500, v502] : Fin 3 → IVec S16 32) a x).toNat < S96x2x128.size a)
theorem k0_idx327_inb : ∀ (v498 : IVec S16 32) (v500 : IVec S16 32) (v502 : IVec S16 32) (k0_hw335 : k0_chk335 v498 v500 v502), ∀ a x, ((![v498, v500, v502] : Fin 3 → IVec S16 32) a x).toNat < S96x2x128.size a := fun v498 v500 v502 k0_hw335 => k0_hw335

def k0_chk336 (v509 : IVec S16 32) (v511 : IVec S16 32) (v513 : IVec S16 32) : Prop :=
  (∀ a x, ((![v509, v511, v513] : Fin 3 → IVec S16 32) a x).toNat < S96x2x128.size a)
theorem k0_idx328_inb : ∀ (v509 : IVec S16 32) (v511 : IVec S16 32) (v513 : IVec S16 32) (k0_hw336 : k0_chk336 v509 v511 v513), ∀ a x, ((![v509, v511, v513] : Fin 3 → IVec S16 32) a x).toNat < S96x2x128.size a := fun v509 v511 v513 k0_hw336 => k0_hw336
def k0_off196 (v23 : BitVec 32) (k0_t10 : Fin (k0_t10_loop v23).trips) : Fin 2 → Nat :=
  let c10_i32_206 : BitVec 32 := 10#32
  let v517 : Index := Scalar.indexCast c10_i32_206
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_205 : BitVec 32 := 16#32
  let v516 : BitVec 32 := Scalar.muli v39 c16_i32_205
  let v518 : Index := Scalar.indexCast v516
  ![10, v518.toNat]

def k0_chk337 (v524 : IVec S16 32) (v526 : IVec S16 32) (v528 : IVec S16 32) : Prop :=
  (∀ a x, ((![v524, v526, v528] : Fin 3 → IVec S16 32) a x).toNat < S96x2x128.size a)
theorem k0_idx329_inb : ∀ (v524 : IVec S16 32) (v526 : IVec S16 32) (v528 : IVec S16 32) (k0_hw337 : k0_chk337 v524 v526 v528), ∀ a x, ((![v524, v526, v528] : Fin 3 → IVec S16 32) a x).toNat < S96x2x128.size a := fun v524 v526 v528 k0_hw337 => k0_hw337

def k0_chk338 (v535 : IVec S16 32) (v537 : IVec S16 32) (v539 : IVec S16 32) : Prop :=
  (∀ a x, ((![v535, v537, v539] : Fin 3 → IVec S16 32) a x).toNat < S96x2x128.size a)
theorem k0_idx330_inb : ∀ (v535 : IVec S16 32) (v537 : IVec S16 32) (v539 : IVec S16 32) (k0_hw338 : k0_chk338 v535 v537 v539), ∀ a x, ((![v535, v537, v539] : Fin 3 → IVec S16 32) a x).toNat < S96x2x128.size a := fun v535 v537 v539 k0_hw338 => k0_hw338

def k0_chk339 (v546 : IVec S16 32) (v548 : IVec S16 32) (v550 : IVec S16 32) : Prop :=
  (∀ a x, ((![v546, v548, v550] : Fin 3 → IVec S16 32) a x).toNat < S96x2x128.size a)
theorem k0_idx331_inb : ∀ (v546 : IVec S16 32) (v548 : IVec S16 32) (v550 : IVec S16 32) (k0_hw339 : k0_chk339 v546 v548 v550), ∀ a x, ((![v546, v548, v550] : Fin 3 → IVec S16 32) a x).toNat < S96x2x128.size a := fun v546 v548 v550 k0_hw339 => k0_hw339

def k0_chk340 (v557 : IVec S16 32) (v559 : IVec S16 32) (v561 : IVec S16 32) : Prop :=
  (∀ a x, ((![v557, v559, v561] : Fin 3 → IVec S16 32) a x).toNat < S96x2x128.size a)
theorem k0_idx332_inb : ∀ (v557 : IVec S16 32) (v559 : IVec S16 32) (v561 : IVec S16 32) (k0_hw340 : k0_chk340 v557 v559 v561), ∀ a x, ((![v557, v559, v561] : Fin 3 → IVec S16 32) a x).toNat < S96x2x128.size a := fun v557 v559 v561 k0_hw340 => k0_hw340
def k0_off197 (v23 : BitVec 32) (k0_t10 : Fin (k0_t10_loop v23).trips) : Fin 2 → Nat :=
  let c11_i32_224 : BitVec 32 := 11#32
  let v565 : Index := Scalar.indexCast c11_i32_224
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_223 : BitVec 32 := 16#32
  let v564 : BitVec 32 := Scalar.muli v39 c16_i32_223
  let v566 : Index := Scalar.indexCast v564
  ![11, v566.toNat]

def k0_chk341 (v572 : IVec S16 32) (v574 : IVec S16 32) (v576 : IVec S16 32) : Prop :=
  (∀ a x, ((![v572, v574, v576] : Fin 3 → IVec S16 32) a x).toNat < S96x2x128.size a)
theorem k0_idx333_inb : ∀ (v572 : IVec S16 32) (v574 : IVec S16 32) (v576 : IVec S16 32) (k0_hw341 : k0_chk341 v572 v574 v576), ∀ a x, ((![v572, v574, v576] : Fin 3 → IVec S16 32) a x).toNat < S96x2x128.size a := fun v572 v574 v576 k0_hw341 => k0_hw341

def k0_chk342 (v583 : IVec S16 32) (v585 : IVec S16 32) (v587 : IVec S16 32) : Prop :=
  (∀ a x, ((![v583, v585, v587] : Fin 3 → IVec S16 32) a x).toNat < S96x2x128.size a)
theorem k0_idx334_inb : ∀ (v583 : IVec S16 32) (v585 : IVec S16 32) (v587 : IVec S16 32) (k0_hw342 : k0_chk342 v583 v585 v587), ∀ a x, ((![v583, v585, v587] : Fin 3 → IVec S16 32) a x).toNat < S96x2x128.size a := fun v583 v585 v587 k0_hw342 => k0_hw342

def k0_chk343 (v594 : IVec S16 32) (v596 : IVec S16 32) (v598 : IVec S16 32) : Prop :=
  (∀ a x, ((![v594, v596, v598] : Fin 3 → IVec S16 32) a x).toNat < S96x2x128.size a)
theorem k0_idx335_inb : ∀ (v594 : IVec S16 32) (v596 : IVec S16 32) (v598 : IVec S16 32) (k0_hw343 : k0_chk343 v594 v596 v598), ∀ a x, ((![v594, v596, v598] : Fin 3 → IVec S16 32) a x).toNat < S96x2x128.size a := fun v594 v596 v598 k0_hw343 => k0_hw343

def k0_chk344 (v605 : IVec S16 32) (v607 : IVec S16 32) (v609 : IVec S16 32) : Prop :=
  (∀ a x, ((![v605, v607, v609] : Fin 3 → IVec S16 32) a x).toNat < S96x2x128.size a)
theorem k0_idx336_inb : ∀ (v605 : IVec S16 32) (v607 : IVec S16 32) (v609 : IVec S16 32) (k0_hw344 : k0_chk344 v605 v607 v609), ∀ a x, ((![v605, v607, v609] : Fin 3 → IVec S16 32) a x).toNat < S96x2x128.size a := fun v605 v607 v609 k0_hw344 => k0_hw344
def k0_off198 (v23 : BitVec 32) (k0_t10 : Fin (k0_t10_loop v23).trips) : Fin 2 → Nat :=
  let c12_i32_242 : BitVec 32 := 12#32
  let v613 : Index := Scalar.indexCast c12_i32_242
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_241 : BitVec 32 := 16#32
  let v612 : BitVec 32 := Scalar.muli v39 c16_i32_241
  let v614 : Index := Scalar.indexCast v612
  ![12, v614.toNat]

def k0_chk345 (v620 : IVec S16 32) (v622 : IVec S16 32) (v624 : IVec S16 32) : Prop :=
  (∀ a x, ((![v620, v622, v624] : Fin 3 → IVec S16 32) a x).toNat < S96x2x128.size a)
theorem k0_idx337_inb : ∀ (v620 : IVec S16 32) (v622 : IVec S16 32) (v624 : IVec S16 32) (k0_hw345 : k0_chk345 v620 v622 v624), ∀ a x, ((![v620, v622, v624] : Fin 3 → IVec S16 32) a x).toNat < S96x2x128.size a := fun v620 v622 v624 k0_hw345 => k0_hw345

def k0_chk346 (v631 : IVec S16 32) (v633 : IVec S16 32) (v635 : IVec S16 32) : Prop :=
  (∀ a x, ((![v631, v633, v635] : Fin 3 → IVec S16 32) a x).toNat < S96x2x128.size a)
theorem k0_idx338_inb : ∀ (v631 : IVec S16 32) (v633 : IVec S16 32) (v635 : IVec S16 32) (k0_hw346 : k0_chk346 v631 v633 v635), ∀ a x, ((![v631, v633, v635] : Fin 3 → IVec S16 32) a x).toNat < S96x2x128.size a := fun v631 v633 v635 k0_hw346 => k0_hw346

def k0_chk347 (v642 : IVec S16 32) (v644 : IVec S16 32) (v646 : IVec S16 32) : Prop :=
  (∀ a x, ((![v642, v644, v646] : Fin 3 → IVec S16 32) a x).toNat < S96x2x128.size a)
theorem k0_idx339_inb : ∀ (v642 : IVec S16 32) (v644 : IVec S16 32) (v646 : IVec S16 32) (k0_hw347 : k0_chk347 v642 v644 v646), ∀ a x, ((![v642, v644, v646] : Fin 3 → IVec S16 32) a x).toNat < S96x2x128.size a := fun v642 v644 v646 k0_hw347 => k0_hw347

def k0_chk348 (v653 : IVec S16 32) (v655 : IVec S16 32) (v657 : IVec S16 32) : Prop :=
  (∀ a x, ((![v653, v655, v657] : Fin 3 → IVec S16 32) a x).toNat < S96x2x128.size a)
theorem k0_idx340_inb : ∀ (v653 : IVec S16 32) (v655 : IVec S16 32) (v657 : IVec S16 32) (k0_hw348 : k0_chk348 v653 v655 v657), ∀ a x, ((![v653, v655, v657] : Fin 3 → IVec S16 32) a x).toNat < S96x2x128.size a := fun v653 v655 v657 k0_hw348 => k0_hw348
def k0_off199 (v23 : BitVec 32) (k0_t10 : Fin (k0_t10_loop v23).trips) : Fin 2 → Nat :=
  let c13_i32_261 : BitVec 32 := 13#32
  let v661 : Index := Scalar.indexCast c13_i32_261
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_260 : BitVec 32 := 16#32
  let v660 : BitVec 32 := Scalar.muli v39 c16_i32_260
  let v662 : Index := Scalar.indexCast v660
  ![13, v662.toNat]

def k0_chk349 (v668 : IVec S16 32) (v670 : IVec S16 32) (v672 : IVec S16 32) : Prop :=
  (∀ a x, ((![v668, v670, v672] : Fin 3 → IVec S16 32) a x).toNat < S96x2x128.size a)
theorem k0_idx341_inb : ∀ (v668 : IVec S16 32) (v670 : IVec S16 32) (v672 : IVec S16 32) (k0_hw349 : k0_chk349 v668 v670 v672), ∀ a x, ((![v668, v670, v672] : Fin 3 → IVec S16 32) a x).toNat < S96x2x128.size a := fun v668 v670 v672 k0_hw349 => k0_hw349

def k0_chk350 (v679 : IVec S16 32) (v681 : IVec S16 32) (v683 : IVec S16 32) : Prop :=
  (∀ a x, ((![v679, v681, v683] : Fin 3 → IVec S16 32) a x).toNat < S96x2x128.size a)
theorem k0_idx342_inb : ∀ (v679 : IVec S16 32) (v681 : IVec S16 32) (v683 : IVec S16 32) (k0_hw350 : k0_chk350 v679 v681 v683), ∀ a x, ((![v679, v681, v683] : Fin 3 → IVec S16 32) a x).toNat < S96x2x128.size a := fun v679 v681 v683 k0_hw350 => k0_hw350

def k0_chk351 (v690 : IVec S16 32) (v692 : IVec S16 32) (v694 : IVec S16 32) : Prop :=
  (∀ a x, ((![v690, v692, v694] : Fin 3 → IVec S16 32) a x).toNat < S96x2x128.size a)
theorem k0_idx343_inb : ∀ (v690 : IVec S16 32) (v692 : IVec S16 32) (v694 : IVec S16 32) (k0_hw351 : k0_chk351 v690 v692 v694), ∀ a x, ((![v690, v692, v694] : Fin 3 → IVec S16 32) a x).toNat < S96x2x128.size a := fun v690 v692 v694 k0_hw351 => k0_hw351

def k0_chk352 (v701 : IVec S16 32) (v703 : IVec S16 32) (v705 : IVec S16 32) : Prop :=
  (∀ a x, ((![v701, v703, v705] : Fin 3 → IVec S16 32) a x).toNat < S96x2x128.size a)
theorem k0_idx344_inb : ∀ (v701 : IVec S16 32) (v703 : IVec S16 32) (v705 : IVec S16 32) (k0_hw352 : k0_chk352 v701 v703 v705), ∀ a x, ((![v701, v703, v705] : Fin 3 → IVec S16 32) a x).toNat < S96x2x128.size a := fun v701 v703 v705 k0_hw352 => k0_hw352
def k0_off200 (v23 : BitVec 32) (k0_t10 : Fin (k0_t10_loop v23).trips) : Fin 2 → Nat :=
  let c14_i32_279 : BitVec 32 := 14#32
  let v709 : Index := Scalar.indexCast c14_i32_279
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_278 : BitVec 32 := 16#32
  let v708 : BitVec 32 := Scalar.muli v39 c16_i32_278
  let v710 : Index := Scalar.indexCast v708
  ![14, v710.toNat]

def k0_chk353 (v716 : IVec S16 32) (v718 : IVec S16 32) (v720 : IVec S16 32) : Prop :=
  (∀ a x, ((![v716, v718, v720] : Fin 3 → IVec S16 32) a x).toNat < S96x2x128.size a)
theorem k0_idx345_inb : ∀ (v716 : IVec S16 32) (v718 : IVec S16 32) (v720 : IVec S16 32) (k0_hw353 : k0_chk353 v716 v718 v720), ∀ a x, ((![v716, v718, v720] : Fin 3 → IVec S16 32) a x).toNat < S96x2x128.size a := fun v716 v718 v720 k0_hw353 => k0_hw353

def k0_chk354 (v727 : IVec S16 32) (v729 : IVec S16 32) (v731 : IVec S16 32) : Prop :=
  (∀ a x, ((![v727, v729, v731] : Fin 3 → IVec S16 32) a x).toNat < S96x2x128.size a)
theorem k0_idx346_inb : ∀ (v727 : IVec S16 32) (v729 : IVec S16 32) (v731 : IVec S16 32) (k0_hw354 : k0_chk354 v727 v729 v731), ∀ a x, ((![v727, v729, v731] : Fin 3 → IVec S16 32) a x).toNat < S96x2x128.size a := fun v727 v729 v731 k0_hw354 => k0_hw354

def k0_chk355 (v738 : IVec S16 32) (v740 : IVec S16 32) (v742 : IVec S16 32) : Prop :=
  (∀ a x, ((![v738, v740, v742] : Fin 3 → IVec S16 32) a x).toNat < S96x2x128.size a)
theorem k0_idx347_inb : ∀ (v738 : IVec S16 32) (v740 : IVec S16 32) (v742 : IVec S16 32) (k0_hw355 : k0_chk355 v738 v740 v742), ∀ a x, ((![v738, v740, v742] : Fin 3 → IVec S16 32) a x).toNat < S96x2x128.size a := fun v738 v740 v742 k0_hw355 => k0_hw355

def k0_chk356 (v749 : IVec S16 32) (v751 : IVec S16 32) (v753 : IVec S16 32) : Prop :=
  (∀ a x, ((![v749, v751, v753] : Fin 3 → IVec S16 32) a x).toNat < S96x2x128.size a)
theorem k0_idx348_inb : ∀ (v749 : IVec S16 32) (v751 : IVec S16 32) (v753 : IVec S16 32) (k0_hw356 : k0_chk356 v749 v751 v753), ∀ a x, ((![v749, v751, v753] : Fin 3 → IVec S16 32) a x).toNat < S96x2x128.size a := fun v749 v751 v753 k0_hw356 => k0_hw356
def k0_off201 (v23 : BitVec 32) (k0_t10 : Fin (k0_t10_loop v23).trips) : Fin 2 → Nat :=
  let c15_i32_297 : BitVec 32 := 15#32
  let v757 : Index := Scalar.indexCast c15_i32_297
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_296 : BitVec 32 := 16#32
  let v756 : BitVec 32 := Scalar.muli v39 c16_i32_296
  let v758 : Index := Scalar.indexCast v756
  ![15, v758.toNat]

def k0_chk357 (v764 : IVec S16 32) (v766 : IVec S16 32) (v768 : IVec S16 32) : Prop :=
  (∀ a x, ((![v764, v766, v768] : Fin 3 → IVec S16 32) a x).toNat < S96x2x128.size a)
theorem k0_idx349_inb : ∀ (v764 : IVec S16 32) (v766 : IVec S16 32) (v768 : IVec S16 32) (k0_hw357 : k0_chk357 v764 v766 v768), ∀ a x, ((![v764, v766, v768] : Fin 3 → IVec S16 32) a x).toNat < S96x2x128.size a := fun v764 v766 v768 k0_hw357 => k0_hw357

def k0_chk358 (v775 : IVec S16 32) (v777 : IVec S16 32) (v779 : IVec S16 32) : Prop :=
  (∀ a x, ((![v775, v777, v779] : Fin 3 → IVec S16 32) a x).toNat < S96x2x128.size a)
theorem k0_idx350_inb : ∀ (v775 : IVec S16 32) (v777 : IVec S16 32) (v779 : IVec S16 32) (k0_hw358 : k0_chk358 v775 v777 v779), ∀ a x, ((![v775, v777, v779] : Fin 3 → IVec S16 32) a x).toNat < S96x2x128.size a := fun v775 v777 v779 k0_hw358 => k0_hw358

def k0_chk359 (v786 : IVec S16 32) (v788 : IVec S16 32) (v790 : IVec S16 32) : Prop :=
  (∀ a x, ((![v786, v788, v790] : Fin 3 → IVec S16 32) a x).toNat < S96x2x128.size a)
theorem k0_idx351_inb : ∀ (v786 : IVec S16 32) (v788 : IVec S16 32) (v790 : IVec S16 32) (k0_hw359 : k0_chk359 v786 v788 v790), ∀ a x, ((![v786, v788, v790] : Fin 3 → IVec S16 32) a x).toNat < S96x2x128.size a := fun v786 v788 v790 k0_hw359 => k0_hw359

def k0_chk360 (v797 : IVec S16 32) (v799 : IVec S16 32) (v801 : IVec S16 32) : Prop :=
  (∀ a x, ((![v797, v799, v801] : Fin 3 → IVec S16 32) a x).toNat < S96x2x128.size a)
theorem k0_idx352_inb : ∀ (v797 : IVec S16 32) (v799 : IVec S16 32) (v801 : IVec S16 32) (k0_hw360 : k0_chk360 v797 v799 v801), ∀ a x, ((![v797, v799, v801] : Fin 3 → IVec S16 32) a x).toNat < S96x2x128.size a := fun v797 v799 v801 k0_hw360 => k0_hw360
def k0_off202 (v23 : BitVec 32) (k0_t10 : Fin (k0_t10_loop v23).trips) : Fin 2 → Nat :=
  let c16_i32_315 : BitVec 32 := 16#32
  let v805 : Index := Scalar.indexCast c16_i32_315
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_314 : BitVec 32 := 16#32
  let v804 : BitVec 32 := Scalar.muli v39 c16_i32_314
  let v806 : Index := Scalar.indexCast v804
  ![16, v806.toNat]

def k0_chk361 (v812 : IVec S16 32) (v814 : IVec S16 32) (v816 : IVec S16 32) : Prop :=
  (∀ a x, ((![v812, v814, v816] : Fin 3 → IVec S16 32) a x).toNat < S96x2x128.size a)
theorem k0_idx353_inb : ∀ (v812 : IVec S16 32) (v814 : IVec S16 32) (v816 : IVec S16 32) (k0_hw361 : k0_chk361 v812 v814 v816), ∀ a x, ((![v812, v814, v816] : Fin 3 → IVec S16 32) a x).toNat < S96x2x128.size a := fun v812 v814 v816 k0_hw361 => k0_hw361

def k0_chk362 (v823 : IVec S16 32) (v825 : IVec S16 32) (v827 : IVec S16 32) : Prop :=
  (∀ a x, ((![v823, v825, v827] : Fin 3 → IVec S16 32) a x).toNat < S96x2x128.size a)
theorem k0_idx354_inb : ∀ (v823 : IVec S16 32) (v825 : IVec S16 32) (v827 : IVec S16 32) (k0_hw362 : k0_chk362 v823 v825 v827), ∀ a x, ((![v823, v825, v827] : Fin 3 → IVec S16 32) a x).toNat < S96x2x128.size a := fun v823 v825 v827 k0_hw362 => k0_hw362

def k0_chk363 (v834 : IVec S16 32) (v836 : IVec S16 32) (v838 : IVec S16 32) : Prop :=
  (∀ a x, ((![v834, v836, v838] : Fin 3 → IVec S16 32) a x).toNat < S96x2x128.size a)
theorem k0_idx355_inb : ∀ (v834 : IVec S16 32) (v836 : IVec S16 32) (v838 : IVec S16 32) (k0_hw363 : k0_chk363 v834 v836 v838), ∀ a x, ((![v834, v836, v838] : Fin 3 → IVec S16 32) a x).toNat < S96x2x128.size a := fun v834 v836 v838 k0_hw363 => k0_hw363

def k0_chk364 (v845 : IVec S16 32) (v847 : IVec S16 32) (v849 : IVec S16 32) : Prop :=
  (∀ a x, ((![v845, v847, v849] : Fin 3 → IVec S16 32) a x).toNat < S96x2x128.size a)
theorem k0_idx356_inb : ∀ (v845 : IVec S16 32) (v847 : IVec S16 32) (v849 : IVec S16 32) (k0_hw364 : k0_chk364 v845 v847 v849), ∀ a x, ((![v845, v847, v849] : Fin 3 → IVec S16 32) a x).toNat < S96x2x128.size a := fun v845 v847 v849 k0_hw364 => k0_hw364
def k0_off203 (v23 : BitVec 32) (k0_t10 : Fin (k0_t10_loop v23).trips) : Fin 2 → Nat :=
  let c17_i32_333 : BitVec 32 := 17#32
  let v853 : Index := Scalar.indexCast c17_i32_333
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_332 : BitVec 32 := 16#32
  let v852 : BitVec 32 := Scalar.muli v39 c16_i32_332
  let v854 : Index := Scalar.indexCast v852
  ![17, v854.toNat]

def k0_chk365 (v860 : IVec S16 32) (v862 : IVec S16 32) (v864 : IVec S16 32) : Prop :=
  (∀ a x, ((![v860, v862, v864] : Fin 3 → IVec S16 32) a x).toNat < S96x2x128.size a)
theorem k0_idx357_inb : ∀ (v860 : IVec S16 32) (v862 : IVec S16 32) (v864 : IVec S16 32) (k0_hw365 : k0_chk365 v860 v862 v864), ∀ a x, ((![v860, v862, v864] : Fin 3 → IVec S16 32) a x).toNat < S96x2x128.size a := fun v860 v862 v864 k0_hw365 => k0_hw365

def k0_chk366 (v871 : IVec S16 32) (v873 : IVec S16 32) (v875 : IVec S16 32) : Prop :=
  (∀ a x, ((![v871, v873, v875] : Fin 3 → IVec S16 32) a x).toNat < S96x2x128.size a)
theorem k0_idx358_inb : ∀ (v871 : IVec S16 32) (v873 : IVec S16 32) (v875 : IVec S16 32) (k0_hw366 : k0_chk366 v871 v873 v875), ∀ a x, ((![v871, v873, v875] : Fin 3 → IVec S16 32) a x).toNat < S96x2x128.size a := fun v871 v873 v875 k0_hw366 => k0_hw366

def k0_chk367 (v882 : IVec S16 32) (v884 : IVec S16 32) (v886 : IVec S16 32) : Prop :=
  (∀ a x, ((![v882, v884, v886] : Fin 3 → IVec S16 32) a x).toNat < S96x2x128.size a)
theorem k0_idx359_inb : ∀ (v882 : IVec S16 32) (v884 : IVec S16 32) (v886 : IVec S16 32) (k0_hw367 : k0_chk367 v882 v884 v886), ∀ a x, ((![v882, v884, v886] : Fin 3 → IVec S16 32) a x).toNat < S96x2x128.size a := fun v882 v884 v886 k0_hw367 => k0_hw367

def k0_chk368 (v893 : IVec S16 32) (v895 : IVec S16 32) (v897 : IVec S16 32) : Prop :=
  (∀ a x, ((![v893, v895, v897] : Fin 3 → IVec S16 32) a x).toNat < S96x2x128.size a)
theorem k0_idx360_inb : ∀ (v893 : IVec S16 32) (v895 : IVec S16 32) (v897 : IVec S16 32) (k0_hw368 : k0_chk368 v893 v895 v897), ∀ a x, ((![v893, v895, v897] : Fin 3 → IVec S16 32) a x).toNat < S96x2x128.size a := fun v893 v895 v897 k0_hw368 => k0_hw368
def k0_off204 (v23 : BitVec 32) (k0_t10 : Fin (k0_t10_loop v23).trips) : Fin 2 → Nat :=
  let c18_i32_351 : BitVec 32 := 18#32
  let v901 : Index := Scalar.indexCast c18_i32_351
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_350 : BitVec 32 := 16#32
  let v900 : BitVec 32 := Scalar.muli v39 c16_i32_350
  let v902 : Index := Scalar.indexCast v900
  ![18, v902.toNat]

def k0_chk369 (v908 : IVec S16 32) (v910 : IVec S16 32) (v912 : IVec S16 32) : Prop :=
  (∀ a x, ((![v908, v910, v912] : Fin 3 → IVec S16 32) a x).toNat < S96x2x128.size a)
theorem k0_idx361_inb : ∀ (v908 : IVec S16 32) (v910 : IVec S16 32) (v912 : IVec S16 32) (k0_hw369 : k0_chk369 v908 v910 v912), ∀ a x, ((![v908, v910, v912] : Fin 3 → IVec S16 32) a x).toNat < S96x2x128.size a := fun v908 v910 v912 k0_hw369 => k0_hw369

def k0_chk370 (v919 : IVec S16 32) (v921 : IVec S16 32) (v923 : IVec S16 32) : Prop :=
  (∀ a x, ((![v919, v921, v923] : Fin 3 → IVec S16 32) a x).toNat < S96x2x128.size a)
theorem k0_idx362_inb : ∀ (v919 : IVec S16 32) (v921 : IVec S16 32) (v923 : IVec S16 32) (k0_hw370 : k0_chk370 v919 v921 v923), ∀ a x, ((![v919, v921, v923] : Fin 3 → IVec S16 32) a x).toNat < S96x2x128.size a := fun v919 v921 v923 k0_hw370 => k0_hw370

def k0_chk371 (v930 : IVec S16 32) (v932 : IVec S16 32) (v934 : IVec S16 32) : Prop :=
  (∀ a x, ((![v930, v932, v934] : Fin 3 → IVec S16 32) a x).toNat < S96x2x128.size a)
theorem k0_idx363_inb : ∀ (v930 : IVec S16 32) (v932 : IVec S16 32) (v934 : IVec S16 32) (k0_hw371 : k0_chk371 v930 v932 v934), ∀ a x, ((![v930, v932, v934] : Fin 3 → IVec S16 32) a x).toNat < S96x2x128.size a := fun v930 v932 v934 k0_hw371 => k0_hw371

def k0_chk372 (v941 : IVec S16 32) (v943 : IVec S16 32) (v945 : IVec S16 32) : Prop :=
  (∀ a x, ((![v941, v943, v945] : Fin 3 → IVec S16 32) a x).toNat < S96x2x128.size a)
theorem k0_idx364_inb : ∀ (v941 : IVec S16 32) (v943 : IVec S16 32) (v945 : IVec S16 32) (k0_hw372 : k0_chk372 v941 v943 v945), ∀ a x, ((![v941, v943, v945] : Fin 3 → IVec S16 32) a x).toNat < S96x2x128.size a := fun v941 v943 v945 k0_hw372 => k0_hw372
def k0_off205 (v23 : BitVec 32) (k0_t10 : Fin (k0_t10_loop v23).trips) : Fin 2 → Nat :=
  let c19_i32_369 : BitVec 32 := 19#32
  let v949 : Index := Scalar.indexCast c19_i32_369
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_368 : BitVec 32 := 16#32
  let v948 : BitVec 32 := Scalar.muli v39 c16_i32_368
  let v950 : Index := Scalar.indexCast v948
  ![19, v950.toNat]

def k0_chk373 (v956 : IVec S16 32) (v958 : IVec S16 32) (v960 : IVec S16 32) : Prop :=
  (∀ a x, ((![v956, v958, v960] : Fin 3 → IVec S16 32) a x).toNat < S96x2x128.size a)
theorem k0_idx365_inb : ∀ (v956 : IVec S16 32) (v958 : IVec S16 32) (v960 : IVec S16 32) (k0_hw373 : k0_chk373 v956 v958 v960), ∀ a x, ((![v956, v958, v960] : Fin 3 → IVec S16 32) a x).toNat < S96x2x128.size a := fun v956 v958 v960 k0_hw373 => k0_hw373

def k0_chk374 (v967 : IVec S16 32) (v969 : IVec S16 32) (v971 : IVec S16 32) : Prop :=
  (∀ a x, ((![v967, v969, v971] : Fin 3 → IVec S16 32) a x).toNat < S96x2x128.size a)
theorem k0_idx366_inb : ∀ (v967 : IVec S16 32) (v969 : IVec S16 32) (v971 : IVec S16 32) (k0_hw374 : k0_chk374 v967 v969 v971), ∀ a x, ((![v967, v969, v971] : Fin 3 → IVec S16 32) a x).toNat < S96x2x128.size a := fun v967 v969 v971 k0_hw374 => k0_hw374

def k0_chk375 (v978 : IVec S16 32) (v980 : IVec S16 32) (v982 : IVec S16 32) : Prop :=
  (∀ a x, ((![v978, v980, v982] : Fin 3 → IVec S16 32) a x).toNat < S96x2x128.size a)
theorem k0_idx367_inb : ∀ (v978 : IVec S16 32) (v980 : IVec S16 32) (v982 : IVec S16 32) (k0_hw375 : k0_chk375 v978 v980 v982), ∀ a x, ((![v978, v980, v982] : Fin 3 → IVec S16 32) a x).toNat < S96x2x128.size a := fun v978 v980 v982 k0_hw375 => k0_hw375

def k0_chk376 (v989 : IVec S16 32) (v991 : IVec S16 32) (v993 : IVec S16 32) : Prop :=
  (∀ a x, ((![v989, v991, v993] : Fin 3 → IVec S16 32) a x).toNat < S96x2x128.size a)
theorem k0_idx368_inb : ∀ (v989 : IVec S16 32) (v991 : IVec S16 32) (v993 : IVec S16 32) (k0_hw376 : k0_chk376 v989 v991 v993), ∀ a x, ((![v989, v991, v993] : Fin 3 → IVec S16 32) a x).toNat < S96x2x128.size a := fun v989 v991 v993 k0_hw376 => k0_hw376
def k0_off206 (v23 : BitVec 32) (k0_t10 : Fin (k0_t10_loop v23).trips) : Fin 2 → Nat :=
  let c20_i32_387 : BitVec 32 := 20#32
  let v997 : Index := Scalar.indexCast c20_i32_387
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_386 : BitVec 32 := 16#32
  let v996 : BitVec 32 := Scalar.muli v39 c16_i32_386
  let v998 : Index := Scalar.indexCast v996
  ![20, v998.toNat]

def k0_chk377 (v1004 : IVec S16 32) (v1006 : IVec S16 32) (v1008 : IVec S16 32) : Prop :=
  (∀ a x, ((![v1004, v1006, v1008] : Fin 3 → IVec S16 32) a x).toNat < S96x2x128.size a)
theorem k0_idx369_inb : ∀ (v1004 : IVec S16 32) (v1006 : IVec S16 32) (v1008 : IVec S16 32) (k0_hw377 : k0_chk377 v1004 v1006 v1008), ∀ a x, ((![v1004, v1006, v1008] : Fin 3 → IVec S16 32) a x).toNat < S96x2x128.size a := fun v1004 v1006 v1008 k0_hw377 => k0_hw377

def k0_chk378 (v1015 : IVec S16 32) (v1017 : IVec S16 32) (v1019 : IVec S16 32) : Prop :=
  (∀ a x, ((![v1015, v1017, v1019] : Fin 3 → IVec S16 32) a x).toNat < S96x2x128.size a)
theorem k0_idx370_inb : ∀ (v1015 : IVec S16 32) (v1017 : IVec S16 32) (v1019 : IVec S16 32) (k0_hw378 : k0_chk378 v1015 v1017 v1019), ∀ a x, ((![v1015, v1017, v1019] : Fin 3 → IVec S16 32) a x).toNat < S96x2x128.size a := fun v1015 v1017 v1019 k0_hw378 => k0_hw378

def k0_chk379 (v1026 : IVec S16 32) (v1028 : IVec S16 32) (v1030 : IVec S16 32) : Prop :=
  (∀ a x, ((![v1026, v1028, v1030] : Fin 3 → IVec S16 32) a x).toNat < S96x2x128.size a)
theorem k0_idx371_inb : ∀ (v1026 : IVec S16 32) (v1028 : IVec S16 32) (v1030 : IVec S16 32) (k0_hw379 : k0_chk379 v1026 v1028 v1030), ∀ a x, ((![v1026, v1028, v1030] : Fin 3 → IVec S16 32) a x).toNat < S96x2x128.size a := fun v1026 v1028 v1030 k0_hw379 => k0_hw379

def k0_chk380 (v1037 : IVec S16 32) (v1039 : IVec S16 32) (v1041 : IVec S16 32) : Prop :=
  (∀ a x, ((![v1037, v1039, v1041] : Fin 3 → IVec S16 32) a x).toNat < S96x2x128.size a)
theorem k0_idx372_inb : ∀ (v1037 : IVec S16 32) (v1039 : IVec S16 32) (v1041 : IVec S16 32) (k0_hw380 : k0_chk380 v1037 v1039 v1041), ∀ a x, ((![v1037, v1039, v1041] : Fin 3 → IVec S16 32) a x).toNat < S96x2x128.size a := fun v1037 v1039 v1041 k0_hw380 => k0_hw380
def k0_off207 (v23 : BitVec 32) (k0_t10 : Fin (k0_t10_loop v23).trips) : Fin 2 → Nat :=
  let c21_i32_405 : BitVec 32 := 21#32
  let v1045 : Index := Scalar.indexCast c21_i32_405
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_404 : BitVec 32 := 16#32
  let v1044 : BitVec 32 := Scalar.muli v39 c16_i32_404
  let v1046 : Index := Scalar.indexCast v1044
  ![21, v1046.toNat]

def k0_chk381 (v1052 : IVec S16 32) (v1054 : IVec S16 32) (v1056 : IVec S16 32) : Prop :=
  (∀ a x, ((![v1052, v1054, v1056] : Fin 3 → IVec S16 32) a x).toNat < S96x2x128.size a)
theorem k0_idx373_inb : ∀ (v1052 : IVec S16 32) (v1054 : IVec S16 32) (v1056 : IVec S16 32) (k0_hw381 : k0_chk381 v1052 v1054 v1056), ∀ a x, ((![v1052, v1054, v1056] : Fin 3 → IVec S16 32) a x).toNat < S96x2x128.size a := fun v1052 v1054 v1056 k0_hw381 => k0_hw381

def k0_chk382 (v1063 : IVec S16 32) (v1065 : IVec S16 32) (v1067 : IVec S16 32) : Prop :=
  (∀ a x, ((![v1063, v1065, v1067] : Fin 3 → IVec S16 32) a x).toNat < S96x2x128.size a)
theorem k0_idx374_inb : ∀ (v1063 : IVec S16 32) (v1065 : IVec S16 32) (v1067 : IVec S16 32) (k0_hw382 : k0_chk382 v1063 v1065 v1067), ∀ a x, ((![v1063, v1065, v1067] : Fin 3 → IVec S16 32) a x).toNat < S96x2x128.size a := fun v1063 v1065 v1067 k0_hw382 => k0_hw382

def k0_chk383 (v1074 : IVec S16 32) (v1076 : IVec S16 32) (v1078 : IVec S16 32) : Prop :=
  (∀ a x, ((![v1074, v1076, v1078] : Fin 3 → IVec S16 32) a x).toNat < S96x2x128.size a)
theorem k0_idx375_inb : ∀ (v1074 : IVec S16 32) (v1076 : IVec S16 32) (v1078 : IVec S16 32) (k0_hw383 : k0_chk383 v1074 v1076 v1078), ∀ a x, ((![v1074, v1076, v1078] : Fin 3 → IVec S16 32) a x).toNat < S96x2x128.size a := fun v1074 v1076 v1078 k0_hw383 => k0_hw383

def k0_chk384 (v1085 : IVec S16 32) (v1087 : IVec S16 32) (v1089 : IVec S16 32) : Prop :=
  (∀ a x, ((![v1085, v1087, v1089] : Fin 3 → IVec S16 32) a x).toNat < S96x2x128.size a)
theorem k0_idx376_inb : ∀ (v1085 : IVec S16 32) (v1087 : IVec S16 32) (v1089 : IVec S16 32) (k0_hw384 : k0_chk384 v1085 v1087 v1089), ∀ a x, ((![v1085, v1087, v1089] : Fin 3 → IVec S16 32) a x).toNat < S96x2x128.size a := fun v1085 v1087 v1089 k0_hw384 => k0_hw384
def k0_off208 (v23 : BitVec 32) (k0_t10 : Fin (k0_t10_loop v23).trips) : Fin 2 → Nat :=
  let c22_i32_423 : BitVec 32 := 22#32
  let v1093 : Index := Scalar.indexCast c22_i32_423
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_422 : BitVec 32 := 16#32
  let v1092 : BitVec 32 := Scalar.muli v39 c16_i32_422
  let v1094 : Index := Scalar.indexCast v1092
  ![22, v1094.toNat]

def k0_chk385 (v1100 : IVec S16 32) (v1102 : IVec S16 32) (v1104 : IVec S16 32) : Prop :=
  (∀ a x, ((![v1100, v1102, v1104] : Fin 3 → IVec S16 32) a x).toNat < S96x2x128.size a)
theorem k0_idx377_inb : ∀ (v1100 : IVec S16 32) (v1102 : IVec S16 32) (v1104 : IVec S16 32) (k0_hw385 : k0_chk385 v1100 v1102 v1104), ∀ a x, ((![v1100, v1102, v1104] : Fin 3 → IVec S16 32) a x).toNat < S96x2x128.size a := fun v1100 v1102 v1104 k0_hw385 => k0_hw385

def k0_chk386 (v1111 : IVec S16 32) (v1113 : IVec S16 32) (v1115 : IVec S16 32) : Prop :=
  (∀ a x, ((![v1111, v1113, v1115] : Fin 3 → IVec S16 32) a x).toNat < S96x2x128.size a)
theorem k0_idx378_inb : ∀ (v1111 : IVec S16 32) (v1113 : IVec S16 32) (v1115 : IVec S16 32) (k0_hw386 : k0_chk386 v1111 v1113 v1115), ∀ a x, ((![v1111, v1113, v1115] : Fin 3 → IVec S16 32) a x).toNat < S96x2x128.size a := fun v1111 v1113 v1115 k0_hw386 => k0_hw386

def k0_chk387 (v1122 : IVec S16 32) (v1124 : IVec S16 32) (v1126 : IVec S16 32) : Prop :=
  (∀ a x, ((![v1122, v1124, v1126] : Fin 3 → IVec S16 32) a x).toNat < S96x2x128.size a)
theorem k0_idx379_inb : ∀ (v1122 : IVec S16 32) (v1124 : IVec S16 32) (v1126 : IVec S16 32) (k0_hw387 : k0_chk387 v1122 v1124 v1126), ∀ a x, ((![v1122, v1124, v1126] : Fin 3 → IVec S16 32) a x).toNat < S96x2x128.size a := fun v1122 v1124 v1126 k0_hw387 => k0_hw387

def k0_chk388 (v1133 : IVec S16 32) (v1135 : IVec S16 32) (v1137 : IVec S16 32) : Prop :=
  (∀ a x, ((![v1133, v1135, v1137] : Fin 3 → IVec S16 32) a x).toNat < S96x2x128.size a)
theorem k0_idx380_inb : ∀ (v1133 : IVec S16 32) (v1135 : IVec S16 32) (v1137 : IVec S16 32) (k0_hw388 : k0_chk388 v1133 v1135 v1137), ∀ a x, ((![v1133, v1135, v1137] : Fin 3 → IVec S16 32) a x).toNat < S96x2x128.size a := fun v1133 v1135 v1137 k0_hw388 => k0_hw388
def k0_off209 (v23 : BitVec 32) (k0_t10 : Fin (k0_t10_loop v23).trips) : Fin 2 → Nat :=
  let c23_i32_441 : BitVec 32 := 23#32
  let v1141 : Index := Scalar.indexCast c23_i32_441
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_440 : BitVec 32 := 16#32
  let v1140 : BitVec 32 := Scalar.muli v39 c16_i32_440
  let v1142 : Index := Scalar.indexCast v1140
  ![23, v1142.toNat]

def k0_chk389 (v1148 : IVec S16 32) (v1150 : IVec S16 32) (v1152 : IVec S16 32) : Prop :=
  (∀ a x, ((![v1148, v1150, v1152] : Fin 3 → IVec S16 32) a x).toNat < S96x2x128.size a)
theorem k0_idx381_inb : ∀ (v1148 : IVec S16 32) (v1150 : IVec S16 32) (v1152 : IVec S16 32) (k0_hw389 : k0_chk389 v1148 v1150 v1152), ∀ a x, ((![v1148, v1150, v1152] : Fin 3 → IVec S16 32) a x).toNat < S96x2x128.size a := fun v1148 v1150 v1152 k0_hw389 => k0_hw389

def k0_chk390 (v1159 : IVec S16 32) (v1161 : IVec S16 32) (v1163 : IVec S16 32) : Prop :=
  (∀ a x, ((![v1159, v1161, v1163] : Fin 3 → IVec S16 32) a x).toNat < S96x2x128.size a)
theorem k0_idx382_inb : ∀ (v1159 : IVec S16 32) (v1161 : IVec S16 32) (v1163 : IVec S16 32) (k0_hw390 : k0_chk390 v1159 v1161 v1163), ∀ a x, ((![v1159, v1161, v1163] : Fin 3 → IVec S16 32) a x).toNat < S96x2x128.size a := fun v1159 v1161 v1163 k0_hw390 => k0_hw390

def k0_chk391 (v1170 : IVec S16 32) (v1172 : IVec S16 32) (v1174 : IVec S16 32) : Prop :=
  (∀ a x, ((![v1170, v1172, v1174] : Fin 3 → IVec S16 32) a x).toNat < S96x2x128.size a)
theorem k0_idx383_inb : ∀ (v1170 : IVec S16 32) (v1172 : IVec S16 32) (v1174 : IVec S16 32) (k0_hw391 : k0_chk391 v1170 v1172 v1174), ∀ a x, ((![v1170, v1172, v1174] : Fin 3 → IVec S16 32) a x).toNat < S96x2x128.size a := fun v1170 v1172 v1174 k0_hw391 => k0_hw391

def k0_chk392 (v1181 : IVec S16 32) (v1183 : IVec S16 32) (v1185 : IVec S16 32) : Prop :=
  (∀ a x, ((![v1181, v1183, v1185] : Fin 3 → IVec S16 32) a x).toNat < S96x2x128.size a)
theorem k0_idx384_inb : ∀ (v1181 : IVec S16 32) (v1183 : IVec S16 32) (v1185 : IVec S16 32) (k0_hw392 : k0_chk392 v1181 v1183 v1185), ∀ a x, ((![v1181, v1183, v1185] : Fin 3 → IVec S16 32) a x).toNat < S96x2x128.size a := fun v1181 v1183 v1185 k0_hw392 => k0_hw392
def k0_off210 (v23 : BitVec 32) (k0_t10 : Fin (k0_t10_loop v23).trips) : Fin 1 → Nat :=
  let c0_i32_16 : BitVec 32 := 0#32
  let c0_i32_17 : BitVec 32 := 0#32
  let c15_i32 : BitVec 32 := 15#32
  let v27 : BitVec 32 := Scalar.addi v23 c15_i32
  let c4_i32 : BitVec 32 := 4#32
  let v28 : BitVec 32 := Scalar.shrsi v27 c4_i32
  let c0_i32_11 : BitVec 32 := 0#32
  let v29 : BitVec 32 := Scalar.subi v28 c0_i32_11
  let c1_i32_12 : BitVec 32 := 1#32
  let c1_i32_13 : BitVec 32 := 1#32
  let v30 : BitVec 32 := Scalar.subi c1_i32_12 c1_i32_13
  let v31 : BitVec 32 := Scalar.addi v29 v30
  let c1_i32_14 : BitVec 32 := 1#32
  let v32 : BitVec 32 := Scalar.divsi v31 c1_i32_14
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg16 : BitVec 32 := Scf.iv v37 c1_i32_20 k0_t10
  let c1_i32_15 : BitVec 32 := 1#32
  let v38 : BitVec 32 := Scalar.muli arg16 c1_i32_15
  let v39 : BitVec 32 := Scalar.addi c0_i32_16 v38
  let c16_i32_460 : BitVec 32 := 16#32
  let v1198 : BitVec 32 := Scalar.muli v39 c16_i32_460
  let v1199 : Index := Scalar.indexCast v1198
  ![v1199.toNat]

def k0_chk200_0 (v23 : BitVec 32) : Prop :=
  ((k0_t9_loop v23).OK) ∧
  (∀ k0_t9 : Fin (k0_t9_loop v23).trips, ∀ a, (k0_off161 v23 k0_t9) a + S1x16.size a ≤ S24x1536.size a) ∧
  (∀ k0_t9 : Fin (k0_t9_loop v23).trips, ∀ a, (k0_off162 v23 k0_t9) a + S1x16.size a ≤ S24x1536.size a) ∧
  (∀ k0_t9 : Fin (k0_t9_loop v23).trips, ∀ a, (k0_off163 v23 k0_t9) a + S1x16.size a ≤ S24x1536.size a) ∧
  (∀ k0_t9 : Fin (k0_t9_loop v23).trips, ∀ a, (k0_off164 v23 k0_t9) a + S1x16.size a ≤ S24x1536.size a) ∧
  (∀ k0_t9 : Fin (k0_t9_loop v23).trips, ∀ a, (k0_off165 v23 k0_t9) a + S1x16.size a ≤ S24x1536.size a) ∧
  (∀ k0_t9 : Fin (k0_t9_loop v23).trips, ∀ a, (k0_off166 v23 k0_t9) a + S1x16.size a ≤ S24x1536.size a) ∧
  (∀ k0_t9 : Fin (k0_t9_loop v23).trips, ∀ a, (k0_off167 v23 k0_t9) a + S1x16.size a ≤ S24x1536.size a) ∧
  (∀ k0_t9 : Fin (k0_t9_loop v23).trips, ∀ a, (k0_off168 v23 k0_t9) a + S1x16.size a ≤ S24x1536.size a) ∧
  (∀ k0_t9 : Fin (k0_t9_loop v23).trips, ∀ a, (k0_off169 v23 k0_t9) a + S1x16.size a ≤ S24x1536.size a) ∧
  (∀ k0_t9 : Fin (k0_t9_loop v23).trips, ∀ a, (k0_off170 v23 k0_t9) a + S1x16.size a ≤ S24x1536.size a) ∧
  (∀ k0_t9 : Fin (k0_t9_loop v23).trips, ∀ a, (k0_off171 v23 k0_t9) a + S1x16.size a ≤ S24x1536.size a) ∧
  (∀ k0_t9 : Fin (k0_t9_loop v23).trips, ∀ a, (k0_off172 v23 k0_t9) a + S1x16.size a ≤ S24x1536.size a) ∧
  (∀ k0_t9 : Fin (k0_t9_loop v23).trips, ∀ a, (k0_off173 v23 k0_t9) a + S1x16.size a ≤ S24x1536.size a) ∧
  (∀ k0_t9 : Fin (k0_t9_loop v23).trips, ∀ a, (k0_off174 v23 k0_t9) a + S1x16.size a ≤ S24x1536.size a) ∧
  (∀ k0_t9 : Fin (k0_t9_loop v23).trips, ∀ a, (k0_off175 v23 k0_t9) a + S1x16.size a ≤ S24x1536.size a) ∧
  (∀ k0_t9 : Fin (k0_t9_loop v23).trips, ∀ a, (k0_off176 v23 k0_t9) a + S1x16.size a ≤ S24x1536.size a) ∧
  (∀ k0_t9 : Fin (k0_t9_loop v23).trips, ∀ a, (k0_off177 v23 k0_t9) a + S1x16.size a ≤ S24x1536.size a) ∧
  (∀ k0_t9 : Fin (k0_t9_loop v23).trips, ∀ a, (k0_off178 v23 k0_t9) a + S1x16.size a ≤ S24x1536.size a) ∧
  (∀ k0_t9 : Fin (k0_t9_loop v23).trips, ∀ a, (k0_off179 v23 k0_t9) a + S1x16.size a ≤ S24x1536.size a) ∧
  (∀ k0_t9 : Fin (k0_t9_loop v23).trips, ∀ a, (k0_off180 v23 k0_t9) a + S1x16.size a ≤ S24x1536.size a) ∧
  (∀ k0_t9 : Fin (k0_t9_loop v23).trips, ∀ a, (k0_off181 v23 k0_t9) a + S1x16.size a ≤ S24x1536.size a) ∧
  (∀ k0_t9 : Fin (k0_t9_loop v23).trips, ∀ a, (k0_off182 v23 k0_t9) a + S1x16.size a ≤ S24x1536.size a) ∧
  (∀ k0_t9 : Fin (k0_t9_loop v23).trips, ∀ a, (k0_off183 v23 k0_t9) a + S1x16.size a ≤ S24x1536.size a) ∧
  (∀ k0_t9 : Fin (k0_t9_loop v23).trips, ∀ a, (k0_off184 v23 k0_t9) a + S1x16.size a ≤ S24x1536.size a) ∧
  (∀ k0_t9 : Fin (k0_t9_loop v23).trips, ∀ a, (k0_off185 v23 k0_t9) a + S16.size a ≤ S1536.size a) ∧
  ((k0_t10_loop v23).OK) ∧
  (∀ k0_t10 : Fin (k0_t10_loop v23).trips, ∀ a, (k0_off186 v23 k0_t10) a + S1x16.size a ≤ S24x1536.size a) ∧
  (∀ k0_t10 : Fin (k0_t10_loop v23).trips, ∀ a, (k0_off187 v23 k0_t10) a + S1x16.size a ≤ S24x1536.size a) ∧
  (∀ k0_t10 : Fin (k0_t10_loop v23).trips, ∀ a, (k0_off188 v23 k0_t10) a + S1x16.size a ≤ S24x1536.size a) ∧
  (∀ k0_t10 : Fin (k0_t10_loop v23).trips, ∀ a, (k0_off189 v23 k0_t10) a + S1x16.size a ≤ S24x1536.size a) ∧
  (∀ k0_t10 : Fin (k0_t10_loop v23).trips, ∀ a, (k0_off190 v23 k0_t10) a + S1x16.size a ≤ S24x1536.size a)
def k0_chk200_1 (v23 : BitVec 32) : Prop :=
  (∀ k0_t10 : Fin (k0_t10_loop v23).trips, ∀ a, (k0_off191 v23 k0_t10) a + S1x16.size a ≤ S24x1536.size a) ∧
  (∀ k0_t10 : Fin (k0_t10_loop v23).trips, ∀ a, (k0_off192 v23 k0_t10) a + S1x16.size a ≤ S24x1536.size a) ∧
  (∀ k0_t10 : Fin (k0_t10_loop v23).trips, ∀ a, (k0_off193 v23 k0_t10) a + S1x16.size a ≤ S24x1536.size a) ∧
  (∀ k0_t10 : Fin (k0_t10_loop v23).trips, ∀ a, (k0_off194 v23 k0_t10) a + S1x16.size a ≤ S24x1536.size a) ∧
  (∀ k0_t10 : Fin (k0_t10_loop v23).trips, ∀ a, (k0_off195 v23 k0_t10) a + S1x16.size a ≤ S24x1536.size a) ∧
  (∀ k0_t10 : Fin (k0_t10_loop v23).trips, ∀ a, (k0_off196 v23 k0_t10) a + S1x16.size a ≤ S24x1536.size a) ∧
  (∀ k0_t10 : Fin (k0_t10_loop v23).trips, ∀ a, (k0_off197 v23 k0_t10) a + S1x16.size a ≤ S24x1536.size a) ∧
  (∀ k0_t10 : Fin (k0_t10_loop v23).trips, ∀ a, (k0_off198 v23 k0_t10) a + S1x16.size a ≤ S24x1536.size a) ∧
  (∀ k0_t10 : Fin (k0_t10_loop v23).trips, ∀ a, (k0_off199 v23 k0_t10) a + S1x16.size a ≤ S24x1536.size a) ∧
  (∀ k0_t10 : Fin (k0_t10_loop v23).trips, ∀ a, (k0_off200 v23 k0_t10) a + S1x16.size a ≤ S24x1536.size a) ∧
  (∀ k0_t10 : Fin (k0_t10_loop v23).trips, ∀ a, (k0_off201 v23 k0_t10) a + S1x16.size a ≤ S24x1536.size a) ∧
  (∀ k0_t10 : Fin (k0_t10_loop v23).trips, ∀ a, (k0_off202 v23 k0_t10) a + S1x16.size a ≤ S24x1536.size a) ∧
  (∀ k0_t10 : Fin (k0_t10_loop v23).trips, ∀ a, (k0_off203 v23 k0_t10) a + S1x16.size a ≤ S24x1536.size a) ∧
  (∀ k0_t10 : Fin (k0_t10_loop v23).trips, ∀ a, (k0_off204 v23 k0_t10) a + S1x16.size a ≤ S24x1536.size a) ∧
  (∀ k0_t10 : Fin (k0_t10_loop v23).trips, ∀ a, (k0_off205 v23 k0_t10) a + S1x16.size a ≤ S24x1536.size a) ∧
  (∀ k0_t10 : Fin (k0_t10_loop v23).trips, ∀ a, (k0_off206 v23 k0_t10) a + S1x16.size a ≤ S24x1536.size a) ∧
  (∀ k0_t10 : Fin (k0_t10_loop v23).trips, ∀ a, (k0_off207 v23 k0_t10) a + S1x16.size a ≤ S24x1536.size a) ∧
  (∀ k0_t10 : Fin (k0_t10_loop v23).trips, ∀ a, (k0_off208 v23 k0_t10) a + S1x16.size a ≤ S24x1536.size a) ∧
  (∀ k0_t10 : Fin (k0_t10_loop v23).trips, ∀ a, (k0_off209 v23 k0_t10) a + S1x16.size a ≤ S24x1536.size a) ∧
  (∀ k0_t10 : Fin (k0_t10_loop v23).trips, ∀ a, (k0_off210 v23 k0_t10) a + S16.size a ≤ S1536.size a)
def k0_chk200 (v23 : BitVec 32) : Prop :=
  k0_chk200_0 v23 ∧
  k0_chk200_1 v23
theorem k0_t9_ok : ∀ (v23 : BitVec 32) (k0_hw200 : k0_chk200 v23), (k0_t9_loop v23).OK := fun v23 k0_hw200 => k0_hw200.1.1
theorem k0_off161_inb : ∀ (v23 : BitVec 32) (k0_hw200 : k0_chk200 v23) (k0_t9 : Fin (k0_t9_loop v23).trips), ∀ a, (k0_off161 v23 k0_t9) a + S1x16.size a ≤ S24x1536.size a := fun v23 k0_hw200 k0_t9 => k0_hw200.1.2.1 k0_t9
theorem k0_off162_inb : ∀ (v23 : BitVec 32) (k0_hw200 : k0_chk200 v23) (k0_t9 : Fin (k0_t9_loop v23).trips), ∀ a, (k0_off162 v23 k0_t9) a + S1x16.size a ≤ S24x1536.size a := fun v23 k0_hw200 k0_t9 => k0_hw200.1.2.2.1 k0_t9
theorem k0_off163_inb : ∀ (v23 : BitVec 32) (k0_hw200 : k0_chk200 v23) (k0_t9 : Fin (k0_t9_loop v23).trips), ∀ a, (k0_off163 v23 k0_t9) a + S1x16.size a ≤ S24x1536.size a := fun v23 k0_hw200 k0_t9 => k0_hw200.1.2.2.2.1 k0_t9
theorem k0_off164_inb : ∀ (v23 : BitVec 32) (k0_hw200 : k0_chk200 v23) (k0_t9 : Fin (k0_t9_loop v23).trips), ∀ a, (k0_off164 v23 k0_t9) a + S1x16.size a ≤ S24x1536.size a := fun v23 k0_hw200 k0_t9 => k0_hw200.1.2.2.2.2.1 k0_t9
theorem k0_off165_inb : ∀ (v23 : BitVec 32) (k0_hw200 : k0_chk200 v23) (k0_t9 : Fin (k0_t9_loop v23).trips), ∀ a, (k0_off165 v23 k0_t9) a + S1x16.size a ≤ S24x1536.size a := fun v23 k0_hw200 k0_t9 => k0_hw200.1.2.2.2.2.2.1 k0_t9
theorem k0_off166_inb : ∀ (v23 : BitVec 32) (k0_hw200 : k0_chk200 v23) (k0_t9 : Fin (k0_t9_loop v23).trips), ∀ a, (k0_off166 v23 k0_t9) a + S1x16.size a ≤ S24x1536.size a := fun v23 k0_hw200 k0_t9 => k0_hw200.1.2.2.2.2.2.2.1 k0_t9
theorem k0_off167_inb : ∀ (v23 : BitVec 32) (k0_hw200 : k0_chk200 v23) (k0_t9 : Fin (k0_t9_loop v23).trips), ∀ a, (k0_off167 v23 k0_t9) a + S1x16.size a ≤ S24x1536.size a := fun v23 k0_hw200 k0_t9 => k0_hw200.1.2.2.2.2.2.2.2.1 k0_t9
theorem k0_off168_inb : ∀ (v23 : BitVec 32) (k0_hw200 : k0_chk200 v23) (k0_t9 : Fin (k0_t9_loop v23).trips), ∀ a, (k0_off168 v23 k0_t9) a + S1x16.size a ≤ S24x1536.size a := fun v23 k0_hw200 k0_t9 => k0_hw200.1.2.2.2.2.2.2.2.2.1 k0_t9
theorem k0_off169_inb : ∀ (v23 : BitVec 32) (k0_hw200 : k0_chk200 v23) (k0_t9 : Fin (k0_t9_loop v23).trips), ∀ a, (k0_off169 v23 k0_t9) a + S1x16.size a ≤ S24x1536.size a := fun v23 k0_hw200 k0_t9 => k0_hw200.1.2.2.2.2.2.2.2.2.2.1 k0_t9
theorem k0_off170_inb : ∀ (v23 : BitVec 32) (k0_hw200 : k0_chk200 v23) (k0_t9 : Fin (k0_t9_loop v23).trips), ∀ a, (k0_off170 v23 k0_t9) a + S1x16.size a ≤ S24x1536.size a := fun v23 k0_hw200 k0_t9 => k0_hw200.1.2.2.2.2.2.2.2.2.2.2.1 k0_t9
theorem k0_off171_inb : ∀ (v23 : BitVec 32) (k0_hw200 : k0_chk200 v23) (k0_t9 : Fin (k0_t9_loop v23).trips), ∀ a, (k0_off171 v23 k0_t9) a + S1x16.size a ≤ S24x1536.size a := fun v23 k0_hw200 k0_t9 => k0_hw200.1.2.2.2.2.2.2.2.2.2.2.2.1 k0_t9
theorem k0_off172_inb : ∀ (v23 : BitVec 32) (k0_hw200 : k0_chk200 v23) (k0_t9 : Fin (k0_t9_loop v23).trips), ∀ a, (k0_off172 v23 k0_t9) a + S1x16.size a ≤ S24x1536.size a := fun v23 k0_hw200 k0_t9 => k0_hw200.1.2.2.2.2.2.2.2.2.2.2.2.2.1 k0_t9
theorem k0_off173_inb : ∀ (v23 : BitVec 32) (k0_hw200 : k0_chk200 v23) (k0_t9 : Fin (k0_t9_loop v23).trips), ∀ a, (k0_off173 v23 k0_t9) a + S1x16.size a ≤ S24x1536.size a := fun v23 k0_hw200 k0_t9 => k0_hw200.1.2.2.2.2.2.2.2.2.2.2.2.2.2.1 k0_t9
theorem k0_off174_inb : ∀ (v23 : BitVec 32) (k0_hw200 : k0_chk200 v23) (k0_t9 : Fin (k0_t9_loop v23).trips), ∀ a, (k0_off174 v23 k0_t9) a + S1x16.size a ≤ S24x1536.size a := fun v23 k0_hw200 k0_t9 => k0_hw200.1.2.2.2.2.2.2.2.2.2.2.2.2.2.2.1 k0_t9
theorem k0_off175_inb : ∀ (v23 : BitVec 32) (k0_hw200 : k0_chk200 v23) (k0_t9 : Fin (k0_t9_loop v23).trips), ∀ a, (k0_off175 v23 k0_t9) a + S1x16.size a ≤ S24x1536.size a := fun v23 k0_hw200 k0_t9 => k0_hw200.1.2.2.2.2.2.2.2.2.2.2.2.2.2.2.2.1 k0_t9
theorem k0_off176_inb : ∀ (v23 : BitVec 32) (k0_hw200 : k0_chk200 v23) (k0_t9 : Fin (k0_t9_loop v23).trips), ∀ a, (k0_off176 v23 k0_t9) a + S1x16.size a ≤ S24x1536.size a := fun v23 k0_hw200 k0_t9 => k0_hw200.1.2.2.2.2.2.2.2.2.2.2.2.2.2.2.2.2.1 k0_t9
theorem k0_off177_inb : ∀ (v23 : BitVec 32) (k0_hw200 : k0_chk200 v23) (k0_t9 : Fin (k0_t9_loop v23).trips), ∀ a, (k0_off177 v23 k0_t9) a + S1x16.size a ≤ S24x1536.size a := fun v23 k0_hw200 k0_t9 => k0_hw200.1.2.2.2.2.2.2.2.2.2.2.2.2.2.2.2.2.2.1 k0_t9
theorem k0_off178_inb : ∀ (v23 : BitVec 32) (k0_hw200 : k0_chk200 v23) (k0_t9 : Fin (k0_t9_loop v23).trips), ∀ a, (k0_off178 v23 k0_t9) a + S1x16.size a ≤ S24x1536.size a := fun v23 k0_hw200 k0_t9 => k0_hw200.1.2.2.2.2.2.2.2.2.2.2.2.2.2.2.2.2.2.2.1 k0_t9
theorem k0_off179_inb : ∀ (v23 : BitVec 32) (k0_hw200 : k0_chk200 v23) (k0_t9 : Fin (k0_t9_loop v23).trips), ∀ a, (k0_off179 v23 k0_t9) a + S1x16.size a ≤ S24x1536.size a := fun v23 k0_hw200 k0_t9 => k0_hw200.1.2.2.2.2.2.2.2.2.2.2.2.2.2.2.2.2.2.2.2.1 k0_t9
theorem k0_off180_inb : ∀ (v23 : BitVec 32) (k0_hw200 : k0_chk200 v23) (k0_t9 : Fin (k0_t9_loop v23).trips), ∀ a, (k0_off180 v23 k0_t9) a + S1x16.size a ≤ S24x1536.size a := fun v23 k0_hw200 k0_t9 => k0_hw200.1.2.2.2.2.2.2.2.2.2.2.2.2.2.2.2.2.2.2.2.2.1 k0_t9
theorem k0_off181_inb : ∀ (v23 : BitVec 32) (k0_hw200 : k0_chk200 v23) (k0_t9 : Fin (k0_t9_loop v23).trips), ∀ a, (k0_off181 v23 k0_t9) a + S1x16.size a ≤ S24x1536.size a := fun v23 k0_hw200 k0_t9 => k0_hw200.1.2.2.2.2.2.2.2.2.2.2.2.2.2.2.2.2.2.2.2.2.2.1 k0_t9
theorem k0_off182_inb : ∀ (v23 : BitVec 32) (k0_hw200 : k0_chk200 v23) (k0_t9 : Fin (k0_t9_loop v23).trips), ∀ a, (k0_off182 v23 k0_t9) a + S1x16.size a ≤ S24x1536.size a := fun v23 k0_hw200 k0_t9 => k0_hw200.1.2.2.2.2.2.2.2.2.2.2.2.2.2.2.2.2.2.2.2.2.2.2.1 k0_t9
theorem k0_off183_inb : ∀ (v23 : BitVec 32) (k0_hw200 : k0_chk200 v23) (k0_t9 : Fin (k0_t9_loop v23).trips), ∀ a, (k0_off183 v23 k0_t9) a + S1x16.size a ≤ S24x1536.size a := fun v23 k0_hw200 k0_t9 => k0_hw200.1.2.2.2.2.2.2.2.2.2.2.2.2.2.2.2.2.2.2.2.2.2.2.2.1 k0_t9
theorem k0_off184_inb : ∀ (v23 : BitVec 32) (k0_hw200 : k0_chk200 v23) (k0_t9 : Fin (k0_t9_loop v23).trips), ∀ a, (k0_off184 v23 k0_t9) a + S1x16.size a ≤ S24x1536.size a := fun v23 k0_hw200 k0_t9 => k0_hw200.1.2.2.2.2.2.2.2.2.2.2.2.2.2.2.2.2.2.2.2.2.2.2.2.2.1 k0_t9
theorem k0_off185_inb : ∀ (v23 : BitVec 32) (k0_hw200 : k0_chk200 v23) (k0_t9 : Fin (k0_t9_loop v23).trips), ∀ a, (k0_off185 v23 k0_t9) a + S16.size a ≤ S1536.size a := fun v23 k0_hw200 k0_t9 => k0_hw200.1.2.2.2.2.2.2.2.2.2.2.2.2.2.2.2.2.2.2.2.2.2.2.2.2.2.1 k0_t9
theorem k0_t10_ok : ∀ (v23 : BitVec 32) (k0_hw200 : k0_chk200 v23), (k0_t10_loop v23).OK := fun v23 k0_hw200 => k0_hw200.1.2.2.2.2.2.2.2.2.2.2.2.2.2.2.2.2.2.2.2.2.2.2.2.2.2.2.1
theorem k0_off186_inb : ∀ (v23 : BitVec 32) (k0_hw200 : k0_chk200 v23) (k0_t10 : Fin (k0_t10_loop v23).trips), ∀ a, (k0_off186 v23 k0_t10) a + S1x16.size a ≤ S24x1536.size a := fun v23 k0_hw200 k0_t10 => k0_hw200.1.2.2.2.2.2.2.2.2.2.2.2.2.2.2.2.2.2.2.2.2.2.2.2.2.2.2.2.1 k0_t10
theorem k0_off187_inb : ∀ (v23 : BitVec 32) (k0_hw200 : k0_chk200 v23) (k0_t10 : Fin (k0_t10_loop v23).trips), ∀ a, (k0_off187 v23 k0_t10) a + S1x16.size a ≤ S24x1536.size a := fun v23 k0_hw200 k0_t10 => k0_hw200.1.2.2.2.2.2.2.2.2.2.2.2.2.2.2.2.2.2.2.2.2.2.2.2.2.2.2.2.2.1 k0_t10
theorem k0_off188_inb : ∀ (v23 : BitVec 32) (k0_hw200 : k0_chk200 v23) (k0_t10 : Fin (k0_t10_loop v23).trips), ∀ a, (k0_off188 v23 k0_t10) a + S1x16.size a ≤ S24x1536.size a := fun v23 k0_hw200 k0_t10 => k0_hw200.1.2.2.2.2.2.2.2.2.2.2.2.2.2.2.2.2.2.2.2.2.2.2.2.2.2.2.2.2.2.1 k0_t10
theorem k0_off189_inb : ∀ (v23 : BitVec 32) (k0_hw200 : k0_chk200 v23) (k0_t10 : Fin (k0_t10_loop v23).trips), ∀ a, (k0_off189 v23 k0_t10) a + S1x16.size a ≤ S24x1536.size a := fun v23 k0_hw200 k0_t10 => k0_hw200.1.2.2.2.2.2.2.2.2.2.2.2.2.2.2.2.2.2.2.2.2.2.2.2.2.2.2.2.2.2.2.1 k0_t10
theorem k0_off190_inb : ∀ (v23 : BitVec 32) (k0_hw200 : k0_chk200 v23) (k0_t10 : Fin (k0_t10_loop v23).trips), ∀ a, (k0_off190 v23 k0_t10) a + S1x16.size a ≤ S24x1536.size a := fun v23 k0_hw200 k0_t10 => k0_hw200.1.2.2.2.2.2.2.2.2.2.2.2.2.2.2.2.2.2.2.2.2.2.2.2.2.2.2.2.2.2.2.2 k0_t10
theorem k0_off191_inb : ∀ (v23 : BitVec 32) (k0_hw200 : k0_chk200 v23) (k0_t10 : Fin (k0_t10_loop v23).trips), ∀ a, (k0_off191 v23 k0_t10) a + S1x16.size a ≤ S24x1536.size a := fun v23 k0_hw200 k0_t10 => k0_hw200.2.1 k0_t10
theorem k0_off192_inb : ∀ (v23 : BitVec 32) (k0_hw200 : k0_chk200 v23) (k0_t10 : Fin (k0_t10_loop v23).trips), ∀ a, (k0_off192 v23 k0_t10) a + S1x16.size a ≤ S24x1536.size a := fun v23 k0_hw200 k0_t10 => k0_hw200.2.2.1 k0_t10
theorem k0_off193_inb : ∀ (v23 : BitVec 32) (k0_hw200 : k0_chk200 v23) (k0_t10 : Fin (k0_t10_loop v23).trips), ∀ a, (k0_off193 v23 k0_t10) a + S1x16.size a ≤ S24x1536.size a := fun v23 k0_hw200 k0_t10 => k0_hw200.2.2.2.1 k0_t10
theorem k0_off194_inb : ∀ (v23 : BitVec 32) (k0_hw200 : k0_chk200 v23) (k0_t10 : Fin (k0_t10_loop v23).trips), ∀ a, (k0_off194 v23 k0_t10) a + S1x16.size a ≤ S24x1536.size a := fun v23 k0_hw200 k0_t10 => k0_hw200.2.2.2.2.1 k0_t10
theorem k0_off195_inb : ∀ (v23 : BitVec 32) (k0_hw200 : k0_chk200 v23) (k0_t10 : Fin (k0_t10_loop v23).trips), ∀ a, (k0_off195 v23 k0_t10) a + S1x16.size a ≤ S24x1536.size a := fun v23 k0_hw200 k0_t10 => k0_hw200.2.2.2.2.2.1 k0_t10
theorem k0_off196_inb : ∀ (v23 : BitVec 32) (k0_hw200 : k0_chk200 v23) (k0_t10 : Fin (k0_t10_loop v23).trips), ∀ a, (k0_off196 v23 k0_t10) a + S1x16.size a ≤ S24x1536.size a := fun v23 k0_hw200 k0_t10 => k0_hw200.2.2.2.2.2.2.1 k0_t10
theorem k0_off197_inb : ∀ (v23 : BitVec 32) (k0_hw200 : k0_chk200 v23) (k0_t10 : Fin (k0_t10_loop v23).trips), ∀ a, (k0_off197 v23 k0_t10) a + S1x16.size a ≤ S24x1536.size a := fun v23 k0_hw200 k0_t10 => k0_hw200.2.2.2.2.2.2.2.1 k0_t10
theorem k0_off198_inb : ∀ (v23 : BitVec 32) (k0_hw200 : k0_chk200 v23) (k0_t10 : Fin (k0_t10_loop v23).trips), ∀ a, (k0_off198 v23 k0_t10) a + S1x16.size a ≤ S24x1536.size a := fun v23 k0_hw200 k0_t10 => k0_hw200.2.2.2.2.2.2.2.2.1 k0_t10
theorem k0_off199_inb : ∀ (v23 : BitVec 32) (k0_hw200 : k0_chk200 v23) (k0_t10 : Fin (k0_t10_loop v23).trips), ∀ a, (k0_off199 v23 k0_t10) a + S1x16.size a ≤ S24x1536.size a := fun v23 k0_hw200 k0_t10 => k0_hw200.2.2.2.2.2.2.2.2.2.1 k0_t10
theorem k0_off200_inb : ∀ (v23 : BitVec 32) (k0_hw200 : k0_chk200 v23) (k0_t10 : Fin (k0_t10_loop v23).trips), ∀ a, (k0_off200 v23 k0_t10) a + S1x16.size a ≤ S24x1536.size a := fun v23 k0_hw200 k0_t10 => k0_hw200.2.2.2.2.2.2.2.2.2.2.1 k0_t10
theorem k0_off201_inb : ∀ (v23 : BitVec 32) (k0_hw200 : k0_chk200 v23) (k0_t10 : Fin (k0_t10_loop v23).trips), ∀ a, (k0_off201 v23 k0_t10) a + S1x16.size a ≤ S24x1536.size a := fun v23 k0_hw200 k0_t10 => k0_hw200.2.2.2.2.2.2.2.2.2.2.2.1 k0_t10
theorem k0_off202_inb : ∀ (v23 : BitVec 32) (k0_hw200 : k0_chk200 v23) (k0_t10 : Fin (k0_t10_loop v23).trips), ∀ a, (k0_off202 v23 k0_t10) a + S1x16.size a ≤ S24x1536.size a := fun v23 k0_hw200 k0_t10 => k0_hw200.2.2.2.2.2.2.2.2.2.2.2.2.1 k0_t10
theorem k0_off203_inb : ∀ (v23 : BitVec 32) (k0_hw200 : k0_chk200 v23) (k0_t10 : Fin (k0_t10_loop v23).trips), ∀ a, (k0_off203 v23 k0_t10) a + S1x16.size a ≤ S24x1536.size a := fun v23 k0_hw200 k0_t10 => k0_hw200.2.2.2.2.2.2.2.2.2.2.2.2.2.1 k0_t10
theorem k0_off204_inb : ∀ (v23 : BitVec 32) (k0_hw200 : k0_chk200 v23) (k0_t10 : Fin (k0_t10_loop v23).trips), ∀ a, (k0_off204 v23 k0_t10) a + S1x16.size a ≤ S24x1536.size a := fun v23 k0_hw200 k0_t10 => k0_hw200.2.2.2.2.2.2.2.2.2.2.2.2.2.2.1 k0_t10
theorem k0_off205_inb : ∀ (v23 : BitVec 32) (k0_hw200 : k0_chk200 v23) (k0_t10 : Fin (k0_t10_loop v23).trips), ∀ a, (k0_off205 v23 k0_t10) a + S1x16.size a ≤ S24x1536.size a := fun v23 k0_hw200 k0_t10 => k0_hw200.2.2.2.2.2.2.2.2.2.2.2.2.2.2.2.1 k0_t10
theorem k0_off206_inb : ∀ (v23 : BitVec 32) (k0_hw200 : k0_chk200 v23) (k0_t10 : Fin (k0_t10_loop v23).trips), ∀ a, (k0_off206 v23 k0_t10) a + S1x16.size a ≤ S24x1536.size a := fun v23 k0_hw200 k0_t10 => k0_hw200.2.2.2.2.2.2.2.2.2.2.2.2.2.2.2.2.1 k0_t10
theorem k0_off207_inb : ∀ (v23 : BitVec 32) (k0_hw200 : k0_chk200 v23) (k0_t10 : Fin (k0_t10_loop v23).trips), ∀ a, (k0_off207 v23 k0_t10) a + S1x16.size a ≤ S24x1536.size a := fun v23 k0_hw200 k0_t10 => k0_hw200.2.2.2.2.2.2.2.2.2.2.2.2.2.2.2.2.2.1 k0_t10
theorem k0_off208_inb : ∀ (v23 : BitVec 32) (k0_hw200 : k0_chk200 v23) (k0_t10 : Fin (k0_t10_loop v23).trips), ∀ a, (k0_off208 v23 k0_t10) a + S1x16.size a ≤ S24x1536.size a := fun v23 k0_hw200 k0_t10 => k0_hw200.2.2.2.2.2.2.2.2.2.2.2.2.2.2.2.2.2.2.1 k0_t10
theorem k0_off209_inb : ∀ (v23 : BitVec 32) (k0_hw200 : k0_chk200 v23) (k0_t10 : Fin (k0_t10_loop v23).trips), ∀ a, (k0_off209 v23 k0_t10) a + S1x16.size a ≤ S24x1536.size a := fun v23 k0_hw200 k0_t10 => k0_hw200.2.2.2.2.2.2.2.2.2.2.2.2.2.2.2.2.2.2.2.1 k0_t10
theorem k0_off210_inb : ∀ (v23 : BitVec 32) (k0_hw200 : k0_chk200 v23) (k0_t10 : Fin (k0_t10_loop v23).trips), ∀ a, (k0_off210 v23 k0_t10) a + S16.size a ≤ S1536.size a := fun v23 k0_hw200 k0_t10 => k0_hw200.2.2.2.2.2.2.2.2.2.2.2.2.2.2.2.2.2.2.2.2 k0_t10

def k0_off211 (v19 : BitVec 32) (v21 : BitVec 32) : Fin 3 → Nat :=
  let c0_i32_22_r12 : BitVec 32 := 0#32
  ![v21.toNat, v19.toNat, 0]

def k0_chk393 (v19 : BitVec 32) (v21 : BitVec 32) : Prop :=
  (∀ a, (k0_off211 v19 v21) a + S1x1x1536.size a ≤ S18x200x1536.size a)
theorem k0_off211_inb : ∀ (v19 : BitVec 32) (v21 : BitVec 32) (k0_hw393 : k0_chk393 v19 v21), ∀ a, (k0_off211 v19 v21) a + S1x1x1536.size a ≤ S18x200x1536.size a := fun v19 v21 k0_hw393 => k0_hw393

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScRIdeal.lean ====
abbrev S2000x24x1536 : Shape := ⟨3, ![2000, 24, 1536]⟩
abbrev S2000x48x256 : Shape := ⟨3, ![2000, 48, 256]⟩
abbrev S200x96x256 : Shape := ⟨3, ![200, 96, 256]⟩
abbrev S3600x16 : Shape := ⟨2, ![3600, 16]⟩
abbrev S32x16 : Shape := ⟨2, ![32, 16]⟩
abbrev S200x18 : Shape := ⟨2, ![200, 18]⟩
abbrev S2000 : Shape := ⟨1, ![2000]⟩
abbrev S2000x24x1x1536 : Shape := ⟨4, ![2000, 24, 1, 1536]⟩
abbrev S4 : Shape := ⟨1, ![4]⟩
abbrev S_ : Shape := ⟨0, ![]⟩
abbrev S1x1x4x1 : Shape := ⟨4, ![1, 1, 4, 1]⟩
abbrev S2000x24x4x1536 : Shape := ⟨4, ![2000, 24, 4, 1536]⟩
abbrev S2000x96x1536 : Shape := ⟨3, ![2000, 96, 1536]⟩
abbrev S2000x48x1x256 : Shape := ⟨4, ![2000, 48, 1, 256]⟩
abbrev S2000x48x2x256 : Shape := ⟨4, ![2000, 48, 2, 256]⟩
abbrev S2000x96x256 : Shape := ⟨3, ![2000, 96, 256]⟩
abbrev S200x18x1 : Shape := ⟨3, ![200, 18, 1]⟩
abbrev S200x18x96x256 : Shape := ⟨4, ![200, 18, 96, 256]⟩
abbrev S200x1x96x256 : Shape := ⟨4, ![200, 1, 96, 256]⟩
abbrev S200x18x96x1536 : Shape := ⟨4, ![200, 18, 96, 1536]⟩
abbrev S200x18x96x1536x1 : Shape := ⟨5, ![200, 18, 96, 1536, 1]⟩
abbrev S200x18x1536 : Shape := ⟨3, ![200, 18, 1536]⟩
abbrev S1536 : Shape := ⟨1, ![1536]⟩
abbrev S1x1x1536 : Shape := ⟨3, ![1, 1, 1536]⟩

abbrev nBuf : Space → Nat
  | .hbm => 81
  | .vmem => 0
  | .smem => 0
  | _ => 0

abbrev bufTy : (tb : Table) → Fin (tcTables nBuf tb) → BufTy
  | .hbm, ⟨0, _⟩ => ⟨S2000x24x1536, .i32⟩
  | .hbm, ⟨1, _⟩ => ⟨S2000x48x256, .i32⟩
  | .hbm, ⟨2, _⟩ => ⟨S200x96x256, .f32⟩
  | .hbm, ⟨3, _⟩ => ⟨S3600x16, .i32⟩
  | .hbm, ⟨4, _⟩ => ⟨S32x16, .i32⟩
  | .hbm, ⟨5, _⟩ => ⟨S200x18, .i32⟩
  | .hbm, ⟨6, _⟩ => ⟨S2000, .i32⟩
  | .hbm, ⟨7, _⟩ => ⟨S2000x24x1x1536, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S1x1x4x1, .i32⟩
  | .hbm, ⟨13, _⟩ => ⟨S2000x24x4x1536, .i32⟩
  | .hbm, ⟨14, _⟩ => ⟨S2000x24x4x1536, .i32⟩
  | .hbm, ⟨15, _⟩ => ⟨S2000x24x4x1536, .i32⟩
  | .hbm, ⟨16, _⟩ => ⟨S_, .i32⟩
  | .hbm, ⟨17, _⟩ => ⟨S2000x24x4x1536, .i32⟩
  | .hbm, ⟨18, _⟩ => ⟨S2000x24x4x1536, .i32⟩
  | .hbm, ⟨19, _⟩ => ⟨S2000x96x1536, .i32⟩
  | .hbm, ⟨20, _⟩ => ⟨S_, .i32⟩
  | .hbm, ⟨21, _⟩ => ⟨S2000x48x256, .i32⟩
  | .hbm, ⟨22, _⟩ => ⟨S2000x48x256, .i32⟩
  | .hbm, ⟨23, _⟩ => ⟨S_, .i32⟩
  | .hbm, ⟨24, _⟩ => ⟨S2000x48x256, .i32⟩
  | .hbm, ⟨25, _⟩ => ⟨S2000x48x256, .i32⟩
  | .hbm, ⟨26, _⟩ => ⟨S2000x48x1x256, .i32⟩
  | .hbm, ⟨27, _⟩ => ⟨S2000x48x1x256, .i32⟩
  | .hbm, ⟨28, _⟩ => ⟨S2000x48x2x256, .i32⟩
  | .hbm, ⟨29, _⟩ => ⟨S2000x96x256, .i32⟩
  | .hbm, ⟨30, _⟩ => ⟨S2000x96x256, .f32⟩
  | .hbm, ⟨31, _⟩ => ⟨S_, .i32⟩
  | .hbm, ⟨32, _⟩ => ⟨S200x18, .i32⟩
  | .hbm, ⟨33, _⟩ => ⟨S200x18, .i1⟩
  | .hbm, ⟨34, _⟩ => ⟨S_, .i32⟩
  | .hbm, ⟨35, _⟩ => ⟨S200x18, .i32⟩
  | .hbm, ⟨36, _⟩ => ⟨S200x18, .i32⟩
  | .hbm, ⟨37, _⟩ => ⟨S200x18, .i32⟩
  | .hbm, ⟨38, _⟩ => ⟨S200x18x1, .i32⟩
  | .hbm, ⟨39, _⟩ => ⟨S200x18x96x256, .f32⟩
  | .hbm, ⟨40, _⟩ => ⟨S200x1x96x256, .f32⟩
  | .hbm, ⟨41, _⟩ => ⟨S200x18x96x256, .f32⟩
  | .hbm, ⟨42, _⟩ => ⟨S200x18x96x256, .f32⟩
  | .hbm, ⟨43, _⟩ => ⟨S_, .i32⟩
  | .hbm, ⟨44, _⟩ => ⟨S200x18, .i32⟩
  | .hbm, ⟨45, _⟩ => ⟨S200x18, .i1⟩
  | .hbm, ⟨46, _⟩ => ⟨S_, .i32⟩
  | .hbm, ⟨47, _⟩ => ⟨S200x18, .i32⟩
  | .hbm, ⟨48, _⟩ => ⟨S200x18, .i32⟩
  | .hbm, ⟨49, _⟩ => ⟨S200x18, .i32⟩
  | .hbm, ⟨50, _⟩ => ⟨S200x18x1, .i32⟩
  | .hbm, ⟨51, _⟩ => ⟨S200x18x96x1536, .i32⟩
  | .hbm, ⟨52, _⟩ => ⟨S_, .i32⟩
  | .hbm, ⟨53, _⟩ => ⟨S200x18x96x1536, .i32⟩
  | .hbm, ⟨54, _⟩ => ⟨S200x18x96x1536, .i1⟩
  | .hbm, ⟨55, _⟩ => ⟨S_, .i32⟩
  | .hbm, ⟨56, _⟩ => ⟨S200x18x96x1536, .i32⟩
  | .hbm, ⟨57, _⟩ => ⟨S200x18x96x1536, .i32⟩
  | .hbm, ⟨58, _⟩ => ⟨S200x18x96x1536, .i32⟩
  | .hbm, ⟨59, _⟩ => ⟨S200x18x96x1536x1, .i32⟩
  | .hbm, ⟨60, _⟩ => ⟨S200x18x96x1536, .f32⟩
  | .hbm, ⟨61, _⟩ => ⟨S_, .i32⟩
  | .hbm, ⟨62, _⟩ => ⟨S200x18, .i32⟩
  | .hbm, ⟨63, _⟩ => ⟨S200x18, .i1⟩
  | .hbm, ⟨64, _⟩ => ⟨S_, .i32⟩
  | .hbm, ⟨65, _⟩ => ⟨S200x18, .i32⟩
  | .hbm, ⟨66, _⟩ => ⟨S200x18, .i32⟩
  | .hbm, ⟨67, _⟩ => ⟨S200x18, .i32⟩
  | .hbm, ⟨68, _⟩ => ⟨S200x18x1, .i32⟩
  | .hbm, ⟨69, _⟩ => ⟨S200x18, .i32⟩
  | .hbm, ⟨70, _⟩ => ⟨S_, .f32⟩
  | .hbm, ⟨71, _⟩ => ⟨S200x18x1536, .f32⟩
  | .hbm, ⟨72, _⟩ => ⟨S1536, .i32⟩
  | .hbm, ⟨73, _⟩ => ⟨S200x18x1, .i32⟩
  | .hbm, ⟨74, _⟩ => ⟨S1x1x1536, .i32⟩
  | .hbm, ⟨75, _⟩ => ⟨S200x18x1536, .i32⟩
  | .hbm, ⟨76, _⟩ => ⟨S200x18x1536, .i32⟩
  | .hbm, ⟨77, _⟩ => ⟨S200x18x1536, .i1⟩
  | .hbm, ⟨78, _⟩ => ⟨S_, .f32⟩
  | .hbm, ⟨79, _⟩ => ⟨S200x18x1536, .f32⟩
  | .hbm, ⟨80, _⟩ => ⟨S200x18x1536, .f32⟩
  | _, _ => ⟨S2000x24x1536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.LutTile.lean ====
/- One stored tile of the table product: 32 subspaces by 256 codewords for one query row. -/
module

public import proofs.«01_k».proof.Proof.Gen.LutIdeal.Frame
public import Idealize.ShloMosaic.Lib.Pipeline.ValueKit

@[expose] public section

set_option maxRecDepth 16384

noncomputable section

open Idealize.ShloMosaic Idealize.ShloMosaic.TcCoe Idealize.SL.Sem
open scoped BigOperators

namespace Cert.LutIdeal.Value

open Cert.LutIdeal Cert.LutIdeal.Gen

/-- The lane's subspace as the program computes it: a signed division with its fix-up towards minus infinity. -/
def laneRow (k : BitVec 32) : BitVec 32 :=
  Scalar.select
    (IntOp.andi
      (IntOp.cmpi .ne
        (IntOp.subi (BitVec.setWidth 32 (IntOp.cmpi .sgt k 0#32)) (BitVec.setWidth 32 (IntOp.cmpi .slt k 0#32)))
        (Scalar.subi (Scalar.extui (Scalar.cmpi .sgt 8#32 0#32)) (Scalar.extui (Scalar.cmpi .slt 8#32 0#32))))
      (IntOp.cmpi .ne (IntOp.remsi .vector k 8#32) 0#32))
    (IntOp.subi (IntOp.divsi .vector k 8#32) 1#32)
    (IntOp.divsi .vector k 8#32)

theorem laneRow_eq : ∀ k : Fin 256, laneRow (BitVec.ofNat 32 k.val) = BitVec.ofNat 32 (k.val / 8) := by
  decide +kernel

/-- The mask: lane `k` belongs to subspace row `i` exactly when `k / 8 = i`. -/
theorem own_eq (i : Fin 32) (k : Fin 256) :
    k0_pay3 (ix2 i k) = if k.val / 8 = i.val then 1#1 else 0#1 := by
  have h : k0_pay3 (ix2 i k) = IntOp.cmpi .eq (laneRow (BitVec.ofNat 32 k.val)) (BitVec.ofNat 32 i.val) := by
    pointwise [k0_pay3, laneRow]
  rw [h, laneRow_eq]
  have hk := k.isLt; have hi := i.isLt
  have e : (BitVec.ofNat 32 (k.val / 8) = BitVec.ofNat 32 i.val) ↔ k.val / 8 = i.val := by
    rw [← BitVec.toNat_inj, BitVec.toNat_ofNat, BitVec.toNat_ofNat, Nat.mod_eq_of_lt (by omega), Nat.mod_eq_of_lt (by omega)]
  by_cases hki : k.val / 8 = i.val
  · rw [if_pos hki, e.2 hki]; simp [IntOp.cmpi]
  · rw [if_neg hki]; simp only [IntOp.cmpi, beq_eq_false_iff_ne.2 (mt e.1 hki)]; rfl

/-- A sum over 256 lanes of which only the eight lanes of row `i` count is the sum over those eight. -/
theorem sum_own (i : Fin 32) (f : Fin 256 → EReal) :
    ∑ k : Fin 256, (if k.val / 8 = i.val then f k else 0)
      = ∑ d : Fin 8, f ⟨8 * i.val + d.val, by have := i.isLt; have := d.isLt; omega⟩ := by
  rw [← Finset.sum_filter]
  refine (Finset.sum_nbij' (fun d : Fin 8 => (⟨8 * i.val + d.val, by have := i.isLt; have := d.isLt; omega⟩ : Fin 256))
    (fun k : Fin 256 => (⟨k.val % 8, by omega⟩ : Fin 8)) ?_ ?_ ?_ ?_ ?_).symm
  · intro d _
    simp only [Finset.mem_filter, Finset.mem_univ, true_and]
    omega
  · intro k _; simp
  · intro d _; ext; simp
  · intro k hk; ext; simp at hk ⊢; omega
  · intro d _; rfl

/-- One stored tile at row `i`, codeword `j`: minus two times the row's own eight products. -/
theorem tile_sum (w : Vec Ideal S256x256 .bf16) (v : Vec Ideal S1x256 .bf16) (o : Fin 1) (i : Fin 32) (j : Fin 256) :
    k0_pay5 (F := Ideal) w v (ix3 o i j)
      = Ideal.ofBits .f32 0xC0000000#32
          * ∑ d : Fin 8, (v (ix2 0 ⟨8 * i.val + d.val, by have := i.isLt; have := d.isLt; omega⟩)
              * w (ix2 ⟨8 * i.val + d.val, by have := i.isLt; have := d.isLt; omega⟩ j) : EReal) := by
  rw [← sum_own i fun k => (v (ix2 0 k) * w (ix2 k j) : EReal)]
  pointwise [k0_pay5]
  refine congrArg _ (Finset.sum_congr rfl fun k _ => ?_)
  have hw : k0_pay4 (F := Ideal) w (ix2 k j) = w (ix2 k j) := by pointwise [k0_pay4]
  rw [own_eq, hw]
  split <;> rfl

end Cert.LutIdeal.Value

end
-- ==== Proof.LutValue.lean ====
/- The table product of the idealized program: what its result array ends holding is the reference's term, index by
   index. One grid point handles eight query rows in 24 stored tiles; every tile is the same function of its rows of
   the two operands, so the tiles together are one expression over the block. -/
module

public import proofs.«01_k».proof.Proof.LutTile
public import proofs.«01_k».proof.Proof.Gen.LutRefIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LutIdeal.Value

open Cert.LutIdeal Cert.LutIdeal.Gen

/-- Column `8 * s + d` of the flat operands. -/
abbrev col (s : Fin 96) (d : Fin 8) : Fin 768 := ⟨8 * s.val + d.val, by have := s.isLt; have := d.isLt; omega⟩

/-- The 24 stored tiles as one expression over the two staged blocks. -/
def cell (x0 : Vec Ideal S8x768 .bf16) (x1 : Vec Ideal S768x256 .bf16) (y : S8x96x256.Idx) : EReal :=
  Ideal.ofBits .f32 0xC0000000#32
    * ∑ d : Fin 8, (x0 (ix2 (y 0) (col (y 1) d)) * x1 (ix2 (col (y 1) d) (y 2)) : EReal)

/-- A tile over row `b` and the 256 columns from `o = 8 * s` is the expression at rows `b`, subspaces from `s`. -/
theorem tile_cell (x0 : Vec Ideal S8x768 .bf16) (x1 : Vec Ideal S768x256 .bf16) (b s o : ℕ) (ho : o = 8 * s)
    (iw : ∀ a, ![o, 0] a + S256x256.size a ≤ S768x256.size a) (ix : ∀ a, ![b, o] a + S1x256.size a ≤ S8x768.size a)
    (x : S1x32x256.Idx) (y : S8x96x256.Idx)
    (h0 : (y 0 : ℕ) = b + x 0) (h1 : (y 1 : ℕ) = s + x 1) (h2 : (y 2 : ℕ) = x 2) :
    k0_pay5 (F := Ideal) (View.ld x1 (Rect.unit (s := S768x256) ![o, 0] S256x256.size iw))
        (View.ld x0 (Rect.unit (s := S8x768) ![b, o] S1x256.size ix)) x = cell x0 x1 y := by
  have hx : x = ix3 (x 0) (x 1) (x 2) := by funext a; fin_cases a <;> rfl
  rw [hx]
  refine (tile_sum _ _ (x 0) (x 1) (x 2)).trans ?_
  unfold cell
  refine congrArg _ (Finset.sum_congr rfl fun d _ => ?_)
  have hx0 := (x 0).isLt
  congr 1
  · pointwise
    blk_ext
  · pointwise
    blk_ext

set_option maxHeartbeats 4000000 in
/-- The 24 stores leave the expression in every element of the block. -/
theorem out_cell (x0 : Vec Ideal S8x768 .bf16) (x1 : Vec Ideal S768x256 .bf16) (y : S8x96x256.Idx) :
    out0_2 x0 x1 y = cell x0 x1 y := by
  canon_tiles x h
  case piece0 => exact tile_cell x0 x1 7 64 512 rfl _ _ x y (by omega) (by omega) h2
  case piece1 => exact tile_cell x0 x1 6 64 512 rfl _ _ x y (by omega) (by omega) h2
  case piece2 => exact tile_cell x0 x1 5 64 512 rfl _ _ x y (by omega) (by omega) h2
  case piece3 => exact tile_cell x0 x1 4 64 512 rfl _ _ x y (by omega) (by omega) h2
  case piece4 => exact tile_cell x0 x1 3 64 512 rfl _ _ x y (by omega) (by omega) h2
  case piece5 => exact tile_cell x0 x1 2 64 512 rfl _ _ x y (by omega) (by omega) h2
  case piece6 => exact tile_cell x0 x1 1 64 512 rfl _ _ x y (by omega) (by omega) h2
  case piece7 => exact tile_cell x0 x1 0 64 512 rfl _ _ x y (by omega) (by omega) h2
  case piece8 => exact tile_cell x0 x1 7 32 256 rfl _ _ x y (by omega) (by omega) h2
  case piece9 => exact tile_cell x0 x1 6 32 256 rfl _ _ x y (by omega) (by omega) h2
  case piece10 => exact tile_cell x0 x1 5 32 256 rfl _ _ x y (by omega) (by omega) h2
  case piece11 => exact tile_cell x0 x1 4 32 256 rfl _ _ x y (by omega) (by omega) h2
  case piece12 => exact tile_cell x0 x1 3 32 256 rfl _ _ x y (by omega) (by omega) h2
  case piece13 => exact tile_cell x0 x1 2 32 256 rfl _ _ x y (by omega) (by omega) h2
  case piece14 => exact tile_cell x0 x1 1 32 256 rfl _ _ x y (by omega) (by omega) h2
  case piece15 => exact tile_cell x0 x1 0 32 256 rfl _ _ x y (by omega) (by omega) h2
  case piece16 => exact tile_cell x0 x1 7 0 0 rfl _ _ x y (by omega) (by omega) h2
  case piece17 => exact tile_cell x0 x1 6 0 0 rfl _ _ x y (by omega) (by omega) h2
  case piece18 => exact tile_cell x0 x1 5 0 0 rfl _ _ x y (by omega) (by omega) h2
  case piece19 => exact tile_cell x0 x1 4 0 0 rfl _ _ x y (by omega) (by omega) h2
  case piece20 => exact tile_cell x0 x1 3 0 0 rfl _ _ x y (by omega) (by omega) h2
  case piece21 => exact tile_cell x0 x1 2 0 0 rfl _ _ x y (by omega) (by omega) h2
  case piece22 => exact tile_cell x0 x1 1 0 0 rfl _ _ x y (by omega) (by omega) h2
  case piece23 => exact tile_cell x0 x1 0 0 0 rfl _ _ x y (by omega) (by omega) h2

variable (m : (ℓ : Loc nD τ sig) → Buf (Elt Ideal) ℓ)

/-- The reference's result over its two arguments, at the ideal instance. -/
abbrev REF (a0 : FVec Ideal S200x768 .bf16) (a1 : FVec Ideal S96x256x8 .bf16) : FVec Ideal S200x96x256 .f32 :=
  Cert.LutRefIdeal.Read.val_main_v4 (F := Ideal) a0 a1

/-- The reference at an index: minus two times the inner product of the query's and the codeword's eight entries. -/
theorem ref_at (a0 : FVec Ideal S200x768 .bf16) (a1 : FVec Ideal S96x256x8 .bf16) (r : Fin 200) (s : Fin 96) (j : Fin 256) :
    REF a0 a1 (ix3 r s j) = Ideal.ofBits .f32 0xC0000000#32
      * ∑ d : Fin 8, (a0 (ix2 r (col s d)) * a1 (ix3 s j d) : EReal) := by
  unfold REF
  rw [Cert.LutRefIdeal.Read.val_main_v4_apply, Cert.LutRefIdeal.Read.val_main_v2_apply,
    Cert.LutRefIdeal.Read.val_main_v1_apply]
  refine congrArg _ (Finset.sum_congr rfl fun d _ => ?_)
  have hr := r.isLt; have hs := s.isLt; have hd := d.isLt
  rw [Cert.LutRefIdeal.Read.val_main_v0_apply, mul_comm]
  congr 1
  · refine congrArg a0 (funext fun a => Fin.ext ?_)
    fin_cases a
    · show ((r.val * 96 + s.val) * 8 + d.val) / 768 = r.val
      omega
    · show ((r.val * 96 + s.val) * 8 + d.val) % 768 = 8 * s.val + d.val
      omega
  · refine congrArg a1 (funext fun a => Fin.ext ?_)
    fin_cases a <;> rfl

/-- The flat codebook the second window stages, read at a column: the codebook's own entry. -/
theorem codebook_at (c : Dev nD) (s : Fin 96) (d : Fin 8) (j : Fin 256) :
    V m c main_v1 (ix2 (col s d) j) = m ((c : Thread nD τ).loc main_arg1) (ix3 s j d) := by
  entry_read
  pointwise
  blk_ext

/-- The block each window stages at grid point `t`. -/
theorem idx : ∀ t : Fin cfg0.N, win0_0.index t = ![t.val, 0]
    ∧ win0_1.index t = ![0, 0]
    ∧ win0_2.index t = ![t.val, 0, 0] :=
  (by decide +kernel : ∀ t : Fin grid0.N, _)

/-- What the body leaves at block index `y` of point `t` is the reference at the array index `y` sits at. -/
theorem point (c : Dev nD) (t : Fin cfg0.N) (y) :
    out0_2 (iblk m c 0 t) (iblk m c 1 t) y
      = REF (m ((c : Thread nD τ).loc main_arg0)) (m ((c : Thread nD τ).loc main_arg1))
          (((cfg0.win 2).blk t).view.emb y) := by
  have ht : t.val < 25 := t.isLt
  have hy : (y 0).val < 8 := (y 0).isLt
  have hj : ((cfg0.win 2).blk t).view.emb y
      = ix3 ⟨8 * t.val + (y 0).val, by omega⟩ (y 1) (y 2) := by
    blk_ext [idx t]
  refine (out_cell _ _ y).trans (Eq.trans ?_ ((congrArg _ hj).trans (ref_at _ _ ⟨8 * t.val + (y 0).val, by omega⟩ (y 1) (y 2))).symm)
  unfold cell
  refine congrArg _ (Finset.sum_congr rfl fun d _ => ?_)
  refine Eq.trans ?_ (congrArg (HMul.hMul (_ : EReal)) (codebook_at m c (y 1) d (y 2)))
  blk_point [iblk, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]
  exact point m c t y

end Cert.LutIdeal.Value

end
-- ==== Proof.CoarseValue.lean ====
/- The coarse call of the idealized program: what its result array ends holding is the reference's term, index by
   index. One grid point handles eight query rows; its single store is the sum over the 768 lanes of the squared
   difference, which is the reference's sum at the array index the stored element sits at. -/
module

public import proofs.«01_k».proof.Proof.Gen.CoarseIdeal.Frame
public import proofs.«01_k».proof.Proof.Gen.CoarseRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.CoarseIdeal.Value

open Cert.CoarseIdeal Cert.CoarseIdeal.Gen

variable (m : (ℓ : Loc nD τ sig) → Buf (Elt Ideal) ℓ)

/-- The reference's result over its three arguments, at the ideal instance. -/
abbrev REF (a0 : FVec Ideal S200x768 .bf16) (a1 : FVec Ideal S2000x768 .f32) (a2 : IVec S200x18 32) :
    FVec Ideal S200x18 .f32 :=
  Cert.CoarseRefIdeal.Read.val_main_v12 (F := Ideal) a0 a1 a2

/-- The block each window stages at grid point `t`. -/
theorem idx : ∀ t : Fin cfg0.N, win0_0.index t = ![t.val, 0]
    ∧ win0_1.index t = ![t.val, 0, 0]
    ∧ win0_2.index t = ![t.val, 0] :=
  (by decide +kernel : ∀ t : Fin grid0.N, _)

/-- The array of centroids the second window stages is the reference's gather of them. -/
theorem centroids (c : Dev nD) : V m c main_v6
    = Cert.CoarseRefIdeal.Read.val_main_v6 (F := Ideal) (m ((c : Thread nD τ).loc main_arg1))
        (m ((c : Thread nD τ).loc main_arg2)) := by
  entry_read
  rfl

/-- The reference's term over the queries and the gathered centroids. -/
abbrev REFc (a0 : FVec Ideal S200x768 .bf16) (G : FVec Ideal S200x18x768 .f32) : FVec Ideal S200x18 .f32 :=
  Host.reduceAdd
    (mulf
      (subf (broadcastInDim S200x18x768 ![0, 1, 2] Cert.CoarseRefIdeal.Gen.bcast_S200x1x768_S200x18x768_0_1_2
          (broadcastInDim Cert.CoarseRefIdeal.S200x1x768 ![0, 2] Cert.CoarseRefIdeal.Gen.bcast_S200x768_S200x1x768_0_2
            (extf .f32 a0 Cert.CoarseRefIdeal.Gen.bitsLt_bf16_f32))) G)
      (subf (broadcastInDim S200x18x768 ![0, 1, 2] Cert.CoarseRefIdeal.Gen.bcast_S200x1x768_S200x18x768_0_1_2
          (broadcastInDim Cert.CoarseRefIdeal.S200x1x768 ![0, 2] Cert.CoarseRefIdeal.Gen.bcast_S200x768_S200x1x768_0_2
            (extf .f32 a0 Cert.CoarseRefIdeal.Gen.bitsLt_bf16_f32))) G))
    (constant Cert.CoarseRefIdeal.S_ .f32 0x00000000#32)
    Cert.CoarseRefIdeal.Gen.reducesTo_S200x18x768_S200x18_d2 Cert.CoarseRefIdeal.Gen.h_S_

theorem ref_eq (a0 : FVec Ideal S200x768 .bf16) (a1 : FVec Ideal S2000x768 .f32) (a2 : IVec S200x18 32) :
    REF a0 a1 a2 = REFc a0 (Cert.CoarseRefIdeal.Read.val_main_v6 (F := Ideal) a1 a2) := rfl

/-- What the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1))
          (m ((c : Thread nD τ).loc main_arg2)) (((cfg0.win 2).blk t).view.emb y) := by
  rw [ref_eq, ← centroids m c]
  pointwise [k0_pay1, REFc]
  blk_point [iblk, idx t]

/-- The result array after the run. -/
theorem final (c : Dev nD) : (dats m 0 c).arrAt 2 (cfgs 0).N
    = REF (m ((c : Thread nD τ).loc main_arg0)) (m ((c : Thread nD τ).loc main_arg1))
        (m ((c : Thread nD τ).loc main_arg2)) := by
  refine (dats m 0 c).arrAt_eq_of_covers 2 _ (by decide +kernel) fun t hf y => ?_
  blk_simp; rw [after0_2]; frame_out
  exact point m c t y

end Cert.CoarseIdeal.Value

end
-- ==== Proof.ScBase.lean ====
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Sc
public import proofs.«01_k».proof.Proof.Gen.Sc.Skeleton

/-! The setting of the gather kernel's proof: its resource algebra, its buffers by name. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The buffers as the kernel names them -/

abbrev cdV : Memref sig .scVector .hbm S2000x24x1536 .i32 := Memref.whole main_arg0_scv
abbrev tmV : Memref sig .scVector .hbm S2000x48x256 .i32 := Memref.whole main_arg1_scv
abbrev luV : Memref sig .scVector .hbm S200x96x256 .f32 := Memref.whole main_arg2_scv
abbrev meV : Memref sig .scVector .hbm S3600x16 .i32 := Memref.whole main_arg3_scv
abbrev stV : Memref sig .scVector .hbm S32x16 .i32 := Memref.whole main_arg4_scv
abbrev ouV : Memref sig .scVector .hbm S18x200x1536 .f32 := Memref.whole main_v0_scv
abbrev s0V : Memref sig .scVector .vmem S24x1536 .i32 := Memref.whole cc0_scratch0
abbrev s1V : Memref sig .scVector .vmem S96x2x128 .f32 := Memref.whole cc0_scratch1
abbrev s2V : Memref sig .scVector .vmem S48x256 .i32 := Memref.whole cc0_scratch2
abbrev s3V : Memref sig .scVector .vmem S1536 .f32 := Memref.whole cc0_scratch3
abbrev s4V : Memref sig .scVector .vmem S16 .i32 := Memref.whole cc0_scratch4
abbrev s5V : Memref sig .scVector .vmem S16 .i32 := Memref.whole cc0_scratch5

abbrev cV (L : grid0.Coords) : Fin τ.nSC := (L 0).castLE hcore0
abbrev jV (L : grid0.Coords) : Fin τ.nSub := (L 1).castLE hsub0
/-- The task's thread. -/
abbrev tt (d : Dev nD) (L : grid0.Coords) : Thread nD τ := V d (cV L) (jV L)

end Cert.Proof.Sc
end
end
-- ==== Proof.ScWords.lean ====
module

public import Idealize.ShloMosaic.Lib.Pipeline.ValueKit
public import proofs.«01_k».proof.Proof.ScBase

/-! Words: bytes, trip counts and offsets. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem byte_lt (y : BitVec 32) : (y &&& 255#32).toNat < 256 := by
  rw [BitVec.toNat_and]
  exact lt_of_le_of_lt Nat.and_le_right (by decide)

theorem byte_hi (y : BitVec 32) : ((y &&& 255#32).sshiftRight' 7#32).toNat = (y &&& 255#32).toNat / 128 := by
  have h := byte_lt y
  have hm : (y &&& 255#32).msb = false := by
    rw [BitVec.msb_eq_false_iff_two_mul_lt]; omega
  show ((y &&& 255#32).sshiftRight 7).toNat = _
  rw [BitVec.sshiftRight_eq_of_msb_false hm, BitVec.toNat_ushiftRight, Nat.shiftRight_eq_div_pow]

theorem byte_lo (y : BitVec 32) : ((y &&& 255#32) &&& 127#32).toNat = (y &&& 255#32).toNat % 128 := by
  rw [BitVec.toNat_and]
  exact Nat.and_two_pow_sub_one_eq_mod _ 7
omit [FloatOps F] in
theorem len_words : ∀ n : Fin 1537, (k0_t4_loop (BitVec.ofNat 32 n)).trips = (n.val + 15) / 16 ∧ (k0_t4_loop (BitVec.ofNat 32 n)).OK
    ∧ (k0_t5_loop (BitVec.ofNat 32 n)).trips = 0 ∧ (k0_t5_loop (BitVec.ofNat 32 n)).OK := by decide +kernel

variable {v : BitVec 32} (hv : v.toNat ≤ 1536)
include hv

theorem t4_trips : (k0_t4_loop v).trips = (v.toNat + 15) / 16 := by
  have h := (len_words ⟨v.toNat, by omega⟩).1
  rwa [show BitVec.ofNat 32 (⟨v.toNat, by omega⟩ : Fin 1537).val = v from by simp] at h
theorem t4_OK : (k0_t4_loop v).OK := by
  have h := (len_words ⟨v.toNat, by omega⟩).2.1
  rwa [show BitVec.ofNat 32 (⟨v.toNat, by omega⟩ : Fin 1537).val = v from by simp] at h
theorem t5_trips : (k0_t5_loop v).trips = 0 := by
  have h := (len_words ⟨v.toNat, by omega⟩).2.2.1
  rwa [show BitVec.ofNat 32 (⟨v.toNat, by omega⟩ : Fin 1537).val = v from by simp] at h
theorem t5_OK : (k0_t5_loop v).OK := by
  have h := (len_words ⟨v.toNat, by omega⟩).2.2.2
  rwa [show BitVec.ofNat 32 (⟨v.toNat, by omega⟩ : Fin 1537).val = v from by simp] at h

theorem t4_lt (t : Fin (k0_t4_loop v).trips) : t.val < 96 := by
  have := t.isLt; have := t4_trips hv; omega

omit hv in
theorem lane_off : ∀ t : Fin 96, (Scalar.indexCast (Scalar.muli (Scalar.addi 0#32 (Scalar.muli (Scf.iv 0#32 1#32 t.val) 1#32)) 16#32)).toNat = 16 * t.val := by decide +kernel

variable (t : Fin (k0_t4_loop v).trips)
theorem off56_eq : k0_off56 v t = ![0, 16 * t.val] := congrArg (fun q => ![0, q]) (lane_off ⟨t.val, t4_lt hv t⟩)
theorem off57_eq : k0_off57 v t = ![1, 16 * t.val] := congrArg (fun q => ![1, q]) (lane_off ⟨t.val, t4_lt hv t⟩)
theorem off58_eq : k0_off58 v t = ![2, 16 * t.val] := congrArg (fun q => ![2, q]) (lane_off ⟨t.val, t4_lt hv t⟩)
theorem off59_eq : k0_off59 v t = ![3, 16 * t.val] := congrArg (fun q => ![3, q]) (lane_off ⟨t.val, t4_lt hv t⟩)
theorem off60_eq : k0_off60 v t = ![4, 16 * t.val] := congrArg (fun q => ![4, q]) (lane_off ⟨t.val, t4_lt hv t⟩)
theorem off61_eq : k0_off61 v t = ![5, 16 * t.val] := congrArg (fun q => ![5, q]) (lane_off ⟨t.val, t4_lt hv t⟩)
theorem off62_eq : k0_off62 v t = ![6, 16 * t.val] := congrArg (fun q => ![6, q]) (lane_off ⟨t.val, t4_lt hv t⟩)
theorem off63_eq : k0_off63 v t = ![7, 16 * t.val] := congrArg (fun q => ![7, q]) (lane_off ⟨t.val, t4_lt hv t⟩)
theorem off64_eq : k0_off64 v t = ![8, 16 * t.val] := congrArg (fun q => ![8, q]) (lane_off ⟨t.val, t4_lt hv t⟩)
theorem off65_eq : k0_off65 v t = ![9, 16 * t.val] := congrArg (fun q => ![9, q]) (lane_off ⟨t.val, t4_lt hv t⟩)
theorem off66_eq : k0_off66 v t = ![10, 16 * t.val] := congrArg (fun q => ![10, q]) (lane_off ⟨t.val, t4_lt hv t⟩)
theorem off67_eq : k0_off67 v t = ![11, 16 * t.val] := congrArg (fun q => ![11, q]) (lane_off ⟨t.val, t4_lt hv t⟩)
theorem off68_eq : k0_off68 v t = ![12, 16 * t.val] := congrArg (fun q => ![12, q]) (lane_off ⟨t.val, t4_lt hv t⟩)
theorem off69_eq : k0_off69 v t = ![13, 16 * t.val] := congrArg (fun q => ![13, q]) (lane_off ⟨t.val, t4_lt hv t⟩)
theorem off70_eq : k0_off70 v t = ![14, 16 * t.val] := congrArg (fun q => ![14, q]) (lane_off ⟨t.val, t4_lt hv t⟩)
theorem off71_eq : k0_off71 v t = ![15, 16 * t.val] := congrArg (fun q => ![15, q]) (lane_off ⟨t.val, t4_lt hv t⟩)
theorem off72_eq : k0_off72 v t = ![16, 16 * t.val] := congrArg (fun q => ![16, q]) (lane_off ⟨t.val, t4_lt hv t⟩)
theorem off73_eq : k0_off73 v t = ![17, 16 * t.val] := congrArg (fun q => ![17, q]) (lane_off ⟨t.val, t4_lt hv t⟩)
theorem off74_eq : k0_off74 v t = ![18, 16 * t.val] := congrArg (fun q => ![18, q]) (lane_off ⟨t.val, t4_lt hv t⟩)
theorem off75_eq : k0_off75 v t = ![19, 16 * t.val] := congrArg (fun q => ![19, q]) (lane_off ⟨t.val, t4_lt hv t⟩)
theorem off76_eq : k0_off76 v t = ![20, 16 * t.val] := congrArg (fun q => ![20, q]) (lane_off ⟨t.val, t4_lt hv t⟩)
theorem off77_eq : k0_off77 v t = ![21, 16 * t.val] := congrArg (fun q => ![21, q]) (lane_off ⟨t.val, t4_lt hv t⟩)
theorem off78_eq : k0_off78 v t = ![22, 16 * t.val] := congrArg (fun q => ![22, q]) (lane_off ⟨t.val, t4_lt hv t⟩)
theorem off79_eq : k0_off79 v t = ![23, 16 * t.val] := congrArg (fun q => ![23, q]) (lane_off ⟨t.val, t4_lt hv t⟩)
theorem off80_eq : k0_off80 v t = ![16 * t.val] := congrArg (fun q => ![q]) (lane_off ⟨t.val, t4_lt hv t⟩)

theorem row_ok (r : ℕ) (hr : r < 24) (o : Fin 2 → ℕ) (ho : o = ![r, 16 * t.val]) : ∀ a, o a + S1x16.size a ≤ S24x1536.size a := by
  subst ho
  have := t4_lt hv t
  intro a
  match a with
  | 0 => show r + 1 ≤ 24; omega
  | 1 => show 16 * t.val + 16 ≤ 1536; omega

omit t in
theorem chk4_of : k0_chk4 v := by
  have h0 : ∀ t : Fin (k0_t5_loop v).trips, False := fun t => by have := t.isLt; have := t5_trips hv; omega
  have h80 : ∀ t : Fin (k0_t4_loop v).trips, ∀ a, k0_off80 v t a + S16.size a ≤ S1536.size a := fun t a => by
    rw [off80_eq hv t]; have := t4_lt hv t
    match a with
    | 0 => show 16 * t.val + 16 ≤ 1536; omega
  exact ⟨⟨t4_OK hv, fun t => row_ok hv t 0 (by decide) _ (off56_eq hv t), fun t => row_ok hv t 1 (by decide) _ (off57_eq hv t), fun t => row_ok hv t 2 (by decide) _ (off58_eq hv t), fun t => row_ok hv t 3 (by decide) _ (off59_eq hv t), fun t => row_ok hv t 4 (by decide) _ (off60_eq hv t), fun t => row_ok hv t 5 (by decide) _ (off61_eq hv t), fun t => row_ok hv t 6 (by decide) _ (off62_eq hv t), fun t => row_ok hv t 7 (by decide) _ (off63_eq hv t), fun t => row_ok hv t 8 (by decide) _ (off64_eq hv t), fun t => row_ok hv t 9 (by decide) _ (off65_eq hv t), fun t => row_ok hv t 10 (by decide) _ (off66_eq hv t), fun t => row_ok hv t 11 (by decide) _ (off67_eq hv t), fun t => row_ok hv t 12 (by decide) _ (off68_eq hv t), fun t => row_ok hv t 13 (by decide) _ (off69_eq hv t), fun t => row_ok hv t 14 (by decide) _ (off70_eq hv t), fun t => row_ok hv t 15 (by decide) _ (off71_eq hv t), fun t => row_ok hv t 16 (by decide) _ (off72_eq hv t), fun t => row_ok hv t 17 (by decide) _ (off73_eq hv t), fun t => row_ok hv t 18 (by decide) _ (off74_eq hv t), fun t => row_ok hv t 19 (by decide) _ (off75_eq hv t), fun t => row_ok hv t 20 (by decide) _ (off76_eq hv t), fun t => row_ok hv t 21 (by decide) _ (off77_eq hv t), fun t => row_ok hv t 22 (by decide) _ (off78_eq hv t), fun t => row_ok hv t 23 (by decide) _ (off79_eq hv t), h80, t5_OK hv, fun t => (h0 t).elim, fun t => (h0 t).elim, fun t => (h0 t).elim, fun t => (h0 t).elim, fun t => (h0 t).elim⟩, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim⟩

end Cert.Proof.Sc
end
end
-- ==== Proof.ScPick.lean ====
module

public import Idealize.ShloMosaic.Lib.Pipeline.ValueKit
public import proofs.«01_k».proof.Proof.ScWords

/-! Gathering: sixteen slots' distances. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

omit [FloatOps F] in
theorem idx_ok (u : IVec S16 32) (m : BitVec 32) (hm : m.toNat < 96) :
    ∀ a x, ((![broadcast S16 m, shrsi (andi u (broadcast S16 255#32)) (broadcast S16 7#32),
      andi (andi u (broadcast S16 255#32)) (broadcast S16 127#32)] : Fin 3 → IVec S16 32) a x).toNat < S96x2x128.size a := by
  intro a x
  match a with
  | 0 => exact hm
  | 1 =>
    show ((u x &&& 255#32).sshiftRight' 7#32).toNat < 2
    rw [byte_hi]
    have := byte_lt (u x)
    omega
  | 2 =>
    show ((u x &&& 255#32) &&& 127#32).toNat < 128
    rw [BitVec.toNat_and]
    exact lt_of_le_of_lt Nat.and_le_right (by decide)

/-- Sixteen words of codes: slots `16t .. 16t+15` of word row `r`. -/
abbrev codeWords (off : Fin 2 → ℕ) (inb : ∀ a, off a + S1x16.size a ≤ S24x1536.size a) (e : Buf (Elt F) (s0V.view.loc (tt d L))) : IVec S16 32 :=
  shapeCast S16 (View.readAt (Elt F) s0V.view (Rect.unit (s := S24x1536) off S1x16.size inb).toLoadRect e) shapeCasts_S1x16_S16

/-- The table's entries of subspace `m` at the codes in the low bytes of `w`. -/
abbrev pick (f : Vec F S96x2x128 .f32) (m : ℕ) (hm : m < 96) (w : IVec S16 32) : FVec F S16 .f32 :=
  loadIdx f ![broadcast S16 (BitVec.ofNat 32 m), shrsi (andi w (broadcast S16 255#32)) (broadcast S16 7#32),
      andi (andi w (broadcast S16 255#32)) (broadcast S16 127#32)] (idx_ok w _ (by rw [BitVec.toNat_ofNat]; omega))

/-- Byte `j` of each word, at the bottom. -/
abbrev lane (w : IVec S16 32) (j : ℕ) : IVec S16 32 := shrsi w (broadcast S16 (BitVec.ofNat 32 (8 * j)))

/-- Lane `j`'s partial sum: the picked entries of subspaces `j, 4 + j, …, 4n + j`, in that order. -/
def accN (f : Vec F S96x2x128 .f32) (W : Fin 24 → IVec S16 32) (j : ℕ) (hj : j < 4) : (n : ℕ) → n < 24 → FVec F S16 .f32
  | 0, h => pick f (4 * 0 + j) (by omega) (lane (W ⟨0, h⟩) j)
  | n + 1, h => addf (accN f W j hj n (by omega)) (pick f (4 * (n + 1) + j) (by omega) (lane (W ⟨n + 1, h⟩) j))

/-- Sixteen slots' distances, before masking. -/
def total (f : Vec F S96x2x128 .f32) (W : Fin 24 → IVec S16 32) : FVec F S16 .f32 :=
  addf (addf (accN f W 0 (by decide) 23 (by decide)) (accN f W 1 (by decide) 23 (by decide)))
    (addf (accN f W 2 (by decide) 23 (by decide)) (accN f W 3 (by decide) 23 (by decide)))

/-- Sixteen slots' results: the distances of the slots below the length, zero in the others. -/
def masked (v3 : IVec S16 32) (v23 v39 : BitVec 32) (f : Vec F S96x2x128 .f32) (W : Fin 24 → IVec S16 32) : FVec F S16 .f32 :=
  select (cmpi .slt (addi v3 (broadcast S16 (Scalar.muli v39 16#32))) (broadcast S16 v23)) (total f W) (broadcast S16 (FloatOps.ofBits .f32 0#32))

/-- The words of codes of slots `16t .. 16t+15`. -/
def slotWords (e : S24x1536.Idx → BitVec 32) (T : ℕ) (hT : T < 96) : Fin 24 → IVec S16 32 :=
  fun r x => e (ix2 r ⟨16 * T + (x 0).val, by have : (x 0).val < 16 := (x 0).isLt; omega⟩)

theorem codeWords_eq (off : Fin 2 → ℕ) (inb : ∀ a, off a + S1x16.size a ≤ S24x1536.size a) (e : Buf (Elt F) (s0V.view.loc (tt d L)))
    (r : Fin 24) (T : ℕ) (hT : T < 96) (ho : off = ![r.val, 16 * T]) : codeWords d L off inb e = slotWords e T hT r := by
  subst ho
  funext x
  simp only [codeWords, pointwise, View.readAt_apply]
  refine congrArg e (funext fun a => ?_)
  match a with
  | 0 => exact Fin.ext (by simp [ix2])
  | 1 => exact Fin.ext (by simp [ix2])

/-- Lane sums written out. -/
def lane0 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 0#32, shrsi (andi (shrsi w0 (broadcast S16 0#32)) (broadcast S16 255#32)) (broadcast S16 7#32), andi (andi (shrsi w0 (broadcast S16 0#32)) (broadcast S16 255#32)) (broadcast S16 127#32)] (idx_ok (shrsi w0 (broadcast S16 0#32)) 0#32 (by decide)))
      (loadIdx f ![broadcast S16 4#32, shrsi (andi (shrsi w1 (broadcast S16 0#32)) (broadcast S16 255#32)) (broadcast S16 7#32), andi (andi (shrsi w1 (broadcast S16 0#32)) (broadcast S16 255#32)) (broadcast S16 127#32)] (idx_ok (shrsi w1 (broadcast S16 0#32)) 4#32 (by decide))))
      (loadIdx f ![broadcast S16 8#32, shrsi (andi (shrsi w2 (broadcast S16 0#32)) (broadcast S16 255#32)) (broadcast S16 7#32), andi (andi (shrsi w2 (broadcast S16 0#32)) (broadcast S16 255#32)) (broadcast S16 127#32)] (idx_ok (shrsi w2 (broadcast S16 0#32)) 8#32 (by decide))))
      (loadIdx f ![broadcast S16 12#32, shrsi (andi (shrsi w3 (broadcast S16 0#32)) (broadcast S16 255#32)) (broadcast S16 7#32), andi (andi (shrsi w3 (broadcast S16 0#32)) (broadcast S16 255#32)) (broadcast S16 127#32)] (idx_ok (shrsi w3 (broadcast S16 0#32)) 12#32 (by decide))))
      (loadIdx f ![broadcast S16 16#32, shrsi (andi (shrsi w4 (broadcast S16 0#32)) (broadcast S16 255#32)) (broadcast S16 7#32), andi (andi (shrsi w4 (broadcast S16 0#32)) (broadcast S16 255#32)) (broadcast S16 127#32)] (idx_ok (shrsi w4 (broadcast S16 0#32)) 16#32 (by decide))))
      (loadIdx f ![broadcast S16 20#32, shrsi (andi (shrsi w5 (broadcast S16 0#32)) (broadcast S16 255#32)) (broadcast S16 7#32), andi (andi (shrsi w5 (broadcast S16 0#32)) (broadcast S16 255#32)) (broadcast S16 127#32)] (idx_ok (shrsi w5 (broadcast S16 0#32)) 20#32 (by decide))))
      (loadIdx f ![broadcast S16 24#32, shrsi (andi (shrsi w6 (broadcast S16 0#32)) (broadcast S16 255#32)) (broadcast S16 7#32), andi (andi (shrsi w6 (broadcast S16 0#32)) (broadcast S16 255#32)) (broadcast S16 127#32)] (idx_ok (shrsi w6 (broadcast S16 0#32)) 24#32 (by decide))))
      (loadIdx f ![broadcast S16 28#32, shrsi (andi (shrsi w7 (broadcast S16 0#32)) (broadcast S16 255#32)) (broadcast S16 7#32), andi (andi (shrsi w7 (broadcast S16 0#32)) (broadcast S16 255#32)) (broadcast S16 127#32)] (idx_ok (shrsi w7 (broadcast S16 0#32)) 28#32 (by decide))))
      (loadIdx f ![broadcast S16 32#32, shrsi (andi (shrsi w8 (broadcast S16 0#32)) (broadcast S16 255#32)) (broadcast S16 7#32), andi (andi (shrsi w8 (broadcast S16 0#32)) (broadcast S16 255#32)) (broadcast S16 127#32)] (idx_ok (shrsi w8 (broadcast S16 0#32)) 32#32 (by decide))))
      (loadIdx f ![broadcast S16 36#32, shrsi (andi (shrsi w9 (broadcast S16 0#32)) (broadcast S16 255#32)) (broadcast S16 7#32), andi (andi (shrsi w9 (broadcast S16 0#32)) (broadcast S16 255#32)) (broadcast S16 127#32)] (idx_ok (shrsi w9 (broadcast S16 0#32)) 36#32 (by decide))))
      (loadIdx f ![broadcast S16 40#32, shrsi (andi (shrsi w10 (broadcast S16 0#32)) (broadcast S16 255#32)) (broadcast S16 7#32), andi (andi (shrsi w10 (broadcast S16 0#32)) (broadcast S16 255#32)) (broadcast S16 127#32)] (idx_ok (shrsi w10 (broadcast S16 0#32)) 40#32 (by decide))))
      (loadIdx f ![broadcast S16 44#32, shrsi (andi (shrsi w11 (broadcast S16 0#32)) (broadcast S16 255#32)) (broadcast S16 7#32), andi (andi (shrsi w11 (broadcast S16 0#32)) (broadcast S16 255#32)) (broadcast S16 127#32)] (idx_ok (shrsi w11 (broadcast S16 0#32)) 44#32 (by decide))))
      (loadIdx f ![broadcast S16 48#32, shrsi (andi (shrsi w12 (broadcast S16 0#32)) (broadcast S16 255#32)) (broadcast S16 7#32), andi (andi (shrsi w12 (broadcast S16 0#32)) (broadcast S16 255#32)) (broadcast S16 127#32)] (idx_ok (shrsi w12 (broadcast S16 0#32)) 48#32 (by decide))))
      (loadIdx f ![broadcast S16 52#32, shrsi (andi (shrsi w13 (broadcast S16 0#32)) (broadcast S16 255#32)) (broadcast S16 7#32), andi (andi (shrsi w13 (broadcast S16 0#32)) (broadcast S16 255#32)) (broadcast S16 127#32)] (idx_ok (shrsi w13 (broadcast S16 0#32)) 52#32 (by decide))))
      (loadIdx f ![broadcast S16 56#32, shrsi (andi (shrsi w14 (broadcast S16 0#32)) (broadcast S16 255#32)) (broadcast S16 7#32), andi (andi (shrsi w14 (broadcast S16 0#32)) (broadcast S16 255#32)) (broadcast S16 127#32)] (idx_ok (shrsi w14 (broadcast S16 0#32)) 56#32 (by decide))))
      (loadIdx f ![broadcast S16 60#32, shrsi (andi (shrsi w15 (broadcast S16 0#32)) (broadcast S16 255#32)) (broadcast S16 7#32), andi (andi (shrsi w15 (broadcast S16 0#32)) (broadcast S16 255#32)) (broadcast S16 127#32)] (idx_ok (shrsi w15 (broadcast S16 0#32)) 60#32 (by decide))))
      (loadIdx f ![broadcast S16 64#32, shrsi (andi (shrsi w16 (broadcast S16 0#32)) (broadcast S16 255#32)) (broadcast S16 7#32), andi (andi (shrsi w16 (broadcast S16 0#32)) (broadcast S16 255#32)) (broadcast S16 127#32)] (idx_ok (shrsi w16 (broadcast S16 0#32)) 64#32 (by decide))))
      (loadIdx f ![broadcast S16 68#32, shrsi (andi (shrsi w17 (broadcast S16 0#32)) (broadcast S16 255#32)) (broadcast S16 7#32), andi (andi (shrsi w17 (broadcast S16 0#32)) (broadcast S16 255#32)) (broadcast S16 127#32)] (idx_ok (shrsi w17 (broadcast S16 0#32)) 68#32 (by decide))))
      (loadIdx f ![broadcast S16 72#32, shrsi (andi (shrsi w18 (broadcast S16 0#32)) (broadcast S16 255#32)) (broadcast S16 7#32), andi (andi (shrsi w18 (broadcast S16 0#32)) (broadcast S16 255#32)) (broadcast S16 127#32)] (idx_ok (shrsi w18 (broadcast S16 0#32)) 72#32 (by decide))))
      (loadIdx f ![broadcast S16 76#32, shrsi (andi (shrsi w19 (broadcast S16 0#32)) (broadcast S16 255#32)) (broadcast S16 7#32), andi (andi (shrsi w19 (broadcast S16 0#32)) (broadcast S16 255#32)) (broadcast S16 127#32)] (idx_ok (shrsi w19 (broadcast S16 0#32)) 76#32 (by decide))))
      (loadIdx f ![broadcast S16 80#32, shrsi (andi (shrsi w20 (broadcast S16 0#32)) (broadcast S16 255#32)) (broadcast S16 7#32), andi (andi (shrsi w20 (broadcast S16 0#32)) (broadcast S16 255#32)) (broadcast S16 127#32)] (idx_ok (shrsi w20 (broadcast S16 0#32)) 80#32 (by decide))))
      (loadIdx f ![broadcast S16 84#32, shrsi (andi (shrsi w21 (broadcast S16 0#32)) (broadcast S16 255#32)) (broadcast S16 7#32), andi (andi (shrsi w21 (broadcast S16 0#32)) (broadcast S16 255#32)) (broadcast S16 127#32)] (idx_ok (shrsi w21 (broadcast S16 0#32)) 84#32 (by decide))))
      (loadIdx f ![broadcast S16 88#32, shrsi (andi (shrsi w22 (broadcast S16 0#32)) (broadcast S16 255#32)) (broadcast S16 7#32), andi (andi (shrsi w22 (broadcast S16 0#32)) (broadcast S16 255#32)) (broadcast S16 127#32)] (idx_ok (shrsi w22 (broadcast S16 0#32)) 88#32 (by decide))))
      (loadIdx f ![broadcast S16 92#32, shrsi (andi (shrsi w23 (broadcast S16 0#32)) (broadcast S16 255#32)) (broadcast S16 7#32), andi (andi (shrsi w23 (broadcast S16 0#32)) (broadcast S16 255#32)) (broadcast S16 127#32)] (idx_ok (shrsi w23 (broadcast S16 0#32)) 92#32 (by decide))))
def lane1 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 1#32, shrsi (andi (shrsi w0 (broadcast S16 8#32)) (broadcast S16 255#32)) (broadcast S16 7#32), andi (andi (shrsi w0 (broadcast S16 8#32)) (broadcast S16 255#32)) (broadcast S16 127#32)] (idx_ok (shrsi w0 (broadcast S16 8#32)) 1#32 (by decide)))
      (loadIdx f ![broadcast S16 5#32, shrsi (andi (shrsi w1 (broadcast S16 8#32)) (broadcast S16 255#32)) (broadcast S16 7#32), andi (andi (shrsi w1 (broadcast S16 8#32)) (broadcast S16 255#32)) (broadcast S16 127#32)] (idx_ok (shrsi w1 (broadcast S16 8#32)) 5#32 (by decide))))
      (loadIdx f ![broadcast S16 9#32, shrsi (andi (shrsi w2 (broadcast S16 8#32)) (broadcast S16 255#32)) (broadcast S16 7#32), andi (andi (shrsi w2 (broadcast S16 8#32)) (broadcast S16 255#32)) (broadcast S16 127#32)] (idx_ok (shrsi w2 (broadcast S16 8#32)) 9#32 (by decide))))
      (loadIdx f ![broadcast S16 13#32, shrsi (andi (shrsi w3 (broadcast S16 8#32)) (broadcast S16 255#32)) (broadcast S16 7#32), andi (andi (shrsi w3 (broadcast S16 8#32)) (broadcast S16 255#32)) (broadcast S16 127#32)] (idx_ok (shrsi w3 (broadcast S16 8#32)) 13#32 (by decide))))
      (loadIdx f ![broadcast S16 17#32, shrsi (andi (shrsi w4 (broadcast S16 8#32)) (broadcast S16 255#32)) (broadcast S16 7#32), andi (andi (shrsi w4 (broadcast S16 8#32)) (broadcast S16 255#32)) (broadcast S16 127#32)] (idx_ok (shrsi w4 (broadcast S16 8#32)) 17#32 (by decide))))
      (loadIdx f ![broadcast S16 21#32, shrsi (andi (shrsi w5 (broadcast S16 8#32)) (broadcast S16 255#32)) (broadcast S16 7#32), andi (andi (shrsi w5 (broadcast S16 8#32)) (broadcast S16 255#32)) (broadcast S16 127#32)] (idx_ok (shrsi w5 (broadcast S16 8#32)) 21#32 (by decide))))
      (loadIdx f ![broadcast S16 25#32, shrsi (andi (shrsi w6 (broadcast S16 8#32)) (broadcast S16 255#32)) (broadcast S16 7#32), andi (andi (shrsi w6 (broadcast S16 8#32)) (broadcast S16 255#32)) (broadcast S16 127#32)] (idx_ok (shrsi w6 (broadcast S16 8#32)) 25#32 (by decide))))
      (loadIdx f ![broadcast S16 29#32, shrsi (andi (shrsi w7 (broadcast S16 8#32)) (broadcast S16 255#32)) (broadcast S16 7#32), andi (andi (shrsi w7 (broadcast S16 8#32)) (broadcast S16 255#32)) (broadcast S16 127#32)] (idx_ok (shrsi w7 (broadcast S16 8#32)) 29#32 (by decide))))
      (loadIdx f ![broadcast S16 33#32, shrsi (andi (shrsi w8 (broadcast S16 8#32)) (broadcast S16 255#32)) (broadcast S16 7#32), andi (andi (shrsi w8 (broadcast S16 8#32)) (broadcast S16 255#32)) (broadcast S16 127#32)] (idx_ok (shrsi w8 (broadcast S16 8#32)) 33#32 (by decide))))
      (loadIdx f ![broadcast S16 37#32, shrsi (andi (shrsi w9 (broadcast S16 8#32)) (broadcast S16 255#32)) (broadcast S16 7#32), andi (andi (shrsi w9 (broadcast S16 8#32)) (broadcast S16 255#32)) (broadcast S16 127#32)] (idx_ok (shrsi w9 (broadcast S16 8#32)) 37#32 (by decide))))
      (loadIdx f ![broadcast S16 41#32, shrsi (andi (shrsi w10 (broadcast S16 8#32)) (broadcast S16 255#32)) (broadcast S16 7#32), andi (andi (shrsi w10 (broadcast S16 8#32)) (broadcast S16 255#32)) (broadcast S16 127#32)] (idx_ok (shrsi w10 (broadcast S16 8#32)) 41#32 (by decide))))
      (loadIdx f ![broadcast S16 45#32, shrsi (andi (shrsi w11 (broadcast S16 8#32)) (broadcast S16 255#32)) (broadcast S16 7#32), andi (andi (shrsi w11 (broadcast S16 8#32)) (broadcast S16 255#32)) (broadcast S16 127#32)] (idx_ok (shrsi w11 (broadcast S16 8#32)) 45#32 (by decide))))
      (loadIdx f ![broadcast S16 49#32, shrsi (andi (shrsi w12 (broadcast S16 8#32)) (broadcast S16 255#32)) (broadcast S16 7#32), andi (andi (shrsi w12 (broadcast S16 8#32)) (broadcast S16 255#32)) (broadcast S16 127#32)] (idx_ok (shrsi w12 (broadcast S16 8#32)) 49#32 (by decide))))
      (loadIdx f ![broadcast S16 53#32, shrsi (andi (shrsi w13 (broadcast S16 8#32)) (broadcast S16 255#32)) (broadcast S16 7#32), andi (andi (shrsi w13 (broadcast S16 8#32)) (broadcast S16 255#32)) (broadcast S16 127#32)] (idx_ok (shrsi w13 (broadcast S16 8#32)) 53#32 (by decide))))
      (loadIdx f ![broadcast S16 57#32, shrsi (andi (shrsi w14 (broadcast S16 8#32)) (broadcast S16 255#32)) (broadcast S16 7#32), andi (andi (shrsi w14 (broadcast S16 8#32)) (broadcast S16 255#32)) (broadcast S16 127#32)] (idx_ok (shrsi w14 (broadcast S16 8#32)) 57#32 (by decide))))
      (loadIdx f ![broadcast S16 61#32, shrsi (andi (shrsi w15 (broadcast S16 8#32)) (broadcast S16 255#32)) (broadcast S16 7#32), andi (andi (shrsi w15 (broadcast S16 8#32)) (broadcast S16 255#32)) (broadcast S16 127#32)] (idx_ok (shrsi w15 (broadcast S16 8#32)) 61#32 (by decide))))
      (loadIdx f ![broadcast S16 65#32, shrsi (andi (shrsi w16 (broadcast S16 8#32)) (broadcast S16 255#32)) (broadcast S16 7#32), andi (andi (shrsi w16 (broadcast S16 8#32)) (broadcast S16 255#32)) (broadcast S16 127#32)] (idx_ok (shrsi w16 (broadcast S16 8#32)) 65#32 (by decide))))
      (loadIdx f ![broadcast S16 69#32, shrsi (andi (shrsi w17 (broadcast S16 8#32)) (broadcast S16 255#32)) (broadcast S16 7#32), andi (andi (shrsi w17 (broadcast S16 8#32)) (broadcast S16 255#32)) (broadcast S16 127#32)] (idx_ok (shrsi w17 (broadcast S16 8#32)) 69#32 (by decide))))
      (loadIdx f ![broadcast S16 73#32, shrsi (andi (shrsi w18 (broadcast S16 8#32)) (broadcast S16 255#32)) (broadcast S16 7#32), andi (andi (shrsi w18 (broadcast S16 8#32)) (broadcast S16 255#32)) (broadcast S16 127#32)] (idx_ok (shrsi w18 (broadcast S16 8#32)) 73#32 (by decide))))
      (loadIdx f ![broadcast S16 77#32, shrsi (andi (shrsi w19 (broadcast S16 8#32)) (broadcast S16 255#32)) (broadcast S16 7#32), andi (andi (shrsi w19 (broadcast S16 8#32)) (broadcast S16 255#32)) (broadcast S16 127#32)] (idx_ok (shrsi w19 (broadcast S16 8#32)) 77#32 (by decide))))
      (loadIdx f ![broadcast S16 81#32, shrsi (andi (shrsi w20 (broadcast S16 8#32)) (broadcast S16 255#32)) (broadcast S16 7#32), andi (andi (shrsi w20 (broadcast S16 8#32)) (broadcast S16 255#32)) (broadcast S16 127#32)] (idx_ok (shrsi w20 (broadcast S16 8#32)) 81#32 (by decide))))
      (loadIdx f ![broadcast S16 85#32, shrsi (andi (shrsi w21 (broadcast S16 8#32)) (broadcast S16 255#32)) (broadcast S16 7#32), andi (andi (shrsi w21 (broadcast S16 8#32)) (broadcast S16 255#32)) (broadcast S16 127#32)] (idx_ok (shrsi w21 (broadcast S16 8#32)) 85#32 (by decide))))
      (loadIdx f ![broadcast S16 89#32, shrsi (andi (shrsi w22 (broadcast S16 8#32)) (broadcast S16 255#32)) (broadcast S16 7#32), andi (andi (shrsi w22 (broadcast S16 8#32)) (broadcast S16 255#32)) (broadcast S16 127#32)] (idx_ok (shrsi w22 (broadcast S16 8#32)) 89#32 (by decide))))
      (loadIdx f ![broadcast S16 93#32, shrsi (andi (shrsi w23 (broadcast S16 8#32)) (broadcast S16 255#32)) (broadcast S16 7#32), andi (andi (shrsi w23 (broadcast S16 8#32)) (broadcast S16 255#32)) (broadcast S16 127#32)] (idx_ok (shrsi w23 (broadcast S16 8#32)) 93#32 (by decide))))
def lane2 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 2#32, shrsi (andi (shrsi w0 (broadcast S16 16#32)) (broadcast S16 255#32)) (broadcast S16 7#32), andi (andi (shrsi w0 (broadcast S16 16#32)) (broadcast S16 255#32)) (broadcast S16 127#32)] (idx_ok (shrsi w0 (broadcast S16 16#32)) 2#32 (by decide)))
      (loadIdx f ![broadcast S16 6#32, shrsi (andi (shrsi w1 (broadcast S16 16#32)) (broadcast S16 255#32)) (broadcast S16 7#32), andi (andi (shrsi w1 (broadcast S16 16#32)) (broadcast S16 255#32)) (broadcast S16 127#32)] (idx_ok (shrsi w1 (broadcast S16 16#32)) 6#32 (by decide))))
      (loadIdx f ![broadcast S16 10#32, shrsi (andi (shrsi w2 (broadcast S16 16#32)) (broadcast S16 255#32)) (broadcast S16 7#32), andi (andi (shrsi w2 (broadcast S16 16#32)) (broadcast S16 255#32)) (broadcast S16 127#32)] (idx_ok (shrsi w2 (broadcast S16 16#32)) 10#32 (by decide))))
      (loadIdx f ![broadcast S16 14#32, shrsi (andi (shrsi w3 (broadcast S16 16#32)) (broadcast S16 255#32)) (broadcast S16 7#32), andi (andi (shrsi w3 (broadcast S16 16#32)) (broadcast S16 255#32)) (broadcast S16 127#32)] (idx_ok (shrsi w3 (broadcast S16 16#32)) 14#32 (by decide))))
      (loadIdx f ![broadcast S16 18#32, shrsi (andi (shrsi w4 (broadcast S16 16#32)) (broadcast S16 255#32)) (broadcast S16 7#32), andi (andi (shrsi w4 (broadcast S16 16#32)) (broadcast S16 255#32)) (broadcast S16 127#32)] (idx_ok (shrsi w4 (broadcast S16 16#32)) 18#32 (by decide))))
      (loadIdx f ![broadcast S16 22#32, shrsi (andi (shrsi w5 (broadcast S16 16#32)) (broadcast S16 255#32)) (broadcast S16 7#32), andi (andi (shrsi w5 (broadcast S16 16#32)) (broadcast S16 255#32)) (broadcast S16 127#32)] (idx_ok (shrsi w5 (broadcast S16 16#32)) 22#32 (by decide))))
      (loadIdx f ![broadcast S16 26#32, shrsi (andi (shrsi w6 (broadcast S16 16#32)) (broadcast S16 255#32)) (broadcast S16 7#32), andi (andi (shrsi w6 (broadcast S16 16#32)) (broadcast S16 255#32)) (broadcast S16 127#32)] (idx_ok (shrsi w6 (broadcast S16 16#32)) 26#32 (by decide))))
      (loadIdx f ![broadcast S16 30#32, shrsi (andi (shrsi w7 (broadcast S16 16#32)) (broadcast S16 255#32)) (broadcast S16 7#32), andi (andi (shrsi w7 (broadcast S16 16#32)) (broadcast S16 255#32)) (broadcast S16 127#32)] (idx_ok (shrsi w7 (broadcast S16 16#32)) 30#32 (by decide))))
      (loadIdx f ![broadcast S16 34#32, shrsi (andi (shrsi w8 (broadcast S16 16#32)) (broadcast S16 255#32)) (broadcast S16 7#32), andi (andi (shrsi w8 (broadcast S16 16#32)) (broadcast S16 255#32)) (broadcast S16 127#32)] (idx_ok (shrsi w8 (broadcast S16 16#32)) 34#32 (by decide))))
      (loadIdx f ![broadcast S16 38#32, shrsi (andi (shrsi w9 (broadcast S16 16#32)) (broadcast S16 255#32)) (broadcast S16 7#32), andi (andi (shrsi w9 (broadcast S16 16#32)) (broadcast S16 255#32)) (broadcast S16 127#32)] (idx_ok (shrsi w9 (broadcast S16 16#32)) 38#32 (by decide))))
      (loadIdx f ![broadcast S16 42#32, shrsi (andi (shrsi w10 (broadcast S16 16#32)) (broadcast S16 255#32)) (broadcast S16 7#32), andi (andi (shrsi w10 (broadcast S16 16#32)) (broadcast S16 255#32)) (broadcast S16 127#32)] (idx_ok (shrsi w10 (broadcast S16 16#32)) 42#32 (by decide))))
      (loadIdx f ![broadcast S16 46#32, shrsi (andi (shrsi w11 (broadcast S16 16#32)) (broadcast S16 255#32)) (broadcast S16 7#32), andi (andi (shrsi w11 (broadcast S16 16#32)) (broadcast S16 255#32)) (broadcast S16 127#32)] (idx_ok (shrsi w11 (broadcast S16 16#32)) 46#32 (by decide))))
      (loadIdx f ![broadcast S16 50#32, shrsi (andi (shrsi w12 (broadcast S16 16#32)) (broadcast S16 255#32)) (broadcast S16 7#32), andi (andi (shrsi w12 (broadcast S16 16#32)) (broadcast S16 255#32)) (broadcast S16 127#32)] (idx_ok (shrsi w12 (broadcast S16 16#32)) 50#32 (by decide))))
      (loadIdx f ![broadcast S16 54#32, shrsi (andi (shrsi w13 (broadcast S16 16#32)) (broadcast S16 255#32)) (broadcast S16 7#32), andi (andi (shrsi w13 (broadcast S16 16#32)) (broadcast S16 255#32)) (broadcast S16 127#32)] (idx_ok (shrsi w13 (broadcast S16 16#32)) 54#32 (by decide))))
      (loadIdx f ![broadcast S16 58#32, shrsi (andi (shrsi w14 (broadcast S16 16#32)) (broadcast S16 255#32)) (broadcast S16 7#32), andi (andi (shrsi w14 (broadcast S16 16#32)) (broadcast S16 255#32)) (broadcast S16 127#32)] (idx_ok (shrsi w14 (broadcast S16 16#32)) 58#32 (by decide))))
      (loadIdx f ![broadcast S16 62#32, shrsi (andi (shrsi w15 (broadcast S16 16#32)) (broadcast S16 255#32)) (broadcast S16 7#32), andi (andi (shrsi w15 (broadcast S16 16#32)) (broadcast S16 255#32)) (broadcast S16 127#32)] (idx_ok (shrsi w15 (broadcast S16 16#32)) 62#32 (by decide))))
      (loadIdx f ![broadcast S16 66#32, shrsi (andi (shrsi w16 (broadcast S16 16#32)) (broadcast S16 255#32)) (broadcast S16 7#32), andi (andi (shrsi w16 (broadcast S16 16#32)) (broadcast S16 255#32)) (broadcast S16 127#32)] (idx_ok (shrsi w16 (broadcast S16 16#32)) 66#32 (by decide))))
      (loadIdx f ![broadcast S16 70#32, shrsi (andi (shrsi w17 (broadcast S16 16#32)) (broadcast S16 255#32)) (broadcast S16 7#32), andi (andi (shrsi w17 (broadcast S16 16#32)) (broadcast S16 255#32)) (broadcast S16 127#32)] (idx_ok (shrsi w17 (broadcast S16 16#32)) 70#32 (by decide))))
      (loadIdx f ![broadcast S16 74#32, shrsi (andi (shrsi w18 (broadcast S16 16#32)) (broadcast S16 255#32)) (broadcast S16 7#32), andi (andi (shrsi w18 (broadcast S16 16#32)) (broadcast S16 255#32)) (broadcast S16 127#32)] (idx_ok (shrsi w18 (broadcast S16 16#32)) 74#32 (by decide))))
      (loadIdx f ![broadcast S16 78#32, shrsi (andi (shrsi w19 (broadcast S16 16#32)) (broadcast S16 255#32)) (broadcast S16 7#32), andi (andi (shrsi w19 (broadcast S16 16#32)) (broadcast S16 255#32)) (broadcast S16 127#32)] (idx_ok (shrsi w19 (broadcast S16 16#32)) 78#32 (by decide))))
      (loadIdx f ![broadcast S16 82#32, shrsi (andi (shrsi w20 (broadcast S16 16#32)) (broadcast S16 255#32)) (broadcast S16 7#32), andi (andi (shrsi w20 (broadcast S16 16#32)) (broadcast S16 255#32)) (broadcast S16 127#32)] (idx_ok (shrsi w20 (broadcast S16 16#32)) 82#32 (by decide))))
      (loadIdx f ![broadcast S16 86#32, shrsi (andi (shrsi w21 (broadcast S16 16#32)) (broadcast S16 255#32)) (broadcast S16 7#32), andi (andi (shrsi w21 (broadcast S16 16#32)) (broadcast S16 255#32)) (broadcast S16 127#32)] (idx_ok (shrsi w21 (broadcast S16 16#32)) 86#32 (by decide))))
      (loadIdx f ![broadcast S16 90#32, shrsi (andi (shrsi w22 (broadcast S16 16#32)) (broadcast S16 255#32)) (broadcast S16 7#32), andi (andi (shrsi w22 (broadcast S16 16#32)) (broadcast S16 255#32)) (broadcast S16 127#32)] (idx_ok (shrsi w22 (broadcast S16 16#32)) 90#32 (by decide))))
      (loadIdx f ![broadcast S16 94#32, shrsi (andi (shrsi w23 (broadcast S16 16#32)) (broadcast S16 255#32)) (broadcast S16 7#32), andi (andi (shrsi w23 (broadcast S16 16#32)) (broadcast S16 255#32)) (broadcast S16 127#32)] (idx_ok (shrsi w23 (broadcast S16 16#32)) 94#32 (by decide))))
def lane3 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 3#32, shrsi (andi (shrsi w0 (broadcast S16 24#32)) (broadcast S16 255#32)) (broadcast S16 7#32), andi (andi (shrsi w0 (broadcast S16 24#32)) (broadcast S16 255#32)) (broadcast S16 127#32)] (idx_ok (shrsi w0 (broadcast S16 24#32)) 3#32 (by decide)))
      (loadIdx f ![broadcast S16 7#32, shrsi (andi (shrsi w1 (broadcast S16 24#32)) (broadcast S16 255#32)) (broadcast S16 7#32), andi (andi (shrsi w1 (broadcast S16 24#32)) (broadcast S16 255#32)) (broadcast S16 127#32)] (idx_ok (shrsi w1 (broadcast S16 24#32)) 7#32 (by decide))))
      (loadIdx f ![broadcast S16 11#32, shrsi (andi (shrsi w2 (broadcast S16 24#32)) (broadcast S16 255#32)) (broadcast S16 7#32), andi (andi (shrsi w2 (broadcast S16 24#32)) (broadcast S16 255#32)) (broadcast S16 127#32)] (idx_ok (shrsi w2 (broadcast S16 24#32)) 11#32 (by decide))))
      (loadIdx f ![broadcast S16 15#32, shrsi (andi (shrsi w3 (broadcast S16 24#32)) (broadcast S16 255#32)) (broadcast S16 7#32), andi (andi (shrsi w3 (broadcast S16 24#32)) (broadcast S16 255#32)) (broadcast S16 127#32)] (idx_ok (shrsi w3 (broadcast S16 24#32)) 15#32 (by decide))))
      (loadIdx f ![broadcast S16 19#32, shrsi (andi (shrsi w4 (broadcast S16 24#32)) (broadcast S16 255#32)) (broadcast S16 7#32), andi (andi (shrsi w4 (broadcast S16 24#32)) (broadcast S16 255#32)) (broadcast S16 127#32)] (idx_ok (shrsi w4 (broadcast S16 24#32)) 19#32 (by decide))))
      (loadIdx f ![broadcast S16 23#32, shrsi (andi (shrsi w5 (broadcast S16 24#32)) (broadcast S16 255#32)) (broadcast S16 7#32), andi (andi (shrsi w5 (broadcast S16 24#32)) (broadcast S16 255#32)) (broadcast S16 127#32)] (idx_ok (shrsi w5 (broadcast S16 24#32)) 23#32 (by decide))))
      (loadIdx f ![broadcast S16 27#32, shrsi (andi (shrsi w6 (broadcast S16 24#32)) (broadcast S16 255#32)) (broadcast S16 7#32), andi (andi (shrsi w6 (broadcast S16 24#32)) (broadcast S16 255#32)) (broadcast S16 127#32)] (idx_ok (shrsi w6 (broadcast S16 24#32)) 27#32 (by decide))))
      (loadIdx f ![broadcast S16 31#32, shrsi (andi (shrsi w7 (broadcast S16 24#32)) (broadcast S16 255#32)) (broadcast S16 7#32), andi (andi (shrsi w7 (broadcast S16 24#32)) (broadcast S16 255#32)) (broadcast S16 127#32)] (idx_ok (shrsi w7 (broadcast S16 24#32)) 31#32 (by decide))))
      (loadIdx f ![broadcast S16 35#32, shrsi (andi (shrsi w8 (broadcast S16 24#32)) (broadcast S16 255#32)) (broadcast S16 7#32), andi (andi (shrsi w8 (broadcast S16 24#32)) (broadcast S16 255#32)) (broadcast S16 127#32)] (idx_ok (shrsi w8 (broadcast S16 24#32)) 35#32 (by decide))))
      (loadIdx f ![broadcast S16 39#32, shrsi (andi (shrsi w9 (broadcast S16 24#32)) (broadcast S16 255#32)) (broadcast S16 7#32), andi (andi (shrsi w9 (broadcast S16 24#32)) (broadcast S16 255#32)) (broadcast S16 127#32)] (idx_ok (shrsi w9 (broadcast S16 24#32)) 39#32 (by decide))))
      (loadIdx f ![broadcast S16 43#32, shrsi (andi (shrsi w10 (broadcast S16 24#32)) (broadcast S16 255#32)) (broadcast S16 7#32), andi (andi (shrsi w10 (broadcast S16 24#32)) (broadcast S16 255#32)) (broadcast S16 127#32)] (idx_ok (shrsi w10 (broadcast S16 24#32)) 43#32 (by decide))))
      (loadIdx f ![broadcast S16 47#32, shrsi (andi (shrsi w11 (broadcast S16 24#32)) (broadcast S16 255#32)) (broadcast S16 7#32), andi (andi (shrsi w11 (broadcast S16 24#32)) (broadcast S16 255#32)) (broadcast S16 127#32)] (idx_ok (shrsi w11 (broadcast S16 24#32)) 47#32 (by decide))))
      (loadIdx f ![broadcast S16 51#32, shrsi (andi (shrsi w12 (broadcast S16 24#32)) (broadcast S16 255#32)) (broadcast S16 7#32), andi (andi (shrsi w12 (broadcast S16 24#32)) (broadcast S16 255#32)) (broadcast S16 127#32)] (idx_ok (shrsi w12 (broadcast S16 24#32)) 51#32 (by decide))))
      (loadIdx f ![broadcast S16 55#32, shrsi (andi (shrsi w13 (broadcast S16 24#32)) (broadcast S16 255#32)) (broadcast S16 7#32), andi (andi (shrsi w13 (broadcast S16 24#32)) (broadcast S16 255#32)) (broadcast S16 127#32)] (idx_ok (shrsi w13 (broadcast S16 24#32)) 55#32 (by decide))))
      (loadIdx f ![broadcast S16 59#32, shrsi (andi (shrsi w14 (broadcast S16 24#32)) (broadcast S16 255#32)) (broadcast S16 7#32), andi (andi (shrsi w14 (broadcast S16 24#32)) (broadcast S16 255#32)) (broadcast S16 127#32)] (idx_ok (shrsi w14 (broadcast S16 24#32)) 59#32 (by decide))))
      (loadIdx f ![broadcast S16 63#32, shrsi (andi (shrsi w15 (broadcast S16 24#32)) (broadcast S16 255#32)) (broadcast S16 7#32), andi (andi (shrsi w15 (broadcast S16 24#32)) (broadcast S16 255#32)) (broadcast S16 127#32)] (idx_ok (shrsi w15 (broadcast S16 24#32)) 63#32 (by decide))))
      (loadIdx f ![broadcast S16 67#32, shrsi (andi (shrsi w16 (broadcast S16 24#32)) (broadcast S16 255#32)) (broadcast S16 7#32), andi (andi (shrsi w16 (broadcast S16 24#32)) (broadcast S16 255#32)) (broadcast S16 127#32)] (idx_ok (shrsi w16 (broadcast S16 24#32)) 67#32 (by decide))))
      (loadIdx f ![broadcast S16 71#32, shrsi (andi (shrsi w17 (broadcast S16 24#32)) (broadcast S16 255#32)) (broadcast S16 7#32), andi (andi (shrsi w17 (broadcast S16 24#32)) (broadcast S16 255#32)) (broadcast S16 127#32)] (idx_ok (shrsi w17 (broadcast S16 24#32)) 71#32 (by decide))))
      (loadIdx f ![broadcast S16 75#32, shrsi (andi (shrsi w18 (broadcast S16 24#32)) (broadcast S16 255#32)) (broadcast S16 7#32), andi (andi (shrsi w18 (broadcast S16 24#32)) (broadcast S16 255#32)) (broadcast S16 127#32)] (idx_ok (shrsi w18 (broadcast S16 24#32)) 75#32 (by decide))))
      (loadIdx f ![broadcast S16 79#32, shrsi (andi (shrsi w19 (broadcast S16 24#32)) (broadcast S16 255#32)) (broadcast S16 7#32), andi (andi (shrsi w19 (broadcast S16 24#32)) (broadcast S16 255#32)) (broadcast S16 127#32)] (idx_ok (shrsi w19 (broadcast S16 24#32)) 79#32 (by decide))))
      (loadIdx f ![broadcast S16 83#32, shrsi (andi (shrsi w20 (broadcast S16 24#32)) (broadcast S16 255#32)) (broadcast S16 7#32), andi (andi (shrsi w20 (broadcast S16 24#32)) (broadcast S16 255#32)) (broadcast S16 127#32)] (idx_ok (shrsi w20 (broadcast S16 24#32)) 83#32 (by decide))))
      (loadIdx f ![broadcast S16 87#32, shrsi (andi (shrsi w21 (broadcast S16 24#32)) (broadcast S16 255#32)) (broadcast S16 7#32), andi (andi (shrsi w21 (broadcast S16 24#32)) (broadcast S16 255#32)) (broadcast S16 127#32)] (idx_ok (shrsi w21 (broadcast S16 24#32)) 87#32 (by decide))))
      (loadIdx f ![broadcast S16 91#32, shrsi (andi (shrsi w22 (broadcast S16 24#32)) (broadcast S16 255#32)) (broadcast S16 7#32), andi (andi (shrsi w22 (broadcast S16 24#32)) (broadcast S16 255#32)) (broadcast S16 127#32)] (idx_ok (shrsi w22 (broadcast S16 24#32)) 91#32 (by decide))))
      (loadIdx f ![broadcast S16 95#32, shrsi (andi (shrsi w23 (broadcast S16 24#32)) (broadcast S16 255#32)) (broadcast S16 7#32), andi (andi (shrsi w23 (broadcast S16 24#32)) (broadcast S16 255#32)) (broadcast S16 127#32)] (idx_ok (shrsi w23 (broadcast S16 24#32)) 95#32 (by decide))))

/-- The masked distances with the lane sums written out. -/
def spelt (v3 : IVec S16 32) (v23 v39 : BitVec 32) (f : Vec F S96x2x128 .f32) (w0 w1 w2 w3 w4 w5 w6 w7 w8 w9 w10 w11 w12 w13 w14 w15 w16 w17 w18 w19 w20 w21 w22 w23 : IVec S16 32) : FVec F S16 .f32 :=
  select (cmpi .slt (addi v3 (broadcast S16 (Scalar.muli v39 16#32))) (broadcast S16 v23))
    (addf (addf (lane0 f w0 w1 w2 w3 w4 w5 w6 w7 w8 w9 w10 w11 w12 w13 w14 w15 w16 w17 w18 w19 w20 w21 w22 w23) (lane1 f w0 w1 w2 w3 w4 w5 w6 w7 w8 w9 w10 w11 w12 w13 w14 w15 w16 w17 w18 w19 w20 w21 w22 w23)) (addf (lane2 f w0 w1 w2 w3 w4 w5 w6 w7 w8 w9 w10 w11 w12 w13 w14 w15 w16 w17 w18 w19 w20 w21 w22 w23) (lane3 f w0 w1 w2 w3 w4 w5 w6 w7 w8 w9 w10 w11 w12 w13 w14 w15 w16 w17 w18 w19 w20 w21 w22 w23))) (broadcast S16 (FloatOps.ofBits .f32 0#32))

theorem masked_spelt (v3 : IVec S16 32) (v23 v39 : BitVec 32) (f : Vec F S96x2x128 .f32) (W : Fin 24 → IVec S16 32) :
    masked v3 v23 v39 f W = spelt v3 v23 v39 f (W 0) (W 1) (W 2) (W 3) (W 4) (W 5) (W 6) (W 7) (W 8) (W 9) (W 10) (W 11) (W 12) (W 13) (W 14) (W 15) (W 16) (W 17) (W 18) (W 19) (W 20) (W 21) (W 22) (W 23) := by
  unfold masked total spelt lane0 lane1 lane2 lane3
  simp only [accN]
  rfl

set_option maxRecDepth 100000 in
set_option maxHeartbeats 1000000 in
/-- One trip over sixteen slots leaves their results in the row. -/
theorem pick_trip (v3 : IVec S16 32) (v19 : BitVec 32) (h3 : k0_chk3 v19) (v21 : BitVec 32) (h197 : k0_chk197 v19 v21) (v23 : BitVec 32) (h4 : k0_chk4 v23)
    (hv : v23.toNat ≤ 1536) (e : Buf (Elt F) (s0V.view.loc (tt d L))) (f : Buf (Elt F) (s1V.view.loc (tt d L))) (g : Buf (Elt F) (s3V.view.loc (tt d L)))
    (t : Fin (k0_t4_loop v23).trips) :
    iprop((s0V.view.loc (tt d L) ↦{fullShare} e) ∗ (s1V.view.loc (tt d L) ↦{fullShare} f) ∗ (s3V.view.loc (tt d L) ↦{fullShare} g) : sProp (MM F))
      ⊢ wp frame (wpE (defs₀ (F := F)) 𝒱₀ (tt d L) none) Set.univ
          (k0_t4_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 t ⟨⟩)
          fun _ => iprop((s0V.view.loc (tt d L) ↦{fullShare} e) ∗ (s1V.view.loc (tt d L) ↦{fullShare} f)
            ∗ (s3V.view.loc (tt d L) ↦{fullShare} s3V.view.writes (Elt F) g
                [⟨Rect.unit (s := S1536) (k0_off80 v23 t) S16.size (k0_off80_inb v23 h4 t),
                  masked v3 v23 (Scalar.addi 0#32 (Scalar.muli (Scf.iv 0#32 1#32 t) 1#32)) (View.readAt (Elt F) s1V.view (LoadRect.whole S96x2x128) f) (slotWords e t.val (t4_lt hv t))⟩])) := by
  iintro ⟨H0, H1, H3⟩
  unfold k0_t4_body
  sl_exec (disch := exact idx_ok _ _ (by decide))
  repeat (unfold SparseCore.vectorLoadIdx; sl_exec (disch := exact idx_ok _ _ (by decide)))
  sl_step
  iframe H0; iframe H1
  iapply (Entails.of_eq (congrArg (fun z => (s3V.view.loc (tt d L) ↦{fullShare} s3V.view.writes (Elt F) g [⟨Rect.unit (s := S1536) (k0_off80 v23 t) S16.size (k0_off80_inb v23 h4 t), z⟩] : sProp (MM F))) ?_)) $$ H3
  rw [masked_spelt]
  rw [← codeWords_eq d L _ (k0_off56_inb v23 h4 t) e 0 t.val (t4_lt hv t) (off56_eq hv t)]
  rw [← codeWords_eq d L _ (k0_off57_inb v23 h4 t) e 1 t.val (t4_lt hv t) (off57_eq hv t)]
  rw [← codeWords_eq d L _ (k0_off58_inb v23 h4 t) e 2 t.val (t4_lt hv t) (off58_eq hv t)]
  rw [← codeWords_eq d L _ (k0_off59_inb v23 h4 t) e 3 t.val (t4_lt hv t) (off59_eq hv t)]
  rw [← codeWords_eq d L _ (k0_off60_inb v23 h4 t) e 4 t.val (t4_lt hv t) (off60_eq hv t)]
  rw [← codeWords_eq d L _ (k0_off61_inb v23 h4 t) e 5 t.val (t4_lt hv t) (off61_eq hv t)]
  rw [← codeWords_eq d L _ (k0_off62_inb v23 h4 t) e 6 t.val (t4_lt hv t) (off62_eq hv t)]
  rw [← codeWords_eq d L _ (k0_off63_inb v23 h4 t) e 7 t.val (t4_lt hv t) (off63_eq hv t)]
  rw [← codeWords_eq d L _ (k0_off64_inb v23 h4 t) e 8 t.val (t4_lt hv t) (off64_eq hv t)]
  rw [← codeWords_eq d L _ (k0_off65_inb v23 h4 t) e 9 t.val (t4_lt hv t) (off65_eq hv t)]
  rw [← codeWords_eq d L _ (k0_off66_inb v23 h4 t) e 10 t.val (t4_lt hv t) (off66_eq hv t)]
  rw [← codeWords_eq d L _ (k0_off67_inb v23 h4 t) e 11 t.val (t4_lt hv t) (off67_eq hv t)]
  rw [← codeWords_eq d L _ (k0_off68_inb v23 h4 t) e 12 t.val (t4_lt hv t) (off68_eq hv t)]
  rw [← codeWords_eq d L _ (k0_off69_inb v23 h4 t) e 13 t.val (t4_lt hv t) (off69_eq hv t)]
  rw [← codeWords_eq d L _ (k0_off70_inb v23 h4 t) e 14 t.val (t4_lt hv t) (off70_eq hv t)]
  rw [← codeWords_eq d L _ (k0_off71_inb v23 h4 t) e 15 t.val (t4_lt hv t) (off71_eq hv t)]
  rw [← codeWords_eq d L _ (k0_off72_inb v23 h4 t) e 16 t.val (t4_lt hv t) (off72_eq hv t)]
  rw [← codeWords_eq d L _ (k0_off73_inb v23 h4 t) e 17 t.val (t4_lt hv t) (off73_eq hv t)]
  rw [← codeWords_eq d L _ (k0_off74_inb v23 h4 t) e 18 t.val (t4_lt hv t) (off74_eq hv t)]
  rw [← codeWords_eq d L _ (k0_off75_inb v23 h4 t) e 19 t.val (t4_lt hv t) (off75_eq hv t)]
  rw [← codeWords_eq d L _ (k0_off76_inb v23 h4 t) e 20 t.val (t4_lt hv t) (off76_eq hv t)]
  rw [← codeWords_eq d L _ (k0_off77_inb v23 h4 t) e 21 t.val (t4_lt hv t) (off77_eq hv t)]
  rw [← codeWords_eq d L _ (k0_off78_inb v23 h4 t) e 22 t.val (t4_lt hv t) (off78_eq hv t)]
  rw [← codeWords_eq d L _ (k0_off79_inb v23 h4 t) e 23 t.val (t4_lt hv t) (off79_eq hv t)]
  unfold spelt
  delta k0_pay922
  refine congrArg (fun z => select _ z _) ?_
  show addf (addf _ _) (addf _ _) = _
  refine congrArg₂ addf (congrArg₂ addf ?_ ?_) (congrArg₂ addf ?_ ?_)
  · delta lane0
    rfl
  · delta lane1
    rfl
  · delta lane2
    rfl
  · delta lane3
    rfl

end Cert.Proof.Sc
end
end
-- ==== Proof.ScRow.lean ====
module

public import Idealize.ShloMosaic.Lib.Pipeline.ValueKit
public import Idealize.ShloMosaic.Lib.WordCmp
public import proofs.«01_k».proof.Proof.ScPick

/-! A row of sixteen-slot groups. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The row with sixteen slots from `16T` replaced. -/
def chunk (T : ℕ) (f : S1536.Idx → F .f32) (w : S16.Idx → F .f32) (x : S1536.Idx) : F .f32 :=
  if (x 0).val / 16 = T then w (ix1 ⟨(x 0).val % 16, Nat.mod_lt _ (by decide)⟩) else f x

/-- The row holding `G` in its first `T` groups of sixteen slots. -/
def rowUpTo (T : ℕ) (f G : S1536.Idx → F .f32) (x : S1536.Idx) : F .f32 := if (x 0).val / 16 < T then G x else f x

omit [FloatOps F] in
theorem rowUpTo_zero (f G : S1536.Idx → F .f32) : rowUpTo 0 f G = f := by funext x; simp [rowUpTo]

omit [FloatOps F] in
theorem rowUpTo_all (f G : S1536.Idx → F .f32) : rowUpTo 96 f G = G := by
  funext x
  have : (x 0).val < 1536 := (x 0).isLt
  unfold rowUpTo; rw [if_pos (by omega)]

omit [FloatOps F] in
theorem chunk_rowUpTo (T : ℕ) (hT : T < 96) (f G : S1536.Idx → F .f32) (w : S16.Idx → F .f32)
    (hw : ∀ i : Fin 16, w (ix1 i) = G (ix1 ⟨16 * T + i.val, by omega⟩)) : chunk T (rowUpTo T f G) w = rowUpTo (T + 1) f G := by
  funext x
  unfold chunk rowUpTo
  by_cases h : (x 0).val / 16 = T
  · rw [if_pos h, if_pos (by omega), hw]
    refine congrArg G ((eq_ix1 x).trans ?_).symm
    exact congrArg ix1 (Fin.ext (by show (x 0).val = 16 * T + (x 0).val % 16; omega))
  · rw [if_neg h]
    exact if_congr (by omega) rfl rfl

theorem chunk_write (T : ℕ) (off : Fin 1 → ℕ) (inb : ∀ a, off a + S16.size a ≤ S1536.size a) (ho : off = ![16 * T])
    (f : S1536.Idx → F .f32) (w : S16.Idx → F .f32) :
    View.read (Elt F) s3V.view (s3V.view.writes (Elt F) f [⟨Rect.unit (s := S1536) off S16.size inb, w⟩]) = chunk T f w := by
  subst ho
  funext y
  have hb : 16 * T + 16 ≤ 1536 := inb 0
  by_cases hy : (y 0).val / 16 = T
  · refine View.read_writes_apply_of_pieces (v := s3V.view) (Val := Elt F) (f := f) (chunk T f w) _
      (List.forall_mem_cons.2 ⟨?_, List.forall_mem_nil _⟩) y ⟨_, List.mem_cons_self .., ?_⟩
    · intro x
      have hx : (x 0).val < 16 := (x 0).isLt
      have e : ((((Rect.unit (s := S1536) ![16 * T] S16.size inb).emb x) 0).val) = 16 * T + (x 0).val := by
        show 16 * T + 1 * (x 0).val = _; omega
      show w x = _
      unfold chunk
      rw [if_pos (by rw [e]; omega)]
      refine congrArg w ((eq_ix1 x).trans (congrArg ix1 (Fin.ext ?_)))
      show (x 0).val = _ % 16
      rw [e]; omega
    · rw [Rect.mem_set_unit]
      intro a
      match a with
      | 0 => exact ⟨by show 16 * T ≤ (y 0).val; omega, by show (y 0).val < 16 * T + 16; omega⟩
  · refine Eq.trans (View.read_writes_apply_of_forall_not_mem (v := s3V.view) (Val := Elt F) (f := f) y _
      (List.forall_mem_cons.2 ⟨?_, List.forall_mem_nil _⟩)) ?_
    · intro h
      rw [Rect.mem_set_unit] at h
      have h0 := h 0
      have h1 : 16 * T ≤ (y 0).val := h0.1
      have h2 : (y 0).val < 16 * T + 16 := h0.2
      omega
    · show f y = _
      unfold chunk; rw [if_neg hy]

/-- A row of zeros. -/
abbrev zeroRow : S1536.Idx → F .f32 := fun _ => FloatOps.ofBits .f32 0#32

theorem t3_lt (t : Fin k0_t3_loop.trips) : t.val < 96 := t.isLt

/-- One trip of the clearing loop. -/
theorem zero_trip (v3 : IVec S16 32) (v19 : BitVec 32) (h3 : k0_chk3 v19) (v21 : BitVec 32) (h197 : k0_chk197 v19 v21) (v23 : BitVec 32) (h4 : k0_chk4 v23)
    (f : S1536.Idx → F .f32) (t : Fin k0_t3_loop.trips) :
    (s3V.view.loc (tt d L) ↦{fullShare} (rowUpTo t.val f zeroRow : S1536.Idx → F .f32) : sProp (MM F))
      ⊢ wp frame (wpE (defs₀ (F := F)) 𝒱₀ (tt d L) none) Set.univ
          (k0_t3_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 t ⟨⟩)
          fun _ => iprop(s3V.view.loc (tt d L) ↦{fullShare} (rowUpTo (t.val + 1) f zeroRow : S1536.Idx → F .f32)) := by
  iintro H
  unfold k0_t3_body
  sl_exec
  sl_step
  iapply (Entails.of_eq (congrArg (fun z => (s3V.view.loc (tt d L) ↦{fullShare} z : sProp (MM F))) ?_)) $$ H
  refine (chunk_write t.val _ _ (k0_off55_eq t) (rowUpTo t.val f zeroRow) _).trans ?_
  exact chunk_rowUpTo t.val (t3_lt t) f zeroRow _ (fun _ => rfl)

/-- A slot's result: its distance below the length, zero from there on. -/
def slotRow (n : ℕ) (T : Vec F S96x2x128 .f32) (e : S24x1536.Idx → BitVec 32) (x : S1536.Idx) : F .f32 :=
  if (x 0).val < n then total T (slotWords e ((x 0).val / 16) (by have : (x 0).val < 1536 := (x 0).isLt; omega)) (ix1 ⟨(x 0).val % 16, Nat.mod_lt _ (by decide)⟩)
  else FloatOps.ofBits .f32 0#32

omit [FloatOps F] in
theorem trip_word (t : ℕ) (ht : t < 96) : Scalar.addi 0#32 (Scalar.muli (Scf.iv 0#32 1#32 t) 1#32) = BitVec.ofNat 32 t := by
  simp [Scalar.addi, Scalar.muli, Scf.iv, IntOp.addi, IntOp.muli]

theorem masked_at (v23 : BitVec 32) (hv : v23.toNat ≤ 1536) (T : Vec F S96x2x128 .f32) (e : S24x1536.Idx → BitVec 32) (t : ℕ) (ht : t < 96) (i : Fin 16) :
    masked (iota .scVector S16 32 [0] iota_S16_d0_w32_scVector) v23 (BitVec.ofNat 32 t) T (slotWords e t ht) (ix1 i)
      = slotRow v23.toNat T e (ix1 ⟨16 * t + i.val, by omega⟩) := by
  have same : ∀ (a : ℕ) (ha : a < 96) (b : Fin 16), a = t → b = i → total T (slotWords e a ha) (ix1 b) = total T (slotWords e t ht) (ix1 i) := by
    rintro _ _ _ rfl rfl; rfl
  have hs : slotRow v23.toNat T e (ix1 ⟨16 * t + i.val, by omega⟩) = if 16 * t + i.val < v23.toNat then total T (slotWords e t ht) (ix1 i) else FloatOps.ofBits .f32 0#32 :=
    if_congr Iff.rfl (same _ _ _ (by show (16 * t + i.val) / 16 = t; omega) (Fin.ext (by show (16 * t + i.val) % 16 = i.val; omega))) rfl
  rw [hs]
  unfold masked
  show Scalar.select (IntOp.cmpi .slt (IntOp.addi (BitVec.ofNat 32 (0 * 16 + i.val)) (Scalar.muli (BitVec.ofNat 32 t) 16#32)) v23) _ _ = _
  have hw : IntOp.addi (BitVec.ofNat 32 (0 * 16 + i.val)) (Scalar.muli (BitVec.ofNat 32 t) 16#32) = BitVec.ofNat 32 (16 * t + i.val) := by
    apply BitVec.eq_of_toNat_eq
    simp [Scalar.muli, IntOp.muli, IntOp.addi]
    omega
  have hi := i.isLt
  rw [hw, Idealize.ShloMosaic.WordCmp.cmpi_slt_of_lt (by rw [BitVec.toNat_ofNat]; omega) (by omega), BitVec.toNat_ofNat, Nat.mod_eq_of_lt (by omega)]
  by_cases h : 16 * t + i.val < v23.toNat
  · rw [if_pos h, decide_eq_true h]; rfl
  · rw [if_neg h, decide_eq_false h]; rfl

/-- One trip of the gathering loop. -/
theorem slot_trip (v19 : BitVec 32) (h3 : k0_chk3 v19) (v21 : BitVec 32) (h197 : k0_chk197 v19 v21) (v23 : BitVec 32) (h4 : k0_chk4 v23)
    (hv : v23.toNat ≤ 1536) (e : Buf (Elt F) (s0V.view.loc (tt d L))) (f : Buf (Elt F) (s1V.view.loc (tt d L))) (g : S1536.Idx → F .f32)
    (t : Fin (k0_t4_loop v23).trips) :
    iprop((s0V.view.loc (tt d L) ↦{fullShare} e) ∗ (s1V.view.loc (tt d L) ↦{fullShare} f)
        ∗ (s3V.view.loc (tt d L) ↦{fullShare} (rowUpTo t.val g (slotRow v23.toNat f e) : S1536.Idx → F .f32)) : sProp (MM F))
      ⊢ wp frame (wpE (defs₀ (F := F)) 𝒱₀ (tt d L) none) Set.univ
          (k0_t4_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 (iota .scVector S16 32 [0] iota_S16_d0_w32_scVector) v19 h3 v21 h197 v23 h4 t ⟨⟩)
          fun _ => iprop((s0V.view.loc (tt d L) ↦{fullShare} e) ∗ (s1V.view.loc (tt d L) ↦{fullShare} f)
            ∗ (s3V.view.loc (tt d L) ↦{fullShare} (rowUpTo (t.val + 1) g (slotRow v23.toNat f e) : S1536.Idx → F .f32))) := by
  refine (pick_trip d L _ v19 h3 v21 h197 v23 h4 hv e f _ t).trans (wp_mono _ _ _ (fun _ => ?_))
  refine Entails.of_eq (congrArg (fun z => iprop((s0V.view.loc (tt d L) ↦{fullShare} e) ∗ (s1V.view.loc (tt d L) ↦{fullShare} f)
            ∗ (s3V.view.loc (tt d L) ↦{fullShare} z) : sProp (MM F))) ?_)
  refine (chunk_write t.val _ _ (off80_eq hv t) (rowUpTo t.val g _) _).trans ?_
  refine chunk_rowUpTo t.val (t4_lt hv t) g (slotRow v23.toNat f e) _ (fun i => ?_)
  rw [trip_word t.val (t4_lt hv t), show View.readAt (Elt F) s1V.view (LoadRect.whole S96x2x128) f = f from ?_]
  · exact masked_at v23 hv f e t.val (t4_lt hv t) i
  · funext x
    exact congrArg f (LoadRect.idx_whole (s := S96x2x128) x)

end Cert.Proof.Sc
end
end
-- ==== Proof.ScAdd.lean ====
module

public import Idealize.ShloMosaic.Lib.Pipeline.ValueKit
public import proofs.«01_k».proof.Proof.ScBase

/-! The table: the product plus the list's terms. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The half of a packed word that belongs to subspace `m`, as the upper half of a 32-bit pattern. -/
def halfWord (m : ℕ) (w : BitVec 32) : BitVec 32 :=
  if m % 2 = 0 then IntOp.shli .vector w 16#32 else IntOp.andi w 4294901760#32

theorem tabLt (y : S96x2x128.Idx) : (y 0).val < 96 ∧ (y 1).val < 2 ∧ (y 2).val < 128 := ⟨(y 0).isLt, (y 1).isLt, (y 2).isLt⟩

/-- One entry of the table: the product's entry plus the list's term. -/
def addEl (f : S96x2x128.Idx → F .f32) (g : S48x256.Idx → BitVec 32) (y : S96x2x128.Idx) : F .f32 :=
  FloatOps.addf (f y) (FloatOps.ofBits .f32 (halfWord (y 0).val
    (g (ix2 ⟨(y 0).val / 2, by have := (tabLt y).1; omega⟩ ⟨128 * (y 1).val + (y 2).val, by have := tabLt y; omega⟩))))

/-- The table when the word rows below `k` have been added. -/
def addUpTo (k : ℕ) (f : S96x2x128.Idx → F .f32) (g : S48x256.Idx → BitVec 32) (y : S96x2x128.Idx) : F .f32 :=
  if (y 0).val / 2 < k then addEl f g y else f y

/-- The table after word row `k` alone has been added. -/
def addRow (k : ℕ) (f : S96x2x128.Idx → F .f32) (g : S48x256.Idx → BitVec 32) (y : S96x2x128.Idx) : F .f32 :=
  if (y 0).val / 2 = k then addEl f g y else f y

theorem addRow_upTo (k : ℕ) (f : S96x2x128.Idx → F .f32) (g : S48x256.Idx → BitVec 32) :
    addRow k (addUpTo k f g) g = addUpTo (k + 1) f g := by
  funext y
  unfold addRow addUpTo addEl
  by_cases h : (y 0).val / 2 = k
  · simp [h]
  · simp only [h, ↓reduceIte]
    exact if_congr (by omega) rfl rfl

theorem addUpTo_zero (f : S96x2x128.Idx → F .f32) (g : S48x256.Idx → BitVec 32) : addUpTo 0 f g = f := by
  funext y; simp [addUpTo]

omit [FloatOps F] in
/-- Sixteen entries of one row of one half of the table: the elements of the rectangle. -/
theorem mem_chunk {off : Fin 3 → ℕ} {inb : ∀ a, off a + S1x1x16.size a ≤ S96x2x128.size a} {a b c : ℕ} (ho : off = ![a, b, c]) (y : S96x2x128.Idx) :
    y ∈ (Rect.unit (s := S96x2x128) off S1x1x16.size inb).set ↔ (y 0).val = a ∧ (y 1).val = b ∧ c ≤ (y 2).val ∧ (y 2).val < c + 16 := by
  subst ho
  rw [Rect.mem_set_unit]
  constructor
  · intro h
    have h0 := h 0; have h1 := h 1; have h2 := h 2
    simp at h0 h1 h2
    omega
  · rintro ⟨h0, h1, h2, h3⟩ q
    match q with
    | 0 => simp; omega
    | 1 => simp; omega
    | 2 => simp; omega

omit [FloatOps F] in
theorem cast_in (z : S1x1x16.Idx → F .f32) (i : S16.Idx) : shapeCast S16 z shapeCasts_S1x1x16_S16 i = z (ix3 0 0 (i 0)) := by
  simp only [pointwise]
omit [FloatOps F] in
theorem cast_out (z : S16.Idx → F .f32) (x : S1x1x16.Idx) : shapeCast S1x1x16 z shapeCasts_S16_S1x1x16 x = z (ix1 (x 2)) := by
  simp only [pointwise]
theorem cast_word (z : S1x16.Idx → BitVec 32) (i : S16.Idx) : shapeCast S16 z shapeCasts_S1x16_S16 i = z (ix2 0 (i 0)) := by
  simp only [pointwise]

theorem chunk_emb {off : Fin 3 → ℕ} {inb : ∀ a, off a + S1x1x16.size a ≤ S96x2x128.size a} {a b c : ℕ} (ho : off = ![a, b, c]) (x : S1x1x16.Idx) :
    (((Rect.unit (s := S96x2x128) off S1x1x16.size inb).emb x) 0).val = a ∧ (((Rect.unit (s := S96x2x128) off S1x1x16.size inb).emb x) 1).val = b
      ∧ (((Rect.unit (s := S96x2x128) off S1x1x16.size inb).emb x) 2).val = c + (x 2).val := by
  subst ho
  have h0 : (x 0).val < 1 := (x 0).isLt
  have h1 : (x 1).val < 1 := (x 1).isLt
  refine ⟨?_, ?_, ?_⟩
  · show a + 1 * (x 0).val = a; omega
  · show b + 1 * (x 1).val = b; omega
  · show c + 1 * (x 2).val = c + (x 2).val; omega

/-- What one store of the add loop puts down is the table with that row added. -/
theorem piece_at (p : ℕ) (hp : p < 2) (f : S96x2x128.Idx → F .f32) (g : S48x256.Idx → BitVec 32) (r b c e : ℕ)
    {off : Fin 3 → ℕ} {inb : ∀ a, off a + S1x1x16.size a ≤ S96x2x128.size a} (ho : off = ![2 * r + p, b, c])
    {og : Fin 2 → ℕ} {ing : ∀ a, og a + S1x16.size a ≤ S48x256.size a} (hg : og = ![r, e]) (he : e = 128 * b + c)
    (x : S1x1x16.Idx) :
    FloatOps.addf (f ((Rect.unit (s := S96x2x128) off S1x1x16.size inb).idx (ix3 0 0 (x 2))))
      (FloatOps.ofBits .f32 (halfWord p (g ((Rect.unit (s := S48x256) og S1x16.size ing).idx (ix2 0 (x 2))))))
      = addRow r f g ((Rect.unit (s := S96x2x128) off S1x1x16.size inb).emb x) := by
  obtain ⟨e0, e1, e2⟩ := chunk_emb (inb := inb) ho x
  have h0 : (x 0).val < 1 := (x 0).isLt
  have h1 : (x 1).val < 1 := (x 1).isLt
  have hx : (ix3 0 0 (x 2) : S1x1x16.Idx) = x := by
    funext a
    match a with
    | 0 => exact Fin.ext (by show 0 = (x 0).val; omega)
    | 1 => exact Fin.ext (by show 0 = (x 1).val; omega)
    | 2 => rfl
  rw [hx]
  unfold addRow addEl
  rw [if_pos (by rw [e0]; omega)]
  have hh : halfWord (((Rect.unit (s := S96x2x128) off S1x1x16.size inb).emb x) 0).val = halfWord p := by
    rw [e0]; unfold halfWord; rw [show (2 * r + p) % 2 = p % 2 by omega]
  rw [hh]
  refine congrArg₂ FloatOps.addf rfl (congrArg _ (congrArg _ (congrArg g ?_)))
  subst hg he
  funext a
  match a with
  | 0 => exact Fin.ext (by show r + 1 * 0 = _ / 2; rw [e0]; omega)
  | 1 => exact Fin.ext (by show 128 * b + c + 1 * (x 2).val = 128 * _ + _; rw [e1, e2]; omega)

theorem piece_lo (f : S96x2x128.Idx → F .f32) (g : S48x256.Idx → BitVec 32) (r b c e : ℕ)
    {off : Fin 3 → ℕ} {inb : ∀ a, off a + S1x1x16.size a ≤ S96x2x128.size a} (ho : off = ![2 * r, b, c])
    {og : Fin 2 → ℕ} {ing : ∀ a, og a + S1x16.size a ≤ S48x256.size a} (hg : og = ![r, e]) (he : e = 128 * b + c)
    (x : S1x1x16.Idx) :
    shapeCast S1x1x16 (addf (shapeCast S16 (View.readAt (Elt F) s1V.view (Rect.unit (s := S96x2x128) off S1x1x16.size inb).toLoadRect f) shapeCasts_S1x1x16_S16)
        (bitcastToFloat (F := F) .f32 (shli (shapeCast S16 (View.readAt (Elt F) s2V.view (Rect.unit (s := S48x256) og S1x16.size ing).toLoadRect g) shapeCasts_S1x16_S16)
          (broadcast S16 16#32)))) shapeCasts_S16_S1x1x16 x
      = addRow r f g ((Rect.unit (s := S96x2x128) off S1x1x16.size inb).emb x) := by
  rw [cast_out]
  simp only [addf, bitcastToFloat, shli, cast_in, cast_word, broadcast, View.readAt_apply]
  exact piece_at 0 (by decide) f g r b c e ho hg he x

theorem piece_hi (f : S96x2x128.Idx → F .f32) (g : S48x256.Idx → BitVec 32) (r b c e : ℕ)
    {off : Fin 3 → ℕ} {inb : ∀ a, off a + S1x1x16.size a ≤ S96x2x128.size a} (ho : off = ![2 * r + 1, b, c])
    {og : Fin 2 → ℕ} {ing : ∀ a, og a + S1x16.size a ≤ S48x256.size a} (hg : og = ![r, e]) (he : e = 128 * b + c)
    (x : S1x1x16.Idx) :
    shapeCast S1x1x16 (addf (shapeCast S16 (View.readAt (Elt F) s1V.view (Rect.unit (s := S96x2x128) off S1x1x16.size inb).toLoadRect f) shapeCasts_S1x1x16_S16)
        (bitcastToFloat (F := F) .f32 (andi (shapeCast S16 (View.readAt (Elt F) s2V.view (Rect.unit (s := S48x256) og S1x16.size ing).toLoadRect g) shapeCasts_S1x16_S16)
          (broadcast S16 4294901760#32)))) shapeCasts_S16_S1x1x16 x
      = addRow r f g ((Rect.unit (s := S96x2x128) off S1x1x16.size inb).emb x) := by
  rw [cast_out]
  simp only [addf, bitcastToFloat, andi, cast_in, cast_word, broadcast, View.readAt_apply]
  exact piece_at 1 (by decide) f g r b c e ho hg he x

omit [FloatOps F] in
theorem rd1 (f : Buf (Elt F) (s1V.view.loc (tt d L))) : View.read (Elt F) s1V.view f = f := rfl

omit [FloatOps F] in
theorem off_row0 {off : Fin 3 → ℕ} {inb : ∀ a, off a + S1x1x16.size a ≤ S96x2x128.size a} {r b c : ℕ}
    (ho : off = ![2 * r, b, c]) (y : S96x2x128.Idx) (hy : ¬ (y 0).val / 2 = r) :
    y ∉ (Rect.unit (s := S96x2x128) off S1x1x16.size inb).set :=
  fun h => hy (by have := ((mem_chunk ho y).1 h).1; omega)

theorem off_row1 {off : Fin 3 → ℕ} {inb : ∀ a, off a + S1x1x16.size a ≤ S96x2x128.size a} {r b c : ℕ}
    (ho : off = ![2 * r + 1, b, c]) (y : S96x2x128.Idx) (hy : ¬ (y 0).val / 2 = r) :
    y ∉ (Rect.unit (s := S96x2x128) off S1x1x16.size inb).set :=
  fun h => hy (by have := ((mem_chunk ho y).1 h).1; omega)

set_option maxHeartbeats 4000000 in
/-- The trip's thirty-two stores leave the table with that row added. -/
theorem add_writes (t : Fin k0_t2_loop.trips) (f : S96x2x128.Idx → F .f32) (g : S48x256.Idx → BitVec 32)
    (w54 w53 w51 w50 w48 w47 w45 w44 w42 w41 w39 w38 w36 w35 w33 w32 w30 w29 w27 w26 w24 w23 w21 w20 w18 w17 w15 w14 w12 w11 w9 w8 : S1x1x16.Idx → Elt F .f32)
    (h54 : ∀ x, w54 x = addRow t.val f g ((Rect.unit (s := S96x2x128) (k0_off54 t) S1x1x16.size (k0_off54_inb t)).emb x))
    (h53 : ∀ x, w53 x = addRow t.val f g ((Rect.unit (s := S96x2x128) (k0_off53 t) S1x1x16.size (k0_off53_inb t)).emb x))
    (h51 : ∀ x, w51 x = addRow t.val f g ((Rect.unit (s := S96x2x128) (k0_off51 t) S1x1x16.size (k0_off51_inb t)).emb x))
    (h50 : ∀ x, w50 x = addRow t.val f g ((Rect.unit (s := S96x2x128) (k0_off50 t) S1x1x16.size (k0_off50_inb t)).emb x))
    (h48 : ∀ x, w48 x = addRow t.val f g ((Rect.unit (s := S96x2x128) (k0_off48 t) S1x1x16.size (k0_off48_inb t)).emb x))
    (h47 : ∀ x, w47 x = addRow t.val f g ((Rect.unit (s := S96x2x128) (k0_off47 t) S1x1x16.size (k0_off47_inb t)).emb x))
    (h45 : ∀ x, w45 x = addRow t.val f g ((Rect.unit (s := S96x2x128) (k0_off45 t) S1x1x16.size (k0_off45_inb t)).emb x))
    (h44 : ∀ x, w44 x = addRow t.val f g ((Rect.unit (s := S96x2x128) (k0_off44 t) S1x1x16.size (k0_off44_inb t)).emb x))
    (h42 : ∀ x, w42 x = addRow t.val f g ((Rect.unit (s := S96x2x128) (k0_off42 t) S1x1x16.size (k0_off42_inb t)).emb x))
    (h41 : ∀ x, w41 x = addRow t.val f g ((Rect.unit (s := S96x2x128) (k0_off41 t) S1x1x16.size (k0_off41_inb t)).emb x))
    (h39 : ∀ x, w39 x = addRow t.val f g ((Rect.unit (s := S96x2x128) (k0_off39 t) S1x1x16.size (k0_off39_inb t)).emb x))
    (h38 : ∀ x, w38 x = addRow t.val f g ((Rect.unit (s := S96x2x128) (k0_off38 t) S1x1x16.size (k0_off38_inb t)).emb x))
    (h36 : ∀ x, w36 x = addRow t.val f g ((Rect.unit (s := S96x2x128) (k0_off36 t) S1x1x16.size (k0_off36_inb t)).emb x))
    (h35 : ∀ x, w35 x = addRow t.val f g ((Rect.unit (s := S96x2x128) (k0_off35 t) S1x1x16.size (k0_off35_inb t)).emb x))
    (h33 : ∀ x, w33 x = addRow t.val f g ((Rect.unit (s := S96x2x128) (k0_off33 t) S1x1x16.size (k0_off33_inb t)).emb x))
    (h32 : ∀ x, w32 x = addRow t.val f g ((Rect.unit (s := S96x2x128) (k0_off32 t) S1x1x16.size (k0_off32_inb t)).emb x))
    (h30 : ∀ x, w30 x = addRow t.val f g ((Rect.unit (s := S96x2x128) (k0_off30 t) S1x1x16.size (k0_off30_inb t)).emb x))
    (h29 : ∀ x, w29 x = addRow t.val f g ((Rect.unit (s := S96x2x128) (k0_off29 t) S1x1x16.size (k0_off29_inb t)).emb x))
    (h27 : ∀ x, w27 x = addRow t.val f g ((Rect.unit (s := S96x2x128) (k0_off27 t) S1x1x16.size (k0_off27_inb t)).emb x))
    (h26 : ∀ x, w26 x = addRow t.val f g ((Rect.unit (s := S96x2x128) (k0_off26 t) S1x1x16.size (k0_off26_inb t)).emb x))
    (h24 : ∀ x, w24 x = addRow t.val f g ((Rect.unit (s := S96x2x128) (k0_off24 t) S1x1x16.size (k0_off24_inb t)).emb x))
    (h23 : ∀ x, w23 x = addRow t.val f g ((Rect.unit (s := S96x2x128) (k0_off23 t) S1x1x16.size (k0_off23_inb t)).emb x))
    (h21 : ∀ x, w21 x = addRow t.val f g ((Rect.unit (s := S96x2x128) (k0_off21 t) S1x1x16.size (k0_off21_inb t)).emb x))
    (h20 : ∀ x, w20 x = addRow t.val f g ((Rect.unit (s := S96x2x128) (k0_off20 t) S1x1x16.size (k0_off20_inb t)).emb x))
    (h18 : ∀ x, w18 x = addRow t.val f g ((Rect.unit (s := S96x2x128) (k0_off18 t) S1x1x16.size (k0_off18_inb t)).emb x))
    (h17 : ∀ x, w17 x = addRow t.val f g ((Rect.unit (s := S96x2x128) (k0_off17 t) S1x1x16.size (k0_off17_inb t)).emb x))
    (h15 : ∀ x, w15 x = addRow t.val f g ((Rect.unit (s := S96x2x128) (k0_off15 t) S1x1x16.size (k0_off15_inb t)).emb x))
    (h14 : ∀ x, w14 x = addRow t.val f g ((Rect.unit (s := S96x2x128) (k0_off14 t) S1x1x16.size (k0_off14_inb t)).emb x))
    (h12 : ∀ x, w12 x = addRow t.val f g ((Rect.unit (s := S96x2x128) (k0_off12 t) S1x1x16.size (k0_off12_inb t)).emb x))
    (h11 : ∀ x, w11 x = addRow t.val f g ((Rect.unit (s := S96x2x128) (k0_off11 t) S1x1x16.size (k0_off11_inb t)).emb x))
    (h9 : ∀ x, w9 x = addRow t.val f g ((Rect.unit (s := S96x2x128) (k0_off9 t) S1x1x16.size (k0_off9_inb t)).emb x))
    (h8 : ∀ x, w8 x = addRow t.val f g ((Rect.unit (s := S96x2x128) (k0_off8 t) S1x1x16.size (k0_off8_inb t)).emb x)) :
    View.read (Elt F) s1V.view (s1V.view.writes (Elt F) f [⟨Rect.unit (s := S96x2x128) (k0_off54 t) S1x1x16.size (k0_off54_inb t), w54⟩,
      ⟨Rect.unit (s := S96x2x128) (k0_off53 t) S1x1x16.size (k0_off53_inb t), w53⟩,
      ⟨Rect.unit (s := S96x2x128) (k0_off51 t) S1x1x16.size (k0_off51_inb t), w51⟩,
      ⟨Rect.unit (s := S96x2x128) (k0_off50 t) S1x1x16.size (k0_off50_inb t), w50⟩,
      ⟨Rect.unit (s := S96x2x128) (k0_off48 t) S1x1x16.size (k0_off48_inb t), w48⟩,
      ⟨Rect.unit (s := S96x2x128) (k0_off47 t) S1x1x16.size (k0_off47_inb t), w47⟩,
      ⟨Rect.unit (s := S96x2x128) (k0_off45 t) S1x1x16.size (k0_off45_inb t), w45⟩,
      ⟨Rect.unit (s := S96x2x128) (k0_off44 t) S1x1x16.size (k0_off44_inb t), w44⟩,
      ⟨Rect.unit (s := S96x2x128) (k0_off42 t) S1x1x16.size (k0_off42_inb t), w42⟩,
      ⟨Rect.unit (s := S96x2x128) (k0_off41 t) S1x1x16.size (k0_off41_inb t), w41⟩,
      ⟨Rect.unit (s := S96x2x128) (k0_off39 t) S1x1x16.size (k0_off39_inb t), w39⟩,
      ⟨Rect.unit (s := S96x2x128) (k0_off38 t) S1x1x16.size (k0_off38_inb t), w38⟩,
      ⟨Rect.unit (s := S96x2x128) (k0_off36 t) S1x1x16.size (k0_off36_inb t), w36⟩,
      ⟨Rect.unit (s := S96x2x128) (k0_off35 t) S1x1x16.size (k0_off35_inb t), w35⟩,
      ⟨Rect.unit (s := S96x2x128) (k0_off33 t) S1x1x16.size (k0_off33_inb t), w33⟩,
      ⟨Rect.unit (s := S96x2x128) (k0_off32 t) S1x1x16.size (k0_off32_inb t), w32⟩,
      ⟨Rect.unit (s := S96x2x128) (k0_off30 t) S1x1x16.size (k0_off30_inb t), w30⟩,
      ⟨Rect.unit (s := S96x2x128) (k0_off29 t) S1x1x16.size (k0_off29_inb t), w29⟩,
      ⟨Rect.unit (s := S96x2x128) (k0_off27 t) S1x1x16.size (k0_off27_inb t), w27⟩,
      ⟨Rect.unit (s := S96x2x128) (k0_off26 t) S1x1x16.size (k0_off26_inb t), w26⟩,
      ⟨Rect.unit (s := S96x2x128) (k0_off24 t) S1x1x16.size (k0_off24_inb t), w24⟩,
      ⟨Rect.unit (s := S96x2x128) (k0_off23 t) S1x1x16.size (k0_off23_inb t), w23⟩,
      ⟨Rect.unit (s := S96x2x128) (k0_off21 t) S1x1x16.size (k0_off21_inb t), w21⟩,
      ⟨Rect.unit (s := S96x2x128) (k0_off20 t) S1x1x16.size (k0_off20_inb t), w20⟩,
      ⟨Rect.unit (s := S96x2x128) (k0_off18 t) S1x1x16.size (k0_off18_inb t), w18⟩,
      ⟨Rect.unit (s := S96x2x128) (k0_off17 t) S1x1x16.size (k0_off17_inb t), w17⟩,
      ⟨Rect.unit (s := S96x2x128) (k0_off15 t) S1x1x16.size (k0_off15_inb t), w15⟩,
      ⟨Rect.unit (s := S96x2x128) (k0_off14 t) S1x1x16.size (k0_off14_inb t), w14⟩,
      ⟨Rect.unit (s := S96x2x128) (k0_off12 t) S1x1x16.size (k0_off12_inb t), w12⟩,
      ⟨Rect.unit (s := S96x2x128) (k0_off11 t) S1x1x16.size (k0_off11_inb t), w11⟩,
      ⟨Rect.unit (s := S96x2x128) (k0_off9 t) S1x1x16.size (k0_off9_inb t), w9⟩,
      ⟨Rect.unit (s := S96x2x128) (k0_off8 t) S1x1x16.size (k0_off8_inb t), w8⟩]) = addRow t.val f g := by
  funext y
  have hb := tabLt y
  by_cases hy : (y 0).val / 2 = t.val
  · refine View.read_writes_apply_of_pieces (v := s1V.view) (Val := Elt F) (f := f) (addRow t.val f g) _
      (List.forall_mem_cons.2 ⟨h54, List.forall_mem_cons.2 ⟨h53, List.forall_mem_cons.2 ⟨h51, List.forall_mem_cons.2 ⟨h50, List.forall_mem_cons.2 ⟨h48, List.forall_mem_cons.2 ⟨h47, List.forall_mem_cons.2 ⟨h45, List.forall_mem_cons.2 ⟨h44, List.forall_mem_cons.2 ⟨h42, List.forall_mem_cons.2 ⟨h41, List.forall_mem_cons.2 ⟨h39, List.forall_mem_cons.2 ⟨h38, List.forall_mem_cons.2 ⟨h36, List.forall_mem_cons.2 ⟨h35, List.forall_mem_cons.2 ⟨h33, List.forall_mem_cons.2 ⟨h32, List.forall_mem_cons.2 ⟨h30, List.forall_mem_cons.2 ⟨h29, List.forall_mem_cons.2 ⟨h27, List.forall_mem_cons.2 ⟨h26, List.forall_mem_cons.2 ⟨h24, List.forall_mem_cons.2 ⟨h23, List.forall_mem_cons.2 ⟨h21, List.forall_mem_cons.2 ⟨h20, List.forall_mem_cons.2 ⟨h18, List.forall_mem_cons.2 ⟨h17, List.forall_mem_cons.2 ⟨h15, List.forall_mem_cons.2 ⟨h14, List.forall_mem_cons.2 ⟨h12, List.forall_mem_cons.2 ⟨h11, List.forall_mem_cons.2 ⟨h9, List.forall_mem_cons.2 ⟨h8, List.forall_mem_nil _⟩⟩⟩⟩⟩⟩⟩⟩⟩⟩⟩⟩⟩⟩⟩⟩⟩⟩⟩⟩⟩⟩⟩⟩⟩⟩⟩⟩⟩⟩⟩⟩) y ?_
    have c0 : (y 0).val = 2 * t.val ∨ (y 0).val = 2 * t.val + 1 := by omega
    have c1 : (y 1).val = 0 ∨ (y 1).val = 1 := by omega
    have c2 : (y 2).val / 16 = 0 ∨ (y 2).val / 16 = 1 ∨ (y 2).val / 16 = 2 ∨ (y 2).val / 16 = 3 ∨ (y 2).val / 16 = 4 ∨ (y 2).val / 16 = 5
      ∨ (y 2).val / 16 = 6 ∨ (y 2).val / 16 = 7 := by omega
    rcases c0 with c0 | c0 <;> rcases c1 with c1 | c1 <;> rcases c2 with c2 | c2 | c2 | c2 | c2 | c2 | c2 | c2
    · exact ⟨⟨Rect.unit (s := S96x2x128) (k0_off8 t) S1x1x16.size (k0_off8_inb t), w8⟩, List.mem_of_getElem? (i := 31) rfl, (mem_chunk (inb := k0_off8_inb t) (k0_off8_eq t) y).2 ⟨by omega, by omega, by omega, by omega⟩⟩
    · exact ⟨⟨Rect.unit (s := S96x2x128) (k0_off11 t) S1x1x16.size (k0_off11_inb t), w11⟩, List.mem_of_getElem? (i := 29) rfl, (mem_chunk (inb := k0_off11_inb t) (k0_off11_eq t) y).2 ⟨by omega, by omega, by omega, by omega⟩⟩
    · exact ⟨⟨Rect.unit (s := S96x2x128) (k0_off14 t) S1x1x16.size (k0_off14_inb t), w14⟩, List.mem_of_getElem? (i := 27) rfl, (mem_chunk (inb := k0_off14_inb t) (k0_off14_eq t) y).2 ⟨by omega, by omega, by omega, by omega⟩⟩
    · exact ⟨⟨Rect.unit (s := S96x2x128) (k0_off17 t) S1x1x16.size (k0_off17_inb t), w17⟩, List.mem_of_getElem? (i := 25) rfl, (mem_chunk (inb := k0_off17_inb t) (k0_off17_eq t) y).2 ⟨by omega, by omega, by omega, by omega⟩⟩
    · exact ⟨⟨Rect.unit (s := S96x2x128) (k0_off20 t) S1x1x16.size (k0_off20_inb t), w20⟩, List.mem_of_getElem? (i := 23) rfl, (mem_chunk (inb := k0_off20_inb t) (k0_off20_eq t) y).2 ⟨by omega, by omega, by omega, by omega⟩⟩
    · exact ⟨⟨Rect.unit (s := S96x2x128) (k0_off23 t) S1x1x16.size (k0_off23_inb t), w23⟩, List.mem_of_getElem? (i := 21) rfl, (mem_chunk (inb := k0_off23_inb t) (k0_off23_eq t) y).2 ⟨by omega, by omega, by omega, by omega⟩⟩
    · exact ⟨⟨Rect.unit (s := S96x2x128) (k0_off26 t) S1x1x16.size (k0_off26_inb t), w26⟩, List.mem_of_getElem? (i := 19) rfl, (mem_chunk (inb := k0_off26_inb t) (k0_off26_eq t) y).2 ⟨by omega, by omega, by omega, by omega⟩⟩
    · exact ⟨⟨Rect.unit (s := S96x2x128) (k0_off29 t) S1x1x16.size (k0_off29_inb t), w29⟩, List.mem_of_getElem? (i := 17) rfl, (mem_chunk (inb := k0_off29_inb t) (k0_off29_eq t) y).2 ⟨by omega, by omega, by omega, by omega⟩⟩
    · exact ⟨⟨Rect.unit (s := S96x2x128) (k0_off32 t) S1x1x16.size (k0_off32_inb t), w32⟩, List.mem_of_getElem? (i := 15) rfl, (mem_chunk (inb := k0_off32_inb t) (k0_off32_eq t) y).2 ⟨by omega, by omega, by omega, by omega⟩⟩
    · exact ⟨⟨Rect.unit (s := S96x2x128) (k0_off35 t) S1x1x16.size (k0_off35_inb t), w35⟩, List.mem_of_getElem? (i := 13) rfl, (mem_chunk (inb := k0_off35_inb t) (k0_off35_eq t) y).2 ⟨by omega, by omega, by omega, by omega⟩⟩
    · exact ⟨⟨Rect.unit (s := S96x2x128) (k0_off38 t) S1x1x16.size (k0_off38_inb t), w38⟩, List.mem_of_getElem? (i := 11) rfl, (mem_chunk (inb := k0_off38_inb t) (k0_off38_eq t) y).2 ⟨by omega, by omega, by omega, by omega⟩⟩
    · exact ⟨⟨Rect.unit (s := S96x2x128) (k0_off41 t) S1x1x16.size (k0_off41_inb t), w41⟩, List.mem_of_getElem? (i := 9) rfl, (mem_chunk (inb := k0_off41_inb t) (k0_off41_eq t) y).2 ⟨by omega, by omega, by omega, by omega⟩⟩
    · exact ⟨⟨Rect.unit (s := S96x2x128) (k0_off44 t) S1x1x16.size (k0_off44_inb t), w44⟩, List.mem_of_getElem? (i := 7) rfl, (mem_chunk (inb := k0_off44_inb t) (k0_off44_eq t) y).2 ⟨by omega, by omega, by omega, by omega⟩⟩
    · exact ⟨⟨Rect.unit (s := S96x2x128) (k0_off47 t) S1x1x16.size (k0_off47_inb t), w47⟩, List.mem_of_getElem? (i := 5) rfl, (mem_chunk (inb := k0_off47_inb t) (k0_off47_eq t) y).2 ⟨by omega, by omega, by omega, by omega⟩⟩
    · exact ⟨⟨Rect.unit (s := S96x2x128) (k0_off50 t) S1x1x16.size (k0_off50_inb t), w50⟩, List.mem_of_getElem? (i := 3) rfl, (mem_chunk (inb := k0_off50_inb t) (k0_off50_eq t) y).2 ⟨by omega, by omega, by omega, by omega⟩⟩
    · exact ⟨⟨Rect.unit (s := S96x2x128) (k0_off53 t) S1x1x16.size (k0_off53_inb t), w53⟩, List.mem_of_getElem? (i := 1) rfl, (mem_chunk (inb := k0_off53_inb t) (k0_off53_eq t) y).2 ⟨by omega, by omega, by omega, by omega⟩⟩
    · exact ⟨⟨Rect.unit (s := S96x2x128) (k0_off9 t) S1x1x16.size (k0_off9_inb t), w9⟩, List.mem_of_getElem? (i := 30) rfl, (mem_chunk (inb := k0_off9_inb t) (k0_off9_eq t) y).2 ⟨by omega, by omega, by omega, by omega⟩⟩
    · exact ⟨⟨Rect.unit (s := S96x2x128) (k0_off12 t) S1x1x16.size (k0_off12_inb t), w12⟩, List.mem_of_getElem? (i := 28) rfl, (mem_chunk (inb := k0_off12_inb t) (k0_off12_eq t) y).2 ⟨by omega, by omega, by omega, by omega⟩⟩
    · exact ⟨⟨Rect.unit (s := S96x2x128) (k0_off15 t) S1x1x16.size (k0_off15_inb t), w15⟩, List.mem_of_getElem? (i := 26) rfl, (mem_chunk (inb := k0_off15_inb t) (k0_off15_eq t) y).2 ⟨by omega, by omega, by omega, by omega⟩⟩
    · exact ⟨⟨Rect.unit (s := S96x2x128) (k0_off18 t) S1x1x16.size (k0_off18_inb t), w18⟩, List.mem_of_getElem? (i := 24) rfl, (mem_chunk (inb := k0_off18_inb t) (k0_off18_eq t) y).2 ⟨by omega, by omega, by omega, by omega⟩⟩
    · exact ⟨⟨Rect.unit (s := S96x2x128) (k0_off21 t) S1x1x16.size (k0_off21_inb t), w21⟩, List.mem_of_getElem? (i := 22) rfl, (mem_chunk (inb := k0_off21_inb t) (k0_off21_eq t) y).2 ⟨by omega, by omega, by omega, by omega⟩⟩
    · exact ⟨⟨Rect.unit (s := S96x2x128) (k0_off24 t) S1x1x16.size (k0_off24_inb t), w24⟩, List.mem_of_getElem? (i := 20) rfl, (mem_chunk (inb := k0_off24_inb t) (k0_off24_eq t) y).2 ⟨by omega, by omega, by omega, by omega⟩⟩
    · exact ⟨⟨Rect.unit (s := S96x2x128) (k0_off27 t) S1x1x16.size (k0_off27_inb t), w27⟩, List.mem_of_getElem? (i := 18) rfl, (mem_chunk (inb := k0_off27_inb t) (k0_off27_eq t) y).2 ⟨by omega, by omega, by omega, by omega⟩⟩
    · exact ⟨⟨Rect.unit (s := S96x2x128) (k0_off30 t) S1x1x16.size (k0_off30_inb t), w30⟩, List.mem_of_getElem? (i := 16) rfl, (mem_chunk (inb := k0_off30_inb t) (k0_off30_eq t) y).2 ⟨by omega, by omega, by omega, by omega⟩⟩
    · exact ⟨⟨Rect.unit (s := S96x2x128) (k0_off33 t) S1x1x16.size (k0_off33_inb t), w33⟩, List.mem_of_getElem? (i := 14) rfl, (mem_chunk (inb := k0_off33_inb t) (k0_off33_eq t) y).2 ⟨by omega, by omega, by omega, by omega⟩⟩
    · exact ⟨⟨Rect.unit (s := S96x2x128) (k0_off36 t) S1x1x16.size (k0_off36_inb t), w36⟩, List.mem_of_getElem? (i := 12) rfl, (mem_chunk (inb := k0_off36_inb t) (k0_off36_eq t) y).2 ⟨by omega, by omega, by omega, by omega⟩⟩
    · exact ⟨⟨Rect.unit (s := S96x2x128) (k0_off39 t) S1x1x16.size (k0_off39_inb t), w39⟩, List.mem_of_getElem? (i := 10) rfl, (mem_chunk (inb := k0_off39_inb t) (k0_off39_eq t) y).2 ⟨by omega, by omega, by omega, by omega⟩⟩
    · exact ⟨⟨Rect.unit (s := S96x2x128) (k0_off42 t) S1x1x16.size (k0_off42_inb t), w42⟩, List.mem_of_getElem? (i := 8) rfl, (mem_chunk (inb := k0_off42_inb t) (k0_off42_eq t) y).2 ⟨by omega, by omega, by omega, by omega⟩⟩
    · exact ⟨⟨Rect.unit (s := S96x2x128) (k0_off45 t) S1x1x16.size (k0_off45_inb t), w45⟩, List.mem_of_getElem? (i := 6) rfl, (mem_chunk (inb := k0_off45_inb t) (k0_off45_eq t) y).2 ⟨by omega, by omega, by omega, by omega⟩⟩
    · exact ⟨⟨Rect.unit (s := S96x2x128) (k0_off48 t) S1x1x16.size (k0_off48_inb t), w48⟩, List.mem_of_getElem? (i := 4) rfl, (mem_chunk (inb := k0_off48_inb t) (k0_off48_eq t) y).2 ⟨by omega, by omega, by omega, by omega⟩⟩
    · exact ⟨⟨Rect.unit (s := S96x2x128) (k0_off51 t) S1x1x16.size (k0_off51_inb t), w51⟩, List.mem_of_getElem? (i := 2) rfl, (mem_chunk (inb := k0_off51_inb t) (k0_off51_eq t) y).2 ⟨by omega, by omega, by omega, by omega⟩⟩
    · exact ⟨⟨Rect.unit (s := S96x2x128) (k0_off54 t) S1x1x16.size (k0_off54_inb t), w54⟩, List.mem_of_getElem? (i := 0) rfl, (mem_chunk (inb := k0_off54_inb t) (k0_off54_eq t) y).2 ⟨by omega, by omega, by omega, by omega⟩⟩
  · refine Eq.trans (View.read_writes_apply_of_forall_not_mem (v := s1V.view) (Val := Elt F) (f := f) y _ ?_) ?_
    · exact (List.forall_mem_cons.2 ⟨off_row1 (r := t.val) (inb := k0_off54_inb t) (k0_off54_eq t) y hy, List.forall_mem_cons.2 ⟨off_row0 (r := t.val) (inb := k0_off53_inb t) (k0_off53_eq t) y hy, List.forall_mem_cons.2 ⟨off_row1 (r := t.val) (inb := k0_off51_inb t) (k0_off51_eq t) y hy, List.forall_mem_cons.2 ⟨off_row0 (r := t.val) (inb := k0_off50_inb t) (k0_off50_eq t) y hy, List.forall_mem_cons.2 ⟨off_row1 (r := t.val) (inb := k0_off48_inb t) (k0_off48_eq t) y hy, List.forall_mem_cons.2 ⟨off_row0 (r := t.val) (inb := k0_off47_inb t) (k0_off47_eq t) y hy, List.forall_mem_cons.2 ⟨off_row1 (r := t.val) (inb := k0_off45_inb t) (k0_off45_eq t) y hy, List.forall_mem_cons.2 ⟨off_row0 (r := t.val) (inb := k0_off44_inb t) (k0_off44_eq t) y hy, List.forall_mem_cons.2 ⟨off_row1 (r := t.val) (inb := k0_off42_inb t) (k0_off42_eq t) y hy, List.forall_mem_cons.2 ⟨off_row0 (r := t.val) (inb := k0_off41_inb t) (k0_off41_eq t) y hy, List.forall_mem_cons.2 ⟨off_row1 (r := t.val) (inb := k0_off39_inb t) (k0_off39_eq t) y hy, List.forall_mem_cons.2 ⟨off_row0 (r := t.val) (inb := k0_off38_inb t) (k0_off38_eq t) y hy, List.forall_mem_cons.2 ⟨off_row1 (r := t.val) (inb := k0_off36_inb t) (k0_off36_eq t) y hy, List.forall_mem_cons.2 ⟨off_row0 (r := t.val) (inb := k0_off35_inb t) (k0_off35_eq t) y hy, List.forall_mem_cons.2 ⟨off_row1 (r := t.val) (inb := k0_off33_inb t) (k0_off33_eq t) y hy, List.forall_mem_cons.2 ⟨off_row0 (r := t.val) (inb := k0_off32_inb t) (k0_off32_eq t) y hy, List.forall_mem_cons.2 ⟨off_row1 (r := t.val) (inb := k0_off30_inb t) (k0_off30_eq t) y hy, List.forall_mem_cons.2 ⟨off_row0 (r := t.val) (inb := k0_off29_inb t) (k0_off29_eq t) y hy, List.forall_mem_cons.2 ⟨off_row1 (r := t.val) (inb := k0_off27_inb t) (k0_off27_eq t) y hy, List.forall_mem_cons.2 ⟨off_row0 (r := t.val) (inb := k0_off26_inb t) (k0_off26_eq t) y hy, List.forall_mem_cons.2 ⟨off_row1 (r := t.val) (inb := k0_off24_inb t) (k0_off24_eq t) y hy, List.forall_mem_cons.2 ⟨off_row0 (r := t.val) (inb := k0_off23_inb t) (k0_off23_eq t) y hy, List.forall_mem_cons.2 ⟨off_row1 (r := t.val) (inb := k0_off21_inb t) (k0_off21_eq t) y hy, List.forall_mem_cons.2 ⟨off_row0 (r := t.val) (inb := k0_off20_inb t) (k0_off20_eq t) y hy, List.forall_mem_cons.2 ⟨off_row1 (r := t.val) (inb := k0_off18_inb t) (k0_off18_eq t) y hy, List.forall_mem_cons.2 ⟨off_row0 (r := t.val) (inb := k0_off17_inb t) (k0_off17_eq t) y hy, List.forall_mem_cons.2 ⟨off_row1 (r := t.val) (inb := k0_off15_inb t) (k0_off15_eq t) y hy, List.forall_mem_cons.2 ⟨off_row0 (r := t.val) (inb := k0_off14_inb t) (k0_off14_eq t) y hy, List.forall_mem_cons.2 ⟨off_row1 (r := t.val) (inb := k0_off12_inb t) (k0_off12_eq t) y hy, List.forall_mem_cons.2 ⟨off_row0 (r := t.val) (inb := k0_off11_inb t) (k0_off11_eq t) y hy, List.forall_mem_cons.2 ⟨off_row1 (r := t.val) (inb := k0_off9_inb t) (k0_off9_eq t) y hy, List.forall_mem_cons.2 ⟨off_row0 (r := t.val) (inb := k0_off8_inb t) (k0_off8_eq t) y hy, List.forall_mem_nil _⟩⟩⟩⟩⟩⟩⟩⟩⟩⟩⟩⟩⟩⟩⟩⟩⟩⟩⟩⟩⟩⟩⟩⟩⟩⟩⟩⟩⟩⟩⟩⟩)
    show f y = addRow t.val f g y
    unfold addRow; rw [if_neg hy]

/-- One trip of the add loop, at the task's buffers. -/
abbrev addBody (v3 : IVec S16 32) (v19 : BitVec 32) (h3 : k0_chk3 v19) (v21 : BitVec 32) (h197 : k0_chk197 v19 v21) (v23 : BitVec 32) (h4 : k0_chk4 v23)
    (t : Fin k0_t2_loop.trips) :=
  k0_t2_body (F := F) L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 t ⟨⟩

theorem add_trip (v3 : IVec S16 32) (v19 : BitVec 32) (h3 : k0_chk3 v19) (v21 : BitVec 32) (h197 : k0_chk197 v19 v21) (v23 : BitVec 32) (h4 : k0_chk4 v23)
    (f : Buf (Elt F) (s1V.view.loc (tt d L))) (g : Buf (Elt F) (s2V.view.loc (tt d L))) (t : Fin k0_t2_loop.trips) :
    iprop((s1V.view.loc (tt d L) ↦{fullShare} f) ∗ (s2V.view.loc (tt d L) ↦{fullShare} g) : sProp (MM F))
      ⊢ wp frame (wpE (defs₀ (F := F)) 𝒱₀ (tt d L) none) Set.univ (addBody L v3 v19 h3 v21 h197 v23 h4 t)
          fun _ => iprop((s1V.view.loc (tt d L) ↦{fullShare} (addRow t.val f g : S96x2x128.Idx → F .f32)) ∗ (s2V.view.loc (tt d L) ↦{fullShare} g)) := by
  iintro ⟨H, H2⟩
  unfold addBody k0_t2_body
  sl_exec
  sl_step
  isplitl [H]
  · iapply (Entails.of_eq (congrArg (fun z => (s1V.view.loc (tt d L) ↦{fullShare} z : sProp (MM F))) ?_)) $$ H
    exact add_writes t f g _ _ _ _ _ _ _ _ _ _ _ _ _ _ _ _ _ _ _ _ _ _ _ _ _ _ _ _ _ _ _ _
      (piece_hi f g t.val 1 112 240 (k0_off54_eq t) (k0_off52_eq t) rfl)
      (piece_lo f g t.val 1 112 240 (k0_off53_eq t) (k0_off52_eq t) rfl)
      (piece_hi f g t.val 1 96 224 (k0_off51_eq t) (k0_off49_eq t) rfl)
      (piece_lo f g t.val 1 96 224 (k0_off50_eq t) (k0_off49_eq t) rfl)
      (piece_hi f g t.val 1 80 208 (k0_off48_eq t) (k0_off46_eq t) rfl)
      (piece_lo f g t.val 1 80 208 (k0_off47_eq t) (k0_off46_eq t) rfl)
      (piece_hi f g t.val 1 64 192 (k0_off45_eq t) (k0_off43_eq t) rfl)
      (piece_lo f g t.val 1 64 192 (k0_off44_eq t) (k0_off43_eq t) rfl)
      (piece_hi f g t.val 1 48 176 (k0_off42_eq t) (k0_off40_eq t) rfl)
      (piece_lo f g t.val 1 48 176 (k0_off41_eq t) (k0_off40_eq t) rfl)
      (piece_hi f g t.val 1 32 160 (k0_off39_eq t) (k0_off37_eq t) rfl)
      (piece_lo f g t.val 1 32 160 (k0_off38_eq t) (k0_off37_eq t) rfl)
      (piece_hi f g t.val 1 16 144 (k0_off36_eq t) (k0_off34_eq t) rfl)
      (piece_lo f g t.val 1 16 144 (k0_off35_eq t) (k0_off34_eq t) rfl)
      (piece_hi f g t.val 1 0 128 (k0_off33_eq t) (k0_off31_eq t) rfl)
      (piece_lo f g t.val 1 0 128 (k0_off32_eq t) (k0_off31_eq t) rfl)
      (piece_hi f g t.val 0 112 112 (k0_off30_eq t) (k0_off28_eq t) rfl)
      (piece_lo f g t.val 0 112 112 (k0_off29_eq t) (k0_off28_eq t) rfl)
      (piece_hi f g t.val 0 96 96 (k0_off27_eq t) (k0_off25_eq t) rfl)
      (piece_lo f g t.val 0 96 96 (k0_off26_eq t) (k0_off25_eq t) rfl)
      (piece_hi f g t.val 0 80 80 (k0_off24_eq t) (k0_off22_eq t) rfl)
      (piece_lo f g t.val 0 80 80 (k0_off23_eq t) (k0_off22_eq t) rfl)
      (piece_hi f g t.val 0 64 64 (k0_off21_eq t) (k0_off19_eq t) rfl)
      (piece_lo f g t.val 0 64 64 (k0_off20_eq t) (k0_off19_eq t) rfl)
      (piece_hi f g t.val 0 48 48 (k0_off18_eq t) (k0_off16_eq t) rfl)
      (piece_lo f g t.val 0 48 48 (k0_off17_eq t) (k0_off16_eq t) rfl)
      (piece_hi f g t.val 0 32 32 (k0_off15_eq t) (k0_off13_eq t) rfl)
      (piece_lo f g t.val 0 32 32 (k0_off14_eq t) (k0_off13_eq t) rfl)
      (piece_hi f g t.val 0 16 16 (k0_off12_eq t) (k0_off10_eq t) rfl)
      (piece_lo f g t.val 0 16 16 (k0_off11_eq t) (k0_off10_eq t) rfl)
      (piece_hi f g t.val 0 0 0 (k0_off9_eq t) (k0_off7_eq t) rfl)
      (piece_lo f g t.val 0 0 0 (k0_off8_eq t) (k0_off7_eq t) rfl)
  · iexact H2

end Cert.Proof.Sc
end
end
-- ==== Proof.ScLoops.lean ====
module

public import Idealize.ShloMosaic.Lib.Pipeline.ValueKit
public import Idealize.ShloMosaic.Lib.WordCmp
public import proofs.«01_k».proof.Proof.ScRow
public import proofs.«01_k».proof.Proof.ScAdd

/-! The four loops of one work item. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The four loops of one work item: the addition of the terms, the clearing of the row, the slots sixteen at a time, and the
    remainder loop. -/
def itemLoops (v3 : IVec S16 32) (v19 : BitVec 32) (h3 : k0_chk3 v19) (v21 : BitVec 32) (h197 : k0_chk197 v19 v21) (v23 : BitVec 32) (h4 : k0_chk4 v23) :
    Prog (TpuEff nD τ sig (Elt F) Λ₀ (.scVector ((L 0).castLE hcore0) ((L 1).castLE hsub0))) PUnit := do
  Scf.Loop.for k0_t2_loop k0_t2_ok ⟨⟩ (k0_t2_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4)
  Scf.Loop.for k0_t3_loop k0_t3_ok ⟨⟩ (k0_t3_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4)
  Scf.Loop.for (k0_t4_loop v23) (k0_t4_ok v23 h4) ⟨⟩ (k0_t4_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4)
  Scf.Loop.for (k0_t5_loop v23) (k0_t5_ok v23 h4) ⟨⟩ (k0_t5_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 (Scalar.addi 0#32 (Scalar.muli (Scalar.divsi (Scalar.subi (Scalar.divsi (Scalar.addi (Scalar.subi (Scalar.shrsi (Scalar.addi v23 15#32) 4#32) 0#32) (Scalar.subi 1#32 1#32)) 1#32) 0#32) 1#32) 1#32)))
  pure ⟨⟩

/-- The table with every term added. -/
def addTab (f : S96x2x128.Idx → F .f32) (g : S48x256.Idx → BitVec 32) (y : S96x2x128.Idx) : F .f32 := addEl f g y

theorem addUpTo_all (f : S96x2x128.Idx → F .f32) (g : S48x256.Idx → BitVec 32) : addUpTo 48 f g = addTab f g := by
  funext y
  have := (y 0).isLt
  have h : (y 0).val < 96 := this
  unfold addUpTo addTab
  exact if_pos (by omega)

/-- The slots past the list's length are those cleared. -/
theorem rows_done (n : ℕ) (hn : n ≤ 1536) (T : Vec F S96x2x128 .f32) (e : S24x1536.Idx → BitVec 32) :
    rowUpTo ((n + 15) / 16) zeroRow (slotRow n T e) = slotRow n T e := by
  funext x
  unfold rowUpTo
  split
  · rfl
  · unfold slotRow
    exact (if_neg (by omega)).symm

theorem loops_trip (v19 : BitVec 32) (h3 : k0_chk3 v19) (v21 : BitVec 32) (h197 : k0_chk197 v19 v21) (v23 : BitVec 32) (h4 : k0_chk4 v23)
    (hv : v23.toNat ≤ 1536) (e : Buf (Elt F) (s0V.view.loc (tt d L))) (f : Buf (Elt F) (s1V.view.loc (tt d L))) (g : Buf (Elt F) (s2V.view.loc (tt d L)))
    (z : Buf (Elt F) (s3V.view.loc (tt d L))) :
    iprop((s0V.view.loc (tt d L) ↦{fullShare} e) ∗ (s1V.view.loc (tt d L) ↦{fullShare} f) ∗ (s2V.view.loc (tt d L) ↦{fullShare} g)
        ∗ (s3V.view.loc (tt d L) ↦{fullShare} z) : sProp (MM F))
      ⊢ wp frame (wpE (defs₀ (F := F)) 𝒱₀ (tt d L) none) Set.univ
          (itemLoops L (iota .scVector S16 32 [0] iota_S16_d0_w32_scVector) v19 h3 v21 h197 v23 h4)
          fun _ => iprop((s0V.view.loc (tt d L) ↦{fullShare} e) ∗ (s1V.view.loc (tt d L) ↦{fullShare} (addTab f g : S96x2x128.Idx → F .f32))
            ∗ (s2V.view.loc (tt d L) ↦{fullShare} g)
            ∗ (s3V.view.loc (tt d L) ↦{fullShare} (slotRow v23.toNat (addTab f g) e : S1536.Idx → F .f32))) := by
  unfold itemLoops
  iintro ⟨H0, H1, H2, H3⟩
  sl_for (fun (n : ℕ) (_ : PUnit) => iprop((s1V.view.loc (tt d L) ↦{fullShare} (addUpTo n f g : S96x2x128.Idx → F .f32)) ∗ (s2V.view.loc (tt d L) ↦{fullShare} g) : sProp (MM F))) $$ [H1 H2]
  case region =>
    intro t _
    refine (add_trip d L _ v19 h3 v21 h197 v23 h4 _ g t).trans (wp_mono _ _ _ (fun _ => ?_))
    rw [addRow_upTo]
  · rw [addUpTo_zero]
    isplitl [H1]; · iexact H1
    iexact H2
  iintro %_ ⟨H1, H2⟩
  sl_for (fun (n : ℕ) (_ : PUnit) => iprop((s3V.view.loc (tt d L) ↦{fullShare} (rowUpTo n z zeroRow : S1536.Idx → F .f32)) : sProp (MM F))) $$ [H3]
  case region =>
    intro t _
    exact zero_trip d L _ v19 h3 v21 h197 v23 h4 z t
  · rw [rowUpTo_zero]
    iexact H3
  iintro %_ H3
  sl_for (fun (n : ℕ) (_ : PUnit) => iprop((s0V.view.loc (tt d L) ↦{fullShare} e) ∗ (s1V.view.loc (tt d L) ↦{fullShare} (addTab f g : S96x2x128.Idx → F .f32))
        ∗ (s3V.view.loc (tt d L) ↦{fullShare} (rowUpTo n zeroRow (slotRow v23.toNat (addTab f g) e) : S1536.Idx → F .f32)) : sProp (MM F))) $$ [H0 H1 H3]
  case region =>
    intro t _
    exact slot_trip d L v19 h3 v21 h197 v23 h4 hv e _ zeroRow t
  · rw [rowUpTo_zero]
    isplitl [H0]; · iexact H0
    isplitl [H1]
    · iapply (Entails.of_eq (congrArg (fun T : S96x2x128.Idx → F .f32 => (s1V.view.loc (tt d L) ↦{fullShare} T : sProp (MM F))) (addUpTo_all f g))); iexact H1
    · iapply (Entails.of_eq (congrArg (fun T : S1536.Idx → F .f32 => (s3V.view.loc (tt d L) ↦{fullShare} T : sProp (MM F))) (rowUpTo_all z zeroRow))); iexact H3
  iintro %_ ⟨H0, H1, H3⟩
  sl_for (fun (_ : ℕ) (_ : PUnit) => (iprop(emp) : sProp (MM F))) $$ []
  case region =>
    intro t _
    exact absurd (t.isLt.trans_eq (t5_trips hv)) (Nat.not_lt_zero _)
  · iempintro
  iintro %_ -
  sl_step
  isplitl [H0]; · iexact H0
  isplitl [H1]; · iexact H1
  isplitl [H2]; · iexact H2
  iapply (Entails.of_eq (congrArg (fun T : S1536.Idx → F .f32 => (s3V.view.loc (tt d L) ↦{fullShare} T : sProp (MM F)))
    ((congrArg (fun k => rowUpTo k zeroRow (slotRow v23.toNat (addTab f g) e)) (t4_trips hv)).trans (rows_done v23.toNat hv (addTab f g) e)))); iexact H3

end Cert.Proof.Sc
end
end
-- ==== Proof.ScData.lean ====
module

public import Idealize.ShloMosaic.Lib.Pipeline.ValueKit
public import Idealize.ShloMosaic.Lib.WordCmp
public import proofs.«01_k».proof.Proof.ScLoops

/-! What the transfers of one work item deliver. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

section Words

/-- Row `k` of the work list as its transfer delivers it: the words of that row. -/
theorem metaRow_at (off : Fin 2 → ℕ) (inb : ∀ a, off a + S1x16.size a ≤ S3600x16.size a) (k : Fin 3600) (ho : off = ![k.val, 0]) (hf)
    (me : Buf (Elt F) (meV.view.loc (tt d L))) (j : Fin 16) :
    View.read (Elt F) ((meV.slice (Rect.unit (s := S3600x16) off S1x16.size inb) hf).squeeze S16 squeezes_S1x16_S16).view me (ix1 j)
      = (show S3600x16.Idx → BitVec 32 from me) (ix2 k j) := by
  subst ho
  show me ((Rect.unit (s := S3600x16) ![k.val, 0] S1x16.size inb).emb (Shape.reshapeEquiv _ (ix1 j))) = _
  simp only [pointwise]
  refine congrArg me (funext fun a => ?_)
  match a with
  | 0 => exact Fin.ext (by simp [ix2])
  | 1 => exact Fin.ext (by simp [ix2])

theorem write_row (e4 : Buf (Elt F) (s4V.view.loc (tt d L))) (P : S16.Idx → BitVec 32) : View.write (Elt F) s4V.view e4 P Finset.univ = P := by
  exact View.write_whole_univ _ _ _

theorem word0 (e4 : Buf (Elt F) (s4V.view.loc (tt d L))) (P : S16.Idx → BitVec 32) :
    extractAt ![0] (k0_pay917 (F := F) (View.readAt (Elt F) s4V.view (Rect.unit (s := S16) ![0] S16.size inb_S16_S16_0).toLoadRect
      (View.write (Elt F) s4V.view e4 P Finset.univ))) inpos_S1_p0 = P (ix1 0) := by
  rw [write_row]
  show (View.readAt (Elt F) s4V.view (Rect.unit (s := S16) ![0] S16.size inb_S16_S16_0).toLoadRect P) _ = _
  refine congrArg P (funext fun a => ?_)
  match a with
  | 0 => rfl
theorem word1 (e4 : Buf (Elt F) (s4V.view.loc (tt d L))) (P : S16.Idx → BitVec 32) :
    extractAt ![0] (k0_pay918 (F := F) (View.readAt (Elt F) s4V.view (Rect.unit (s := S16) ![0] S16.size inb_S16_S16_0).toLoadRect
      (View.write (Elt F) s4V.view e4 P Finset.univ))) inpos_S1_p0 = P (ix1 1) := by
  rw [write_row]
  show (View.readAt (Elt F) s4V.view (Rect.unit (s := S16) ![0] S16.size inb_S16_S16_0).toLoadRect P) _ = _
  refine congrArg P (funext fun a => ?_)
  match a with
  | 0 => rfl
theorem word2 (e4 : Buf (Elt F) (s4V.view.loc (tt d L))) (P : S16.Idx → BitVec 32) :
    extractAt ![0] (k0_pay919 (F := F) (View.readAt (Elt F) s4V.view (Rect.unit (s := S16) ![0] S16.size inb_S16_S16_0).toLoadRect
      (View.write (Elt F) s4V.view e4 P Finset.univ))) inpos_S1_p0 = P (ix1 2) := by
  rw [write_row]
  show (View.readAt (Elt F) s4V.view (Rect.unit (s := S16) ![0] S16.size inb_S16_S16_0).toLoadRect P) _ = _
  refine congrArg P (funext fun a => ?_)
  match a with
  | 0 => rfl
theorem word3 (e4 : Buf (Elt F) (s4V.view.loc (tt d L))) (P : S16.Idx → BitVec 32) :
    extractAt ![0] (k0_pay920 (F := F) (View.readAt (Elt F) s4V.view (Rect.unit (s := S16) ![0] S16.size inb_S16_S16_0).toLoadRect
      (View.write (Elt F) s4V.view e4 P Finset.univ))) inpos_S1_p0 = P (ix1 3) := by
  rw [write_row]
  show (View.readAt (Elt F) s4V.view (Rect.unit (s := S16) ![0] S16.size inb_S16_S16_0).toLoadRect P) _ = _
  refine congrArg P (funext fun a => ?_)
  match a with
  | 0 => rfl

omit [FloatOps F] in
theorem chk2_of {v : BitVec 32} (h : v.toNat < 2000) : k0_chk2 v := by
  constructor
  · intro a
    match a with
    | 0 => show v.toNat + 1 ≤ 2000; omega
    | 1 => exact le_of_eq rfl
    | 2 => first | exact le_of_eq rfl | exact (show (0 : ℕ) + 128 ≤ 256 by decide) | exact (show (128 : ℕ) + 128 ≤ 256 by decide)
  · intro a
    match a with
    | 0 => show v.toNat + 1 ≤ 2000; omega
    | 1 => exact le_of_eq rfl
    | 2 => first | exact le_of_eq rfl | exact (show (0 : ℕ) + 128 ≤ 256 by decide) | exact (show (128 : ℕ) + 128 ≤ 256 by decide)
omit [FloatOps F] in
theorem chk3_of {v : BitVec 32} (h : v.toNat < 200) : k0_chk3 v := by
  constructor
  · intro a
    match a with
    | 0 => show v.toNat + 1 ≤ 200; omega
    | 1 => exact le_of_eq rfl
    | 2 => first | exact le_of_eq rfl | exact (show (0 : ℕ) + 128 ≤ 256 by decide) | exact (show (128 : ℕ) + 128 ≤ 256 by decide)
  · intro a
    match a with
    | 0 => show v.toNat + 1 ≤ 200; omega
    | 1 => exact le_of_eq rfl
    | 2 => first | exact le_of_eq rfl | exact (show (0 : ℕ) + 128 ≤ 256 by decide) | exact (show (128 : ℕ) + 128 ≤ 256 by decide)
omit [FloatOps F] in
theorem chk197_of {v w : BitVec 32} (h : v.toNat < 200) (h' : w.toNat < 18) : k0_chk197 v w := by
  intro a
  match a with
  | 0 => show w.toNat + 1 ≤ 18; omega
  | 1 => show v.toNat + 1 ≤ 200; omega
  | 2 => exact le_of_eq rfl

end Words

section Data

/-- The codes of list `l`, as they lie packed in the words. -/
def codeRow (cd : S2000x24x1536.Idx → BitVec 32) (l : Fin 2000) (y : S24x1536.Idx) : BitVec 32 := cd (ix3 l (y 0) (y 1))
/-- The terms of list `l`, as they lie packed in the words. -/
def termRow (tm : S2000x48x256.Idx → BitVec 32) (l : Fin 2000) (y : S48x256.Idx) : BitVec 32 := tm (ix3 l (y 0) (y 1))
/-- The table of query `b`, each row in two halves. -/
def tabOf (lu : S200x96x256.Idx → F .f32) (b : Fin 200) (y : S96x2x128.Idx) : F .f32 :=
  lu (ix3 b (y 0) ⟨128 * (y 1).val + (y 2).val, by have := tabLt y; omega⟩)
/-- The finished row of one work item: list `l` of length `n` for query `b`. -/
def itemVal (cd : S2000x24x1536.Idx → BitVec 32) (tm : S2000x48x256.Idx → BitVec 32) (lu : S200x96x256.Idx → F .f32) (l : Fin 2000) (b : Fin 200) (n : ℕ) :
    S1536.Idx → F .f32 := slotRow n (addTab (tabOf lu b) (termRow tm l)) (codeRow cd l)

theorem codes_read (off : Fin 3 → ℕ) (inb : ∀ a, off a + S1x24x1536.size a ≤ S2000x24x1536.size a) (l : Fin 2000) (ho : off = ![l.val, 0, 0]) (hf)
    (cd : Buf (Elt F) (cdV.view.loc (tt d L))) :
    View.read (Elt F) ((cdV.slice (Rect.unit (s := S2000x24x1536) off S1x24x1536.size inb) hf).squeeze S24x1536 squeezes_S1x24x1536_S24x1536).view cd
      = codeRow cd l := by
  subst ho
  funext y
  show cd ((Rect.unit (s := S2000x24x1536) ![l.val, 0, 0] S1x24x1536.size inb).emb (Shape.reshapeEquiv _ y)) = _
  simp only [pointwise]
  refine congrArg cd (funext fun a => ?_)
  match a with
  | 0 => exact Fin.ext (by simp [ix3])
  | 1 => exact Fin.ext (by simp [ix3])
  | 2 => exact Fin.ext (by simp [ix3])

theorem terms_read (off : Fin 3 → ℕ) (inb : ∀ a, off a + S1x48x256.size a ≤ S2000x48x256.size a) (l : Fin 2000) (ho : off = ![l.val, 0, 0]) (hf)
    (tm : Buf (Elt F) (tmV.view.loc (tt d L))) :
    View.read (Elt F) ((tmV.slice (Rect.unit (s := S2000x48x256) off S1x48x256.size inb) hf).squeeze S48x256 squeezes_S1x48x256_S48x256).view tm
      = termRow tm l := by
  subst ho
  funext y
  show tm ((Rect.unit (s := S2000x48x256) ![l.val, 0, 0] S1x48x256.size inb).emb (Shape.reshapeEquiv _ y)) = _
  simp only [pointwise]
  refine congrArg tm (funext fun a => ?_)
  match a with
  | 0 => exact Fin.ext (by simp [ix3])
  | 1 => exact Fin.ext (by simp [ix3])
  | 2 => exact Fin.ext (by simp [ix3])

theorem half_read (off : Fin 3 → ℕ) (inb : ∀ a, off a + S1x96x128.size a ≤ S200x96x256.size a) (b : Fin 200) (c : ℕ) (hc : c + 128 ≤ 256) (ho : off = ![b.val, 0, c]) (hf)
    (lu : Buf (Elt F) (luV.view.loc (tt d L))) (y : S96x128.Idx) (i : Fin 256) (hi : i.val = c + (y 1).val) :
    View.read (Elt F) ((luV.slice (Rect.unit (s := S200x96x256) off S1x96x128.size inb) hf).squeeze S96x128 squeezes_S1x96x128_S96x128).view lu y
      = (show S200x96x256.Idx → F .f32 from lu) (ix3 b (y 0) i) := by
  subst ho
  show lu ((Rect.unit (s := S200x96x256) ![b.val, 0, c] S1x96x128.size inb).emb (Shape.reshapeEquiv _ y)) = _
  simp only [pointwise]
  refine congrArg lu (funext fun a => ?_)
  match a with
  | 0 => exact Fin.ext (by simp [ix3])
  | 1 => exact Fin.ext (by simp [ix3])
  | 2 => exact Fin.ext (by simp [ix3, hi])

/-- The table's half `c` as the transfer addresses it. -/
abbrev halfView (c : ℕ) (inb : ∀ a, (![0, c, 0] : Fin 3 → ℕ) a + S96x1x128.size a ≤ S96x2x128.size a) : Memref sig .scVector .vmem S96x128 .f32 :=
  (s1V.slice (Rect.unit (s := S96x2x128) ![0, c, 0] S96x1x128.size inb) (fun _ => rfl)).squeeze S96x128 squeezes_S96x1x128_S96x128

theorem half_emb (c : ℕ) (inb) (y : S96x128.Idx) : (halfView c inb).view.emb y = (ix3 (y 0) ⟨c, by have := inb 1; exact this⟩ (y 1) : S96x2x128.Idx) := by
  show (Rect.unit (s := S96x2x128) ![0, c, 0] S96x1x128.size inb).emb (Shape.reshapeEquiv _ y) = _
  simp only [pointwise]
  funext a
  match a with
  | 0 => exact Fin.ext (by simp [ix3])
  | 1 => exact Fin.ext (by simp [ix3])
  | 2 => exact Fin.ext (by simp [ix3])

theorem half_mem (c : ℕ) (inb) (y : S96x2x128.Idx) (h : (y 1).val ≠ c) : y ∉ (halfView c inb).view.setOn Finset.univ := by
  intro hy
  obtain ⟨x, _, hx⟩ := Finset.mem_map.1 hy
  rw [half_emb] at hx
  exact h (congrArg (fun z : S96x2x128.Idx => (z 1).val) hx).symm

theorem table_write (inb0) (inb1) (e1 : S96x2x128.Idx → F .f32) (w0 w1 : S96x128.Idx → F .f32) (lu : S200x96x256.Idx → F .f32) (b : Fin 200)
    (h0 : ∀ (x : S96x128.Idx) (i : Fin 256), i.val = 0 + (x 1).val → w0 x = lu (ix3 b (x 0) i)) (h1 : ∀ (x : S96x128.Idx) (i : Fin 256), i.val = 128 + (x 1).val → w1 x = lu (ix3 b (x 0) i)) :
    View.write (Elt F) (halfView 1 inb1).view (View.write (Elt F) (halfView 0 inb0).view e1 w0 Finset.univ) w1 Finset.univ = tabOf lu b := by
  funext y
  have hy := tabLt y
  by_cases h : (y 1).val = 1
  · have he : (halfView 1 inb1).view.emb (ix2 (y 0) (y 2)) = y := by
      rw [half_emb]; funext a
      match a with
      | 0 => rfl
      | 1 => exact Fin.ext h.symm
      | 2 => rfl
    refine (congrArg _ he.symm).trans ((View.write_emb_of_mem (Val := Elt F) (v := (halfView 1 inb1).view) (M := Finset.univ) _ w1 (Finset.mem_univ (ix2 (y 0) (y 2)))).trans ?_)
    exact h1 _ _ (show 128 * (y 1).val + (y 2).val = 128 + (y 2).val by omega)
  · have h' : (y 1).val = 0 := by omega
    have he : (halfView 0 inb0).view.emb (ix2 (y 0) (y 2)) = y := by
      rw [half_emb]; funext a
      match a with
      | 0 => rfl
      | 1 => exact Fin.ext h'.symm
      | 2 => rfl
    refine (View.write_of_not_mem (Val := Elt F) (v := (halfView 1 inb1).view) _ w1 Finset.univ (half_mem 1 inb1 y h)).trans ?_
    refine (congrArg _ he.symm).trans ((View.write_emb_of_mem (Val := Elt F) (v := (halfView 0 inb0).view) (M := Finset.univ) _ w0 (Finset.mem_univ (ix2 (y 0) (y 2)))).trans ?_)
    exact h0 _ _ (show 128 * (y 1).val + (y 2).val = 0 + (y 2).val by omega)

end Data

end Cert.Proof.Sc
end
end
-- ==== Proof.ScOut.lean ====
module

public import Idealize.ShloMosaic.Lib.Pipeline.ValueKit
public import Idealize.ShloMosaic.Lib.WordCmp
public import proofs.«01_k».proof.Proof.ScBase

/-! The transfer of a finished row. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The row of the output that belongs to probe `p` of query `b`. -/
def outCell (p b : ℕ) : Finset S18x200x1536.Idx := Finset.univ.filter fun x => (x 0).val = p ∧ (x 1).val = b

theorem mem_outCell {p b : ℕ} {x : S18x200x1536.Idx} : x ∈ outCell p b ↔ (x 0).val = p ∧ (x 1).val = b := by
  unfold outCell; rw [Finset.mem_filter]; exact ⟨fun h => h.2, fun h => ⟨Finset.mem_univ _, h⟩⟩

/-- The output's row as the transfer addresses it. -/
abbrev outRow (v19 v21 : BitVec 32) (h : k0_chk197 v19 v21) : Memref sig .scVector .hbm S1536 .f32 :=
  (ouV.slice (Rect.unit (s := S18x200x1536) (k0_off106 v19 v21) S1x1x1536.size (k0_off106_inb v19 v21 h)) (fun _ => rfl)).squeeze S1536 squeezes_S1x1x1536_S1536

theorem off106_eq (v19 v21 : BitVec 32) : k0_off106 v19 v21 = ![v21.toNat, v19.toNat, 0] := rfl

theorem outRow_set (v19 v21 : BitVec 32) (h : k0_chk197 v19 v21) : (outRow v19 v21 h).view.set = outCell v21.toNat v19.toNat := by
  refine (View.set_reshape _ _).trans ((View.set_slice_whole _ _).trans ?_)
  ext y
  rw [mem_outCell]
  refine (Rect.mem_set_unit (s := S18x200x1536)).trans ?_
  rw [off106_eq]
  constructor
  · intro h
    have h0 := h 0; have h1 := h 1
    simp at h0 h1
    omega
  · rintro ⟨h0, h1⟩ q
    match q with
    | 0 => simp; omega
    | 1 => simp; omega
    | 2 => exact ⟨Nat.zero_le _, (y 2).isLt⟩

theorem outRow_emb (v19 v21 : BitVec 32) (h : k0_chk197 v19 v21) (x : S1536.Idx) :
    (outRow v19 v21 h).view.emb x = (ix3 ⟨v21.toNat, by have := h 0; exact this⟩ ⟨v19.toNat, by have := h 1; exact this⟩ (x 0) : S18x200x1536.Idx) := by
  show (Rect.unit (s := S18x200x1536) (k0_off106 v19 v21) S1x1x1536.size (k0_off106_inb v19 v21 h)).emb (Shape.reshapeEquiv _ x) = _
  simp only [pointwise]
  funext a
  match a with
  | 0 => exact Fin.ext (by simp [off106_eq, ix3]; rfl)
  | 1 => exact Fin.ext (by simp [off106_eq, ix3]; rfl)
  | 2 => exact Fin.ext (by simp [off106_eq, ix3]; show 0 + 1 * (x 0).val = (x 0).val; omega)

theorem outRow_write (v19 v21 : BitVec 32) (h : k0_chk197 v19 v21) (ou : S18x200x1536.Idx → F .f32) (w : S1536.Idx → F .f32) (y : S18x200x1536.Idx)
    (hy : y ∈ outCell v21.toNat v19.toNat) :
    (outRow v19 v21 h).view.writes (Elt F) ou [⟨Rect.whole S1536, w⟩] y = w (ix1 (y 2)) := by
  have he : ((outRow v19 v21 h).view.slice (Rect.whole S1536)).emb (ix1 (y 2)) = y := by
    refine (show ((outRow v19 v21 h).view.slice (Rect.whole S1536)).emb (ix1 (y 2)) = (outRow v19 v21 h).view.emb ((Rect.whole S1536).emb (ix1 (y 2))) from rfl).trans ?_
    rw [Rect.emb_whole_apply, outRow_emb]
    obtain ⟨h0, h1⟩ := mem_outCell.1 hy
    funext a
    match a with
    | 0 => exact Fin.ext h0.symm
    | 1 => exact Fin.ext h1.symm
    | 2 => rfl
  exact (congrArg (View.write (Elt F) ((outRow v19 v21 h).view.slice (Rect.whole S1536)) ou w Finset.univ) he.symm).trans
    (View.write_emb_of_mem (Val := Elt F) (v := (outRow v19 v21 h).view.slice (Rect.whole S1536)) (M := Finset.univ) ou w (Finset.mem_univ (ix1 (y 2))))

/-- The transfer of the finished row to the output. -/
def outBody (v19 v21 : BitVec 32) (h197 : k0_chk197 v19 v21) : Prog (TpuEff nD τ sig (Elt F) Λ₀ (.scVector ((L 0).castLE hcore0) ((L 1).castLE hsub0))) (BitVec 32) := do
  Prog.lift (.enqueueDma s3V (.here (outRow v19 v21 h197)) (.dma cc0_scoped6.sem) (Memref.isWhole_whole _).wordExact ((View.wordExact_bits rfl).reshape _ _) ⟨Or.inl rfl, trivial⟩)
  Prog.lift (.waitDma2 cc0_scoped6.sem s3V (outRow v19 v21 h197) (Memref.isWhole_whole _).wordExact ((View.wordExact_bits rfl).reshape _ _))
  pure 0#32

theorem out_trip (O : CellTallies nD τ sig (HIx 1)) (W : Waits sig (HIx 1)) (v19 v21 : BitVec 32) (h197 : k0_chk197 v19 v21) (e3 : Buf (Elt F) (s3V.view.loc (tt d L)))
    (ou : Buf (Elt F) (ouV.view.loc (tt d L))) (G : S18x200x1536.Idx → F .f32)
    (hG : ∀ y ∈ outCell v21.toNat v19.toNat, (show S1536.Idx → F .f32 from e3) (ix1 (y 2)) = G y) :
    iprop(Transfers.MayWaits (tt d L) (default : HIx 1) O ∗ (s3V.view.loc (tt d L) ↦{fullShare} e3) ∗ (ouV.view.loc (tt d L) ↦[outCell v21.toNat v19.toNat]{fullShare} ou)
      ∗ semVal (tt d L, .dma cc0_scoped6.sem) 0 ∗ owes (tt d L) O W : sProp (MM F))
      ⊢ wp frame (wpE (defs₀ (F := F)) 𝒱₀ (tt d L) none) Set.univ (outBody L v19 v21 h197)
          fun _ => iprop(Transfers.MayWaits (tt d L) (default : HIx 1) O ∗ (s3V.view.loc (tt d L) ↦{fullShare} e3) ∗ (ouV.view.loc (tt d L) ↦[outCell v21.toNat v19.toNat]{fullShare} (G : Buf (Elt F) (ouV.view.loc (tt d L))))
      ∗ semVal (tt d L, .dma cc0_scoped6.sem) 0 ∗ owes (tt d L) O (insert (SemLoc.dma cc0_scoped6.sem, (default : HIx 1)) W)) := by
  unfold outBody
  iintro ⟨Hmw, H3, Ho, Hs, HO⟩
  ihave Hr := (show (ouV.view.loc (tt d L) ↦[outCell v21.toNat v19.toNat]{fullShare} ou : sProp (MM F)) ⊢ ((outRow v19 v21 h197).view.loc (tt d L) ↦[(outRow v19 v21 h197).view.set]{fullShare} ou)
    from Entails.of_eq (by rw [outRow_set])) $$ Ho
  sl_exec (disch := exact View.amount_pos _ _ (show 0 < S1536.numel by decide))
  sl_step
  isplitl [Hmw]; · iexact Hmw
  isplitl [H3]; · iexact H3
  isplitl [Hr]
  · iapply (show ((outRow v19 v21 h197).view.loc (tt d L) ↦[(outRow v19 v21 h197).view.set]{fullShare} ((outRow v19 v21 h197).view.writes (Elt F) ou [⟨Rect.whole S1536, out_trip.sl.dma0 d L e3⟩]) : sProp (MM F)) ⊢ (ouV.view.loc (tt d L) ↦[outCell v21.toNat v19.toNat]{fullShare} G)
      from Entails.of_eq (by
        rw [outRow_set]
        exact pointsTo_congr (fun y hy => (outRow_write v19 v21 h197 ou e3 y hy).trans (hG y hy)))) $$ Hr
  isplitl [Hs]; · iexact Hs
  iexact HO

end Cert.Proof.Sc
end
end
-- ==== Proof.ScItem.lean ====
module

public import Idealize.ShloMosaic.Lib.Pipeline.ValueKit
public import Idealize.ShloMosaic.Lib.WordCmp
public import proofs.«01_k».proof.Proof.ScData
public import proofs.«01_k».proof.Proof.ScOut

/-! One work item. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

theorem itemVal_of (cd : S2000x24x1536.Idx → BitVec 32) (tm : S2000x48x256.Idx → BitVec 32) (lu : S200x96x256.Idx → F .f32) (l : Fin 2000) (b : Fin 200) {n N : ℕ}
    {f : S96x2x128.Idx → F .f32} {g : S48x256.Idx → BitVec 32} {e : S24x1536.Idx → BitVec 32}
    (hN : N = n) (hf : f = tabOf lu b) (hg : g = termRow tm l) (he : e = codeRow cd l) : slotRow N (addTab f g) e = itemVal cd tm lu l b n := by
  subst hN hf hg he; rfl

theorem waits_ok (W : Waits sig (HIx 1)) {a b c d e f : SemLoc sig} : ∀ w ∈ insert (f, (default : HIx 1)) (insert (e, (default : HIx 1)) (insert (d, (default : HIx 1))
      (insert (c, (default : HIx 1)) (insert (b, (default : HIx 1)) (insert (a, (default : HIx 1)) W))))), w ∈ W ∨ w.2 = (default : HIx 1) := by
  intro w hw
  simp only [Finset.mem_insert] at hw
  rcases hw with h | h | h | h | h | h | h <;> first | exact .inl h | exact .inr (h ▸ rfl)

theorem owes_ok (O : CellTallies nD τ sig (HIx 1)) (W : Waits sig (HIx 1)) {a b c d' e f : SemLoc sig} :
    (owes (tt d L) O (insert (f, (default : HIx 1)) (insert (e, (default : HIx 1)) (insert (d', (default : HIx 1))
      (insert (c, (default : HIx 1)) (insert (b, (default : HIx 1)) (insert (a, (default : HIx 1)) W)))))) : sProp (MM F))
      ⊢ iprop(∃ W', ⌜∀ w ∈ W', w ∈ W ∨ w.2 = (default : HIx 1)⌝ ∗ owes (tt d L) O W') := by
  iintro H
  iexists _
  isplitr
  rotate_left
  · iexact H
  · ipureintro; exact waits_ok W

/-- One trip of the item loop, its four inner loops left open. -/
def itemBody (LP : (v19 : BitVec 32) → (h3 : k0_chk3 v19) → (v21 : BitVec 32) → k0_chk197 v19 v21 → (v23 : BitVec 32) → k0_chk4 v23 →
    Prog (TpuEff nD τ sig (Elt F) Λ₀ (.scVector ((L 0).castLE hcore0) ((L 1).castLE hsub0))) PUnit) (v5 v7 : BitVec 32) (h1 : k0_chk1 v5 v7) (t : Fin (k0_t1_loop v5 v7).trips) :
    Prog (TpuEff nD τ sig (Elt F) Λ₀ (.scVector ((L 0).castLE hcore0) ((L 1).castLE hsub0))) (BitVec 32) := do
  let ⟨v17, h2, v19, h3, v21, h197, v23, h4⟩ ← k0_part75 L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 v5 v7 h1 1#32 t
  k0_part76 L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 v17 h2 v19 h3
  Prog.lift (.waitDma2 cc0_scoped5.sem ((luV.slice (Rect.unit (s := S200x96x256) (k0_off6 v19) S1x96x128.size (k0_off6_inb v19 h3)) (fun _ => rfl)).squeeze S96x128 squeezes_S1x96x128_S96x128)
    (halfView 1 inb_S96x2x128_S96x1x128_0_1_0) ((View.wordExact_bits rfl).reshape _ _) ((View.wordExact_bits rfl).reshape _ _))
  LP v19 h3 v21 h197 v23 h4
  outBody L v19 v21 h197

theorem body_eq (v5 v7 : BitVec 32) (h1 : k0_chk1 v5 v7) (t : Fin (k0_t1_loop v5 v7).trips) (a : BitVec 32) :
    k0_t1_body (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 (iota .scVector S16 32 [0] iota_S16_d0_w32_scVector) v5 v7 h1 t a
      = itemBody L (fun v19 h3 v21 h197 v23 h4 => itemLoops L (iota .scVector S16 32 [0] iota_S16_d0_w32_scVector) v19 h3 v21 h197 v23 h4) v5 v7 h1 t := rfl

theorem item_trip (LP : (v19 : BitVec 32) → (h3 : k0_chk3 v19) → (v21 : BitVec 32) → k0_chk197 v19 v21 → (v23 : BitVec 32) → k0_chk4 v23 →
    Prog (TpuEff nD τ sig (Elt F) Λ₀ (.scVector ((L 0).castLE hcore0) ((L 1).castLE hsub0))) PUnit)
    (hLP : ∀ (v19 : BitVec 32) (h3 : k0_chk3 v19) (v21 : BitVec 32) (h197 : k0_chk197 v19 v21) (v23 : BitVec 32) (h4 : k0_chk4 v23)
      (hv : v23.toNat ≤ 1536) (e : Buf (Elt F) (s0V.view.loc (tt d L))) (f : Buf (Elt F) (s1V.view.loc (tt d L))) (g : Buf (Elt F) (s2V.view.loc (tt d L)))
      (z : Buf (Elt F) (s3V.view.loc (tt d L))),
      iprop((s0V.view.loc (tt d L) ↦{fullShare} e) ∗ (s1V.view.loc (tt d L) ↦{fullShare} f) ∗ (s2V.view.loc (tt d L) ↦{fullShare} g)
          ∗ (s3V.view.loc (tt d L) ↦{fullShare} z) : sProp (MM F))
        ⊢ wp frame (wpE (defs₀ (F := F)) 𝒱₀ (tt d L) none) Set.univ (LP v19 h3 v21 h197 v23 h4)
            fun _ => iprop((s0V.view.loc (tt d L) ↦{fullShare} e) ∗ (s1V.view.loc (tt d L) ↦{fullShare} (addTab f g : S96x2x128.Idx → F .f32))
              ∗ (s2V.view.loc (tt d L) ↦{fullShare} g)
              ∗ (s3V.view.loc (tt d L) ↦{fullShare} (slotRow v23.toNat (addTab f g) e : S1536.Idx → F .f32))))
    (O : CellTallies nD τ sig (HIx 1)) (W : Waits sig (HIx 1)) (v5 v7 : BitVec 32) (h1 : k0_chk1 v5 v7) (t : Fin (k0_t1_loop v5 v7).trips) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (ou : Buf (Elt F) (ouV.view.loc (tt d L)))
    (k : Fin 3600) (l : Fin 2000) (b : Fin 200) (p : Fin 18) (n : ℕ) (hk : k0_off2 v5 v7 t = ![k.val, 0])
    (hl : ((show S3600x16.Idx → BitVec 32 from me) (ix2 k 0)).toNat = l.val) (hb : ((show S3600x16.Idx → BitVec 32 from me) (ix2 k 1)).toNat = b.val)
    (hp : ((show S3600x16.Idx → BitVec 32 from me) (ix2 k 2)).toNat = p.val) (hn : ((show S3600x16.Idx → BitVec 32 from me) (ix2 k 3)).toNat = n) (hn' : n ≤ 1536)
    (e0 : Buf (Elt F) (s0V.view.loc (tt d L))) (e1 : Buf (Elt F) (s1V.view.loc (tt d L))) (e2 : Buf (Elt F) (s2V.view.loc (tt d L)))
    (e3 : Buf (Elt F) (s3V.view.loc (tt d L))) (e4 : Buf (Elt F) (s4V.view.loc (tt d L))) :
    iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (s0V.view.loc (tt d L) ↦{fullShare} e0) ∗ (s1V.view.loc (tt d L) ↦{fullShare} e1) ∗ (s2V.view.loc (tt d L) ↦{fullShare} e2)
      ∗ (s3V.view.loc (tt d L) ↦{fullShare} e3) ∗ (s4V.view.loc (tt d L) ↦{fullShare} e4)
      ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[outCell p.val b.val]{fullShare} ou) ∗ owes (tt d L) O W : sProp (MM F))
      ⊢ wp frame (wpE (defs₀ (F := F)) 𝒱₀ (tt d L) none) Set.univ
          (itemBody L LP v5 v7 h1 t)
          fun _ => iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (∃ e0, s0V.view.loc (tt d L) ↦{fullShare} e0) ∗ (∃ e1, s1V.view.loc (tt d L) ↦{fullShare} e1) ∗ (∃ e2, s2V.view.loc (tt d L) ↦{fullShare} e2)
      ∗ (∃ e3, s3V.view.loc (tt d L) ↦{fullShare} e3) ∗ (∃ e4, s4V.view.loc (tt d L) ↦{fullShare} e4)
      ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[outCell p.val b.val]{fullShare} (fun y => itemVal cd tm lu l b n (ix1 (y 2)) : S18x200x1536.Idx → F .f32))
      ∗ ∃ W', ⌜∀ w ∈ W', w ∈ W ∨ w.2 = (default : HIx 1)⌝ ∗ owes (tt d L) O W') := by
  have c2 := chk2_of ((congrArg BitVec.toNat (word0 d L e4 _)).trans_lt ((congrArg BitVec.toNat (metaRow_at d L _ (k0_off2_inb v5 v7 h1 t) k hk (fun _ => rfl) me 0)).trans_lt (hl.trans_lt l.isLt)))
  have c3 := chk3_of ((congrArg BitVec.toNat (word1 d L e4 _)).trans_lt ((congrArg BitVec.toNat (metaRow_at d L _ (k0_off2_inb v5 v7 h1 t) k hk (fun _ => rfl) me 1)).trans_lt (hb.trans_lt b.isLt)))
  have c197 := chk197_of ((congrArg BitVec.toNat (word1 d L e4 _)).trans_lt ((congrArg BitVec.toNat (metaRow_at d L _ (k0_off2_inb v5 v7 h1 t) k hk (fun _ => rfl) me 1)).trans_lt (hb.trans_lt b.isLt)))
     ((congrArg BitVec.toNat (word2 d L e4 _)).trans_lt ((congrArg BitVec.toNat (metaRow_at d L _ (k0_off2_inb v5 v7 h1 t) k hk (fun _ => rfl) me 2)).trans_lt (hp.trans_lt p.isLt)))
  have c4 := chk4_of ((congrArg BitVec.toNat (word3 d L e4 _)).trans_le ((congrArg BitVec.toNat (metaRow_at d L _ (k0_off2_inb v5 v7 h1 t) k hk (fun _ => rfl) me 3)).trans_le (hn.trans_le hn')))
  iintro ⟨Hmw, Hcd, Htm, Hlu, Hme, H0, H1, H2, H3, H4, Hs1, Hs2, Hs3, Hs4, Hs5, Hs6, Ho, HO⟩
  unfold itemBody
  sl_unfold [k0_part75, k0_part76]
  sl_exec (disch := first
    | exact View.amount_pos _ _ (show 0 < S16.numel by decide)
    | exact View.amount_pos _ _ (show 0 < S24x1536.numel by decide)
    | exact View.amount_pos _ _ (show 0 < S48x256.numel by decide)
    | exact View.amount_pos _ _ (show 0 < S96x128.numel by decide)
    | exact c2 | exact c3 | exact c197 | exact c4)
  have hv17 : (item_trip.sl.v17 d L v5 v7 h1 t me e4).toNat = l.val := (congrArg BitVec.toNat (word0 d L e4 _)).trans ((congrArg BitVec.toNat (metaRow_at d L _ (k0_off2_inb v5 v7 h1 t) k hk (fun _ => rfl) me 0)).trans hl)
  have hv19 : (item_trip.sl.v19 d L v5 v7 h1 t me e4).toNat = b.val := (congrArg BitVec.toNat (word1 d L e4 _)).trans ((congrArg BitVec.toNat (metaRow_at d L _ (k0_off2_inb v5 v7 h1 t) k hk (fun _ => rfl) me 1)).trans hb)
  have hv21 : (item_trip.sl.v21 d L v5 v7 h1 t me e4).toNat = p.val := (congrArg BitVec.toNat (word2 d L e4 _)).trans ((congrArg BitVec.toNat (metaRow_at d L _ (k0_off2_inb v5 v7 h1 t) k hk (fun _ => rfl) me 2)).trans hp)
  have hv23 : (item_trip.sl.v23 d L v5 v7 h1 t me e4).toNat = n := (congrArg BitVec.toNat (word3 d L e4 _)).trans ((congrArg BitVec.toNat (metaRow_at d L _ (k0_off2_inb v5 v7 h1 t) k hk (fun _ => rfl) me 3)).trans hn)
  have he : View.write (Elt F) s0V.view e0 (item_trip.sl.dma1 d L v5 v7 h1 t cd me e4 c2) Finset.univ = codeRow cd l :=
    (View.write_whole_univ _ _ _).trans (codes_read d L _ _ l (congrArg (fun z => ![z, 0, 0]) hv17) (fun _ => rfl) cd)
  have hg : View.write (Elt F) s2V.view e2 (item_trip.sl.dma1_1 d L v5 v7 h1 t tm me e4 c2) Finset.univ = termRow tm l :=
    (View.write_whole_univ _ _ _).trans (terms_read d L _ _ l (congrArg (fun z => ![z, 0, 0]) hv17) (fun _ => rfl) tm)
  have hf : View.write (Elt F) (halfView 1 inb_S96x2x128_S96x1x128_0_1_0).view (View.write (Elt F) (halfView 0 inb_S96x2x128_S96x1x128_0_0_0).view e1
      (item_trip.sl.dma1_2 d L v5 v7 h1 t lu me e4 c3) Finset.univ) (item_trip.sl.dma1_3 d L v5 v7 h1 t lu me e4 c3) Finset.univ = tabOf lu b :=
    table_write _ _ e1 _ _ lu b
      (fun x i hi => half_read d L _ _ b 0 (by decide) (congrArg (fun z => ![z, 0, 0]) hv19) (fun _ => rfl) lu x i hi)
      (fun x i hi => half_read d L _ _ b 128 (by decide) (congrArg (fun z => ![z, 0, 128]) hv19) (fun _ => rfl) lu x i hi)
  rw [wp_bind]
  iapply (wp_wand_r Idealize.ShloMosaic.frame (wpE (defs₀ (F := F)) 𝒱₀ (tt d L) none) Set.univ)
  isplitl [H0 H1 H2 H3]
  · iapply (hLP (item_trip.sl.v19 d L v5 v7 h1 t me e4) c3 (item_trip.sl.v21 d L v5 v7 h1 t me e4) c197 (item_trip.sl.v23 d L v5 v7 h1 t me e4) c4 (hv23.trans_le hn') _ _ _ _)
    isplitl [H0]; · iexact H0
    isplitl [H1]; · iexact H1
    isplitl [H2]; · iexact H2
    iexact H3
  iintro %_ ⟨H0, H1, H2, H3⟩
  iapply (wp_wand_r Idealize.ShloMosaic.frame (wpE (defs₀ (F := F)) 𝒱₀ (tt d L) none) Set.univ)
  isplitl [Hmw H3 Ho Hs6 HO]
  · iapply (out_trip d L O _ (item_trip.sl.v19 d L v5 v7 h1 t me e4) (item_trip.sl.v21 d L v5 v7 h1 t me e4) c197 _ ou (fun y => itemVal cd tm lu l b n (ix1 (y 2)))
      (fun y _ => congrFun (itemVal_of cd tm lu l b hv23 hf hg he) (ix1 (y 2))))
    isplitl [Hmw]; · iexact Hmw
    isplitl [H3]; · iexact H3
    isplitl [Ho]
    · iapply (Entails.of_eq (congrArg₂ (fun x y => (ouV.view.loc (tt d L) ↦[outCell x y]{fullShare} ou : sProp (MM F))) hv21.symm hv19.symm)); iexact Ho
    isplitl [Hs6]; · iexact Hs6
    iexact HO
  iintro %_ ⟨Hmw, H3, Ho, Hs6, HO⟩
  isplitl [Hmw]; · iexact Hmw
  isplitl [Hcd]; · iexact Hcd
  isplitl [Htm]; · iexact Htm
  isplitl [Hlu]; · iexact Hlu
  isplitl [Hme]; · iexact Hme
  isplitl [H0]; · iexists _; iexact H0
  isplitl [H1]; · iexists _; iexact H1
  isplitl [H2]; · iexists _; iexact H2
  isplitl [H3]; · iexists _; iexact H3
  isplitl [H4]; · iexists _; iexact H4
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Ho]
  · iapply (Entails.of_eq (congrArg₂ (fun x y => (ouV.view.loc (tt d L) ↦[outCell x y]{fullShare}
      (fun y => itemVal cd tm lu l b n (ix1 (y 2)) : S18x200x1536.Idx → F .f32) : sProp (MM F))) hv21 hv19)); iexact Ho
  ihave HO' := (owes_ok d L O W) $$ HO
  iexact HO'

end Cert.Proof.Sc
end
end
-- ==== Proof.ScWork.lean ====
module

public import Idealize.ShloMosaic.Lib.Pipeline.ValueKit
public import Idealize.ShloMosaic.Lib.WordCmp
public import Idealize.ShloMosaic.Lib.LoopRemainder
public import proofs.«01_k».proof.Proof.ScData
public import proofs.«01_k».proof.Proof.ScOut

/-! The work list. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The item loop runs from the one word to the other by steps of one. -/
theorem t1_loop_eq (v5 v7 : BitVec 32) : k0_t1_loop v5 v7 = ⟨v5, v7, 1#32⟩ := by
  show (⟨v5, Scalar.addi v5 (Scalar.muli (Scalar.divsi (Scalar.subi v7 v5) 1#32) 1#32), 1#32⟩ : Scf.Loop 32) = _
  rw [Scalar.muli_divsi_one]
  have h : Scalar.addi v5 (Scalar.subi v7 v5) = v7 := by
    show v5 + (v7 - v5) = v7
    rw [BitVec.add_comm, BitVec.sub_add_cancel]
  rw [h]

theorem toInt_small {v : BitVec 32} (h : v.toNat ≤ 3600) : v.toInt = v.toNat := by
  rw [BitVec.toInt_eq_toNat_cond]; exact if_pos (by omega)

theorem one_toInt : (1#32 : BitVec 32).toInt = 1 := by decide

theorem t1_trips {v5 v7 : BitVec 32} (h : v5.toNat ≤ v7.toNat) (h7 : v7.toNat ≤ 3600) : (k0_t1_loop v5 v7).trips = v7.toNat - v5.toNat := by
  rw [t1_loop_eq]
  show Scf.trips v5 v7 1#32 = _
  unfold Scf.trips
  rw [toInt_small h7, toInt_small (h.trans h7), one_toInt]
  omega

theorem t1_OK {v5 v7 : BitVec 32} (h : v5.toNat ≤ v7.toNat) (h7 : v7.toNat ≤ 3600) : (k0_t1_loop v5 v7).OK := by
  have ht := t1_trips h h7
  rw [t1_loop_eq] at ht ⊢
  show Scf.OK v5 v7 1#32
  have ht' : Scf.trips v5 v7 1#32 = v7.toNat - v5.toNat := ht
  unfold Scf.OK
  rw [ht', toInt_small (h.trans h7), one_toInt]
  constructor
  · omega
  · norm_num; omega

theorem t6_trips (v5 v7 : BitVec 32) : (k0_t6_loop v5 v7).trips = 0 := Scf.rem_trips v5 (Scalar.subi v7 v5)

theorem off2_eq {v5 v7 : BitVec 32} (h : v5.toNat ≤ v7.toNat) (h7 : v7.toNat ≤ 3600) (t : Fin (k0_t1_loop v5 v7).trips) :
    k0_off2 v5 v7 t = ![v5.toNat + t.val, 0] := by
  have ht := t.isLt
  have ht := ht.trans_eq (t1_trips h h7)
  show ![(Scf.iv v5 1#32 t.val).toNat, 0] = _
  have : (Scf.iv v5 1#32 t.val).toNat = v5.toNat + t.val := by
    unfold Scf.iv
    rw [BitVec.mul_one, BitVec.toNat_add, BitVec.toNat_ofNat]
    omega
  rw [this]

theorem chk1_of {v5 v7 : BitVec 32} (h : v5.toNat ≤ v7.toNat) (h7 : v7.toNat ≤ 3600) : k0_chk1 v5 v7 := by
  refine ⟨t1_OK h h7, fun t a => ?_, Scf.rem_ok v5 (Scalar.subi v7 v5), fun t => (Scf.rem_no_trip v5 (Scalar.subi v7 v5) t).elim⟩
  have ht := t.isLt
  have ht := ht.trans_eq (t1_trips h h7)
  rw [off2_eq h h7]
  match a with
  | 0 => show v5.toNat + t.val + 1 ≤ 3600; omega
  | 1 => exact le_of_eq rfl

/-! ## The work list -/

/-- What the work list says: row `k` is one probe of one query, its list and that list's length; no probe appears twice; the
    tasks' ranges follow one another from the first row to the last. -/
structure Work (pr : S200x18.Idx → BitVec 32) (ln : S2000.Idx → BitVec 32) (me : S3600x16.Idx → BitVec 32) (st : S32x16.Idx → BitVec 32) : Prop where
  l_lt : ∀ k : Fin 3600, (me (ix2 k 0)).toNat < 2000
  b_lt : ∀ k : Fin 3600, (me (ix2 k 1)).toNat < 200
  p_lt : ∀ k : Fin 3600, (me (ix2 k 2)).toNat < 18
  n_le : ∀ k : Fin 3600, (me (ix2 k 3)).toNat ≤ 1536
  probe : ∀ (k : Fin 3600) (b : Fin 200) (p : Fin 18), (me (ix2 k 1)).toNat = b.val → (me (ix2 k 2)).toNat = p.val → me (ix2 k 0) = pr (ix2 b p)
  len : ∀ (k : Fin 3600) (l : Fin 2000), (me (ix2 k 0)).toNat = l.val → me (ix2 k 3) = ln (ix1 l)
  once : ∀ k k' : Fin 3600, (me (ix2 k 1)).toNat = (me (ix2 k' 1)).toNat → (me (ix2 k 2)).toNat = (me (ix2 k' 2)).toNat → k = k'
  first : (st (ix2 0 0)).toNat = 0
  last : (st (ix2 31 1)).toNat = 3600
  mono : ∀ w : Fin 32, (st (ix2 w 0)).toNat ≤ (st (ix2 w 1)).toNat
  chain : ∀ w w' : Fin 32, w.val + 1 = w'.val → st (ix2 w 1) = st (ix2 w' 0)

variable {pr : S200x18.Idx → BitVec 32} {ln : S2000.Idx → BitVec 32} {me : S3600x16.Idx → BitVec 32} {st : S32x16.Idx → BitVec 32}

/-- A later task begins where or after an earlier one ends. -/
theorem Work.after (h : Work pr ln me st) : ∀ (j : ℕ) (w w' : Fin 32), w.val + 1 + j = w'.val → (st (ix2 w 1)).toNat ≤ (st (ix2 w' 0)).toNat
  | 0, w, w', e => le_of_eq (congrArg BitVec.toNat (h.chain w w' e))
  | j + 1, w, w', e => by
    have hl : w'.val - 1 < 32 := by have := w'.isLt; omega
    have i := h.after j w ⟨w'.val - 1, hl⟩ (show w.val + 1 + j = w'.val - 1 by omega)
    exact i.trans ((h.mono _).trans (le_of_eq (congrArg BitVec.toNat (h.chain ⟨w'.val - 1, hl⟩ w' (show w'.val - 1 + 1 = w'.val by omega)))))

theorem Work.hi_le (h : Work pr ln me st) (w : Fin 32) : (st (ix2 w 1)).toNat ≤ 3600 := by
  by_cases hw : w = 31
  · subst hw; exact h.last.le
  · have : w.val < 31 := by have := w.isLt; have : w.val ≠ 31 := fun e => hw (Fin.ext e); omega
    exact (h.after (30 - w.val) w 31 (show w.val + 1 + (30 - w.val) = 31 by omega)).trans ((h.mono 31).trans h.last.le)

/-- Every row below a task's end belongs to that task or an earlier one. -/
theorem Work.cover (h : Work pr ln me st) (k : ℕ) : ∀ (j : ℕ) (w : Fin 32), w.val = j → k < (st (ix2 w 1)).toNat →
    ∃ w' : Fin 32, (st (ix2 w' 0)).toNat ≤ k ∧ k < (st (ix2 w' 1)).toNat
  | 0, w, e, hk => ⟨w, by rw [show w = 0 from Fin.ext e, h.first]; exact Nat.zero_le _, hk⟩
  | j + 1, w, e, hk => by
    by_cases hlo : (st (ix2 w 0)).toNat ≤ k
    · exact ⟨w, hlo, hk⟩
    · have hl : j < 32 := by have := w.isLt; omega
      exact h.cover k j ⟨j, hl⟩ rfl (by rw [h.chain ⟨j, hl⟩ w e.symm]; omega)

open Classical in
/-- The output's elements that the work items from `lo` to `hi` write. -/
def cells (me : S3600x16.Idx → BitVec 32) (lo hi : ℕ) : Finset S18x200x1536.Idx :=
  Finset.univ.filter fun y => ∃ k : Fin 3600, lo ≤ k.val ∧ k.val < hi ∧ (me (ix2 k 2)).toNat = (y 0).val ∧ (me (ix2 k 1)).toNat = (y 1).val

theorem mem_cells {lo hi : ℕ} {y : S18x200x1536.Idx} :
    y ∈ cells me lo hi ↔ ∃ k : Fin 3600, lo ≤ k.val ∧ k.val < hi ∧ (me (ix2 k 2)).toNat = (y 0).val ∧ (me (ix2 k 1)).toNat = (y 1).val := by
  unfold cells; rw [Finset.mem_filter]; exact ⟨fun h => h.2, fun h => ⟨Finset.mem_univ _, h⟩⟩

theorem cells_self (lo : ℕ) : cells me lo lo = ∅ :=
  Finset.eq_empty_of_forall_notMem fun y h => by obtain ⟨k, h1, h2, _⟩ := mem_cells.1 h; omega

theorem cells_first {lo hi : ℕ} (k : Fin 3600) (hk : k.val = lo) (hlt : lo < hi) :
    cells me lo hi = outCell (me (ix2 k 2)).toNat (me (ix2 k 1)).toNat ∪ cells me (lo + 1) hi := by
  ext y
  rw [Finset.mem_union, mem_cells, mem_cells, mem_outCell]
  constructor
  · rintro ⟨k', h1, h2, h3, h4⟩
    by_cases e : k' = k
    · subst e; exact .inl ⟨h3.symm, h4.symm⟩
    · have : k'.val ≠ k.val := fun h => e (Fin.ext h)
      exact .inr ⟨k', by omega, h2, h3, h4⟩
  · rintro (⟨h1, h2⟩ | ⟨k', h1, h2, h3, h4⟩)
    · exact ⟨k, hk.ge, by omega, h1.symm, h2.symm⟩
    · exact ⟨k', by omega, h2, h3, h4⟩

theorem cells_last {lo : ℕ} (k : Fin 3600) (hk : lo ≤ k.val) :
    cells me lo (k.val + 1) = cells me lo k.val ∪ outCell (me (ix2 k 2)).toNat (me (ix2 k 1)).toNat := by
  ext y
  rw [Finset.mem_union, mem_cells, mem_cells, mem_outCell]
  constructor
  · rintro ⟨k', h1, h2, h3, h4⟩
    by_cases e : k' = k
    · subst e; exact .inr ⟨h3.symm, h4.symm⟩
    · have : k'.val ≠ k.val := fun h => e (Fin.ext h)
      exact .inl ⟨k', h1, by omega, h3, h4⟩
  · rintro (⟨k', h1, h2, h3, h4⟩ | ⟨h1, h2⟩)
    · exact ⟨k', h1, by omega, h3, h4⟩
    · exact ⟨k, hk, by omega, h1.symm, h2.symm⟩

theorem Work.cell_off (h : Work pr ln me st) {lo hi : ℕ} (k : Fin 3600) (hk : k.val < lo ∨ hi ≤ k.val) :
    Disjoint (outCell (me (ix2 k 2)).toNat (me (ix2 k 1)).toNat) (cells me lo hi) := by
  rw [Finset.disjoint_left]
  intro y hy hy'
  obtain ⟨h1, h2⟩ := mem_outCell.1 hy
  obtain ⟨k', h3, h4, h5, h6⟩ := mem_cells.1 hy'
  have := h.once k k' (h2.symm.trans h6.symm) (h1.symm.trans h5.symm)
  subst this
  omega

theorem Work.cells_off (h : Work pr ln me st) {lo hi lo' hi' : ℕ} (hk : hi ≤ lo') : Disjoint (cells me lo hi) (cells me lo' hi') := by
  rw [Finset.disjoint_left]
  intro y hy hy'
  obtain ⟨k, h1, h2, h3, h4⟩ := mem_cells.1 hy
  obtain ⟨k', h5, h6, h7, h8⟩ := mem_cells.1 hy'
  have := h.once k k' (h4.trans h8.symm) (h3.trans h7.symm)
  subst this
  omega

/-- Every element of the output belongs to some work item. -/
theorem Work.cells_all (h : Work pr ln me st) : cells me 0 3600 = Finset.univ := by
  refine Finset.eq_univ_of_forall fun y => mem_cells.2 ?_
  let f : Fin 3600 → Fin 18 × Fin 200 := fun k => (⟨_, h.p_lt k⟩, ⟨_, h.b_lt k⟩)
  have hf : Function.Injective f := fun k k' e => h.once k k' (congrArg (fun z => z.2.val) e) (congrArg (fun z => z.1.val) e)
  have hb : Function.Bijective f := (Fintype.bijective_iff_injective_and_card f).2 ⟨hf, by simp⟩
  obtain ⟨k, hk⟩ := hb.2 (y 0, y 1)
  exact ⟨k, Nat.zero_le _, k.isLt, congrArg (fun z => z.1.val) hk, congrArg (fun z => z.2.val) hk⟩

/-- The output: the row of the probed list's slots for that query. -/
def outVal (cd : S2000x24x1536.Idx → BitVec 32) (tm : S2000x48x256.Idx → BitVec 32) (lu : S200x96x256.Idx → F .f32)
    (pr : S200x18.Idx → BitVec 32) (ln : S2000.Idx → BitVec 32) (y : S18x200x1536.Idx) : F .f32 :=
  itemVal cd tm lu ⟨(pr (ix2 (y 1) (y 0))).toNat % 2000, Nat.mod_lt _ (by decide)⟩ (y 1)
    (ln (ix1 ⟨(pr (ix2 (y 1) (y 0))).toNat % 2000, Nat.mod_lt _ (by decide)⟩)).toNat (ix1 (y 2))

theorem Work.outVal_at (h : Work pr ln me st) (cd : S2000x24x1536.Idx → BitVec 32) (tm : S2000x48x256.Idx → BitVec 32) (lu : S200x96x256.Idx → F .f32)
    (k : Fin 3600) (y : S18x200x1536.Idx) (hy : y ∈ outCell (me (ix2 k 2)).toNat (me (ix2 k 1)).toNat) :
    itemVal cd tm lu ⟨_, h.l_lt k⟩ ⟨_, h.b_lt k⟩ (me (ix2 k 3)).toNat (ix1 (y 2)) = outVal cd tm lu pr ln y := by
  obtain ⟨h1, h2⟩ := mem_outCell.1 hy
  have hp := h.probe k (y 1) (y 0) h2.symm h1.symm
  have hl : (⟨(pr (ix2 (y 1) (y 0))).toNat % 2000, Nat.mod_lt _ (by decide)⟩ : Fin 2000) = ⟨(me (ix2 k 0)).toNat, h.l_lt k⟩ := by
    apply Fin.ext
    show (pr (ix2 (y 1) (y 0))).toNat % 2000 = (me (ix2 k 0)).toNat
    rw [← hp]; exact Nat.mod_eq_of_lt (h.l_lt k)
  have hn := h.len k ⟨(me (ix2 k 0)).toNat, h.l_lt k⟩ rfl
  have hb : (⟨(me (ix2 k 1)).toNat, h.b_lt k⟩ : Fin 200) = y 1 := Fin.ext h2.symm
  unfold outVal
  rw [hl, ← hn, hb]

end Cert.Proof.Sc
end
end
-- ==== Proof.ScTile.lean ====
module

public import Idealize.ShloMosaic.Lib.Pipeline.ValueKit
public import Idealize.ShloMosaic.Lib.WordCmp
public import Idealize.ShloMosaic.Lib.LoopRemainder
public import proofs.«01_k».proof.Proof.ScItem
public import proofs.«01_k».proof.Proof.ScWork

/-! One task of the gather kernel. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

theorem startRow_at (off : Fin 2 → ℕ) (inb : ∀ a, off a + S1x16.size a ≤ S32x16.size a) (w : Fin 32) (ho : off = ![w.val, 0]) (hf)
    (st : Buf (Elt F) (stV.view.loc (tt d L))) (j : Fin 16) :
    View.read (Elt F) ((stV.slice (Rect.unit (s := S32x16) off S1x16.size inb) hf).squeeze S16 squeezes_S1x16_S16).view st (ix1 j)
      = (show S32x16.Idx → BitVec 32 from st) (ix2 w j) := by
  subst ho
  show st ((Rect.unit (s := S32x16) ![w.val, 0] S1x16.size inb).emb (Shape.reshapeEquiv _ (ix1 j))) = _
  simp only [pointwise]
  refine congrArg st (funext fun a => ?_)
  match a with
  | 0 => exact Fin.ext (by simp [ix2])
  | 1 => exact Fin.ext (by simp [ix2])

theorem start0 (e5 : Buf (Elt F) (s5V.view.loc (tt d L))) (P : S16.Idx → BitVec 32) :
    extractAt ![0] (k0_pay1 (F := F) (View.readAt (Elt F) s5V.view (Rect.unit (s := S16) ![0] S16.size inb_S16_S16_0).toLoadRect
      (View.write (Elt F) s5V.view e5 P Finset.univ))) inpos_S1_p0 = P (ix1 0) := by
  rw [show View.write (Elt F) s5V.view e5 P Finset.univ = P from View.write_whole_univ _ _ _]
  show (View.readAt (Elt F) s5V.view (Rect.unit (s := S16) ![0] S16.size inb_S16_S16_0).toLoadRect P) _ = _
  refine congrArg P (funext fun a => ?_)
  match a with
  | 0 => rfl
theorem start1 (e5 : Buf (Elt F) (s5V.view.loc (tt d L))) (P : S16.Idx → BitVec 32) :
    extractAt ![0] (k0_pay2 (F := F) (View.readAt (Elt F) s5V.view (Rect.unit (s := S16) ![0] S16.size inb_S16_S16_0).toLoadRect
      (View.write (Elt F) s5V.view e5 P Finset.univ))) inpos_S1_p0 = P (ix1 1) := by
  rw [show View.write (Elt F) s5V.view e5 P Finset.univ = P from View.write_whole_univ _ _ _]
  show (View.readAt (Elt F) s5V.view (Rect.unit (s := S16) ![0] S16.size inb_S16_S16_0).toLoadRect P) _ = _
  refine congrArg P (funext fun a => ?_)
  match a with
  | 0 => rfl

theorem L0_lt : (L 0).val < 2 := (L 0).isLt
theorem L1_lt : (L 1).val < 16 := (L 1).isLt
/-- The task's number among the thirty-two. -/
def wid (L : grid0.Coords) : Fin 32 := ⟨2 * (L 1).val + (L 0).val, by have := L0_lt L; have := L1_lt L; omega⟩

theorem off1_eq : k0_off1 L = ![(wid L).val, 0] := by
  have h0 := L0_lt L; have h1 := L1_lt L
  show ![(BitVec.ofNat 32 (L 1).val * 2#32 + BitVec.ofNat 32 (L 0).val).toNat, 0] = _
  have : (BitVec.ofNat 32 (L 1).val * 2#32 + BitVec.ofNat 32 (L 0).val).toNat = (wid L).val := by
    rw [BitVec.toNat_add, BitVec.toNat_mul, BitVec.toNat_ofNat, BitVec.toNat_ofNat, BitVec.toNat_ofNat]
    show _ = 2 * (L 1).val + (L 0).val
    omega
  rw [this]

/-- What the item loop keeps: before its `n`-th trip, the items before the `n`-th are written and the others are not. -/
def tinv (O : CellTallies nD τ sig (HIx 1)) (W : Waits sig (HIx 1)) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (ou : Buf (Elt F) (ouV.view.loc (tt d L)))
    (pr : S200x18.Idx → BitVec 32) (ln : S2000.Idx → BitVec 32) (lo hi n : ℕ) : sProp (MM F) :=
  iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (∃ e0, s0V.view.loc (tt d L) ↦{fullShare} e0) ∗ (∃ e1, s1V.view.loc (tt d L) ↦{fullShare} e1) ∗ (∃ e2, s2V.view.loc (tt d L) ↦{fullShare} e2)
      ∗ (∃ e3, s3V.view.loc (tt d L) ↦{fullShare} e3) ∗ (∃ e4, s4V.view.loc (tt d L) ↦{fullShare} e4)
      ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[cells (show S3600x16.Idx → BitVec 32 from me) lo (lo + n)]{fullShare} (outVal cd tm lu pr ln : S18x200x1536.Idx → F .f32))
      ∗ (ouV.view.loc (tt d L) ↦[cells (show S3600x16.Idx → BitVec 32 from me) (lo + n) hi]{fullShare} ou)
      ∗ ∃ W', ⌜∀ w ∈ W', w ∈ W ∨ w.2 = (default : HIx 1)⌝ ∗ owes (tt d L) O W')

theorem tile_step (O : CellTallies nD τ sig (HIx 1)) (W : Waits sig (HIx 1)) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (ou : Buf (Elt F) (ouV.view.loc (tt d L)))
    (pr : S200x18.Idx → BitVec 32) (ln : S2000.Idx → BitVec 32) (st : S32x16.Idx → BitVec 32) (hW : Work pr ln me st)
    (v5 v7 : BitVec 32) (h : v5.toNat ≤ v7.toNat) (h7 : v7.toNat ≤ 3600) (h1 : k0_chk1 v5 v7) (t : Fin (k0_t1_loop v5 v7).trips) (a : BitVec 32) :
    tinv d L O W q cd tm lu me ou pr ln v5.toNat v7.toNat t.val
      ⊢ wp frame (wpE (defs₀ (F := F)) 𝒱₀ (tt d L) none) Set.univ
          (k0_t1_body (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 (iota .scVector S16 32 [0] iota_S16_d0_w32_scVector) v5 v7 h1 t a)
          fun _ => tinv d L O W q cd tm lu me ou pr ln v5.toNat v7.toNat (t.val + 1) := by
  have ht : t.val < v7.toNat - v5.toNat := t.isLt.trans_eq (t1_trips h h7)
  obtain ⟨k, hk⟩ : ∃ k : Fin 3600, k.val = v5.toNat + t.val := ⟨⟨v5.toNat + t.val, by omega⟩, rfl⟩
  have hfirst := cells_first (me := me) (lo := v5.toNat + t.val) (hi := v7.toNat) k hk (by omega)
  have hlast := cells_last (me := me) (lo := v5.toNat) k (by omega)
  have hd1 := hW.cell_off (lo := v5.toNat + t.val + 1) (hi := v7.toNat) k (by omega)
  have hd2 := (hW.cell_off (lo := v5.toNat) (hi := k.val) k (by omega)).symm
  rw [hk] at hlast hd2
  rw [body_eq]
  unfold tinv
  iintro ⟨Hmw, Hcd, Htm, Hlu, Hme, ⟨%e0, H0⟩, ⟨%e1, H1⟩, ⟨%e2, H2⟩, ⟨%e3, H3⟩, ⟨%e4, H4⟩, Hs1, Hs2, Hs3, Hs4, Hs5, Hs6, Hd, Hr, ⟨%W1, %hW1, HO⟩⟩
  ihave Hr1 := (Entails.of_eq (congrArg (fun S => (ouV.view.loc (tt d L) ↦[S]{fullShare} ou : sProp (MM F))) hfirst)) $$ Hr
  ihave Hr2 := (pointsTo_union hd1).1 $$ Hr1
  icases Hr2 with ⟨Hc, Hr⟩
  iapply (wp_wand_r Idealize.ShloMosaic.frame (wpE (defs₀ (F := F)) 𝒱₀ (tt d L) none) Set.univ)
  isplitl [Hmw Hcd Htm Hlu Hme H0 H1 H2 H3 H4 Hs1 Hs2 Hs3 Hs4 Hs5 Hs6 Hc HO]
  · iapply (item_trip d L (fun v19 h3 v21 h197 v23 h4 => itemLoops L (iota .scVector S16 32 [0] iota_S16_d0_w32_scVector) v19 h3 v21 h197 v23 h4)
      (fun v19 h3 v21 h197 v23 h4 hv e f g z => loops_trip d L v19 h3 v21 h197 v23 h4 hv e f g z) O W1 v5 v7 h1 t q cd tm lu me ou k
      ⟨_, hW.l_lt k⟩ ⟨_, hW.b_lt k⟩ ⟨_, hW.p_lt k⟩ _ ((off2_eq h h7 t).trans (congrArg (fun z => ![z, 0]) hk.symm)) rfl rfl rfl rfl (hW.n_le k) e0 e1 e2 e3 e4)
    isplitl [Hmw]; · iexact Hmw
    isplitl [Hcd]; · iexact Hcd
    isplitl [Htm]; · iexact Htm
    isplitl [Hlu]; · iexact Hlu
    isplitl [Hme]; · iexact Hme
    isplitl [H0]; · iexact H0
    isplitl [H1]; · iexact H1
    isplitl [H2]; · iexact H2
    isplitl [H3]; · iexact H3
    isplitl [H4]; · iexact H4
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hc]; · iexact Hc
    iexact HO
  iintro %_ ⟨Hmw, Hcd, Htm, Hlu, Hme, H0, H1, H2, H3, H4, Hs1, Hs2, Hs3, Hs4, Hs5, Hs6, Hc, ⟨%W2, %hW2, HO⟩⟩
  ihave Hc1 := (Entails.of_eq (pointsTo_congr (g := (outVal cd tm lu pr ln : S18x200x1536.Idx → F .f32)) fun y hy => hW.outVal_at cd tm lu k y hy)) $$ Hc
  ihave Hd1 := (pointsTo_union (ℓ := ouV.view.loc (tt d L)) (q := fullShare) (f := (outVal cd tm lu pr ln : S18x200x1536.Idx → F .f32)) hd2).2 $$ [Hd Hc1]
  · isplitl [Hd]; · iexact Hd
    iexact Hc1
  ihave Hd2 := (Entails.of_eq (congrArg (fun S => (ouV.view.loc (tt d L) ↦[S]{fullShare} (outVal cd tm lu pr ln : S18x200x1536.Idx → F .f32) : sProp (MM F))) hlast.symm)) $$ Hd1
  isplitl [Hmw]; · iexact Hmw
  isplitl [Hcd]; · iexact Hcd
  isplitl [Htm]; · iexact Htm
  isplitl [Hlu]; · iexact Hlu
  isplitl [Hme]; · iexact Hme
  isplitl [H0]; · iexact H0
  isplitl [H1]; · iexact H1
  isplitl [H2]; · iexact H2
  isplitl [H3]; · iexact H3
  isplitl [H4]; · iexact H4
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hd2]; · iexact Hd2
  isplitl [Hr]; · iexact Hr
  iexists W2
  isplitr
  · ipureintro; exact fun w hw => (hW2 w hw).elim (hW1 w) .inr
  · iexact HO

/-- One task: from its range of the work list, the output rows of its items. -/
theorem tile (O : CellTallies nD τ sig (HIx 1)) (W : Waits sig (HIx 1)) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (st : Buf (Elt F) (stV.view.loc (tt d L))) (ou : Buf (Elt F) (ouV.view.loc (tt d L)))
    (pr : S200x18.Idx → BitVec 32) (ln : S2000.Idx → BitVec 32) (hW : Work pr ln me st) (lo hi : ℕ)
    (hlo : ((show S32x16.Idx → BitVec 32 from st) (ix2 (wid L) 0)).toNat = lo) (hhi : ((show S32x16.Idx → BitVec 32 from st) (ix2 (wid L) 1)).toNat = hi)
    (e0 : Buf (Elt F) (s0V.view.loc (tt d L))) (e1 : Buf (Elt F) (s1V.view.loc (tt d L))) (e2 : Buf (Elt F) (s2V.view.loc (tt d L)))
    (e3 : Buf (Elt F) (s3V.view.loc (tt d L))) (e4 : Buf (Elt F) (s4V.view.loc (tt d L))) (e5 : Buf (Elt F) (s5V.view.loc (tt d L))) :
    iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (stV.view.loc (tt d L) ↦{q} st)
      ∗ (s0V.view.loc (tt d L) ↦{fullShare} e0) ∗ (s1V.view.loc (tt d L) ↦{fullShare} e1) ∗ (s2V.view.loc (tt d L) ↦{fullShare} e2)
      ∗ (s3V.view.loc (tt d L) ↦{fullShare} e3) ∗ (s4V.view.loc (tt d L) ↦{fullShare} e4) ∗ (s5V.view.loc (tt d L) ↦{fullShare} e5)
      ∗ semVal (tt d L, .dma cc0_scoped0.sem) 0 ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[cells (show S3600x16.Idx → BitVec 32 from me) lo hi]{fullShare} ou) ∗ owes (tt d L) O W : sProp (MM F))
      ⊢ wp frame (wpE (defs₀ (F := F)) 𝒱₀ (tt d L) none) Set.univ
          (cc0_gather_sc (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop((stV.view.loc (tt d L) ↦{q} st) ∗ (∃ e5, s5V.view.loc (tt d L) ↦{fullShare} e5) ∗ semVal (tt d L, .dma cc0_scoped0.sem) 0
            ∗ tinv d L O W q cd tm lu me ou pr ln lo hi (hi - lo)) := by
  have w0 := congrArg BitVec.toNat ((start0 d L e5 _).trans (startRow_at d L _ (k0_off1_inb L) (wid L) (off1_eq L) (fun _ => rfl) st 0))
  have w1 := congrArg BitVec.toNat ((start1 d L e5 _).trans (startRow_at d L _ (k0_off1_inb L) (wid L) (off1_eq L) (fun _ => rfl) st 1))
  have hle := (w0.trans_le (hW.mono (wid L))).trans_eq w1.symm
  have hle7 := w1.trans_le (hW.hi_le (wid L))
  have c1 := chk1_of hle hle7
  iintro ⟨Hmw, Hcd, Htm, Hlu, Hme, Hst, H0, H1, H2, H3, H4, H5, Hs0, Hs1, Hs2, Hs3, Hs4, Hs5, Hs6, Ho, HO⟩
  rw [cc0_gather_sc_eq_skeleton]
  sl_unfold [cc0_gather_sc_skel]
  sl_exec (disch := first
    | exact View.amount_pos _ _ (show 0 < S16.numel by decide)
    | exact c1)
  have hv5 : (tile.sl.v5 d L st e5).toNat = lo := w0.trans hlo
  have hv7 : (tile.sl.v7 d L st e5).toNat = hi := w1.trans hhi
  sl_for (fun (n : ℕ) (_ : BitVec 32) => tinv d L O W q cd tm lu me ou pr ln (tile.sl.v5 d L st e5).toNat (tile.sl.v7 d L st e5).toNat n) $$ [Hmw Hcd Htm Hlu Hme H0 H1 H2 H3 H4 Hs1 Hs2 Hs3 Hs4 Hs5 Hs6 Ho HO]
  case region =>
    intro t a
    exact tile_step d L O W q cd tm lu me ou pr ln st hW (tile.sl.v5 d L st e5) (tile.sl.v7 d L st e5) hle hle7 _ t a
  · unfold tinv
    isplitl [Hmw]; · iexact Hmw
    isplitl [Hcd]; · iexact Hcd
    isplitl [Htm]; · iexact Htm
    isplitl [Hlu]; · iexact Hlu
    isplitl [Hme]; · iexact Hme
    isplitl [H0]; · iexists _; iexact H0
    isplitl [H1]; · iexists _; iexact H1
    isplitl [H2]; · iexists _; iexact H2
    isplitl [H3]; · iexists _; iexact H3
    isplitl [H4]; · iexists _; iexact H4
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitr [Ho HO]
    · rw [Nat.add_zero, cells_self, pointsTo_empty]; iempintro
    isplitl [Ho]
    · rw [hv5, hv7]; iexact Ho
    iexists _
    isplitr
    rotate_left
    · iexact HO
    · ipureintro
      intro w hw
      rcases Finset.mem_insert.mp hw with rfl | hw
      · exact .inr rfl
      · exact .inl hw
  iintro %a H
  sl_for (fun (_ : ℕ) (_ : BitVec 32) => (iprop(emp) : sProp (MM F))) $$ []
  case region =>
    intro t _
    exact absurd (t.isLt.trans_eq (t6_trips _ _)) (Nat.not_lt_zero _)
  · iempintro
  iintro %_ -
  sl_step
  isplitl [Hst]; · iexact Hst
  isplitl [H5]; · iexists _; iexact H5
  isplitl [Hs0]; · iexact Hs0
  have ht := t1_trips hle hle7
  have e : tinv d L O W q cd tm lu me ou pr ln (tile.sl.v5 d L st e5).toNat (tile.sl.v7 d L st e5).toNat (k0_t1_loop (tile.sl.v5 d L st e5) (tile.sl.v7 d L st e5)).trips
      = tinv d L O W q cd tm lu me ou pr ln lo hi (hi - lo) := by
    rw [show (k0_t1_loop (tile.sl.v5 d L st e5) (tile.sl.v7 d L st e5)).trips = _ from ht]
    exact hv5 ▸ hv7 ▸ rfl
  iapply (Entails.of_eq e)
  iexact H

end Cert.Proof.Sc
end
end
-- ==== Proof.ScTask.lean ====
module

public import Idealize.ShloMosaic.Lib.Pipeline.ValueKit
public import Idealize.ShloMosaic.Lib.WordCmp
public import Idealize.ShloMosaic.Lib.LoopRemainder
public import proofs.«01_k».proof.Proof.ScTile

/-! The tasks' shares of the arrays and the output. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## What the handshakes carry -/

abbrev l0 (d : Dev nD) : Loc nD τ sig := (SparseCore.T d).loc main_arg0
abbrev l1 (d : Dev nD) : Loc nD τ sig := (SparseCore.T d).loc main_arg1
abbrev l2 (d : Dev nD) : Loc nD τ sig := (SparseCore.T d).loc main_arg2
abbrev l3 (d : Dev nD) : Loc nD τ sig := (SparseCore.T d).loc main_arg3
abbrev l4 (d : Dev nD) : Loc nD τ sig := (SparseCore.T d).loc main_arg4
abbrev l5 (d : Dev nD) : Loc nD τ sig := (SparseCore.T d).loc main_arg5
abbrev l6 (d : Dev nD) : Loc nD τ sig := (SparseCore.T d).loc main_arg6
abbrev lo (d : Dev nD) : Loc nD τ sig := (SparseCore.T d).loc main_v0
abbrev lr (d : Dev nD) : Loc nD τ sig := (SparseCore.T d).loc main_v1

/-- The five arrays the tasks read, at share `q`. -/
abbrev ins (d : Dev nD) (q : PosShare TreeShare) : sProp (MM F) :=
  iprop((l0 d ↦{q} m (l0 d)) ∗ (l1 d ↦{q} m (l1 d)) ∗ (l2 d ↦{q} m (l2 d)) ∗ (l3 d ↦{q} m (l3 d)) ∗ (l4 d ↦{q} m (l4 d)))

abbrev meM (d : Dev nD) : S3600x16.Idx → BitVec 32 := m (l3 d)
abbrev stM (d : Dev nD) : S32x16.Idx → BitVec 32 := m (l4 d)
/-- The output that the tasks leave. -/
abbrev outV (d : Dev nD) : S18x200x1536.Idx → F .f32 := outVal (m (l0 d)) (m (l1 d)) (m (l2 d)) (m (l5 d)) (m (l6 d))
abbrev WorkAt : Prop := ∀ d : Dev nD, Work (m (l5 d)) (m (l6 d)) (meM m d) (stM m d)

/-- The output's elements that task `w` writes, and those that a SparseCore's sixteen tasks write. -/
abbrev taskCells (d : Dev nD) (w : Fin 32) : Finset S18x200x1536.Idx := cells (meM m d) (stM m d (ix2 w 0)).toNat (stM m d (ix2 w 1)).toNat

def coordsV (c : Fin (grid0.bound 0)) (s : Fin (grid0.bound 1)) : grid0.Coords :=
  fun | 0 => c | 1 => s | ⟨_ + 2, h⟩ => absurd h (Nat.not_lt.2 (Nat.le_add_left _ _))
abbrev wOf (c : Fin 2) (i : Fin 16) : Fin 32 := wid (coordsV c i)
theorem wOf_val (c : Fin 2) (i : Fin 16) : (wOf c i).val = 2 * i.val + c.val := rfl

def coreCells (d : Dev nD) (c : Fin 2) : Finset S18x200x1536.Idx := Finset.univ.biUnion fun i : Fin 16 => taskCells m d (wOf c i)

abbrev qc (c : Fin 2) : PosShare TreeShare := Transfers.dealOf fullShare Finset.univ c
abbrev qi (q : PosShare TreeShare) (i : Fin 16) : PosShare TreeShare := Transfers.dealOf q Finset.univ i

theorem ins_deal {n : ℕ} [NeZero n] (d : Dev nD) (q : PosShare TreeShare) :
    (ins m d q : sProp (MM F)) = bigSep (Finset.univ : Finset (Fin n)) fun i => ins m d (Transfers.dealOf q Finset.univ i) := by
  have hne : (Finset.univ : Finset (Fin n)).Nonempty := ⟨0, Finset.mem_univ _⟩
  rw [bigSep_sep', bigSep_sep', bigSep_sep', bigSep_sep', ← Transfers.pointsTo_deal Finset.univ hne q, ← Transfers.pointsTo_deal Finset.univ hne q,
    ← Transfers.pointsTo_deal Finset.univ hne q, ← Transfers.pointsTo_deal Finset.univ hne q, ← Transfers.pointsTo_deal Finset.univ hne q]

theorem tasks_off (hW : WorkAt m) (d : Dev nD) {w w' : Fin 32} (h : w ≠ w') : Disjoint (taskCells m d w) (taskCells m d w') := by
  have hv : w.val ≠ w'.val := fun e => h (Fin.ext e)
  rcases Nat.lt_or_gt_of_ne hv with hlt | hlt
  · exact (hW d).cells_off ((hW d).after (w'.val - w.val - 1) w w' (by omega))
  · exact ((hW d).cells_off ((hW d).after (w.val - w'.val - 1) w' w (by omega))).symm

theorem cores_off (hW : WorkAt m) (d : Dev nD) : ∀ c ∈ (Finset.univ : Finset (Fin 2)), ∀ c' ∈ (Finset.univ : Finset (Fin 2)), c ≠ c' → Disjoint (coreCells m d c) (coreCells m d c') := by
  intro c _ c' _ h
  unfold coreCells
  rw [Finset.disjoint_biUnion_left]
  intro i _
  rw [Finset.disjoint_biUnion_right]
  intro i' _
  refine tasks_off m hW d fun e => h (Fin.ext ?_)
  have := congrArg Fin.val e
  rw [wOf_val, wOf_val] at this
  omega

theorem row_off (hW : WorkAt m) (d : Dev nD) (c : Fin 2) : ∀ i ∈ (Finset.univ : Finset (Fin 16)), ∀ i' ∈ (Finset.univ : Finset (Fin 16)), i ≠ i' →
    Disjoint (taskCells m d (wOf c i)) (taskCells m d (wOf c i')) := by
  intro i _ i' _ h
  refine tasks_off m hW d fun e => h (Fin.ext ?_)
  have := congrArg Fin.val e
  rw [wOf_val, wOf_val] at this
  omega

theorem cores_all (hW : WorkAt m) (d : Dev nD) : (Finset.univ : Finset (Fin 2)).biUnion (coreCells m d) = Finset.univ := by
  refine Finset.eq_univ_of_forall fun y => ?_
  have hy : y ∈ cells (meM m d) 0 3600 := by rw [(hW d).cells_all]; exact Finset.mem_univ _
  obtain ⟨k, -, hk, h2, h3⟩ := mem_cells.1 hy
  obtain ⟨w, h4, h5⟩ := (hW d).cover k.val 31 31 rfl (hk.trans_eq (hW d).last.symm)
  refine Finset.mem_biUnion.2 ⟨⟨w.val % 2, Nat.mod_lt _ (by decide)⟩, Finset.mem_univ _, Finset.mem_biUnion.2 ⟨⟨w.val / 2, by have := w.isLt; omega⟩, Finset.mem_univ _, ?_⟩⟩
  have e : wOf ⟨w.val % 2, Nat.mod_lt _ (by decide)⟩ ⟨w.val / 2, by have := w.isLt; omega⟩ = w := Fin.ext (by rw [wOf_val]; show 2 * (w.val / 2) + w.val % 2 = w.val; omega)
  rw [e]
  exact mem_cells.2 ⟨k, h4, h5, h2, h3⟩

theorem out_cores (hW : WorkAt m) (d : Dev nD) (f : Buf (Elt F) (lo d)) :
    (lo d ↦{fullShare} f : sProp (MM F)) = bigSep Finset.univ fun c : Fin 2 => lo d ↦[coreCells m d c]{fullShare} f := by
  rw [← pointsTo_biUnion Finset.univ (ℓ := lo d) (coreCells m d) (cores_off m hW d), cores_all m hW d]; try rfl

theorem out_tasks (hW : WorkAt m) (d : Dev nD) (c : Fin 2) (f : Buf (Elt F) (lo d)) :
    (lo d ↦[coreCells m d c]{fullShare} f : sProp (MM F)) = bigSep Finset.univ fun i : Fin 16 => lo d ↦[taskCells m d (wOf c i)]{fullShare} f := by
  unfold coreCells
  exact pointsTo_biUnion Finset.univ (ℓ := lo d) (fun i => taskCells m d (wOf c i)) (row_off m hW d c)

/-- The one call takes the five arrays and the output; a SparseCore, and then a task, takes a share of each array and its own
    elements of the output, and brings them back with those elements written. -/
def P : (K (F := F)).Pay (nD := nD) (Val := Elt F) (Name := ℕ) (U := UU) where
  st := fun q d c => match q with | 0 => iprop(ins m d (qc (Fin.cast nCore_zero c)) ∗ (lo d ↦[coreCells m d (Fin.cast nCore_zero c)]{fullShare} m (lo d)))
  dn := fun q d c => match q with | 0 => iprop(ins m d (qc (Fin.cast nCore_zero c)) ∗ (lo d ↦[coreCells m d (Fin.cast nCore_zero c)]{fullShare} (outV m d : S18x200x1536.Idx → F .f32)))
  go := fun q d c i => match q with
    | 0 => iprop(ins m d (qi (qc (Fin.cast nCore_zero c)) (Fin.cast nSub_zero i))
        ∗ (lo d ↦[taskCells m d (wOf (Fin.cast nCore_zero c) (Fin.cast nSub_zero i))]{fullShare} m (lo d)))
  td := fun q d c i => match q with
    | 0 => iprop(ins m d (qi (qc (Fin.cast nCore_zero c)) (Fin.cast nSub_zero i))
        ∗ (lo d ↦[taskCells m d (wOf (Fin.cast nCore_zero c) (Fin.cast nSub_zero i))]{fullShare} (outV m d : S18x200x1536.Idx → F .f32)))
  x := fun _ _ => iprop(emp)

instance P_storable : (P (F := F) m).IsStorable where
  st q d c := match q with
    | 0 => (inferInstance : BI.Storable (upEmb : UEmb _ (MM F)) iprop(ins m d (qc (Fin.cast nCore_zero c)) ∗ (lo d ↦[coreCells m d (Fin.cast nCore_zero c)]{fullShare} m (lo d))))
  dn q d c := match q with
    | 0 => (inferInstance : BI.Storable (upEmb : UEmb _ (MM F)) iprop(ins m d (qc (Fin.cast nCore_zero c)) ∗ (lo d ↦[coreCells m d (Fin.cast nCore_zero c)]{fullShare} (outV m d : S18x200x1536.Idx → F .f32))))
  go q d c i := match q with
    | 0 => (inferInstance : BI.Storable (upEmb : UEmb _ (MM F)) iprop(ins m d (qi (qc (Fin.cast nCore_zero c)) (Fin.cast nSub_zero i))
        ∗ (lo d ↦[taskCells m d (wOf (Fin.cast nCore_zero c) (Fin.cast nSub_zero i))]{fullShare} m (lo d))))
  td q d c i := match q with
    | 0 => (inferInstance : BI.Storable (upEmb : UEmb _ (MM F)) iprop(ins m d (qi (qc (Fin.cast nCore_zero c)) (Fin.cast nSub_zero i))
        ∗ (lo d ↦[taskCells m d (wOf (Fin.cast nCore_zero c) (Fin.cast nSub_zero i))]{fullShare} (outV m d : S18x200x1536.Idx → F .f32))))

/-! ## The task -/

section Tile

variable (d : Dev nD) (L : grid0.Coords)

abbrev g0 (d : Dev nD) (L : grid0.Coords) : GSem nD τ sig := (tt d L, .dma cc0_scoped0.sem)
abbrev g1 (d : Dev nD) (L : grid0.Coords) : GSem nD τ sig := (tt d L, .dma cc0_scoped1.sem)
abbrev g2 (d : Dev nD) (L : grid0.Coords) : GSem nD τ sig := (tt d L, .dma cc0_scoped2.sem)
abbrev g3 (d : Dev nD) (L : grid0.Coords) : GSem nD τ sig := (tt d L, .dma cc0_scoped3.sem)
abbrev g4 (d : Dev nD) (L : grid0.Coords) : GSem nD τ sig := (tt d L, .dma cc0_scoped4.sem)
abbrev g5 (d : Dev nD) (L : grid0.Coords) : GSem nD τ sig := (tt d L, .dma cc0_scoped5.sem)
abbrev g6 (d : Dev nD) (L : grid0.Coords) : GSem nD τ sig := (tt d L, .dma cc0_scoped6.sem)

omit [FloatOps F] in
theorem ownSems0_V :
    (ownSems0 (tt d L) : sProp (MM F))
      = iprop(semVal (g0 d L) 0 ∗ semVal (g1 d L) 0 ∗ semVal (g2 d L) 0 ∗ semVal (g3 d L) 0 ∗ semVal (g4 d L) 0 ∗ semVal (g5 d L) 0 ∗ semVal (g6 d L) 0
          ∗ bigSep ((((((((ownCells (tt d L)).erase (g0 d L)).erase (g1 d L)).erase (g2 d L)).erase (g3 d L)).erase (g4 d L)).erase (g5 d L)).erase (g6 d L)) fun g => semVal g 0) := by
  unfold SparseCore.Cfg.ownSems0
  rw [SparseCore.bigSep_erase' ((mem_ownCells (g := g0 d L)).mpr ⟨rfl, by show (SemLoc.dma cc0_scoped0.sem : SemLoc sig).isScoped .scVector = true; decide⟩),
    SparseCore.bigSep_erase' (Finset.mem_erase.mpr ⟨fun e => absurd (Prod.mk.inj e).2 (by decide), ((mem_ownCells (g := g1 d L)).mpr ⟨rfl, by show (SemLoc.dma cc0_scoped1.sem : SemLoc sig).isScoped .scVector = true; decide⟩)⟩),
    SparseCore.bigSep_erase' (Finset.mem_erase.mpr ⟨fun e => absurd (Prod.mk.inj e).2 (by decide), (Finset.mem_erase.mpr ⟨fun e => absurd (Prod.mk.inj e).2 (by decide), ((mem_ownCells (g := g2 d L)).mpr ⟨rfl, by show (SemLoc.dma cc0_scoped2.sem : SemLoc sig).isScoped .scVector = true; decide⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g3 d L)).mpr ⟨rfl, by show (SemLoc.dma cc0_scoped3.sem : SemLoc sig).isScoped .scVector = true; decide⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g4 d L)).mpr ⟨rfl, by show (SemLoc.dma cc0_scoped4.sem : SemLoc sig).isScoped .scVector = true; decide⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g5 d L)).mpr ⟨rfl, by show (SemLoc.dma cc0_scoped5.sem : SemLoc sig).isScoped .scVector = true; decide⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g6 d L)).mpr ⟨rfl, by show (SemLoc.dma cc0_scoped6.sem : SemLoc sig).isScoped .scVector = true; decide⟩)⟩)⟩)⟩)⟩)⟩)⟩)]

omit [FloatOps F] in
/-- The subcore's own buffers are the six scratches, each at some contents, together with the rest. -/
theorem ownBufs_V :
    (ownBufs (tt d L) : sProp (MM F))
      = iprop((∃ f, (tt d L).loc cc0_scratch0 ↦{fullShare} f) ∗ (∃ f, (tt d L).loc cc0_scratch1 ↦{fullShare} f) ∗ (∃ f, (tt d L).loc cc0_scratch2 ↦{fullShare} f) ∗ (∃ f, (tt d L).loc cc0_scratch3 ↦{fullShare} f) ∗ (∃ f, (tt d L).loc cc0_scratch4 ↦{fullShare} f) ∗ (∃ f, (tt d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := (Proc.scVector (cV L) (jV L)).devRef cc0_scratch4) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := (Proc.scVector (cV L) (jV L)).devRef cc0_scratch5) rfl)⟩)⟩)⟩)⟩)⟩)]

theorem tile_body (hW : WorkAt m) (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (ins m d q ∗ (lo d ↦[taskCells m d (wid L)]{fullShare} m (lo d)))
        ∗ scopedBufs (tt d L) ∗ scopedSems0 (tt d L) ∗ owes (tt d L) O W)
      ⊢ wp frame (wpE (defs₀ (F := F)) 𝒱₀ (tt d L) none) Set.univ
          (cc0_gather_sc (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop((ins m d q ∗ (lo d ↦[taskCells m d (wid L)]{fullShare} (outV m d : S18x200x1536.Idx → F .f32)))
            ∗ scopedBufs (tt d L) ∗ scopedSems0 (tt d L)
            ∗ ∃ W', ⌜∀ p ∈ W', p ∈ W ∨ p.2 = none ∨ p.2 = some (0 : Fin 1)⌝ ∗ owes (tt d L) O W') := by
  rw [(K (F := F)).scopedBufs_V hF d (cV L) (jV L), SparseCore.Cfg.scopedSems0_V (Val := Elt F) d (cV L) (jV L), ownSems0_V, ownBufs_V]
  iintro ⟨#Hlv, -, ⟨⟨H0, H1, H2, H3, H4⟩, Ho⟩, ⟨⟨%f0, Hf0⟩, ⟨%f1, Hf1⟩, ⟨%f2, Hf2⟩, ⟨%f3, Hf3⟩, ⟨%f4, Hf4⟩, ⟨%f5, Hf5⟩, Hbufs⟩, ⟨Hs0, Hs1, Hs2, Hs3, Hs4, Hs5, Hs6, Hsems⟩, HO⟩
  ihave Hmw := (show levAts (K (F := F)).L (K (F := F)).lev ⊢ Transfers.MayWaits (tt d L) (default : HIx 1) O from
    (K (F := F)).mayWaits_none (thr := tt d L) hO) $$ Hlv
  iapply (wp_wand_r Idealize.ShloMosaic.frame (wpE (defs₀ (F := F)) 𝒱₀ (tt d L) none) Set.univ)
  isplitl [Hmw H0 H1 H2 H3 H4 Hf0 Hf1 Hf2 Hf3 Hf4 Hf5 Hs0 Hs1 Hs2 Hs3 Hs4 Hs5 Hs6 Ho HO]
  · iapply (tile d L O W q (m (l0 d)) (m (l1 d)) (m (l2 d)) (m (l3 d)) (m (l4 d)) (m (lo d)) (m (l5 d)) (m (l6 d)) (hW d)
      (stM m d (ix2 (wid L) 0)).toNat (stM m d (ix2 (wid L) 1)).toNat rfl rfl f0 f1 f2 f3 f4 f5)
    isplitl [Hmw]; · iexact Hmw
    isplitl [H0]; · iexact H0
    isplitl [H1]; · iexact H1
    isplitl [H2]; · iexact H2
    isplitl [H3]; · iexact H3
    isplitl [H4]; · iexact H4
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Ho]; · iexact Ho
    iexact HO
  iintro %_ ⟨H4, Hf5, Hs0, Ht⟩
  unfold tinv
  icases Ht with ⟨Hmw, H0, H1, H2, H3, Hf0, Hf1, Hf2, Hf3, Hf4, Hs1, Hs2, Hs3, Hs4, Hs5, Hs6, Ho, -, ⟨%W', %hW', HO⟩⟩
  isplitl [H0 H1 H2 H3 H4 Ho]
  · isplitl [H0 H1 H2 H3 H4]
    · isplitl [H0]; · iexact H0
      isplitl [H1]; · iexact H1
      isplitl [H2]; · iexact H2
      isplitl [H3]; · iexact H3
      iexact H4
    rw [Nat.add_sub_cancel' ((hW d).mono (wid L))]
    iexact Ho
  isplitl [Hf0 Hf1 Hf2 Hf3 Hf4 Hf5 Hbufs]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists W'; isplitr
  swap; · iexact HO
  ipureintro; intro p hp
  rcases hW' p hp with h | h
  · exact .inl h
  · exact .inr (.inl h)

/-! ## The obligation -/

theorem defs₀_vector (c : Fin τ.nSC) (s : Fin τ.nSub) :
    defs₀ (F := F) (.scVector c s) 0 ()
      = SparseCore.onTile hcore0 hsub0 (fun c s => cc0_gather_sc (F := F) (coordsV c s) cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

theorem tileObl (hW : WorkAt m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hW hF (qi (qc (Fin.cast nCore_zero c)) (Fin.cast nSub_zero i)) O W hO

end Tile

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit (hW : WorkAt m) : (K (F := F)).VecSplit' (P m) 0 := by
  intro d c
  show iprop(ins m d (qc (Fin.cast nCore_zero c)) ∗ (lo d ↦[coreCells m d (Fin.cast nCore_zero c)]{fullShare} m (lo d))) ⊢ |={Set.univ}=> iprop(
      (bigSep Finset.univ fun i : Fin ((K (F := F)).nSub 0) => iprop(ins m d (qi (qc (Fin.cast nCore_zero c)) (Fin.cast nSub_zero i))
        ∗ (lo d ↦[taskCells m d (wOf (Fin.cast nCore_zero c) (Fin.cast nSub_zero i))]{fullShare} m (lo d))))
      ∗ ((bigSep Finset.univ fun i : Fin ((K (F := F)).nSub 0) => iprop(ins m d (qi (qc (Fin.cast nCore_zero c)) (Fin.cast nSub_zero i))
        ∗ (lo d ↦[taskCells m d (wOf (Fin.cast nCore_zero c) (Fin.cast nSub_zero i))]{fullShare} (outV m d : S18x200x1536.Idx → F .f32))))
          -∗ iprop(ins m d (qc (Fin.cast nCore_zero c)) ∗ (lo d ↦[coreCells m d (Fin.cast nCore_zero c)]{fullShare} (outV m d : S18x200x1536.Idx → F .f32)))))
  generalize Fin.cast nCore_zero c = c'
  rw [bigSep_tasks (F := F) (fun i => iprop(ins m d (qi (qc c') i) ∗ (lo d ↦[taskCells m d (wOf c' i)]{fullShare} m (lo d)))),
    bigSep_tasks (F := F) (fun i => iprop(ins m d (qi (qc c') i) ∗ (lo d ↦[taskCells m d (wOf c' i)]{fullShare} (outV m d : S18x200x1536.Idx → F .f32)))),
    bigSep_sep' (Finset.univ : Finset (Fin 16)) (fun i => ins m d (qi (qc c') i)), bigSep_sep' (Finset.univ : Finset (Fin 16)) (fun i => ins m d (qi (qc c') i)),
    ← ins_deal m d (qc c') (n := 16), ← out_tasks m hW d c', ← out_tasks m hW d c']
  iintro H; imodintro
  isplitl [H]; · iexact H
  iintro H
  iexact H

end Cert.Proof.Sc
end
end
-- ==== Proof.ScRun.lean ====
module

public import Idealize.ShloMosaic.Lib.Pipeline.ValueKit
public import Idealize.ShloMosaic.Lib.WordCmp
public import Idealize.ShloMosaic.Lib.LoopRemainder
public import proofs.«01_k».proof.Proof.ScTask

/-! The whole call. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev opT : HloOp τ sig (Elt F) := StableHlo.unary main_v0 main_v1 ((transpose S200x18x1536 [1, 0, 2] · transposes_S18x200x1536_S200x18x1536_1_0_2) : (⟨S18x200x1536, .f32⟩ : BufTy).Contents (Elt F) → (⟨S200x18x1536, .f32⟩ : BufTy).Contents (Elt F))

/-- The result: the tasks' output with the query first. -/
abbrev resV (d : Dev nD) : S200x18x1536.Idx → F .f32 := transpose S200x18x1536 [1, 0, 2] (outV m d) transposes_S18x200x1536_S200x18x1536_1_0_2

/-- The TensorCore's arrays, all unscoped. -/
abbrev S9 : Finset (DevRef τ sig) := {a0', a1', a2', a3', a4', a5', a6', v0', v1'}

omit [FloatOps F] in
theorem held_S9 (d : Dev nD) (W : Valuation τ sig (Elt F)) :
    (StableHlo.held (T d) S9 W : sProp (MM F)) = iprop((l0 d ↦{fullShare} W a0') ∗ (l1 d ↦{fullShare} W a1') ∗ (l2 d ↦{fullShare} W a2') ∗ (l3 d ↦{fullShare} W a3') ∗ (l4 d ↦{fullShare} W a4') ∗ (l5 d ↦{fullShare} W a5') ∗ (l6 d ↦{fullShare} W a6') ∗ (lo d ↦{fullShare} W v0') ∗ (lr d ↦{fullShare} W v1')) := by
  unfold StableHlo.held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F)) = iprop((l0 d ↦{fullShare} W main_arg0) ∗ (l1 d ↦{fullShare} W main_arg1) ∗ (l2 d ↦{fullShare} W main_arg2) ∗ (l3 d ↦{fullShare} W main_arg3) ∗ (l4 d ↦{fullShare} W main_arg4) ∗ (l5 d ↦{fullShare} W main_arg5) ∗ (l6 d ↦{fullShare} W main_arg6) ∗ (lo d ↦{fullShare} W main_v0) ∗ (lr d ↦{fullShare} W main_v1)) := by
  unfold unscopedBufs
  rw [show (Finset.univ.filter fun b : Ref sig .tc => ¬ b.isScoped) = {main_arg0, main_arg1, main_arg2, main_arg3, main_arg4, main_arg5, main_arg6, main_v0, main_v1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation; after the call, the output written. -/
def V0 (d : Dev nD) : Valuation τ sig (Elt F) := fun b => m (d, b)
def V1 (d : Dev nD) : Valuation τ sig (Elt F) := Function.update (V0 m d) v0' (outV m d : S18x200x1536.Idx → F .f32)

omit [FloatOps F] in
theorem unscoped_held (d : Dev nD) : (unscopedBufs d (fun b => m ((SparseCore.T d).loc b)) : sProp (MM F)) = StableHlo.held (T d) S9 (V0 m d) := by
  rw [unscopedBufs_eq, held_S9]; rfl

theorem V1_a0 (d : Dev nD) : V1 m d a0' = m (l0 d) := Function.update_of_ne (show a0' ≠ v0' by decide) _ _
theorem V1_a1 (d : Dev nD) : V1 m d a1' = m (l1 d) := Function.update_of_ne (show a1' ≠ v0' by decide) _ _
theorem V1_a2 (d : Dev nD) : V1 m d a2' = m (l2 d) := Function.update_of_ne (show a2' ≠ v0' by decide) _ _
theorem V1_a3 (d : Dev nD) : V1 m d a3' = m (l3 d) := Function.update_of_ne (show a3' ≠ v0' by decide) _ _
theorem V1_a4 (d : Dev nD) : V1 m d a4' = m (l4 d) := Function.update_of_ne (show a4' ≠ v0' by decide) _ _
theorem V1_a5 (d : Dev nD) : V1 m d a5' = m (l5 d) := Function.update_of_ne (show a5' ≠ v0' by decide) _ _
theorem V1_a6 (d : Dev nD) : V1 m d a6' = m (l6 d) := Function.update_of_ne (show a6' ≠ v0' by decide) _ _
theorem V1_v0 (d : Dev nD) : V1 m d v0' = (outV m d : S18x200x1536.Idx → F .f32) := Function.update_self _ _ _
theorem V1_v1 (d : Dev nD) : V1 m d v1' = m (lr d) := Function.update_of_ne (show v1' ≠ v0' by decide) _ _
theorem V2_a0 (d : Dev nD) : (opT (F := F)).result (V1 m d) a0' = m (l0 d) := ((opT (F := F)).result_of_not_mem (V1 m d) (b := a0') (show a0' ∉ ({v1'} : Finset (DevRef τ sig)) by decide)).trans (V1_a0 m d)
theorem V2_a1 (d : Dev nD) : (opT (F := F)).result (V1 m d) a1' = m (l1 d) := ((opT (F := F)).result_of_not_mem (V1 m d) (b := a1') (show a1' ∉ ({v1'} : Finset (DevRef τ sig)) by decide)).trans (V1_a1 m d)
theorem V2_a2 (d : Dev nD) : (opT (F := F)).result (V1 m d) a2' = m (l2 d) := ((opT (F := F)).result_of_not_mem (V1 m d) (b := a2') (show a2' ∉ ({v1'} : Finset (DevRef τ sig)) by decide)).trans (V1_a2 m d)
theorem V2_a3 (d : Dev nD) : (opT (F := F)).result (V1 m d) a3' = m (l3 d) := ((opT (F := F)).result_of_not_mem (V1 m d) (b := a3') (show a3' ∉ ({v1'} : Finset (DevRef τ sig)) by decide)).trans (V1_a3 m d)
theorem V2_a4 (d : Dev nD) : (opT (F := F)).result (V1 m d) a4' = m (l4 d) := ((opT (F := F)).result_of_not_mem (V1 m d) (b := a4') (show a4' ∉ ({v1'} : Finset (DevRef τ sig)) by decide)).trans (V1_a4 m d)
theorem V2_a5 (d : Dev nD) : (opT (F := F)).result (V1 m d) a5' = m (l5 d) := ((opT (F := F)).result_of_not_mem (V1 m d) (b := a5') (show a5' ∉ ({v1'} : Finset (DevRef τ sig)) by decide)).trans (V1_a5 m d)
theorem V2_a6 (d : Dev nD) : (opT (F := F)).result (V1 m d) a6' = m (l6 d) := ((opT (F := F)).result_of_not_mem (V1 m d) (b := a6') (show a6' ∉ ({v1'} : Finset (DevRef τ sig)) by decide)).trans (V1_a6 m d)
theorem V2_v1 (d : Dev nD) : (opT (F := F)).result (V1 m d) v1' = (resV m d : S200x18x1536.Idx → F .f32) := by
  refine (StableHlo.unary_result _ _ _ _ _ _).trans ?_
  exact congrArg (fun z : S18x200x1536.Idx → F .f32 => transpose S200x18x1536 [1, 0, 2] z transposes_S18x200x1536_S200x18x1536_1_0_2) (V1_v0 m d)

/-- What the call takes for the two SparseCores, and what it hands back. -/
theorem st0_eq (hW : WorkAt m) (d : Dev nD) : (bigSep Finset.univ fun c : Fin ((K (F := F)).nCore 0) => (P m).st 0 d c) = iprop(ins m d fullShare ∗ (lo d ↦{fullShare} m (lo d))) := by
  rw [ins_deal m d fullShare (n := 2), out_cores m hW d]
  exact bigSep_sep' (Finset.univ : Finset (Fin 2)) (fun c => ins m d (qc c)) fun c => (lo d ↦[coreCells m d c]{fullShare} m (lo d))
theorem dn0_eq (hW : WorkAt m) (d : Dev nD) : (bigSep Finset.univ fun c : Fin ((K (F := F)).nCore 0) => (P m).dn 0 d c) = iprop(ins m d fullShare ∗ (lo d ↦{fullShare} (outV m d : S18x200x1536.Idx → F .f32))) := by
  rw [ins_deal m d fullShare (n := 2), out_cores m hW d]
  exact bigSep_sep' (Finset.univ : Finset (Fin 2)) (fun c => ins m d (qc c)) fun c => (lo d ↦[coreCells m d c]{fullShare} (outV m d : S18x200x1536.Idx → F .f32))

theorem hT : (opT (F := F)).bufs ⊆ S9 := show ({v0', v1'} : Finset (DevRef τ sig)) ⊆ S9 by decide

/-- What @main leaves the claim: the arguments at their launch contents and the result. -/
abbrev FIN (d : Dev nD) : sProp (MM F) := iprop((l0 d ↦{fullShare} m (l0 d)) ∗ (l1 d ↦{fullShare} m (l1 d)) ∗ (l2 d ↦{fullShare} m (l2 d)) ∗ (l3 d ↦{fullShare} m (l3 d)) ∗ (l4 d ↦{fullShare} m (l4 d)) ∗ (l5 d ↦{fullShare} m (l5 d)) ∗ (l6 d ↦{fullShare} m (l6 d)) ∗ (lr d ↦{fullShare} (resV m d : S200x18x1536.Idx → F .f32)))

theorem hmain (hW : WorkAt m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S9 (F := F) d _)) $$ Hheld
  icases Hh with ⟨H0, H1, H2, H3, H4, H5, H6, Ho, Hr⟩
  iapply ((K (F := F)).wp_run (D (F := F)) 𝒱 (EH := EH) (P := P m) κ d 0) $$ [Hst H0 H1 H2 H3 H4 H5 H6 Ho Hr Hb Hts]
  isplitr; · iexact Hctx
  isplitl [Hst]; · iexact Hst
  isplitl [H0 H1 H2 H3 H4 Ho]
  · rw [st0_eq m hW]
    isplitl [H0 H1 H2 H3 H4]
    · isplitl [H0]; · iexact H0
      isplitl [H1]; · iexact H1
      isplitl [H2]; · iexact H2
      isplitl [H3]; · iexact H3
      iexact H4
    · iexact Ho
  iintro ⟨Hst, Hdn⟩
  ihave Hdn' := (Entails.of_eq (dn0_eq m hW d)) $$ Hdn
  icases Hdn' with ⟨⟨H0, H1, H2, H3, H4⟩, Ho⟩
  iapply (StableHlo.wp_hlo_within 𝒱 (SparseCore.T d) none Set.univ (op := opT) (S := S9) hT (V := V1 m d)) $$ [Hb H0 H1 H2 H3 H4 H5 H6 Ho Hr]
  · isplitl [Hb]; · iexact Hb
    rw [held_S9, V1_a0, V1_a1, V1_a2, V1_a3, V1_a4, V1_a5, V1_a6, V1_v0, V1_v1]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ho]; · iexact Ho
    iexact Hr
  iintro ⟨Hb, Hheld⟩
  ihave Hh := (Entails.of_eq (held_S9 (F := F) d _)) $$ Hheld
  rw [V2_a0, V2_a1, V2_a2, V2_a3, V2_a4, V2_a5, V2_a6, V2_v1]
  icases Hh with ⟨H0, H1, H2, H3, H4, H5, H6, -, Hr⟩
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hr
  isplitl [Hb] <;> iassumption

def fq (d : Dev nD) (s' : Phys nD τ sig (Elt F)) : Prop :=
  s'.mem.mem (l0 d) = m (l0 d) ∧ s'.mem.mem (l1 d) = m (l1 d) ∧ s'.mem.mem (l2 d) = m (l2 d) ∧ s'.mem.mem (l3 d) = m (l3 d) ∧ s'.mem.mem (l4 d) = m (l4 d) ∧ s'.mem.mem (l5 d) = m (l5 d) ∧ s'.mem.mem (l6 d) = m (l6 d) ∧ s'.mem.mem (lr d) = (resV m d : S200x18x1536.Idx → F .f32)

omit [FloatOps F] in
theorem agree1 (s' : Phys nD τ sig (Elt F)) (ℓ : Loc nD τ sig) (f : Buf (Elt F) ℓ) :
    iprop(SI s' ∗ (ℓ ↦{fullShare} f) : sProp (MM F)) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp (MM F)) := by
  iintro ⟨⟨H0, H1, H2, H3, H4, H5, H6, H7⟩, HSI⟩
  ihave H := (agree1 s' _ _) $$ [HSI H0]
  · isplitl [HSI] <;> iassumption
  icases H with ⟨%h0, HSI⟩
  ihave H := (agree1 s' _ _) $$ [HSI H1]
  · isplitl [HSI] <;> iassumption
  icases H with ⟨%h1, HSI⟩
  ihave H := (agree1 s' _ _) $$ [HSI H2]
  · isplitl [HSI] <;> iassumption
  icases H with ⟨%h2, HSI⟩
  ihave H := (agree1 s' _ _) $$ [HSI H3]
  · isplitl [HSI] <;> iassumption
  icases H with ⟨%h3, HSI⟩
  ihave H := (agree1 s' _ _) $$ [HSI H4]
  · isplitl [HSI] <;> iassumption
  icases H with ⟨%h4, HSI⟩
  ihave H := (agree1 s' _ _) $$ [HSI H5]
  · isplitl [HSI] <;> iassumption
  icases H with ⟨%h5, HSI⟩
  ihave H := (agree1 s' _ _) $$ [HSI H6]
  · isplitl [HSI] <;> iassumption
  icases H with ⟨%h6, HSI⟩
  ihave H := (agree1 s' _ _) $$ [HSI H7]
  · isplitl [HSI] <;> iassumption
  icases H with ⟨%h7, HSI⟩
  ipureintro; exact ⟨h0, h1, h2, h3, h4, h5, h6, h7⟩

def QC : PUnit × MemSt nD τ sig (Elt F) → Prop := fun r => (∀ d : Dev nD, r.2.mem (l0 d) = m (l0 d) ∧ r.2.mem (l1 d) = m (l1 d) ∧ r.2.mem (l2 d) = m (l2 d) ∧ r.2.mem (l3 d) = m (l3 d) ∧ r.2.mem (l4 d) = m (l4 d) ∧ r.2.mem (l5 d) = m (l5 d) ∧ r.2.mem (l6 d) = m (l6 d) ∧ r.2.mem (lr d) = (resV m d : S200x18x1536.Idx → F .f32)) ∧ r.2.sem = fun _ => 0

theorem run_main [∀ e, Nonempty (Elt F e)] (hW : WorkAt m) :
    θ_run (Cert.Sc.defs (F := F)) (Cert.Sc.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hW facts)
    (fun q _ => match q with | 0 => SparseCore.Cfg.VecSplit.of_plain (vecSplit m hW))
    m ρ main (fun _ => iprop(emp)) (FIN m) (u₀ (F := F)) (sep_elim_left.trans (hu₀ m)) (hmain m ρ hW) (fq m) (hfin m) (QC m) (fun _ h hz => ⟨h, hz⟩)

end Cert.Proof.Sc
end
end
-- ==== Proof.ScPre.lean ====
module

public import Idealize.ShloMosaic.Lib.Pipeline.ValueKit
public import Idealize.ShloMosaic.Lib.WordCmp
public import Idealize.ShloMosaic.Lib.LoopRemainder
public import proofs.«01_k».proof.Proof.ScRun
public import proofs.«01_k».proof.Proof.Gen.Pre_work_list
public import proofs.«01_k».proof.Defs

/-! The launch condition. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Cert.Pre_work_list (S3600 S3600x1 S32 S32x1)

section Bits
theorem ands {p q : Bool} : IntOp.andi (BitVec.ofBool p) (BitVec.ofBool q) = BitVec.ofBool (p && q) := by
  cases p <;> cases q <;> decide
theorem ors {p q : Bool} : IntOp.ori (BitVec.ofBool p) (BitVec.ofBool q) = BitVec.ofBool (p || q) := by
  cases p <;> cases q <;> decide
theorem nots {p : Bool} : ~~~(BitVec.ofBool p) = BitVec.ofBool (!p) := by cases p <;> decide
theorem ones {p : Bool} : (BitVec.ofBool p = 1#1) ↔ p = true := by cases p <;> decide

theorem lt_of_bits {v : BitVec 32} {n : ℕ} (hn : n < 2147483648) (h0 : (0#32 : BitVec 32).toInt ≤ v.toInt) (h : v.toInt < (BitVec.ofNat 32 n).toInt) : v.toNat < n := by
  have e0 : (0#32 : BitVec 32).toInt = 0 := by decide
  have en : (BitVec.ofNat 32 n).toInt = n := by
    rw [BitVec.toInt_eq_toNat_cond, BitVec.toNat_ofNat, Nat.mod_eq_of_lt (by omega)]; exact if_pos (by omega)
  rw [e0] at h0; rw [en] at h
  rw [BitVec.toInt_eq_toNat_cond] at h0 h
  split at h <;> omega

theorem le_of_bits {v : BitVec 32} {n : ℕ} (hn : n < 2147483648) (h0 : (0#32 : BitVec 32).toInt ≤ v.toInt) (h : v.toInt ≤ (BitVec.ofNat 32 n).toInt) : v.toNat ≤ n := by
  have e0 : (0#32 : BitVec 32).toInt = 0 := by decide
  have en : (BitVec.ofNat 32 n).toInt = n := by
    rw [BitVec.toInt_eq_toNat_cond, BitVec.toNat_ofNat, Nat.mod_eq_of_lt (by omega)]; exact if_pos (by omega)
  rw [e0] at h0; rw [en] at h
  rw [BitVec.toInt_eq_toNat_cond] at h0 h
  split at h <;> omega
end Bits

/-- A column of a two-axis array, cut out and flattened, read at a row. -/
theorem col_meta (me : S3600x16.Idx → BitVec 32) (c : Fin 16) (off : Fin 2 → ℕ) (ho : off = ![0, c.val]) (h : S3600x16.Slices off S3600x1) (h' : S3600x1.ShapeCasts S3600) (k : Fin 3600) :
    shapeCast S3600 (extractStridedSlice S3600x1 off me h) h' (ix1 k) = me (ix2 k c) := by
  subst ho
  refine (shapeCast_apply _ h' (ix1 k) (ix2 k (0 : Fin 1)) ?_).trans (extractStridedSlice_apply _ me h _ _ ?_)
  · rw [Shape.rowMajor_val_one, Shape.rowMajor_val_two]; simp [ix1, ix2]
  · intro a; match a with | ⟨0, _⟩ => simp [ix2] | ⟨1, _⟩ => simp [ix2]

/-- A column of the starts, cut out and flattened, read at a row. -/
theorem col_start (st : S32x16.Idx → BitVec 32) (c : Fin 16) (off : Fin 2 → ℕ) (ho : off = ![0, c.val]) (h : S32x16.Slices off S32x1) (h' : S32x1.ShapeCasts S32) (k : Fin 32) :
    shapeCast S32 (extractStridedSlice S32x1 off st h) h' (ix1 k) = st (ix2 k c) := by
  subst ho
  refine (shapeCast_apply _ h' (ix1 k) (ix2 k (0 : Fin 1)) ?_).trans (extractStridedSlice_apply _ st h _ _ ?_)
  · rw [Shape.rowMajor_val_one, Shape.rowMajor_val_two]; simp [ix1, ix2]
  · intro a; match a with | ⟨0, _⟩ => simp [ix2] | ⟨1, _⟩ => simp [ix2]

section Spread
variable {α : Type}
theorem sp0 {t : Shape} (x : (⟨0, ![]⟩ : Shape).Idx → α) (h) (j : t.Idx) : broadcastInDim (s := ⟨0, ![]⟩) t ![] h x j = x ix0 :=
  broadcastInDim_apply _ h x j ix0 (fun a => a.elim0)
theorem spr {n k : ℕ} (hn : n ≠ 1) (x : (⟨1, ![n]⟩ : Shape).Idx → α) (h : (⟨1, ![n]⟩ : Shape).BroadcastsInDim ⟨2, ![n, 1]⟩ ![0]) (h' : (⟨2, ![n, 1]⟩ : Shape).BroadcastsInDim ⟨2, ![n, k]⟩ ![0, 1]) (i : Fin n) (j : Fin k) :
    broadcastInDim ⟨2, ![n, k]⟩ ![0, 1] h' (broadcastInDim ⟨2, ![n, 1]⟩ ![0] h x) (ix2 i j) = x (ix1 i) := by
  refine (broadcastInDim_apply _ h' _ _ (ix2 i (0 : Fin 1)) ?_).trans (broadcastInDim_apply _ h x _ (ix1 i) ?_)
  · intro a; match a with | ⟨0, _⟩ => exact (if_neg hn).symm | ⟨1, _⟩ => exact (if_pos rfl).symm
  · intro a; match a with | ⟨0, _⟩ => exact (if_neg hn).symm
theorem sprow1 {n : ℕ} (hn : n ≠ 1) (x : (⟨1, ![n]⟩ : Shape).Idx → α) (h : (⟨1, ![n]⟩ : Shape).BroadcastsInDim ⟨2, ![n, 1]⟩ ![0]) (i : Fin n) :
    broadcastInDim ⟨2, ![n, 1]⟩ ![0] h x (ix2 i (0 : Fin 1)) = x (ix1 i) := by
  refine (broadcastInDim_apply _ h x _ (ix1 i) ?_)
  intro a; match a with | ⟨0, _⟩ => exact (if_neg hn).symm
theorem spr' {n k : ℕ} (hn : n ≠ 1) (x : (⟨2, ![n, 1]⟩ : Shape).Idx → α) (h' : (⟨2, ![n, 1]⟩ : Shape).BroadcastsInDim ⟨2, ![n, k]⟩ ![0, 1]) (i : Fin n) (j : Fin k) :
    broadcastInDim ⟨2, ![n, k]⟩ ![0, 1] h' x (ix2 i j) = x (ix2 i (0 : Fin 1)) := by
  refine (broadcastInDim_apply _ h' _ _ (ix2 i (0 : Fin 1)) ?_)
  intro a; match a with | ⟨0, _⟩ => exact (if_neg hn).symm | ⟨1, _⟩ => exact (if_pos rfl).symm
theorem spc {n k : ℕ} (hn : n ≠ 1) (x : (⟨1, ![n]⟩ : Shape).Idx → α) (h : (⟨1, ![n]⟩ : Shape).BroadcastsInDim ⟨2, ![1, n]⟩ ![1]) (h' : (⟨2, ![1, n]⟩ : Shape).BroadcastsInDim ⟨2, ![k, n]⟩ ![0, 1]) (i : Fin k) (j : Fin n) :
    broadcastInDim ⟨2, ![k, n]⟩ ![0, 1] h' (broadcastInDim ⟨2, ![1, n]⟩ ![1] h x) (ix2 i j) = x (ix1 j) := by
  refine (broadcastInDim_apply _ h' _ _ (ix2 (0 : Fin 1) j) ?_).trans (broadcastInDim_apply _ h x _ (ix1 j) ?_)
  · intro a; match a with | ⟨0, _⟩ => exact (if_pos rfl).symm | ⟨1, _⟩ => exact (if_neg hn).symm
  · intro a; match a with | ⟨0, _⟩ => exact (if_neg hn).symm
end Spread

theorem c3600 (x : BitVec 32) (h : Cert.Pre_work_list.S_.BroadcastsInDim S3600 ![]) (j : S3600.Idx) : broadcastInDim S3600 ![] h (constantI Cert.Pre_work_list.S_ 32 x) j = x := rfl
theorem c32 (x : BitVec 32) (h : Cert.Pre_work_list.S_.BroadcastsInDim S32 ![]) (j : S32.Idx) : broadcastInDim S32 ![] h (constantI Cert.Pre_work_list.S_ 32 x) j = x := rfl
theorem c321 (x : BitVec 32) (h : Cert.Pre_work_list.S_.BroadcastsInDim S32x1 ![]) (j : S32x1.Idx) : broadcastInDim S32x1 ![] h (constantI Cert.Pre_work_list.S_ 32 x) j = x := rfl

/-- Starts that rise as signed words from zero to 3600 rise as natural numbers. -/
theorem mono_of {st : S32x16.Idx → BitVec 32} (hle : ∀ w : Fin 32, (st (ix2 w 0)).toInt ≤ (st (ix2 w 1)).toInt) (h0 : st (ix2 0 0) = 0#32)
    (h1 : st (ix2 31 1) = 3600#32) (hc : ∀ w w' : Fin 32, w.val + 1 = w'.val → st (ix2 w 1) = st (ix2 w' 0)) (w : Fin 32) :
    (st (ix2 w 0)).toNat ≤ (st (ix2 w 1)).toNat := by
  have lo : ∀ (j : ℕ) (w : Fin 32), w.val = j → 0 ≤ (st (ix2 w 0)).toInt := by
    intro j
    induction j with
    | zero => intro w hw; obtain rfl : w = 0 := Fin.ext hw; rw [h0]; decide
    | succ j ih =>
      intro w hw
      have hj : j < 32 := by have := w.isLt; omega
      rw [← hc ⟨j, hj⟩ w hw.symm]
      exact (ih ⟨j, hj⟩ rfl).trans (hle _)
  have a := lo _ w rfl
  have b := hle w
  rw [BitVec.toInt_eq_toNat_cond] at a b
  rw [BitVec.toInt_eq_toNat_cond] at b
  have c := (st (ix2 w 0)).isLt
  have d := (st (ix2 w 1)).isLt
  split at a <;> split at b <;> omega

section ReadPre
variable (a0 : Cert.Pre_work_list.S2000x24x1536.Idx → BitVec 32) (a1 : Cert.Pre_work_list.S2000x48x256.Idx → BitVec 32) (a2 : FVec F Cert.Pre_work_list.S200x96x256 .f32)
  (me : S3600x16.Idx → BitVec 32) (st : S32x16.Idx → BitVec 32) (pr : S200x18.Idx → BitVec 32) (ln : S2000.Idx → BitVec 32)

theorem pre_inside (h : (Cert.Pre_work_list.fn (F := F) a0 a1 a2 me st pr ln).1 = fun _ => 1#1) (k : Fin 3600) :
    (me (ix2 k 0)).toNat < 2000 ∧ (me (ix2 k 1)).toNat < 200 ∧ (me (ix2 k 2)).toNat < 18 ∧ (me (ix2 k 3)).toNat ≤ 1536 := by
  have e := congrFun h (ix1 k)
  simp only [Cert.Pre_work_list.fn, Cert.Pre_work_list.fn_part1, Cert.Pre_work_list.fn_part2, Cert.Pre_work_list.fn_part3, Cert.Pre_work_list.fn_part4, Cert.Pre_work_list.fn_part5, andi, cmpi, c3600, c32] at e
  rw [col_meta me 0 ![0, 0] rfl, col_meta me 1 ![0, 1] rfl, col_meta me 2 ![0, 2] rfl, col_meta me 3 ![0, 3] rfl] at e
  simp only [IntOp.cmpi, ands, ones, Bool.and_eq_true, BitVec.sle_eq_decide, BitVec.slt_eq_decide, decide_eq_true_eq] at e
  obtain ⟨⟨⟨⟨⟨⟨⟨x1, x2⟩, x3⟩, x4⟩, x5⟩, x6⟩, x7⟩, x8⟩ := e
  exact ⟨lt_of_bits (by decide) x1 x2, lt_of_bits (by decide) x3 x4, lt_of_bits (by decide) x5 x6, le_of_bits (by decide) x7 x8⟩

theorem bit_or_eq {p : Bool} {x y : BitVec 32} (e : IntOp.ori (BitVec.ofBool p) (IntOp.cmpi .eq x y) = 1#1) : p = true ∨ x = y := by
  simp only [IntOp.cmpi, ors, ones, Bool.or_eq_true, beq_iff_eq] at e; exact e

theorem pre_lens (h : (Cert.Pre_work_list.fn (F := F) a0 a1 a2 me st pr ln).2.2.1 = fun _ => 1#1) (k : Fin 3600) (l : Fin 2000) (hl : (me (ix2 k 0)).toNat = l.val) :
    me (ix2 k 3) = ln (ix1 l) := by
  have e := congrFun h (ix2 k l)
  simp only [Cert.Pre_work_list.fn, Cert.Pre_work_list.fn_part1, Cert.Pre_work_list.fn_part2, Cert.Pre_work_list.fn_part3, Cert.Pre_work_list.fn_part4, Cert.Pre_work_list.fn_part5, ori, cmpi] at e
  rw [spr (by decide), spr (by decide), spc (by decide), spc (by decide), col_meta me 0 ![0, 0] rfl, col_meta me 3 ![0, 3] rfl] at e
  rcases bit_or_eq e with e | e
  · exfalso
    have e' : me (ix2 k 0) ≠ BitVec.ofNat 32 l.val := by simpa [IntOp.cmpi, iotaInDim] using e
    exact e' (by rw [← hl, BitVec.ofNat_toNat, BitVec.setWidth_eq])
  · exact e

theorem pre_once (h : (Cert.Pre_work_list.fn (F := F) a0 a1 a2 me st pr ln).2.2.2.1 = fun _ => 1#1) (k k' : Fin 3600)
    (hb : me (ix2 k 1) = me (ix2 k' 1)) (hp : me (ix2 k 2) = me (ix2 k' 2)) : k = k' := by
  have e := congrFun h (ix2 k k')
  simp only [Cert.Pre_work_list.fn, Cert.Pre_work_list.fn_part1, Cert.Pre_work_list.fn_part2, Cert.Pre_work_list.fn_part3, Cert.Pre_work_list.fn_part4, Cert.Pre_work_list.fn_part5, ori, cmpi] at e
  rw [spr (by decide), spr (by decide), spc (by decide), spc (by decide)] at e
  simp only [addi, muli] at e
  rw [col_meta me 1 ![0, 1] rfl, col_meta me 2 ![0, 2] rfl, col_meta me 1 ![0, 1] rfl, col_meta me 2 ![0, 2] rfl, c3600, c3600, hb, hp] at e
  rcases bit_or_eq e with e | e
  · exfalso; simp at e
  · have e' : BitVec.ofNat 32 k.val = BitVec.ofNat 32 k'.val := e
    have := congrArg BitVec.toNat e'
    rw [BitVec.toNat_ofNat, BitVec.toNat_ofNat, Nat.mod_eq_of_lt (by have := k.isLt; omega), Nat.mod_eq_of_lt (by have := k'.isLt; omega)] at this
    exact Fin.ext this

theorem pre_chain (h : (Cert.Pre_work_list.fn (F := F) a0 a1 a2 me st pr ln).2.2.2.2.1 = fun _ => 1#1) (w w' : Fin 32) (hw : w.val + 1 = w'.val) :
    st (ix2 w 1) = st (ix2 w' 0) := by
  have e := congrFun h (ix2 w w')
  simp only [Cert.Pre_work_list.fn, Cert.Pre_work_list.fn_part1, Cert.Pre_work_list.fn_part2, Cert.Pre_work_list.fn_part3, Cert.Pre_work_list.fn_part4, Cert.Pre_work_list.fn_part5, ori, cmpi] at e
  rw [spr (by decide), spc (by decide), spc (by decide), spr' (by decide), col_start st 1 ![0, 1] rfl, col_start st 0 ![0, 0] rfl] at e
  simp only [addi] at e
  rw [sprow1 (by decide), c321] at e
  rcases bit_or_eq e with e | e
  · exfalso
    have e' : BitVec.ofNat 32 w.val + 1#32 ≠ BitVec.ofNat 32 w'.val := by simpa [IntOp.cmpi, iotaInDim, IntOp.addi] using e
    exact e' (by rw [← hw, BitVec.ofNat_add])
  · exact e

theorem pre_ends (h : (Cert.Pre_work_list.fn (F := F) a0 a1 a2 me st pr ln).2.2.2.2.2 = fun _ => 1#1) (w : Fin 32) :
    (w = 0 → st (ix2 w 0) = 0#32) ∧ (w = 31 → st (ix2 w 1) = 3600#32) ∧ (st (ix2 w 0)).toInt ≤ (st (ix2 w 1)).toInt := by
  have e := congrFun h (ix1 w)
  simp only [Cert.Pre_work_list.fn, Cert.Pre_work_list.fn_part1, Cert.Pre_work_list.fn_part2, Cert.Pre_work_list.fn_part3, Cert.Pre_work_list.fn_part4, Cert.Pre_work_list.fn_part5, andi, ori, cmpi, c3600, c32] at e
  rw [col_start st 1 ![0, 1] rfl, col_start st 0 ![0, 0] rfl] at e
  simp only [IntOp.cmpi, ands, ors, ones, Bool.and_eq_true, Bool.or_eq_true, BitVec.sle_eq_decide, decide_eq_true_eq, beq_iff_eq, bne_iff_ne] at e
  obtain ⟨⟨x1, x2⟩, x3⟩ := e
  refine ⟨fun hw => ?_, fun hw => ?_, x3⟩
  · subst hw; rcases x1 with x | x
    · exact absurd rfl x
    · exact x
  · subst hw; rcases x2 with x | x
    · exact absurd rfl x
    · exact x
open Cert.Pre_work_list (S3600x200x18 S3600x1x1 S3600x200x1 S3600x1x18 S1x200x18 S1x200x1 S1x1x18) in
theorem pre_probes (h : (Cert.Pre_work_list.fn (F := F) a0 a1 a2 me st pr ln).2.1 = fun _ => 1#1) (k : Fin 3600) (b : Fin 200) (p : Fin 18)
    (hb : (me (ix2 k 1)).toNat = b.val) (hp : (me (ix2 k 2)).toNat = p.val) : me (ix2 k 0) = pr (ix2 b p) := by
  have e := congrFun h (ix3 k b p)
  have g1 {α : Type} (x : S3600x1x1.Idx → α) (h) : broadcastInDim S3600x200x18 ![0, 1, 2] h x (ix3 k b p) = x (ix3 k (0 : Fin 1) (0 : Fin 1)) :=
    broadcastInDim_apply _ h x _ _ (fun a => match a with | ⟨0, _⟩ => rfl | ⟨1, _⟩ => rfl | ⟨2, _⟩ => rfl)
  have g2 {α : Type} (x : S3600.Idx → α) (h) : broadcastInDim S3600x1x1 ![0] h x (ix3 k (0 : Fin 1) (0 : Fin 1)) = x (ix1 k) :=
    broadcastInDim_apply _ h x _ _ (fun a => match a with | ⟨0, _⟩ => rfl)
  have g3 {α : Type} (x : S1x200x18.Idx → α) (h) : broadcastInDim S3600x200x18 ![0, 1, 2] h x (ix3 k b p) = x (ix3 (0 : Fin 1) b p) :=
    broadcastInDim_apply _ h x _ _ (fun a => match a with | ⟨0, _⟩ => rfl | ⟨1, _⟩ => rfl | ⟨2, _⟩ => rfl)
  have g4 {α : Type} (x : S200x18.Idx → α) (h : S200x18.BroadcastsInDim S1x200x18 ![1, 2]) : broadcastInDim S1x200x18 ![1, 2] h x (ix3 (0 : Fin 1) b p) = x (ix2 b p) :=
    broadcastInDim_apply _ h x _ _ (fun a => match a with | ⟨0, _⟩ => rfl | ⟨1, _⟩ => rfl)
  have g5 {α : Type} (x : S3600x200x1.Idx → α) (h) : broadcastInDim S3600x200x18 ![0, 1, 2] h x (ix3 k b p) = x (ix3 k b (0 : Fin 1)) :=
    broadcastInDim_apply _ h x _ _ (fun a => match a with | ⟨0, _⟩ => rfl | ⟨1, _⟩ => rfl | ⟨2, _⟩ => rfl)
  have g6 {α : Type} (x : S3600x1x1.Idx → α) (h) : broadcastInDim S3600x200x1 ![0, 1, 2] h x (ix3 k b (0 : Fin 1)) = x (ix3 k (0 : Fin 1) (0 : Fin 1)) :=
    broadcastInDim_apply _ h x _ _ (fun a => match a with | ⟨0, _⟩ => rfl | ⟨1, _⟩ => rfl | ⟨2, _⟩ => rfl)
  have g7 {α : Type} (x : S1x200x1.Idx → α) (h) : broadcastInDim S3600x200x1 ![0, 1, 2] h x (ix3 k b (0 : Fin 1)) = x (ix3 (0 : Fin 1) b (0 : Fin 1)) :=
    broadcastInDim_apply _ h x _ _ (fun a => match a with | ⟨0, _⟩ => rfl | ⟨1, _⟩ => rfl | ⟨2, _⟩ => rfl)
  have g8 {α : Type} (x : Cert.Pre_work_list.S200.Idx → α) (h) : broadcastInDim S1x200x1 ![1] h x (ix3 (0 : Fin 1) b (0 : Fin 1)) = x (ix1 b) :=
    broadcastInDim_apply _ h x _ _ (fun a => match a with | ⟨0, _⟩ => rfl)
  have g9 {α : Type} (x : S3600x1x18.Idx → α) (h) : broadcastInDim S3600x200x18 ![0, 1, 2] h x (ix3 k b p) = x (ix3 k (0 : Fin 1) p) :=
    broadcastInDim_apply _ h x _ _ (fun a => match a with | ⟨0, _⟩ => rfl | ⟨1, _⟩ => rfl | ⟨2, _⟩ => rfl)
  have g10 {α : Type} (x : S3600x1x1.Idx → α) (h) : broadcastInDim S3600x1x18 ![0, 1, 2] h x (ix3 k (0 : Fin 1) p) = x (ix3 k (0 : Fin 1) (0 : Fin 1)) :=
    broadcastInDim_apply _ h x _ _ (fun a => match a with | ⟨0, _⟩ => rfl | ⟨1, _⟩ => rfl | ⟨2, _⟩ => rfl)
  have g11 {α : Type} (x : S1x1x18.Idx → α) (h) : broadcastInDim S3600x1x18 ![0, 1, 2] h x (ix3 k (0 : Fin 1) p) = x (ix3 (0 : Fin 1) (0 : Fin 1) p) :=
    broadcastInDim_apply _ h x _ _ (fun a => match a with | ⟨0, _⟩ => rfl | ⟨1, _⟩ => rfl | ⟨2, _⟩ => rfl)
  have g12 {α : Type} (x : Cert.Pre_work_list.S18.Idx → α) (h) : broadcastInDim S1x1x18 ![2] h x (ix3 (0 : Fin 1) (0 : Fin 1) p) = x (ix1 p) :=
    broadcastInDim_apply _ h x _ _ (fun a => match a with | ⟨0, _⟩ => rfl)
  simp only [Cert.Pre_work_list.fn, Cert.Pre_work_list.fn_part1, Cert.Pre_work_list.fn_part2, Cert.Pre_work_list.fn_part3, Cert.Pre_work_list.fn_part4, Cert.Pre_work_list.fn_part5, ori, andi, noti, cmpi] at e
  rw [g5, g9, g1, g3, g2, g4] at e
  simp only [cmpi] at e
  rw [g6, g2, g7, g8, g10, g2, g11, g12, col_meta me 0 ![0, 0] rfl, col_meta me 1 ![0, 1] rfl, col_meta me 2 ![0, 2] rfl] at e
  have eb : me (ix2 k 1) = BitVec.ofNat 32 b.val := by rw [← hb, BitVec.ofNat_toNat, BitVec.setWidth_eq]
  have ep : me (ix2 k 2) = BitVec.ofNat 32 p.val := by rw [← hp, BitVec.ofNat_toNat, BitVec.setWidth_eq]
  rw [eb, ep] at e
  by_contra hne
  have hz : IntOp.cmpi .eq (me (ix2 k 0)) (pr (ix2 b p)) = 0#1 := by
    show BitVec.ofBool (me (ix2 k 0) == pr (ix2 b p)) = 0#1
    rw [beq_eq_false_iff_ne.mpr hne]; rfl
  rw [hz] at e
  simp [IntOp.cmpi, iotaInDim, IntOp.andi, IntOp.ori] at e

/-- The six parts of the launch condition, all ones, are what the proof asks of the arrays. -/
theorem work_of_pre (h1 : (Cert.Pre_work_list.fn (F := F) a0 a1 a2 me st pr ln).1 = fun _ => 1#1)
    (h2 : (Cert.Pre_work_list.fn (F := F) a0 a1 a2 me st pr ln).2.1 = fun _ => 1#1)
    (h3 : (Cert.Pre_work_list.fn (F := F) a0 a1 a2 me st pr ln).2.2.1 = fun _ => 1#1)
    (h4 : (Cert.Pre_work_list.fn (F := F) a0 a1 a2 me st pr ln).2.2.2.1 = fun _ => 1#1)
    (h5 : (Cert.Pre_work_list.fn (F := F) a0 a1 a2 me st pr ln).2.2.2.2.1 = fun _ => 1#1)
    (h6 : (Cert.Pre_work_list.fn (F := F) a0 a1 a2 me st pr ln).2.2.2.2.2 = fun _ => 1#1) : Work pr ln me st where
  l_lt k := (pre_inside a0 a1 a2 me st pr ln h1 k).1
  b_lt k := (pre_inside a0 a1 a2 me st pr ln h1 k).2.1
  p_lt k := (pre_inside a0 a1 a2 me st pr ln h1 k).2.2.1
  n_le k := (pre_inside a0 a1 a2 me st pr ln h1 k).2.2.2
  probe := pre_probes a0 a1 a2 me st pr ln h2
  len := pre_lens a0 a1 a2 me st pr ln h3
  once k k' hb hp := pre_once a0 a1 a2 me st pr ln h4 k k' (BitVec.eq_of_toNat_eq hb) (BitVec.eq_of_toNat_eq hp)
  first := congrArg BitVec.toNat ((pre_ends a0 a1 a2 me st pr ln h6 0).1 rfl)
  last := congrArg BitVec.toNat ((pre_ends a0 a1 a2 me st pr ln h6 31).2.1 rfl)
  mono := mono_of (fun w => (pre_ends a0 a1 a2 me st pr ln h6 w).2.2) ((pre_ends a0 a1 a2 me st pr ln h6 0).1 rfl)
    ((pre_ends a0 a1 a2 me st pr ln h6 31).2.1 rfl) (pre_chain a0 a1 a2 me st pr ln h5)
  chain := pre_chain a0 a1 a2 me st pr ln h5
end ReadPre

end Cert.Proof.Sc
end
end
-- ==== Proof.ScFrame.lean ====
module

public import Idealize.ShloMosaic.Lib.Pipeline.ValueKit
public import Idealize.ShloMosaic.Lib.WordCmp
public import Idealize.ShloMosaic.Lib.LoopRemainder
public import proofs.«01_k».proof.Proof.ScPre

/-! The frame claim. -/

@[expose] public section

noncomputable section

namespace Cert.Proof.Sc

open Cert.Sc Cert.Sc.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt Bits) ℓ)
theorem ok_of_pre (h : Cert.Pre_Sc m) : WorkAt m := fun d =>
  work_of_pre _ _ _ _ _ _ _ (h d).1 (h d).2.1 (h d).2.2.1 (h d).2.2.2.1 (h d).2.2.2.2.1 (h d).2.2.2.2.2

/-- The program ends with its arguments as they were and every semaphore at zero. -/
theorem frame : Cert.quiescent_Sc := fun m ρ hpre =>
  (θ_run Cert.Sc.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩) (run_main (F := Bits) m ρ (ok_of_pre m hpre))

end Cert.Proof.Sc
end
end
-- ==== Proof.SiBase.lean ====
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.ScIdeal
public import proofs.«01_k».proof.Proof.Gen.ScIdeal.Skeleton

/-! The setting of the gather kernel's proof: its resource algebra, its buffers by name. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The buffers as the kernel names them -/

abbrev cdV : Memref sig .scVector .hbm S2000x24x1536 .i32 := Memref.whole main_arg0_scv
abbrev tmV : Memref sig .scVector .hbm S2000x48x256 .i32 := Memref.whole main_arg1_scv
abbrev luV : Memref sig .scVector .hbm S200x96x256 .f32 := Memref.whole main_arg2_scv
abbrev meV : Memref sig .scVector .hbm S3600x16 .i32 := Memref.whole main_arg3_scv
abbrev stV : Memref sig .scVector .hbm S32x16 .i32 := Memref.whole main_arg4_scv
abbrev ouV : Memref sig .scVector .hbm S18x200x1536 .f32 := Memref.whole main_v0_scv
abbrev s0V : Memref sig .scVector .vmem S24x1536 .i32 := Memref.whole cc0_scratch0
abbrev s1V : Memref sig .scVector .vmem S96x2x128 .f32 := Memref.whole cc0_scratch1
abbrev s2V : Memref sig .scVector .vmem S48x256 .i32 := Memref.whole cc0_scratch2
abbrev s3V : Memref sig .scVector .vmem S1536 .f32 := Memref.whole cc0_scratch3
abbrev s4V : Memref sig .scVector .vmem S16 .i32 := Memref.whole cc0_scratch4
abbrev s5V : Memref sig .scVector .vmem S16 .i32 := Memref.whole cc0_scratch5

abbrev cV (L : grid0.Coords) : Fin τ.nSC := (L 0).castLE hcore0
abbrev jV (L : grid0.Coords) : Fin τ.nSub := (L 1).castLE hsub0
/-- The task's thread. -/
abbrev tt (d : Dev nD) (L : grid0.Coords) : Thread nD τ := V d (cV L) (jV L)

end Cert.Proof.ScIdeal
end
end
-- ==== Proof.SiWords.lean ====
module

public import Idealize.ShloMosaic.Lib.Pipeline.ValueKit
public import proofs.«01_k».proof.Proof.SiBase

/-! Words: bytes, trip counts and offsets. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem byte_lt (y : BitVec 32) : (y &&& 255#32).toNat < 256 := by
  rw [BitVec.toNat_and]
  exact lt_of_le_of_lt Nat.and_le_right (by decide)

theorem byte_hi (y : BitVec 32) : ((y &&& 255#32).sshiftRight' 7#32).toNat = (y &&& 255#32).toNat / 128 := by
  have h := byte_lt y
  have hm : (y &&& 255#32).msb = false := by
    rw [BitVec.msb_eq_false_iff_two_mul_lt]; omega
  show ((y &&& 255#32).sshiftRight 7).toNat = _
  rw [BitVec.sshiftRight_eq_of_msb_false hm, BitVec.toNat_ushiftRight, Nat.shiftRight_eq_div_pow]

theorem byte_lo (y : BitVec 32) : ((y &&& 255#32) &&& 127#32).toNat = (y &&& 255#32).toNat % 128 := by
  rw [BitVec.toNat_and]
  exact Nat.and_two_pow_sub_one_eq_mod _ 7
omit [FloatOps F] in
theorem len_words : ∀ n : Fin 1537, (k0_t4_loop (BitVec.ofNat 32 n)).trips = (n.val + 15) / 16 ∧ (k0_t4_loop (BitVec.ofNat 32 n)).OK
    ∧ (k0_t5_loop (BitVec.ofNat 32 n)).trips = 0 ∧ (k0_t5_loop (BitVec.ofNat 32 n)).OK := by decide +kernel

variable {v : BitVec 32} (hv : v.toNat ≤ 1536)
include hv

theorem t4_trips : (k0_t4_loop v).trips = (v.toNat + 15) / 16 := by
  have h := (len_words ⟨v.toNat, by omega⟩).1
  rwa [show BitVec.ofNat 32 (⟨v.toNat, by omega⟩ : Fin 1537).val = v from by simp] at h
theorem t4_OK : (k0_t4_loop v).OK := by
  have h := (len_words ⟨v.toNat, by omega⟩).2.1
  rwa [show BitVec.ofNat 32 (⟨v.toNat, by omega⟩ : Fin 1537).val = v from by simp] at h
theorem t5_trips : (k0_t5_loop v).trips = 0 := by
  have h := (len_words ⟨v.toNat, by omega⟩).2.2.1
  rwa [show BitVec.ofNat 32 (⟨v.toNat, by omega⟩ : Fin 1537).val = v from by simp] at h
theorem t5_OK : (k0_t5_loop v).OK := by
  have h := (len_words ⟨v.toNat, by omega⟩).2.2.2
  rwa [show BitVec.ofNat 32 (⟨v.toNat, by omega⟩ : Fin 1537).val = v from by simp] at h

theorem t4_lt (t : Fin (k0_t4_loop v).trips) : t.val < 96 := by
  have := t.isLt; have := t4_trips hv; omega

omit hv in
theorem lane_off : ∀ t : Fin 96, (Scalar.indexCast (Scalar.muli (Scalar.addi 0#32 (Scalar.muli (Scf.iv 0#32 1#32 t.val) 1#32)) 16#32)).toNat = 16 * t.val := by decide +kernel

variable (t : Fin (k0_t4_loop v).trips)
theorem off56_eq : k0_off56 v t = ![0, 16 * t.val] := congrArg (fun q => ![0, q]) (lane_off ⟨t.val, t4_lt hv t⟩)
theorem off57_eq : k0_off57 v t = ![1, 16 * t.val] := congrArg (fun q => ![1, q]) (lane_off ⟨t.val, t4_lt hv t⟩)
theorem off58_eq : k0_off58 v t = ![2, 16 * t.val] := congrArg (fun q => ![2, q]) (lane_off ⟨t.val, t4_lt hv t⟩)
theorem off59_eq : k0_off59 v t = ![3, 16 * t.val] := congrArg (fun q => ![3, q]) (lane_off ⟨t.val, t4_lt hv t⟩)
theorem off60_eq : k0_off60 v t = ![4, 16 * t.val] := congrArg (fun q => ![4, q]) (lane_off ⟨t.val, t4_lt hv t⟩)
theorem off61_eq : k0_off61 v t = ![5, 16 * t.val] := congrArg (fun q => ![5, q]) (lane_off ⟨t.val, t4_lt hv t⟩)
theorem off62_eq : k0_off62 v t = ![6, 16 * t.val] := congrArg (fun q => ![6, q]) (lane_off ⟨t.val, t4_lt hv t⟩)
theorem off63_eq : k0_off63 v t = ![7, 16 * t.val] := congrArg (fun q => ![7, q]) (lane_off ⟨t.val, t4_lt hv t⟩)
theorem off64_eq : k0_off64 v t = ![8, 16 * t.val] := congrArg (fun q => ![8, q]) (lane_off ⟨t.val, t4_lt hv t⟩)
theorem off65_eq : k0_off65 v t = ![9, 16 * t.val] := congrArg (fun q => ![9, q]) (lane_off ⟨t.val, t4_lt hv t⟩)
theorem off66_eq : k0_off66 v t = ![10, 16 * t.val] := congrArg (fun q => ![10, q]) (lane_off ⟨t.val, t4_lt hv t⟩)
theorem off67_eq : k0_off67 v t = ![11, 16 * t.val] := congrArg (fun q => ![11, q]) (lane_off ⟨t.val, t4_lt hv t⟩)
theorem off68_eq : k0_off68 v t = ![12, 16 * t.val] := congrArg (fun q => ![12, q]) (lane_off ⟨t.val, t4_lt hv t⟩)
theorem off69_eq : k0_off69 v t = ![13, 16 * t.val] := congrArg (fun q => ![13, q]) (lane_off ⟨t.val, t4_lt hv t⟩)
theorem off70_eq : k0_off70 v t = ![14, 16 * t.val] := congrArg (fun q => ![14, q]) (lane_off ⟨t.val, t4_lt hv t⟩)
theorem off71_eq : k0_off71 v t = ![15, 16 * t.val] := congrArg (fun q => ![15, q]) (lane_off ⟨t.val, t4_lt hv t⟩)
theorem off72_eq : k0_off72 v t = ![16, 16 * t.val] := congrArg (fun q => ![16, q]) (lane_off ⟨t.val, t4_lt hv t⟩)
theorem off73_eq : k0_off73 v t = ![17, 16 * t.val] := congrArg (fun q => ![17, q]) (lane_off ⟨t.val, t4_lt hv t⟩)
theorem off74_eq : k0_off74 v t = ![18, 16 * t.val] := congrArg (fun q => ![18, q]) (lane_off ⟨t.val, t4_lt hv t⟩)
theorem off75_eq : k0_off75 v t = ![19, 16 * t.val] := congrArg (fun q => ![19, q]) (lane_off ⟨t.val, t4_lt hv t⟩)
theorem off76_eq : k0_off76 v t = ![20, 16 * t.val] := congrArg (fun q => ![20, q]) (lane_off ⟨t.val, t4_lt hv t⟩)
theorem off77_eq : k0_off77 v t = ![21, 16 * t.val] := congrArg (fun q => ![21, q]) (lane_off ⟨t.val, t4_lt hv t⟩)
theorem off78_eq : k0_off78 v t = ![22, 16 * t.val] := congrArg (fun q => ![22, q]) (lane_off ⟨t.val, t4_lt hv t⟩)
theorem off79_eq : k0_off79 v t = ![23, 16 * t.val] := congrArg (fun q => ![23, q]) (lane_off ⟨t.val, t4_lt hv t⟩)
theorem off80_eq : k0_off80 v t = ![16 * t.val] := congrArg (fun q => ![q]) (lane_off ⟨t.val, t4_lt hv t⟩)

theorem row_ok (r : ℕ) (hr : r < 24) (o : Fin 2 → ℕ) (ho : o = ![r, 16 * t.val]) : ∀ a, o a + S1x16.size a ≤ S24x1536.size a := by
  subst ho
  have := t4_lt hv t
  intro a
  match a with
  | 0 => show r + 1 ≤ 24; omega
  | 1 => show 16 * t.val + 16 ≤ 1536; omega

omit t in
theorem chk4_of : k0_chk4 v := by
  have h0 : ∀ t : Fin (k0_t5_loop v).trips, False := fun t => by have := t.isLt; have := t5_trips hv; omega
  have h80 : ∀ t : Fin (k0_t4_loop v).trips, ∀ a, k0_off80 v t a + S16.size a ≤ S1536.size a := fun t a => by
    rw [off80_eq hv t]; have := t4_lt hv t
    match a with
    | 0 => show 16 * t.val + 16 ≤ 1536; omega
  exact ⟨⟨t4_OK hv, fun t => row_ok hv t 0 (by decide) _ (off56_eq hv t), fun t => row_ok hv t 1 (by decide) _ (off57_eq hv t), fun t => row_ok hv t 2 (by decide) _ (off58_eq hv t), fun t => row_ok hv t 3 (by decide) _ (off59_eq hv t), fun t => row_ok hv t 4 (by decide) _ (off60_eq hv t), fun t => row_ok hv t 5 (by decide) _ (off61_eq hv t), fun t => row_ok hv t 6 (by decide) _ (off62_eq hv t), fun t => row_ok hv t 7 (by decide) _ (off63_eq hv t), fun t => row_ok hv t 8 (by decide) _ (off64_eq hv t), fun t => row_ok hv t 9 (by decide) _ (off65_eq hv t), fun t => row_ok hv t 10 (by decide) _ (off66_eq hv t), fun t => row_ok hv t 11 (by decide) _ (off67_eq hv t), fun t => row_ok hv t 12 (by decide) _ (off68_eq hv t), fun t => row_ok hv t 13 (by decide) _ (off69_eq hv t), fun t => row_ok hv t 14 (by decide) _ (off70_eq hv t), fun t => row_ok hv t 15 (by decide) _ (off71_eq hv t), fun t => row_ok hv t 16 (by decide) _ (off72_eq hv t), fun t => row_ok hv t 17 (by decide) _ (off73_eq hv t), fun t => row_ok hv t 18 (by decide) _ (off74_eq hv t), fun t => row_ok hv t 19 (by decide) _ (off75_eq hv t), fun t => row_ok hv t 20 (by decide) _ (off76_eq hv t), fun t => row_ok hv t 21 (by decide) _ (off77_eq hv t), fun t => row_ok hv t 22 (by decide) _ (off78_eq hv t), fun t => row_ok hv t 23 (by decide) _ (off79_eq hv t), h80, t5_OK hv, fun t => (h0 t).elim, fun t => (h0 t).elim, fun t => (h0 t).elim, fun t => (h0 t).elim, fun t => (h0 t).elim⟩, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim, fun t => (h0 t).elim⟩

end Cert.Proof.ScIdeal
end
end
-- ==== Proof.SiPick.lean ====
module

public import Idealize.ShloMosaic.Lib.Pipeline.ValueKit
public import proofs.«01_k».proof.Proof.SiWords

/-! Gathering: sixteen slots' distances. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

omit [FloatOps F] in
theorem idx_ok (u : IVec S16 32) (m : BitVec 32) (hm : m.toNat < 96) :
    ∀ a x, ((![broadcast S16 m, shrsi (andi u (broadcast S16 255#32)) (broadcast S16 7#32),
      andi (andi u (broadcast S16 255#32)) (broadcast S16 127#32)] : Fin 3 → IVec S16 32) a x).toNat < S96x2x128.size a := by
  intro a x
  match a with
  | 0 => exact hm
  | 1 =>
    show ((u x &&& 255#32).sshiftRight' 7#32).toNat < 2
    rw [byte_hi]
    have := byte_lt (u x)
    omega
  | 2 =>
    show ((u x &&& 255#32) &&& 127#32).toNat < 128
    rw [BitVec.toNat_and]
    exact lt_of_le_of_lt Nat.and_le_right (by decide)

/-- Sixteen words of codes: slots `16t .. 16t+15` of word row `r`. -/
abbrev codeWords (off : Fin 2 → ℕ) (inb : ∀ a, off a + S1x16.size a ≤ S24x1536.size a) (e : Buf (Elt F) (s0V.view.loc (tt d L))) : IVec S16 32 :=
  shapeCast S16 (View.readAt (Elt F) s0V.view (Rect.unit (s := S24x1536) off S1x16.size inb).toLoadRect e) shapeCasts_S1x16_S16

/-- The table's entries of subspace `m` at the codes in the low bytes of `w`. -/
abbrev pick (f : Vec F S96x2x128 .f32) (m : ℕ) (hm : m < 96) (w : IVec S16 32) : FVec F S16 .f32 :=
  loadIdx f ![broadcast S16 (BitVec.ofNat 32 m), shrsi (andi w (broadcast S16 255#32)) (broadcast S16 7#32),
      andi (andi w (broadcast S16 255#32)) (broadcast S16 127#32)] (idx_ok w _ (by rw [BitVec.toNat_ofNat]; omega))

/-- Byte `j` of each word, at the bottom. -/
abbrev lane (w : IVec S16 32) (j : ℕ) : IVec S16 32 := shrsi w (broadcast S16 (BitVec.ofNat 32 (8 * j)))

/-- Lane `j`'s partial sum: the picked entries of subspaces `j, 4 + j, …, 4n + j`, in that order. -/
def accN (f : Vec F S96x2x128 .f32) (W : Fin 24 → IVec S16 32) (j : ℕ) (hj : j < 4) : (n : ℕ) → n < 24 → FVec F S16 .f32
  | 0, h => pick f (4 * 0 + j) (by omega) (lane (W ⟨0, h⟩) j)
  | n + 1, h => addf (accN f W j hj n (by omega)) (pick f (4 * (n + 1) + j) (by omega) (lane (W ⟨n + 1, h⟩) j))

/-- Sixteen slots' distances, before masking. -/
def total (f : Vec F S96x2x128 .f32) (W : Fin 24 → IVec S16 32) : FVec F S16 .f32 :=
  addf (addf (accN f W 0 (by decide) 23 (by decide)) (accN f W 1 (by decide) 23 (by decide)))
    (addf (accN f W 2 (by decide) 23 (by decide)) (accN f W 3 (by decide) 23 (by decide)))

/-- Sixteen slots' results: the distances of the slots below the length, zero in the others. -/
def masked (v3 : IVec S16 32) (v23 v39 : BitVec 32) (f : Vec F S96x2x128 .f32) (W : Fin 24 → IVec S16 32) : FVec F S16 .f32 :=
  select (cmpi .slt (addi v3 (broadcast S16 (Scalar.muli v39 16#32))) (broadcast S16 v23)) (total f W) (broadcast S16 (FloatOps.ofBits .f32 0#32))

/-- The words of codes of slots `16t .. 16t+15`. -/
def slotWords (e : S24x1536.Idx → BitVec 32) (T : ℕ) (hT : T < 96) : Fin 24 → IVec S16 32 :=
  fun r x => e (ix2 r ⟨16 * T + (x 0).val, by have : (x 0).val < 16 := (x 0).isLt; omega⟩)

theorem codeWords_eq (off : Fin 2 → ℕ) (inb : ∀ a, off a + S1x16.size a ≤ S24x1536.size a) (e : Buf (Elt F) (s0V.view.loc (tt d L)))
    (r : Fin 24) (T : ℕ) (hT : T < 96) (ho : off = ![r.val, 16 * T]) : codeWords d L off inb e = slotWords e T hT r := by
  subst ho
  funext x
  simp only [codeWords, pointwise, View.readAt_apply]
  refine congrArg e (funext fun a => ?_)
  match a with
  | 0 => exact Fin.ext (by simp [ix2])
  | 1 => exact Fin.ext (by simp [ix2])

/-- Lane sums written out. -/
def lane0 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 0#32, shrsi (andi (shrsi w0 (broadcast S16 0#32)) (broadcast S16 255#32)) (broadcast S16 7#32), andi (andi (shrsi w0 (broadcast S16 0#32)) (broadcast S16 255#32)) (broadcast S16 127#32)] (idx_ok (shrsi w0 (broadcast S16 0#32)) 0#32 (by decide)))
      (loadIdx f ![broadcast S16 4#32, shrsi (andi (shrsi w1 (broadcast S16 0#32)) (broadcast S16 255#32)) (broadcast S16 7#32), andi (andi (shrsi w1 (broadcast S16 0#32)) (broadcast S16 255#32)) (broadcast S16 127#32)] (idx_ok (shrsi w1 (broadcast S16 0#32)) 4#32 (by decide))))
      (loadIdx f ![broadcast S16 8#32, shrsi (andi (shrsi w2 (broadcast S16 0#32)) (broadcast S16 255#32)) (broadcast S16 7#32), andi (andi (shrsi w2 (broadcast S16 0#32)) (broadcast S16 255#32)) (broadcast S16 127#32)] (idx_ok (shrsi w2 (broadcast S16 0#32)) 8#32 (by decide))))
      (loadIdx f ![broadcast S16 12#32, shrsi (andi (shrsi w3 (broadcast S16 0#32)) (broadcast S16 255#32)) (broadcast S16 7#32), andi (andi (shrsi w3 (broadcast S16 0#32)) (broadcast S16 255#32)) (broadcast S16 127#32)] (idx_ok (shrsi w3 (broadcast S16 0#32)) 12#32 (by decide))))
      (loadIdx f ![broadcast S16 16#32, shrsi (andi (shrsi w4 (broadcast S16 0#32)) (broadcast S16 255#32)) (broadcast S16 7#32), andi (andi (shrsi w4 (broadcast S16 0#32)) (broadcast S16 255#32)) (broadcast S16 127#32)] (idx_ok (shrsi w4 (broadcast S16 0#32)) 16#32 (by decide))))
      (loadIdx f ![broadcast S16 20#32, shrsi (andi (shrsi w5 (broadcast S16 0#32)) (broadcast S16 255#32)) (broadcast S16 7#32), andi (andi (shrsi w5 (broadcast S16 0#32)) (broadcast S16 255#32)) (broadcast S16 127#32)] (idx_ok (shrsi w5 (broadcast S16 0#32)) 20#32 (by decide))))
      (loadIdx f ![broadcast S16 24#32, shrsi (andi (shrsi w6 (broadcast S16 0#32)) (broadcast S16 255#32)) (broadcast S16 7#32), andi (andi (shrsi w6 (broadcast S16 0#32)) (broadcast S16 255#32)) (broadcast S16 127#32)] (idx_ok (shrsi w6 (broadcast S16 0#32)) 24#32 (by decide))))
      (loadIdx f ![broadcast S16 28#32, shrsi (andi (shrsi w7 (broadcast S16 0#32)) (broadcast S16 255#32)) (broadcast S16 7#32), andi (andi (shrsi w7 (broadcast S16 0#32)) (broadcast S16 255#32)) (broadcast S16 127#32)] (idx_ok (shrsi w7 (broadcast S16 0#32)) 28#32 (by decide))))
      (loadIdx f ![broadcast S16 32#32, shrsi (andi (shrsi w8 (broadcast S16 0#32)) (broadcast S16 255#32)) (broadcast S16 7#32), andi (andi (shrsi w8 (broadcast S16 0#32)) (broadcast S16 255#32)) (broadcast S16 127#32)] (idx_ok (shrsi w8 (broadcast S16 0#32)) 32#32 (by decide))))
      (loadIdx f ![broadcast S16 36#32, shrsi (andi (shrsi w9 (broadcast S16 0#32)) (broadcast S16 255#32)) (broadcast S16 7#32), andi (andi (shrsi w9 (broadcast S16 0#32)) (broadcast S16 255#32)) (broadcast S16 127#32)] (idx_ok (shrsi w9 (broadcast S16 0#32)) 36#32 (by decide))))
      (loadIdx f ![broadcast S16 40#32, shrsi (andi (shrsi w10 (broadcast S16 0#32)) (broadcast S16 255#32)) (broadcast S16 7#32), andi (andi (shrsi w10 (broadcast S16 0#32)) (broadcast S16 255#32)) (broadcast S16 127#32)] (idx_ok (shrsi w10 (broadcast S16 0#32)) 40#32 (by decide))))
      (loadIdx f ![broadcast S16 44#32, shrsi (andi (shrsi w11 (broadcast S16 0#32)) (broadcast S16 255#32)) (broadcast S16 7#32), andi (andi (shrsi w11 (broadcast S16 0#32)) (broadcast S16 255#32)) (broadcast S16 127#32)] (idx_ok (shrsi w11 (broadcast S16 0#32)) 44#32 (by decide))))
      (loadIdx f ![broadcast S16 48#32, shrsi (andi (shrsi w12 (broadcast S16 0#32)) (broadcast S16 255#32)) (broadcast S16 7#32), andi (andi (shrsi w12 (broadcast S16 0#32)) (broadcast S16 255#32)) (broadcast S16 127#32)] (idx_ok (shrsi w12 (broadcast S16 0#32)) 48#32 (by decide))))
      (loadIdx f ![broadcast S16 52#32, shrsi (andi (shrsi w13 (broadcast S16 0#32)) (broadcast S16 255#32)) (broadcast S16 7#32), andi (andi (shrsi w13 (broadcast S16 0#32)) (broadcast S16 255#32)) (broadcast S16 127#32)] (idx_ok (shrsi w13 (broadcast S16 0#32)) 52#32 (by decide))))
      (loadIdx f ![broadcast S16 56#32, shrsi (andi (shrsi w14 (broadcast S16 0#32)) (broadcast S16 255#32)) (broadcast S16 7#32), andi (andi (shrsi w14 (broadcast S16 0#32)) (broadcast S16 255#32)) (broadcast S16 127#32)] (idx_ok (shrsi w14 (broadcast S16 0#32)) 56#32 (by decide))))
      (loadIdx f ![broadcast S16 60#32, shrsi (andi (shrsi w15 (broadcast S16 0#32)) (broadcast S16 255#32)) (broadcast S16 7#32), andi (andi (shrsi w15 (broadcast S16 0#32)) (broadcast S16 255#32)) (broadcast S16 127#32)] (idx_ok (shrsi w15 (broadcast S16 0#32)) 60#32 (by decide))))
      (loadIdx f ![broadcast S16 64#32, shrsi (andi (shrsi w16 (broadcast S16 0#32)) (broadcast S16 255#32)) (broadcast S16 7#32), andi (andi (shrsi w16 (broadcast S16 0#32)) (broadcast S16 255#32)) (broadcast S16 127#32)] (idx_ok (shrsi w16 (broadcast S16 0#32)) 64#32 (by decide))))
      (loadIdx f ![broadcast S16 68#32, shrsi (andi (shrsi w17 (broadcast S16 0#32)) (broadcast S16 255#32)) (broadcast S16 7#32), andi (andi (shrsi w17 (broadcast S16 0#32)) (broadcast S16 255#32)) (broadcast S16 127#32)] (idx_ok (shrsi w17 (broadcast S16 0#32)) 68#32 (by decide))))
      (loadIdx f ![broadcast S16 72#32, shrsi (andi (shrsi w18 (broadcast S16 0#32)) (broadcast S16 255#32)) (broadcast S16 7#32), andi (andi (shrsi w18 (broadcast S16 0#32)) (broadcast S16 255#32)) (broadcast S16 127#32)] (idx_ok (shrsi w18 (broadcast S16 0#32)) 72#32 (by decide))))
      (loadIdx f ![broadcast S16 76#32, shrsi (andi (shrsi w19 (broadcast S16 0#32)) (broadcast S16 255#32)) (broadcast S16 7#32), andi (andi (shrsi w19 (broadcast S16 0#32)) (broadcast S16 255#32)) (broadcast S16 127#32)] (idx_ok (shrsi w19 (broadcast S16 0#32)) 76#32 (by decide))))
      (loadIdx f ![broadcast S16 80#32, shrsi (andi (shrsi w20 (broadcast S16 0#32)) (broadcast S16 255#32)) (broadcast S16 7#32), andi (andi (shrsi w20 (broadcast S16 0#32)) (broadcast S16 255#32)) (broadcast S16 127#32)] (idx_ok (shrsi w20 (broadcast S16 0#32)) 80#32 (by decide))))
      (loadIdx f ![broadcast S16 84#32, shrsi (andi (shrsi w21 (broadcast S16 0#32)) (broadcast S16 255#32)) (broadcast S16 7#32), andi (andi (shrsi w21 (broadcast S16 0#32)) (broadcast S16 255#32)) (broadcast S16 127#32)] (idx_ok (shrsi w21 (broadcast S16 0#32)) 84#32 (by decide))))
      (loadIdx f ![broadcast S16 88#32, shrsi (andi (shrsi w22 (broadcast S16 0#32)) (broadcast S16 255#32)) (broadcast S16 7#32), andi (andi (shrsi w22 (broadcast S16 0#32)) (broadcast S16 255#32)) (broadcast S16 127#32)] (idx_ok (shrsi w22 (broadcast S16 0#32)) 88#32 (by decide))))
      (loadIdx f ![broadcast S16 92#32, shrsi (andi (shrsi w23 (broadcast S16 0#32)) (broadcast S16 255#32)) (broadcast S16 7#32), andi (andi (shrsi w23 (broadcast S16 0#32)) (broadcast S16 255#32)) (broadcast S16 127#32)] (idx_ok (shrsi w23 (broadcast S16 0#32)) 92#32 (by decide))))
def lane1 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 1#32, shrsi (andi (shrsi w0 (broadcast S16 8#32)) (broadcast S16 255#32)) (broadcast S16 7#32), andi (andi (shrsi w0 (broadcast S16 8#32)) (broadcast S16 255#32)) (broadcast S16 127#32)] (idx_ok (shrsi w0 (broadcast S16 8#32)) 1#32 (by decide)))
      (loadIdx f ![broadcast S16 5#32, shrsi (andi (shrsi w1 (broadcast S16 8#32)) (broadcast S16 255#32)) (broadcast S16 7#32), andi (andi (shrsi w1 (broadcast S16 8#32)) (broadcast S16 255#32)) (broadcast S16 127#32)] (idx_ok (shrsi w1 (broadcast S16 8#32)) 5#32 (by decide))))
      (loadIdx f ![broadcast S16 9#32, shrsi (andi (shrsi w2 (broadcast S16 8#32)) (broadcast S16 255#32)) (broadcast S16 7#32), andi (andi (shrsi w2 (broadcast S16 8#32)) (broadcast S16 255#32)) (broadcast S16 127#32)] (idx_ok (shrsi w2 (broadcast S16 8#32)) 9#32 (by decide))))
      (loadIdx f ![broadcast S16 13#32, shrsi (andi (shrsi w3 (broadcast S16 8#32)) (broadcast S16 255#32)) (broadcast S16 7#32), andi (andi (shrsi w3 (broadcast S16 8#32)) (broadcast S16 255#32)) (broadcast S16 127#32)] (idx_ok (shrsi w3 (broadcast S16 8#32)) 13#32 (by decide))))
      (loadIdx f ![broadcast S16 17#32, shrsi (andi (shrsi w4 (broadcast S16 8#32)) (broadcast S16 255#32)) (broadcast S16 7#32), andi (andi (shrsi w4 (broadcast S16 8#32)) (broadcast S16 255#32)) (broadcast S16 127#32)] (idx_ok (shrsi w4 (broadcast S16 8#32)) 17#32 (by decide))))
      (loadIdx f ![broadcast S16 21#32, shrsi (andi (shrsi w5 (broadcast S16 8#32)) (broadcast S16 255#32)) (broadcast S16 7#32), andi (andi (shrsi w5 (broadcast S16 8#32)) (broadcast S16 255#32)) (broadcast S16 127#32)] (idx_ok (shrsi w5 (broadcast S16 8#32)) 21#32 (by decide))))
      (loadIdx f ![broadcast S16 25#32, shrsi (andi (shrsi w6 (broadcast S16 8#32)) (broadcast S16 255#32)) (broadcast S16 7#32), andi (andi (shrsi w6 (broadcast S16 8#32)) (broadcast S16 255#32)) (broadcast S16 127#32)] (idx_ok (shrsi w6 (broadcast S16 8#32)) 25#32 (by decide))))
      (loadIdx f ![broadcast S16 29#32, shrsi (andi (shrsi w7 (broadcast S16 8#32)) (broadcast S16 255#32)) (broadcast S16 7#32), andi (andi (shrsi w7 (broadcast S16 8#32)) (broadcast S16 255#32)) (broadcast S16 127#32)] (idx_ok (shrsi w7 (broadcast S16 8#32)) 29#32 (by decide))))
      (loadIdx f ![broadcast S16 33#32, shrsi (andi (shrsi w8 (broadcast S16 8#32)) (broadcast S16 255#32)) (broadcast S16 7#32), andi (andi (shrsi w8 (broadcast S16 8#32)) (broadcast S16 255#32)) (broadcast S16 127#32)] (idx_ok (shrsi w8 (broadcast S16 8#32)) 33#32 (by decide))))
      (loadIdx f ![broadcast S16 37#32, shrsi (andi (shrsi w9 (broadcast S16 8#32)) (broadcast S16 255#32)) (broadcast S16 7#32), andi (andi (shrsi w9 (broadcast S16 8#32)) (broadcast S16 255#32)) (broadcast S16 127#32)] (idx_ok (shrsi w9 (broadcast S16 8#32)) 37#32 (by decide))))
      (loadIdx f ![broadcast S16 41#32, shrsi (andi (shrsi w10 (broadcast S16 8#32)) (broadcast S16 255#32)) (broadcast S16 7#32), andi (andi (shrsi w10 (broadcast S16 8#32)) (broadcast S16 255#32)) (broadcast S16 127#32)] (idx_ok (shrsi w10 (broadcast S16 8#32)) 41#32 (by decide))))
      (loadIdx f ![broadcast S16 45#32, shrsi (andi (shrsi w11 (broadcast S16 8#32)) (broadcast S16 255#32)) (broadcast S16 7#32), andi (andi (shrsi w11 (broadcast S16 8#32)) (broadcast S16 255#32)) (broadcast S16 127#32)] (idx_ok (shrsi w11 (broadcast S16 8#32)) 45#32 (by decide))))
      (loadIdx f ![broadcast S16 49#32, shrsi (andi (shrsi w12 (broadcast S16 8#32)) (broadcast S16 255#32)) (broadcast S16 7#32), andi (andi (shrsi w12 (broadcast S16 8#32)) (broadcast S16 255#32)) (broadcast S16 127#32)] (idx_ok (shrsi w12 (broadcast S16 8#32)) 49#32 (by decide))))
      (loadIdx f ![broadcast S16 53#32, shrsi (andi (shrsi w13 (broadcast S16 8#32)) (broadcast S16 255#32)) (broadcast S16 7#32), andi (andi (shrsi w13 (broadcast S16 8#32)) (broadcast S16 255#32)) (broadcast S16 127#32)] (idx_ok (shrsi w13 (broadcast S16 8#32)) 53#32 (by decide))))
      (loadIdx f ![broadcast S16 57#32, shrsi (andi (shrsi w14 (broadcast S16 8#32)) (broadcast S16 255#32)) (broadcast S16 7#32), andi (andi (shrsi w14 (broadcast S16 8#32)) (broadcast S16 255#32)) (broadcast S16 127#32)] (idx_ok (shrsi w14 (broadcast S16 8#32)) 57#32 (by decide))))
      (loadIdx f ![broadcast S16 61#32, shrsi (andi (shrsi w15 (broadcast S16 8#32)) (broadcast S16 255#32)) (broadcast S16 7#32), andi (andi (shrsi w15 (broadcast S16 8#32)) (broadcast S16 255#32)) (broadcast S16 127#32)] (idx_ok (shrsi w15 (broadcast S16 8#32)) 61#32 (by decide))))
      (loadIdx f ![broadcast S16 65#32, shrsi (andi (shrsi w16 (broadcast S16 8#32)) (broadcast S16 255#32)) (broadcast S16 7#32), andi (andi (shrsi w16 (broadcast S16 8#32)) (broadcast S16 255#32)) (broadcast S16 127#32)] (idx_ok (shrsi w16 (broadcast S16 8#32)) 65#32 (by decide))))
      (loadIdx f ![broadcast S16 69#32, shrsi (andi (shrsi w17 (broadcast S16 8#32)) (broadcast S16 255#32)) (broadcast S16 7#32), andi (andi (shrsi w17 (broadcast S16 8#32)) (broadcast S16 255#32)) (broadcast S16 127#32)] (idx_ok (shrsi w17 (broadcast S16 8#32)) 69#32 (by decide))))
      (loadIdx f ![broadcast S16 73#32, shrsi (andi (shrsi w18 (broadcast S16 8#32)) (broadcast S16 255#32)) (broadcast S16 7#32), andi (andi (shrsi w18 (broadcast S16 8#32)) (broadcast S16 255#32)) (broadcast S16 127#32)] (idx_ok (shrsi w18 (broadcast S16 8#32)) 73#32 (by decide))))
      (loadIdx f ![broadcast S16 77#32, shrsi (andi (shrsi w19 (broadcast S16 8#32)) (broadcast S16 255#32)) (broadcast S16 7#32), andi (andi (shrsi w19 (broadcast S16 8#32)) (broadcast S16 255#32)) (broadcast S16 127#32)] (idx_ok (shrsi w19 (broadcast S16 8#32)) 77#32 (by decide))))
      (loadIdx f ![broadcast S16 81#32, shrsi (andi (shrsi w20 (broadcast S16 8#32)) (broadcast S16 255#32)) (broadcast S16 7#32), andi (andi (shrsi w20 (broadcast S16 8#32)) (broadcast S16 255#32)) (broadcast S16 127#32)] (idx_ok (shrsi w20 (broadcast S16 8#32)) 81#32 (by decide))))
      (loadIdx f ![broadcast S16 85#32, shrsi (andi (shrsi w21 (broadcast S16 8#32)) (broadcast S16 255#32)) (broadcast S16 7#32), andi (andi (shrsi w21 (broadcast S16 8#32)) (broadcast S16 255#32)) (broadcast S16 127#32)] (idx_ok (shrsi w21 (broadcast S16 8#32)) 85#32 (by decide))))
      (loadIdx f ![broadcast S16 89#32, shrsi (andi (shrsi w22 (broadcast S16 8#32)) (broadcast S16 255#32)) (broadcast S16 7#32), andi (andi (shrsi w22 (broadcast S16 8#32)) (broadcast S16 255#32)) (broadcast S16 127#32)] (idx_ok (shrsi w22 (broadcast S16 8#32)) 89#32 (by decide))))
      (loadIdx f ![broadcast S16 93#32, shrsi (andi (shrsi w23 (broadcast S16 8#32)) (broadcast S16 255#32)) (broadcast S16 7#32), andi (andi (shrsi w23 (broadcast S16 8#32)) (broadcast S16 255#32)) (broadcast S16 127#32)] (idx_ok (shrsi w23 (broadcast S16 8#32)) 93#32 (by decide))))
def lane2 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 2#32, shrsi (andi (shrsi w0 (broadcast S16 16#32)) (broadcast S16 255#32)) (broadcast S16 7#32), andi (andi (shrsi w0 (broadcast S16 16#32)) (broadcast S16 255#32)) (broadcast S16 127#32)] (idx_ok (shrsi w0 (broadcast S16 16#32)) 2#32 (by decide)))
      (loadIdx f ![broadcast S16 6#32, shrsi (andi (shrsi w1 (broadcast S16 16#32)) (broadcast S16 255#32)) (broadcast S16 7#32), andi (andi (shrsi w1 (broadcast S16 16#32)) (broadcast S16 255#32)) (broadcast S16 127#32)] (idx_ok (shrsi w1 (broadcast S16 16#32)) 6#32 (by decide))))
      (loadIdx f ![broadcast S16 10#32, shrsi (andi (shrsi w2 (broadcast S16 16#32)) (broadcast S16 255#32)) (broadcast S16 7#32), andi (andi (shrsi w2 (broadcast S16 16#32)) (broadcast S16 255#32)) (broadcast S16 127#32)] (idx_ok (shrsi w2 (broadcast S16 16#32)) 10#32 (by decide))))
      (loadIdx f ![broadcast S16 14#32, shrsi (andi (shrsi w3 (broadcast S16 16#32)) (broadcast S16 255#32)) (broadcast S16 7#32), andi (andi (shrsi w3 (broadcast S16 16#32)) (broadcast S16 255#32)) (broadcast S16 127#32)] (idx_ok (shrsi w3 (broadcast S16 16#32)) 14#32 (by decide))))
      (loadIdx f ![broadcast S16 18#32, shrsi (andi (shrsi w4 (broadcast S16 16#32)) (broadcast S16 255#32)) (broadcast S16 7#32), andi (andi (shrsi w4 (broadcast S16 16#32)) (broadcast S16 255#32)) (broadcast S16 127#32)] (idx_ok (shrsi w4 (broadcast S16 16#32)) 18#32 (by decide))))
      (loadIdx f ![broadcast S16 22#32, shrsi (andi (shrsi w5 (broadcast S16 16#32)) (broadcast S16 255#32)) (broadcast S16 7#32), andi (andi (shrsi w5 (broadcast S16 16#32)) (broadcast S16 255#32)) (broadcast S16 127#32)] (idx_ok (shrsi w5 (broadcast S16 16#32)) 22#32 (by decide))))
      (loadIdx f ![broadcast S16 26#32, shrsi (andi (shrsi w6 (broadcast S16 16#32)) (broadcast S16 255#32)) (broadcast S16 7#32), andi (andi (shrsi w6 (broadcast S16 16#32)) (broadcast S16 255#32)) (broadcast S16 127#32)] (idx_ok (shrsi w6 (broadcast S16 16#32)) 26#32 (by decide))))
      (loadIdx f ![broadcast S16 30#32, shrsi (andi (shrsi w7 (broadcast S16 16#32)) (broadcast S16 255#32)) (broadcast S16 7#32), andi (andi (shrsi w7 (broadcast S16 16#32)) (broadcast S16 255#32)) (broadcast S16 127#32)] (idx_ok (shrsi w7 (broadcast S16 16#32)) 30#32 (by decide))))
      (loadIdx f ![broadcast S16 34#32, shrsi (andi (shrsi w8 (broadcast S16 16#32)) (broadcast S16 255#32)) (broadcast S16 7#32), andi (andi (shrsi w8 (broadcast S16 16#32)) (broadcast S16 255#32)) (broadcast S16 127#32)] (idx_ok (shrsi w8 (broadcast S16 16#32)) 34#32 (by decide))))
      (loadIdx f ![broadcast S16 38#32, shrsi (andi (shrsi w9 (broadcast S16 16#32)) (broadcast S16 255#32)) (broadcast S16 7#32), andi (andi (shrsi w9 (broadcast S16 16#32)) (broadcast S16 255#32)) (broadcast S16 127#32)] (idx_ok (shrsi w9 (broadcast S16 16#32)) 38#32 (by decide))))
      (loadIdx f ![broadcast S16 42#32, shrsi (andi (shrsi w10 (broadcast S16 16#32)) (broadcast S16 255#32)) (broadcast S16 7#32), andi (andi (shrsi w10 (broadcast S16 16#32)) (broadcast S16 255#32)) (broadcast S16 127#32)] (idx_ok (shrsi w10 (broadcast S16 16#32)) 42#32 (by decide))))
      (loadIdx f ![broadcast S16 46#32, shrsi (andi (shrsi w11 (broadcast S16 16#32)) (broadcast S16 255#32)) (broadcast S16 7#32), andi (andi (shrsi w11 (broadcast S16 16#32)) (broadcast S16 255#32)) (broadcast S16 127#32)] (idx_ok (shrsi w11 (broadcast S16 16#32)) 46#32 (by decide))))
      (loadIdx f ![broadcast S16 50#32, shrsi (andi (shrsi w12 (broadcast S16 16#32)) (broadcast S16 255#32)) (broadcast S16 7#32), andi (andi (shrsi w12 (broadcast S16 16#32)) (broadcast S16 255#32)) (broadcast S16 127#32)] (idx_ok (shrsi w12 (broadcast S16 16#32)) 50#32 (by decide))))
      (loadIdx f ![broadcast S16 54#32, shrsi (andi (shrsi w13 (broadcast S16 16#32)) (broadcast S16 255#32)) (broadcast S16 7#32), andi (andi (shrsi w13 (broadcast S16 16#32)) (broadcast S16 255#32)) (broadcast S16 127#32)] (idx_ok (shrsi w13 (broadcast S16 16#32)) 54#32 (by decide))))
      (loadIdx f ![broadcast S16 58#32, shrsi (andi (shrsi w14 (broadcast S16 16#32)) (broadcast S16 255#32)) (broadcast S16 7#32), andi (andi (shrsi w14 (broadcast S16 16#32)) (broadcast S16 255#32)) (broadcast S16 127#32)] (idx_ok (shrsi w14 (broadcast S16 16#32)) 58#32 (by decide))))
      (loadIdx f ![broadcast S16 62#32, shrsi (andi (shrsi w15 (broadcast S16 16#32)) (broadcast S16 255#32)) (broadcast S16 7#32), andi (andi (shrsi w15 (broadcast S16 16#32)) (broadcast S16 255#32)) (broadcast S16 127#32)] (idx_ok (shrsi w15 (broadcast S16 16#32)) 62#32 (by decide))))
      (loadIdx f ![broadcast S16 66#32, shrsi (andi (shrsi w16 (broadcast S16 16#32)) (broadcast S16 255#32)) (broadcast S16 7#32), andi (andi (shrsi w16 (broadcast S16 16#32)) (broadcast S16 255#32)) (broadcast S16 127#32)] (idx_ok (shrsi w16 (broadcast S16 16#32)) 66#32 (by decide))))
      (loadIdx f ![broadcast S16 70#32, shrsi (andi (shrsi w17 (broadcast S16 16#32)) (broadcast S16 255#32)) (broadcast S16 7#32), andi (andi (shrsi w17 (broadcast S16 16#32)) (broadcast S16 255#32)) (broadcast S16 127#32)] (idx_ok (shrsi w17 (broadcast S16 16#32)) 70#32 (by decide))))
      (loadIdx f ![broadcast S16 74#32, shrsi (andi (shrsi w18 (broadcast S16 16#32)) (broadcast S16 255#32)) (broadcast S16 7#32), andi (andi (shrsi w18 (broadcast S16 16#32)) (broadcast S16 255#32)) (broadcast S16 127#32)] (idx_ok (shrsi w18 (broadcast S16 16#32)) 74#32 (by decide))))
      (loadIdx f ![broadcast S16 78#32, shrsi (andi (shrsi w19 (broadcast S16 16#32)) (broadcast S16 255#32)) (broadcast S16 7#32), andi (andi (shrsi w19 (broadcast S16 16#32)) (broadcast S16 255#32)) (broadcast S16 127#32)] (idx_ok (shrsi w19 (broadcast S16 16#32)) 78#32 (by decide))))
      (loadIdx f ![broadcast S16 82#32, shrsi (andi (shrsi w20 (broadcast S16 16#32)) (broadcast S16 255#32)) (broadcast S16 7#32), andi (andi (shrsi w20 (broadcast S16 16#32)) (broadcast S16 255#32)) (broadcast S16 127#32)] (idx_ok (shrsi w20 (broadcast S16 16#32)) 82#32 (by decide))))
      (loadIdx f ![broadcast S16 86#32, shrsi (andi (shrsi w21 (broadcast S16 16#32)) (broadcast S16 255#32)) (broadcast S16 7#32), andi (andi (shrsi w21 (broadcast S16 16#32)) (broadcast S16 255#32)) (broadcast S16 127#32)] (idx_ok (shrsi w21 (broadcast S16 16#32)) 86#32 (by decide))))
      (loadIdx f ![broadcast S16 90#32, shrsi (andi (shrsi w22 (broadcast S16 16#32)) (broadcast S16 255#32)) (broadcast S16 7#32), andi (andi (shrsi w22 (broadcast S16 16#32)) (broadcast S16 255#32)) (broadcast S16 127#32)] (idx_ok (shrsi w22 (broadcast S16 16#32)) 90#32 (by decide))))
      (loadIdx f ![broadcast S16 94#32, shrsi (andi (shrsi w23 (broadcast S16 16#32)) (broadcast S16 255#32)) (broadcast S16 7#32), andi (andi (shrsi w23 (broadcast S16 16#32)) (broadcast S16 255#32)) (broadcast S16 127#32)] (idx_ok (shrsi w23 (broadcast S16 16#32)) 94#32 (by decide))))
def lane3 (f : Vec F S96x2x128 .f32) (w0 w1 w2 w3 w4 w5 w6 w7 w8 w9 w10 w11 w12 w13 w14 w15 w16 w17 w18 w19 w20 w21 w22 w23 : IVec S16 32) : FVec F S16 .f32 :=
  (addf (addf (addf (addf (addf (addf (addf (addf (addf (addf (addf (addf (addf (addf (addf (addf (addf (addf (addf (addf (addf (addf (addf (loadIdx f ![broadcast S16 3#32, shrsi (andi (shrsi w0 (broadcast S16 24#32)) (broadcast S16 255#32)) (broadcast S16 7#32), andi (andi (shrsi w0 (broadcast S16 24#32)) (broadcast S16 255#32)) (broadcast S16 127#32)] (idx_ok (shrsi w0 (broadcast S16 24#32)) 3#32 (by decide)))
      (loadIdx f ![broadcast S16 7#32, shrsi (andi (shrsi w1 (broadcast S16 24#32)) (broadcast S16 255#32)) (broadcast S16 7#32), andi (andi (shrsi w1 (broadcast S16 24#32)) (broadcast S16 255#32)) (broadcast S16 127#32)] (idx_ok (shrsi w1 (broadcast S16 24#32)) 7#32 (by decide))))
      (loadIdx f ![broadcast S16 11#32, shrsi (andi (shrsi w2 (broadcast S16 24#32)) (broadcast S16 255#32)) (broadcast S16 7#32), andi (andi (shrsi w2 (broadcast S16 24#32)) (broadcast S16 255#32)) (broadcast S16 127#32)] (idx_ok (shrsi w2 (broadcast S16 24#32)) 11#32 (by decide))))
      (loadIdx f ![broadcast S16 15#32, shrsi (andi (shrsi w3 (broadcast S16 24#32)) (broadcast S16 255#32)) (broadcast S16 7#32), andi (andi (shrsi w3 (broadcast S16 24#32)) (broadcast S16 255#32)) (broadcast S16 127#32)] (idx_ok (shrsi w3 (broadcast S16 24#32)) 15#32 (by decide))))
      (loadIdx f ![broadcast S16 19#32, shrsi (andi (shrsi w4 (broadcast S16 24#32)) (broadcast S16 255#32)) (broadcast S16 7#32), andi (andi (shrsi w4 (broadcast S16 24#32)) (broadcast S16 255#32)) (broadcast S16 127#32)] (idx_ok (shrsi w4 (broadcast S16 24#32)) 19#32 (by decide))))
      (loadIdx f ![broadcast S16 23#32, shrsi (andi (shrsi w5 (broadcast S16 24#32)) (broadcast S16 255#32)) (broadcast S16 7#32), andi (andi (shrsi w5 (broadcast S16 24#32)) (broadcast S16 255#32)) (broadcast S16 127#32)] (idx_ok (shrsi w5 (broadcast S16 24#32)) 23#32 (by decide))))
      (loadIdx f ![broadcast S16 27#32, shrsi (andi (shrsi w6 (broadcast S16 24#32)) (broadcast S16 255#32)) (broadcast S16 7#32), andi (andi (shrsi w6 (broadcast S16 24#32)) (broadcast S16 255#32)) (broadcast S16 127#32)] (idx_ok (shrsi w6 (broadcast S16 24#32)) 27#32 (by decide))))
      (loadIdx f ![broadcast S16 31#32, shrsi (andi (shrsi w7 (broadcast S16 24#32)) (broadcast S16 255#32)) (broadcast S16 7#32), andi (andi (shrsi w7 (broadcast S16 24#32)) (broadcast S16 255#32)) (broadcast S16 127#32)] (idx_ok (shrsi w7 (broadcast S16 24#32)) 31#32 (by decide))))
      (loadIdx f ![broadcast S16 35#32, shrsi (andi (shrsi w8 (broadcast S16 24#32)) (broadcast S16 255#32)) (broadcast S16 7#32), andi (andi (shrsi w8 (broadcast S16 24#32)) (broadcast S16 255#32)) (broadcast S16 127#32)] (idx_ok (shrsi w8 (broadcast S16 24#32)) 35#32 (by decide))))
      (loadIdx f ![broadcast S16 39#32, shrsi (andi (shrsi w9 (broadcast S16 24#32)) (broadcast S16 255#32)) (broadcast S16 7#32), andi (andi (shrsi w9 (broadcast S16 24#32)) (broadcast S16 255#32)) (broadcast S16 127#32)] (idx_ok (shrsi w9 (broadcast S16 24#32)) 39#32 (by decide))))
      (loadIdx f ![broadcast S16 43#32, shrsi (andi (shrsi w10 (broadcast S16 24#32)) (broadcast S16 255#32)) (broadcast S16 7#32), andi (andi (shrsi w10 (broadcast S16 24#32)) (broadcast S16 255#32)) (broadcast S16 127#32)] (idx_ok (shrsi w10 (broadcast S16 24#32)) 43#32 (by decide))))
      (loadIdx f ![broadcast S16 47#32, shrsi (andi (shrsi w11 (broadcast S16 24#32)) (broadcast S16 255#32)) (broadcast S16 7#32), andi (andi (shrsi w11 (broadcast S16 24#32)) (broadcast S16 255#32)) (broadcast S16 127#32)] (idx_ok (shrsi w11 (broadcast S16 24#32)) 47#32 (by decide))))
      (loadIdx f ![broadcast S16 51#32, shrsi (andi (shrsi w12 (broadcast S16 24#32)) (broadcast S16 255#32)) (broadcast S16 7#32), andi (andi (shrsi w12 (broadcast S16 24#32)) (broadcast S16 255#32)) (broadcast S16 127#32)] (idx_ok (shrsi w12 (broadcast S16 24#32)) 51#32 (by decide))))
      (loadIdx f ![broadcast S16 55#32, shrsi (andi (shrsi w13 (broadcast S16 24#32)) (broadcast S16 255#32)) (broadcast S16 7#32), andi (andi (shrsi w13 (broadcast S16 24#32)) (broadcast S16 255#32)) (broadcast S16 127#32)] (idx_ok (shrsi w13 (broadcast S16 24#32)) 55#32 (by decide))))
      (loadIdx f ![broadcast S16 59#32, shrsi (andi (shrsi w14 (broadcast S16 24#32)) (broadcast S16 255#32)) (broadcast S16 7#32), andi (andi (shrsi w14 (broadcast S16 24#32)) (broadcast S16 255#32)) (broadcast S16 127#32)] (idx_ok (shrsi w14 (broadcast S16 24#32)) 59#32 (by decide))))
      (loadIdx f ![broadcast S16 63#32, shrsi (andi (shrsi w15 (broadcast S16 24#32)) (broadcast S16 255#32)) (broadcast S16 7#32), andi (andi (shrsi w15 (broadcast S16 24#32)) (broadcast S16 255#32)) (broadcast S16 127#32)] (idx_ok (shrsi w15 (broadcast S16 24#32)) 63#32 (by decide))))
      (loadIdx f ![broadcast S16 67#32, shrsi (andi (shrsi w16 (broadcast S16 24#32)) (broadcast S16 255#32)) (broadcast S16 7#32), andi (andi (shrsi w16 (broadcast S16 24#32)) (broadcast S16 255#32)) (broadcast S16 127#32)] (idx_ok (shrsi w16 (broadcast S16 24#32)) 67#32 (by decide))))
      (loadIdx f ![broadcast S16 71#32, shrsi (andi (shrsi w17 (broadcast S16 24#32)) (broadcast S16 255#32)) (broadcast S16 7#32), andi (andi (shrsi w17 (broadcast S16 24#32)) (broadcast S16 255#32)) (broadcast S16 127#32)] (idx_ok (shrsi w17 (broadcast S16 24#32)) 71#32 (by decide))))
      (loadIdx f ![broadcast S16 75#32, shrsi (andi (shrsi w18 (broadcast S16 24#32)) (broadcast S16 255#32)) (broadcast S16 7#32), andi (andi (shrsi w18 (broadcast S16 24#32)) (broadcast S16 255#32)) (broadcast S16 127#32)] (idx_ok (shrsi w18 (broadcast S16 24#32)) 75#32 (by decide))))
      (loadIdx f ![broadcast S16 79#32, shrsi (andi (shrsi w19 (broadcast S16 24#32)) (broadcast S16 255#32)) (broadcast S16 7#32), andi (andi (shrsi w19 (broadcast S16 24#32)) (broadcast S16 255#32)) (broadcast S16 127#32)] (idx_ok (shrsi w19 (broadcast S16 24#32)) 79#32 (by decide))))
      (loadIdx f ![broadcast S16 83#32, shrsi (andi (shrsi w20 (broadcast S16 24#32)) (broadcast S16 255#32)) (broadcast S16 7#32), andi (andi (shrsi w20 (broadcast S16 24#32)) (broadcast S16 255#32)) (broadcast S16 127#32)] (idx_ok (shrsi w20 (broadcast S16 24#32)) 83#32 (by decide))))
      (loadIdx f ![broadcast S16 87#32, shrsi (andi (shrsi w21 (broadcast S16 24#32)) (broadcast S16 255#32)) (broadcast S16 7#32), andi (andi (shrsi w21 (broadcast S16 24#32)) (broadcast S16 255#32)) (broadcast S16 127#32)] (idx_ok (shrsi w21 (broadcast S16 24#32)) 87#32 (by decide))))
      (loadIdx f ![broadcast S16 91#32, shrsi (andi (shrsi w22 (broadcast S16 24#32)) (broadcast S16 255#32)) (broadcast S16 7#32), andi (andi (shrsi w22 (broadcast S16 24#32)) (broadcast S16 255#32)) (broadcast S16 127#32)] (idx_ok (shrsi w22 (broadcast S16 24#32)) 91#32 (by decide))))
      (loadIdx f ![broadcast S16 95#32, shrsi (andi (shrsi w23 (broadcast S16 24#32)) (broadcast S16 255#32)) (broadcast S16 7#32), andi (andi (shrsi w23 (broadcast S16 24#32)) (broadcast S16 255#32)) (broadcast S16 127#32)] (idx_ok (shrsi w23 (broadcast S16 24#32)) 95#32 (by decide))))

/-- The masked distances with the lane sums written out. -/
def spelt (v3 : IVec S16 32) (v23 v39 : BitVec 32) (f : Vec F S96x2x128 .f32) (w0 w1 w2 w3 w4 w5 w6 w7 w8 w9 w10 w11 w12 w13 w14 w15 w16 w17 w18 w19 w20 w21 w22 w23 : IVec S16 32) : FVec F S16 .f32 :=
  select (cmpi .slt (addi v3 (broadcast S16 (Scalar.muli v39 16#32))) (broadcast S16 v23))
    (addf (addf (lane0 f w0 w1 w2 w3 w4 w5 w6 w7 w8 w9 w10 w11 w12 w13 w14 w15 w16 w17 w18 w19 w20 w21 w22 w23) (lane1 f w0 w1 w2 w3 w4 w5 w6 w7 w8 w9 w10 w11 w12 w13 w14 w15 w16 w17 w18 w19 w20 w21 w22 w23)) (addf (lane2 f w0 w1 w2 w3 w4 w5 w6 w7 w8 w9 w10 w11 w12 w13 w14 w15 w16 w17 w18 w19 w20 w21 w22 w23) (lane3 f w0 w1 w2 w3 w4 w5 w6 w7 w8 w9 w10 w11 w12 w13 w14 w15 w16 w17 w18 w19 w20 w21 w22 w23))) (broadcast S16 (FloatOps.ofBits .f32 0#32))

theorem masked_spelt (v3 : IVec S16 32) (v23 v39 : BitVec 32) (f : Vec F S96x2x128 .f32) (W : Fin 24 → IVec S16 32) :
    masked v3 v23 v39 f W = spelt v3 v23 v39 f (W 0) (W 1) (W 2) (W 3) (W 4) (W 5) (W 6) (W 7) (W 8) (W 9) (W 10) (W 11) (W 12) (W 13) (W 14) (W 15) (W 16) (W 17) (W 18) (W 19) (W 20) (W 21) (W 22) (W 23) := by
  unfold masked total spelt lane0 lane1 lane2 lane3
  simp only [accN]
  rfl

set_option maxRecDepth 100000 in
set_option maxHeartbeats 1000000 in
/-- One trip over sixteen slots leaves their results in the row. -/
theorem pick_trip (v3 : IVec S16 32) (v19 : BitVec 32) (h3 : k0_chk3 v19) (v21 : BitVec 32) (h197 : k0_chk197 v19 v21) (v23 : BitVec 32) (h4 : k0_chk4 v23)
    (hv : v23.toNat ≤ 1536) (e : Buf (Elt F) (s0V.view.loc (tt d L))) (f : Buf (Elt F) (s1V.view.loc (tt d L))) (g : Buf (Elt F) (s3V.view.loc (tt d L)))
    (t : Fin (k0_t4_loop v23).trips) :
    iprop((s0V.view.loc (tt d L) ↦{fullShare} e) ∗ (s1V.view.loc (tt d L) ↦{fullShare} f) ∗ (s3V.view.loc (tt d L) ↦{fullShare} g) : sProp (MM F))
      ⊢ wp frame (wpE (defs₀ (F := F)) 𝒱₀ (tt d L) none) Set.univ
          (k0_t4_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 t ⟨⟩)
          fun _ => iprop((s0V.view.loc (tt d L) ↦{fullShare} e) ∗ (s1V.view.loc (tt d L) ↦{fullShare} f)
            ∗ (s3V.view.loc (tt d L) ↦{fullShare} s3V.view.writes (Elt F) g
                [⟨Rect.unit (s := S1536) (k0_off80 v23 t) S16.size (k0_off80_inb v23 h4 t),
                  masked v3 v23 (Scalar.addi 0#32 (Scalar.muli (Scf.iv 0#32 1#32 t) 1#32)) (View.readAt (Elt F) s1V.view (LoadRect.whole S96x2x128) f) (slotWords e t.val (t4_lt hv t))⟩])) := by
  iintro ⟨H0, H1, H3⟩
  unfold k0_t4_body
  sl_exec (disch := exact idx_ok _ _ (by decide))
  repeat (unfold SparseCore.vectorLoadIdx; sl_exec (disch := exact idx_ok _ _ (by decide)))
  sl_step
  iframe H0; iframe H1
  iapply (Entails.of_eq (congrArg (fun z => (s3V.view.loc (tt d L) ↦{fullShare} s3V.view.writes (Elt F) g [⟨Rect.unit (s := S1536) (k0_off80 v23 t) S16.size (k0_off80_inb v23 h4 t), z⟩] : sProp (MM F))) ?_)) $$ H3
  rw [masked_spelt]
  rw [← codeWords_eq d L _ (k0_off56_inb v23 h4 t) e 0 t.val (t4_lt hv t) (off56_eq hv t)]
  rw [← codeWords_eq d L _ (k0_off57_inb v23 h4 t) e 1 t.val (t4_lt hv t) (off57_eq hv t)]
  rw [← codeWords_eq d L _ (k0_off58_inb v23 h4 t) e 2 t.val (t4_lt hv t) (off58_eq hv t)]
  rw [← codeWords_eq d L _ (k0_off59_inb v23 h4 t) e 3 t.val (t4_lt hv t) (off59_eq hv t)]
  rw [← codeWords_eq d L _ (k0_off60_inb v23 h4 t) e 4 t.val (t4_lt hv t) (off60_eq hv t)]
  rw [← codeWords_eq d L _ (k0_off61_inb v23 h4 t) e 5 t.val (t4_lt hv t) (off61_eq hv t)]
  rw [← codeWords_eq d L _ (k0_off62_inb v23 h4 t) e 6 t.val (t4_lt hv t) (off62_eq hv t)]
  rw [← codeWords_eq d L _ (k0_off63_inb v23 h4 t) e 7 t.val (t4_lt hv t) (off63_eq hv t)]
  rw [← codeWords_eq d L _ (k0_off64_inb v23 h4 t) e 8 t.val (t4_lt hv t) (off64_eq hv t)]
  rw [← codeWords_eq d L _ (k0_off65_inb v23 h4 t) e 9 t.val (t4_lt hv t) (off65_eq hv t)]
  rw [← codeWords_eq d L _ (k0_off66_inb v23 h4 t) e 10 t.val (t4_lt hv t) (off66_eq hv t)]
  rw [← codeWords_eq d L _ (k0_off67_inb v23 h4 t) e 11 t.val (t4_lt hv t) (off67_eq hv t)]
  rw [← codeWords_eq d L _ (k0_off68_inb v23 h4 t) e 12 t.val (t4_lt hv t) (off68_eq hv t)]
  rw [← codeWords_eq d L _ (k0_off69_inb v23 h4 t) e 13 t.val (t4_lt hv t) (off69_eq hv t)]
  rw [← codeWords_eq d L _ (k0_off70_inb v23 h4 t) e 14 t.val (t4_lt hv t) (off70_eq hv t)]
  rw [← codeWords_eq d L _ (k0_off71_inb v23 h4 t) e 15 t.val (t4_lt hv t) (off71_eq hv t)]
  rw [← codeWords_eq d L _ (k0_off72_inb v23 h4 t) e 16 t.val (t4_lt hv t) (off72_eq hv t)]
  rw [← codeWords_eq d L _ (k0_off73_inb v23 h4 t) e 17 t.val (t4_lt hv t) (off73_eq hv t)]
  rw [← codeWords_eq d L _ (k0_off74_inb v23 h4 t) e 18 t.val (t4_lt hv t) (off74_eq hv t)]
  rw [← codeWords_eq d L _ (k0_off75_inb v23 h4 t) e 19 t.val (t4_lt hv t) (off75_eq hv t)]
  rw [← codeWords_eq d L _ (k0_off76_inb v23 h4 t) e 20 t.val (t4_lt hv t) (off76_eq hv t)]
  rw [← codeWords_eq d L _ (k0_off77_inb v23 h4 t) e 21 t.val (t4_lt hv t) (off77_eq hv t)]
  rw [← codeWords_eq d L _ (k0_off78_inb v23 h4 t) e 22 t.val (t4_lt hv t) (off78_eq hv t)]
  rw [← codeWords_eq d L _ (k0_off79_inb v23 h4 t) e 23 t.val (t4_lt hv t) (off79_eq hv t)]
  unfold spelt
  delta k0_pay922
  refine congrArg (fun z => select _ z _) ?_
  show addf (addf _ _) (addf _ _) = _
  refine congrArg₂ addf (congrArg₂ addf ?_ ?_) (congrArg₂ addf ?_ ?_)
  · delta lane0
    rfl
  · delta lane1
    rfl
  · delta lane2
    rfl
  · delta lane3
    rfl

end Cert.Proof.ScIdeal
end
end
-- ==== Proof.SiRow.lean ====
module

public import Idealize.ShloMosaic.Lib.Pipeline.ValueKit
public import Idealize.ShloMosaic.Lib.WordCmp
public import proofs.«01_k».proof.Proof.SiPick

/-! A row of sixteen-slot groups. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The row with sixteen slots from `16T` replaced. -/
def chunk (T : ℕ) (f : S1536.Idx → F .f32) (w : S16.Idx → F .f32) (x : S1536.Idx) : F .f32 :=
  if (x 0).val / 16 = T then w (ix1 ⟨(x 0).val % 16, Nat.mod_lt _ (by decide)⟩) else f x

/-- The row holding `G` in its first `T` groups of sixteen slots. -/
def rowUpTo (T : ℕ) (f G : S1536.Idx → F .f32) (x : S1536.Idx) : F .f32 := if (x 0).val / 16 < T then G x else f x

omit [FloatOps F] in
theorem rowUpTo_zero (f G : S1536.Idx → F .f32) : rowUpTo 0 f G = f := by funext x; simp [rowUpTo]

omit [FloatOps F] in
theorem rowUpTo_all (f G : S1536.Idx → F .f32) : rowUpTo 96 f G = G := by
  funext x
  have : (x 0).val < 1536 := (x 0).isLt
  unfold rowUpTo; rw [if_pos (by omega)]

omit [FloatOps F] in
theorem chunk_rowUpTo (T : ℕ) (hT : T < 96) (f G : S1536.Idx → F .f32) (w : S16.Idx → F .f32)
    (hw : ∀ i : Fin 16, w (ix1 i) = G (ix1 ⟨16 * T + i.val, by omega⟩)) : chunk T (rowUpTo T f G) w = rowUpTo (T + 1) f G := by
  funext x
  unfold chunk rowUpTo
  by_cases h : (x 0).val / 16 = T
  · rw [if_pos h, if_pos (by omega), hw]
    refine congrArg G ((eq_ix1 x).trans ?_).symm
    exact congrArg ix1 (Fin.ext (by show (x 0).val = 16 * T + (x 0).val % 16; omega))
  · rw [if_neg h]
    exact if_congr (by omega) rfl rfl

theorem chunk_write (T : ℕ) (off : Fin 1 → ℕ) (inb : ∀ a, off a + S16.size a ≤ S1536.size a) (ho : off = ![16 * T])
    (f : S1536.Idx → F .f32) (w : S16.Idx → F .f32) :
    View.read (Elt F) s3V.view (s3V.view.writes (Elt F) f [⟨Rect.unit (s := S1536) off S16.size inb, w⟩]) = chunk T f w := by
  subst ho
  funext y
  have hb : 16 * T + 16 ≤ 1536 := inb 0
  by_cases hy : (y 0).val / 16 = T
  · refine View.read_writes_apply_of_pieces (v := s3V.view) (Val := Elt F) (f := f) (chunk T f w) _
      (List.forall_mem_cons.2 ⟨?_, List.forall_mem_nil _⟩) y ⟨_, List.mem_cons_self .., ?_⟩
    · intro x
      have hx : (x 0).val < 16 := (x 0).isLt
      have e : ((((Rect.unit (s := S1536) ![16 * T] S16.size inb).emb x) 0).val) = 16 * T + (x 0).val := by
        show 16 * T + 1 * (x 0).val = _; omega
      show w x = _
      unfold chunk
      rw [if_pos (by rw [e]; omega)]
      refine congrArg w ((eq_ix1 x).trans (congrArg ix1 (Fin.ext ?_)))
      show (x 0).val = _ % 16
      rw [e]; omega
    · rw [Rect.mem_set_unit]
      intro a
      match a with
      | 0 => exact ⟨by show 16 * T ≤ (y 0).val; omega, by show (y 0).val < 16 * T + 16; omega⟩
  · refine Eq.trans (View.read_writes_apply_of_forall_not_mem (v := s3V.view) (Val := Elt F) (f := f) y _
      (List.forall_mem_cons.2 ⟨?_, List.forall_mem_nil _⟩)) ?_
    · intro h
      rw [Rect.mem_set_unit] at h
      have h0 := h 0
      have h1 : 16 * T ≤ (y 0).val := h0.1
      have h2 : (y 0).val < 16 * T + 16 := h0.2
      omega
    · show f y = _
      unfold chunk; rw [if_neg hy]

/-- A row of zeros. -/
abbrev zeroRow : S1536.Idx → F .f32 := fun _ => FloatOps.ofBits .f32 0#32

theorem t3_lt (t : Fin k0_t3_loop.trips) : t.val < 96 := t.isLt

/-- One trip of the clearing loop. -/
theorem zero_trip (v3 : IVec S16 32) (v19 : BitVec 32) (h3 : k0_chk3 v19) (v21 : BitVec 32) (h197 : k0_chk197 v19 v21) (v23 : BitVec 32) (h4 : k0_chk4 v23)
    (f : S1536.Idx → F .f32) (t : Fin k0_t3_loop.trips) :
    (s3V.view.loc (tt d L) ↦{fullShare} (rowUpTo t.val f zeroRow : S1536.Idx → F .f32) : sProp (MM F))
      ⊢ wp frame (wpE (defs₀ (F := F)) 𝒱₀ (tt d L) none) Set.univ
          (k0_t3_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 t ⟨⟩)
          fun _ => iprop(s3V.view.loc (tt d L) ↦{fullShare} (rowUpTo (t.val + 1) f zeroRow : S1536.Idx → F .f32)) := by
  iintro H
  unfold k0_t3_body
  sl_exec
  sl_step
  iapply (Entails.of_eq (congrArg (fun z => (s3V.view.loc (tt d L) ↦{fullShare} z : sProp (MM F))) ?_)) $$ H
  refine (chunk_write t.val _ _ (k0_off55_eq t) (rowUpTo t.val f zeroRow) _).trans ?_
  exact chunk_rowUpTo t.val (t3_lt t) f zeroRow _ (fun _ => rfl)

/-- A slot's result: its distance below the length, zero from there on. -/
def slotRow (n : ℕ) (T : Vec F S96x2x128 .f32) (e : S24x1536.Idx → BitVec 32) (x : S1536.Idx) : F .f32 :=
  if (x 0).val < n then total T (slotWords e ((x 0).val / 16) (by have : (x 0).val < 1536 := (x 0).isLt; omega)) (ix1 ⟨(x 0).val % 16, Nat.mod_lt _ (by decide)⟩)
  else FloatOps.ofBits .f32 0#32

omit [FloatOps F] in
theorem trip_word (t : ℕ) (ht : t < 96) : Scalar.addi 0#32 (Scalar.muli (Scf.iv 0#32 1#32 t) 1#32) = BitVec.ofNat 32 t := by
  simp [Scalar.addi, Scalar.muli, Scf.iv, IntOp.addi, IntOp.muli]

theorem masked_at (v23 : BitVec 32) (hv : v23.toNat ≤ 1536) (T : Vec F S96x2x128 .f32) (e : S24x1536.Idx → BitVec 32) (t : ℕ) (ht : t < 96) (i : Fin 16) :
    masked (iota .scVector S16 32 [0] iota_S16_d0_w32_scVector) v23 (BitVec.ofNat 32 t) T (slotWords e t ht) (ix1 i)
      = slotRow v23.toNat T e (ix1 ⟨16 * t + i.val, by omega⟩) := by
  have same : ∀ (a : ℕ) (ha : a < 96) (b : Fin 16), a = t → b = i → total T (slotWords e a ha) (ix1 b) = total T (slotWords e t ht) (ix1 i) := by
    rintro _ _ _ rfl rfl; rfl
  have hs : slotRow v23.toNat T e (ix1 ⟨16 * t + i.val, by omega⟩) = if 16 * t + i.val < v23.toNat then total T (slotWords e t ht) (ix1 i) else FloatOps.ofBits .f32 0#32 :=
    if_congr Iff.rfl (same _ _ _ (by show (16 * t + i.val) / 16 = t; omega) (Fin.ext (by show (16 * t + i.val) % 16 = i.val; omega))) rfl
  rw [hs]
  unfold masked
  show Scalar.select (IntOp.cmpi .slt (IntOp.addi (BitVec.ofNat 32 (0 * 16 + i.val)) (Scalar.muli (BitVec.ofNat 32 t) 16#32)) v23) _ _ = _
  have hw : IntOp.addi (BitVec.ofNat 32 (0 * 16 + i.val)) (Scalar.muli (BitVec.ofNat 32 t) 16#32) = BitVec.ofNat 32 (16 * t + i.val) := by
    apply BitVec.eq_of_toNat_eq
    simp [Scalar.muli, IntOp.muli, IntOp.addi]
    omega
  have hi := i.isLt
  rw [hw, Idealize.ShloMosaic.WordCmp.cmpi_slt_of_lt (by rw [BitVec.toNat_ofNat]; omega) (by omega), BitVec.toNat_ofNat, Nat.mod_eq_of_lt (by omega)]
  by_cases h : 16 * t + i.val < v23.toNat
  · rw [if_pos h, decide_eq_true h]; rfl
  · rw [if_neg h, decide_eq_false h]; rfl

/-- One trip of the gathering loop. -/
theorem slot_trip (v19 : BitVec 32) (h3 : k0_chk3 v19) (v21 : BitVec 32) (h197 : k0_chk197 v19 v21) (v23 : BitVec 32) (h4 : k0_chk4 v23)
    (hv : v23.toNat ≤ 1536) (e : Buf (Elt F) (s0V.view.loc (tt d L))) (f : Buf (Elt F) (s1V.view.loc (tt d L))) (g : S1536.Idx → F .f32)
    (t : Fin (k0_t4_loop v23).trips) :
    iprop((s0V.view.loc (tt d L) ↦{fullShare} e) ∗ (s1V.view.loc (tt d L) ↦{fullShare} f)
        ∗ (s3V.view.loc (tt d L) ↦{fullShare} (rowUpTo t.val g (slotRow v23.toNat f e) : S1536.Idx → F .f32)) : sProp (MM F))
      ⊢ wp frame (wpE (defs₀ (F := F)) 𝒱₀ (tt d L) none) Set.univ
          (k0_t4_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 (iota .scVector S16 32 [0] iota_S16_d0_w32_scVector) v19 h3 v21 h197 v23 h4 t ⟨⟩)
          fun _ => iprop((s0V.view.loc (tt d L) ↦{fullShare} e) ∗ (s1V.view.loc (tt d L) ↦{fullShare} f)
            ∗ (s3V.view.loc (tt d L) ↦{fullShare} (rowUpTo (t.val + 1) g (slotRow v23.toNat f e) : S1536.Idx → F .f32))) := by
  refine (pick_trip d L _ v19 h3 v21 h197 v23 h4 hv e f _ t).trans (wp_mono _ _ _ (fun _ => ?_))
  refine Entails.of_eq (congrArg (fun z => iprop((s0V.view.loc (tt d L) ↦{fullShare} e) ∗ (s1V.view.loc (tt d L) ↦{fullShare} f)
            ∗ (s3V.view.loc (tt d L) ↦{fullShare} z) : sProp (MM F))) ?_)
  refine (chunk_write t.val _ _ (off80_eq hv t) (rowUpTo t.val g _) _).trans ?_
  refine chunk_rowUpTo t.val (t4_lt hv t) g (slotRow v23.toNat f e) _ (fun i => ?_)
  rw [trip_word t.val (t4_lt hv t), show View.readAt (Elt F) s1V.view (LoadRect.whole S96x2x128) f = f from ?_]
  · exact masked_at v23 hv f e t.val (t4_lt hv t) i
  · funext x
    exact congrArg f (LoadRect.idx_whole (s := S96x2x128) x)

end Cert.Proof.ScIdeal
end
end
-- ==== Proof.SiAdd.lean ====
module

public import Idealize.ShloMosaic.Lib.Pipeline.ValueKit
public import proofs.«01_k».proof.Proof.SiBase

/-! The table: the product plus the list's terms. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The half of a packed word that belongs to subspace `m`, as the upper half of a 32-bit pattern. -/
def halfWord (m : ℕ) (w : BitVec 32) : BitVec 32 :=
  if m % 2 = 0 then IntOp.shli .vector w 16#32 else IntOp.andi w 4294901760#32

theorem tabLt (y : S96x2x128.Idx) : (y 0).val < 96 ∧ (y 1).val < 2 ∧ (y 2).val < 128 := ⟨(y 0).isLt, (y 1).isLt, (y 2).isLt⟩

/-- One entry of the table: the product's entry plus the list's term. -/
def addEl (f : S96x2x128.Idx → F .f32) (g : S48x256.Idx → BitVec 32) (y : S96x2x128.Idx) : F .f32 :=
  FloatOps.addf (f y) (FloatOps.ofBits .f32 (halfWord (y 0).val
    (g (ix2 ⟨(y 0).val / 2, by have := (tabLt y).1; omega⟩ ⟨128 * (y 1).val + (y 2).val, by have := tabLt y; omega⟩))))

/-- The table when the word rows below `k` have been added. -/
def addUpTo (k : ℕ) (f : S96x2x128.Idx → F .f32) (g : S48x256.Idx → BitVec 32) (y : S96x2x128.Idx) : F .f32 :=
  if (y 0).val / 2 < k then addEl f g y else f y

/-- The table after word row `k` alone has been added. -/
def addRow (k : ℕ) (f : S96x2x128.Idx → F .f32) (g : S48x256.Idx → BitVec 32) (y : S96x2x128.Idx) : F .f32 :=
  if (y 0).val / 2 = k then addEl f g y else f y

theorem addRow_upTo (k : ℕ) (f : S96x2x128.Idx → F .f32) (g : S48x256.Idx → BitVec 32) :
    addRow k (addUpTo k f g) g = addUpTo (k + 1) f g := by
  funext y
  unfold addRow addUpTo addEl
  by_cases h : (y 0).val / 2 = k
  · simp [h]
  · simp only [h, ↓reduceIte]
    exact if_congr (by omega) rfl rfl

theorem addUpTo_zero (f : S96x2x128.Idx → F .f32) (g : S48x256.Idx → BitVec 32) : addUpTo 0 f g = f := by
  funext y; simp [addUpTo]

omit [FloatOps F] in
/-- Sixteen entries of one row of one half of the table: the elements of the rectangle. -/
theorem mem_chunk {off : Fin 3 → ℕ} {inb : ∀ a, off a + S1x1x16.size a ≤ S96x2x128.size a} {a b c : ℕ} (ho : off = ![a, b, c]) (y : S96x2x128.Idx) :
    y ∈ (Rect.unit (s := S96x2x128) off S1x1x16.size inb).set ↔ (y 0).val = a ∧ (y 1).val = b ∧ c ≤ (y 2).val ∧ (y 2).val < c + 16 := by
  subst ho
  rw [Rect.mem_set_unit]
  constructor
  · intro h
    have h0 := h 0; have h1 := h 1; have h2 := h 2
    simp at h0 h1 h2
    omega
  · rintro ⟨h0, h1, h2, h3⟩ q
    match q with
    | 0 => simp; omega
    | 1 => simp; omega
    | 2 => simp; omega

omit [FloatOps F] in
theorem cast_in (z : S1x1x16.Idx → F .f32) (i : S16.Idx) : shapeCast S16 z shapeCasts_S1x1x16_S16 i = z (ix3 0 0 (i 0)) := by
  simp only [pointwise]
omit [FloatOps F] in
theorem cast_out (z : S16.Idx → F .f32) (x : S1x1x16.Idx) : shapeCast S1x1x16 z shapeCasts_S16_S1x1x16 x = z (ix1 (x 2)) := by
  simp only [pointwise]
theorem cast_word (z : S1x16.Idx → BitVec 32) (i : S16.Idx) : shapeCast S16 z shapeCasts_S1x16_S16 i = z (ix2 0 (i 0)) := by
  simp only [pointwise]

theorem chunk_emb {off : Fin 3 → ℕ} {inb : ∀ a, off a + S1x1x16.size a ≤ S96x2x128.size a} {a b c : ℕ} (ho : off = ![a, b, c]) (x : S1x1x16.Idx) :
    (((Rect.unit (s := S96x2x128) off S1x1x16.size inb).emb x) 0).val = a ∧ (((Rect.unit (s := S96x2x128) off S1x1x16.size inb).emb x) 1).val = b
      ∧ (((Rect.unit (s := S96x2x128) off S1x1x16.size inb).emb x) 2).val = c + (x 2).val := by
  subst ho
  have h0 : (x 0).val < 1 := (x 0).isLt
  have h1 : (x 1).val < 1 := (x 1).isLt
  refine ⟨?_, ?_, ?_⟩
  · show a + 1 * (x 0).val = a; omega
  · show b + 1 * (x 1).val = b; omega
  · show c + 1 * (x 2).val = c + (x 2).val; omega

/-- What one store of the add loop puts down is the table with that row added. -/
theorem piece_at (p : ℕ) (hp : p < 2) (f : S96x2x128.Idx → F .f32) (g : S48x256.Idx → BitVec 32) (r b c e : ℕ)
    {off : Fin 3 → ℕ} {inb : ∀ a, off a + S1x1x16.size a ≤ S96x2x128.size a} (ho : off = ![2 * r + p, b, c])
    {og : Fin 2 → ℕ} {ing : ∀ a, og a + S1x16.size a ≤ S48x256.size a} (hg : og = ![r, e]) (he : e = 128 * b + c)
    (x : S1x1x16.Idx) :
    FloatOps.addf (f ((Rect.unit (s := S96x2x128) off S1x1x16.size inb).idx (ix3 0 0 (x 2))))
      (FloatOps.ofBits .f32 (halfWord p (g ((Rect.unit (s := S48x256) og S1x16.size ing).idx (ix2 0 (x 2))))))
      = addRow r f g ((Rect.unit (s := S96x2x128) off S1x1x16.size inb).emb x) := by
  obtain ⟨e0, e1, e2⟩ := chunk_emb (inb := inb) ho x
  have h0 : (x 0).val < 1 := (x 0).isLt
  have h1 : (x 1).val < 1 := (x 1).isLt
  have hx : (ix3 0 0 (x 2) : S1x1x16.Idx) = x := by
    funext a
    match a with
    | 0 => exact Fin.ext (by show 0 = (x 0).val; omega)
    | 1 => exact Fin.ext (by show 0 = (x 1).val; omega)
    | 2 => rfl
  rw [hx]
  unfold addRow addEl
  rw [if_pos (by rw [e0]; omega)]
  have hh : halfWord (((Rect.unit (s := S96x2x128) off S1x1x16.size inb).emb x) 0).val = halfWord p := by
    rw [e0]; unfold halfWord; rw [show (2 * r + p) % 2 = p % 2 by omega]
  rw [hh]
  refine congrArg₂ FloatOps.addf rfl (congrArg _ (congrArg _ (congrArg g ?_)))
  subst hg he
  funext a
  match a with
  | 0 => exact Fin.ext (by show r + 1 * 0 = _ / 2; rw [e0]; omega)
  | 1 => exact Fin.ext (by show 128 * b + c + 1 * (x 2).val = 128 * _ + _; rw [e1, e2]; omega)

theorem piece_lo (f : S96x2x128.Idx → F .f32) (g : S48x256.Idx → BitVec 32) (r b c e : ℕ)
    {off : Fin 3 → ℕ} {inb : ∀ a, off a + S1x1x16.size a ≤ S96x2x128.size a} (ho : off = ![2 * r, b, c])
    {og : Fin 2 → ℕ} {ing : ∀ a, og a + S1x16.size a ≤ S48x256.size a} (hg : og = ![r, e]) (he : e = 128 * b + c)
    (x : S1x1x16.Idx) :
    shapeCast S1x1x16 (addf (shapeCast S16 (View.readAt (Elt F) s1V.view (Rect.unit (s := S96x2x128) off S1x1x16.size inb).toLoadRect f) shapeCasts_S1x1x16_S16)
        (bitcastToFloat (F := F) .f32 (shli (shapeCast S16 (View.readAt (Elt F) s2V.view (Rect.unit (s := S48x256) og S1x16.size ing).toLoadRect g) shapeCasts_S1x16_S16)
          (broadcast S16 16#32)))) shapeCasts_S16_S1x1x16 x
      = addRow r f g ((Rect.unit (s := S96x2x128) off S1x1x16.size inb).emb x) := by
  rw [cast_out]
  simp only [addf, bitcastToFloat, shli, cast_in, cast_word, broadcast, View.readAt_apply]
  exact piece_at 0 (by decide) f g r b c e ho hg he x

theorem piece_hi (f : S96x2x128.Idx → F .f32) (g : S48x256.Idx → BitVec 32) (r b c e : ℕ)
    {off : Fin 3 → ℕ} {inb : ∀ a, off a + S1x1x16.size a ≤ S96x2x128.size a} (ho : off = ![2 * r + 1, b, c])
    {og : Fin 2 → ℕ} {ing : ∀ a, og a + S1x16.size a ≤ S48x256.size a} (hg : og = ![r, e]) (he : e = 128 * b + c)
    (x : S1x1x16.Idx) :
    shapeCast S1x1x16 (addf (shapeCast S16 (View.readAt (Elt F) s1V.view (Rect.unit (s := S96x2x128) off S1x1x16.size inb).toLoadRect f) shapeCasts_S1x1x16_S16)
        (bitcastToFloat (F := F) .f32 (andi (shapeCast S16 (View.readAt (Elt F) s2V.view (Rect.unit (s := S48x256) og S1x16.size ing).toLoadRect g) shapeCasts_S1x16_S16)
          (broadcast S16 4294901760#32)))) shapeCasts_S16_S1x1x16 x
      = addRow r f g ((Rect.unit (s := S96x2x128) off S1x1x16.size inb).emb x) := by
  rw [cast_out]
  simp only [addf, bitcastToFloat, andi, cast_in, cast_word, broadcast, View.readAt_apply]
  exact piece_at 1 (by decide) f g r b c e ho hg he x

omit [FloatOps F] in
theorem rd1 (f : Buf (Elt F) (s1V.view.loc (tt d L))) : View.read (Elt F) s1V.view f = f := rfl

omit [FloatOps F] in
theorem off_row0 {off : Fin 3 → ℕ} {inb : ∀ a, off a + S1x1x16.size a ≤ S96x2x128.size a} {r b c : ℕ}
    (ho : off = ![2 * r, b, c]) (y : S96x2x128.Idx) (hy : ¬ (y 0).val / 2 = r) :
    y ∉ (Rect.unit (s := S96x2x128) off S1x1x16.size inb).set :=
  fun h => hy (by have := ((mem_chunk ho y).1 h).1; omega)

theorem off_row1 {off : Fin 3 → ℕ} {inb : ∀ a, off a + S1x1x16.size a ≤ S96x2x128.size a} {r b c : ℕ}
    (ho : off = ![2 * r + 1, b, c]) (y : S96x2x128.Idx) (hy : ¬ (y 0).val / 2 = r) :
    y ∉ (Rect.unit (s := S96x2x128) off S1x1x16.size inb).set :=
  fun h => hy (by have := ((mem_chunk ho y).1 h).1; omega)

set_option maxHeartbeats 4000000 in
/-- The trip's thirty-two stores leave the table with that row added. -/
theorem add_writes (t : Fin k0_t2_loop.trips) (f : S96x2x128.Idx → F .f32) (g : S48x256.Idx → BitVec 32)
    (w54 w53 w51 w50 w48 w47 w45 w44 w42 w41 w39 w38 w36 w35 w33 w32 w30 w29 w27 w26 w24 w23 w21 w20 w18 w17 w15 w14 w12 w11 w9 w8 : S1x1x16.Idx → Elt F .f32)
    (h54 : ∀ x, w54 x = addRow t.val f g ((Rect.unit (s := S96x2x128) (k0_off54 t) S1x1x16.size (k0_off54_inb t)).emb x))
    (h53 : ∀ x, w53 x = addRow t.val f g ((Rect.unit (s := S96x2x128) (k0_off53 t) S1x1x16.size (k0_off53_inb t)).emb x))
    (h51 : ∀ x, w51 x = addRow t.val f g ((Rect.unit (s := S96x2x128) (k0_off51 t) S1x1x16.size (k0_off51_inb t)).emb x))
    (h50 : ∀ x, w50 x = addRow t.val f g ((Rect.unit (s := S96x2x128) (k0_off50 t) S1x1x16.size (k0_off50_inb t)).emb x))
    (h48 : ∀ x, w48 x = addRow t.val f g ((Rect.unit (s := S96x2x128) (k0_off48 t) S1x1x16.size (k0_off48_inb t)).emb x))
    (h47 : ∀ x, w47 x = addRow t.val f g ((Rect.unit (s := S96x2x128) (k0_off47 t) S1x1x16.size (k0_off47_inb t)).emb x))
    (h45 : ∀ x, w45 x = addRow t.val f g ((Rect.unit (s := S96x2x128) (k0_off45 t) S1x1x16.size (k0_off45_inb t)).emb x))
    (h44 : ∀ x, w44 x = addRow t.val f g ((Rect.unit (s := S96x2x128) (k0_off44 t) S1x1x16.size (k0_off44_inb t)).emb x))
    (h42 : ∀ x, w42 x = addRow t.val f g ((Rect.unit (s := S96x2x128) (k0_off42 t) S1x1x16.size (k0_off42_inb t)).emb x))
    (h41 : ∀ x, w41 x = addRow t.val f g ((Rect.unit (s := S96x2x128) (k0_off41 t) S1x1x16.size (k0_off41_inb t)).emb x))
    (h39 : ∀ x, w39 x = addRow t.val f g ((Rect.unit (s := S96x2x128) (k0_off39 t) S1x1x16.size (k0_off39_inb t)).emb x))
    (h38 : ∀ x, w38 x = addRow t.val f g ((Rect.unit (s := S96x2x128) (k0_off38 t) S1x1x16.size (k0_off38_inb t)).emb x))
    (h36 : ∀ x, w36 x = addRow t.val f g ((Rect.unit (s := S96x2x128) (k0_off36 t) S1x1x16.size (k0_off36_inb t)).emb x))
    (h35 : ∀ x, w35 x = addRow t.val f g ((Rect.unit (s := S96x2x128) (k0_off35 t) S1x1x16.size (k0_off35_inb t)).emb x))
    (h33 : ∀ x, w33 x = addRow t.val f g ((Rect.unit (s := S96x2x128) (k0_off33 t) S1x1x16.size (k0_off33_inb t)).emb x))
    (h32 : ∀ x, w32 x = addRow t.val f g ((Rect.unit (s := S96x2x128) (k0_off32 t) S1x1x16.size (k0_off32_inb t)).emb x))
    (h30 : ∀ x, w30 x = addRow t.val f g ((Rect.unit (s := S96x2x128) (k0_off30 t) S1x1x16.size (k0_off30_inb t)).emb x))
    (h29 : ∀ x, w29 x = addRow t.val f g ((Rect.unit (s := S96x2x128) (k0_off29 t) S1x1x16.size (k0_off29_inb t)).emb x))
    (h27 : ∀ x, w27 x = addRow t.val f g ((Rect.unit (s := S96x2x128) (k0_off27 t) S1x1x16.size (k0_off27_inb t)).emb x))
    (h26 : ∀ x, w26 x = addRow t.val f g ((Rect.unit (s := S96x2x128) (k0_off26 t) S1x1x16.size (k0_off26_inb t)).emb x))
    (h24 : ∀ x, w24 x = addRow t.val f g ((Rect.unit (s := S96x2x128) (k0_off24 t) S1x1x16.size (k0_off24_inb t)).emb x))
    (h23 : ∀ x, w23 x = addRow t.val f g ((Rect.unit (s := S96x2x128) (k0_off23 t) S1x1x16.size (k0_off23_inb t)).emb x))
    (h21 : ∀ x, w21 x = addRow t.val f g ((Rect.unit (s := S96x2x128) (k0_off21 t) S1x1x16.size (k0_off21_inb t)).emb x))
    (h20 : ∀ x, w20 x = addRow t.val f g ((Rect.unit (s := S96x2x128) (k0_off20 t) S1x1x16.size (k0_off20_inb t)).emb x))
    (h18 : ∀ x, w18 x = addRow t.val f g ((Rect.unit (s := S96x2x128) (k0_off18 t) S1x1x16.size (k0_off18_inb t)).emb x))
    (h17 : ∀ x, w17 x = addRow t.val f g ((Rect.unit (s := S96x2x128) (k0_off17 t) S1x1x16.size (k0_off17_inb t)).emb x))
    (h15 : ∀ x, w15 x = addRow t.val f g ((Rect.unit (s := S96x2x128) (k0_off15 t) S1x1x16.size (k0_off15_inb t)).emb x))
    (h14 : ∀ x, w14 x = addRow t.val f g ((Rect.unit (s := S96x2x128) (k0_off14 t) S1x1x16.size (k0_off14_inb t)).emb x))
    (h12 : ∀ x, w12 x = addRow t.val f g ((Rect.unit (s := S96x2x128) (k0_off12 t) S1x1x16.size (k0_off12_inb t)).emb x))
    (h11 : ∀ x, w11 x = addRow t.val f g ((Rect.unit (s := S96x2x128) (k0_off11 t) S1x1x16.size (k0_off11_inb t)).emb x))
    (h9 : ∀ x, w9 x = addRow t.val f g ((Rect.unit (s := S96x2x128) (k0_off9 t) S1x1x16.size (k0_off9_inb t)).emb x))
    (h8 : ∀ x, w8 x = addRow t.val f g ((Rect.unit (s := S96x2x128) (k0_off8 t) S1x1x16.size (k0_off8_inb t)).emb x)) :
    View.read (Elt F) s1V.view (s1V.view.writes (Elt F) f [⟨Rect.unit (s := S96x2x128) (k0_off54 t) S1x1x16.size (k0_off54_inb t), w54⟩,
      ⟨Rect.unit (s := S96x2x128) (k0_off53 t) S1x1x16.size (k0_off53_inb t), w53⟩,
      ⟨Rect.unit (s := S96x2x128) (k0_off51 t) S1x1x16.size (k0_off51_inb t), w51⟩,
      ⟨Rect.unit (s := S96x2x128) (k0_off50 t) S1x1x16.size (k0_off50_inb t), w50⟩,
      ⟨Rect.unit (s := S96x2x128) (k0_off48 t) S1x1x16.size (k0_off48_inb t), w48⟩,
      ⟨Rect.unit (s := S96x2x128) (k0_off47 t) S1x1x16.size (k0_off47_inb t), w47⟩,
      ⟨Rect.unit (s := S96x2x128) (k0_off45 t) S1x1x16.size (k0_off45_inb t), w45⟩,
      ⟨Rect.unit (s := S96x2x128) (k0_off44 t) S1x1x16.size (k0_off44_inb t), w44⟩,
      ⟨Rect.unit (s := S96x2x128) (k0_off42 t) S1x1x16.size (k0_off42_inb t), w42⟩,
      ⟨Rect.unit (s := S96x2x128) (k0_off41 t) S1x1x16.size (k0_off41_inb t), w41⟩,
      ⟨Rect.unit (s := S96x2x128) (k0_off39 t) S1x1x16.size (k0_off39_inb t), w39⟩,
      ⟨Rect.unit (s := S96x2x128) (k0_off38 t) S1x1x16.size (k0_off38_inb t), w38⟩,
      ⟨Rect.unit (s := S96x2x128) (k0_off36 t) S1x1x16.size (k0_off36_inb t), w36⟩,
      ⟨Rect.unit (s := S96x2x128) (k0_off35 t) S1x1x16.size (k0_off35_inb t), w35⟩,
      ⟨Rect.unit (s := S96x2x128) (k0_off33 t) S1x1x16.size (k0_off33_inb t), w33⟩,
      ⟨Rect.unit (s := S96x2x128) (k0_off32 t) S1x1x16.size (k0_off32_inb t), w32⟩,
      ⟨Rect.unit (s := S96x2x128) (k0_off30 t) S1x1x16.size (k0_off30_inb t), w30⟩,
      ⟨Rect.unit (s := S96x2x128) (k0_off29 t) S1x1x16.size (k0_off29_inb t), w29⟩,
      ⟨Rect.unit (s := S96x2x128) (k0_off27 t) S1x1x16.size (k0_off27_inb t), w27⟩,
      ⟨Rect.unit (s := S96x2x128) (k0_off26 t) S1x1x16.size (k0_off26_inb t), w26⟩,
      ⟨Rect.unit (s := S96x2x128) (k0_off24 t) S1x1x16.size (k0_off24_inb t), w24⟩,
      ⟨Rect.unit (s := S96x2x128) (k0_off23 t) S1x1x16.size (k0_off23_inb t), w23⟩,
      ⟨Rect.unit (s := S96x2x128) (k0_off21 t) S1x1x16.size (k0_off21_inb t), w21⟩,
      ⟨Rect.unit (s := S96x2x128) (k0_off20 t) S1x1x16.size (k0_off20_inb t), w20⟩,
      ⟨Rect.unit (s := S96x2x128) (k0_off18 t) S1x1x16.size (k0_off18_inb t), w18⟩,
      ⟨Rect.unit (s := S96x2x128) (k0_off17 t) S1x1x16.size (k0_off17_inb t), w17⟩,
      ⟨Rect.unit (s := S96x2x128) (k0_off15 t) S1x1x16.size (k0_off15_inb t), w15⟩,
      ⟨Rect.unit (s := S96x2x128) (k0_off14 t) S1x1x16.size (k0_off14_inb t), w14⟩,
      ⟨Rect.unit (s := S96x2x128) (k0_off12 t) S1x1x16.size (k0_off12_inb t), w12⟩,
      ⟨Rect.unit (s := S96x2x128) (k0_off11 t) S1x1x16.size (k0_off11_inb t), w11⟩,
      ⟨Rect.unit (s := S96x2x128) (k0_off9 t) S1x1x16.size (k0_off9_inb t), w9⟩,
      ⟨Rect.unit (s := S96x2x128) (k0_off8 t) S1x1x16.size (k0_off8_inb t), w8⟩]) = addRow t.val f g := by
  funext y
  have hb := tabLt y
  by_cases hy : (y 0).val / 2 = t.val
  · refine View.read_writes_apply_of_pieces (v := s1V.view) (Val := Elt F) (f := f) (addRow t.val f g) _
      (List.forall_mem_cons.2 ⟨h54, List.forall_mem_cons.2 ⟨h53, List.forall_mem_cons.2 ⟨h51, List.forall_mem_cons.2 ⟨h50, List.forall_mem_cons.2 ⟨h48, List.forall_mem_cons.2 ⟨h47, List.forall_mem_cons.2 ⟨h45, List.forall_mem_cons.2 ⟨h44, List.forall_mem_cons.2 ⟨h42, List.forall_mem_cons.2 ⟨h41, List.forall_mem_cons.2 ⟨h39, List.forall_mem_cons.2 ⟨h38, List.forall_mem_cons.2 ⟨h36, List.forall_mem_cons.2 ⟨h35, List.forall_mem_cons.2 ⟨h33, List.forall_mem_cons.2 ⟨h32, List.forall_mem_cons.2 ⟨h30, List.forall_mem_cons.2 ⟨h29, List.forall_mem_cons.2 ⟨h27, List.forall_mem_cons.2 ⟨h26, List.forall_mem_cons.2 ⟨h24, List.forall_mem_cons.2 ⟨h23, List.forall_mem_cons.2 ⟨h21, List.forall_mem_cons.2 ⟨h20, List.forall_mem_cons.2 ⟨h18, List.forall_mem_cons.2 ⟨h17, List.forall_mem_cons.2 ⟨h15, List.forall_mem_cons.2 ⟨h14, List.forall_mem_cons.2 ⟨h12, List.forall_mem_cons.2 ⟨h11, List.forall_mem_cons.2 ⟨h9, List.forall_mem_cons.2 ⟨h8, List.forall_mem_nil _⟩⟩⟩⟩⟩⟩⟩⟩⟩⟩⟩⟩⟩⟩⟩⟩⟩⟩⟩⟩⟩⟩⟩⟩⟩⟩⟩⟩⟩⟩⟩⟩) y ?_
    have c0 : (y 0).val = 2 * t.val ∨ (y 0).val = 2 * t.val + 1 := by omega
    have c1 : (y 1).val = 0 ∨ (y 1).val = 1 := by omega
    have c2 : (y 2).val / 16 = 0 ∨ (y 2).val / 16 = 1 ∨ (y 2).val / 16 = 2 ∨ (y 2).val / 16 = 3 ∨ (y 2).val / 16 = 4 ∨ (y 2).val / 16 = 5
      ∨ (y 2).val / 16 = 6 ∨ (y 2).val / 16 = 7 := by omega
    rcases c0 with c0 | c0 <;> rcases c1 with c1 | c1 <;> rcases c2 with c2 | c2 | c2 | c2 | c2 | c2 | c2 | c2
    · exact ⟨⟨Rect.unit (s := S96x2x128) (k0_off8 t) S1x1x16.size (k0_off8_inb t), w8⟩, List.mem_of_getElem? (i := 31) rfl, (mem_chunk (inb := k0_off8_inb t) (k0_off8_eq t) y).2 ⟨by omega, by omega, by omega, by omega⟩⟩
    · exact ⟨⟨Rect.unit (s := S96x2x128) (k0_off11 t) S1x1x16.size (k0_off11_inb t), w11⟩, List.mem_of_getElem? (i := 29) rfl, (mem_chunk (inb := k0_off11_inb t) (k0_off11_eq t) y).2 ⟨by omega, by omega, by omega, by omega⟩⟩
    · exact ⟨⟨Rect.unit (s := S96x2x128) (k0_off14 t) S1x1x16.size (k0_off14_inb t), w14⟩, List.mem_of_getElem? (i := 27) rfl, (mem_chunk (inb := k0_off14_inb t) (k0_off14_eq t) y).2 ⟨by omega, by omega, by omega, by omega⟩⟩
    · exact ⟨⟨Rect.unit (s := S96x2x128) (k0_off17 t) S1x1x16.size (k0_off17_inb t), w17⟩, List.mem_of_getElem? (i := 25) rfl, (mem_chunk (inb := k0_off17_inb t) (k0_off17_eq t) y).2 ⟨by omega, by omega, by omega, by omega⟩⟩
    · exact ⟨⟨Rect.unit (s := S96x2x128) (k0_off20 t) S1x1x16.size (k0_off20_inb t), w20⟩, List.mem_of_getElem? (i := 23) rfl, (mem_chunk (inb := k0_off20_inb t) (k0_off20_eq t) y).2 ⟨by omega, by omega, by omega, by omega⟩⟩
    · exact ⟨⟨Rect.unit (s := S96x2x128) (k0_off23 t) S1x1x16.size (k0_off23_inb t), w23⟩, List.mem_of_getElem? (i := 21) rfl, (mem_chunk (inb := k0_off23_inb t) (k0_off23_eq t) y).2 ⟨by omega, by omega, by omega, by omega⟩⟩
    · exact ⟨⟨Rect.unit (s := S96x2x128) (k0_off26 t) S1x1x16.size (k0_off26_inb t), w26⟩, List.mem_of_getElem? (i := 19) rfl, (mem_chunk (inb := k0_off26_inb t) (k0_off26_eq t) y).2 ⟨by omega, by omega, by omega, by omega⟩⟩
    · exact ⟨⟨Rect.unit (s := S96x2x128) (k0_off29 t) S1x1x16.size (k0_off29_inb t), w29⟩, List.mem_of_getElem? (i := 17) rfl, (mem_chunk (inb := k0_off29_inb t) (k0_off29_eq t) y).2 ⟨by omega, by omega, by omega, by omega⟩⟩
    · exact ⟨⟨Rect.unit (s := S96x2x128) (k0_off32 t) S1x1x16.size (k0_off32_inb t), w32⟩, List.mem_of_getElem? (i := 15) rfl, (mem_chunk (inb := k0_off32_inb t) (k0_off32_eq t) y).2 ⟨by omega, by omega, by omega, by omega⟩⟩
    · exact ⟨⟨Rect.unit (s := S96x2x128) (k0_off35 t) S1x1x16.size (k0_off35_inb t), w35⟩, List.mem_of_getElem? (i := 13) rfl, (mem_chunk (inb := k0_off35_inb t) (k0_off35_eq t) y).2 ⟨by omega, by omega, by omega, by omega⟩⟩
    · exact ⟨⟨Rect.unit (s := S96x2x128) (k0_off38 t) S1x1x16.size (k0_off38_inb t), w38⟩, List.mem_of_getElem? (i := 11) rfl, (mem_chunk (inb := k0_off38_inb t) (k0_off38_eq t) y).2 ⟨by omega, by omega, by omega, by omega⟩⟩
    · exact ⟨⟨Rect.unit (s := S96x2x128) (k0_off41 t) S1x1x16.size (k0_off41_inb t), w41⟩, List.mem_of_getElem? (i := 9) rfl, (mem_chunk (inb := k0_off41_inb t) (k0_off41_eq t) y).2 ⟨by omega, by omega, by omega, by omega⟩⟩
    · exact ⟨⟨Rect.unit (s := S96x2x128) (k0_off44 t) S1x1x16.size (k0_off44_inb t), w44⟩, List.mem_of_getElem? (i := 7) rfl, (mem_chunk (inb := k0_off44_inb t) (k0_off44_eq t) y).2 ⟨by omega, by omega, by omega, by omega⟩⟩
    · exact ⟨⟨Rect.unit (s := S96x2x128) (k0_off47 t) S1x1x16.size (k0_off47_inb t), w47⟩, List.mem_of_getElem? (i := 5) rfl, (mem_chunk (inb := k0_off47_inb t) (k0_off47_eq t) y).2 ⟨by omega, by omega, by omega, by omega⟩⟩
    · exact ⟨⟨Rect.unit (s := S96x2x128) (k0_off50 t) S1x1x16.size (k0_off50_inb t), w50⟩, List.mem_of_getElem? (i := 3) rfl, (mem_chunk (inb := k0_off50_inb t) (k0_off50_eq t) y).2 ⟨by omega, by omega, by omega, by omega⟩⟩
    · exact ⟨⟨Rect.unit (s := S96x2x128) (k0_off53 t) S1x1x16.size (k0_off53_inb t), w53⟩, List.mem_of_getElem? (i := 1) rfl, (mem_chunk (inb := k0_off53_inb t) (k0_off53_eq t) y).2 ⟨by omega, by omega, by omega, by omega⟩⟩
    · exact ⟨⟨Rect.unit (s := S96x2x128) (k0_off9 t) S1x1x16.size (k0_off9_inb t), w9⟩, List.mem_of_getElem? (i := 30) rfl, (mem_chunk (inb := k0_off9_inb t) (k0_off9_eq t) y).2 ⟨by omega, by omega, by omega, by omega⟩⟩
    · exact ⟨⟨Rect.unit (s := S96x2x128) (k0_off12 t) S1x1x16.size (k0_off12_inb t), w12⟩, List.mem_of_getElem? (i := 28) rfl, (mem_chunk (inb := k0_off12_inb t) (k0_off12_eq t) y).2 ⟨by omega, by omega, by omega, by omega⟩⟩
    · exact ⟨⟨Rect.unit (s := S96x2x128) (k0_off15 t) S1x1x16.size (k0_off15_inb t), w15⟩, List.mem_of_getElem? (i := 26) rfl, (mem_chunk (inb := k0_off15_inb t) (k0_off15_eq t) y).2 ⟨by omega, by omega, by omega, by omega⟩⟩
    · exact ⟨⟨Rect.unit (s := S96x2x128) (k0_off18 t) S1x1x16.size (k0_off18_inb t), w18⟩, List.mem_of_getElem? (i := 24) rfl, (mem_chunk (inb := k0_off18_inb t) (k0_off18_eq t) y).2 ⟨by omega, by omega, by omega, by omega⟩⟩
    · exact ⟨⟨Rect.unit (s := S96x2x128) (k0_off21 t) S1x1x16.size (k0_off21_inb t), w21⟩, List.mem_of_getElem? (i := 22) rfl, (mem_chunk (inb := k0_off21_inb t) (k0_off21_eq t) y).2 ⟨by omega, by omega, by omega, by omega⟩⟩
    · exact ⟨⟨Rect.unit (s := S96x2x128) (k0_off24 t) S1x1x16.size (k0_off24_inb t), w24⟩, List.mem_of_getElem? (i := 20) rfl, (mem_chunk (inb := k0_off24_inb t) (k0_off24_eq t) y).2 ⟨by omega, by omega, by omega, by omega⟩⟩
    · exact ⟨⟨Rect.unit (s := S96x2x128) (k0_off27 t) S1x1x16.size (k0_off27_inb t), w27⟩, List.mem_of_getElem? (i := 18) rfl, (mem_chunk (inb := k0_off27_inb t) (k0_off27_eq t) y).2 ⟨by omega, by omega, by omega, by omega⟩⟩
    · exact ⟨⟨Rect.unit (s := S96x2x128) (k0_off30 t) S1x1x16.size (k0_off30_inb t), w30⟩, List.mem_of_getElem? (i := 16) rfl, (mem_chunk (inb := k0_off30_inb t) (k0_off30_eq t) y).2 ⟨by omega, by omega, by omega, by omega⟩⟩
    · exact ⟨⟨Rect.unit (s := S96x2x128) (k0_off33 t) S1x1x16.size (k0_off33_inb t), w33⟩, List.mem_of_getElem? (i := 14) rfl, (mem_chunk (inb := k0_off33_inb t) (k0_off33_eq t) y).2 ⟨by omega, by omega, by omega, by omega⟩⟩
    · exact ⟨⟨Rect.unit (s := S96x2x128) (k0_off36 t) S1x1x16.size (k0_off36_inb t), w36⟩, List.mem_of_getElem? (i := 12) rfl, (mem_chunk (inb := k0_off36_inb t) (k0_off36_eq t) y).2 ⟨by omega, by omega, by omega, by omega⟩⟩
    · exact ⟨⟨Rect.unit (s := S96x2x128) (k0_off39 t) S1x1x16.size (k0_off39_inb t), w39⟩, List.mem_of_getElem? (i := 10) rfl, (mem_chunk (inb := k0_off39_inb t) (k0_off39_eq t) y).2 ⟨by omega, by omega, by omega, by omega⟩⟩
    · exact ⟨⟨Rect.unit (s := S96x2x128) (k0_off42 t) S1x1x16.size (k0_off42_inb t), w42⟩, List.mem_of_getElem? (i := 8) rfl, (mem_chunk (inb := k0_off42_inb t) (k0_off42_eq t) y).2 ⟨by omega, by omega, by omega, by omega⟩⟩
    · exact ⟨⟨Rect.unit (s := S96x2x128) (k0_off45 t) S1x1x16.size (k0_off45_inb t), w45⟩, List.mem_of_getElem? (i := 6) rfl, (mem_chunk (inb := k0_off45_inb t) (k0_off45_eq t) y).2 ⟨by omega, by omega, by omega, by omega⟩⟩
    · exact ⟨⟨Rect.unit (s := S96x2x128) (k0_off48 t) S1x1x16.size (k0_off48_inb t), w48⟩, List.mem_of_getElem? (i := 4) rfl, (mem_chunk (inb := k0_off48_inb t) (k0_off48_eq t) y).2 ⟨by omega, by omega, by omega, by omega⟩⟩
    · exact ⟨⟨Rect.unit (s := S96x2x128) (k0_off51 t) S1x1x16.size (k0_off51_inb t), w51⟩, List.mem_of_getElem? (i := 2) rfl, (mem_chunk (inb := k0_off51_inb t) (k0_off51_eq t) y).2 ⟨by omega, by omega, by omega, by omega⟩⟩
    · exact ⟨⟨Rect.unit (s := S96x2x128) (k0_off54 t) S1x1x16.size (k0_off54_inb t), w54⟩, List.mem_of_getElem? (i := 0) rfl, (mem_chunk (inb := k0_off54_inb t) (k0_off54_eq t) y).2 ⟨by omega, by omega, by omega, by omega⟩⟩
  · refine Eq.trans (View.read_writes_apply_of_forall_not_mem (v := s1V.view) (Val := Elt F) (f := f) y _ ?_) ?_
    · exact (List.forall_mem_cons.2 ⟨off_row1 (r := t.val) (inb := k0_off54_inb t) (k0_off54_eq t) y hy, List.forall_mem_cons.2 ⟨off_row0 (r := t.val) (inb := k0_off53_inb t) (k0_off53_eq t) y hy, List.forall_mem_cons.2 ⟨off_row1 (r := t.val) (inb := k0_off51_inb t) (k0_off51_eq t) y hy, List.forall_mem_cons.2 ⟨off_row0 (r := t.val) (inb := k0_off50_inb t) (k0_off50_eq t) y hy, List.forall_mem_cons.2 ⟨off_row1 (r := t.val) (inb := k0_off48_inb t) (k0_off48_eq t) y hy, List.forall_mem_cons.2 ⟨off_row0 (r := t.val) (inb := k0_off47_inb t) (k0_off47_eq t) y hy, List.forall_mem_cons.2 ⟨off_row1 (r := t.val) (inb := k0_off45_inb t) (k0_off45_eq t) y hy, List.forall_mem_cons.2 ⟨off_row0 (r := t.val) (inb := k0_off44_inb t) (k0_off44_eq t) y hy, List.forall_mem_cons.2 ⟨off_row1 (r := t.val) (inb := k0_off42_inb t) (k0_off42_eq t) y hy, List.forall_mem_cons.2 ⟨off_row0 (r := t.val) (inb := k0_off41_inb t) (k0_off41_eq t) y hy, List.forall_mem_cons.2 ⟨off_row1 (r := t.val) (inb := k0_off39_inb t) (k0_off39_eq t) y hy, List.forall_mem_cons.2 ⟨off_row0 (r := t.val) (inb := k0_off38_inb t) (k0_off38_eq t) y hy, List.forall_mem_cons.2 ⟨off_row1 (r := t.val) (inb := k0_off36_inb t) (k0_off36_eq t) y hy, List.forall_mem_cons.2 ⟨off_row0 (r := t.val) (inb := k0_off35_inb t) (k0_off35_eq t) y hy, List.forall_mem_cons.2 ⟨off_row1 (r := t.val) (inb := k0_off33_inb t) (k0_off33_eq t) y hy, List.forall_mem_cons.2 ⟨off_row0 (r := t.val) (inb := k0_off32_inb t) (k0_off32_eq t) y hy, List.forall_mem_cons.2 ⟨off_row1 (r := t.val) (inb := k0_off30_inb t) (k0_off30_eq t) y hy, List.forall_mem_cons.2 ⟨off_row0 (r := t.val) (inb := k0_off29_inb t) (k0_off29_eq t) y hy, List.forall_mem_cons.2 ⟨off_row1 (r := t.val) (inb := k0_off27_inb t) (k0_off27_eq t) y hy, List.forall_mem_cons.2 ⟨off_row0 (r := t.val) (inb := k0_off26_inb t) (k0_off26_eq t) y hy, List.forall_mem_cons.2 ⟨off_row1 (r := t.val) (inb := k0_off24_inb t) (k0_off24_eq t) y hy, List.forall_mem_cons.2 ⟨off_row0 (r := t.val) (inb := k0_off23_inb t) (k0_off23_eq t) y hy, List.forall_mem_cons.2 ⟨off_row1 (r := t.val) (inb := k0_off21_inb t) (k0_off21_eq t) y hy, List.forall_mem_cons.2 ⟨off_row0 (r := t.val) (inb := k0_off20_inb t) (k0_off20_eq t) y hy, List.forall_mem_cons.2 ⟨off_row1 (r := t.val) (inb := k0_off18_inb t) (k0_off18_eq t) y hy, List.forall_mem_cons.2 ⟨off_row0 (r := t.val) (inb := k0_off17_inb t) (k0_off17_eq t) y hy, List.forall_mem_cons.2 ⟨off_row1 (r := t.val) (inb := k0_off15_inb t) (k0_off15_eq t) y hy, List.forall_mem_cons.2 ⟨off_row0 (r := t.val) (inb := k0_off14_inb t) (k0_off14_eq t) y hy, List.forall_mem_cons.2 ⟨off_row1 (r := t.val) (inb := k0_off12_inb t) (k0_off12_eq t) y hy, List.forall_mem_cons.2 ⟨off_row0 (r := t.val) (inb := k0_off11_inb t) (k0_off11_eq t) y hy, List.forall_mem_cons.2 ⟨off_row1 (r := t.val) (inb := k0_off9_inb t) (k0_off9_eq t) y hy, List.forall_mem_cons.2 ⟨off_row0 (r := t.val) (inb := k0_off8_inb t) (k0_off8_eq t) y hy, List.forall_mem_nil _⟩⟩⟩⟩⟩⟩⟩⟩⟩⟩⟩⟩⟩⟩⟩⟩⟩⟩⟩⟩⟩⟩⟩⟩⟩⟩⟩⟩⟩⟩⟩⟩)
    show f y = addRow t.val f g y
    unfold addRow; rw [if_neg hy]

/-- One trip of the add loop, at the task's buffers. -/
abbrev addBody (v3 : IVec S16 32) (v19 : BitVec 32) (h3 : k0_chk3 v19) (v21 : BitVec 32) (h197 : k0_chk197 v19 v21) (v23 : BitVec 32) (h4 : k0_chk4 v23)
    (t : Fin k0_t2_loop.trips) :=
  k0_t2_body (F := F) L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 t ⟨⟩

theorem add_trip (v3 : IVec S16 32) (v19 : BitVec 32) (h3 : k0_chk3 v19) (v21 : BitVec 32) (h197 : k0_chk197 v19 v21) (v23 : BitVec 32) (h4 : k0_chk4 v23)
    (f : Buf (Elt F) (s1V.view.loc (tt d L))) (g : Buf (Elt F) (s2V.view.loc (tt d L))) (t : Fin k0_t2_loop.trips) :
    iprop((s1V.view.loc (tt d L) ↦{fullShare} f) ∗ (s2V.view.loc (tt d L) ↦{fullShare} g) : sProp (MM F))
      ⊢ wp frame (wpE (defs₀ (F := F)) 𝒱₀ (tt d L) none) Set.univ (addBody L v3 v19 h3 v21 h197 v23 h4 t)
          fun _ => iprop((s1V.view.loc (tt d L) ↦{fullShare} (addRow t.val f g : S96x2x128.Idx → F .f32)) ∗ (s2V.view.loc (tt d L) ↦{fullShare} g)) := by
  iintro ⟨H, H2⟩
  unfold addBody k0_t2_body
  sl_exec
  sl_step
  isplitl [H]
  · iapply (Entails.of_eq (congrArg (fun z => (s1V.view.loc (tt d L) ↦{fullShare} z : sProp (MM F))) ?_)) $$ H
    exact add_writes t f g _ _ _ _ _ _ _ _ _ _ _ _ _ _ _ _ _ _ _ _ _ _ _ _ _ _ _ _ _ _ _ _
      (piece_hi f g t.val 1 112 240 (k0_off54_eq t) (k0_off52_eq t) rfl)
      (piece_lo f g t.val 1 112 240 (k0_off53_eq t) (k0_off52_eq t) rfl)
      (piece_hi f g t.val 1 96 224 (k0_off51_eq t) (k0_off49_eq t) rfl)
      (piece_lo f g t.val 1 96 224 (k0_off50_eq t) (k0_off49_eq t) rfl)
      (piece_hi f g t.val 1 80 208 (k0_off48_eq t) (k0_off46_eq t) rfl)
      (piece_lo f g t.val 1 80 208 (k0_off47_eq t) (k0_off46_eq t) rfl)
      (piece_hi f g t.val 1 64 192 (k0_off45_eq t) (k0_off43_eq t) rfl)
      (piece_lo f g t.val 1 64 192 (k0_off44_eq t) (k0_off43_eq t) rfl)
      (piece_hi f g t.val 1 48 176 (k0_off42_eq t) (k0_off40_eq t) rfl)
      (piece_lo f g t.val 1 48 176 (k0_off41_eq t) (k0_off40_eq t) rfl)
      (piece_hi f g t.val 1 32 160 (k0_off39_eq t) (k0_off37_eq t) rfl)
      (piece_lo f g t.val 1 32 160 (k0_off38_eq t) (k0_off37_eq t) rfl)
      (piece_hi f g t.val 1 16 144 (k0_off36_eq t) (k0_off34_eq t) rfl)
      (piece_lo f g t.val 1 16 144 (k0_off35_eq t) (k0_off34_eq t) rfl)
      (piece_hi f g t.val 1 0 128 (k0_off33_eq t) (k0_off31_eq t) rfl)
      (piece_lo f g t.val 1 0 128 (k0_off32_eq t) (k0_off31_eq t) rfl)
      (piece_hi f g t.val 0 112 112 (k0_off30_eq t) (k0_off28_eq t) rfl)
      (piece_lo f g t.val 0 112 112 (k0_off29_eq t) (k0_off28_eq t) rfl)
      (piece_hi f g t.val 0 96 96 (k0_off27_eq t) (k0_off25_eq t) rfl)
      (piece_lo f g t.val 0 96 96 (k0_off26_eq t) (k0_off25_eq t) rfl)
      (piece_hi f g t.val 0 80 80 (k0_off24_eq t) (k0_off22_eq t) rfl)
      (piece_lo f g t.val 0 80 80 (k0_off23_eq t) (k0_off22_eq t) rfl)
      (piece_hi f g t.val 0 64 64 (k0_off21_eq t) (k0_off19_eq t) rfl)
      (piece_lo f g t.val 0 64 64 (k0_off20_eq t) (k0_off19_eq t) rfl)
      (piece_hi f g t.val 0 48 48 (k0_off18_eq t) (k0_off16_eq t) rfl)
      (piece_lo f g t.val 0 48 48 (k0_off17_eq t) (k0_off16_eq t) rfl)
      (piece_hi f g t.val 0 32 32 (k0_off15_eq t) (k0_off13_eq t) rfl)
      (piece_lo f g t.val 0 32 32 (k0_off14_eq t) (k0_off13_eq t) rfl)
      (piece_hi f g t.val 0 16 16 (k0_off12_eq t) (k0_off10_eq t) rfl)
      (piece_lo f g t.val 0 16 16 (k0_off11_eq t) (k0_off10_eq t) rfl)
      (piece_hi f g t.val 0 0 0 (k0_off9_eq t) (k0_off7_eq t) rfl)
      (piece_lo f g t.val 0 0 0 (k0_off8_eq t) (k0_off7_eq t) rfl)
  · iexact H2

end Cert.Proof.ScIdeal
end
end
-- ==== Proof.SiLoops.lean ====
module

public import Idealize.ShloMosaic.Lib.Pipeline.ValueKit
public import Idealize.ShloMosaic.Lib.WordCmp
public import proofs.«01_k».proof.Proof.SiRow
public import proofs.«01_k».proof.Proof.SiAdd

/-! The four loops of one work item. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The four loops of one work item: the addition of the terms, the clearing of the row, the slots sixteen at a time, and the
    remainder loop. -/
def itemLoops (v3 : IVec S16 32) (v19 : BitVec 32) (h3 : k0_chk3 v19) (v21 : BitVec 32) (h197 : k0_chk197 v19 v21) (v23 : BitVec 32) (h4 : k0_chk4 v23) :
    Prog (TpuEff nD τ sig (Elt F) Λ₀ (.scVector ((L 0).castLE hcore0) ((L 1).castLE hsub0))) PUnit := do
  Scf.Loop.for k0_t2_loop k0_t2_ok ⟨⟩ (k0_t2_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4)
  Scf.Loop.for k0_t3_loop k0_t3_ok ⟨⟩ (k0_t3_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4)
  Scf.Loop.for (k0_t4_loop v23) (k0_t4_ok v23 h4) ⟨⟩ (k0_t4_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4)
  Scf.Loop.for (k0_t5_loop v23) (k0_t5_ok v23 h4) ⟨⟩ (k0_t5_body L cdV (Memref.isWhole_whole _) tmV (Memref.isWhole_whole _) luV (Memref.isWhole_whole _) meV (Memref.isWhole_whole _)
    stV (Memref.isWhole_whole _) ouV (Memref.isWhole_whole _) s0V (Memref.isWhole_whole _) s1V (Memref.isWhole_whole _) s2V (Memref.isWhole_whole _)
    s3V (Memref.isWhole_whole _) s4V (Memref.isWhole_whole _) s5V (Memref.isWhole_whole _) cc0_scoped0 cc0_scoped1 cc0_scoped2 cc0_scoped3 cc0_scoped4 cc0_scoped5 cc0_scoped6
    cc0_scoped7 cc0_scoped8 cc0_scoped9 cc0_scoped10 cc0_scoped11 cc0_scoped12 v3 v19 h3 v21 h197 v23 h4 (Scalar.addi 0#32 (Scalar.muli (Scalar.divsi (Scalar.subi (Scalar.divsi (Scalar.addi (Scalar.subi (Scalar.shrsi (Scalar.addi v23 15#32) 4#32) 0#32) (Scalar.subi 1#32 1#32)) 1#32) 0#32) 1#32) 1#32)))
  pure ⟨⟩

/-- The table with every term added. -/
def addTab (f : S96x2x128.Idx → F .f32) (g : S48x256.Idx → BitVec 32) (y : S96x2x128.Idx) : F .f32 := addEl f g y

theorem addUpTo_all (f : S96x2x128.Idx → F .f32) (g : S48x256.Idx → BitVec 32) : addUpTo 48 f g = addTab f g := by
  funext y
  have := (y 0).isLt
  have h : (y 0).val < 96 := this
  unfold addUpTo addTab
  exact if_pos (by omega)

/-- The slots past the list's length are those cleared. -/
theorem rows_done (n : ℕ) (hn : n ≤ 1536) (T : Vec F S96x2x128 .f32) (e : S24x1536.Idx → BitVec 32) :
    rowUpTo ((n + 15) / 16) zeroRow (slotRow n T e) = slotRow n T e := by
  funext x
  unfold rowUpTo
  split
  · rfl
  · unfold slotRow
    exact (if_neg (by omega)).symm

theorem loops_trip (v19 : BitVec 32) (h3 : k0_chk3 v19) (v21 : BitVec 32) (h197 : k0_chk197 v19 v21) (v23 : BitVec 32) (h4 : k0_chk4 v23)
    (hv : v23.toNat ≤ 1536) (e : Buf (Elt F) (s0V.view.loc (tt d L))) (f : Buf (Elt F) (s1V.view.loc (tt d L))) (g : Buf (Elt F) (s2V.view.loc (tt d L)))
    (z : Buf (Elt F) (s3V.view.loc (tt d L))) :
    iprop((s0V.view.loc (tt d L) ↦{fullShare} e) ∗ (s1V.view.loc (tt d L) ↦{fullShare} f) ∗ (s2V.view.loc (tt d L) ↦{fullShare} g)
        ∗ (s3V.view.loc (tt d L) ↦{fullShare} z) : sProp (MM F))
      ⊢ wp frame (wpE (defs₀ (F := F)) 𝒱₀ (tt d L) none) Set.univ
          (itemLoops L (iota .scVector S16 32 [0] iota_S16_d0_w32_scVector) v19 h3 v21 h197 v23 h4)
          fun _ => iprop((s0V.view.loc (tt d L) ↦{fullShare} e) ∗ (s1V.view.loc (tt d L) ↦{fullShare} (addTab f g : S96x2x128.Idx → F .f32))
            ∗ (s2V.view.loc (tt d L) ↦{fullShare} g)
            ∗ (s3V.view.loc (tt d L) ↦{fullShare} (slotRow v23.toNat (addTab f g) e : S1536.Idx → F .f32))) := by
  unfold itemLoops
  iintro ⟨H0, H1, H2, H3⟩
  sl_for (fun (n : ℕ) (_ : PUnit) => iprop((s1V.view.loc (tt d L) ↦{fullShare} (addUpTo n f g : S96x2x128.Idx → F .f32)) ∗ (s2V.view.loc (tt d L) ↦{fullShare} g) : sProp (MM F))) $$ [H1 H2]
  case region =>
    intro t _
    refine (add_trip d L _ v19 h3 v21 h197 v23 h4 _ g t).trans (wp_mono _ _ _ (fun _ => ?_))
    rw [addRow_upTo]
  · rw [addUpTo_zero]
    isplitl [H1]; · iexact H1
    iexact H2
  iintro %_ ⟨H1, H2⟩
  sl_for (fun (n : ℕ) (_ : PUnit) => iprop((s3V.view.loc (tt d L) ↦{fullShare} (rowUpTo n z zeroRow : S1536.Idx → F .f32)) : sProp (MM F))) $$ [H3]
  case region =>
    intro t _
    exact zero_trip d L _ v19 h3 v21 h197 v23 h4 z t
  · rw [rowUpTo_zero]
    iexact H3
  iintro %_ H3
  sl_for (fun (n : ℕ) (_ : PUnit) => iprop((s0V.view.loc (tt d L) ↦{fullShare} e) ∗ (s1V.view.loc (tt d L) ↦{fullShare} (addTab f g : S96x2x128.Idx → F .f32))
        ∗ (s3V.view.loc (tt d L) ↦{fullShare} (rowUpTo n zeroRow (slotRow v23.toNat (addTab f g) e) : S1536.Idx → F .f32)) : sProp (MM F))) $$ [H0 H1 H3]
  case region =>
    intro t _
    exact slot_trip d L v19 h3 v21 h197 v23 h4 hv e _ zeroRow t
  · rw [rowUpTo_zero]
    isplitl [H0]; · iexact H0
    isplitl [H1]
    · iapply (Entails.of_eq (congrArg (fun T : S96x2x128.Idx → F .f32 => (s1V.view.loc (tt d L) ↦{fullShare} T : sProp (MM F))) (addUpTo_all f g))); iexact H1
    · iapply (Entails.of_eq (congrArg (fun T : S1536.Idx → F .f32 => (s3V.view.loc (tt d L) ↦{fullShare} T : sProp (MM F))) (rowUpTo_all z zeroRow))); iexact H3
  iintro %_ ⟨H0, H1, H3⟩
  sl_for (fun (_ : ℕ) (_ : PUnit) => (iprop(emp) : sProp (MM F))) $$ []
  case region =>
    intro t _
    exact absurd (t.isLt.trans_eq (t5_trips hv)) (Nat.not_lt_zero _)
  · iempintro
  iintro %_ -
  sl_step
  isplitl [H0]; · iexact H0
  isplitl [H1]; · iexact H1
  isplitl [H2]; · iexact H2
  iapply (Entails.of_eq (congrArg (fun T : S1536.Idx → F .f32 => (s3V.view.loc (tt d L) ↦{fullShare} T : sProp (MM F)))
    ((congrArg (fun k => rowUpTo k zeroRow (slotRow v23.toNat (addTab f g) e)) (t4_trips hv)).trans (rows_done v23.toNat hv (addTab f g) e)))); iexact H3

end Cert.Proof.ScIdeal
end
end
-- ==== Proof.SiData.lean ====
module

public import Idealize.ShloMosaic.Lib.Pipeline.ValueKit
public import Idealize.ShloMosaic.Lib.WordCmp
public import proofs.«01_k».proof.Proof.SiLoops

/-! What the transfers of one work item deliver. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

section Words

/-- Row `k` of the work list as its transfer delivers it: the words of that row. -/
theorem metaRow_at (off : Fin 2 → ℕ) (inb : ∀ a, off a + S1x16.size a ≤ S3600x16.size a) (k : Fin 3600) (ho : off = ![k.val, 0]) (hf)
    (me : Buf (Elt F) (meV.view.loc (tt d L))) (j : Fin 16) :
    View.read (Elt F) ((meV.slice (Rect.unit (s := S3600x16) off S1x16.size inb) hf).squeeze S16 squeezes_S1x16_S16).view me (ix1 j)
      = (show S3600x16.Idx → BitVec 32 from me) (ix2 k j) := by
  subst ho
  show me ((Rect.unit (s := S3600x16) ![k.val, 0] S1x16.size inb).emb (Shape.reshapeEquiv _ (ix1 j))) = _
  simp only [pointwise]
  refine congrArg me (funext fun a => ?_)
  match a with
  | 0 => exact Fin.ext (by simp [ix2])
  | 1 => exact Fin.ext (by simp [ix2])

theorem write_row (e4 : Buf (Elt F) (s4V.view.loc (tt d L))) (P : S16.Idx → BitVec 32) : View.write (Elt F) s4V.view e4 P Finset.univ = P := by
  exact View.write_whole_univ _ _ _

theorem word0 (e4 : Buf (Elt F) (s4V.view.loc (tt d L))) (P : S16.Idx → BitVec 32) :
    extractAt ![0] (k0_pay917 (F := F) (View.readAt (Elt F) s4V.view (Rect.unit (s := S16) ![0] S16.size inb_S16_S16_0).toLoadRect
      (View.write (Elt F) s4V.view e4 P Finset.univ))) inpos_S1_p0 = P (ix1 0) := by
  rw [write_row]
  show (View.readAt (Elt F) s4V.view (Rect.unit (s := S16) ![0] S16.size inb_S16_S16_0).toLoadRect P) _ = _
  refine congrArg P (funext fun a => ?_)
  match a with
  | 0 => rfl
theorem word1 (e4 : Buf (Elt F) (s4V.view.loc (tt d L))) (P : S16.Idx → BitVec 32) :
    extractAt ![0] (k0_pay918 (F := F) (View.readAt (Elt F) s4V.view (Rect.unit (s := S16) ![0] S16.size inb_S16_S16_0).toLoadRect
      (View.write (Elt F) s4V.view e4 P Finset.univ))) inpos_S1_p0 = P (ix1 1) := by
  rw [write_row]
  show (View.readAt (Elt F) s4V.view (Rect.unit (s := S16) ![0] S16.size inb_S16_S16_0).toLoadRect P) _ = _
  refine congrArg P (funext fun a => ?_)
  match a with
  | 0 => rfl
theorem word2 (e4 : Buf (Elt F) (s4V.view.loc (tt d L))) (P : S16.Idx → BitVec 32) :
    extractAt ![0] (k0_pay919 (F := F) (View.readAt (Elt F) s4V.view (Rect.unit (s := S16) ![0] S16.size inb_S16_S16_0).toLoadRect
      (View.write (Elt F) s4V.view e4 P Finset.univ))) inpos_S1_p0 = P (ix1 2) := by
  rw [write_row]
  show (View.readAt (Elt F) s4V.view (Rect.unit (s := S16) ![0] S16.size inb_S16_S16_0).toLoadRect P) _ = _
  refine congrArg P (funext fun a => ?_)
  match a with
  | 0 => rfl
theorem word3 (e4 : Buf (Elt F) (s4V.view.loc (tt d L))) (P : S16.Idx → BitVec 32) :
    extractAt ![0] (k0_pay920 (F := F) (View.readAt (Elt F) s4V.view (Rect.unit (s := S16) ![0] S16.size inb_S16_S16_0).toLoadRect
      (View.write (Elt F) s4V.view e4 P Finset.univ))) inpos_S1_p0 = P (ix1 3) := by
  rw [write_row]
  show (View.readAt (Elt F) s4V.view (Rect.unit (s := S16) ![0] S16.size inb_S16_S16_0).toLoadRect P) _ = _
  refine congrArg P (funext fun a => ?_)
  match a with
  | 0 => rfl

omit [FloatOps F] in
theorem chk2_of {v : BitVec 32} (h : v.toNat < 2000) : k0_chk2 v := by
  constructor
  · intro a
    match a with
    | 0 => show v.toNat + 1 ≤ 2000; omega
    | 1 => exact le_of_eq rfl
    | 2 => first | exact le_of_eq rfl | exact (show (0 : ℕ) + 128 ≤ 256 by decide) | exact (show (128 : ℕ) + 128 ≤ 256 by decide)
  · intro a
    match a with
    | 0 => show v.toNat + 1 ≤ 2000; omega
    | 1 => exact le_of_eq rfl
    | 2 => first | exact le_of_eq rfl | exact (show (0 : ℕ) + 128 ≤ 256 by decide) | exact (show (128 : ℕ) + 128 ≤ 256 by decide)
omit [FloatOps F] in
theorem chk3_of {v : BitVec 32} (h : v.toNat < 200) : k0_chk3 v := by
  constructor
  · intro a
    match a with
    | 0 => show v.toNat + 1 ≤ 200; omega
    | 1 => exact le_of_eq rfl
    | 2 => first | exact le_of_eq rfl | exact (show (0 : ℕ) + 128 ≤ 256 by decide) | exact (show (128 : ℕ) + 128 ≤ 256 by decide)
  · intro a
    match a with
    | 0 => show v.toNat + 1 ≤ 200; omega
    | 1 => exact le_of_eq rfl
    | 2 => first | exact le_of_eq rfl | exact (show (0 : ℕ) + 128 ≤ 256 by decide) | exact (show (128 : ℕ) + 128 ≤ 256 by decide)
omit [FloatOps F] in
theorem chk197_of {v w : BitVec 32} (h : v.toNat < 200) (h' : w.toNat < 18) : k0_chk197 v w := by
  intro a
  match a with
  | 0 => show w.toNat + 1 ≤ 18; omega
  | 1 => show v.toNat + 1 ≤ 200; omega
  | 2 => exact le_of_eq rfl

end Words

section Data

/-- The codes of list `l`, as they lie packed in the words. -/
def codeRow (cd : S2000x24x1536.Idx → BitVec 32) (l : Fin 2000) (y : S24x1536.Idx) : BitVec 32 := cd (ix3 l (y 0) (y 1))
/-- The terms of list `l`, as they lie packed in the words. -/
def termRow (tm : S2000x48x256.Idx → BitVec 32) (l : Fin 2000) (y : S48x256.Idx) : BitVec 32 := tm (ix3 l (y 0) (y 1))
/-- The table of query `b`, each row in two halves. -/
def tabOf (lu : S200x96x256.Idx → F .f32) (b : Fin 200) (y : S96x2x128.Idx) : F .f32 :=
  lu (ix3 b (y 0) ⟨128 * (y 1).val + (y 2).val, by have := tabLt y; omega⟩)
/-- The finished row of one work item: list `l` of length `n` for query `b`. -/
def itemVal (cd : S2000x24x1536.Idx → BitVec 32) (tm : S2000x48x256.Idx → BitVec 32) (lu : S200x96x256.Idx → F .f32) (l : Fin 2000) (b : Fin 200) (n : ℕ) :
    S1536.Idx → F .f32 := slotRow n (addTab (tabOf lu b) (termRow tm l)) (codeRow cd l)

theorem codes_read (off : Fin 3 → ℕ) (inb : ∀ a, off a + S1x24x1536.size a ≤ S2000x24x1536.size a) (l : Fin 2000) (ho : off = ![l.val, 0, 0]) (hf)
    (cd : Buf (Elt F) (cdV.view.loc (tt d L))) :
    View.read (Elt F) ((cdV.slice (Rect.unit (s := S2000x24x1536) off S1x24x1536.size inb) hf).squeeze S24x1536 squeezes_S1x24x1536_S24x1536).view cd
      = codeRow cd l := by
  subst ho
  funext y
  show cd ((Rect.unit (s := S2000x24x1536) ![l.val, 0, 0] S1x24x1536.size inb).emb (Shape.reshapeEquiv _ y)) = _
  simp only [pointwise]
  refine congrArg cd (funext fun a => ?_)
  match a with
  | 0 => exact Fin.ext (by simp [ix3])
  | 1 => exact Fin.ext (by simp [ix3])
  | 2 => exact Fin.ext (by simp [ix3])

theorem terms_read (off : Fin 3 → ℕ) (inb : ∀ a, off a + S1x48x256.size a ≤ S2000x48x256.size a) (l : Fin 2000) (ho : off = ![l.val, 0, 0]) (hf)
    (tm : Buf (Elt F) (tmV.view.loc (tt d L))) :
    View.read (Elt F) ((tmV.slice (Rect.unit (s := S2000x48x256) off S1x48x256.size inb) hf).squeeze S48x256 squeezes_S1x48x256_S48x256).view tm
      = termRow tm l := by
  subst ho
  funext y
  show tm ((Rect.unit (s := S2000x48x256) ![l.val, 0, 0] S1x48x256.size inb).emb (Shape.reshapeEquiv _ y)) = _
  simp only [pointwise]
  refine congrArg tm (funext fun a => ?_)
  match a with
  | 0 => exact Fin.ext (by simp [ix3])
  | 1 => exact Fin.ext (by simp [ix3])
  | 2 => exact Fin.ext (by simp [ix3])

theorem half_read (off : Fin 3 → ℕ) (inb : ∀ a, off a + S1x96x128.size a ≤ S200x96x256.size a) (b : Fin 200) (c : ℕ) (hc : c + 128 ≤ 256) (ho : off = ![b.val, 0, c]) (hf)
    (lu : Buf (Elt F) (luV.view.loc (tt d L))) (y : S96x128.Idx) (i : Fin 256) (hi : i.val = c + (y 1).val) :
    View.read (Elt F) ((luV.slice (Rect.unit (s := S200x96x256) off S1x96x128.size inb) hf).squeeze S96x128 squeezes_S1x96x128_S96x128).view lu y
      = (show S200x96x256.Idx → F .f32 from lu) (ix3 b (y 0) i) := by
  subst ho
  show lu ((Rect.unit (s := S200x96x256) ![b.val, 0, c] S1x96x128.size inb).emb (Shape.reshapeEquiv _ y)) = _
  simp only [pointwise]
  refine congrArg lu (funext fun a => ?_)
  match a with
  | 0 => exact Fin.ext (by simp [ix3])
  | 1 => exact Fin.ext (by simp [ix3])
  | 2 => exact Fin.ext (by simp [ix3, hi])

/-- The table's half `c` as the transfer addresses it. -/
abbrev halfView (c : ℕ) (inb : ∀ a, (![0, c, 0] : Fin 3 → ℕ) a + S96x1x128.size a ≤ S96x2x128.size a) : Memref sig .scVector .vmem S96x128 .f32 :=
  (s1V.slice (Rect.unit (s := S96x2x128) ![0, c, 0] S96x1x128.size inb) (fun _ => rfl)).squeeze S96x128 squeezes_S96x1x128_S96x128

theorem half_emb (c : ℕ) (inb) (y : S96x128.Idx) : (halfView c inb).view.emb y = (ix3 (y 0) ⟨c, by have := inb 1; exact this⟩ (y 1) : S96x2x128.Idx) := by
  show (Rect.unit (s := S96x2x128) ![0, c, 0] S96x1x128.size inb).emb (Shape.reshapeEquiv _ y) = _
  simp only [pointwise]
  funext a
  match a with
  | 0 => exact Fin.ext (by simp [ix3])
  | 1 => exact Fin.ext (by simp [ix3])
  | 2 => exact Fin.ext (by simp [ix3])

theorem half_mem (c : ℕ) (inb) (y : S96x2x128.Idx) (h : (y 1).val ≠ c) : y ∉ (halfView c inb).view.setOn Finset.univ := by
  intro hy
  obtain ⟨x, _, hx⟩ := Finset.mem_map.1 hy
  rw [half_emb] at hx
  exact h (congrArg (fun z : S96x2x128.Idx => (z 1).val) hx).symm

theorem table_write (inb0) (inb1) (e1 : S96x2x128.Idx → F .f32) (w0 w1 : S96x128.Idx → F .f32) (lu : S200x96x256.Idx → F .f32) (b : Fin 200)
    (h0 : ∀ (x : S96x128.Idx) (i : Fin 256), i.val = 0 + (x 1).val → w0 x = lu (ix3 b (x 0) i)) (h1 : ∀ (x : S96x128.Idx) (i : Fin 256), i.val = 128 + (x 1).val → w1 x = lu (ix3 b (x 0) i)) :
    View.write (Elt F) (halfView 1 inb1).view (View.write (Elt F) (halfView 0 inb0).view e1 w0 Finset.univ) w1 Finset.univ = tabOf lu b := by
  funext y
  have hy := tabLt y
  by_cases h : (y 1).val = 1
  · have he : (halfView 1 inb1).view.emb (ix2 (y 0) (y 2)) = y := by
      rw [half_emb]; funext a
      match a with
      | 0 => rfl
      | 1 => exact Fin.ext h.symm
      | 2 => rfl
    refine (congrArg _ he.symm).trans ((View.write_emb_of_mem (Val := Elt F) (v := (halfView 1 inb1).view) (M := Finset.univ) _ w1 (Finset.mem_univ (ix2 (y 0) (y 2)))).trans ?_)
    exact h1 _ _ (show 128 * (y 1).val + (y 2).val = 128 + (y 2).val by omega)
  · have h' : (y 1).val = 0 := by omega
    have he : (halfView 0 inb0).view.emb (ix2 (y 0) (y 2)) = y := by
      rw [half_emb]; funext a
      match a with
      | 0 => rfl
      | 1 => exact Fin.ext h'.symm
      | 2 => rfl
    refine (View.write_of_not_mem (Val := Elt F) (v := (halfView 1 inb1).view) _ w1 Finset.univ (half_mem 1 inb1 y h)).trans ?_
    refine (congrArg _ he.symm).trans ((View.write_emb_of_mem (Val := Elt F) (v := (halfView 0 inb0).view) (M := Finset.univ) _ w0 (Finset.mem_univ (ix2 (y 0) (y 2)))).trans ?_)
    exact h0 _ _ (show 128 * (y 1).val + (y 2).val = 0 + (y 2).val by omega)

end Data

end Cert.Proof.ScIdeal
end
end
-- ==== Proof.SiOut.lean ====
module

public import Idealize.ShloMosaic.Lib.Pipeline.ValueKit
public import Idealize.ShloMosaic.Lib.WordCmp
public import proofs.«01_k».proof.Proof.SiBase

/-! The transfer of a finished row. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

/-- The row of the output that belongs to probe `p` of query `b`. -/
def outCell (p b : ℕ) : Finset S18x200x1536.Idx := Finset.univ.filter fun x => (x 0).val = p ∧ (x 1).val = b

theorem mem_outCell {p b : ℕ} {x : S18x200x1536.Idx} : x ∈ outCell p b ↔ (x 0).val = p ∧ (x 1).val = b := by
  unfold outCell; rw [Finset.mem_filter]; exact ⟨fun h => h.2, fun h => ⟨Finset.mem_univ _, h⟩⟩

/-- The output's row as the transfer addresses it. -/
abbrev outRow (v19 v21 : BitVec 32) (h : k0_chk197 v19 v21) : Memref sig .scVector .hbm S1536 .f32 :=
  (ouV.slice (Rect.unit (s := S18x200x1536) (k0_off106 v19 v21) S1x1x1536.size (k0_off106_inb v19 v21 h)) (fun _ => rfl)).squeeze S1536 squeezes_S1x1x1536_S1536

theorem off106_eq (v19 v21 : BitVec 32) : k0_off106 v19 v21 = ![v21.toNat, v19.toNat, 0] := rfl

theorem outRow_set (v19 v21 : BitVec 32) (h : k0_chk197 v19 v21) : (outRow v19 v21 h).view.set = outCell v21.toNat v19.toNat := by
  refine (View.set_reshape _ _).trans ((View.set_slice_whole _ _).trans ?_)
  ext y
  rw [mem_outCell]
  refine (Rect.mem_set_unit (s := S18x200x1536)).trans ?_
  rw [off106_eq]
  constructor
  · intro h
    have h0 := h 0; have h1 := h 1
    simp at h0 h1
    omega
  · rintro ⟨h0, h1⟩ q
    match q with
    | 0 => simp; omega
    | 1 => simp; omega
    | 2 => exact ⟨Nat.zero_le _, (y 2).isLt⟩

theorem outRow_emb (v19 v21 : BitVec 32) (h : k0_chk197 v19 v21) (x : S1536.Idx) :
    (outRow v19 v21 h).view.emb x = (ix3 ⟨v21.toNat, by have := h 0; exact this⟩ ⟨v19.toNat, by have := h 1; exact this⟩ (x 0) : S18x200x1536.Idx) := by
  show (Rect.unit (s := S18x200x1536) (k0_off106 v19 v21) S1x1x1536.size (k0_off106_inb v19 v21 h)).emb (Shape.reshapeEquiv _ x) = _
  simp only [pointwise]
  funext a
  match a with
  | 0 => exact Fin.ext (by simp [off106_eq, ix3]; rfl)
  | 1 => exact Fin.ext (by simp [off106_eq, ix3]; rfl)
  | 2 => exact Fin.ext (by simp [off106_eq, ix3]; show 0 + 1 * (x 0).val = (x 0).val; omega)

theorem outRow_write (v19 v21 : BitVec 32) (h : k0_chk197 v19 v21) (ou : S18x200x1536.Idx → F .f32) (w : S1536.Idx → F .f32) (y : S18x200x1536.Idx)
    (hy : y ∈ outCell v21.toNat v19.toNat) :
    (outRow v19 v21 h).view.writes (Elt F) ou [⟨Rect.whole S1536, w⟩] y = w (ix1 (y 2)) := by
  have he : ((outRow v19 v21 h).view.slice (Rect.whole S1536)).emb (ix1 (y 2)) = y := by
    refine (show ((outRow v19 v21 h).view.slice (Rect.whole S1536)).emb (ix1 (y 2)) = (outRow v19 v21 h).view.emb ((Rect.whole S1536).emb (ix1 (y 2))) from rfl).trans ?_
    rw [Rect.emb_whole_apply, outRow_emb]
    obtain ⟨h0, h1⟩ := mem_outCell.1 hy
    funext a
    match a with
    | 0 => exact Fin.ext h0.symm
    | 1 => exact Fin.ext h1.symm
    | 2 => rfl
  exact (congrArg (View.write (Elt F) ((outRow v19 v21 h).view.slice (Rect.whole S1536)) ou w Finset.univ) he.symm).trans
    (View.write_emb_of_mem (Val := Elt F) (v := (outRow v19 v21 h).view.slice (Rect.whole S1536)) (M := Finset.univ) ou w (Finset.mem_univ (ix1 (y 2))))

/-- The transfer of the finished row to the output. -/
def outBody (v19 v21 : BitVec 32) (h197 : k0_chk197 v19 v21) : Prog (TpuEff nD τ sig (Elt F) Λ₀ (.scVector ((L 0).castLE hcore0) ((L 1).castLE hsub0))) (BitVec 32) := do
  Prog.lift (.enqueueDma s3V (.here (outRow v19 v21 h197)) (.dma cc0_scoped6.sem) (Memref.isWhole_whole _).wordExact ((View.wordExact_bits rfl).reshape _ _) ⟨Or.inl rfl, trivial⟩)
  Prog.lift (.waitDma2 cc0_scoped6.sem s3V (outRow v19 v21 h197) (Memref.isWhole_whole _).wordExact ((View.wordExact_bits rfl).reshape _ _))
  pure 0#32

theorem out_trip (O : CellTallies nD τ sig (HIx 1)) (W : Waits sig (HIx 1)) (v19 v21 : BitVec 32) (h197 : k0_chk197 v19 v21) (e3 : Buf (Elt F) (s3V.view.loc (tt d L)))
    (ou : Buf (Elt F) (ouV.view.loc (tt d L))) (G : S18x200x1536.Idx → F .f32)
    (hG : ∀ y ∈ outCell v21.toNat v19.toNat, (show S1536.Idx → F .f32 from e3) (ix1 (y 2)) = G y) :
    iprop(Transfers.MayWaits (tt d L) (default : HIx 1) O ∗ (s3V.view.loc (tt d L) ↦{fullShare} e3) ∗ (ouV.view.loc (tt d L) ↦[outCell v21.toNat v19.toNat]{fullShare} ou)
      ∗ semVal (tt d L, .dma cc0_scoped6.sem) 0 ∗ owes (tt d L) O W : sProp (MM F))
      ⊢ wp frame (wpE (defs₀ (F := F)) 𝒱₀ (tt d L) none) Set.univ (outBody L v19 v21 h197)
          fun _ => iprop(Transfers.MayWaits (tt d L) (default : HIx 1) O ∗ (s3V.view.loc (tt d L) ↦{fullShare} e3) ∗ (ouV.view.loc (tt d L) ↦[outCell v21.toNat v19.toNat]{fullShare} (G : Buf (Elt F) (ouV.view.loc (tt d L))))
      ∗ semVal (tt d L, .dma cc0_scoped6.sem) 0 ∗ owes (tt d L) O (insert (SemLoc.dma cc0_scoped6.sem, (default : HIx 1)) W)) := by
  unfold outBody
  iintro ⟨Hmw, H3, Ho, Hs, HO⟩
  ihave Hr := (show (ouV.view.loc (tt d L) ↦[outCell v21.toNat v19.toNat]{fullShare} ou : sProp (MM F)) ⊢ ((outRow v19 v21 h197).view.loc (tt d L) ↦[(outRow v19 v21 h197).view.set]{fullShare} ou)
    from Entails.of_eq (by rw [outRow_set])) $$ Ho
  sl_exec (disch := exact View.amount_pos _ _ (show 0 < S1536.numel by decide))
  sl_step
  isplitl [Hmw]; · iexact Hmw
  isplitl [H3]; · iexact H3
  isplitl [Hr]
  · iapply (show ((outRow v19 v21 h197).view.loc (tt d L) ↦[(outRow v19 v21 h197).view.set]{fullShare} ((outRow v19 v21 h197).view.writes (Elt F) ou [⟨Rect.whole S1536, out_trip.sl.dma0 d L e3⟩]) : sProp (MM F)) ⊢ (ouV.view.loc (tt d L) ↦[outCell v21.toNat v19.toNat]{fullShare} G)
      from Entails.of_eq (by
        rw [outRow_set]
        exact pointsTo_congr (fun y hy => (outRow_write v19 v21 h197 ou e3 y hy).trans (hG y hy)))) $$ Hr
  isplitl [Hs]; · iexact Hs
  iexact HO

end Cert.Proof.ScIdeal
end
end
-- ==== Proof.SiItem.lean ====
module

public import Idealize.ShloMosaic.Lib.Pipeline.ValueKit
public import Idealize.ShloMosaic.Lib.WordCmp
public import proofs.«01_k».proof.Proof.SiData
public import proofs.«01_k».proof.Proof.SiOut

/-! One work item. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

theorem itemVal_of (cd : S2000x24x1536.Idx → BitVec 32) (tm : S2000x48x256.Idx → BitVec 32) (lu : S200x96x256.Idx → F .f32) (l : Fin 2000) (b : Fin 200) {n N : ℕ}
    {f : S96x2x128.Idx → F .f32} {g : S48x256.Idx → BitVec 32} {e : S24x1536.Idx → BitVec 32}
    (hN : N = n) (hf : f = tabOf lu b) (hg : g = termRow tm l) (he : e = codeRow cd l) : slotRow N (addTab f g) e = itemVal cd tm lu l b n := by
  subst hN hf hg he; rfl

theorem waits_ok (W : Waits sig (HIx 1)) {a b c d e f : SemLoc sig} : ∀ w ∈ insert (f, (default : HIx 1)) (insert (e, (default : HIx 1)) (insert (d, (default : HIx 1))
      (insert (c, (default : HIx 1)) (insert (b, (default : HIx 1)) (insert (a, (default : HIx 1)) W))))), w ∈ W ∨ w.2 = (default : HIx 1) := by
  intro w hw
  simp only [Finset.mem_insert] at hw
  rcases hw with h | h | h | h | h | h | h <;> first | exact .inl h | exact .inr (h ▸ rfl)

theorem owes_ok (O : CellTallies nD τ sig (HIx 1)) (W : Waits sig (HIx 1)) {a b c d' e f : SemLoc sig} :
    (owes (tt d L) O (insert (f, (default : HIx 1)) (insert (e, (default : HIx 1)) (insert (d', (default : HIx 1))
      (insert (c, (default : HIx 1)) (insert (b, (default : HIx 1)) (insert (a, (default : HIx 1)) W)))))) : sProp (MM F))
      ⊢ iprop(∃ W', ⌜∀ w ∈ W', w ∈ W ∨ w.2 = (default : HIx 1)⌝ ∗ owes (tt d L) O W') := by
  iintro H
  iexists _
  isplitr
  rotate_left
  · iexact H
  · ipureintro; exact waits_ok W

/-- One trip of the item loop, its four inner loops left open. -/
def itemBody (LP : (v19 : BitVec 32) → (h3 : k0_chk3 v19) → (v21 : BitVec 32) → k0_chk197 v19 v21 → (v23 : BitVec 32) → k0_chk4 v23 →
    Prog (TpuEff nD τ sig (Elt F) Λ₀ (.scVector ((L 0).castLE hcore0) ((L 1).castLE hsub0))) PUnit) (v5 v7 : BitVec 32) (h1 : k0_chk1 v5 v7) (t : Fin (k0_t1_loop v5 v7).trips) :
    Prog (TpuEff nD τ sig (Elt F) Λ₀ (.scVector ((L 0).castLE hcore0) ((L 1).castLE hsub0))) (BitVec 32) := do
  let ⟨v17, h2, v19, h3, v21, h197, v23, h4⟩ ← k0_part75 L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 v5 v7 h1 1#32 t
  k0_part76 L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 v17 h2 v19 h3
  Prog.lift (.waitDma2 cc0_scoped5.sem ((luV.slice (Rect.unit (s := S200x96x256) (k0_off6 v19) S1x96x128.size (k0_off6_inb v19 h3)) (fun _ => rfl)).squeeze S96x128 squeezes_S1x96x128_S96x128)
    (halfView 1 inb_S96x2x128_S96x1x128_0_1_0) ((View.wordExact_bits rfl).reshape _ _) ((View.wordExact_bits rfl).reshape _ _))
  LP v19 h3 v21 h197 v23 h4
  outBody L v19 v21 h197

theorem body_eq (v5 v7 : BitVec 32) (h1 : k0_chk1 v5 v7) (t : Fin (k0_t1_loop v5 v7).trips) (a : BitVec 32) :
    k0_t1_body (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 (iota .scVector S16 32 [0] iota_S16_d0_w32_scVector) v5 v7 h1 t a
      = itemBody L (fun v19 h3 v21 h197 v23 h4 => itemLoops L (iota .scVector S16 32 [0] iota_S16_d0_w32_scVector) v19 h3 v21 h197 v23 h4) v5 v7 h1 t := rfl

theorem item_trip (LP : (v19 : BitVec 32) → (h3 : k0_chk3 v19) → (v21 : BitVec 32) → k0_chk197 v19 v21 → (v23 : BitVec 32) → k0_chk4 v23 →
    Prog (TpuEff nD τ sig (Elt F) Λ₀ (.scVector ((L 0).castLE hcore0) ((L 1).castLE hsub0))) PUnit)
    (hLP : ∀ (v19 : BitVec 32) (h3 : k0_chk3 v19) (v21 : BitVec 32) (h197 : k0_chk197 v19 v21) (v23 : BitVec 32) (h4 : k0_chk4 v23)
      (hv : v23.toNat ≤ 1536) (e : Buf (Elt F) (s0V.view.loc (tt d L))) (f : Buf (Elt F) (s1V.view.loc (tt d L))) (g : Buf (Elt F) (s2V.view.loc (tt d L)))
      (z : Buf (Elt F) (s3V.view.loc (tt d L))),
      iprop((s0V.view.loc (tt d L) ↦{fullShare} e) ∗ (s1V.view.loc (tt d L) ↦{fullShare} f) ∗ (s2V.view.loc (tt d L) ↦{fullShare} g)
          ∗ (s3V.view.loc (tt d L) ↦{fullShare} z) : sProp (MM F))
        ⊢ wp frame (wpE (defs₀ (F := F)) 𝒱₀ (tt d L) none) Set.univ (LP v19 h3 v21 h197 v23 h4)
            fun _ => iprop((s0V.view.loc (tt d L) ↦{fullShare} e) ∗ (s1V.view.loc (tt d L) ↦{fullShare} (addTab f g : S96x2x128.Idx → F .f32))
              ∗ (s2V.view.loc (tt d L) ↦{fullShare} g)
              ∗ (s3V.view.loc (tt d L) ↦{fullShare} (slotRow v23.toNat (addTab f g) e : S1536.Idx → F .f32))))
    (O : CellTallies nD τ sig (HIx 1)) (W : Waits sig (HIx 1)) (v5 v7 : BitVec 32) (h1 : k0_chk1 v5 v7) (t : Fin (k0_t1_loop v5 v7).trips) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (ou : Buf (Elt F) (ouV.view.loc (tt d L)))
    (k : Fin 3600) (l : Fin 2000) (b : Fin 200) (p : Fin 18) (n : ℕ) (hk : k0_off2 v5 v7 t = ![k.val, 0])
    (hl : ((show S3600x16.Idx → BitVec 32 from me) (ix2 k 0)).toNat = l.val) (hb : ((show S3600x16.Idx → BitVec 32 from me) (ix2 k 1)).toNat = b.val)
    (hp : ((show S3600x16.Idx → BitVec 32 from me) (ix2 k 2)).toNat = p.val) (hn : ((show S3600x16.Idx → BitVec 32 from me) (ix2 k 3)).toNat = n) (hn' : n ≤ 1536)
    (e0 : Buf (Elt F) (s0V.view.loc (tt d L))) (e1 : Buf (Elt F) (s1V.view.loc (tt d L))) (e2 : Buf (Elt F) (s2V.view.loc (tt d L)))
    (e3 : Buf (Elt F) (s3V.view.loc (tt d L))) (e4 : Buf (Elt F) (s4V.view.loc (tt d L))) :
    iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (s0V.view.loc (tt d L) ↦{fullShare} e0) ∗ (s1V.view.loc (tt d L) ↦{fullShare} e1) ∗ (s2V.view.loc (tt d L) ↦{fullShare} e2)
      ∗ (s3V.view.loc (tt d L) ↦{fullShare} e3) ∗ (s4V.view.loc (tt d L) ↦{fullShare} e4)
      ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[outCell p.val b.val]{fullShare} ou) ∗ owes (tt d L) O W : sProp (MM F))
      ⊢ wp frame (wpE (defs₀ (F := F)) 𝒱₀ (tt d L) none) Set.univ
          (itemBody L LP v5 v7 h1 t)
          fun _ => iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (∃ e0, s0V.view.loc (tt d L) ↦{fullShare} e0) ∗ (∃ e1, s1V.view.loc (tt d L) ↦{fullShare} e1) ∗ (∃ e2, s2V.view.loc (tt d L) ↦{fullShare} e2)
      ∗ (∃ e3, s3V.view.loc (tt d L) ↦{fullShare} e3) ∗ (∃ e4, s4V.view.loc (tt d L) ↦{fullShare} e4)
      ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[outCell p.val b.val]{fullShare} (fun y => itemVal cd tm lu l b n (ix1 (y 2)) : S18x200x1536.Idx → F .f32))
      ∗ ∃ W', ⌜∀ w ∈ W', w ∈ W ∨ w.2 = (default : HIx 1)⌝ ∗ owes (tt d L) O W') := by
  have c2 := chk2_of ((congrArg BitVec.toNat (word0 d L e4 _)).trans_lt ((congrArg BitVec.toNat (metaRow_at d L _ (k0_off2_inb v5 v7 h1 t) k hk (fun _ => rfl) me 0)).trans_lt (hl.trans_lt l.isLt)))
  have c3 := chk3_of ((congrArg BitVec.toNat (word1 d L e4 _)).trans_lt ((congrArg BitVec.toNat (metaRow_at d L _ (k0_off2_inb v5 v7 h1 t) k hk (fun _ => rfl) me 1)).trans_lt (hb.trans_lt b.isLt)))
  have c197 := chk197_of ((congrArg BitVec.toNat (word1 d L e4 _)).trans_lt ((congrArg BitVec.toNat (metaRow_at d L _ (k0_off2_inb v5 v7 h1 t) k hk (fun _ => rfl) me 1)).trans_lt (hb.trans_lt b.isLt)))
     ((congrArg BitVec.toNat (word2 d L e4 _)).trans_lt ((congrArg BitVec.toNat (metaRow_at d L _ (k0_off2_inb v5 v7 h1 t) k hk (fun _ => rfl) me 2)).trans_lt (hp.trans_lt p.isLt)))
  have c4 := chk4_of ((congrArg BitVec.toNat (word3 d L e4 _)).trans_le ((congrArg BitVec.toNat (metaRow_at d L _ (k0_off2_inb v5 v7 h1 t) k hk (fun _ => rfl) me 3)).trans_le (hn.trans_le hn')))
  iintro ⟨Hmw, Hcd, Htm, Hlu, Hme, H0, H1, H2, H3, H4, Hs1, Hs2, Hs3, Hs4, Hs5, Hs6, Ho, HO⟩
  unfold itemBody
  sl_unfold [k0_part75, k0_part76]
  sl_exec (disch := first
    | exact View.amount_pos _ _ (show 0 < S16.numel by decide)
    | exact View.amount_pos _ _ (show 0 < S24x1536.numel by decide)
    | exact View.amount_pos _ _ (show 0 < S48x256.numel by decide)
    | exact View.amount_pos _ _ (show 0 < S96x128.numel by decide)
    | exact c2 | exact c3 | exact c197 | exact c4)
  have hv17 : (item_trip.sl.v17 d L v5 v7 h1 t me e4).toNat = l.val := (congrArg BitVec.toNat (word0 d L e4 _)).trans ((congrArg BitVec.toNat (metaRow_at d L _ (k0_off2_inb v5 v7 h1 t) k hk (fun _ => rfl) me 0)).trans hl)
  have hv19 : (item_trip.sl.v19 d L v5 v7 h1 t me e4).toNat = b.val := (congrArg BitVec.toNat (word1 d L e4 _)).trans ((congrArg BitVec.toNat (metaRow_at d L _ (k0_off2_inb v5 v7 h1 t) k hk (fun _ => rfl) me 1)).trans hb)
  have hv21 : (item_trip.sl.v21 d L v5 v7 h1 t me e4).toNat = p.val := (congrArg BitVec.toNat (word2 d L e4 _)).trans ((congrArg BitVec.toNat (metaRow_at d L _ (k0_off2_inb v5 v7 h1 t) k hk (fun _ => rfl) me 2)).trans hp)
  have hv23 : (item_trip.sl.v23 d L v5 v7 h1 t me e4).toNat = n := (congrArg BitVec.toNat (word3 d L e4 _)).trans ((congrArg BitVec.toNat (metaRow_at d L _ (k0_off2_inb v5 v7 h1 t) k hk (fun _ => rfl) me 3)).trans hn)
  have he : View.write (Elt F) s0V.view e0 (item_trip.sl.dma1 d L v5 v7 h1 t cd me e4 c2) Finset.univ = codeRow cd l :=
    (View.write_whole_univ _ _ _).trans (codes_read d L _ _ l (congrArg (fun z => ![z, 0, 0]) hv17) (fun _ => rfl) cd)
  have hg : View.write (Elt F) s2V.view e2 (item_trip.sl.dma1_1 d L v5 v7 h1 t tm me e4 c2) Finset.univ = termRow tm l :=
    (View.write_whole_univ _ _ _).trans (terms_read d L _ _ l (congrArg (fun z => ![z, 0, 0]) hv17) (fun _ => rfl) tm)
  have hf : View.write (Elt F) (halfView 1 inb_S96x2x128_S96x1x128_0_1_0).view (View.write (Elt F) (halfView 0 inb_S96x2x128_S96x1x128_0_0_0).view e1
      (item_trip.sl.dma1_2 d L v5 v7 h1 t lu me e4 c3) Finset.univ) (item_trip.sl.dma1_3 d L v5 v7 h1 t lu me e4 c3) Finset.univ = tabOf lu b :=
    table_write _ _ e1 _ _ lu b
      (fun x i hi => half_read d L _ _ b 0 (by decide) (congrArg (fun z => ![z, 0, 0]) hv19) (fun _ => rfl) lu x i hi)
      (fun x i hi => half_read d L _ _ b 128 (by decide) (congrArg (fun z => ![z, 0, 128]) hv19) (fun _ => rfl) lu x i hi)
  rw [wp_bind]
  iapply (wp_wand_r Idealize.ShloMosaic.frame (wpE (defs₀ (F := F)) 𝒱₀ (tt d L) none) Set.univ)
  isplitl [H0 H1 H2 H3]
  · iapply (hLP (item_trip.sl.v19 d L v5 v7 h1 t me e4) c3 (item_trip.sl.v21 d L v5 v7 h1 t me e4) c197 (item_trip.sl.v23 d L v5 v7 h1 t me e4) c4 (hv23.trans_le hn') _ _ _ _)
    isplitl [H0]; · iexact H0
    isplitl [H1]; · iexact H1
    isplitl [H2]; · iexact H2
    iexact H3
  iintro %_ ⟨H0, H1, H2, H3⟩
  iapply (wp_wand_r Idealize.ShloMosaic.frame (wpE (defs₀ (F := F)) 𝒱₀ (tt d L) none) Set.univ)
  isplitl [Hmw H3 Ho Hs6 HO]
  · iapply (out_trip d L O _ (item_trip.sl.v19 d L v5 v7 h1 t me e4) (item_trip.sl.v21 d L v5 v7 h1 t me e4) c197 _ ou (fun y => itemVal cd tm lu l b n (ix1 (y 2)))
      (fun y _ => congrFun (itemVal_of cd tm lu l b hv23 hf hg he) (ix1 (y 2))))
    isplitl [Hmw]; · iexact Hmw
    isplitl [H3]; · iexact H3
    isplitl [Ho]
    · iapply (Entails.of_eq (congrArg₂ (fun x y => (ouV.view.loc (tt d L) ↦[outCell x y]{fullShare} ou : sProp (MM F))) hv21.symm hv19.symm)); iexact Ho
    isplitl [Hs6]; · iexact Hs6
    iexact HO
  iintro %_ ⟨Hmw, H3, Ho, Hs6, HO⟩
  isplitl [Hmw]; · iexact Hmw
  isplitl [Hcd]; · iexact Hcd
  isplitl [Htm]; · iexact Htm
  isplitl [Hlu]; · iexact Hlu
  isplitl [Hme]; · iexact Hme
  isplitl [H0]; · iexists _; iexact H0
  isplitl [H1]; · iexists _; iexact H1
  isplitl [H2]; · iexists _; iexact H2
  isplitl [H3]; · iexists _; iexact H3
  isplitl [H4]; · iexists _; iexact H4
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Ho]
  · iapply (Entails.of_eq (congrArg₂ (fun x y => (ouV.view.loc (tt d L) ↦[outCell x y]{fullShare}
      (fun y => itemVal cd tm lu l b n (ix1 (y 2)) : S18x200x1536.Idx → F .f32) : sProp (MM F))) hv21 hv19)); iexact Ho
  ihave HO' := (owes_ok d L O W) $$ HO
  iexact HO'

end Cert.Proof.ScIdeal
end
end
-- ==== Proof.SiWork.lean ====
module

public import Idealize.ShloMosaic.Lib.Pipeline.ValueKit
public import Idealize.ShloMosaic.Lib.WordCmp
public import Idealize.ShloMosaic.Lib.LoopRemainder
public import proofs.«01_k».proof.Proof.SiData
public import proofs.«01_k».proof.Proof.SiOut

/-! The work list. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The item loop runs from the one word to the other by steps of one. -/
theorem t1_loop_eq (v5 v7 : BitVec 32) : k0_t1_loop v5 v7 = ⟨v5, v7, 1#32⟩ := by
  show (⟨v5, Scalar.addi v5 (Scalar.muli (Scalar.divsi (Scalar.subi v7 v5) 1#32) 1#32), 1#32⟩ : Scf.Loop 32) = _
  rw [Scalar.muli_divsi_one]
  have h : Scalar.addi v5 (Scalar.subi v7 v5) = v7 := by
    show v5 + (v7 - v5) = v7
    rw [BitVec.add_comm, BitVec.sub_add_cancel]
  rw [h]

theorem toInt_small {v : BitVec 32} (h : v.toNat ≤ 3600) : v.toInt = v.toNat := by
  rw [BitVec.toInt_eq_toNat_cond]; exact if_pos (by omega)

theorem one_toInt : (1#32 : BitVec 32).toInt = 1 := by decide

theorem t1_trips {v5 v7 : BitVec 32} (h : v5.toNat ≤ v7.toNat) (h7 : v7.toNat ≤ 3600) : (k0_t1_loop v5 v7).trips = v7.toNat - v5.toNat := by
  rw [t1_loop_eq]
  show Scf.trips v5 v7 1#32 = _
  unfold Scf.trips
  rw [toInt_small h7, toInt_small (h.trans h7), one_toInt]
  omega

theorem t1_OK {v5 v7 : BitVec 32} (h : v5.toNat ≤ v7.toNat) (h7 : v7.toNat ≤ 3600) : (k0_t1_loop v5 v7).OK := by
  have ht := t1_trips h h7
  rw [t1_loop_eq] at ht ⊢
  show Scf.OK v5 v7 1#32
  have ht' : Scf.trips v5 v7 1#32 = v7.toNat - v5.toNat := ht
  unfold Scf.OK
  rw [ht', toInt_small (h.trans h7), one_toInt]
  constructor
  · omega
  · norm_num; omega

theorem t6_trips (v5 v7 : BitVec 32) : (k0_t6_loop v5 v7).trips = 0 := Scf.rem_trips v5 (Scalar.subi v7 v5)

theorem off2_eq {v5 v7 : BitVec 32} (h : v5.toNat ≤ v7.toNat) (h7 : v7.toNat ≤ 3600) (t : Fin (k0_t1_loop v5 v7).trips) :
    k0_off2 v5 v7 t = ![v5.toNat + t.val, 0] := by
  have ht := t.isLt
  have ht := ht.trans_eq (t1_trips h h7)
  show ![(Scf.iv v5 1#32 t.val).toNat, 0] = _
  have : (Scf.iv v5 1#32 t.val).toNat = v5.toNat + t.val := by
    unfold Scf.iv
    rw [BitVec.mul_one, BitVec.toNat_add, BitVec.toNat_ofNat]
    omega
  rw [this]

theorem chk1_of {v5 v7 : BitVec 32} (h : v5.toNat ≤ v7.toNat) (h7 : v7.toNat ≤ 3600) : k0_chk1 v5 v7 := by
  refine ⟨t1_OK h h7, fun t a => ?_, Scf.rem_ok v5 (Scalar.subi v7 v5), fun t => (Scf.rem_no_trip v5 (Scalar.subi v7 v5) t).elim⟩
  have ht := t.isLt
  have ht := ht.trans_eq (t1_trips h h7)
  rw [off2_eq h h7]
  match a with
  | 0 => show v5.toNat + t.val + 1 ≤ 3600; omega
  | 1 => exact le_of_eq rfl

/-! ## The work list -/

/-- What the work list says: row `k` is one probe of one query, its list and that list's length; no probe appears twice; the
    tasks' ranges follow one another from the first row to the last. -/
structure Work (pr : S200x18.Idx → BitVec 32) (ln : S2000.Idx → BitVec 32) (me : S3600x16.Idx → BitVec 32) (st : S32x16.Idx → BitVec 32) : Prop where
  l_lt : ∀ k : Fin 3600, (me (ix2 k 0)).toNat < 2000
  b_lt : ∀ k : Fin 3600, (me (ix2 k 1)).toNat < 200
  p_lt : ∀ k : Fin 3600, (me (ix2 k 2)).toNat < 18
  n_le : ∀ k : Fin 3600, (me (ix2 k 3)).toNat ≤ 1536
  probe : ∀ (k : Fin 3600) (b : Fin 200) (p : Fin 18), (me (ix2 k 1)).toNat = b.val → (me (ix2 k 2)).toNat = p.val → me (ix2 k 0) = pr (ix2 b p)
  len : ∀ (k : Fin 3600) (l : Fin 2000), (me (ix2 k 0)).toNat = l.val → me (ix2 k 3) = ln (ix1 l)
  once : ∀ k k' : Fin 3600, (me (ix2 k 1)).toNat = (me (ix2 k' 1)).toNat → (me (ix2 k 2)).toNat = (me (ix2 k' 2)).toNat → k = k'
  first : (st (ix2 0 0)).toNat = 0
  last : (st (ix2 31 1)).toNat = 3600
  mono : ∀ w : Fin 32, (st (ix2 w 0)).toNat ≤ (st (ix2 w 1)).toNat
  chain : ∀ w w' : Fin 32, w.val + 1 = w'.val → st (ix2 w 1) = st (ix2 w' 0)

variable {pr : S200x18.Idx → BitVec 32} {ln : S2000.Idx → BitVec 32} {me : S3600x16.Idx → BitVec 32} {st : S32x16.Idx → BitVec 32}

/-- A later task begins where or after an earlier one ends. -/
theorem Work.after (h : Work pr ln me st) : ∀ (j : ℕ) (w w' : Fin 32), w.val + 1 + j = w'.val → (st (ix2 w 1)).toNat ≤ (st (ix2 w' 0)).toNat
  | 0, w, w', e => le_of_eq (congrArg BitVec.toNat (h.chain w w' e))
  | j + 1, w, w', e => by
    have hl : w'.val - 1 < 32 := by have := w'.isLt; omega
    have i := h.after j w ⟨w'.val - 1, hl⟩ (show w.val + 1 + j = w'.val - 1 by omega)
    exact i.trans ((h.mono _).trans (le_of_eq (congrArg BitVec.toNat (h.chain ⟨w'.val - 1, hl⟩ w' (show w'.val - 1 + 1 = w'.val by omega)))))

theorem Work.hi_le (h : Work pr ln me st) (w : Fin 32) : (st (ix2 w 1)).toNat ≤ 3600 := by
  by_cases hw : w = 31
  · subst hw; exact h.last.le
  · have : w.val < 31 := by have := w.isLt; have : w.val ≠ 31 := fun e => hw (Fin.ext e); omega
    exact (h.after (30 - w.val) w 31 (show w.val + 1 + (30 - w.val) = 31 by omega)).trans ((h.mono 31).trans h.last.le)

/-- Every row below a task's end belongs to that task or an earlier one. -/
theorem Work.cover (h : Work pr ln me st) (k : ℕ) : ∀ (j : ℕ) (w : Fin 32), w.val = j → k < (st (ix2 w 1)).toNat →
    ∃ w' : Fin 32, (st (ix2 w' 0)).toNat ≤ k ∧ k < (st (ix2 w' 1)).toNat
  | 0, w, e, hk => ⟨w, by rw [show w = 0 from Fin.ext e, h.first]; exact Nat.zero_le _, hk⟩
  | j + 1, w, e, hk => by
    by_cases hlo : (st (ix2 w 0)).toNat ≤ k
    · exact ⟨w, hlo, hk⟩
    · have hl : j < 32 := by have := w.isLt; omega
      exact h.cover k j ⟨j, hl⟩ rfl (by rw [h.chain ⟨j, hl⟩ w e.symm]; omega)

open Classical in
/-- The output's elements that the work items from `lo` to `hi` write. -/
def cells (me : S3600x16.Idx → BitVec 32) (lo hi : ℕ) : Finset S18x200x1536.Idx :=
  Finset.univ.filter fun y => ∃ k : Fin 3600, lo ≤ k.val ∧ k.val < hi ∧ (me (ix2 k 2)).toNat = (y 0).val ∧ (me (ix2 k 1)).toNat = (y 1).val

theorem mem_cells {lo hi : ℕ} {y : S18x200x1536.Idx} :
    y ∈ cells me lo hi ↔ ∃ k : Fin 3600, lo ≤ k.val ∧ k.val < hi ∧ (me (ix2 k 2)).toNat = (y 0).val ∧ (me (ix2 k 1)).toNat = (y 1).val := by
  unfold cells; rw [Finset.mem_filter]; exact ⟨fun h => h.2, fun h => ⟨Finset.mem_univ _, h⟩⟩

theorem cells_self (lo : ℕ) : cells me lo lo = ∅ :=
  Finset.eq_empty_of_forall_notMem fun y h => by obtain ⟨k, h1, h2, _⟩ := mem_cells.1 h; omega

theorem cells_first {lo hi : ℕ} (k : Fin 3600) (hk : k.val = lo) (hlt : lo < hi) :
    cells me lo hi = outCell (me (ix2 k 2)).toNat (me (ix2 k 1)).toNat ∪ cells me (lo + 1) hi := by
  ext y
  rw [Finset.mem_union, mem_cells, mem_cells, mem_outCell]
  constructor
  · rintro ⟨k', h1, h2, h3, h4⟩
    by_cases e : k' = k
    · subst e; exact .inl ⟨h3.symm, h4.symm⟩
    · have : k'.val ≠ k.val := fun h => e (Fin.ext h)
      exact .inr ⟨k', by omega, h2, h3, h4⟩
  · rintro (⟨h1, h2⟩ | ⟨k', h1, h2, h3, h4⟩)
    · exact ⟨k, hk.ge, by omega, h1.symm, h2.symm⟩
    · exact ⟨k', by omega, h2, h3, h4⟩

theorem cells_last {lo : ℕ} (k : Fin 3600) (hk : lo ≤ k.val) :
    cells me lo (k.val + 1) = cells me lo k.val ∪ outCell (me (ix2 k 2)).toNat (me (ix2 k 1)).toNat := by
  ext y
  rw [Finset.mem_union, mem_cells, mem_cells, mem_outCell]
  constructor
  · rintro ⟨k', h1, h2, h3, h4⟩
    by_cases e : k' = k
    · subst e; exact .inr ⟨h3.symm, h4.symm⟩
    · have : k'.val ≠ k.val := fun h => e (Fin.ext h)
      exact .inl ⟨k', h1, by omega, h3, h4⟩
  · rintro (⟨k', h1, h2, h3, h4⟩ | ⟨h1, h2⟩)
    · exact ⟨k', h1, by omega, h3, h4⟩
    · exact ⟨k, hk, by omega, h1.symm, h2.symm⟩

theorem Work.cell_off (h : Work pr ln me st) {lo hi : ℕ} (k : Fin 3600) (hk : k.val < lo ∨ hi ≤ k.val) :
    Disjoint (outCell (me (ix2 k 2)).toNat (me (ix2 k 1)).toNat) (cells me lo hi) := by
  rw [Finset.disjoint_left]
  intro y hy hy'
  obtain ⟨h1, h2⟩ := mem_outCell.1 hy
  obtain ⟨k', h3, h4, h5, h6⟩ := mem_cells.1 hy'
  have := h.once k k' (h2.symm.trans h6.symm) (h1.symm.trans h5.symm)
  subst this
  omega

theorem Work.cells_off (h : Work pr ln me st) {lo hi lo' hi' : ℕ} (hk : hi ≤ lo') : Disjoint (cells me lo hi) (cells me lo' hi') := by
  rw [Finset.disjoint_left]
  intro y hy hy'
  obtain ⟨k, h1, h2, h3, h4⟩ := mem_cells.1 hy
  obtain ⟨k', h5, h6, h7, h8⟩ := mem_cells.1 hy'
  have := h.once k k' (h4.trans h8.symm) (h3.trans h7.symm)
  subst this
  omega

/-- Every element of the output belongs to some work item. -/
theorem Work.cells_all (h : Work pr ln me st) : cells me 0 3600 = Finset.univ := by
  refine Finset.eq_univ_of_forall fun y => mem_cells.2 ?_
  let f : Fin 3600 → Fin 18 × Fin 200 := fun k => (⟨_, h.p_lt k⟩, ⟨_, h.b_lt k⟩)
  have hf : Function.Injective f := fun k k' e => h.once k k' (congrArg (fun z => z.2.val) e) (congrArg (fun z => z.1.val) e)
  have hb : Function.Bijective f := (Fintype.bijective_iff_injective_and_card f).2 ⟨hf, by simp⟩
  obtain ⟨k, hk⟩ := hb.2 (y 0, y 1)
  exact ⟨k, Nat.zero_le _, k.isLt, congrArg (fun z => z.1.val) hk, congrArg (fun z => z.2.val) hk⟩

/-- The output: the row of the probed list's slots for that query. -/
def outVal (cd : S2000x24x1536.Idx → BitVec 32) (tm : S2000x48x256.Idx → BitVec 32) (lu : S200x96x256.Idx → F .f32)
    (pr : S200x18.Idx → BitVec 32) (ln : S2000.Idx → BitVec 32) (y : S18x200x1536.Idx) : F .f32 :=
  itemVal cd tm lu ⟨(pr (ix2 (y 1) (y 0))).toNat % 2000, Nat.mod_lt _ (by decide)⟩ (y 1)
    (ln (ix1 ⟨(pr (ix2 (y 1) (y 0))).toNat % 2000, Nat.mod_lt _ (by decide)⟩)).toNat (ix1 (y 2))

theorem Work.outVal_at (h : Work pr ln me st) (cd : S2000x24x1536.Idx → BitVec 32) (tm : S2000x48x256.Idx → BitVec 32) (lu : S200x96x256.Idx → F .f32)
    (k : Fin 3600) (y : S18x200x1536.Idx) (hy : y ∈ outCell (me (ix2 k 2)).toNat (me (ix2 k 1)).toNat) :
    itemVal cd tm lu ⟨_, h.l_lt k⟩ ⟨_, h.b_lt k⟩ (me (ix2 k 3)).toNat (ix1 (y 2)) = outVal cd tm lu pr ln y := by
  obtain ⟨h1, h2⟩ := mem_outCell.1 hy
  have hp := h.probe k (y 1) (y 0) h2.symm h1.symm
  have hl : (⟨(pr (ix2 (y 1) (y 0))).toNat % 2000, Nat.mod_lt _ (by decide)⟩ : Fin 2000) = ⟨(me (ix2 k 0)).toNat, h.l_lt k⟩ := by
    apply Fin.ext
    show (pr (ix2 (y 1) (y 0))).toNat % 2000 = (me (ix2 k 0)).toNat
    rw [← hp]; exact Nat.mod_eq_of_lt (h.l_lt k)
  have hn := h.len k ⟨(me (ix2 k 0)).toNat, h.l_lt k⟩ rfl
  have hb : (⟨(me (ix2 k 1)).toNat, h.b_lt k⟩ : Fin 200) = y 1 := Fin.ext h2.symm
  unfold outVal
  rw [hl, ← hn, hb]

end Cert.Proof.ScIdeal
end
end
-- ==== Proof.SiTile.lean ====
module

public import Idealize.ShloMosaic.Lib.Pipeline.ValueKit
public import Idealize.ShloMosaic.Lib.WordCmp
public import Idealize.ShloMosaic.Lib.LoopRemainder
public import proofs.«01_k».proof.Proof.SiItem
public import proofs.«01_k».proof.Proof.SiWork

/-! One task of the gather kernel. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (L : grid0.Coords)

theorem startRow_at (off : Fin 2 → ℕ) (inb : ∀ a, off a + S1x16.size a ≤ S32x16.size a) (w : Fin 32) (ho : off = ![w.val, 0]) (hf)
    (st : Buf (Elt F) (stV.view.loc (tt d L))) (j : Fin 16) :
    View.read (Elt F) ((stV.slice (Rect.unit (s := S32x16) off S1x16.size inb) hf).squeeze S16 squeezes_S1x16_S16).view st (ix1 j)
      = (show S32x16.Idx → BitVec 32 from st) (ix2 w j) := by
  subst ho
  show st ((Rect.unit (s := S32x16) ![w.val, 0] S1x16.size inb).emb (Shape.reshapeEquiv _ (ix1 j))) = _
  simp only [pointwise]
  refine congrArg st (funext fun a => ?_)
  match a with
  | 0 => exact Fin.ext (by simp [ix2])
  | 1 => exact Fin.ext (by simp [ix2])

theorem start0 (e5 : Buf (Elt F) (s5V.view.loc (tt d L))) (P : S16.Idx → BitVec 32) :
    extractAt ![0] (k0_pay1 (F := F) (View.readAt (Elt F) s5V.view (Rect.unit (s := S16) ![0] S16.size inb_S16_S16_0).toLoadRect
      (View.write (Elt F) s5V.view e5 P Finset.univ))) inpos_S1_p0 = P (ix1 0) := by
  rw [show View.write (Elt F) s5V.view e5 P Finset.univ = P from View.write_whole_univ _ _ _]
  show (View.readAt (Elt F) s5V.view (Rect.unit (s := S16) ![0] S16.size inb_S16_S16_0).toLoadRect P) _ = _
  refine congrArg P (funext fun a => ?_)
  match a with
  | 0 => rfl
theorem start1 (e5 : Buf (Elt F) (s5V.view.loc (tt d L))) (P : S16.Idx → BitVec 32) :
    extractAt ![0] (k0_pay2 (F := F) (View.readAt (Elt F) s5V.view (Rect.unit (s := S16) ![0] S16.size inb_S16_S16_0).toLoadRect
      (View.write (Elt F) s5V.view e5 P Finset.univ))) inpos_S1_p0 = P (ix1 1) := by
  rw [show View.write (Elt F) s5V.view e5 P Finset.univ = P from View.write_whole_univ _ _ _]
  show (View.readAt (Elt F) s5V.view (Rect.unit (s := S16) ![0] S16.size inb_S16_S16_0).toLoadRect P) _ = _
  refine congrArg P (funext fun a => ?_)
  match a with
  | 0 => rfl

theorem L0_lt : (L 0).val < 2 := (L 0).isLt
theorem L1_lt : (L 1).val < 16 := (L 1).isLt
/-- The task's number among the thirty-two. -/
def wid (L : grid0.Coords) : Fin 32 := ⟨2 * (L 1).val + (L 0).val, by have := L0_lt L; have := L1_lt L; omega⟩

theorem off1_eq : k0_off1 L = ![(wid L).val, 0] := by
  have h0 := L0_lt L; have h1 := L1_lt L
  show ![(BitVec.ofNat 32 (L 1).val * 2#32 + BitVec.ofNat 32 (L 0).val).toNat, 0] = _
  have : (BitVec.ofNat 32 (L 1).val * 2#32 + BitVec.ofNat 32 (L 0).val).toNat = (wid L).val := by
    rw [BitVec.toNat_add, BitVec.toNat_mul, BitVec.toNat_ofNat, BitVec.toNat_ofNat, BitVec.toNat_ofNat]
    show _ = 2 * (L 1).val + (L 0).val
    omega
  rw [this]

/-- What the item loop keeps: before its `n`-th trip, the items before the `n`-th are written and the others are not. -/
def tinv (O : CellTallies nD τ sig (HIx 1)) (W : Waits sig (HIx 1)) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (ou : Buf (Elt F) (ouV.view.loc (tt d L)))
    (pr : S200x18.Idx → BitVec 32) (ln : S2000.Idx → BitVec 32) (lo hi n : ℕ) : sProp (MM F) :=
  iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (∃ e0, s0V.view.loc (tt d L) ↦{fullShare} e0) ∗ (∃ e1, s1V.view.loc (tt d L) ↦{fullShare} e1) ∗ (∃ e2, s2V.view.loc (tt d L) ↦{fullShare} e2)
      ∗ (∃ e3, s3V.view.loc (tt d L) ↦{fullShare} e3) ∗ (∃ e4, s4V.view.loc (tt d L) ↦{fullShare} e4)
      ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[cells (show S3600x16.Idx → BitVec 32 from me) lo (lo + n)]{fullShare} (outVal cd tm lu pr ln : S18x200x1536.Idx → F .f32))
      ∗ (ouV.view.loc (tt d L) ↦[cells (show S3600x16.Idx → BitVec 32 from me) (lo + n) hi]{fullShare} ou)
      ∗ ∃ W', ⌜∀ w ∈ W', w ∈ W ∨ w.2 = (default : HIx 1)⌝ ∗ owes (tt d L) O W')

theorem tile_step (O : CellTallies nD τ sig (HIx 1)) (W : Waits sig (HIx 1)) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (ou : Buf (Elt F) (ouV.view.loc (tt d L)))
    (pr : S200x18.Idx → BitVec 32) (ln : S2000.Idx → BitVec 32) (st : S32x16.Idx → BitVec 32) (hW : Work pr ln me st)
    (v5 v7 : BitVec 32) (h : v5.toNat ≤ v7.toNat) (h7 : v7.toNat ≤ 3600) (h1 : k0_chk1 v5 v7) (t : Fin (k0_t1_loop v5 v7).trips) (a : BitVec 32) :
    tinv d L O W q cd tm lu me ou pr ln v5.toNat v7.toNat t.val
      ⊢ wp frame (wpE (defs₀ (F := F)) 𝒱₀ (tt d L) none) Set.univ
          (k0_t1_body (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 (iota .scVector S16 32 [0] iota_S16_d0_w32_scVector) v5 v7 h1 t a)
          fun _ => tinv d L O W q cd tm lu me ou pr ln v5.toNat v7.toNat (t.val + 1) := by
  have ht : t.val < v7.toNat - v5.toNat := t.isLt.trans_eq (t1_trips h h7)
  obtain ⟨k, hk⟩ : ∃ k : Fin 3600, k.val = v5.toNat + t.val := ⟨⟨v5.toNat + t.val, by omega⟩, rfl⟩
  have hfirst := cells_first (me := me) (lo := v5.toNat + t.val) (hi := v7.toNat) k hk (by omega)
  have hlast := cells_last (me := me) (lo := v5.toNat) k (by omega)
  have hd1 := hW.cell_off (lo := v5.toNat + t.val + 1) (hi := v7.toNat) k (by omega)
  have hd2 := (hW.cell_off (lo := v5.toNat) (hi := k.val) k (by omega)).symm
  rw [hk] at hlast hd2
  rw [body_eq]
  unfold tinv
  iintro ⟨Hmw, Hcd, Htm, Hlu, Hme, ⟨%e0, H0⟩, ⟨%e1, H1⟩, ⟨%e2, H2⟩, ⟨%e3, H3⟩, ⟨%e4, H4⟩, Hs1, Hs2, Hs3, Hs4, Hs5, Hs6, Hd, Hr, ⟨%W1, %hW1, HO⟩⟩
  ihave Hr1 := (Entails.of_eq (congrArg (fun S => (ouV.view.loc (tt d L) ↦[S]{fullShare} ou : sProp (MM F))) hfirst)) $$ Hr
  ihave Hr2 := (pointsTo_union hd1).1 $$ Hr1
  icases Hr2 with ⟨Hc, Hr⟩
  iapply (wp_wand_r Idealize.ShloMosaic.frame (wpE (defs₀ (F := F)) 𝒱₀ (tt d L) none) Set.univ)
  isplitl [Hmw Hcd Htm Hlu Hme H0 H1 H2 H3 H4 Hs1 Hs2 Hs3 Hs4 Hs5 Hs6 Hc HO]
  · iapply (item_trip d L (fun v19 h3 v21 h197 v23 h4 => itemLoops L (iota .scVector S16 32 [0] iota_S16_d0_w32_scVector) v19 h3 v21 h197 v23 h4)
      (fun v19 h3 v21 h197 v23 h4 hv e f g z => loops_trip d L v19 h3 v21 h197 v23 h4 hv e f g z) O W1 v5 v7 h1 t q cd tm lu me ou k
      ⟨_, hW.l_lt k⟩ ⟨_, hW.b_lt k⟩ ⟨_, hW.p_lt k⟩ _ ((off2_eq h h7 t).trans (congrArg (fun z => ![z, 0]) hk.symm)) rfl rfl rfl rfl (hW.n_le k) e0 e1 e2 e3 e4)
    isplitl [Hmw]; · iexact Hmw
    isplitl [Hcd]; · iexact Hcd
    isplitl [Htm]; · iexact Htm
    isplitl [Hlu]; · iexact Hlu
    isplitl [Hme]; · iexact Hme
    isplitl [H0]; · iexact H0
    isplitl [H1]; · iexact H1
    isplitl [H2]; · iexact H2
    isplitl [H3]; · iexact H3
    isplitl [H4]; · iexact H4
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hc]; · iexact Hc
    iexact HO
  iintro %_ ⟨Hmw, Hcd, Htm, Hlu, Hme, H0, H1, H2, H3, H4, Hs1, Hs2, Hs3, Hs4, Hs5, Hs6, Hc, ⟨%W2, %hW2, HO⟩⟩
  ihave Hc1 := (Entails.of_eq (pointsTo_congr (g := (outVal cd tm lu pr ln : S18x200x1536.Idx → F .f32)) fun y hy => hW.outVal_at cd tm lu k y hy)) $$ Hc
  ihave Hd1 := (pointsTo_union (ℓ := ouV.view.loc (tt d L)) (q := fullShare) (f := (outVal cd tm lu pr ln : S18x200x1536.Idx → F .f32)) hd2).2 $$ [Hd Hc1]
  · isplitl [Hd]; · iexact Hd
    iexact Hc1
  ihave Hd2 := (Entails.of_eq (congrArg (fun S => (ouV.view.loc (tt d L) ↦[S]{fullShare} (outVal cd tm lu pr ln : S18x200x1536.Idx → F .f32) : sProp (MM F))) hlast.symm)) $$ Hd1
  isplitl [Hmw]; · iexact Hmw
  isplitl [Hcd]; · iexact Hcd
  isplitl [Htm]; · iexact Htm
  isplitl [Hlu]; · iexact Hlu
  isplitl [Hme]; · iexact Hme
  isplitl [H0]; · iexact H0
  isplitl [H1]; · iexact H1
  isplitl [H2]; · iexact H2
  isplitl [H3]; · iexact H3
  isplitl [H4]; · iexact H4
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hd2]; · iexact Hd2
  isplitl [Hr]; · iexact Hr
  iexists W2
  isplitr
  · ipureintro; exact fun w hw => (hW2 w hw).elim (hW1 w) .inr
  · iexact HO

/-- One task: from its range of the work list, the output rows of its items. -/
theorem tile (O : CellTallies nD τ sig (HIx 1)) (W : Waits sig (HIx 1)) (q : PosShare TreeShare) (cd : Buf (Elt F) (cdV.view.loc (tt d L))) (tm : Buf (Elt F) (tmV.view.loc (tt d L)))
    (lu : Buf (Elt F) (luV.view.loc (tt d L))) (me : Buf (Elt F) (meV.view.loc (tt d L))) (st : Buf (Elt F) (stV.view.loc (tt d L))) (ou : Buf (Elt F) (ouV.view.loc (tt d L)))
    (pr : S200x18.Idx → BitVec 32) (ln : S2000.Idx → BitVec 32) (hW : Work pr ln me st) (lo hi : ℕ)
    (hlo : ((show S32x16.Idx → BitVec 32 from st) (ix2 (wid L) 0)).toNat = lo) (hhi : ((show S32x16.Idx → BitVec 32 from st) (ix2 (wid L) 1)).toNat = hi)
    (e0 : Buf (Elt F) (s0V.view.loc (tt d L))) (e1 : Buf (Elt F) (s1V.view.loc (tt d L))) (e2 : Buf (Elt F) (s2V.view.loc (tt d L)))
    (e3 : Buf (Elt F) (s3V.view.loc (tt d L))) (e4 : Buf (Elt F) (s4V.view.loc (tt d L))) (e5 : Buf (Elt F) (s5V.view.loc (tt d L))) :
    iprop(Transfers.MayWaits (tt d L) (default : HIx 1) O ∗ (cdV.view.loc (tt d L) ↦{q} cd) ∗ (tmV.view.loc (tt d L) ↦{q} tm) ∗ (luV.view.loc (tt d L) ↦{q} lu) ∗ (meV.view.loc (tt d L) ↦{q} me)
      ∗ (stV.view.loc (tt d L) ↦{q} st)
      ∗ (s0V.view.loc (tt d L) ↦{fullShare} e0) ∗ (s1V.view.loc (tt d L) ↦{fullShare} e1) ∗ (s2V.view.loc (tt d L) ↦{fullShare} e2)
      ∗ (s3V.view.loc (tt d L) ↦{fullShare} e3) ∗ (s4V.view.loc (tt d L) ↦{fullShare} e4) ∗ (s5V.view.loc (tt d L) ↦{fullShare} e5)
      ∗ semVal (tt d L, .dma cc0_scoped0.sem) 0 ∗ semVal (tt d L, .dma cc0_scoped1.sem) 0 ∗ semVal (tt d L, .dma cc0_scoped2.sem) 0 ∗ semVal (tt d L, .dma cc0_scoped3.sem) 0
      ∗ semVal (tt d L, .dma cc0_scoped4.sem) 0 ∗ semVal (tt d L, .dma cc0_scoped5.sem) 0 ∗ semVal (tt d L, .dma cc0_scoped6.sem) 0
      ∗ (ouV.view.loc (tt d L) ↦[cells (show S3600x16.Idx → BitVec 32 from me) lo hi]{fullShare} ou) ∗ owes (tt d L) O W : sProp (MM F))
      ⊢ wp frame (wpE (defs₀ (F := F)) 𝒱₀ (tt d L) none) Set.univ
          (cc0_gather_sc (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop((stV.view.loc (tt d L) ↦{q} st) ∗ (∃ e5, s5V.view.loc (tt d L) ↦{fullShare} e5) ∗ semVal (tt d L, .dma cc0_scoped0.sem) 0
            ∗ tinv d L O W q cd tm lu me ou pr ln lo hi (hi - lo)) := by
  have w0 := congrArg BitVec.toNat ((start0 d L e5 _).trans (startRow_at d L _ (k0_off1_inb L) (wid L) (off1_eq L) (fun _ => rfl) st 0))
  have w1 := congrArg BitVec.toNat ((start1 d L e5 _).trans (startRow_at d L _ (k0_off1_inb L) (wid L) (off1_eq L) (fun _ => rfl) st 1))
  have hle := (w0.trans_le (hW.mono (wid L))).trans_eq w1.symm
  have hle7 := w1.trans_le (hW.hi_le (wid L))
  have c1 := chk1_of hle hle7
  iintro ⟨Hmw, Hcd, Htm, Hlu, Hme, Hst, H0, H1, H2, H3, H4, H5, Hs0, Hs1, Hs2, Hs3, Hs4, Hs5, Hs6, Ho, HO⟩
  rw [cc0_gather_sc_eq_skeleton]
  sl_unfold [cc0_gather_sc_skel]
  sl_exec (disch := first
    | exact View.amount_pos _ _ (show 0 < S16.numel by decide)
    | exact c1)
  have hv5 : (tile.sl.v5 d L st e5).toNat = lo := w0.trans hlo
  have hv7 : (tile.sl.v7 d L st e5).toNat = hi := w1.trans hhi
  sl_for (fun (n : ℕ) (_ : BitVec 32) => tinv d L O W q cd tm lu me ou pr ln (tile.sl.v5 d L st e5).toNat (tile.sl.v7 d L st e5).toNat n) $$ [Hmw Hcd Htm Hlu Hme H0 H1 H2 H3 H4 Hs1 Hs2 Hs3 Hs4 Hs5 Hs6 Ho HO]
  case region =>
    intro t a
    exact tile_step d L O W q cd tm lu me ou pr ln st hW (tile.sl.v5 d L st e5) (tile.sl.v7 d L st e5) hle hle7 _ t a
  · unfold tinv
    isplitl [Hmw]; · iexact Hmw
    isplitl [Hcd]; · iexact Hcd
    isplitl [Htm]; · iexact Htm
    isplitl [Hlu]; · iexact Hlu
    isplitl [Hme]; · iexact Hme
    isplitl [H0]; · iexists _; iexact H0
    isplitl [H1]; · iexists _; iexact H1
    isplitl [H2]; · iexists _; iexact H2
    isplitl [H3]; · iexists _; iexact H3
    isplitl [H4]; · iexists _; iexact H4
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitr [Ho HO]
    · rw [Nat.add_zero, cells_self, pointsTo_empty]; iempintro
    isplitl [Ho]
    · rw [hv5, hv7]; iexact Ho
    iexists _
    isplitr
    rotate_left
    · iexact HO
    · ipureintro
      intro w hw
      rcases Finset.mem_insert.mp hw with rfl | hw
      · exact .inr rfl
      · exact .inl hw
  iintro %a H
  sl_for (fun (_ : ℕ) (_ : BitVec 32) => (iprop(emp) : sProp (MM F))) $$ []
  case region =>
    intro t _
    exact absurd (t.isLt.trans_eq (t6_trips _ _)) (Nat.not_lt_zero _)
  · iempintro
  iintro %_ -
  sl_step
  isplitl [Hst]; · iexact Hst
  isplitl [H5]; · iexists _; iexact H5
  isplitl [Hs0]; · iexact Hs0
  have ht := t1_trips hle hle7
  have e : tinv d L O W q cd tm lu me ou pr ln (tile.sl.v5 d L st e5).toNat (tile.sl.v7 d L st e5).toNat (k0_t1_loop (tile.sl.v5 d L st e5) (tile.sl.v7 d L st e5)).trips
      = tinv d L O W q cd tm lu me ou pr ln lo hi (hi - lo) := by
    rw [show (k0_t1_loop (tile.sl.v5 d L st e5) (tile.sl.v7 d L st e5)).trips = _ from ht]
    exact hv5 ▸ hv7 ▸ rfl
  iapply (Entails.of_eq e)
  iexact H

end Cert.Proof.ScIdeal
end
end
-- ==== Proof.SiTask.lean ====
module

public import Idealize.ShloMosaic.Lib.Pipeline.ValueKit
public import Idealize.ShloMosaic.Lib.WordCmp
public import Idealize.ShloMosaic.Lib.LoopRemainder
public import proofs.«01_k».proof.Proof.SiTile

/-! The tasks' shares of the arrays and the output. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## What the handshakes carry -/

abbrev l0 (d : Dev nD) : Loc nD τ sig := (SparseCore.T d).loc main_arg0
abbrev l1 (d : Dev nD) : Loc nD τ sig := (SparseCore.T d).loc main_arg1
abbrev l2 (d : Dev nD) : Loc nD τ sig := (SparseCore.T d).loc main_arg2
abbrev l3 (d : Dev nD) : Loc nD τ sig := (SparseCore.T d).loc main_arg3
abbrev l4 (d : Dev nD) : Loc nD τ sig := (SparseCore.T d).loc main_arg4
abbrev l5 (d : Dev nD) : Loc nD τ sig := (SparseCore.T d).loc main_arg5
abbrev l6 (d : Dev nD) : Loc nD τ sig := (SparseCore.T d).loc main_arg6
abbrev lo (d : Dev nD) : Loc nD τ sig := (SparseCore.T d).loc main_v0
abbrev lr (d : Dev nD) : Loc nD τ sig := (SparseCore.T d).loc main_v1

/-- The five arrays the tasks read, at share `q`. -/
abbrev ins (d : Dev nD) (q : PosShare TreeShare) : sProp (MM F) :=
  iprop((l0 d ↦{q} m (l0 d)) ∗ (l1 d ↦{q} m (l1 d)) ∗ (l2 d ↦{q} m (l2 d)) ∗ (l3 d ↦{q} m (l3 d)) ∗ (l4 d ↦{q} m (l4 d)))

abbrev meM (d : Dev nD) : S3600x16.Idx → BitVec 32 := m (l3 d)
abbrev stM (d : Dev nD) : S32x16.Idx → BitVec 32 := m (l4 d)
/-- The output that the tasks leave. -/
abbrev outV (d : Dev nD) : S18x200x1536.Idx → F .f32 := outVal (m (l0 d)) (m (l1 d)) (m (l2 d)) (m (l5 d)) (m (l6 d))
abbrev WorkAt : Prop := ∀ d : Dev nD, Work (m (l5 d)) (m (l6 d)) (meM m d) (stM m d)

/-- The output's elements that task `w` writes, and those that a SparseCore's sixteen tasks write. -/
abbrev taskCells (d : Dev nD) (w : Fin 32) : Finset S18x200x1536.Idx := cells (meM m d) (stM m d (ix2 w 0)).toNat (stM m d (ix2 w 1)).toNat

def coordsV (c : Fin (grid0.bound 0)) (s : Fin (grid0.bound 1)) : grid0.Coords :=
  fun | 0 => c | 1 => s | ⟨_ + 2, h⟩ => absurd h (Nat.not_lt.2 (Nat.le_add_left _ _))
abbrev wOf (c : Fin 2) (i : Fin 16) : Fin 32 := wid (coordsV c i)
theorem wOf_val (c : Fin 2) (i : Fin 16) : (wOf c i).val = 2 * i.val + c.val := rfl

def coreCells (d : Dev nD) (c : Fin 2) : Finset S18x200x1536.Idx := Finset.univ.biUnion fun i : Fin 16 => taskCells m d (wOf c i)

abbrev qc (c : Fin 2) : PosShare TreeShare := Transfers.dealOf fullShare Finset.univ c
abbrev qi (q : PosShare TreeShare) (i : Fin 16) : PosShare TreeShare := Transfers.dealOf q Finset.univ i

theorem ins_deal {n : ℕ} [NeZero n] (d : Dev nD) (q : PosShare TreeShare) :
    (ins m d q : sProp (MM F)) = bigSep (Finset.univ : Finset (Fin n)) fun i => ins m d (Transfers.dealOf q Finset.univ i) := by
  have hne : (Finset.univ : Finset (Fin n)).Nonempty := ⟨0, Finset.mem_univ _⟩
  rw [bigSep_sep', bigSep_sep', bigSep_sep', bigSep_sep', ← Transfers.pointsTo_deal Finset.univ hne q, ← Transfers.pointsTo_deal Finset.univ hne q,
    ← Transfers.pointsTo_deal Finset.univ hne q, ← Transfers.pointsTo_deal Finset.univ hne q, ← Transfers.pointsTo_deal Finset.univ hne q]

theorem tasks_off (hW : WorkAt m) (d : Dev nD) {w w' : Fin 32} (h : w ≠ w') : Disjoint (taskCells m d w) (taskCells m d w') := by
  have hv : w.val ≠ w'.val := fun e => h (Fin.ext e)
  rcases Nat.lt_or_gt_of_ne hv with hlt | hlt
  · exact (hW d).cells_off ((hW d).after (w'.val - w.val - 1) w w' (by omega))
  · exact ((hW d).cells_off ((hW d).after (w.val - w'.val - 1) w' w (by omega))).symm

theorem cores_off (hW : WorkAt m) (d : Dev nD) : ∀ c ∈ (Finset.univ : Finset (Fin 2)), ∀ c' ∈ (Finset.univ : Finset (Fin 2)), c ≠ c' → Disjoint (coreCells m d c) (coreCells m d c') := by
  intro c _ c' _ h
  unfold coreCells
  rw [Finset.disjoint_biUnion_left]
  intro i _
  rw [Finset.disjoint_biUnion_right]
  intro i' _
  refine tasks_off m hW d fun e => h (Fin.ext ?_)
  have := congrArg Fin.val e
  rw [wOf_val, wOf_val] at this
  omega

theorem row_off (hW : WorkAt m) (d : Dev nD) (c : Fin 2) : ∀ i ∈ (Finset.univ : Finset (Fin 16)), ∀ i' ∈ (Finset.univ : Finset (Fin 16)), i ≠ i' →
    Disjoint (taskCells m d (wOf c i)) (taskCells m d (wOf c i')) := by
  intro i _ i' _ h
  refine tasks_off m hW d fun e => h (Fin.ext ?_)
  have := congrArg Fin.val e
  rw [wOf_val, wOf_val] at this
  omega

theorem cores_all (hW : WorkAt m) (d : Dev nD) : (Finset.univ : Finset (Fin 2)).biUnion (coreCells m d) = Finset.univ := by
  refine Finset.eq_univ_of_forall fun y => ?_
  have hy : y ∈ cells (meM m d) 0 3600 := by rw [(hW d).cells_all]; exact Finset.mem_univ _
  obtain ⟨k, -, hk, h2, h3⟩ := mem_cells.1 hy
  obtain ⟨w, h4, h5⟩ := (hW d).cover k.val 31 31 rfl (hk.trans_eq (hW d).last.symm)
  refine Finset.mem_biUnion.2 ⟨⟨w.val % 2, Nat.mod_lt _ (by decide)⟩, Finset.mem_univ _, Finset.mem_biUnion.2 ⟨⟨w.val / 2, by have := w.isLt; omega⟩, Finset.mem_univ _, ?_⟩⟩
  have e : wOf ⟨w.val % 2, Nat.mod_lt _ (by decide)⟩ ⟨w.val / 2, by have := w.isLt; omega⟩ = w := Fin.ext (by rw [wOf_val]; show 2 * (w.val / 2) + w.val % 2 = w.val; omega)
  rw [e]
  exact mem_cells.2 ⟨k, h4, h5, h2, h3⟩

theorem out_cores (hW : WorkAt m) (d : Dev nD) (f : Buf (Elt F) (lo d)) :
    (lo d ↦{fullShare} f : sProp (MM F)) = bigSep Finset.univ fun c : Fin 2 => lo d ↦[coreCells m d c]{fullShare} f := by
  rw [← pointsTo_biUnion Finset.univ (ℓ := lo d) (coreCells m d) (cores_off m hW d), cores_all m hW d]; try rfl

theorem out_tasks (hW : WorkAt m) (d : Dev nD) (c : Fin 2) (f : Buf (Elt F) (lo d)) :
    (lo d ↦[coreCells m d c]{fullShare} f : sProp (MM F)) = bigSep Finset.univ fun i : Fin 16 => lo d ↦[taskCells m d (wOf c i)]{fullShare} f := by
  unfold coreCells
  exact pointsTo_biUnion Finset.univ (ℓ := lo d) (fun i => taskCells m d (wOf c i)) (row_off m hW d c)

/-- The one call takes the five arrays and the output; a SparseCore, and then a task, takes a share of each array and its own
    elements of the output, and brings them back with those elements written. -/
def P : (K (F := F)).Pay (nD := nD) (Val := Elt F) (Name := ℕ) (U := UU) where
  st := fun q d c => match q with | 0 => iprop(ins m d (qc (Fin.cast nCore_zero c)) ∗ (lo d ↦[coreCells m d (Fin.cast nCore_zero c)]{fullShare} m (lo d)))
  dn := fun q d c => match q with | 0 => iprop(ins m d (qc (Fin.cast nCore_zero c)) ∗ (lo d ↦[coreCells m d (Fin.cast nCore_zero c)]{fullShare} (outV m d : S18x200x1536.Idx → F .f32)))
  go := fun q d c i => match q with
    | 0 => iprop(ins m d (qi (qc (Fin.cast nCore_zero c)) (Fin.cast nSub_zero i))
        ∗ (lo d ↦[taskCells m d (wOf (Fin.cast nCore_zero c) (Fin.cast nSub_zero i))]{fullShare} m (lo d)))
  td := fun q d c i => match q with
    | 0 => iprop(ins m d (qi (qc (Fin.cast nCore_zero c)) (Fin.cast nSub_zero i))
        ∗ (lo d ↦[taskCells m d (wOf (Fin.cast nCore_zero c) (Fin.cast nSub_zero i))]{fullShare} (outV m d : S18x200x1536.Idx → F .f32)))
  x := fun _ _ => iprop(emp)

instance P_storable : (P (F := F) m).IsStorable where
  st q d c := match q with
    | 0 => (inferInstance : BI.Storable (upEmb : UEmb _ (MM F)) iprop(ins m d (qc (Fin.cast nCore_zero c)) ∗ (lo d ↦[coreCells m d (Fin.cast nCore_zero c)]{fullShare} m (lo d))))
  dn q d c := match q with
    | 0 => (inferInstance : BI.Storable (upEmb : UEmb _ (MM F)) iprop(ins m d (qc (Fin.cast nCore_zero c)) ∗ (lo d ↦[coreCells m d (Fin.cast nCore_zero c)]{fullShare} (outV m d : S18x200x1536.Idx → F .f32))))
  go q d c i := match q with
    | 0 => (inferInstance : BI.Storable (upEmb : UEmb _ (MM F)) iprop(ins m d (qi (qc (Fin.cast nCore_zero c)) (Fin.cast nSub_zero i))
        ∗ (lo d ↦[taskCells m d (wOf (Fin.cast nCore_zero c) (Fin.cast nSub_zero i))]{fullShare} m (lo d))))
  td q d c i := match q with
    | 0 => (inferInstance : BI.Storable (upEmb : UEmb _ (MM F)) iprop(ins m d (qi (qc (Fin.cast nCore_zero c)) (Fin.cast nSub_zero i))
        ∗ (lo d ↦[taskCells m d (wOf (Fin.cast nCore_zero c) (Fin.cast nSub_zero i))]{fullShare} (outV m d : S18x200x1536.Idx → F .f32))))

/-! ## The task -/

section Tile

variable (d : Dev nD) (L : grid0.Coords)

abbrev g0 (d : Dev nD) (L : grid0.Coords) : GSem nD τ sig := (tt d L, .dma cc0_scoped0.sem)
abbrev g1 (d : Dev nD) (L : grid0.Coords) : GSem nD τ sig := (tt d L, .dma cc0_scoped1.sem)
abbrev g2 (d : Dev nD) (L : grid0.Coords) : GSem nD τ sig := (tt d L, .dma cc0_scoped2.sem)
abbrev g3 (d : Dev nD) (L : grid0.Coords) : GSem nD τ sig := (tt d L, .dma cc0_scoped3.sem)
abbrev g4 (d : Dev nD) (L : grid0.Coords) : GSem nD τ sig := (tt d L, .dma cc0_scoped4.sem)
abbrev g5 (d : Dev nD) (L : grid0.Coords) : GSem nD τ sig := (tt d L, .dma cc0_scoped5.sem)
abbrev g6 (d : Dev nD) (L : grid0.Coords) : GSem nD τ sig := (tt d L, .dma cc0_scoped6.sem)

omit [FloatOps F] in
theorem ownSems0_V :
    (ownSems0 (tt d L) : sProp (MM F))
      = iprop(semVal (g0 d L) 0 ∗ semVal (g1 d L) 0 ∗ semVal (g2 d L) 0 ∗ semVal (g3 d L) 0 ∗ semVal (g4 d L) 0 ∗ semVal (g5 d L) 0 ∗ semVal (g6 d L) 0
          ∗ bigSep ((((((((ownCells (tt d L)).erase (g0 d L)).erase (g1 d L)).erase (g2 d L)).erase (g3 d L)).erase (g4 d L)).erase (g5 d L)).erase (g6 d L)) fun g => semVal g 0) := by
  unfold SparseCore.Cfg.ownSems0
  rw [SparseCore.bigSep_erase' ((mem_ownCells (g := g0 d L)).mpr ⟨rfl, by show (SemLoc.dma cc0_scoped0.sem : SemLoc sig).isScoped .scVector = true; decide⟩),
    SparseCore.bigSep_erase' (Finset.mem_erase.mpr ⟨fun e => absurd (Prod.mk.inj e).2 (by decide), ((mem_ownCells (g := g1 d L)).mpr ⟨rfl, by show (SemLoc.dma cc0_scoped1.sem : SemLoc sig).isScoped .scVector = true; decide⟩)⟩),
    SparseCore.bigSep_erase' (Finset.mem_erase.mpr ⟨fun e => absurd (Prod.mk.inj e).2 (by decide), (Finset.mem_erase.mpr ⟨fun e => absurd (Prod.mk.inj e).2 (by decide), ((mem_ownCells (g := g2 d L)).mpr ⟨rfl, by show (SemLoc.dma cc0_scoped2.sem : SemLoc sig).isScoped .scVector = true; decide⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g3 d L)).mpr ⟨rfl, by show (SemLoc.dma cc0_scoped3.sem : SemLoc sig).isScoped .scVector = true; decide⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g4 d L)).mpr ⟨rfl, by show (SemLoc.dma cc0_scoped4.sem : SemLoc sig).isScoped .scVector = true; decide⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g5 d L)).mpr ⟨rfl, by show (SemLoc.dma cc0_scoped5.sem : SemLoc sig).isScoped .scVector = true; decide⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := g6 d L)).mpr ⟨rfl, by show (SemLoc.dma cc0_scoped6.sem : SemLoc sig).isScoped .scVector = true; decide⟩)⟩)⟩)⟩)⟩)⟩)⟩)]

omit [FloatOps F] in
/-- The subcore's own buffers are the six scratches, each at some contents, together with the rest. -/
theorem ownBufs_V :
    (ownBufs (tt d L) : sProp (MM F))
      = iprop((∃ f, (tt d L).loc cc0_scratch0 ↦{fullShare} f) ∗ (∃ f, (tt d L).loc cc0_scratch1 ↦{fullShare} f) ∗ (∃ f, (tt d L).loc cc0_scratch2 ↦{fullShare} f) ∗ (∃ f, (tt d L).loc cc0_scratch3 ↦{fullShare} f) ∗ (∃ f, (tt d L).loc cc0_scratch4 ↦{fullShare} f) ∗ (∃ f, (tt d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := (Proc.scVector (cV L) (jV L)).devRef cc0_scratch4) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := (Proc.scVector (cV L) (jV L)).devRef cc0_scratch5) rfl)⟩)⟩)⟩)⟩)⟩)]

theorem tile_body (hW : WorkAt m) (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (ins m d q ∗ (lo d ↦[taskCells m d (wid L)]{fullShare} m (lo d)))
        ∗ scopedBufs (tt d L) ∗ scopedSems0 (tt d L) ∗ owes (tt d L) O W)
      ⊢ wp frame (wpE (defs₀ (F := F)) 𝒱₀ (tt d L) none) Set.univ
          (cc0_gather_sc (F := F) L cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop((ins m d q ∗ (lo d ↦[taskCells m d (wid L)]{fullShare} (outV m d : S18x200x1536.Idx → F .f32)))
            ∗ scopedBufs (tt d L) ∗ scopedSems0 (tt d L)
            ∗ ∃ W', ⌜∀ p ∈ W', p ∈ W ∨ p.2 = none ∨ p.2 = some (0 : Fin 1)⌝ ∗ owes (tt d L) O W') := by
  rw [(K (F := F)).scopedBufs_V hF d (cV L) (jV L), SparseCore.Cfg.scopedSems0_V (Val := Elt F) d (cV L) (jV L), ownSems0_V, ownBufs_V]
  iintro ⟨#Hlv, -, ⟨⟨H0, H1, H2, H3, H4⟩, Ho⟩, ⟨⟨%f0, Hf0⟩, ⟨%f1, Hf1⟩, ⟨%f2, Hf2⟩, ⟨%f3, Hf3⟩, ⟨%f4, Hf4⟩, ⟨%f5, Hf5⟩, Hbufs⟩, ⟨Hs0, Hs1, Hs2, Hs3, Hs4, Hs5, Hs6, Hsems⟩, HO⟩
  ihave Hmw := (show levAts (K (F := F)).L (K (F := F)).lev ⊢ Transfers.MayWaits (tt d L) (default : HIx 1) O from
    (K (F := F)).mayWaits_none (thr := tt d L) hO) $$ Hlv
  iapply (wp_wand_r Idealize.ShloMosaic.frame (wpE (defs₀ (F := F)) 𝒱₀ (tt d L) none) Set.univ)
  isplitl [Hmw H0 H1 H2 H3 H4 Hf0 Hf1 Hf2 Hf3 Hf4 Hf5 Hs0 Hs1 Hs2 Hs3 Hs4 Hs5 Hs6 Ho HO]
  · iapply (tile d L O W q (m (l0 d)) (m (l1 d)) (m (l2 d)) (m (l3 d)) (m (l4 d)) (m (lo d)) (m (l5 d)) (m (l6 d)) (hW d)
      (stM m d (ix2 (wid L) 0)).toNat (stM m d (ix2 (wid L) 1)).toNat rfl rfl f0 f1 f2 f3 f4 f5)
    isplitl [Hmw]; · iexact Hmw
    isplitl [H0]; · iexact H0
    isplitl [H1]; · iexact H1
    isplitl [H2]; · iexact H2
    isplitl [H3]; · iexact H3
    isplitl [H4]; · iexact H4
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Ho]; · iexact Ho
    iexact HO
  iintro %_ ⟨H4, Hf5, Hs0, Ht⟩
  unfold tinv
  icases Ht with ⟨Hmw, H0, H1, H2, H3, Hf0, Hf1, Hf2, Hf3, Hf4, Hs1, Hs2, Hs3, Hs4, Hs5, Hs6, Ho, -, ⟨%W', %hW', HO⟩⟩
  isplitl [H0 H1 H2 H3 H4 Ho]
  · isplitl [H0 H1 H2 H3 H4]
    · isplitl [H0]; · iexact H0
      isplitl [H1]; · iexact H1
      isplitl [H2]; · iexact H2
      isplitl [H3]; · iexact H3
      iexact H4
    rw [Nat.add_sub_cancel' ((hW d).mono (wid L))]
    iexact Ho
  isplitl [Hf0 Hf1 Hf2 Hf3 Hf4 Hf5 Hbufs]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists W'; isplitr
  swap; · iexact HO
  ipureintro; intro p hp
  rcases hW' p hp with h | h
  · exact .inl h
  · exact .inr (.inl h)

/-! ## The obligation -/

theorem defs₀_vector (c : Fin τ.nSC) (s : Fin τ.nSub) :
    defs₀ (F := F) (.scVector c s) 0 ()
      = SparseCore.onTile hcore0 hsub0 (fun c s => cc0_gather_sc (F := F) (coordsV c s) cdV (Memref.isWhole_whole _) tmV (Memref.isWhole_whole _) luV (Memref.isWhole_whole _) meV (Memref.isWhole_whole _) stV (Memref.isWhole_whole _) ouV (Memref.isWhole_whole _) s0V (Memref.isWhole_whole _) s1V (Memref.isWhole_whole _) s2V (Memref.isWhole_whole _) s3V (Memref.isWhole_whole _) s4V (Memref.isWhole_whole _) s5V (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

theorem tileObl (hW : WorkAt m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hW hF (qi (qc (Fin.cast nCore_zero c)) (Fin.cast nSub_zero i)) O W hO

end Tile

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit (hW : WorkAt m) : (K (F := F)).VecSplit' (P m) 0 := by
  intro d c
  show iprop(ins m d (qc (Fin.cast nCore_zero c)) ∗ (lo d ↦[coreCells m d (Fin.cast nCore_zero c)]{fullShare} m (lo d))) ⊢ |={Set.univ}=> iprop(
      (bigSep Finset.univ fun i : Fin ((K (F := F)).nSub 0) => iprop(ins m d (qi (qc (Fin.cast nCore_zero c)) (Fin.cast nSub_zero i))
        ∗ (lo d ↦[taskCells m d (wOf (Fin.cast nCore_zero c) (Fin.cast nSub_zero i))]{fullShare} m (lo d))))
      ∗ ((bigSep Finset.univ fun i : Fin ((K (F := F)).nSub 0) => iprop(ins m d (qi (qc (Fin.cast nCore_zero c)) (Fin.cast nSub_zero i))
        ∗ (lo d ↦[taskCells m d (wOf (Fin.cast nCore_zero c) (Fin.cast nSub_zero i))]{fullShare} (outV m d : S18x200x1536.Idx → F .f32))))
          -∗ iprop(ins m d (qc (Fin.cast nCore_zero c)) ∗ (lo d ↦[coreCells m d (Fin.cast nCore_zero c)]{fullShare} (outV m d : S18x200x1536.Idx → F .f32)))))
  generalize Fin.cast nCore_zero c = c'
  rw [bigSep_tasks (F := F) (fun i => iprop(ins m d (qi (qc c') i) ∗ (lo d ↦[taskCells m d (wOf c' i)]{fullShare} m (lo d)))),
    bigSep_tasks (F := F) (fun i => iprop(ins m d (qi (qc c') i) ∗ (lo d ↦[taskCells m d (wOf c' i)]{fullShare} (outV m d : S18x200x1536.Idx → F .f32)))),
    bigSep_sep' (Finset.univ : Finset (Fin 16)) (fun i => ins m d (qi (qc c') i)), bigSep_sep' (Finset.univ : Finset (Fin 16)) (fun i => ins m d (qi (qc c') i)),
    ← ins_deal m d (qc c') (n := 16), ← out_tasks m hW d c', ← out_tasks m hW d c']
  iintro H; imodintro
  isplitl [H]; · iexact H
  iintro H
  iexact H

end Cert.Proof.ScIdeal
end
end
-- ==== Proof.SiRun.lean ====
module

public import Idealize.ShloMosaic.Lib.Pipeline.ValueKit
public import Idealize.ShloMosaic.Lib.WordCmp
public import Idealize.ShloMosaic.Lib.LoopRemainder
public import proofs.«01_k».proof.Proof.SiTask

/-! The whole call. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev opT : HloOp τ sig (Elt F) := StableHlo.unary main_v0 main_v1 ((transpose S200x18x1536 [1, 0, 2] · transposes_S18x200x1536_S200x18x1536_1_0_2) : (⟨S18x200x1536, .f32⟩ : BufTy).Contents (Elt F) → (⟨S200x18x1536, .f32⟩ : BufTy).Contents (Elt F))

/-- The result: the tasks' output with the query first. -/
abbrev resV (d : Dev nD) : S200x18x1536.Idx → F .f32 := transpose S200x18x1536 [1, 0, 2] (outV m d) transposes_S18x200x1536_S200x18x1536_1_0_2

/-- The TensorCore's arrays, all unscoped. -/
abbrev S9 : Finset (DevRef τ sig) := {a0', a1', a2', a3', a4', a5', a6', v0', v1'}

omit [FloatOps F] in
theorem held_S9 (d : Dev nD) (W : Valuation τ sig (Elt F)) :
    (StableHlo.held (T d) S9 W : sProp (MM F)) = iprop((l0 d ↦{fullShare} W a0') ∗ (l1 d ↦{fullShare} W a1') ∗ (l2 d ↦{fullShare} W a2') ∗ (l3 d ↦{fullShare} W a3') ∗ (l4 d ↦{fullShare} W a4') ∗ (l5 d ↦{fullShare} W a5') ∗ (l6 d ↦{fullShare} W a6') ∗ (lo d ↦{fullShare} W v0') ∗ (lr d ↦{fullShare} W v1')) := by
  unfold StableHlo.held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F)) = iprop((l0 d ↦{fullShare} W main_arg0) ∗ (l1 d ↦{fullShare} W main_arg1) ∗ (l2 d ↦{fullShare} W main_arg2) ∗ (l3 d ↦{fullShare} W main_arg3) ∗ (l4 d ↦{fullShare} W main_arg4) ∗ (l5 d ↦{fullShare} W main_arg5) ∗ (l6 d ↦{fullShare} W main_arg6) ∗ (lo d ↦{fullShare} W main_v0) ∗ (lr d ↦{fullShare} W main_v1)) := by
  unfold unscopedBufs
  rw [show (Finset.univ.filter fun b : Ref sig .tc => ¬ b.isScoped) = {main_arg0, main_arg1, main_arg2, main_arg3, main_arg4, main_arg5, main_arg6, main_v0, main_v1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation; after the call, the output written. -/
def V0 (d : Dev nD) : Valuation τ sig (Elt F) := fun b => m (d, b)
def V1 (d : Dev nD) : Valuation τ sig (Elt F) := Function.update (V0 m d) v0' (outV m d : S18x200x1536.Idx → F .f32)

omit [FloatOps F] in
theorem unscoped_held (d : Dev nD) : (unscopedBufs d (fun b => m ((SparseCore.T d).loc b)) : sProp (MM F)) = StableHlo.held (T d) S9 (V0 m d) := by
  rw [unscopedBufs_eq, held_S9]; rfl

theorem V1_a0 (d : Dev nD) : V1 m d a0' = m (l0 d) := Function.update_of_ne (show a0' ≠ v0' by decide) _ _
theorem V1_a1 (d : Dev nD) : V1 m d a1' = m (l1 d) := Function.update_of_ne (show a1' ≠ v0' by decide) _ _
theorem V1_a2 (d : Dev nD) : V1 m d a2' = m (l2 d) := Function.update_of_ne (show a2' ≠ v0' by decide) _ _
theorem V1_a3 (d : Dev nD) : V1 m d a3' = m (l3 d) := Function.update_of_ne (show a3' ≠ v0' by decide) _ _
theorem V1_a4 (d : Dev nD) : V1 m d a4' = m (l4 d) := Function.update_of_ne (show a4' ≠ v0' by decide) _ _
theorem V1_a5 (d : Dev nD) : V1 m d a5' = m (l5 d) := Function.update_of_ne (show a5' ≠ v0' by decide) _ _
theorem V1_a6 (d : Dev nD) : V1 m d a6' = m (l6 d) := Function.update_of_ne (show a6' ≠ v0' by decide) _ _
theorem V1_v0 (d : Dev nD) : V1 m d v0' = (outV m d : S18x200x1536.Idx → F .f32) := Function.update_self _ _ _
theorem V1_v1 (d : Dev nD) : V1 m d v1' = m (lr d) := Function.update_of_ne (show v1' ≠ v0' by decide) _ _
theorem V2_a0 (d : Dev nD) : (opT (F := F)).result (V1 m d) a0' = m (l0 d) := ((opT (F := F)).result_of_not_mem (V1 m d) (b := a0') (show a0' ∉ ({v1'} : Finset (DevRef τ sig)) by decide)).trans (V1_a0 m d)
theorem V2_a1 (d : Dev nD) : (opT (F := F)).result (V1 m d) a1' = m (l1 d) := ((opT (F := F)).result_of_not_mem (V1 m d) (b := a1') (show a1' ∉ ({v1'} : Finset (DevRef τ sig)) by decide)).trans (V1_a1 m d)
theorem V2_a2 (d : Dev nD) : (opT (F := F)).result (V1 m d) a2' = m (l2 d) := ((opT (F := F)).result_of_not_mem (V1 m d) (b := a2') (show a2' ∉ ({v1'} : Finset (DevRef τ sig)) by decide)).trans (V1_a2 m d)
theorem V2_a3 (d : Dev nD) : (opT (F := F)).result (V1 m d) a3' = m (l3 d) := ((opT (F := F)).result_of_not_mem (V1 m d) (b := a3') (show a3' ∉ ({v1'} : Finset (DevRef τ sig)) by decide)).trans (V1_a3 m d)
theorem V2_a4 (d : Dev nD) : (opT (F := F)).result (V1 m d) a4' = m (l4 d) := ((opT (F := F)).result_of_not_mem (V1 m d) (b := a4') (show a4' ∉ ({v1'} : Finset (DevRef τ sig)) by decide)).trans (V1_a4 m d)
theorem V2_a5 (d : Dev nD) : (opT (F := F)).result (V1 m d) a5' = m (l5 d) := ((opT (F := F)).result_of_not_mem (V1 m d) (b := a5') (show a5' ∉ ({v1'} : Finset (DevRef τ sig)) by decide)).trans (V1_a5 m d)
theorem V2_a6 (d : Dev nD) : (opT (F := F)).result (V1 m d) a6' = m (l6 d) := ((opT (F := F)).result_of_not_mem (V1 m d) (b := a6') (show a6' ∉ ({v1'} : Finset (DevRef τ sig)) by decide)).trans (V1_a6 m d)
theorem V2_v1 (d : Dev nD) : (opT (F := F)).result (V1 m d) v1' = (resV m d : S200x18x1536.Idx → F .f32) := by
  refine (StableHlo.unary_result _ _ _ _ _ _).trans ?_
  exact congrArg (fun z : S18x200x1536.Idx → F .f32 => transpose S200x18x1536 [1, 0, 2] z transposes_S18x200x1536_S200x18x1536_1_0_2) (V1_v0 m d)

/-- What the call takes for the two SparseCores, and what it hands back. -/
theorem st0_eq (hW : WorkAt m) (d : Dev nD) : (bigSep Finset.univ fun c : Fin ((K (F := F)).nCore 0) => (P m).st 0 d c) = iprop(ins m d fullShare ∗ (lo d ↦{fullShare} m (lo d))) := by
  rw [ins_deal m d fullShare (n := 2), out_cores m hW d]
  exact bigSep_sep' (Finset.univ : Finset (Fin 2)) (fun c => ins m d (qc c)) fun c => (lo d ↦[coreCells m d c]{fullShare} m (lo d))
theorem dn0_eq (hW : WorkAt m) (d : Dev nD) : (bigSep Finset.univ fun c : Fin ((K (F := F)).nCore 0) => (P m).dn 0 d c) = iprop(ins m d fullShare ∗ (lo d ↦{fullShare} (outV m d : S18x200x1536.Idx → F .f32))) := by
  rw [ins_deal m d fullShare (n := 2), out_cores m hW d]
  exact bigSep_sep' (Finset.univ : Finset (Fin 2)) (fun c => ins m d (qc c)) fun c => (lo d ↦[coreCells m d c]{fullShare} (outV m d : S18x200x1536.Idx → F .f32))

theorem hT : (opT (F := F)).bufs ⊆ S9 := show ({v0', v1'} : Finset (DevRef τ sig)) ⊆ S9 by decide

/-- What @main leaves the claim: the arguments at their launch contents and the result. -/
abbrev FIN (d : Dev nD) : sProp (MM F) := iprop((l0 d ↦{fullShare} m (l0 d)) ∗ (l1 d ↦{fullShare} m (l1 d)) ∗ (l2 d ↦{fullShare} m (l2 d)) ∗ (l3 d ↦{fullShare} m (l3 d)) ∗ (l4 d ↦{fullShare} m (l4 d)) ∗ (l5 d ↦{fullShare} m (l5 d)) ∗ (l6 d ↦{fullShare} m (l6 d)) ∗ (lr d ↦{fullShare} (resV m d : S200x18x1536.Idx → F .f32)))

theorem hmain (hW : WorkAt m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S9 (F := F) d _)) $$ Hheld
  icases Hh with ⟨H0, H1, H2, H3, H4, H5, H6, Ho, Hr⟩
  iapply ((K (F := F)).wp_run (D (F := F)) 𝒱 (EH := EH) (P := P m) κ d 0) $$ [Hst H0 H1 H2 H3 H4 H5 H6 Ho Hr Hb Hts]
  isplitr; · iexact Hctx
  isplitl [Hst]; · iexact Hst
  isplitl [H0 H1 H2 H3 H4 Ho]
  · rw [st0_eq m hW]
    isplitl [H0 H1 H2 H3 H4]
    · isplitl [H0]; · iexact H0
      isplitl [H1]; · iexact H1
      isplitl [H2]; · iexact H2
      isplitl [H3]; · iexact H3
      iexact H4
    · iexact Ho
  iintro ⟨Hst, Hdn⟩
  ihave Hdn' := (Entails.of_eq (dn0_eq m hW d)) $$ Hdn
  icases Hdn' with ⟨⟨H0, H1, H2, H3, H4⟩, Ho⟩
  iapply (StableHlo.wp_hlo_within 𝒱 (SparseCore.T d) none Set.univ (op := opT) (S := S9) hT (V := V1 m d)) $$ [Hb H0 H1 H2 H3 H4 H5 H6 Ho Hr]
  · isplitl [Hb]; · iexact Hb
    rw [held_S9, V1_a0, V1_a1, V1_a2, V1_a3, V1_a4, V1_a5, V1_a6, V1_v0, V1_v1]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ho]; · iexact Ho
    iexact Hr
  iintro ⟨Hb, Hheld⟩
  ihave Hh := (Entails.of_eq (held_S9 (F := F) d _)) $$ Hheld
  rw [V2_a0, V2_a1, V2_a2, V2_a3, V2_a4, V2_a5, V2_a6, V2_v1]
  icases Hh with ⟨H0, H1, H2, H3, H4, H5, H6, -, Hr⟩
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hr
  isplitl [Hb] <;> iassumption

def fq (d : Dev nD) (s' : Phys nD τ sig (Elt F)) : Prop :=
  s'.mem.mem (l0 d) = m (l0 d) ∧ s'.mem.mem (l1 d) = m (l1 d) ∧ s'.mem.mem (l2 d) = m (l2 d) ∧ s'.mem.mem (l3 d) = m (l3 d) ∧ s'.mem.mem (l4 d) = m (l4 d) ∧ s'.mem.mem (l5 d) = m (l5 d) ∧ s'.mem.mem (l6 d) = m (l6 d) ∧ s'.mem.mem (lr d) = (resV m d : S200x18x1536.Idx → F .f32)

omit [FloatOps F] in
theorem agree1 (s' : Phys nD τ sig (Elt F)) (ℓ : Loc nD τ sig) (f : Buf (Elt F) ℓ) :
    iprop(SI s' ∗ (ℓ ↦{fullShare} f) : sProp (MM F)) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp (MM F)) := by
  iintro ⟨⟨H0, H1, H2, H3, H4, H5, H6, H7⟩, HSI⟩
  ihave H := (agree1 s' _ _) $$ [HSI H0]
  · isplitl [HSI] <;> iassumption
  icases H with ⟨%h0, HSI⟩
  ihave H := (agree1 s' _ _) $$ [HSI H1]
  · isplitl [HSI] <;> iassumption
  icases H with ⟨%h1, HSI⟩
  ihave H := (agree1 s' _ _) $$ [HSI H2]
  · isplitl [HSI] <;> iassumption
  icases H with ⟨%h2, HSI⟩
  ihave H := (agree1 s' _ _) $$ [HSI H3]
  · isplitl [HSI] <;> iassumption
  icases H with ⟨%h3, HSI⟩
  ihave H := (agree1 s' _ _) $$ [HSI H4]
  · isplitl [HSI] <;> iassumption
  icases H with ⟨%h4, HSI⟩
  ihave H := (agree1 s' _ _) $$ [HSI H5]
  · isplitl [HSI] <;> iassumption
  icases H with ⟨%h5, HSI⟩
  ihave H := (agree1 s' _ _) $$ [HSI H6]
  · isplitl [HSI] <;> iassumption
  icases H with ⟨%h6, HSI⟩
  ihave H := (agree1 s' _ _) $$ [HSI H7]
  · isplitl [HSI] <;> iassumption
  icases H with ⟨%h7, HSI⟩
  ipureintro; exact ⟨h0, h1, h2, h3, h4, h5, h6, h7⟩

def QC : PUnit × MemSt nD τ sig (Elt F) → Prop := fun r => (∀ d : Dev nD, r.2.mem (l0 d) = m (l0 d) ∧ r.2.mem (l1 d) = m (l1 d) ∧ r.2.mem (l2 d) = m (l2 d) ∧ r.2.mem (l3 d) = m (l3 d) ∧ r.2.mem (l4 d) = m (l4 d) ∧ r.2.mem (l5 d) = m (l5 d) ∧ r.2.mem (l6 d) = m (l6 d) ∧ r.2.mem (lr d) = (resV m d : S200x18x1536.Idx → F .f32)) ∧ r.2.sem = fun _ => 0

theorem run_main [∀ e, Nonempty (Elt F e)] (hW : WorkAt m) :
    θ_run (Cert.ScIdeal.defs (F := F)) (Cert.ScIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hW facts)
    (fun q _ => match q with | 0 => SparseCore.Cfg.VecSplit.of_plain (vecSplit m hW))
    m ρ main (fun _ => iprop(emp)) (FIN m) (u₀ (F := F)) (sep_elim_left.trans (hu₀ m)) (hmain m ρ hW) (fq m) (hfin m) (QC m) (fun _ h hz => ⟨h, hz⟩)

end Cert.Proof.ScIdeal
end
end
-- ==== Proof.SiPre.lean ====
module

public import Idealize.ShloMosaic.Lib.Pipeline.ValueKit
public import Idealize.ShloMosaic.Lib.WordCmp
public import Idealize.ShloMosaic.Lib.LoopRemainder
public import proofs.«01_k».proof.Proof.SiRun
public import proofs.«01_k».proof.Proof.Gen.Pre_work_list
public import proofs.«01_k».proof.Defs

/-! The launch condition. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Cert.Pre_work_list (S3600 S3600x1 S32 S32x1)

section Bits
theorem ands {p q : Bool} : IntOp.andi (BitVec.ofBool p) (BitVec.ofBool q) = BitVec.ofBool (p && q) := by
  cases p <;> cases q <;> decide
theorem ors {p q : Bool} : IntOp.ori (BitVec.ofBool p) (BitVec.ofBool q) = BitVec.ofBool (p || q) := by
  cases p <;> cases q <;> decide
theorem nots {p : Bool} : ~~~(BitVec.ofBool p) = BitVec.ofBool (!p) := by cases p <;> decide
theorem ones {p : Bool} : (BitVec.ofBool p = 1#1) ↔ p = true := by cases p <;> decide

theorem lt_of_bits {v : BitVec 32} {n : ℕ} (hn : n < 2147483648) (h0 : (0#32 : BitVec 32).toInt ≤ v.toInt) (h : v.toInt < (BitVec.ofNat 32 n).toInt) : v.toNat < n := by
  have e0 : (0#32 : BitVec 32).toInt = 0 := by decide
  have en : (BitVec.ofNat 32 n).toInt = n := by
    rw [BitVec.toInt_eq_toNat_cond, BitVec.toNat_ofNat, Nat.mod_eq_of_lt (by omega)]; exact if_pos (by omega)
  rw [e0] at h0; rw [en] at h
  rw [BitVec.toInt_eq_toNat_cond] at h0 h
  split at h <;> omega

theorem le_of_bits {v : BitVec 32} {n : ℕ} (hn : n < 2147483648) (h0 : (0#32 : BitVec 32).toInt ≤ v.toInt) (h : v.toInt ≤ (BitVec.ofNat 32 n).toInt) : v.toNat ≤ n := by
  have e0 : (0#32 : BitVec 32).toInt = 0 := by decide
  have en : (BitVec.ofNat 32 n).toInt = n := by
    rw [BitVec.toInt_eq_toNat_cond, BitVec.toNat_ofNat, Nat.mod_eq_of_lt (by omega)]; exact if_pos (by omega)
  rw [e0] at h0; rw [en] at h
  rw [BitVec.toInt_eq_toNat_cond] at h0 h
  split at h <;> omega
end Bits

/-- A column of a two-axis array, cut out and flattened, read at a row. -/
theorem col_meta (me : S3600x16.Idx → BitVec 32) (c : Fin 16) (off : Fin 2 → ℕ) (ho : off = ![0, c.val]) (h : S3600x16.Slices off S3600x1) (h' : S3600x1.ShapeCasts S3600) (k : Fin 3600) :
    shapeCast S3600 (extractStridedSlice S3600x1 off me h) h' (ix1 k) = me (ix2 k c) := by
  subst ho
  refine (shapeCast_apply _ h' (ix1 k) (ix2 k (0 : Fin 1)) ?_).trans (extractStridedSlice_apply _ me h _ _ ?_)
  · rw [Shape.rowMajor_val_one, Shape.rowMajor_val_two]; simp [ix1, ix2]
  · intro a; match a with | ⟨0, _⟩ => simp [ix2] | ⟨1, _⟩ => simp [ix2]

/-- A column of the starts, cut out and flattened, read at a row. -/
theorem col_start (st : S32x16.Idx → BitVec 32) (c : Fin 16) (off : Fin 2 → ℕ) (ho : off = ![0, c.val]) (h : S32x16.Slices off S32x1) (h' : S32x1.ShapeCasts S32) (k : Fin 32) :
    shapeCast S32 (extractStridedSlice S32x1 off st h) h' (ix1 k) = st (ix2 k c) := by
  subst ho
  refine (shapeCast_apply _ h' (ix1 k) (ix2 k (0 : Fin 1)) ?_).trans (extractStridedSlice_apply _ st h _ _ ?_)
  · rw [Shape.rowMajor_val_one, Shape.rowMajor_val_two]; simp [ix1, ix2]
  · intro a; match a with | ⟨0, _⟩ => simp [ix2] | ⟨1, _⟩ => simp [ix2]

section Spread
variable {α : Type}
theorem sp0 {t : Shape} (x : (⟨0, ![]⟩ : Shape).Idx → α) (h) (j : t.Idx) : broadcastInDim (s := ⟨0, ![]⟩) t ![] h x j = x ix0 :=
  broadcastInDim_apply _ h x j ix0 (fun a => a.elim0)
theorem spr {n k : ℕ} (hn : n ≠ 1) (x : (⟨1, ![n]⟩ : Shape).Idx → α) (h : (⟨1, ![n]⟩ : Shape).BroadcastsInDim ⟨2, ![n, 1]⟩ ![0]) (h' : (⟨2, ![n, 1]⟩ : Shape).BroadcastsInDim ⟨2, ![n, k]⟩ ![0, 1]) (i : Fin n) (j : Fin k) :
    broadcastInDim ⟨2, ![n, k]⟩ ![0, 1] h' (broadcastInDim ⟨2, ![n, 1]⟩ ![0] h x) (ix2 i j) = x (ix1 i) := by
  refine (broadcastInDim_apply _ h' _ _ (ix2 i (0 : Fin 1)) ?_).trans (broadcastInDim_apply _ h x _ (ix1 i) ?_)
  · intro a; match a with | ⟨0, _⟩ => exact (if_neg hn).symm | ⟨1, _⟩ => exact (if_pos rfl).symm
  · intro a; match a with | ⟨0, _⟩ => exact (if_neg hn).symm
theorem sprow1 {n : ℕ} (hn : n ≠ 1) (x : (⟨1, ![n]⟩ : Shape).Idx → α) (h : (⟨1, ![n]⟩ : Shape).BroadcastsInDim ⟨2, ![n, 1]⟩ ![0]) (i : Fin n) :
    broadcastInDim ⟨2, ![n, 1]⟩ ![0] h x (ix2 i (0 : Fin 1)) = x (ix1 i) := by
  refine (broadcastInDim_apply _ h x _ (ix1 i) ?_)
  intro a; match a with | ⟨0, _⟩ => exact (if_neg hn).symm
theorem spr' {n k : ℕ} (hn : n ≠ 1) (x : (⟨2, ![n, 1]⟩ : Shape).Idx → α) (h' : (⟨2, ![n, 1]⟩ : Shape).BroadcastsInDim ⟨2, ![n, k]⟩ ![0, 1]) (i : Fin n) (j : Fin k) :
    broadcastInDim ⟨2, ![n, k]⟩ ![0, 1] h' x (ix2 i j) = x (ix2 i (0 : Fin 1)) := by
  refine (broadcastInDim_apply _ h' _ _ (ix2 i (0 : Fin 1)) ?_)
  intro a; match a with | ⟨0, _⟩ => exact (if_neg hn).symm | ⟨1, _⟩ => exact (if_pos rfl).symm
theorem spc {n k : ℕ} (hn : n ≠ 1) (x : (⟨1, ![n]⟩ : Shape).Idx → α) (h : (⟨1, ![n]⟩ : Shape).BroadcastsInDim ⟨2, ![1, n]⟩ ![1]) (h' : (⟨2, ![1, n]⟩ : Shape).BroadcastsInDim ⟨2, ![k, n]⟩ ![0, 1]) (i : Fin k) (j : Fin n) :
    broadcastInDim ⟨2, ![k, n]⟩ ![0, 1] h' (broadcastInDim ⟨2, ![1, n]⟩ ![1] h x) (ix2 i j) = x (ix1 j) := by
  refine (broadcastInDim_apply _ h' _ _ (ix2 (0 : Fin 1) j) ?_).trans (broadcastInDim_apply _ h x _ (ix1 j) ?_)
  · intro a; match a with | ⟨0, _⟩ => exact (if_pos rfl).symm | ⟨1, _⟩ => exact (if_neg hn).symm
  · intro a; match a with | ⟨0, _⟩ => exact (if_neg hn).symm
end Spread

theorem c3600 (x : BitVec 32) (h : Cert.Pre_work_list.S_.BroadcastsInDim S3600 ![]) (j : S3600.Idx) : broadcastInDim S3600 ![] h (constantI Cert.Pre_work_list.S_ 32 x) j = x := rfl
theorem c32 (x : BitVec 32) (h : Cert.Pre_work_list.S_.BroadcastsInDim S32 ![]) (j : S32.Idx) : broadcastInDim S32 ![] h (constantI Cert.Pre_work_list.S_ 32 x) j = x := rfl
theorem c321 (x : BitVec 32) (h : Cert.Pre_work_list.S_.BroadcastsInDim S32x1 ![]) (j : S32x1.Idx) : broadcastInDim S32x1 ![] h (constantI Cert.Pre_work_list.S_ 32 x) j = x := rfl

/-- Starts that rise as signed words from zero to 3600 rise as natural numbers. -/
theorem mono_of {st : S32x16.Idx → BitVec 32} (hle : ∀ w : Fin 32, (st (ix2 w 0)).toInt ≤ (st (ix2 w 1)).toInt) (h0 : st (ix2 0 0) = 0#32)
    (h1 : st (ix2 31 1) = 3600#32) (hc : ∀ w w' : Fin 32, w.val + 1 = w'.val → st (ix2 w 1) = st (ix2 w' 0)) (w : Fin 32) :
    (st (ix2 w 0)).toNat ≤ (st (ix2 w 1)).toNat := by
  have lo : ∀ (j : ℕ) (w : Fin 32), w.val = j → 0 ≤ (st (ix2 w 0)).toInt := by
    intro j
    induction j with
    | zero => intro w hw; obtain rfl : w = 0 := Fin.ext hw; rw [h0]; decide
    | succ j ih =>
      intro w hw
      have hj : j < 32 := by have := w.isLt; omega
      rw [← hc ⟨j, hj⟩ w hw.symm]
      exact (ih ⟨j, hj⟩ rfl).trans (hle _)
  have a := lo _ w rfl
  have b := hle w
  rw [BitVec.toInt_eq_toNat_cond] at a b
  rw [BitVec.toInt_eq_toNat_cond] at b
  have c := (st (ix2 w 0)).isLt
  have d := (st (ix2 w 1)).isLt
  split at a <;> split at b <;> omega

section ReadPre
variable (a0 : Cert.Pre_work_list.S2000x24x1536.Idx → BitVec 32) (a1 : Cert.Pre_work_list.S2000x48x256.Idx → BitVec 32) (a2 : FVec F Cert.Pre_work_list.S200x96x256 .f32)
  (me : S3600x16.Idx → BitVec 32) (st : S32x16.Idx → BitVec 32) (pr : S200x18.Idx → BitVec 32) (ln : S2000.Idx → BitVec 32)

theorem pre_inside (h : (Cert.Pre_work_list.fn (F := F) a0 a1 a2 me st pr ln).1 = fun _ => 1#1) (k : Fin 3600) :
    (me (ix2 k 0)).toNat < 2000 ∧ (me (ix2 k 1)).toNat < 200 ∧ (me (ix2 k 2)).toNat < 18 ∧ (me (ix2 k 3)).toNat ≤ 1536 := by
  have e := congrFun h (ix1 k)
  simp only [Cert.Pre_work_list.fn, Cert.Pre_work_list.fn_part1, Cert.Pre_work_list.fn_part2, Cert.Pre_work_list.fn_part3, Cert.Pre_work_list.fn_part4, Cert.Pre_work_list.fn_part5, andi, cmpi, c3600, c32] at e
  rw [col_meta me 0 ![0, 0] rfl, col_meta me 1 ![0, 1] rfl, col_meta me 2 ![0, 2] rfl, col_meta me 3 ![0, 3] rfl] at e
  simp only [IntOp.cmpi, ands, ones, Bool.and_eq_true, BitVec.sle_eq_decide, BitVec.slt_eq_decide, decide_eq_true_eq] at e
  obtain ⟨⟨⟨⟨⟨⟨⟨x1, x2⟩, x3⟩, x4⟩, x5⟩, x6⟩, x7⟩, x8⟩ := e
  exact ⟨lt_of_bits (by decide) x1 x2, lt_of_bits (by decide) x3 x4, lt_of_bits (by decide) x5 x6, le_of_bits (by decide) x7 x8⟩

theorem bit_or_eq {p : Bool} {x y : BitVec 32} (e : IntOp.ori (BitVec.ofBool p) (IntOp.cmpi .eq x y) = 1#1) : p = true ∨ x = y := by
  simp only [IntOp.cmpi, ors, ones, Bool.or_eq_true, beq_iff_eq] at e; exact e

theorem pre_lens (h : (Cert.Pre_work_list.fn (F := F) a0 a1 a2 me st pr ln).2.2.1 = fun _ => 1#1) (k : Fin 3600) (l : Fin 2000) (hl : (me (ix2 k 0)).toNat = l.val) :
    me (ix2 k 3) = ln (ix1 l) := by
  have e := congrFun h (ix2 k l)
  simp only [Cert.Pre_work_list.fn, Cert.Pre_work_list.fn_part1, Cert.Pre_work_list.fn_part2, Cert.Pre_work_list.fn_part3, Cert.Pre_work_list.fn_part4, Cert.Pre_work_list.fn_part5, ori, cmpi] at e
  rw [spr (by decide), spr (by decide), spc (by decide), spc (by decide), col_meta me 0 ![0, 0] rfl, col_meta me 3 ![0, 3] rfl] at e
  rcases bit_or_eq e with e | e
  · exfalso
    have e' : me (ix2 k 0) ≠ BitVec.ofNat 32 l.val := by simpa [IntOp.cmpi, iotaInDim] using e
    exact e' (by rw [← hl, BitVec.ofNat_toNat, BitVec.setWidth_eq])
  · exact e

theorem pre_once (h : (Cert.Pre_work_list.fn (F := F) a0 a1 a2 me st pr ln).2.2.2.1 = fun _ => 1#1) (k k' : Fin 3600)
    (hb : me (ix2 k 1) = me (ix2 k' 1)) (hp : me (ix2 k 2) = me (ix2 k' 2)) : k = k' := by
  have e := congrFun h (ix2 k k')
  simp only [Cert.Pre_work_list.fn, Cert.Pre_work_list.fn_part1, Cert.Pre_work_list.fn_part2, Cert.Pre_work_list.fn_part3, Cert.Pre_work_list.fn_part4, Cert.Pre_work_list.fn_part5, ori, cmpi] at e
  rw [spr (by decide), spr (by decide), spc (by decide), spc (by decide)] at e
  simp only [addi, muli] at e
  rw [col_meta me 1 ![0, 1] rfl, col_meta me 2 ![0, 2] rfl, col_meta me 1 ![0, 1] rfl, col_meta me 2 ![0, 2] rfl, c3600, c3600, hb, hp] at e
  rcases bit_or_eq e with e | e
  · exfalso; simp at e
  · have e' : BitVec.ofNat 32 k.val = BitVec.ofNat 32 k'.val := e
    have := congrArg BitVec.toNat e'
    rw [BitVec.toNat_ofNat, BitVec.toNat_ofNat, Nat.mod_eq_of_lt (by have := k.isLt; omega), Nat.mod_eq_of_lt (by have := k'.isLt; omega)] at this
    exact Fin.ext this

theorem pre_chain (h : (Cert.Pre_work_list.fn (F := F) a0 a1 a2 me st pr ln).2.2.2.2.1 = fun _ => 1#1) (w w' : Fin 32) (hw : w.val + 1 = w'.val) :
    st (ix2 w 1) = st (ix2 w' 0) := by
  have e := congrFun h (ix2 w w')
  simp only [Cert.Pre_work_list.fn, Cert.Pre_work_list.fn_part1, Cert.Pre_work_list.fn_part2, Cert.Pre_work_list.fn_part3, Cert.Pre_work_list.fn_part4, Cert.Pre_work_list.fn_part5, ori, cmpi] at e
  rw [spr (by decide), spc (by decide), spc (by decide), spr' (by decide), col_start st 1 ![0, 1] rfl, col_start st 0 ![0, 0] rfl] at e
  simp only [addi] at e
  rw [sprow1 (by decide), c321] at e
  rcases bit_or_eq e with e | e
  · exfalso
    have e' : BitVec.ofNat 32 w.val + 1#32 ≠ BitVec.ofNat 32 w'.val := by simpa [IntOp.cmpi, iotaInDim, IntOp.addi] using e
    exact e' (by rw [← hw, BitVec.ofNat_add])
  · exact e

theorem pre_ends (h : (Cert.Pre_work_list.fn (F := F) a0 a1 a2 me st pr ln).2.2.2.2.2 = fun _ => 1#1) (w : Fin 32) :
    (w = 0 → st (ix2 w 0) = 0#32) ∧ (w = 31 → st (ix2 w 1) = 3600#32) ∧ (st (ix2 w 0)).toInt ≤ (st (ix2 w 1)).toInt := by
  have e := congrFun h (ix1 w)
  simp only [Cert.Pre_work_list.fn, Cert.Pre_work_list.fn_part1, Cert.Pre_work_list.fn_part2, Cert.Pre_work_list.fn_part3, Cert.Pre_work_list.fn_part4, Cert.Pre_work_list.fn_part5, andi, ori, cmpi, c3600, c32] at e
  rw [col_start st 1 ![0, 1] rfl, col_start st 0 ![0, 0] rfl] at e
  simp only [IntOp.cmpi, ands, ors, ones, Bool.and_eq_true, Bool.or_eq_true, BitVec.sle_eq_decide, decide_eq_true_eq, beq_iff_eq, bne_iff_ne] at e
  obtain ⟨⟨x1, x2⟩, x3⟩ := e
  refine ⟨fun hw => ?_, fun hw => ?_, x3⟩
  · subst hw; rcases x1 with x | x
    · exact absurd rfl x
    · exact x
  · subst hw; rcases x2 with x | x
    · exact absurd rfl x
    · exact x
open Cert.Pre_work_list (S3600x200x18 S3600x1x1 S3600x200x1 S3600x1x18 S1x200x18 S1x200x1 S1x1x18) in
theorem pre_probes (h : (Cert.Pre_work_list.fn (F := F) a0 a1 a2 me st pr ln).2.1 = fun _ => 1#1) (k : Fin 3600) (b : Fin 200) (p : Fin 18)
    (hb : (me (ix2 k 1)).toNat = b.val) (hp : (me (ix2 k 2)).toNat = p.val) : me (ix2 k 0) = pr (ix2 b p) := by
  have e := congrFun h (ix3 k b p)
  have g1 {α : Type} (x : S3600x1x1.Idx → α) (h) : broadcastInDim S3600x200x18 ![0, 1, 2] h x (ix3 k b p) = x (ix3 k (0 : Fin 1) (0 : Fin 1)) :=
    broadcastInDim_apply _ h x _ _ (fun a => match a with | ⟨0, _⟩ => rfl | ⟨1, _⟩ => rfl | ⟨2, _⟩ => rfl)
  have g2 {α : Type} (x : S3600.Idx → α) (h) : broadcastInDim S3600x1x1 ![0] h x (ix3 k (0 : Fin 1) (0 : Fin 1)) = x (ix1 k) :=
    broadcastInDim_apply _ h x _ _ (fun a => match a with | ⟨0, _⟩ => rfl)
  have g3 {α : Type} (x : S1x200x18.Idx → α) (h) : broadcastInDim S3600x200x18 ![0, 1, 2] h x (ix3 k b p) = x (ix3 (0 : Fin 1) b p) :=
    broadcastInDim_apply _ h x _ _ (fun a => match a with | ⟨0, _⟩ => rfl | ⟨1, _⟩ => rfl | ⟨2, _⟩ => rfl)
  have g4 {α : Type} (x : S200x18.Idx → α) (h : S200x18.BroadcastsInDim S1x200x18 ![1, 2]) : broadcastInDim S1x200x18 ![1, 2] h x (ix3 (0 : Fin 1) b p) = x (ix2 b p) :=
    broadcastInDim_apply _ h x _ _ (fun a => match a with | ⟨0, _⟩ => rfl | ⟨1, _⟩ => rfl)
  have g5 {α : Type} (x : S3600x200x1.Idx → α) (h) : broadcastInDim S3600x200x18 ![0, 1, 2] h x (ix3 k b p) = x (ix3 k b (0 : Fin 1)) :=
    broadcastInDim_apply _ h x _ _ (fun a => match a with | ⟨0, _⟩ => rfl | ⟨1, _⟩ => rfl | ⟨2, _⟩ => rfl)
  have g6 {α : Type} (x : S3600x1x1.Idx → α) (h) : broadcastInDim S3600x200x1 ![0, 1, 2] h x (ix3 k b (0 : Fin 1)) = x (ix3 k (0 : Fin 1) (0 : Fin 1)) :=
    broadcastInDim_apply _ h x _ _ (fun a => match a with | ⟨0, _⟩ => rfl | ⟨1, _⟩ => rfl | ⟨2, _⟩ => rfl)
  have g7 {α : Type} (x : S1x200x1.Idx → α) (h) : broadcastInDim S3600x200x1 ![0, 1, 2] h x (ix3 k b (0 : Fin 1)) = x (ix3 (0 : Fin 1) b (0 : Fin 1)) :=
    broadcastInDim_apply _ h x _ _ (fun a => match a with | ⟨0, _⟩ => rfl | ⟨1, _⟩ => rfl | ⟨2, _⟩ => rfl)
  have g8 {α : Type} (x : Cert.Pre_work_list.S200.Idx → α) (h) : broadcastInDim S1x200x1 ![1] h x (ix3 (0 : Fin 1) b (0 : Fin 1)) = x (ix1 b) :=
    broadcastInDim_apply _ h x _ _ (fun a => match a with | ⟨0, _⟩ => rfl)
  have g9 {α : Type} (x : S3600x1x18.Idx → α) (h) : broadcastInDim S3600x200x18 ![0, 1, 2] h x (ix3 k b p) = x (ix3 k (0 : Fin 1) p) :=
    broadcastInDim_apply _ h x _ _ (fun a => match a with | ⟨0, _⟩ => rfl | ⟨1, _⟩ => rfl | ⟨2, _⟩ => rfl)
  have g10 {α : Type} (x : S3600x1x1.Idx → α) (h) : broadcastInDim S3600x1x18 ![0, 1, 2] h x (ix3 k (0 : Fin 1) p) = x (ix3 k (0 : Fin 1) (0 : Fin 1)) :=
    broadcastInDim_apply _ h x _ _ (fun a => match a with | ⟨0, _⟩ => rfl | ⟨1, _⟩ => rfl | ⟨2, _⟩ => rfl)
  have g11 {α : Type} (x : S1x1x18.Idx → α) (h) : broadcastInDim S3600x1x18 ![0, 1, 2] h x (ix3 k (0 : Fin 1) p) = x (ix3 (0 : Fin 1) (0 : Fin 1) p) :=
    broadcastInDim_apply _ h x _ _ (fun a => match a with | ⟨0, _⟩ => rfl | ⟨1, _⟩ => rfl | ⟨2, _⟩ => rfl)
  have g12 {α : Type} (x : Cert.Pre_work_list.S18.Idx → α) (h) : broadcastInDim S1x1x18 ![2] h x (ix3 (0 : Fin 1) (0 : Fin 1) p) = x (ix1 p) :=
    broadcastInDim_apply _ h x _ _ (fun a => match a with | ⟨0, _⟩ => rfl)
  simp only [Cert.Pre_work_list.fn, Cert.Pre_work_list.fn_part1, Cert.Pre_work_list.fn_part2, Cert.Pre_work_list.fn_part3, Cert.Pre_work_list.fn_part4, Cert.Pre_work_list.fn_part5, ori, andi, noti, cmpi] at e
  rw [g5, g9, g1, g3, g2, g4] at e
  simp only [cmpi] at e
  rw [g6, g2, g7, g8, g10, g2, g11, g12, col_meta me 0 ![0, 0] rfl, col_meta me 1 ![0, 1] rfl, col_meta me 2 ![0, 2] rfl] at e
  have eb : me (ix2 k 1) = BitVec.ofNat 32 b.val := by rw [← hb, BitVec.ofNat_toNat, BitVec.setWidth_eq]
  have ep : me (ix2 k 2) = BitVec.ofNat 32 p.val := by rw [← hp, BitVec.ofNat_toNat, BitVec.setWidth_eq]
  rw [eb, ep] at e
  by_contra hne
  have hz : IntOp.cmpi .eq (me (ix2 k 0)) (pr (ix2 b p)) = 0#1 := by
    show BitVec.ofBool (me (ix2 k 0) == pr (ix2 b p)) = 0#1
    rw [beq_eq_false_iff_ne.mpr hne]; rfl
  rw [hz] at e
  simp [IntOp.cmpi, iotaInDim, IntOp.andi, IntOp.ori] at e

/-- The six parts of the launch condition, all ones, are what the proof asks of the arrays. -/
theorem work_of_pre (h1 : (Cert.Pre_work_list.fn (F := F) a0 a1 a2 me st pr ln).1 = fun _ => 1#1)
    (h2 : (Cert.Pre_work_list.fn (F := F) a0 a1 a2 me st pr ln).2.1 = fun _ => 1#1)
    (h3 : (Cert.Pre_work_list.fn (F := F) a0 a1 a2 me st pr ln).2.2.1 = fun _ => 1#1)
    (h4 : (Cert.Pre_work_list.fn (F := F) a0 a1 a2 me st pr ln).2.2.2.1 = fun _ => 1#1)
    (h5 : (Cert.Pre_work_list.fn (F := F) a0 a1 a2 me st pr ln).2.2.2.2.1 = fun _ => 1#1)
    (h6 : (Cert.Pre_work_list.fn (F := F) a0 a1 a2 me st pr ln).2.2.2.2.2 = fun _ => 1#1) : Work pr ln me st where
  l_lt k := (pre_inside a0 a1 a2 me st pr ln h1 k).1
  b_lt k := (pre_inside a0 a1 a2 me st pr ln h1 k).2.1
  p_lt k := (pre_inside a0 a1 a2 me st pr ln h1 k).2.2.1
  n_le k := (pre_inside a0 a1 a2 me st pr ln h1 k).2.2.2
  probe := pre_probes a0 a1 a2 me st pr ln h2
  len := pre_lens a0 a1 a2 me st pr ln h3
  once k k' hb hp := pre_once a0 a1 a2 me st pr ln h4 k k' (BitVec.eq_of_toNat_eq hb) (BitVec.eq_of_toNat_eq hp)
  first := congrArg BitVec.toNat ((pre_ends a0 a1 a2 me st pr ln h6 0).1 rfl)
  last := congrArg BitVec.toNat ((pre_ends a0 a1 a2 me st pr ln h6 31).2.1 rfl)
  mono := mono_of (fun w => (pre_ends a0 a1 a2 me st pr ln h6 w).2.2) ((pre_ends a0 a1 a2 me st pr ln h6 0).1 rfl)
    ((pre_ends a0 a1 a2 me st pr ln h6 31).2.1 rfl) (pre_chain a0 a1 a2 me st pr ln h5)
  chain := pre_chain a0 a1 a2 me st pr ln h5
end ReadPre

end Cert.Proof.ScIdeal
end
end
-- ==== Proof.SiFrame.lean ====
module

public import Idealize.ShloMosaic.Lib.Pipeline.ValueKit
public import Idealize.ShloMosaic.Lib.WordCmp
public import Idealize.ShloMosaic.Lib.LoopRemainder
public import proofs.«01_k».proof.Proof.SiPre

/-! The frame claim. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt Ideal) ℓ)
theorem ok_of_pre (h : Cert.Pre_ScIdeal m) : WorkAt m := fun d =>
  work_of_pre _ _ _ _ _ _ _ (h d).1 (h d).2.1 (h d).2.2.1 (h d).2.2.2.1 (h d).2.2.2.2.1 (h d).2.2.2.2.2

/-- The program ends with its arguments as they were and every semaphore at zero. -/
theorem frame : Cert.quiescent_ScIdeal := fun m ρ hpre =>
  (θ_run Cert.ScIdeal.defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩) (run_main (F := Ideal) m ρ (ok_of_pre m hpre))

end Cert.Proof.ScIdeal
end
end
-- ==== Proof.ScRef.lean ====
module

public import proofs.«01_k».proof.Proof.Gen.ScRIdeal.Read
public import Idealize.ShloMosaic.Lib.Pipeline.ValueKit
public import Idealize.ShloMosaic.Lib.ValueIdxCore

/-! The reference read at an index. -/

@[expose] public section

set_option maxRecDepth 16384

noncomputable section

namespace Cert.Proof.ScRef

open Idealize.ShloMosaic
open scoped BigOperators

open Cert.ScRIdeal Cert.ScRIdeal.Gen Cert.ScRIdeal.Read

section Gathers
variable {α : Type}

/-- Whole rows of a two-axis table, gathered at a grid of row numbers. -/
theorem rows_terms (x : S2000x96x256.Idx → α) (idx : IVec S200x18x1 32) (b : Fin 200) (p : Fin 18) (m : Fin 96) (c : Fin 256) :
    Host.gather gather_S2000x96x256_S200x18x1_S200x18x96x256_23_0_n_n_0_2_196256 x idx (ix4 b p m c)
      = x (ix3 ⟨min (idx (ix3 b p (0 : Fin 1))).toInt.toNat 1999, by omega⟩ m c) := by
  unfold Host.gather
  refine congrArg x (funext fun a => Fin.ext ?_)
  match a with
  | ⟨0, _⟩ =>
    refine Eq.trans (b := min (idx (gather_S2000x96x256_S200x18x1_S200x18x96x256_23_0_n_n_0_2_196256.siIdx (ix4 b p m c) ⟨0, by decide⟩)).toInt.toNat 1999 + 0 + 0) rfl ?_
    refine congrArg (fun z => min (idx z).toInt.toNat 1999) (funext fun a => ?_)
    match a with
    | ⟨0, _⟩ => rfl
    | ⟨1, _⟩ => rfl
    | ⟨2, _⟩ => rfl
  | ⟨1, _⟩ => show 0 + 0 + m.val = m.val; omega
  | ⟨2, _⟩ => show 0 + 0 + c.val = c.val; omega

theorem rows_codes (x : S2000x96x1536.Idx → α) (idx : IVec S200x18x1 32) (b : Fin 200) (p : Fin 18) (m : Fin 96) (c : Fin 1536) :
    Host.gather gather_S2000x96x1536_S200x18x1_S200x18x96x1536_23_0_n_n_0_2_1961536 x idx (ix4 b p m c)
      = x (ix3 ⟨min (idx (ix3 b p (0 : Fin 1))).toInt.toNat 1999, by omega⟩ m c) := by
  unfold Host.gather
  refine congrArg x (funext fun a => Fin.ext ?_)
  match a with
  | ⟨0, _⟩ =>
    refine Eq.trans (b := min (idx (gather_S2000x96x1536_S200x18x1_S200x18x96x1536_23_0_n_n_0_2_1961536.siIdx (ix4 b p m c) ⟨0, by decide⟩)).toInt.toNat 1999 + 0 + 0) rfl ?_
    refine congrArg (fun z => min (idx z).toInt.toNat 1999) (funext fun a => ?_)
    match a with
    | ⟨0, _⟩ => rfl
    | ⟨1, _⟩ => rfl
    | ⟨2, _⟩ => rfl
  | ⟨1, _⟩ => show 0 + 0 + m.val = m.val; omega
  | ⟨2, _⟩ => show 0 + 0 + c.val = c.val; omega

/-- The lengths, gathered at a grid of list numbers. -/
theorem rows_lens (x : S2000.Idx → α) (idx : IVec S200x18x1 32) (b : Fin 200) (p : Fin 18) :
    Host.gather gather_S2000_S200x18x1_S200x18_n_0_n_n_0_2_1 x idx (ix2 b p)
      = x (ix1 ⟨min (idx (ix3 b p (0 : Fin 1))).toInt.toNat 1999, by omega⟩) := by
  unfold Host.gather
  refine congrArg x (funext fun a => Fin.ext ?_)
  match a with
  | ⟨0, _⟩ =>
    refine Eq.trans (b := min (idx (gather_S2000_S200x18x1_S200x18_n_0_n_n_0_2_1.siIdx (ix2 b p) ⟨0, by decide⟩)).toInt.toNat 1999 + 0 + 0) rfl ?_
    refine congrArg (fun z => min (idx z).toInt.toNat 1999) (funext fun a => ?_)
    match a with
    | ⟨0, _⟩ => rfl
    | ⟨1, _⟩ => rfl
    | ⟨2, _⟩ => rfl

/-- Each table row read at its own codes. -/
theorem rows_table (x : S200x18x96x256.Idx → α) (idx : IVec S200x18x96x1536x1 32) (b : Fin 200) (p : Fin 18) (m : Fin 96) (s : Fin 1536) :
    Host.gather gather_S200x18x96x256_S200x18x96x1536x1_S200x18x96x1536_n_3_012_012_3_4_1111 x idx (ix4 b p m s)
      = x (ix4 b p m ⟨min (idx (fun a => match a with | ⟨0, _⟩ => b | ⟨1, _⟩ => p | ⟨2, _⟩ => m | ⟨3, _⟩ => s | ⟨4, _⟩ => (0 : Fin 1))).toInt.toNat 255, by omega⟩) := by
  unfold Host.gather
  refine congrArg x (funext fun a => Fin.ext ?_)
  match a with
  | ⟨0, _⟩ => show 0 + b.val + 0 = b.val; omega
  | ⟨1, _⟩ => show 0 + p.val + 0 = p.val; omega
  | ⟨2, _⟩ => show 0 + m.val + 0 = m.val; omega
  | ⟨3, _⟩ =>
    refine Eq.trans (b := min (idx (gather_S200x18x96x256_S200x18x96x1536x1_S200x18x96x1536_n_3_012_012_3_4_1111.siIdx (ix4 b p m s) ⟨0, by decide⟩)).toInt.toNat 255 + 0 + 0) rfl ?_
    refine congrArg (fun z => min (idx z).toInt.toNat 255) (funext fun a => ?_)
    match a with
    | ⟨0, _⟩ => rfl
    | ⟨1, _⟩ => rfl
    | ⟨2, _⟩ => rfl
    | ⟨3, _⟩ => rfl
    | ⟨4, _⟩ => rfl
end Gathers

section Words

theorem toInt_small {w : BitVec 32} (h : w.toNat < 2 ^ 31) : w.toInt = (w.toNat : ℤ) :=
  BitVec.toInt_eq_toNat_of_lt (by omega)

theorem not_neg {w : BitVec 32} (h : w.toNat < 2 ^ 31) : IntOp.cmpi .slt w 0#32 = 0#1 := by
  have : w.slt 0#32 = false := by
    rw [BitVec.slt, decide_eq_false_iff_not, toInt_small h]; simp
  show BitVec.ofBool (w.slt 0#32) = _
  rw [this]; rfl

/-- An index that is not negative is itself. -/
theorem wrap_eq {w v : BitVec 32} (h : w.toNat < 2 ^ 31) : Scalar.select (IntOp.cmpi .slt w 0#32) v w = w := by
  rw [not_neg h]; rfl

theorem slt_nat {a b : BitVec 32} (ha : a.toNat < 2 ^ 31) (hb : b.toNat < 2 ^ 31) :
    IntOp.cmpi .slt a b = if a.toNat < b.toNat then 1#1 else 0#1 := by
  show BitVec.ofBool (a.slt b) = _
  rw [BitVec.slt, toInt_small ha, toInt_small hb]
  by_cases h : a.toNat < b.toNat
  · rw [if_pos h, decide_eq_true (by exact_mod_cast h)]; rfl
  · rw [if_neg h, decide_eq_false (by exact_mod_cast h)]; rfl

theorem low_byte (y : BitVec 32) : (y &&& 255#32).toNat < 256 := by
  rw [BitVec.toNat_and]
  exact lt_of_le_of_lt Nat.and_le_right (by decide)

/-- Byte `j` of a word. -/
def byteOf (w : BitVec 32) (j : ℕ) : BitVec 32 := (w.sshiftRight (8 * j)) &&& 255#32

/-- The bits of the f32 number the half word `m` stands for. -/
def halfOf (m : ℕ) (w : BitVec 32) : BitVec 32 := if m % 2 = 0 then w <<< 16 else w &&& 4294901760#32

end Words

section Stages
variable {F : FTy → Type} [FloatOps F] [Facts]

theorem code_at (cd : (⟨S2000x24x1536, .i32⟩ : BufTy).Contents (Elt F)) (l : Fin 2000) (m : Fin 96) (s : Fin 1536) :
    val_main_v10 (F := F) cd (ix3 l m s) = byteOf (cd (ix3 l ⟨m.val / 4, by omega⟩ s)) (m.val % 4) := by
  have hl := l.isLt; have hm := m.isLt; have hs := s.isLt
  have hi : idx_main_v10 (ix3 l m s) = ix4 l (⟨m.val / 4, by omega⟩ : Fin 24) (⟨m.val % 4, by omega⟩ : Fin 4) s := by
    funext a
    match a with
    | ⟨0, _⟩ => exact Fin.ext (show ((l.val * 96 + m.val) * 1536 + s.val) / 147456 = l.val by omega)
    | ⟨1, _⟩ => exact Fin.ext (show ((l.val * 96 + m.val) * 1536 + s.val) / 6144 % 24 = m.val / 4 by omega)
    | ⟨2, _⟩ => exact Fin.ext (show ((l.val * 96 + m.val) * 1536 + s.val) / 1536 % 4 = m.val % 4 by omega)
    | ⟨3, _⟩ => exact Fin.ext (show ((l.val * 96 + m.val) * 1536 + s.val) % 1536 = s.val by omega)
  rw [val_main_v10_apply, hi]
  suffices H : ∀ (r : Fin 24) (j : Fin 4), val_main_v9 (F := F) cd (ix4 l r j s) = byteOf (cd (ix3 l r s)) j.val from H _ _
  intro r j
  rw [val_main_v9_apply, val_main_v7_apply, val_main_v5_apply, val_main_v0_apply, val_main_v6_apply, val_main_v4_apply,
    val_main_v3_apply, val_main_v2_apply, val_main_v1_apply, val_main_c_apply, val_main_v8_apply, val_main_c_0_apply]
  have h5 : idx_main_v0 (idx_main_v5 (ix4 l r j s)) = ix3 l r s := by
    funext a
    match a with
    | ⟨0, _⟩ => rfl
    | ⟨1, _⟩ => rfl
    | ⟨2, _⟩ => rfl
  rw [h5]
  generalize cd (ix3 l r s) = w
  match j with
  | ⟨0, _⟩ => rfl
  | ⟨1, _⟩ => rfl
  | ⟨2, _⟩ => rfl
  | ⟨3, _⟩ => rfl

theorem term_at (tm : (⟨S2000x48x256, .i32⟩ : BufTy).Contents (Elt F)) (l : Fin 2000) (m : Fin 96) (c : Fin 256) :
    val_main_v19 (F := F) tm (ix3 l m c) = FloatOps.ofBits .f32 (halfOf m.val (tm (ix3 l ⟨m.val / 2, by omega⟩ c))) := by
  have hl := l.isLt; have hm := m.isLt; have hc := c.isLt
  have hi : idx_main_v18 (ix3 l m c) = ix4 l (⟨m.val / 2, by omega⟩ : Fin 48) (⟨m.val % 2, by omega⟩ : Fin 2) c := by
    funext a
    match a with
    | ⟨0, _⟩ => exact Fin.ext (show ((l.val * 96 + m.val) * 256 + c.val) / 24576 = l.val by omega)
    | ⟨1, _⟩ => exact Fin.ext (show ((l.val * 96 + m.val) * 256 + c.val) / 512 % 48 = m.val / 2 by omega)
    | ⟨2, _⟩ => exact Fin.ext (show ((l.val * 96 + m.val) * 256 + c.val) / 256 % 2 = m.val % 2 by omega)
    | ⟨3, _⟩ => exact Fin.ext (show ((l.val * 96 + m.val) * 256 + c.val) % 256 = c.val by omega)
  rw [val_main_v19_apply, val_main_v18_apply, hi]
  refine congrArg _ ?_
  unfold halfOf val_main_v17
  by_cases h : m.val % 2 = 0
  · rw [if_pos h]
    refine (concatenate_pair_apply_left (s₁ := S2000x48x1x256) (s₂ := S2000x48x1x256) (t := S2000x48x2x256) (2 : Fin 4) _ _ _ (ix4 l (⟨m.val / 2, by omega⟩ : Fin 48) (⟨m.val % 2, by omega⟩ : Fin 2) c) rfl (ix4 l (⟨m.val / 2, by omega⟩ : Fin 48) (0 : Fin 1) c) (fun b => by
      match b with
      | ⟨0, _⟩ => rfl
      | ⟨1, _⟩ => rfl
      | ⟨2, _⟩ => exact h.symm
      | ⟨3, _⟩ => rfl)).trans ?_
    rw [val_main_v15_apply, val_main_v12_apply, val_main_v11_apply, val_main_c_1_apply]
    have e : idx_main_v15 (ix4 l (⟨m.val / 2, by omega⟩ : Fin 48) (0 : Fin 1) c) = ix3 l ⟨m.val / 2, by omega⟩ c := by
      funext a
      match a with
      | ⟨0, _⟩ => rfl
      | ⟨1, _⟩ => rfl
      | ⟨2, _⟩ => rfl
    rw [e]; rfl
  · rw [if_neg h]
    refine (concatenate_pair_apply_right (s₁ := S2000x48x1x256) (s₂ := S2000x48x1x256) (t := S2000x48x2x256) (2 : Fin 4) _ _ _ (ix4 l (⟨m.val / 2, by omega⟩ : Fin 48) (⟨m.val % 2, by omega⟩ : Fin 2) c) rfl rfl (ix4 l (⟨m.val / 2, by omega⟩ : Fin 48) (0 : Fin 1) c) (fun b hb => by
      match b with
      | ⟨0, _⟩ => rfl
      | ⟨1, _⟩ => rfl
      | ⟨2, _⟩ => exact absurd rfl hb
      | ⟨3, _⟩ => rfl) (show 0 + 1 = m.val % 2 by omega)).trans ?_
    rw [val_main_v16_apply, val_main_v14_apply, val_main_v13_apply, val_main_c_2_apply]
    have e : idx_main_v16 (ix4 l (⟨m.val / 2, by omega⟩ : Fin 48) (0 : Fin 1) c) = ix3 l ⟨m.val / 2, by omega⟩ c := by
      funext a
      match a with
      | ⟨0, _⟩ => rfl
      | ⟨1, _⟩ => rfl
      | ⟨2, _⟩ => rfl
    rw [e]; rfl

variable (pr : (⟨S200x18, .i32⟩ : BufTy).Contents (Elt F)) (b : Fin 200) (p : Fin 18) (hp : (pr (ix2 b p)).toNat < 2000)
include hp

theorem probe_a : (val_main_v25 (F := F) pr (ix3 b p (0 : Fin 1))) = pr (ix2 b p) := by
  rw [val_main_v25_apply, val_main_v24_apply, val_main_v21_apply, val_main_v20_apply, val_main_c_3_apply]
  have e : idx_main_v25 (ix3 b p (0 : Fin 1)) = ix2 b p := by
    funext a
    match a with
    | ⟨0, _⟩ => rfl
    | ⟨1, _⟩ => rfl
  rw [e]; exact wrap_eq (by omega)

theorem probe_b : (val_main_v35 (F := F) pr (ix3 b p (0 : Fin 1))) = pr (ix2 b p) := by
  rw [val_main_v35_apply, val_main_v34_apply, val_main_v31_apply, val_main_v30_apply, val_main_c_5_apply]
  have e : idx_main_v35 (ix3 b p (0 : Fin 1)) = ix2 b p := by
    funext a
    match a with
    | ⟨0, _⟩ => rfl
    | ⟨1, _⟩ => rfl
  rw [e]; exact wrap_eq (by omega)

theorem probe_c : (val_main_v49 (F := F) pr (ix3 b p (0 : Fin 1))) = pr (ix2 b p) := by
  rw [val_main_v49_apply, val_main_v48_apply, val_main_v45_apply, val_main_v44_apply, val_main_c_9_apply]
  have e : idx_main_v49 (ix3 b p (0 : Fin 1)) = ix2 b p := by
    funext a
    match a with
    | ⟨0, _⟩ => rfl
    | ⟨1, _⟩ => rfl
  rw [e]; exact wrap_eq (by omega)

theorem min_probe : min (pr (ix2 b p)).toInt.toNat 1999 = (pr (ix2 b p)).toNat := by
  rw [toInt_small (by omega)]; omega

theorem table_at (tm : (⟨S2000x48x256, .i32⟩ : BufTy).Contents (Elt F)) (lu : (⟨S200x96x256, .f32⟩ : BufTy).Contents (Elt F)) (m : Fin 96) (c : Fin 256) :
    val_main_v29 (F := F) tm lu pr (ix4 b p m c)
      = FloatOps.addf (FloatOps.ofBits .f32 (halfOf m.val (tm (ix3 ⟨(pr (ix2 b p)).toNat, hp⟩ ⟨m.val / 2, by omega⟩ c)))) (lu (ix3 b m c)) := by
  rw [val_main_v29_apply, val_main_v28_apply, val_main_v27_apply]
  unfold val_main_v26
  rw [rows_terms, term_at]
  have e : idx_main_v27 (idx_main_v28 (ix4 b p m c)) = ix3 b m c := by
    funext a
    match a with
    | ⟨0, _⟩ => rfl
    | ⟨1, _⟩ => rfl
    | ⟨2, _⟩ => rfl
  have el : (⟨min (val_main_v25 (F := F) pr (ix3 b p (0 : Fin 1))).toInt.toNat 1999, by omega⟩ : Fin 2000) = ⟨(pr (ix2 b p)).toNat, hp⟩ :=
    Fin.ext (by show min (val_main_v25 (F := F) pr (ix3 b p (0 : Fin 1))).toInt.toNat 1999 = _; rw [probe_a pr b p hp, min_probe pr b p hp])
  rw [e, el]

theorem codes_at (cd : (⟨S2000x24x1536, .i32⟩ : BufTy).Contents (Elt F)) (m : Fin 96) (s : Fin 1536) :
    val_main_v36 (F := F) cd pr (ix4 b p m s)
      = byteOf (cd (ix3 ⟨(pr (ix2 b p)).toNat, hp⟩ ⟨m.val / 4, by omega⟩ s)) (m.val % 4) := by
  unfold val_main_v36
  rw [rows_codes, code_at]
  have el : (⟨min (val_main_v35 (F := F) pr (ix3 b p (0 : Fin 1))).toInt.toNat 1999, by omega⟩ : Fin 2000) = ⟨(pr (ix2 b p)).toNat, hp⟩ :=
    Fin.ext (by show min (val_main_v35 (F := F) pr (ix3 b p (0 : Fin 1))).toInt.toNat 1999 = _; rw [probe_b pr b p hp, min_probe pr b p hp])
  rw [el]

/-- One looked-up number: the probed list's table row at the code. -/
theorem looked_at (cd : (⟨S2000x24x1536, .i32⟩ : BufTy).Contents (Elt F)) (tm : (⟨S2000x48x256, .i32⟩ : BufTy).Contents (Elt F)) (lu : (⟨S200x96x256, .f32⟩ : BufTy).Contents (Elt F)) (m : Fin 96) (s : Fin 1536)
    (c : Fin 256) (hc : c.val = (byteOf (cd (ix3 ⟨(pr (ix2 b p)).toNat, hp⟩ ⟨m.val / 4, by omega⟩ s)) (m.val % 4)).toNat) :
    val_main_v43 (F := F) cd tm lu pr (ix4 b p m s)
      = FloatOps.addf (FloatOps.ofBits .f32 (halfOf m.val (tm (ix3 ⟨(pr (ix2 b p)).toNat, hp⟩ ⟨m.val / 2, by omega⟩ c)))) (lu (ix3 b m c)) := by
  have hb : (byteOf (cd (ix3 ⟨(pr (ix2 b p)).toNat, hp⟩ ⟨m.val / 4, by omega⟩ s)) (m.val % 4)).toNat < 256 := low_byte _
  unfold val_main_v43
  rw [rows_table]
  have ei : val_main_v42 (F := F) cd pr (fun a => match a with | ⟨0, _⟩ => b | ⟨1, _⟩ => p | ⟨2, _⟩ => m | ⟨3, _⟩ => s | ⟨4, _⟩ => (0 : Fin 1))
      = byteOf (cd (ix3 ⟨(pr (ix2 b p)).toNat, hp⟩ ⟨m.val / 4, by omega⟩ s)) (m.val % 4) := by
    rw [val_main_v42_apply]
    refine Eq.trans (congrArg (val_main_v41 (F := F) cd pr) (show _ = ix4 b p m s from ?_)) ?_
    · funext a
      match a with
      | ⟨0, _⟩ => rfl
      | ⟨1, _⟩ => rfl
      | ⟨2, _⟩ => rfl
      | ⟨3, _⟩ => rfl
    · rw [val_main_v41_apply, val_main_v38_apply, val_main_v37_apply, val_main_c_7_apply, codes_at pr b p hp]
      exact wrap_eq (by omega)
  have ec : (⟨min (val_main_v42 (F := F) cd pr (fun a => match a with | ⟨0, _⟩ => b | ⟨1, _⟩ => p | ⟨2, _⟩ => m | ⟨3, _⟩ => s | ⟨4, _⟩ => (0 : Fin 1))).toInt.toNat 255, by omega⟩ : Fin 256) = c :=
    Fin.ext (by
      show min (val_main_v42 (F := F) cd pr (fun a => match a with | ⟨0, _⟩ => b | ⟨1, _⟩ => p | ⟨2, _⟩ => m | ⟨3, _⟩ => s | ⟨4, _⟩ => (0 : Fin 1))).toInt.toNat 255 = c.val
      rw [ei, toInt_small (by omega), hc]; omega)
  exact (congrArg (fun z => val_main_v29 (F := F) tm lu pr (ix4 b p m z)) ec).trans (table_at pr b p hp tm lu m c)

theorem len_at (ln : (⟨S2000, .i32⟩ : BufTy).Contents (Elt F)) (s : Fin 1536) (hn : (ln (ix1 ⟨(pr (ix2 b p)).toNat, hp⟩)).toNat < 2 ^ 31) :
    val_main_v57 (F := F) pr ln (ix3 b p s) = if s.val < (ln (ix1 ⟨(pr (ix2 b p)).toNat, hp⟩)).toNat then 1#1 else 0#1 := by
  rw [val_main_v57_apply, val_main_v56_apply, val_main_v55_apply, val_main_v54_apply, val_main_v53_apply, val_main_v52_apply]
  have e : idx_main_v53 (idx_main_v56 (ix3 b p s)) = ix2 b p := by
    funext a
    match a with
    | ⟨0, _⟩ => rfl
    | ⟨1, _⟩ => rfl
  have e2 : (idx_main_v54 (idx_main_v55 (ix3 b p s)) 0).val = s.val := rfl
  have el : (⟨min (val_main_v49 (F := F) pr (ix3 b p (0 : Fin 1))).toInt.toNat 1999, by omega⟩ : Fin 2000) = ⟨(pr (ix2 b p)).toNat, hp⟩ :=
    Fin.ext (by show min (val_main_v49 (F := F) pr (ix3 b p (0 : Fin 1))).toInt.toNat 1999 = _; rw [probe_c pr b p hp, min_probe pr b p hp])
  unfold val_main_v50
  rw [e, rows_lens, el, e2]
  have hs := s.isLt
  have hv : (BitVec.ofNat 32 s.val).toNat = s.val := by rw [BitVec.toNat_ofNat]; omega
  rw [slt_nat (by omega) hn, hv]

end Stages

section Sum
variable [Facts]

/-- The reference at an index: the sum over the subquantizers of the looked-up numbers, zero past the list's length. -/
theorem ref_at (cd : (⟨S2000x24x1536, .i32⟩ : BufTy).Contents (Elt Ideal)) (tm : (⟨S2000x48x256, .i32⟩ : BufTy).Contents (Elt Ideal)) (lu : (⟨S200x96x256, .f32⟩ : BufTy).Contents (Elt Ideal))
    (pr : (⟨S200x18, .i32⟩ : BufTy).Contents (Elt Ideal)) (ln : (⟨S2000, .i32⟩ : BufTy).Contents (Elt Ideal))
    (b : Fin 200) (p : Fin 18) (s : Fin 1536) (hp : (pr (ix2 b p)).toNat < 2000)
    (hn : (ln (ix1 ⟨(pr (ix2 b p)).toNat, hp⟩)).toNat < 2 ^ 31) (E : Fin 96 → EReal)
    (hE : ∀ m : Fin 96, ∃ c : Fin 256, c.val = (byteOf (cd (ix3 ⟨(pr (ix2 b p)).toNat, hp⟩ ⟨m.val / 4, by omega⟩ s)) (m.val % 4)).toNat ∧
      E m = FloatOps.addf (F := Ideal) (φ := .f32) (lu (ix3 b m c)) (FloatOps.ofBits (F := Ideal) .f32 (halfOf m.val (tm (ix3 ⟨(pr (ix2 b p)).toNat, hp⟩ ⟨m.val / 2, by omega⟩ c))))) :
    val_main_v59 (F := Ideal) cd tm lu pr ln (ix3 b p s)
      = if s.val < (ln (ix1 ⟨(pr (ix2 b p)).toNat, hp⟩)).toNat then ∑ m : Fin 96, E m else FloatOps.ofBits (F := Ideal) .f32 0#32 := by
  rw [val_main_v59_apply, len_at pr b p hp ln s hn]
  by_cases h : s.val < (ln (ix1 ⟨(pr (ix2 b p)).toNat, hp⟩)).toNat
  · rw [if_pos h, if_pos h]
    refine Eq.trans (b := val_main_v51 (F := Ideal) cd tm lu pr (ix3 b p s)) rfl ?_
    rw [val_main_v51_apply, val_main_cst_apply]
    have h0 : (FloatOps.ofBits (F := Ideal) .f32 0x00000000#32 : EReal) = 0 := Ideal.ofBits_zero_f32
    refine Eq.trans (congrArg₂ (fun x y : EReal => x + y) h0 (Finset.sum_congr rfl fun k _ => ?_)) (zero_add _)
    have ei : idx_main_v51 (ix3 b p s) k = ix4 b p k s := by
      funext a
      match a with
      | ⟨0, _⟩ => rfl
      | ⟨1, _⟩ => rfl
      | ⟨2, _⟩ => rfl
      | ⟨3, _⟩ => rfl
    obtain ⟨c, hc, he⟩ := hE k
    rw [ei, looked_at pr b p hp cd tm lu k s c hc, he]
    exact add_comm (G := EReal) _ _
  · rw [if_neg h, if_neg h, ← val_main_cst_11_apply (F := Ideal) (Shape.Idx.first h_S_)]
    refine Eq.trans (b := val_main_v58 (F := Ideal) (ix3 b p s)) rfl ?_
    rw [val_main_v58_apply]; rfl

end Sum

end Cert.Proof.ScRef
end
end
-- ==== Proof.SiValue.lean ====
module

public import Idealize.ShloMosaic.Lib.Pipeline.ValueKit
public import Idealize.ShloMosaic.Lib.WordCmp
public import Idealize.ShloMosaic.Lib.LoopRemainder
public import proofs.«01_k».proof.Proof.SiFrame
public import proofs.«01_k».proof.Proof.ScRef
public import proofs.«01_k».proof.Proof.Gen.ScRIdeal.Run

/-! The array the kernel leaves is the reference's. -/

@[expose] public section

noncomputable section

namespace Cert.Proof.ScIdeal

open Cert.ScIdeal Cert.ScIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open scoped BigOperators

open Cert.Proof.ScRef (byteOf halfOf low_byte ref_at)

variable [Cert.ScRIdeal.Facts]

/-- Four interleaved sums are one sum. -/
theorem four_sums (f : ℕ → EReal) (n : ℕ) :
    ((∑ i ∈ Finset.range n, f (4 * i + 0)) + ∑ i ∈ Finset.range n, f (4 * i + 1))
      + ((∑ i ∈ Finset.range n, f (4 * i + 2)) + ∑ i ∈ Finset.range n, f (4 * i + 3)) = ∑ m ∈ Finset.range (4 * n), f m := by
  induction n with
  | zero => simp
  | succ n ih =>
    rw [show 4 * (n + 1) = 4 * n + 1 + 1 + 1 + 1 by ring, Finset.sum_range_succ _ (4 * n + 1 + 1 + 1), Finset.sum_range_succ _ (4 * n + 1 + 1),
      Finset.sum_range_succ _ (4 * n + 1), Finset.sum_range_succ _ (4 * n), ← ih]
    simp only [Finset.sum_range_succ _ n]
    rw [show 4 * n + 1 + 1 = 4 * n + 2 by ring, show 4 * n + 2 + 1 = 4 * n + 3 by ring, show 4 * n + 0 = 4 * n by ring]
    abel

section Entry
variable (cd : S2000x24x1536.Idx → BitVec 32) (tm : S2000x48x256.Idx → BitVec 32) (lu : S200x96x256.Idx → Ideal .f32) (l : Fin 2000) (b : Fin 200)

/-- Subspace `m`'s number at code `c`: the product's entry plus the list's term. -/
def entry (m : Fin 96) (c : Fin 256) : EReal :=
  FloatOps.addf (F := Ideal) (φ := .f32) (lu (ix3 b m c)) (FloatOps.ofBits (F := Ideal) .f32 (halfOf m.val (tm (ix3 l ⟨m.val / 2, by omega⟩ c))))

/-- The code of subspace `m` at slot `s`. -/
def codeOf (m : Fin 96) (s : Fin 1536) : Fin 256 :=
  ⟨(byteOf (cd (ix3 l ⟨m.val / 4, by omega⟩ s)) (m.val % 4)).toNat, low_byte _⟩

theorem half_eq (m : ℕ) (w : BitVec 32) : halfWord m w = halfOf m w := by
  unfold halfWord halfOf
  by_cases h : m % 2 = 0
  · rw [if_pos h, if_pos h]; rfl
  · rw [if_neg h, if_neg h]; rfl

theorem pick_at (m : Fin 96) (w : IVec S16 32) (x : S16.Idx) (c : Fin 256) (hc : (w x &&& 255#32).toNat = c.val) :
    pick (addTab (tabOf lu b) (termRow tm l)) m.val m.isLt w x = entry tm lu l b m c := by
  have hm : (BitVec.ofNat 32 m.val).toNat = m.val := by rw [BitVec.toNat_ofNat]; omega
  have h1 : ((w x &&& 255#32).sshiftRight' 7#32).toNat = c.val / 128 := by rw [byte_hi, hc]
  have h2 : ((w x &&& 255#32) &&& 127#32).toNat = c.val % 128 := by rw [byte_lo, hc]
  have hi : (fun a => ⟨((![broadcast S16 (BitVec.ofNat 32 m.val), shrsi (andi w (broadcast S16 255#32)) (broadcast S16 7#32),
      andi (andi w (broadcast S16 255#32)) (broadcast S16 127#32)] : Fin 3 → IVec S16 32) a x).toNat, idx_ok w _ (by rw [hm]; exact m.isLt) a x⟩ : S96x2x128.Idx)
      = ix3 m (⟨c.val / 128, by omega⟩ : Fin 2) (⟨c.val % 128, by omega⟩ : Fin 128) := by
    funext a
    match a with
    | ⟨0, _⟩ => exact Fin.ext hm
    | ⟨1, _⟩ => exact Fin.ext h1
    | ⟨2, _⟩ => exact Fin.ext h2
  refine (congrArg (addTab (tabOf lu b) (termRow tm l)) hi).trans ?_
  have e : (⟨128 * (c.val / 128) + c.val % 128, by omega⟩ : Fin 256) = c := Fin.ext (by show 128 * (c.val / 128) + c.val % 128 = c.val; omega)
  show FloatOps.addf (F := Ideal) (φ := .f32) (lu (ix3 b m ⟨128 * (c.val / 128) + c.val % 128, _⟩)) (FloatOps.ofBits (F := Ideal) .f32 (halfWord m.val (tm (ix3 l ⟨m.val / 2, _⟩ ⟨128 * (c.val / 128) + c.val % 128, _⟩)))) = _
  rw [e, half_eq]; rfl

theorem lane_byte (w : IVec S16 32) (j : ℕ) (hj : j < 4) (x : S16.Idx) : (lane w j x &&& 255#32) = byteOf (w x) j := by
  match j, hj with
  | 0, _ => rfl
  | 1, _ => rfl
  | 2, _ => rfl
  | 3, _ => rfl

/-- The summand as a function of a natural number. -/
def summand (s : Fin 1536) (m : ℕ) : EReal := if h : m < 96 then entry tm lu l b ⟨m, h⟩ (codeOf cd l ⟨m, h⟩ s) else 0

variable (s : Fin 1536) (hT : s.val / 16 < 96)

theorem pick_lane (j : ℕ) (hj : j < 4) (r : Fin 24) (hm : 4 * r.val + j < 96) :
    pick (addTab (tabOf lu b) (termRow tm l)) (4 * r.val + j) hm (lane (slotWords (codeRow cd l) (s.val / 16) hT r) j) (ix1 ⟨s.val % 16, Nat.mod_lt _ (by decide)⟩)
      = summand cd tm lu l b s (4 * r.val + j) := by
  unfold summand
  rw [dif_pos hm]
  refine pick_at tm lu l b ⟨4 * r.val + j, hm⟩ _ _ _ ?_
  rw [lane_byte _ j hj]
  have e1 : (⟨(4 * r.val + j) / 4, by omega⟩ : Fin 24) = r := Fin.ext (by show (4 * r.val + j) / 4 = r.val; omega)
  have e2 : (4 * r.val + j) % 4 = j := by omega
  have e3 : (⟨16 * (s.val / 16) + s.val % 16, by omega⟩ : Fin 1536) = s := Fin.ext (by show 16 * (s.val / 16) + s.val % 16 = s.val; omega)
  show (byteOf (cd (ix3 l r ⟨16 * (s.val / 16) + s.val % 16, _⟩)) j).toNat = (byteOf (cd (ix3 l ⟨(4 * r.val + j) / 4, _⟩ s)) ((4 * r.val + j) % 4)).toNat
  rw [e1, e2, e3]

theorem acc_sum (j : ℕ) (hj : j < 4) (n : ℕ) (hn : n < 24) :
    (accN (addTab (tabOf lu b) (termRow tm l)) (slotWords (codeRow cd l) (s.val / 16) hT) j hj n hn (ix1 ⟨s.val % 16, Nat.mod_lt _ (by decide)⟩) : EReal)
      = ∑ i ∈ Finset.range (n + 1), summand cd tm lu l b s (4 * i + j) := by
  induction n with
  | zero =>
    rw [Finset.sum_range_one]
    exact pick_lane cd tm lu l b s hT j hj ⟨0, hn⟩ (by show 4 * 0 + j < 96; omega)
  | succ n ih =>
    rw [Finset.sum_range_succ, ← ih (by omega), ← pick_lane cd tm lu l b s hT j hj ⟨n + 1, hn⟩ (by show 4 * (n + 1) + j < 96; omega)]
    rfl

theorem total_sum :
    (total (addTab (tabOf lu b) (termRow tm l)) (slotWords (codeRow cd l) (s.val / 16) hT) (ix1 ⟨s.val % 16, Nat.mod_lt _ (by decide)⟩) : EReal)
      = ∑ m : Fin 96, entry tm lu l b m (codeOf cd l m s) := by
  have h := four_sums (summand cd tm lu l b s) 24
  rw [← acc_sum cd tm lu l b s hT 0 (by decide) 23 (by decide), ← acc_sum cd tm lu l b s hT 1 (by decide) 23 (by decide),
    ← acc_sum cd tm lu l b s hT 2 (by decide) 23 (by decide), ← acc_sum cd tm lu l b s hT 3 (by decide) 23 (by decide)] at h
  refine Eq.trans (show _ = _ from rfl) (h.trans ?_)
  rw [Finset.sum_range]
  refine Finset.sum_congr rfl fun m _ => ?_
  exact dif_pos m.isLt

end Entry

/-- The array the kernel leaves, before the exchange of its first two axes, is the reference's. -/
theorem out_ref {pr : S200x18.Idx → BitVec 32} {ln : S2000.Idx → BitVec 32} {me : S3600x16.Idx → BitVec 32} {st : S32x16.Idx → BitVec 32} (hW : Work pr ln me st)
    (cd : S2000x24x1536.Idx → BitVec 32) (tm : S2000x48x256.Idx → BitVec 32) (lu : S200x96x256.Idx → Ideal .f32) (b : Fin 200) (p : Fin 18) (s : Fin 1536)
    (hp : (pr (ix2 b p)).toNat < 2000) (hn : (ln (ix1 ⟨(pr (ix2 b p)).toNat, hp⟩)).toNat < 2 ^ 31) :
    outVal cd tm lu pr ln (ix3 p b s) = Cert.ScRIdeal.Read.val_main_v59 (F := Ideal) cd tm lu pr ln (ix3 b p s) := by
  rw [ref_at cd tm lu pr ln b p s hp hn (fun m => entry tm lu ⟨_, hp⟩ b m (codeOf cd ⟨_, hp⟩ m s)) (fun m => ⟨codeOf cd ⟨_, hp⟩ m s, rfl, rfl⟩)]
  have e : (⟨(pr (ix2 b p)).toNat % 2000, Nat.mod_lt _ (by decide)⟩ : Fin 2000) = ⟨(pr (ix2 b p)).toNat, hp⟩ := Fin.ext (Nat.mod_eq_of_lt hp)
  show slotRow (ln (ix1 ⟨(pr (ix2 b p)).toNat % 2000, _⟩)).toNat (addTab (tabOf lu b) (termRow tm ⟨(pr (ix2 b p)).toNat % 2000, _⟩)) (codeRow cd ⟨(pr (ix2 b p)).toNat % 2000, _⟩) (ix1 s) = _
  rw [e]
  unfold slotRow
  have hs := s.isLt
  by_cases h : s.val < (ln (ix1 ⟨(pr (ix2 b p)).toNat, hp⟩)).toNat
  · rw [if_pos h]
    exact (if_pos h).trans (total_sum cd tm lu _ b s (by omega))
  · rw [if_neg h]
    exact if_neg h

section Claims
variable (m : (ℓ : Loc nD τ sig) → Buf (Elt Ideal) ℓ)

theorem result_ref (hW : WorkAt m) (d : Dev nD) :
    (resV m d : S200x18x1536.Idx → Ideal .f32)
      = Cert.ScRIdeal.Read.val_main_v59 (F := Ideal) (m (l0 d)) (m (l1 d)) (m (l2 d)) (m (l5 d)) (m (l6 d)) := by
  funext y
  have hy : y = ix3 (y 0) (y 1) (y 2) := by
    funext a
    match a with
    | ⟨0, _⟩ => rfl
    | ⟨1, _⟩ => rfl
    | ⟨2, _⟩ => rfl
  have hw := hW d
  have hmem : (ix3 (y 1) (y 0) (y 2) : S18x200x1536.Idx) ∈ cells (meM m d) 0 3600 := by rw [hw.cells_all]; exact Finset.mem_univ _
  obtain ⟨k, _, _, hk2, hk1⟩ := mem_cells.1 hmem
  have hpk := hw.probe k (y 0) (y 1) hk1 hk2
  have hp : ((m (l5 d) : S200x18.Idx → BitVec 32) (ix2 (y 0) (y 1))).toNat < 2000 := hpk ▸ hw.l_lt k
  have hn : ((m (l6 d) : S2000.Idx → BitVec 32) (ix1 ⟨_, hp⟩)).toNat < 2 ^ 31 := by
    rw [← hw.len k ⟨_, hp⟩ (by rw [hpk])]
    have := hw.n_le k
    omega
  rw [hy]
  refine Eq.trans ?_ (out_ref hw (m (l0 d)) (m (l1 d)) (m (l2 d)) (y 0) (y 1) (y 2) hp hn)
  exact transpose_apply _ _ _ _ _ (fun a => match a with
    | ⟨0, _⟩ => rfl
    | ⟨1, _⟩ => rfl
    | ⟨2, _⟩ => rfl)

/-- The reference is host operations only: its run leaves the arguments, and it declares no counter. -/
theorem frame_ref : Cert.quiescent_ScRIdeal := fun m g _ =>
  (θ_run Cert.ScRIdeal.defs _ _).mono
    (fun r h => ⟨fun c => (h c).2, sem_eq_zero_of_no_sems (by decide) r.2⟩)
    (Cert.ScRIdeal.Value.run (F := Ideal) m g)

/-- The distances: kernel and reference end with the same array. -/
theorem algebraic : Cert.algebraic_ScIdeal_ScRIdeal := by
  intro m g m' g' hpre hag
  refine ⟨fun c => resV m c, ?_, ?_⟩
  · refine (θ_run Cert.ScIdeal.defs _ _).mono (fun r h c => ?_) (run_main (F := Ideal) m g (ok_of_pre m hpre))
    exact ⟨(h.1 c).2.2.2.2.2.2.2, (h.1 c).1, (h.1 c).2.1, (h.1 c).2.2.1, (h.1 c).2.2.2.1, (h.1 c).2.2.2.2.1, (h.1 c).2.2.2.2.2.1, (h.1 c).2.2.2.2.2.2.1⟩
  · refine (θ_run Cert.ScRIdeal.defs _ _).mono (fun r h c => ⟨(h c).1.trans ?_, (h c).2⟩)
      (Cert.ScRIdeal.Value.run (F := Ideal) m' g')
    rw [Cert.ScRIdeal.Read.val_main_v59_eq, (hag c).1, (hag c).2.1, (hag c).2.2.1, (hag c).2.2.2.2.2.1, (hag c).2.2.2.2.2.2]
    exact (result_ref m (ok_of_pre m hpre) c).symm

end Claims

end Cert.Proof.ScIdeal
end
end
-- ==== Proof.lean ====
module

public import proofs.«01_k».proof.Defs
public import proofs.«01_k».proof.Proof.Gen.Lut
public import proofs.«01_k».proof.Proof.Gen.Lut.Skeleton
public import proofs.«01_k».proof.Proof.Gen.Lut.Launch
public import proofs.«01_k».proof.Proof.Gen.Lut.Points
public import proofs.«01_k».proof.Proof.Gen.Lut.Frame
public import proofs.«01_k».proof.Proof.Gen.LutIdeal
public import proofs.«01_k».proof.Proof.Gen.LutIdeal.Skeleton
public import proofs.«01_k».proof.Proof.Gen.LutIdeal.Launch
public import proofs.«01_k».proof.Proof.Gen.LutIdeal.Points
public import proofs.«01_k».proof.Proof.Gen.LutIdeal.Frame
public import proofs.«01_k».proof.Proof.Gen.LutRefIdeal
public import proofs.«01_k».proof.Proof.Gen.Coarse
public import proofs.«01_k».proof.Proof.Gen.Coarse.Skeleton
public import proofs.«01_k».proof.Proof.Gen.Coarse.Launch
public import proofs.«01_k».proof.Proof.Gen.Coarse.Points
public import proofs.«01_k».proof.Proof.Gen.Coarse.Frame
public import proofs.«01_k».proof.Proof.Gen.CoarseIdeal
public import proofs.«01_k».proof.Proof.Gen.CoarseIdeal.Skeleton
public import proofs.«01_k».proof.Proof.Gen.CoarseIdeal.Launch
public import proofs.«01_k».proof.Proof.Gen.CoarseIdeal.Points
public import proofs.«01_k».proof.Proof.Gen.CoarseIdeal.Frame
public import proofs.«01_k».proof.Proof.Gen.CoarseRefIdeal
public import proofs.«01_k».proof.Proof.Gen.LutIdeal.Value
public import proofs.«01_k».proof.Proof.Gen.LutRefIdeal.Run
public import proofs.«01_k».proof.Proof.Gen.LutRefIdeal.Read
public import proofs.«01_k».proof.Proof.Gen.CoarseIdeal.Value
public import proofs.«01_k».proof.Proof.Gen.CoarseRefIdeal.Run
public import proofs.«01_k».proof.Proof.Gen.CoarseRefIdeal.Read
public import proofs.«01_k».proof.Proof.LutValue
public import proofs.«01_k».proof.Proof.CoarseValue
public import proofs.«01_k».proof.Proof.Gen.Sc
public import proofs.«01_k».proof.Proof.Gen.Sc.Skeleton
public import proofs.«01_k».proof.Proof.Gen.ScIdeal
public import proofs.«01_k».proof.Proof.Gen.ScIdeal.Skeleton
public import proofs.«01_k».proof.Proof.Gen.ScRIdeal
public import proofs.«01_k».proof.Proof.Gen.ScRIdeal.Run
public import proofs.«01_k».proof.Proof.Gen.ScRIdeal.Read
public import proofs.«01_k».proof.Proof.Gen.Pre_work_list
public import proofs.«01_k».proof.Proof.ScFrame
public import proofs.«01_k».proof.Proof.SiFrame
public import proofs.«01_k».proof.Proof.SiValue
public import Idealize.ShloMosaic.Lib.Claim
public import Idealize.ShloMosaic.Adequacy
public import Idealize.ShloMosaic.Init

@[expose] public section

noncomputable section

namespace Cert.Proof

open Idealize.ShloMosaic Idealize.SL.Sem Cert.Lut

/-- The table reference is host operations only: its run leaves the arguments, and it declares no counter. -/
theorem frame_lut_ref : Cert.quiescent_LutRefIdeal := fun m g _ =>
  (θ_run Cert.LutRefIdeal.defs _ _).mono
    (fun r h => ⟨fun c => (h c).2, sem_eq_zero_of_no_sems (by decide) r.2⟩)
    (Cert.LutRefIdeal.Value.run (F := Ideal) m g)

/-- The coarse reference likewise. -/
theorem frame_coarse_ref : Cert.quiescent_CoarseRefIdeal := fun m g _ =>
  (θ_run Cert.CoarseRefIdeal.defs _ _).mono
    (fun r h => ⟨fun c => (h c).2, sem_eq_zero_of_no_sems (by decide) r.2⟩)
    (Cert.CoarseRefIdeal.Value.run (F := Ideal) m g)

/-- The table: kernel and reference end with the same array. -/
theorem algebraic_lut : Cert.algebraic_LutIdeal_LutRefIdeal := by
  intro m g m' g' _ hag
  refine ⟨fun c => (Cert.LutIdeal.Gen.dats m 0 c).arrAt 2 Cert.LutIdeal.cfg0.N,
    Cert.LutIdeal.Value.run_blocks m g, ?_⟩
  refine (θ_run Cert.LutRefIdeal.defs _ _).mono (fun r h c => ⟨(h c).1.trans ?_, (h c).2⟩)
    (Cert.LutRefIdeal.Value.run (F := Ideal) m' g')
  rw [(hag c).1, (hag c).2]
  exact (Cert.LutIdeal.Value.final m c).symm

/-- The coarse distances: kernel and reference end with the same array. -/
theorem algebraic_coarse : Cert.algebraic_CoarseIdeal_CoarseRefIdeal := by
  pair_intro
  · run_from Cert.CoarseIdeal.Gen.run_main m g
  · run_from Cert.CoarseRefIdeal.Value.run (F := Ideal) m' g'
    exact (Cert.CoarseIdeal.Value.final m c).symm

theorem claim : Cert.Claim := ⟨Cert.Lut.Gen.facts, Cert.LutIdeal.Gen.facts, Cert.LutRefIdeal.Gen.facts,
  Cert.Coarse.Gen.facts, Cert.CoarseIdeal.Gen.facts, Cert.CoarseRefIdeal.Gen.facts,
  Cert.Sc.Gen.facts, Cert.ScIdeal.Gen.facts, Cert.ScRIdeal.Gen.facts, Cert.Pre_work_list.Gen.facts,
  fun m g _ => Cert.Lut.Gen.frame m g, fun m g _ => Cert.LutIdeal.Gen.frame m g, frame_lut_ref,
  fun m g _ => Cert.Coarse.Gen.frame m g, fun m g _ => Cert.CoarseIdeal.Gen.frame m g, frame_coarse_ref,
  Cert.Proof.Sc.frame, Cert.Proof.ScIdeal.frame, Cert.Proof.ScIdeal.frame_ref,
  trivial, algebraic_lut, trivial, algebraic_coarse, trivial, Cert.Proof.ScIdeal.algebraic⟩

end Cert.Proof

end
